-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelJ (m : (ℓ : Loc Cert.KernelJ.nD Cert.KernelJ.τ Cert.KernelJ.sig) → Buf (Elt Bits) ℓ) : Prop :=
  True

def Pre_KernelJIdeal (m : (ℓ : Loc Cert.KernelJIdeal.nD Cert.KernelJIdeal.τ Cert.KernelJIdeal.sig) → Buf (Elt Ideal) ℓ) : Prop :=
  True

def Pre_ReferenceJIdeal (m : (ℓ : Loc Cert.ReferenceJIdeal.nD Cert.ReferenceJIdeal.τ Cert.ReferenceJIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelJ [hKernelJ : Cert.KernelJ.Facts] : Prop :=
  ∀ (m : (ℓ : Loc Cert.KernelJ.nD Cert.KernelJ.τ Cert.KernelJ.sig) → Buf (Elt Bits) ℓ) (g : Dev Cert.KernelJ.nD → PrngReg), Pre_KernelJ m →
    θ_run (Cert.KernelJ.defs (F := Bits)) (onTc (τ := Cert.KernelJ.τ) (Cert.KernelJ.main (F := Bits))) ⟨m, fun _ => 0, g⟩ (fun r => (∀ c : Dev Cert.KernelJ.nD,
      r.2.mem ((c.tc : Thread Cert.KernelJ.nD Cert.KernelJ.τ).loc Cert.KernelJ.main_arg0) = m ((c.tc : Thread Cert.KernelJ.nD Cert.KernelJ.τ).loc Cert.KernelJ.main_arg0)
      ∧ r.2.mem ((c.tc : Thread Cert.KernelJ.nD Cert.KernelJ.τ).loc Cert.KernelJ.main_arg1) = m ((c.tc : Thread Cert.KernelJ.nD Cert.KernelJ.τ).loc Cert.KernelJ.main_arg1))
      ∧ r.2.sem = fun _ => 0)

def quiescent_KernelJIdeal [hKernelJIdeal : Cert.KernelJIdeal.Facts] : Prop :=
  ∀ (m : (ℓ : Loc Cert.KernelJIdeal.nD Cert.KernelJIdeal.τ Cert.KernelJIdeal.sig) → Buf (Elt Ideal) ℓ) (g : Dev Cert.KernelJIdeal.nD → PrngReg), Pre_KernelJIdeal m →
    θ_run (Cert.KernelJIdeal.defs (F := Ideal)) (onTc (τ := Cert.KernelJIdeal.τ) (Cert.KernelJIdeal.main (F := Ideal))) ⟨m, fun _ => 0, g⟩ (fun r => (∀ c : Dev Cert.KernelJIdeal.nD,
      r.2.mem ((c.tc : Thread Cert.KernelJIdeal.nD Cert.KernelJIdeal.τ).loc Cert.KernelJIdeal.main_arg0) = m ((c.tc : Thread Cert.KernelJIdeal.nD Cert.KernelJIdeal.τ).loc Cert.KernelJIdeal.main_arg0)
      ∧ r.2.mem ((c.tc : Thread Cert.KernelJIdeal.nD Cert.KernelJIdeal.τ).loc Cert.KernelJIdeal.main_arg1) = m ((c.tc : Thread Cert.KernelJIdeal.nD Cert.KernelJIdeal.τ).loc Cert.KernelJIdeal.main_arg1))
      ∧ r.2.sem = fun _ => 0)

def quiescent_ReferenceJIdeal [hReferenceJIdeal : Cert.ReferenceJIdeal.Facts] : Prop :=
  ∀ (m : (ℓ : Loc Cert.ReferenceJIdeal.nD Cert.ReferenceJIdeal.τ Cert.ReferenceJIdeal.sig) → Buf (Elt Ideal) ℓ) (g : Dev Cert.ReferenceJIdeal.nD → PrngReg), Pre_ReferenceJIdeal m →
    θ_run (Cert.ReferenceJIdeal.defs (F := Ideal)) (onTc (τ := Cert.ReferenceJIdeal.τ) (Cert.ReferenceJIdeal.main (F := Ideal))) ⟨m, fun _ => 0, g⟩ (fun r => (∀ c : Dev Cert.ReferenceJIdeal.nD,
      r.2.mem ((c.tc : Thread Cert.ReferenceJIdeal.nD Cert.ReferenceJIdeal.τ).loc Cert.ReferenceJIdeal.main_arg0) = m ((c.tc : Thread Cert.ReferenceJIdeal.nD Cert.ReferenceJIdeal.τ).loc Cert.ReferenceJIdeal.main_arg0)
      ∧ r.2.mem ((c.tc : Thread Cert.ReferenceJIdeal.nD Cert.ReferenceJIdeal.τ).loc Cert.ReferenceJIdeal.main_arg1) = m ((c.tc : Thread Cert.ReferenceJIdeal.nD Cert.ReferenceJIdeal.τ).loc Cert.ReferenceJIdeal.main_arg1))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)) (v5 : (c : Dev Cert.KernelIdeal.nD) → Buf (Elt Ideal) ((c.tc : Thread Cert.KernelIdeal.nD Cert.KernelIdeal.τ).loc Cert.KernelIdeal.main_v62_5)) (v6 : (c : Dev Cert.KernelIdeal.nD) → Buf (Elt Ideal) ((c.tc : Thread Cert.KernelIdeal.nD Cert.KernelIdeal.τ).loc Cert.KernelIdeal.main_v62_6)) (v7 : (c : Dev Cert.KernelIdeal.nD) → Buf (Elt Ideal) ((c.tc : Thread Cert.KernelIdeal.nD Cert.KernelIdeal.τ).loc Cert.KernelIdeal.main_v62_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_v62_5) = v5 c
          ∧ r.2.mem ((c.tc : Thread Cert.KernelIdeal.nD Cert.KernelIdeal.τ).loc Cert.KernelIdeal.main_v62_6) = v6 c
          ∧ r.2.mem ((c.tc : Thread Cert.KernelIdeal.nD Cert.KernelIdeal.τ).loc Cert.KernelIdeal.main_v62_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_v162) = v5 c
          ∧ r.2.mem ((c.tc : Thread Cert.ReferenceIdeal.nD Cert.ReferenceIdeal.τ).loc Cert.ReferenceIdeal.main_v169) = v6 c
          ∧ r.2.mem ((c.tc : Thread Cert.ReferenceIdeal.nD Cert.ReferenceIdeal.τ).loc Cert.ReferenceIdeal.main_v170) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)) →
    ∃ (v0 : (c : Dev Cert.KernelWIdeal.nD) → Buf (Elt Ideal) ((c.tc : Thread Cert.KernelWIdeal.nD Cert.KernelWIdeal.τ).loc Cert.KernelWIdeal.main_v0)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v0) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v20) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)) →
    ∃ (v0 : (c : Dev Cert.KernelHIdeal.nD) → Buf (Elt Ideal) ((c.tc : Thread Cert.KernelHIdeal.nD Cert.KernelHIdeal.τ).loc Cert.KernelHIdeal.main_v0)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v0) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v17) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v6) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelJ_KernelJIdeal : Prop :=
  True

def algebraic_KernelJIdeal_ReferenceJIdeal [hKernelJIdeal : Cert.KernelJIdeal.Facts] [hReferenceJIdeal : Cert.ReferenceJIdeal.Facts] : Prop :=
  ∀ (m : (ℓ : Loc Cert.KernelJIdeal.nD Cert.KernelJIdeal.τ Cert.KernelJIdeal.sig) → Buf (Elt Ideal) ℓ) (g : Dev Cert.KernelJIdeal.nD → PrngReg)
    (m' : (ℓ : Loc Cert.ReferenceJIdeal.nD Cert.ReferenceJIdeal.τ Cert.ReferenceJIdeal.sig) → Buf (Elt Ideal) ℓ) (g' : Dev Cert.ReferenceJIdeal.nD → PrngReg), Pre_KernelJIdeal m →
    (∀ c : Dev Cert.KernelJIdeal.nD,
      m' ((c.tc : Thread Cert.ReferenceJIdeal.nD Cert.ReferenceJIdeal.τ).loc Cert.ReferenceJIdeal.main_arg0) = m ((c.tc : Thread Cert.KernelJIdeal.nD Cert.KernelJIdeal.τ).loc Cert.KernelJIdeal.main_arg0)
      ∧ m' ((c.tc : Thread Cert.ReferenceJIdeal.nD Cert.ReferenceJIdeal.τ).loc Cert.ReferenceJIdeal.main_arg1) = m ((c.tc : Thread Cert.KernelJIdeal.nD Cert.KernelJIdeal.τ).loc Cert.KernelJIdeal.main_arg1)) →
    ∃ (v0 : (c : Dev Cert.KernelJIdeal.nD) → Buf (Elt Ideal) ((c.tc : Thread Cert.KernelJIdeal.nD Cert.KernelJIdeal.τ).loc Cert.KernelJIdeal.main_v0)),
      θ_run (Cert.KernelJIdeal.defs (F := Ideal)) (onTc (τ := Cert.KernelJIdeal.τ) (Cert.KernelJIdeal.main (F := Ideal))) ⟨m, fun _ => 0, g⟩ (fun r => ∀ c : Dev Cert.KernelJIdeal.nD,
          r.2.mem ((c.tc : Thread Cert.KernelJIdeal.nD Cert.KernelJIdeal.τ).loc Cert.KernelJIdeal.main_v0) = v0 c
          ∧ r.2.mem ((c.tc : Thread Cert.KernelJIdeal.nD Cert.KernelJIdeal.τ).loc Cert.KernelJIdeal.main_arg0) = m ((c.tc : Thread Cert.KernelJIdeal.nD Cert.KernelJIdeal.τ).loc Cert.KernelJIdeal.main_arg0)
          ∧ r.2.mem ((c.tc : Thread Cert.KernelJIdeal.nD Cert.KernelJIdeal.τ).loc Cert.KernelJIdeal.main_arg1) = m ((c.tc : Thread Cert.KernelJIdeal.nD Cert.KernelJIdeal.τ).loc Cert.KernelJIdeal.main_arg1))
      ∧ θ_run (Cert.ReferenceJIdeal.defs (F := Ideal)) (onTc (τ := Cert.ReferenceJIdeal.τ) (Cert.ReferenceJIdeal.main (F := Ideal))) ⟨m', fun _ => 0, g'⟩ (fun r => ∀ c : Dev Cert.ReferenceJIdeal.nD,
          r.2.mem ((c.tc : Thread Cert.ReferenceJIdeal.nD Cert.ReferenceJIdeal.τ).loc Cert.ReferenceJIdeal.main_v5) = v0 c
          ∧ r.2.mem ((c.tc : Thread Cert.ReferenceJIdeal.nD Cert.ReferenceJIdeal.τ).loc Cert.ReferenceJIdeal.main_arg0) = m' ((c.tc : Thread Cert.ReferenceJIdeal.nD Cert.ReferenceJIdeal.τ).loc Cert.ReferenceJIdeal.main_arg0)
          ∧ r.2.mem ((c.tc : Thread Cert.ReferenceJIdeal.nD Cert.ReferenceJIdeal.τ).loc Cert.ReferenceJIdeal.main_arg1) = m' ((c.tc : Thread Cert.ReferenceJIdeal.nD Cert.ReferenceJIdeal.τ).loc Cert.ReferenceJIdeal.main_arg1))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)) →
    ∃ (v0 : (c : Dev Cert.KernelDIdeal.nD) → Buf (Elt Ideal) ((c.tc : Thread Cert.KernelDIdeal.nD Cert.KernelDIdeal.τ).loc Cert.KernelDIdeal.main_v0)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v0) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v6) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)) →
    ∃ (v0 : (c : Dev Cert.KernelGIdeal.nD) → Buf (Elt Ideal) ((c.tc : Thread Cert.KernelGIdeal.nD Cert.KernelGIdeal.τ).loc Cert.KernelGIdeal.main_v0)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v0) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v9) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)) →
    ∃ (v0 : (c : Dev Cert.KernelYIdeal.nD) → Buf (Elt Ideal) ((c.tc : Thread Cert.KernelYIdeal.nD Cert.KernelYIdeal.τ).loc Cert.KernelYIdeal.main_v0)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v3) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v0)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v9) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def Claim : Prop :=
  ∃ (hKernel : Cert.Kernel.Facts) (hKernelIdeal : Cert.KernelIdeal.Facts) (hReferenceIdeal : Cert.ReferenceIdeal.Facts) (hKernelW : Cert.KernelW.Facts) (hKernelWIdeal : Cert.KernelWIdeal.Facts) (hReferenceWIdeal : Cert.ReferenceWIdeal.Facts) (hKernelH : Cert.KernelH.Facts) (hKernelHIdeal : Cert.KernelHIdeal.Facts) (hReferenceHIdeal : Cert.ReferenceHIdeal.Facts) (hKernelO : Cert.KernelO.Facts) (hKernelOIdeal : Cert.KernelOIdeal.Facts) (hReferenceOIdeal : Cert.ReferenceOIdeal.Facts) (hKernelJ : Cert.KernelJ.Facts) (hKernelJIdeal : Cert.KernelJIdeal.Facts) (hReferenceJIdeal : Cert.ReferenceJIdeal.Facts) (hKernelD : Cert.KernelD.Facts) (hKernelDIdeal : Cert.KernelDIdeal.Facts) (hReferenceDIdeal : Cert.ReferenceDIdeal.Facts) (hKernelG : Cert.KernelG.Facts) (hKernelGIdeal : Cert.KernelGIdeal.Facts) (hReferenceGIdeal : Cert.ReferenceGIdeal.Facts) (hKernelY : Cert.KernelY.Facts) (hKernelYIdeal : Cert.KernelYIdeal.Facts) (hReferenceYIdeal : Cert.ReferenceYIdeal.Facts) (hKernelA : Cert.KernelA.Facts) (hKernelAIdeal : Cert.KernelAIdeal.Facts) (hReferenceAIdeal : Cert.ReferenceAIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelJ (hKernelJ := hKernelJ)
    ∧ quiescent_KernelJIdeal (hKernelJIdeal := hKernelJIdeal)
    ∧ quiescent_ReferenceJIdeal (hReferenceJIdeal := hReferenceJIdeal)
    ∧ quiescent_KernelD (hKernelD := hKernelD)
    ∧ quiescent_KernelDIdeal (hKernelDIdeal := hKernelDIdeal)
    ∧ quiescent_ReferenceDIdeal (hReferenceDIdeal := hReferenceDIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelA (hKernelA := hKernelA)
    ∧ quiescent_KernelAIdeal (hKernelAIdeal := hKernelAIdeal)
    ∧ quiescent_ReferenceAIdeal (hReferenceAIdeal := hReferenceAIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelW_KernelWIdeal
    ∧ algebraic_KernelWIdeal_ReferenceWIdeal (hKernelWIdeal := hKernelWIdeal) (hReferenceWIdeal := hReferenceWIdeal)
    ∧ preserves_KernelH_KernelHIdeal
    ∧ algebraic_KernelHIdeal_ReferenceHIdeal (hKernelHIdeal := hKernelHIdeal) (hReferenceHIdeal := hReferenceHIdeal)
    ∧ preserves_KernelO_KernelOIdeal
    ∧ algebraic_KernelOIdeal_ReferenceOIdeal (hKernelOIdeal := hKernelOIdeal) (hReferenceOIdeal := hReferenceOIdeal)
    ∧ preserves_KernelJ_KernelJIdeal
    ∧ algebraic_KernelJIdeal_ReferenceJIdeal (hKernelJIdeal := hKernelJIdeal) (hReferenceJIdeal := hReferenceJIdeal)
    ∧ preserves_KernelD_KernelDIdeal
    ∧ algebraic_KernelDIdeal_ReferenceDIdeal (hKernelDIdeal := hKernelDIdeal) (hReferenceDIdeal := hReferenceDIdeal)
    ∧ preserves_KernelG_KernelGIdeal
    ∧ algebraic_KernelGIdeal_ReferenceGIdeal (hKernelGIdeal := hKernelGIdeal) (hReferenceGIdeal := hReferenceGIdeal)
    ∧ preserves_KernelY_KernelYIdeal
    ∧ algebraic_KernelYIdeal_ReferenceYIdeal (hKernelYIdeal := hKernelYIdeal) (hReferenceYIdeal := hReferenceYIdeal)
    ∧ preserves_KernelA_KernelAIdeal
    ∧ algebraic_KernelAIdeal_ReferenceAIdeal (hKernelAIdeal := hKernelAIdeal) (hReferenceAIdeal := hReferenceAIdeal)
-- ==== Pre_finite.lean ====
abbrev S8192x7680 : Shape := ⟨2, ![8192, 7680]⟩
abbrev S8192x128 : Shape := ⟨2, ![8192, 128]⟩
abbrev S128x512 : Shape := ⟨2, ![128, 512]⟩
abbrev S1x512 : Shape := ⟨2, ![1, 512]⟩
abbrev S1x1024 : Shape := ⟨2, ![1, 1024]⟩
abbrev S8192x1024 : Shape := ⟨2, ![8192, 1024]⟩
abbrev S_ : Shape := ⟨0, ![]⟩

class Facts : Prop where
  bitsLt_bf16_f32 : FTy.bits .bf16 < FTy.bits .f32
  bcast_S_S8192x7680 : S_.BroadcastsInDim S8192x7680 (![] : Fin 0 → Fin S8192x7680.rank)
  reducesTo_S8192x7680_S_d0_1 : S8192x7680.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S1x512 .f32) (main_arg4 : FVec F S1x1024 .f32) (main_arg5 : FVec F S8192x1024 .bf16) (main_v11 : IVec S_ 1) (main_v16 : IVec S_ 1) : IVec S_ 1 :=
  let main_v17 : IVec S_ 1 := andi main_v11 main_v16
  let main_v18 : FVec F S1x512 .f32 := Host.absf main_arg3
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_c_6 : IVec S_ 1 := constantI S_ 1 1#1
  let main_v21 : IVec S_ 1 := (fun x v => Host.reduce IntOp.andi x v reducesTo_S1x512_S_d0_1 h_S_) main_v20 main_c_6
  let main_v22 : IVec S_ 1 := andi main_v17 main_v21
  let main_v23 : FVec F S1x1024 .f32 := Host.absf main_arg4
  let main_cst_7 : FVec F S_ .f32 := constant S_ .f32 0x7F800000#32
  let main_v24 : FVec F S1x1024 .f32 := broadcastInDim S1x1024 ![] bcast_S_S1x1024 main_cst_7
  let main_v25 : IVec S1x1024 1 := cmpf .olt main_v23 main_v24
  let main_c_8 : IVec S_ 1 := constantI S_ 1 1#1
  let main_v26 : IVec S_ 1 := (fun x v => Host.reduce IntOp.andi x v reducesTo_S1x1024_S_d0_1 h_S_) main_v25 main_c_8
  let main_v27 : IVec S_ 1 := andi main_v22 main_v26
  let main_v28 : FVec F S8192x1024 .f32 := (extf .f32 · bitsLt_bf16_f32) main_arg5
  let main_v29 : FVec F S8192x1024 .f32 := Host.absf main_v28
  let main_cst_9 : FVec F S_ .f32 := constant S_ .f32 0x7F800000#32
  let main_v30 : FVec F S8192x1024 .f32 := broadcastInDim S8192x1024 ![] bcast_S_S8192x1024 main_cst_9
  let main_v31 : IVec S8192x1024 1 := cmpf .olt main_v29 main_v30
  let main_c_10 : IVec S_ 1 := constantI S_ 1 1#1
  let main_v32 : IVec S_ 1 := (fun x v => Host.reduce IntOp.andi x v reducesTo_S8192x1024_S_d0_1 h_S_) main_v31 main_c_10
  let main_v33 : IVec S_ 1 := andi main_v27 main_v32
  main_v33

def fn {F : FTy → Type} [FloatOps F] (main_arg0 : FVec F S8192x7680 .bf16) (main_arg1 : FVec F S8192x128 .bf16) (main_arg2 : FVec F S128x512 .bf16) (main_arg3 : FVec F S1x512 .f32) (main_arg4 : FVec F S1x1024 .f32) (main_arg5 : FVec F S8192x1024 .bf16) : IVec S_ 1 :=
  let main_v0 : FVec F S8192x7680 .f32 := (extf .f32 · bitsLt_bf16_f32) main_arg0
  let main_v1 : FVec F S8192x7680 .f32 := Host.absf main_v0
  let main_cst : FVec F S_ .f32 := constant S_ .f32 0x7F800000#32
  let main_v2 : FVec F S8192x7680 .f32 := broadcastInDim S8192x7680 ![] bcast_S_S8192x7680 main_cst
  let main_v3 : IVec S8192x7680 1 := cmpf .olt main_v1 main_v2
  let main_c : IVec S_ 1 := constantI S_ 1 1#1
  let main_v4 : IVec S_ 1 := (fun x v => Host.reduce IntOp.andi x v reducesTo_S8192x7680_S_d0_1 h_S_) main_v3 main_c
  let main_c_0 : IVec S_ 1 := constantI S_ 1 1#1
  let main_v5 : IVec S_ 1 := andi main_c_0 main_v4
  let main_v6 : FVec F S8192x128 .f32 := (extf .f32 · bitsLt_bf16_f32) main_arg1
  let main_v7 : FVec F S8192x128 .f32 := Host.absf main_v6
  let main_cst_1 : FVec F S_ .f32 := constant S_ .f32 0x7F800000#32
  let main_v8 : FVec F S8192x128 .f32 := broadcastInDim S8192x128 ![] bcast_S_S8192x128 main_cst_1
  let main_v9 : IVec S8192x128 1 := cmpf .olt main_v7 main_v8
  let main_c_2 : IVec S_ 1 := constantI S_ 1 1#1
  let main_v10 : IVec S_ 1 := (fun x v => Host.reduce IntOp.andi x v reducesTo_S8192x128_S_d0_1 h_S_) main_v9 main_c_2
  let main_v11 : IVec S_ 1 := andi main_v5 main_v10
  let main_v12 : FVec F S128x512 .f32 := (extf .f32 · bitsLt_bf16_f32) main_arg2
  let main_v13 : FVec F S128x512 .f32 := Host.absf main_v12
  let main_cst_3 : FVec F S_ .f32 := constant S_ .f32 0x7F800000#32
  let main_v14 : FVec F S128x512 .f32 := broadcastInDim S128x512 ![] bcast_S_S128x512 main_cst_3
  let main_v15 : IVec S128x512 1 := cmpf .olt main_v13 main_v14
  let main_c_4 : IVec S_ 1 := constantI S_ 1 1#1
  let main_v16 : IVec S_ 1 := (fun x v => Host.reduce IntOp.andi x v reducesTo_S128x512_S_d0_1 h_S_) main_v15 main_c_4
  fn_part1 (F := F) main_arg3 main_arg4 main_arg5 main_v11 main_v16
-- ==== Kernel.lean ====
abbrev S8192x7680 : Shape := ⟨2, ![8192, 7680]⟩
abbrev S8192x128 : Shape := ⟨2, ![8192, 128]⟩
abbrev S128x512 : Shape := ⟨2, ![128, 512]⟩
abbrev S1x512 : Shape := ⟨2, ![1, 512]⟩
abbrev S1x1024 : Shape := ⟨2, ![1, 1024]⟩
abbrev S8192x1024 : Shape := ⟨2, ![8192, 1024]⟩
abbrev S8192x512 : Shape := ⟨2, ![8192, 512]⟩
abbrev S_ : Shape := ⟨0, ![]⟩
abbrev S256x32x4x128 : Shape := ⟨4, ![256, 32, 4, 128]⟩
abbrev S4x256x32x128 : Shape := ⟨4, ![4, 256, 32, 128]⟩
abbrev S256x32x4x256 : Shape := ⟨4, ![256, 32, 4, 256]⟩
abbrev S4x256x32x256 : Shape := ⟨4, ![4, 256, 32, 256]⟩
abbrev S4x256x1x128 : Shape := ⟨4, ![4, 256, 1, 128]⟩
abbrev S32x32 : Shape := ⟨2, ![32, 32]⟩
abbrev S4x256x32x32 : Shape := ⟨4, ![4, 256, 32, 32]⟩
abbrev S4x256x128 : Shape := ⟨3, ![4, 256, 128]⟩
abbrev S256x256 : Shape := ⟨2, ![256, 256]⟩
abbrev S256x256x1 : Shape := ⟨3, ![256, 256, 1]⟩
abbrev S4x1x256x128 : Shape := ⟨4, ![4, 1, 256, 128]⟩
abbrev S4x256x256x128 : Shape := ⟨4, ![4, 256, 256, 128]⟩
abbrev S4x128x256x256 : Shape := ⟨4, ![4, 128, 256, 256]⟩
abbrev S256x4x256x128 : Shape := ⟨4, ![256, 4, 256, 128]⟩
abbrev S256x512 : Shape := ⟨2, ![256, 512]⟩
abbrev S256x1024 : Shape := ⟨2, ![256, 1024]⟩
abbrev S256x128 : Shape := ⟨2, ![256, 128]⟩
abbrev S8x4x256x128 : Shape := ⟨4, ![8, 4, 256, 128]⟩
abbrev S256 : Shape := ⟨1, ![256]⟩
abbrev S256x1 : Shape := ⟨2, ![256, 1]⟩
abbrev S1x256 : Shape := ⟨2, ![1, 256]⟩
abbrev S1x256x128 : Shape := ⟨3, ![1, 256, 128]⟩
abbrev S1x1x256x128 : Shape := ⟨4, ![1, 1, 256, 128]⟩
abbrev S32x256 : Shape := ⟨2, ![32, 256]⟩
abbrev S32x128 : Shape := ⟨2, ![32, 128]⟩
abbrev S1x128 : Shape := ⟨2, ![1, 128]⟩
abbrev S128 : Shape := ⟨1, ![128]⟩
abbrev S512 : Shape := ⟨1, ![512]⟩

abbrev nBuf : Space → Nat
  | .hbm => 123
  | .vmem => 37
  | .smem => 0
  | _ => 0

abbrev bufTy : (tb : Table) → Fin (tcTables nBuf tb) → BufTy
  | .hbm, ⟨0, _⟩ => ⟨S8192x7680, .bf16⟩
  | .hbm, ⟨1, _⟩ => ⟨S8192x128, .bf16⟩
  | .hbm, ⟨2, _⟩ => ⟨S128x512, .bf16⟩
  | .hbm, ⟨3, _⟩ => ⟨S1x512, .f32⟩
  | .hbm, ⟨4, _⟩ => ⟨S1x1024, .f32⟩
  | .hbm, ⟨5, _⟩ => ⟨S8192x1024, .bf16⟩
  | .hbm, ⟨6, _⟩ => ⟨S8192x128, .f32⟩
  | .hbm, ⟨7, _⟩ => ⟨S128x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .i1⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .bf16⟩
  | .hbm, ⟨31, _⟩ => ⟨S8192x512, .f32⟩
  | .hbm, ⟨32, _⟩ => ⟨S256x32x4x128, .f32⟩
  | .hbm, ⟨33, _⟩ => ⟨S4x256x32x128, .f32⟩
  | .hbm, ⟨34, _⟩ => ⟨S_, .f32⟩
  | .hbm, ⟨35, _⟩ => ⟨S4x256x32x128, .f32⟩
  | .hbm, ⟨36, _⟩ => ⟨S4x256x32x128, .f32⟩
  | .hbm, ⟨37, _⟩ => ⟨S8192x512, .bf16⟩
  | .hbm, ⟨38, _⟩ => ⟨S8192x512, .f32⟩
  | .hbm, ⟨39, _⟩ => ⟨S256x32x4x128, .f32⟩
  | .hbm, ⟨40, _⟩ => ⟨S4x256x32x128, .f32⟩
  | .hbm, ⟨41, _⟩ => ⟨S8192x1024, .bf16⟩
  | .hbm, ⟨42, _⟩ => ⟨S8192x1024, .f32⟩
  | .hbm, ⟨43, _⟩ => ⟨S256x32x4x256, .f32⟩
  | .hbm, ⟨44, _⟩ => ⟨S4x256x32x256, .f32⟩
  | .hbm, ⟨45, _⟩ => ⟨S256x32x4x128, .f32⟩
  | .hbm, ⟨46, _⟩ => ⟨S4x256x32x128, .f32⟩
  | .hbm, ⟨47, _⟩ => ⟨S_, .f32⟩
  | .hbm, ⟨48, _⟩ => ⟨S_, .f32⟩
  | .hbm, ⟨49, _⟩ => ⟨S4x256x32x128, .f32⟩
  | .hbm, ⟨50, _⟩ => ⟨S4x256x1x128, .f32⟩
  | .hbm, ⟨51, _⟩ => ⟨S4x256x32x128, .f32⟩
  | .hbm, ⟨52, _⟩ => ⟨S4x256x32x128, .f32⟩
  | .hbm, ⟨53, _⟩ => ⟨S4x256x32x128, .f32⟩
  | .hbm, ⟨54, _⟩ => ⟨S4x256x32x128, .f32⟩
  | .hbm, ⟨55, _⟩ => ⟨S4x256x32x128, .f32⟩
  | .hbm, ⟨56, _⟩ => ⟨S4x256x32x128, .f32⟩
  | .hbm, ⟨57, _⟩ => ⟨S4x256x32x128, .f32⟩
  | .hbm, ⟨58, _⟩ => ⟨S4x256x32x128, .f32⟩
  | .hbm, ⟨59, _⟩ => ⟨S4x256x32x128, .f32⟩
  | .hbm, ⟨60, _⟩ => ⟨S_, .i1⟩
  | .hbm, ⟨61, _⟩ => ⟨S32x32, .i1⟩
  | .hbm, ⟨62, _⟩ => ⟨S32x32, .i32⟩
  | .hbm, ⟨63, _⟩ => ⟨S_, .i32⟩
  | .hbm, ⟨64, _⟩ => ⟨S32x32, .i32⟩
  | .hbm, ⟨65, _⟩ => ⟨S32x32, .i32⟩
  | .hbm, ⟨66, _⟩ => ⟨S32x32, .i32⟩
  | .hbm, ⟨67, _⟩ => ⟨S32x32, .i1⟩
  | .hbm, ⟨68, _⟩ => ⟨S_, .i1⟩
  | .hbm, ⟨69, _⟩ => ⟨S32x32, .i1⟩
  | .hbm, ⟨70, _⟩ => ⟨S32x32, .i1⟩
  | .hbm, ⟨71, _⟩ => ⟨S4x256x32x32, .f32⟩
  | .hbm, ⟨72, _⟩ => ⟨S_, .f32⟩
  | .hbm, ⟨73, _⟩ => ⟨S_, .f32⟩
  | .hbm, ⟨74, _⟩ => ⟨S4x256x32x32, .i1⟩
  | .hbm, ⟨75, _⟩ => ⟨S4x256x32x32, .f32⟩
  | .hbm, ⟨76, _⟩ => ⟨S4x256x32x32, .f32⟩
  | .hbm, ⟨77, _⟩ => ⟨S4x256x32x256, .f32⟩
  | .hbm, ⟨78, _⟩ => ⟨S4x256x128, .f32⟩
  | .hbm, ⟨79, _⟩ => ⟨S_, .f32⟩
  | .hbm, ⟨80, _⟩ => ⟨S_, .f32⟩
  | .hbm, ⟨81, _⟩ => ⟨S4x256x128, .f32⟩
  | .hbm, ⟨82, _⟩ => ⟨S4x256x128, .f32⟩
  | .hbm, ⟨83, _⟩ => ⟨S4x256x128, .f32⟩
  | .hbm, ⟨84, _⟩ => ⟨S_, .i1⟩
  | .hbm, ⟨85, _⟩ => ⟨S256x256, .i1⟩
  | .hbm, ⟨86, _⟩ => ⟨S256x256, .i32⟩
  | .hbm, ⟨87, _⟩ => ⟨S_, .i32⟩
  | .hbm, ⟨88, _⟩ => ⟨S256x256, .i32⟩
  | .hbm, ⟨89, _⟩ => ⟨S256x256, .i32⟩
  | .hbm, ⟨90, _⟩ => ⟨S256x256, .i32⟩
  | .hbm, ⟨91, _⟩ => ⟨S256x256, .i1⟩
  | .hbm, ⟨92, _⟩ => ⟨S_, .i1⟩
  | .hbm, ⟨93, _⟩ => ⟨S256x256, .i1⟩
  | .hbm, ⟨94, _⟩ => ⟨S256x256, .i1⟩
  | .hbm, ⟨95, _⟩ => ⟨S256x256x1, .i1⟩
  | .hbm, ⟨96, _⟩ => ⟨S4x256x1x128, .f32⟩
  | .hbm, ⟨97, _⟩ => ⟨S4x1x256x128, .f32⟩
  | .hbm, ⟨98, _⟩ => ⟨S4x256x256x128, .f32⟩
  | .hbm, ⟨99, _⟩ => ⟨S4x256x256x128, .f32⟩
  | .hbm, ⟨100, _⟩ => ⟨S4x256x256x128, .f32⟩
  | .hbm, ⟨101, _⟩ => ⟨S4x256x256x128, .f32⟩
  | .hbm, ⟨102, _⟩ => ⟨S_, .f32⟩
  | .hbm, ⟨103, _⟩ => ⟨S_, .f32⟩
  | .hbm, ⟨104, _⟩ => ⟨S4x256x256x128, .i1⟩
  | .hbm, ⟨105, _⟩ => ⟨S4x256x256x128, .f32⟩
  | .hbm, ⟨106, _⟩ => ⟨S4x256x256x128, .f32⟩
  | .hbm, ⟨107, _⟩ => ⟨S4x256x256x128, .f32⟩
  | .hbm, ⟨108, _⟩ => ⟨S4x128x256x256, .f32⟩
  | .hbm, ⟨109, _⟩ => ⟨S256x4x256x128, .f32⟩
  | .hbm, ⟨110, _⟩ => ⟨S4x256x32x256, .f32⟩
  | .hbm, ⟨111, _⟩ => ⟨S4x256x32x256, .f32⟩
  | .hbm, ⟨112, _⟩ => ⟨S256x32x4x256, .f32⟩
  | .hbm, ⟨113, _⟩ => ⟨S8192x1024, .f32⟩
  | .hbm, ⟨114, _⟩ => ⟨S256x4x256x128, .bf16⟩
  | .hbm, ⟨115, _⟩ => ⟨S8192x512, .bf16⟩
  | .hbm, ⟨116, _⟩ => ⟨S8192x512, .bf16⟩
  | .hbm, ⟨117, _⟩ => ⟨S8192x1024, .bf16⟩
  | .hbm, ⟨118, _⟩ => ⟨S8192x1024, .bf16⟩
  | .hbm, ⟨119, _⟩ => ⟨S8192x128, .bf16⟩
  | .hbm, ⟨120, _⟩ => ⟨S128x512, .f32⟩
  | .hbm, ⟨121, _⟩ => ⟨S1x512, .f32⟩
  | .hbm, ⟨122, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .bf16⟩
  | .local _ .vmem, ⟨9, _⟩ => ⟨S256x128, .bf16⟩
  | .local _ .vmem, ⟨10, _⟩ => ⟨S128x512, .bf16⟩
  | .local _ .vmem, ⟨11, _⟩ => ⟨S1x512, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S8x4x256x128, .bf16⟩
  | .local _ .vmem, ⟨16, _⟩ => ⟨S8x4x256x128, .bf16⟩
  | .local _ .vmem, ⟨17, _⟩ => ⟨S256x1024, .bf16⟩
  | .local _ .vmem, ⟨18, _⟩ => ⟨S256x1024, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x128, .bf16⟩
  | .local _ .vmem, ⟨28, _⟩ => ⟨S256x128, .bf16⟩
  | .local _ .vmem, ⟨29, _⟩ => ⟨S128x512, .f32⟩
  | .local _ .vmem, ⟨30, _⟩ => ⟨S1x512, .f32⟩
  | .local _ .vmem, ⟨31, _⟩ => ⟨S1x1024, .f32⟩
  | .local _ .vmem, ⟨32, _⟩ => ⟨S4x256x128, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | _, _ => ⟨S8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_call0_cst : Ref sig .tc := ⟨.hbm, 47, rfl⟩
abbrev main_call1_call0_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_v35 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v36 : Ref sig .tc := ⟨.hbm, 70, rfl⟩
abbrev main_v37 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_call0_cst : Ref sig .tc := ⟨.hbm, 79, rfl⟩
abbrev main_call4_call0_v0 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_2 : Ref sig .tc := ⟨.hbm, 84, rfl⟩
abbrev main_v44 : Ref sig .tc := ⟨.hbm, 85, rfl⟩
abbrev main_call5_v0 : Ref sig .tc := ⟨.hbm, 86, rfl⟩
abbrev main_call5_c : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_c_0 : Ref sig .tc := ⟨.hbm, 92, rfl⟩
abbrev main_call5_v5 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_3 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62_0 : Ref sig .tc := ⟨.hbm, 115, rfl⟩
abbrev main_v62_1 : Ref sig .tc := ⟨.hbm, 116, rfl⟩
abbrev main_v62_2 : Ref sig .tc := ⟨.hbm, 117, rfl⟩
abbrev main_v62_3 : Ref sig .tc := ⟨.hbm, 118, rfl⟩
abbrev main_v62_4 : Ref sig .tc := ⟨.hbm, 119, rfl⟩
abbrev main_v62_5 : Ref sig .tc := ⟨.hbm, 120, rfl⟩
abbrev main_v62_6 : Ref sig .tc := ⟨.hbm, 121, rfl⟩
abbrev main_v62_7 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c13_i32 : BitVec 32 := 13#32
  let c0_i32 : BitVec 32 := 0#32
  ![v0.toNat, c13_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S8192x7680 : Shape := ⟨2, ![8192, 7680]⟩
abbrev S8192x128 : Shape := ⟨2, ![8192, 128]⟩
abbrev S128x512 : Shape := ⟨2, ![128, 512]⟩
abbrev S1x512 : Shape := ⟨2, ![1, 512]⟩
abbrev S1x1024 : Shape := ⟨2, ![1, 1024]⟩
abbrev S8192x1024 : Shape := ⟨2, ![8192, 1024]⟩
abbrev S8192x512 : Shape := ⟨2, ![8192, 512]⟩
abbrev S512 : Shape := ⟨1, ![512]⟩
abbrev S1024 : Shape := ⟨1, ![1024]⟩
abbrev S_ : Shape := ⟨0, ![]⟩
abbrev S256x32x4x128 : Shape := ⟨4, ![256, 32, 4, 128]⟩
abbrev S4x256x32x128 : Shape := ⟨4, ![4, 256, 32, 128]⟩
abbrev S256x32x4x256 : Shape := ⟨4, ![256, 32, 4, 256]⟩
abbrev S4x256x32x256 : Shape := ⟨4, ![4, 256, 32, 256]⟩
abbrev S4x256x1x128 : Shape := ⟨4, ![4, 256, 1, 128]⟩
abbrev S32x32 : Shape := ⟨2, ![32, 32]⟩
abbrev S4x256x32x32 : Shape := ⟨4, ![4, 256, 32, 32]⟩
abbrev S256x4x32x128 : Shape := ⟨4, ![256, 4, 32, 128]⟩
abbrev S256x4x32x256 : Shape := ⟨4, ![256, 4, 32, 256]⟩
abbrev S4x256x128 : Shape := ⟨3, ![4, 256, 128]⟩
abbrev S256x4x128 : Shape := ⟨3, ![256, 4, 128]⟩
abbrev S4x128x256 : Shape := ⟨3, ![4, 128, 256]⟩
abbrev S256x4x128x256 : Shape := ⟨4, ![256, 4, 128, 256]⟩
abbrev S256x4x128x1 : Shape := ⟨4, ![256, 4, 128, 1]⟩
abbrev S1x4x32x128 : Shape := ⟨4, ![1, 4, 32, 128]⟩
abbrev S4x32x128 : Shape := ⟨3, ![4, 32, 128]⟩
abbrev S1x4x32x256 : Shape := ⟨4, ![1, 4, 32, 256]⟩
abbrev S4x32x256 : Shape := ⟨3, ![4, 32, 256]⟩
abbrev S1x4x128 : Shape := ⟨3, ![1, 4, 128]⟩
abbrev S4x128 : Shape := ⟨2, ![4, 128]⟩
abbrev S4x128x1 : Shape := ⟨3, ![4, 128, 1]⟩
abbrev S1x4x128x256 : Shape := ⟨4, ![1, 4, 128, 256]⟩
abbrev S1x4x128x1 : Shape := ⟨4, ![1, 4, 128, 1]⟩
abbrev S8192x4x256 : Shape := ⟨3, ![8192, 4, 256]⟩
abbrev S8192x4 : Shape := ⟨2, ![8192, 4]⟩
abbrev S8192x4x1 : Shape := ⟨3, ![8192, 4, 1]⟩
abbrev S4x256x32 : Shape := ⟨3, ![4, 256, 32]⟩
abbrev S4x128x32 : Shape := ⟨3, ![4, 128, 32]⟩
abbrev S4x256x256x32 : Shape := ⟨4, ![4, 256, 256, 32]⟩
abbrev S512x128 : Shape := ⟨2, ![512, 128]⟩

abbrev nBuf : Space → Nat
  | .hbm => 427
  | .vmem => 0
  | .smem => 0
  | _ => 0

abbrev hbmTy0_0 (i : Nat) : BufTy := match i % 128 with
  | 0 => ⟨S8192x7680, .bf16⟩
  | 1 => ⟨S8192x128, .bf16⟩
  | 2 => ⟨S128x512, .bf16⟩
  | 3 => ⟨S1x512, .f32⟩
  | 4 => ⟨S1x1024, .f32⟩
  | 5 => ⟨S8192x1024, .bf16⟩
  | 6 => ⟨S8192x7680, .f32⟩
  | 7 => ⟨S8192x512, .f32⟩
  | 8 => ⟨S8192x512, .f32⟩
  | 9 => ⟨S8192x1024, .f32⟩
  | 10 => ⟨S8192x1024, .f32⟩
  | 11 => ⟨S8192x128, .f32⟩
  | 12 => ⟨S128x512, .f32⟩
  | 13 => ⟨S512, .f32⟩
  | 14 => ⟨S1024, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S8192x512, .f32⟩
  | 25 => ⟨S8192x512, .i1⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S_, .f32⟩
  | 35 => ⟨S8192x512, .f32⟩
  | 36 => ⟨S8192x512, .i1⟩
  | 37 => ⟨S_, .f32⟩
  | 38 => ⟨S8192x512, .f32⟩
  | 39 => ⟨S8192x512, .f32⟩
  | 40 => ⟨S_, .f32⟩
  | 41 => ⟨S8192x512, .f32⟩
  | 42 => ⟨S8192x512, .i1⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8192x512, .f32⟩
  | 56 => ⟨S8192x512, .i1⟩
  | 57 => ⟨S_, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S256x32x4x128, .f32⟩
  | 71 => ⟨S4x256x32x128, .f32⟩
  | 72 => ⟨S_, .f32⟩
  | 73 => ⟨S4x256x32x128, .f32⟩
  | 74 => ⟨S4x256x32x128, .f32⟩
  | 75 => ⟨S256x32x4x128, .f32⟩
  | 76 => ⟨S4x256x32x128, .f32⟩
  | 77 => ⟨S256x32x4x256, .f32⟩
  | 78 => ⟨S4x256x32x256, .f32⟩
  | 79 => ⟨S256x32x4x128, .f32⟩
  | 80 => ⟨S4x256x32x128, .f32⟩
  | 81 => ⟨S_, .f32⟩
  | 82 => ⟨S_, .f32⟩
  | 83 => ⟨S4x256x32x128, .f32⟩
  | 84 => ⟨S4x256x1x128, .f32⟩
  | 85 => ⟨S4x256x32x128, .f32⟩
  | 86 => ⟨S4x256x32x128, .f32⟩
  | 87 => ⟨S4x256x32x128, .f32⟩
  | 88 => ⟨S4x256x32x128, .f32⟩
  | 89 => ⟨S4x256x32x128, .f32⟩
  | 90 => ⟨S4x256x32x128, .f32⟩
  | 91 => ⟨S4x256x32x128, .f32⟩
  | 92 => ⟨S4x256x32x128, .f32⟩
  | 93 => ⟨S4x256x32x128, .f32⟩
  | 94 => ⟨S_, .i1⟩
  | 95 => ⟨S32x32, .i1⟩
  | 96 => ⟨S32x32, .i32⟩
  | 97 => ⟨S_, .i32⟩
  | 98 => ⟨S32x32, .i32⟩
  | 99 => ⟨S32x32, .i32⟩
  | 100 => ⟨S32x32, .i32⟩
  | 101 => ⟨S32x32, .i1⟩
  | 102 => ⟨S_, .i1⟩
  | 103 => ⟨S32x32, .i1⟩
  | 104 => ⟨S32x32, .i1⟩
  | 105 => ⟨S4x256x32x32, .f32⟩
  | 106 => ⟨S_, .f32⟩
  | 107 => ⟨S_, .f32⟩
  | 108 => ⟨S4x256x32x32, .i1⟩
  | 109 => ⟨S4x256x32x32, .f32⟩
  | 110 => ⟨S4x256x32x32, .f32⟩
  | 111 => ⟨S_, .f32⟩
  | 112 => ⟨S4x256x32x32, .f32⟩
  | 113 => ⟨S4x256x32x256, .f32⟩
  | 114 => ⟨S256x4x32x128, .f32⟩
  | 115 => ⟨S256x4x32x128, .f32⟩
  | 116 => ⟨S256x4x32x256, .f32⟩
  | 117 => ⟨S4x256x128, .f32⟩
  | 118 => ⟨S4x256x128, .f32⟩
  | 119 => ⟨S256x4x128, .f32⟩
  | 120 => ⟨S_, .f32⟩
  | 121 => ⟨S4x128x256, .f32⟩
  | 122 => ⟨S_, .f32⟩
  | 123 => ⟨S256x4x32x256, .f32⟩
  | 124 => ⟨S_, .f32⟩
  | 125 => ⟨S256x4x128x256, .f32⟩
  | 126 => ⟨S_, .f32⟩
  | 127 => ⟨S256x4x128x1, .f32⟩
  | _ => ⟨S8192x7680, .bf16⟩

abbrev hbmTy0_1 (i : Nat) : BufTy := match i % 128 with
  | 0 => ⟨S_, .i32⟩
  | 1 => ⟨S256x4x32x128, .f32⟩
  | 2 => ⟨S256x4x32x128, .f32⟩
  | 3 => ⟨S256x4x32x256, .f32⟩
  | 4 => ⟨S256x4x128, .f32⟩
  | 5 => ⟨S_, .i32⟩
  | 6 => ⟨S4x128x256, .f32⟩
  | 7 => ⟨S256x4x32x256, .f32⟩
  | 8 => ⟨S256x4x128x256, .f32⟩
  | 9 => ⟨S256x4x128x1, .f32⟩
  | 10 => ⟨S_, .i32⟩
  | 11 => ⟨S_, .i1⟩
  | 12 => ⟨S_, .i32⟩
  | 13 => ⟨S_, .i32⟩
  | 14 => ⟨S_, .i32⟩
  | 15 => ⟨S1x4x32x128, .f32⟩
  | 16 => ⟨S4x32x128, .f32⟩
  | 17 => ⟨S_, .i32⟩
  | 18 => ⟨S_, .i32⟩
  | 19 => ⟨S_, .i32⟩
  | 20 => ⟨S1x4x32x128, .f32⟩
  | 21 => ⟨S4x32x128, .f32⟩
  | 22 => ⟨S_, .i32⟩
  | 23 => ⟨S_, .i32⟩
  | 24 => ⟨S_, .i32⟩
  | 25 => ⟨S1x4x32x256, .f32⟩
  | 26 => ⟨S4x32x256, .f32⟩
  | 27 => ⟨S_, .i32⟩
  | 28 => ⟨S_, .i32⟩
  | 29 => ⟨S1x4x128, .f32⟩
  | 30 => ⟨S4x128, .f32⟩
  | 31 => ⟨S4x32x256, .f32⟩
  | 32 => ⟨S4x128x1, .f32⟩
  | 33 => ⟨S4x128x256, .f32⟩
  | 34 => ⟨S4x128x256, .f32⟩
  | 35 => ⟨S4x128x256, .f32⟩
  | 36 => ⟨S4x128x256, .f32⟩
  | 37 => ⟨S1x4x32x256, .f32⟩
  | 38 => ⟨S_, .i32⟩
  | 39 => ⟨S_, .i32⟩
  | 40 => ⟨S_, .i32⟩
  | 41 => ⟨S256x4x32x256, .f32⟩
  | 42 => ⟨S1x4x128x256, .f32⟩
  | 43 => ⟨S_, .i32⟩
  | 44 => ⟨S_, .i32⟩
  | 45 => ⟨S_, .i32⟩
  | 46 => ⟨S256x4x128x256, .f32⟩
  | 47 => ⟨S1x4x128x1, .f32⟩
  | 48 => ⟨S_, .i32⟩
  | 49 => ⟨S_, .i32⟩
  | 50 => ⟨S_, .i32⟩
  | 51 => ⟨S256x4x128x1, .f32⟩
  | 52 => ⟨S_, .i32⟩
  | 53 => ⟨S_, .i32⟩
  | 54 => ⟨S4x256x32x256, .f32⟩
  | 55 => ⟨S4x256x32x256, .f32⟩
  | 56 => ⟨S256x32x4x256, .f32⟩
  | 57 => ⟨S8192x4x256, .f32⟩
  | 58 => ⟨S8192x4x256, .f32⟩
  | 59 => ⟨S_, .f32⟩
  | 60 => ⟨S8192x4, .f32⟩
  | 61 => ⟨S8192x4x1, .f32⟩
  | 62 => ⟨S_, .f32⟩
  | 63 => ⟨S8192x4x1, .f32⟩
  | 64 => ⟨S8192x4x1, .f32⟩
  | 65 => ⟨S_, .f32⟩
  | 66 => ⟨S8192x4x1, .f32⟩
  | 67 => ⟨S8192x4x1, .f32⟩
  | 68 => ⟨S8192x4x1, .f32⟩
  | 69 => ⟨S8192x4x1, .f32⟩
  | 70 => ⟨S_, .f32⟩
  | 71 => ⟨S8192x4x1, .f32⟩
  | 72 => ⟨S8192x4x1, .f32⟩
  | 73 => ⟨S8192x4x256, .f32⟩
  | 74 => ⟨S8192x4x256, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S4x128x256, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S1024, .f32⟩
  | 110 => ⟨S8192x4x256, .f32⟩
  | 111 => ⟨S8192x4x256, .f32⟩
  | 112 => ⟨S_, .f32⟩
  | 113 => ⟨S8192x4, .f32⟩
  | 114 => ⟨S8192x4x1, .f32⟩
  | 115 => ⟨S8192x4x256, .f32⟩
  | 116 => ⟨S8192x4x256, .f32⟩
  | 117 => ⟨S8192x4x1, .f32⟩
  | 118 => ⟨S_, .f32⟩
  | 119 => ⟨S8192x4x1, .f32⟩
  | 120 => ⟨S8192x4x1, .f32⟩
  | 121 => ⟨S_, .f32⟩
  | 122 => ⟨S8192x4, .f32⟩
  | 123 => ⟨S8192x4x256, .f32⟩
  | 124 => ⟨S8192x4x256, .f32⟩
  | 125 => ⟨S8192x4x256, .f32⟩
  | 126 => ⟨S8192x4x256, .f32⟩
  | 127 => ⟨S8192x4x256, .f32⟩
  | _ => ⟨S8192x7680, .bf16⟩

abbrev hbmTy0_2 (i : Nat) : BufTy := match i % 128 with
  | 0 => ⟨S256x32x4x256, .f32⟩
  | 1 => ⟨S4x256x32x256, .f32⟩
  | 2 => ⟨S256x4x32x256, .f32⟩
  | 3 => ⟨S_, .f32⟩
  | 4 => ⟨S4x128x256, .f32⟩
  | 5 => ⟨S_, .f32⟩
  | 6 => ⟨S256x4x32x128, .f32⟩
  | 7 => ⟨S_, .f32⟩
  | 8 => ⟨S256x4x32x128, .f32⟩
  | 9 => ⟨S_, .f32⟩
  | 10 => ⟨S256x4x32x256, .f32⟩
  | 11 => ⟨S_, .f32⟩
  | 12 => ⟨S256x4x128, .f32⟩
  | 13 => ⟨S_, .i32⟩
  | 14 => ⟨S256x4x32x256, .f32⟩
  | 15 => ⟨S256x4x128x256, .f32⟩
  | 16 => ⟨S256x4x32x128, .f32⟩
  | 17 => ⟨S256x4x128x1, .f32⟩
  | 18 => ⟨S256x4x32x256, .f32⟩
  | 19 => ⟨S256x4x32x128, .f32⟩
  | 20 => ⟨S_, .i32⟩
  | 21 => ⟨S4x128x256, .f32⟩
  | 22 => ⟨S256x4x32x128, .f32⟩
  | 23 => ⟨S256x4x32x128, .f32⟩
  | 24 => ⟨S256x4x32x256, .f32⟩
  | 25 => ⟨S256x4x128, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S1x4x32x256, .f32⟩
  | 36 => ⟨S4x32x256, .f32⟩
  | 37 => ⟨S_, .i32⟩
  | 38 => ⟨S_, .i32⟩
  | 39 => ⟨S_, .i32⟩
  | 40 => ⟨S1x4x128x256, .f32⟩
  | 41 => ⟨S4x128x256, .f32⟩
  | 42 => ⟨S_, .i32⟩
  | 43 => ⟨S_, .i32⟩
  | 44 => ⟨S_, .i32⟩
  | 45 => ⟨S1x4x32x128, .f32⟩
  | 46 => ⟨S4x32x128, .f32⟩
  | 47 => ⟨S_, .i32⟩
  | 48 => ⟨S_, .i32⟩
  | 49 => ⟨S_, .i32⟩
  | 50 => ⟨S1x4x128x1, .f32⟩
  | 51 => ⟨S4x128x1, .f32⟩
  | 52 => ⟨S_, .i32⟩
  | 53 => ⟨S_, .i32⟩
  | 54 => ⟨S_, .i32⟩
  | 55 => ⟨S1x4x32x256, .f32⟩
  | 56 => ⟨S4x32x256, .f32⟩
  | 57 => ⟨S_, .i32⟩
  | 58 => ⟨S_, .i32⟩
  | 59 => ⟨S_, .i32⟩
  | 60 => ⟨S1x4x32x128, .f32⟩
  | 61 => ⟨S4x32x128, .f32⟩
  | 62 => ⟨S4x256x32, .f32⟩
  | 63 => ⟨S4x32x256, .f32⟩
  | 64 => ⟨S4x128x32, .f32⟩
  | 65 => ⟨S4x32x128, .f32⟩
  | 66 => ⟨S4x128x256, .f32⟩
  | 67 => ⟨S4x128x256, .f32⟩
  | 68 => ⟨S4x128x256, .f32⟩
  | 69 => ⟨S_, .f32⟩
  | 70 => ⟨S4x128, .f32⟩
  | 71 => ⟨S4x128x1, .f32⟩
  | 72 => ⟨S_, .f32⟩
  | 73 => ⟨S4x128, .f32⟩
  | 74 => ⟨S4x256x128, .f32⟩
  | 75 => ⟨S4x128x256, .f32⟩
  | 76 => ⟨S4x128x256, .f32⟩
  | 77 => ⟨S4x32x128, .f32⟩
  | 78 => ⟨S1x4x32x128, .f32⟩
  | 79 => ⟨S_, .i32⟩
  | 80 => ⟨S_, .i32⟩
  | 81 => ⟨S_, .i32⟩
  | 82 => ⟨S256x4x32x128, .f32⟩
  | 83 => ⟨S1x4x32x128, .f32⟩
  | 84 => ⟨S_, .i32⟩
  | 85 => ⟨S_, .i32⟩
  | 86 => ⟨S_, .i32⟩
  | 87 => ⟨S256x4x32x128, .f32⟩
  | 88 => ⟨S1x4x32x256, .f32⟩
  | 89 => ⟨S_, .i32⟩
  | 90 => ⟨S_, .i32⟩
  | 91 => ⟨S_, .i32⟩
  | 92 => ⟨S256x4x32x256, .f32⟩
  | 93 => ⟨S1x4x128, .f32⟩
  | 94 => ⟨S_, .i32⟩
  | 95 => ⟨S_, .i32⟩
  | 96 => ⟨S256x4x128, .f32⟩
  | 97 => ⟨S_, .i32⟩
  | 98 => ⟨S_, .i32⟩
  | 99 => ⟨S4x256x128, .f32⟩
  | 100 => ⟨S4x256x128, .f32⟩
  | 101 => ⟨S4x256x1x128, .f32⟩
  | 102 => ⟨S4x256x32x256, .f32⟩
  | 103 => ⟨S4x256x32x128, .f32⟩
  | 104 => ⟨S4x256x32x128, .f32⟩
  | 105 => ⟨S4x256x256x32, .f32⟩
  | 106 => ⟨S4x256x32x256, .f32⟩
  | 107 => ⟨S4x256x32x256, .f32⟩
  | 108 => ⟨S4x256x32x32, .f32⟩
  | 109 => ⟨S_, .f32⟩
  | 110 => ⟨S4x256x32x32, .f32⟩
  | 111 => ⟨S4x256x32x32, .f32⟩
  | 112 => ⟨S4x256x32x128, .f32⟩
  | 113 => ⟨S4x256x32x128, .f32⟩
  | 114 => ⟨S4x256x32x128, .f32⟩
  | 115 => ⟨S4x256x32x128, .f32⟩
  | 116 => ⟨S4x256x32x128, .f32⟩
  | 117 => ⟨S4x256x32x128, .f32⟩
  | 118 => ⟨S_, .f32⟩
  | 119 => ⟨S4x256x128, .f32⟩
  | 120 => ⟨S4x256x1x128, .f32⟩
  | 121 => ⟨S4x256x32x128, .f32⟩
  | 122 => ⟨S4x256x1x128, .f32⟩
  | 123 => ⟨S4x256x32x128, .f32⟩
  | 124 => ⟨S4x256x32x128, .f32⟩
  | 125 => ⟨S4x256x32x128, .f32⟩
  | 126 => ⟨S4x256x32x128, .f32⟩
  | 127 => ⟨S4x256x32x128, .f32⟩
  | _ => ⟨S8192x7680, .bf16⟩

abbrev hbmTy0_3 (i : Nat) : BufTy := match i % 128 with
  | 0 => ⟨S4x256x32x128, .f32⟩
  | 1 => ⟨S4x256x32x128, .f32⟩
  | 2 => ⟨S4x256x32x128, .f32⟩
  | 3 => ⟨S4x256x32x128, .f32⟩
  | 4 => ⟨S4x256x32x128, .f32⟩
  | 5 => ⟨S_, .f32⟩
  | 6 => ⟨S4x256x32x128, .f32⟩
  | 7 => ⟨S4x256x32x128, .f32⟩
  | 8 => ⟨S_, .f32⟩
  | 9 => ⟨S_, .f32⟩
  | 10 => ⟨S4x256x32x128, .f32⟩
  | 11 => ⟨S256x32x4x128, .f32⟩
  | 12 => ⟨S8192x512, .f32⟩
  | 13 => ⟨S256x32x4x256, .f32⟩
  | 14 => ⟨S8192x1024, .f32⟩
  | 15 => ⟨S256x32x4x128, .f32⟩
  | 16 => ⟨S8192x512, .f32⟩
  | 17 => ⟨S_, .f32⟩
  | 18 => ⟨S4x256x32x128, .f32⟩
  | 19 => ⟨S4x256x32x128, .f32⟩
  | 20 => ⟨S256x32x4x128, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S512, .f32⟩
  | 30 => ⟨S1x512, .f32⟩
  | 31 => ⟨S_, .f32⟩
  | 32 => ⟨S512, .f32⟩
  | 33 => ⟨S512x128, .f32⟩
  | 34 => ⟨S128x512, .f32⟩
  | 35 => ⟨S8192x128, .f32⟩
  | 36 => ⟨S8192x512, .bf16⟩
  | 37 => ⟨S8192x512, .bf16⟩
  | 38 => ⟨S8192x1024, .bf16⟩
  | 39 => ⟨S8192x1024, .bf16⟩
  | 40 => ⟨S8192x128, .bf16⟩
  | 41 => ⟨S1x512, .f32⟩
  | 42 => ⟨S1x1024, .f32⟩
  | _ => ⟨S8192x7680, .bf16⟩

abbrev hbmTy (i : Nat) : BufTy := match i / 128 with
  | 0 => hbmTy0_0 i
  | 1 => hbmTy0_1 i
  | 2 => hbmTy0_2 i
  | 3 => hbmTy0_3 i
  | _ => ⟨S8192x7680, .bf16⟩

abbrev bufTy : (tb : Table) → Fin (tcTables nBuf tb) → BufTy
  | .hbm, ⟨i, _⟩ => hbmTy i
  | _, _ => ⟨S8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v13_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v13_2 : Ref sig .tc := ⟨.hbm, 65, rfl⟩
abbrev main_v13_0 : Ref sig .tc := ⟨.hbm, 66, rfl⟩
abbrev main_cst : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_cst_0 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_call1_call0_cst : Ref sig .tc := ⟨.hbm, 81, rfl⟩
abbrev main_call1_call0_v0 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_c : Ref sig .tc := ⟨.hbm, 94, rfl⟩
abbrev main_v37 : Ref sig .tc := ⟨.hbm, 95, rfl⟩
abbrev main_call2_v0 : Ref sig .tc := ⟨.hbm, 96, rfl⟩
abbrev main_call2_c : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_c_0 : Ref sig .tc := ⟨.hbm, 102, rfl⟩
abbrev main_call2_v5 : Ref sig .tc := ⟨.hbm, 103, rfl⟩
abbrev main_v38 : Ref sig .tc := ⟨.hbm, 104, rfl⟩
abbrev main_v39 : Ref sig .tc := ⟨.hbm, 105, rfl⟩
abbrev main_cst_1 : Ref sig .tc := ⟨.hbm, 106, rfl⟩
abbrev main_call3_v0 : Ref sig .tc := ⟨.hbm, 107, rfl⟩
abbrev main_v40_1 : Ref sig .tc := ⟨.hbm, 108, rfl⟩
abbrev main_call3_v2 : Ref sig .tc := ⟨.hbm, 109, rfl⟩
abbrev main_v40_0 : Ref sig .tc := ⟨.hbm, 110, rfl⟩
abbrev main_call3_cst : Ref sig .tc := ⟨.hbm, 111, rfl⟩
abbrev main_v40_2 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_cst_2 : Ref sig .tc := ⟨.hbm, 120, rfl⟩
abbrev main_v48 : Ref sig .tc := ⟨.hbm, 121, rfl⟩
abbrev main_cst_3 : Ref sig .tc := ⟨.hbm, 122, rfl⟩
abbrev main_v49 : Ref sig .tc := ⟨.hbm, 123, rfl⟩
abbrev main_cst_4 : Ref sig .tc := ⟨.hbm, 124, rfl⟩
abbrev main_v50 : Ref sig .tc := ⟨.hbm, 125, rfl⟩
abbrev main_cst_5 : Ref sig .tc := ⟨.hbm, 126, rfl⟩
abbrev main_v51 : Ref sig .tc := ⟨.hbm, 127, rfl⟩
abbrev main_c_6 : Ref sig .tc := ⟨.hbm, 128, rfl⟩
abbrev main_v52_0 : Ref sig .tc := ⟨.hbm, 129, rfl⟩
abbrev main_v52_1 : Ref sig .tc := ⟨.hbm, 130, rfl⟩
abbrev main_v52_2 : Ref sig .tc := ⟨.hbm, 131, rfl⟩
abbrev main_v52_3 : Ref sig .tc := ⟨.hbm, 132, rfl⟩
abbrev main_v52_4 : Ref sig .tc := ⟨.hbm, 133, rfl⟩
abbrev main_v52_5 : Ref sig .tc := ⟨.hbm, 134, rfl⟩
abbrev main_v52_6 : Ref sig .tc := ⟨.hbm, 135, rfl⟩
abbrev main_v52_7 : Ref sig .tc := ⟨.hbm, 136, rfl⟩
abbrev main_v52_8 : Ref sig .tc := ⟨.hbm, 137, rfl⟩
abbrev main_while0c_c_37 : Ref sig .tc := ⟨.hbm, 138, rfl⟩
abbrev main_while0c_v171 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_call4_c_1 : Ref sig .tc := ⟨.hbm, 142, rfl⟩
abbrev main_while0b_call4_v0 : Ref sig .tc := ⟨.hbm, 143, rfl⟩
abbrev main_while0b_v171 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_c_1 : Ref sig .tc := ⟨.hbm, 147, rfl⟩
abbrev main_while0b_call5_v0 : Ref sig .tc := ⟨.hbm, 148, rfl⟩
abbrev main_while0b_v172 : Ref sig .tc := ⟨.hbm, 149, rfl⟩
abbrev main_while0b_call6_c : Ref sig .tc := ⟨.hbm, 150, rfl⟩
abbrev main_while0b_call6_c_0 : Ref sig .tc := ⟨.hbm, 151, rfl⟩
abbrev main_while0b_call6_c_1 : Ref sig .tc := ⟨.hbm, 152, rfl⟩
abbrev main_while0b_call6_v0 : Ref sig .tc := ⟨.hbm, 153, rfl⟩
abbrev main_while0b_v173 : Ref sig .tc := ⟨.hbm, 154, rfl⟩
abbrev main_while0b_call7_c : Ref sig .tc := ⟨.hbm, 155, rfl⟩
abbrev main_while0b_call7_c_0 : Ref sig .tc := ⟨.hbm, 156, rfl⟩
abbrev main_while0b_call7_v0 : Ref sig .tc := ⟨.hbm, 157, rfl⟩
abbrev main_while0b_v174 : Ref sig .tc := ⟨.hbm, 158, rfl⟩
abbrev main_while0b_v175 : Ref sig .tc := ⟨.hbm, 159, rfl⟩
abbrev main_while0b_v176 : Ref sig .tc := ⟨.hbm, 160, rfl⟩
abbrev main_while0b_v177 : Ref sig .tc := ⟨.hbm, 161, rfl⟩
abbrev main_while0b_v178 : Ref sig .tc := ⟨.hbm, 162, rfl⟩
abbrev main_while0b_v179 : Ref sig .tc := ⟨.hbm, 163, rfl⟩
abbrev main_while0b_v180 : Ref sig .tc := ⟨.hbm, 164, rfl⟩
abbrev main_while0b_call8_v0 : Ref sig .tc := ⟨.hbm, 165, rfl⟩
abbrev main_while0b_call8_c : Ref sig .tc := ⟨.hbm, 166, rfl⟩
abbrev main_while0b_call8_c_0 : Ref sig .tc := ⟨.hbm, 167, rfl⟩
abbrev main_while0b_call8_c_1 : Ref sig .tc := ⟨.hbm, 168, rfl⟩
abbrev main_while0b_v181 : Ref sig .tc := ⟨.hbm, 169, rfl⟩
abbrev main_while0b_call9_v0 : Ref sig .tc := ⟨.hbm, 170, rfl⟩
abbrev main_while0b_call9_c : Ref sig .tc := ⟨.hbm, 171, rfl⟩
abbrev main_while0b_call9_c_0 : Ref sig .tc := ⟨.hbm, 172, rfl⟩
abbrev main_while0b_call9_c_1 : Ref sig .tc := ⟨.hbm, 173, rfl⟩
abbrev main_while0b_v182 : Ref sig .tc := ⟨.hbm, 174, rfl⟩
abbrev main_while0b_call10_v0 : Ref sig .tc := ⟨.hbm, 175, rfl⟩
abbrev main_while0b_call10_c : Ref sig .tc := ⟨.hbm, 176, rfl⟩
abbrev main_while0b_call10_c_0 : Ref sig .tc := ⟨.hbm, 177, rfl⟩
abbrev main_while0b_call10_c_1 : Ref sig .tc := ⟨.hbm, 178, rfl⟩
abbrev main_while0b_v183 : Ref sig .tc := ⟨.hbm, 179, rfl⟩
abbrev main_while0b_c_37 : Ref sig .tc := ⟨.hbm, 180, rfl⟩
abbrev main_while0b_v184 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_cst_7 : Ref sig .tc := ⟨.hbm, 187, rfl⟩
abbrev main_v58 : Ref sig .tc := ⟨.hbm, 188, rfl⟩
abbrev main_v59 : Ref sig .tc := ⟨.hbm, 189, rfl⟩
abbrev main_cst_8 : Ref sig .tc := ⟨.hbm, 190, rfl⟩
abbrev main_v60 : Ref sig .tc := ⟨.hbm, 191, rfl⟩
abbrev main_v61 : Ref sig .tc := ⟨.hbm, 192, rfl⟩
abbrev main_cst_9 : Ref sig .tc := ⟨.hbm, 193, rfl⟩
abbrev main_v62 : Ref sig .tc := ⟨.hbm, 194, rfl⟩
abbrev main_v63 : Ref sig .tc := ⟨.hbm, 195, rfl⟩
abbrev main_v64 : Ref sig .tc := ⟨.hbm, 196, rfl⟩
abbrev main_v65 : Ref sig .tc := ⟨.hbm, 197, rfl⟩
abbrev main_cst_10 : Ref sig .tc := ⟨.hbm, 198, rfl⟩
abbrev main_v66 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_call11_v0 : Ref sig .tc := ⟨.hbm, 207, rfl⟩
abbrev main_call11_v1 : Ref sig .tc := ⟨.hbm, 208, rfl⟩
abbrev main_call11_cst : Ref sig .tc := ⟨.hbm, 209, rfl⟩
abbrev main_call11_v2 : Ref sig .tc := ⟨.hbm, 210, rfl⟩
abbrev main_call11_v3 : Ref sig .tc := ⟨.hbm, 211, rfl⟩
abbrev main_call11_cst_0 : Ref sig .tc := ⟨.hbm, 212, rfl⟩
abbrev main_call11_v4 : Ref sig .tc := ⟨.hbm, 213, rfl⟩
abbrev main_v74_2 : Ref sig .tc := ⟨.hbm, 214, rfl⟩
abbrev main_call11_cst_1 : Ref sig .tc := ⟨.hbm, 215, rfl⟩
abbrev main_call11_v6 : Ref sig .tc := ⟨.hbm, 216, rfl⟩
abbrev main_call11_v7 : Ref sig .tc := ⟨.hbm, 217, rfl⟩
abbrev main_v74_1 : Ref sig .tc := ⟨.hbm, 218, rfl⟩
abbrev main_v74_0 : Ref sig .tc := ⟨.hbm, 219, rfl⟩
abbrev main_v75 : Ref sig .tc := ⟨.hbm, 220, rfl⟩
abbrev main_v76 : Ref sig .tc := ⟨.hbm, 221, rfl⟩
abbrev main_cst_11 : Ref sig .tc := ⟨.hbm, 222, rfl⟩
abbrev main_v77 : Ref sig .tc := ⟨.hbm, 223, rfl⟩
abbrev main_v78 : Ref sig .tc := ⟨.hbm, 224, rfl⟩
abbrev main_v79 : Ref sig .tc := ⟨.hbm, 225, rfl⟩
abbrev main_call12_v0 : Ref sig .tc := ⟨.hbm, 226, rfl⟩
abbrev main_call12_v1 : Ref sig .tc := ⟨.hbm, 227, rfl⟩
abbrev main_call12_v2 : Ref sig .tc := ⟨.hbm, 228, rfl⟩
abbrev main_v80 : Ref sig .tc := ⟨.hbm, 229, rfl⟩
abbrev main_v81 : Ref sig .tc := ⟨.hbm, 230, rfl⟩
abbrev main_cst_12 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_v85 : Ref sig .tc := ⟨.hbm, 235, rfl⟩
abbrev main_cst_13 : Ref sig .tc := ⟨.hbm, 236, rfl⟩
abbrev main_v86 : Ref sig .tc := ⟨.hbm, 237, rfl⟩
abbrev main_v87 : Ref sig .tc := ⟨.hbm, 238, rfl⟩
abbrev main_v88 : Ref sig .tc := ⟨.hbm, 239, rfl⟩
abbrev main_cst_14 : Ref sig .tc := ⟨.hbm, 240, rfl⟩
abbrev main_v89 : Ref sig .tc := ⟨.hbm, 241, rfl⟩
abbrev main_v90 : Ref sig .tc := ⟨.hbm, 242, rfl⟩
abbrev main_v91 : Ref sig .tc := ⟨.hbm, 243, rfl⟩
abbrev main_v92 : Ref sig .tc := ⟨.hbm, 244, rfl⟩
abbrev main_v93 : Ref sig .tc := ⟨.hbm, 245, rfl⟩
abbrev main_cst_15 : Ref sig .tc := ⟨.hbm, 246, rfl⟩
abbrev main_v94 : Ref sig .tc := ⟨.hbm, 247, rfl⟩
abbrev main_v95 : Ref sig .tc := ⟨.hbm, 248, rfl⟩
abbrev main_cst_16 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_cst_17 : Ref sig .tc := ⟨.hbm, 259, rfl⟩
abbrev main_v105 : Ref sig .tc := ⟨.hbm, 260, rfl⟩
abbrev main_cst_18 : Ref sig .tc := ⟨.hbm, 261, rfl⟩
abbrev main_v106 : Ref sig .tc := ⟨.hbm, 262, rfl⟩
abbrev main_cst_19 : Ref sig .tc := ⟨.hbm, 263, rfl⟩
abbrev main_v107 : Ref sig .tc := ⟨.hbm, 264, rfl⟩
abbrev main_cst_20 : Ref sig .tc := ⟨.hbm, 265, rfl⟩
abbrev main_v108 : Ref sig .tc := ⟨.hbm, 266, rfl⟩
abbrev main_cst_21 : Ref sig .tc := ⟨.hbm, 267, rfl⟩
abbrev main_v109 : Ref sig .tc := ⟨.hbm, 268, rfl⟩
abbrev main_c_22 : Ref sig .tc := ⟨.hbm, 269, rfl⟩
abbrev main_v110_0 : Ref sig .tc := ⟨.hbm, 270, rfl⟩
abbrev main_v110_1 : Ref sig .tc := ⟨.hbm, 271, rfl⟩
abbrev main_v110_2 : Ref sig .tc := ⟨.hbm, 272, rfl⟩
abbrev main_v110_3 : Ref sig .tc := ⟨.hbm, 273, rfl⟩
abbrev main_v110_4 : Ref sig .tc := ⟨.hbm, 274, rfl⟩
abbrev main_v110_5 : Ref sig .tc := ⟨.hbm, 275, rfl⟩
abbrev main_v110_6 : Ref sig .tc := ⟨.hbm, 276, rfl⟩
abbrev main_v110_7 : Ref sig .tc := ⟨.hbm, 277, rfl⟩
abbrev main_v110_8 : Ref sig .tc := ⟨.hbm, 278, rfl⟩
abbrev main_v110_9 : Ref sig .tc := ⟨.hbm, 279, rfl⟩
abbrev main_v110_10 : Ref sig .tc := ⟨.hbm, 280, rfl⟩
abbrev main_v110_11 : Ref sig .tc := ⟨.hbm, 281, rfl⟩
abbrev main_while1c_c_40 : Ref sig .tc := ⟨.hbm, 282, rfl⟩
abbrev main_while1c_v171 : Ref sig .tc := ⟨.hbm, 283, rfl⟩
abbrev main_while1b_c_40 : Ref sig .tc := ⟨.hbm, 284, rfl⟩
abbrev main_while1b_v171 : Ref sig .tc := ⟨.hbm, 285, rfl⟩
abbrev main_while1b_c_41 : Ref sig .tc := ⟨.hbm, 286, rfl⟩
abbrev main_while1b_v172 : Ref sig .tc := ⟨.hbm, 287, rfl⟩
abbrev main_while1b_call13_c : Ref sig .tc := ⟨.hbm, 288, rfl⟩
abbrev main_while1b_call13_c_0 : Ref sig .tc := ⟨.hbm, 289, rfl⟩
abbrev main_while1b_call13_c_1 : Ref sig .tc := ⟨.hbm, 290, rfl⟩
abbrev main_while1b_call13_v0 : Ref sig .tc := ⟨.hbm, 291, rfl⟩
abbrev main_while1b_v173 : Ref sig .tc := ⟨.hbm, 292, rfl⟩
abbrev main_while1b_call14_c : Ref sig .tc := ⟨.hbm, 293, rfl⟩
abbrev main_while1b_call14_c_0 : Ref sig .tc := ⟨.hbm, 294, rfl⟩
abbrev main_while1b_call14_c_1 : Ref sig .tc := ⟨.hbm, 295, rfl⟩
abbrev main_while1b_call14_v0 : Ref sig .tc := ⟨.hbm, 296, rfl⟩
abbrev main_while1b_v174 : Ref sig .tc := ⟨.hbm, 297, rfl⟩
abbrev main_while1b_call15_c : Ref sig .tc := ⟨.hbm, 298, rfl⟩
abbrev main_while1b_call15_c_0 : Ref sig .tc := ⟨.hbm, 299, rfl⟩
abbrev main_while1b_call15_c_1 : Ref sig .tc := ⟨.hbm, 300, rfl⟩
abbrev main_while1b_call15_v0 : Ref sig .tc := ⟨.hbm, 301, rfl⟩
abbrev main_while1b_v175 : Ref sig .tc := ⟨.hbm, 302, rfl⟩
abbrev main_while1b_call16_c : Ref sig .tc := ⟨.hbm, 303, rfl⟩
abbrev main_while1b_call16_c_0 : Ref sig .tc := ⟨.hbm, 304, rfl⟩
abbrev main_while1b_call16_c_1 : Ref sig .tc := ⟨.hbm, 305, rfl⟩
abbrev main_while1b_call16_v0 : Ref sig .tc := ⟨.hbm, 306, rfl⟩
abbrev main_while1b_v176 : Ref sig .tc := ⟨.hbm, 307, rfl⟩
abbrev main_while1b_call17_c : Ref sig .tc := ⟨.hbm, 308, rfl⟩
abbrev main_while1b_call17_c_0 : Ref sig .tc := ⟨.hbm, 309, rfl⟩
abbrev main_while1b_call17_c_1 : Ref sig .tc := ⟨.hbm, 310, rfl⟩
abbrev main_while1b_call17_v0 : Ref sig .tc := ⟨.hbm, 311, rfl⟩
abbrev main_while1b_v177 : Ref sig .tc := ⟨.hbm, 312, rfl⟩
abbrev main_while1b_call18_c : Ref sig .tc := ⟨.hbm, 313, rfl⟩
abbrev main_while1b_call18_c_0 : Ref sig .tc := ⟨.hbm, 314, rfl⟩
abbrev main_while1b_call18_c_1 : Ref sig .tc := ⟨.hbm, 315, rfl⟩
abbrev main_while1b_call18_v0 : Ref sig .tc := ⟨.hbm, 316, rfl⟩
abbrev main_while1b_v178 : Ref sig .tc := ⟨.hbm, 317, rfl⟩
abbrev main_while1b_v179 : Ref sig .tc := ⟨.hbm, 318, rfl⟩
abbrev main_while1b_v180 : Ref sig .tc := ⟨.hbm, 319, rfl⟩
abbrev main_while1b_v181 : Ref sig .tc := ⟨.hbm, 320, rfl⟩
abbrev main_while1b_v182 : Ref sig .tc := ⟨.hbm, 321, rfl⟩
abbrev main_while1b_v183 : Ref sig .tc := ⟨.hbm, 322, rfl⟩
abbrev main_while1b_v184 : Ref sig .tc := ⟨.hbm, 323, rfl⟩
abbrev main_while1b_v185 : Ref sig .tc := ⟨.hbm, 324, rfl⟩
abbrev main_while1b_cst_42 : Ref sig .tc := ⟨.hbm, 325, rfl⟩
abbrev main_while1b_v186 : Ref sig .tc := ⟨.hbm, 326, rfl⟩
abbrev main_while1b_v187 : Ref sig .tc := ⟨.hbm, 327, rfl⟩
abbrev main_while1b_cst_43 : Ref sig .tc := ⟨.hbm, 328, rfl⟩
abbrev main_while1b_v188 : Ref sig .tc := ⟨.hbm, 329, rfl⟩
abbrev main_while1b_v189 : Ref sig .tc := ⟨.hbm, 330, rfl⟩
abbrev main_while1b_v190 : Ref sig .tc := ⟨.hbm, 331, rfl⟩
abbrev main_while1b_v191 : Ref sig .tc := ⟨.hbm, 332, rfl⟩
abbrev main_while1b_v192 : Ref sig .tc := ⟨.hbm, 333, rfl⟩
abbrev main_while1b_call19_v0 : Ref sig .tc := ⟨.hbm, 334, rfl⟩
abbrev main_while1b_call19_c : Ref sig .tc := ⟨.hbm, 335, rfl⟩
abbrev main_while1b_call19_c_0 : Ref sig .tc := ⟨.hbm, 336, rfl⟩
abbrev main_while1b_call19_c_1 : Ref sig .tc := ⟨.hbm, 337, rfl⟩
abbrev main_while1b_v193 : Ref sig .tc := ⟨.hbm, 338, rfl⟩
abbrev main_while1b_call20_v0 : Ref sig .tc := ⟨.hbm, 339, rfl⟩
abbrev main_while1b_call20_c : Ref sig .tc := ⟨.hbm, 340, rfl⟩
abbrev main_while1b_call20_c_0 : Ref sig .tc := ⟨.hbm, 341, rfl⟩
abbrev main_while1b_call20_c_1 : Ref sig .tc := ⟨.hbm, 342, rfl⟩
abbrev main_while1b_v194 : Ref sig .tc := ⟨.hbm, 343, rfl⟩
abbrev main_while1b_call21_v0 : Ref sig .tc := ⟨.hbm, 344, rfl⟩
abbrev main_while1b_call21_c : Ref sig .tc := ⟨.hbm, 345, rfl⟩
abbrev main_while1b_call21_c_0 : Ref sig .tc := ⟨.hbm, 346, rfl⟩
abbrev main_while1b_call21_c_1 : Ref sig .tc := ⟨.hbm, 347, rfl⟩
abbrev main_while1b_v195 : Ref sig .tc := ⟨.hbm, 348, rfl⟩
abbrev main_while1b_call22_v0 : Ref sig .tc := ⟨.hbm, 349, rfl⟩
abbrev main_while1b_call22_c : Ref sig .tc := ⟨.hbm, 350, rfl⟩
abbrev main_while1b_call22_c_0 : Ref sig .tc := ⟨.hbm, 351, rfl⟩
abbrev main_while1b_v196 : Ref sig .tc := ⟨.hbm, 352, rfl⟩
abbrev main_while1b_c_44 : Ref sig .tc := ⟨.hbm, 353, rfl⟩
abbrev main_while1b_v197 : Ref sig .tc := ⟨.hbm, 354, rfl⟩
abbrev main_v111 : Ref sig .tc := ⟨.hbm, 355, rfl⟩
abbrev main_v112 : Ref sig .tc := ⟨.hbm, 356, rfl⟩
abbrev main_v113 : Ref sig .tc := ⟨.hbm, 357, rfl⟩
abbrev main_v114 : Ref sig .tc := ⟨.hbm, 358, rfl⟩
abbrev main_v115 : Ref sig .tc := ⟨.hbm, 359, rfl⟩
abbrev main_v116 : Ref sig .tc := ⟨.hbm, 360, rfl⟩
abbrev main_v117 : Ref sig .tc := ⟨.hbm, 361, rfl⟩
abbrev main_v118 : Ref sig .tc := ⟨.hbm, 362, rfl⟩
abbrev main_v119 : Ref sig .tc := ⟨.hbm, 363, rfl⟩
abbrev main_v120 : Ref sig .tc := ⟨.hbm, 364, rfl⟩
abbrev main_call23_cst : Ref sig .tc := ⟨.hbm, 365, rfl⟩
abbrev main_call23_v0 : Ref sig .tc := ⟨.hbm, 366, rfl⟩
abbrev main_v121 : Ref sig .tc := ⟨.hbm, 367, rfl⟩
abbrev main_v122 : Ref sig .tc := ⟨.hbm, 368, rfl⟩
abbrev main_v123 : Ref sig .tc := ⟨.hbm, 369, rfl⟩
abbrev main_v124 : Ref sig .tc := ⟨.hbm, 370, rfl⟩
abbrev main_v125 : Ref sig .tc := ⟨.hbm, 371, rfl⟩
abbrev main_v126 : Ref sig .tc := ⟨.hbm, 372, rfl⟩
abbrev main_v127 : Ref sig .tc := ⟨.hbm, 373, rfl⟩
abbrev main_cst_23 : Ref sig .tc := ⟨.hbm, 374, rfl⟩
abbrev main_v128 : Ref sig .tc := ⟨.hbm, 375, rfl⟩
abbrev main_v129 : Ref sig .tc := ⟨.hbm, 376, rfl⟩
abbrev main_v130 : Ref sig .tc := ⟨.hbm, 377, rfl⟩
abbrev main_v131 : Ref sig .tc := ⟨.hbm, 378, rfl⟩
abbrev main_v132 : Ref sig .tc := ⟨.hbm, 379, rfl⟩
abbrev main_v133 : Ref sig .tc := ⟨.hbm, 380, rfl⟩
abbrev main_v134 : Ref sig .tc := ⟨.hbm, 381, rfl⟩
abbrev main_v135 : Ref sig .tc := ⟨.hbm, 382, rfl⟩
abbrev main_v136 : Ref sig .tc := ⟨.hbm, 383, rfl⟩
abbrev main_v137 : Ref sig .tc := ⟨.hbm, 384, rfl⟩
abbrev main_v138 : Ref sig .tc := ⟨.hbm, 385, rfl⟩
abbrev main_v139 : Ref sig .tc := ⟨.hbm, 386, rfl⟩
abbrev main_v140 : Ref sig .tc := ⟨.hbm, 387, rfl⟩
abbrev main_v141 : Ref sig .tc := ⟨.hbm, 388, rfl⟩
abbrev main_cst_24 : Ref sig .tc := ⟨.hbm, 389, rfl⟩
abbrev main_v142 : Ref sig .tc := ⟨.hbm, 390, rfl⟩
abbrev main_v143 : Ref sig .tc := ⟨.hbm, 391, rfl⟩
abbrev main_call24_call0_cst : Ref sig .tc := ⟨.hbm, 392, rfl⟩
abbrev main_call24_call0_v0 : Ref sig .tc := ⟨.hbm, 393, rfl⟩
abbrev main_v144 : Ref sig .tc := ⟨.hbm, 394, rfl⟩
abbrev main_v145 : Ref sig .tc := ⟨.hbm, 395, rfl⟩
abbrev main_v146 : Ref sig .tc := ⟨.hbm, 396, rfl⟩
abbrev main_v147 : Ref sig .tc := ⟨.hbm, 397, rfl⟩
abbrev main_v148 : Ref sig .tc := ⟨.hbm, 398, rfl⟩
abbrev main_v149 : Ref sig .tc := ⟨.hbm, 399, rfl⟩
abbrev main_v150 : Ref sig .tc := ⟨.hbm, 400, rfl⟩
abbrev main_cst_25 : Ref sig .tc := ⟨.hbm, 401, rfl⟩
abbrev main_v151 : Ref sig .tc := ⟨.hbm, 402, rfl⟩
abbrev main_v152 : Ref sig .tc := ⟨.hbm, 403, rfl⟩
abbrev main_v153 : Ref sig .tc := ⟨.hbm, 404, rfl⟩
abbrev main_v154 : Ref sig .tc := ⟨.hbm, 405, rfl⟩
abbrev main_cst_26 : Ref sig .tc := ⟨.hbm, 406, rfl⟩
abbrev main_v155 : Ref sig .tc := ⟨.hbm, 407, rfl⟩
abbrev main_v156 : Ref sig .tc := ⟨.hbm, 408, rfl⟩
abbrev main_call25_v0 : Ref sig .tc := ⟨.hbm, 409, rfl⟩
abbrev main_call25_v1 : Ref sig .tc := ⟨.hbm, 410, rfl⟩
abbrev main_v157 : Ref sig .tc := ⟨.hbm, 411, rfl⟩
abbrev main_cst_27 : Ref sig .tc := ⟨.hbm, 412, rfl⟩
abbrev main_v158 : Ref sig .tc := ⟨.hbm, 413, rfl⟩
abbrev main_v159 : Ref sig .tc := ⟨.hbm, 414, rfl⟩
abbrev main_cst_28 : Ref sig .tc := ⟨.hbm, 415, rfl⟩
abbrev main_v160 : Ref sig .tc := ⟨.hbm, 416, rfl⟩
abbrev main_v161 : Ref sig .tc := ⟨.hbm, 417, rfl⟩
abbrev main_v162 : Ref sig .tc := ⟨.hbm, 418, rfl⟩
abbrev main_v163 : Ref sig .tc := ⟨.hbm, 419, rfl⟩
abbrev main_v164 : Ref sig .tc := ⟨.hbm, 420, rfl⟩
abbrev main_v165 : Ref sig .tc := ⟨.hbm, 421, rfl⟩
abbrev main_v166 : Ref sig .tc := ⟨.hbm, 422, rfl⟩
abbrev main_v167 : Ref sig .tc := ⟨.hbm, 423, rfl⟩
abbrev main_v168 : Ref sig .tc := ⟨.hbm, 424, rfl⟩
abbrev main_v169 : Ref sig .tc := ⟨.hbm, 425, rfl⟩
abbrev main_v170 : Ref sig .tc := ⟨.hbm, 426, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== KernelW.lean ====
abbrev S8192x2048 : Shape := ⟨2, ![8192, 2048]⟩
abbrev S2x8192x5632 : Shape := ⟨3, ![2, 8192, 5632]⟩
abbrev S8x2048x1408 : Shape := ⟨3, ![8, 2048, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S512x1408 : Shape := ⟨2, ![512, 1408]⟩
abbrev S4096x1408 : Shape := ⟨2, ![4096, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWIdeal.lean ====
abbrev S8192x2048 : Shape := ⟨2, ![8192, 2048]⟩
abbrev S2x8192x5632 : Shape := ⟨3, ![2, 8192, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S11264x2048 : Shape := ⟨2, ![11264, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8192x2048, .f32⟩
  | .hbm, ⟨3, _⟩ => ⟨S_, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S1x8192x5632, .f32⟩
  | .hbm, ⟨11, _⟩ => ⟨S1x8192x5632, .f32⟩
  | .hbm, ⟨12, _⟩ => ⟨S2x8192x5632, .f32⟩
  | .hbm, ⟨13, _⟩ => ⟨S2x8192x5632, .f32⟩
  | .hbm, ⟨14, _⟩ => ⟨S1x8192x5632, .f32⟩
  | .hbm, ⟨15, _⟩ => ⟨S8192x5632, .f32⟩
  | .hbm, ⟨16, _⟩ => ⟨S1x8192x5632, .f32⟩
  | .hbm, ⟨17, _⟩ => ⟨S8192x5632, .f32⟩
  | .hbm, ⟨18, _⟩ => ⟨S8192x11264, .f32⟩
  | .hbm, ⟨19, _⟩ => ⟨S11264x2048, .f32⟩
  | .hbm, ⟨20, _⟩ => ⟨S2048x11264, .f32⟩
  | .hbm, ⟨21, _⟩ => ⟨S2048x8x1408, .f32⟩
  | .hbm, ⟨22, _⟩ => ⟨S8x2048x1408, .f32⟩
  | .hbm, ⟨23, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== KernelH.lean ====
abbrev S2x8192x5632 : Shape := ⟨3, ![2, 8192, 5632]⟩
abbrev S8x2048x1408 : Shape := ⟨3, ![8, 2048, 1408]⟩
abbrev S8192x2048 : Shape := ⟨2, ![8192, 2048]⟩
abbrev S1x512x5632 : Shape := ⟨3, ![1, 512, 5632]⟩
abbrev S4x1024x1408 : Shape := ⟨3, ![4, 1024, 1408]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S8x2048x1408, .bf16⟩
  | .hbm, ⟨2, _⟩ => ⟨S8192x2048, .bf16⟩
  | .local _ .vmem, ⟨0, _⟩ => ⟨S1x512x5632, .bf16⟩
  | .local _ .vmem, ⟨1, _⟩ => ⟨S1x512x5632, .bf16⟩
  | .local _ .vmem, ⟨2, _⟩ => ⟨S4x1024x1408, .bf16⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32_24 : BitVec 32 := 1#32
  let v33 : BitVec 1 := Scalar.cmpi .eq arg2 c1_i32_24
  let v34 : BitVec 32 := Scalar.extui v33
  let c0_i32_25 : BitVec 32 := 0#32
  let v35 : BitVec 1 := Scalar.cmpi .ne v34 c0_i32_25
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHIdeal.lean ====
abbrev S2x8192x5632 : Shape := ⟨3, ![2, 8192, 5632]⟩
abbrev S8x2048x1408 : Shape := ⟨3, ![8, 2048, 1408]⟩
abbrev S_ : Shape := ⟨0, ![]⟩
abbrev S8192x2048 : Shape := ⟨2, ![8192, 2048]⟩
abbrev S2048x8x1408 : Shape := ⟨3, ![2048, 8, 1408]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S8x2048x1408, .bf16⟩
  | .hbm, ⟨2, _⟩ => ⟨S8x2048x1408, .f32⟩
  | .hbm, ⟨3, _⟩ => ⟨S_, .f32⟩
  | .hbm, ⟨4, _⟩ => ⟨S8192x2048, .f32⟩
  | .hbm, ⟨5, _⟩ => ⟨S2048x8x1408, .f32⟩
  | .hbm, ⟨6, _⟩ => ⟨S2048x11264, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S1x8192x5632, .f32⟩
  | .hbm, ⟨11, _⟩ => ⟨S1x8192x5632, .f32⟩
  | .hbm, ⟨12, _⟩ => ⟨S2x8192x5632, .f32⟩
  | .hbm, ⟨13, _⟩ => ⟨S2x8192x5632, .f32⟩
  | .hbm, ⟨14, _⟩ => ⟨S1x8192x5632, .f32⟩
  | .hbm, ⟨15, _⟩ => ⟨S8192x5632, .f32⟩
  | .hbm, ⟨16, _⟩ => ⟨S1x8192x5632, .f32⟩
  | .hbm, ⟨17, _⟩ => ⟨S8192x5632, .f32⟩
  | .hbm, ⟨18, _⟩ => ⟨S8192x11264, .f32⟩
  | .hbm, ⟨19, _⟩ => ⟨S8192x2048, .f32⟩
  | .hbm, ⟨20, _⟩ => ⟨S8192x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== KernelO.lean ====
abbrev S8192x5632 : Shape := ⟨2, ![8192, 5632]⟩
abbrev S8192x2048 : Shape := ⟨2, ![8192, 2048]⟩
abbrev S5632x2048 : Shape := ⟨2, ![5632, 2048]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S_, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelJ.lean ====
abbrev S8192x2048 : Shape := ⟨2, ![8192, 2048]⟩
abbrev S7808x2048 : Shape := ⟨2, ![7808, 2048]⟩
abbrev S8192x7680 : Shape := ⟨2, ![8192, 7680]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S7808x2048, .bf16⟩
  | .hbm, ⟨2, _⟩ => ⟨S8192x7680, .bf16⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .bf16⟩
  | .local _ .vmem, ⟨5, _⟩ => ⟨S1024x1280, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceJIdeal.lean ====
abbrev S8192x2048 : Shape := ⟨2, ![8192, 2048]⟩
abbrev S7808x2048 : Shape := ⟨2, ![7808, 2048]⟩
abbrev S7680x2048 : Shape := ⟨2, ![7680, 2048]⟩
abbrev S2048x7680 : Shape := ⟨2, ![2048, 7680]⟩
abbrev S8192x7680 : Shape := ⟨2, ![8192, 7680]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S7808x2048, .bf16⟩
  | .hbm, ⟨2, _⟩ => ⟨S8192x2048, .f32⟩
  | .hbm, ⟨3, _⟩ => ⟨S7680x2048, .bf16⟩
  | .hbm, ⟨4, _⟩ => ⟨S7680x2048, .f32⟩
  | .hbm, ⟨5, _⟩ => ⟨S2048x7680, .f32⟩
  | .hbm, ⟨6, _⟩ => ⟨S8192x7680, .f32⟩
  | .hbm, ⟨7, _⟩ => ⟨S8192x7680, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelD.lean ====
abbrev S8192x7808 : Shape := ⟨2, ![8192, 7808]⟩
abbrev S7808x2048 : Shape := ⟨2, ![7808, 2048]⟩
abbrev S8192x2048 : Shape := ⟨2, ![8192, 2048]⟩
abbrev S512x7808 : Shape := ⟨2, ![512, 7808]⟩
abbrev S7808x512 : Shape := ⟨2, ![7808, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x7808, .bf16⟩
  | .hbm, ⟨1, _⟩ => ⟨S7808x2048, .bf16⟩
  | .hbm, ⟨2, _⟩ => ⟨S8192x2048, .bf16⟩
  | .local _ .vmem, ⟨0, _⟩ => ⟨S512x7808, .bf16⟩
  | .local _ .vmem, ⟨1, _⟩ => ⟨S512x7808, .bf16⟩
  | .local _ .vmem, ⟨2, _⟩ => ⟨S7808x512, .bf16⟩
  | .local _ .vmem, ⟨3, _⟩ => ⟨S7808x512, .bf16⟩
  | .local _ .vmem, ⟨4, _⟩ => ⟨S512x512, .bf16⟩
  | .local _ .vmem, ⟨5, _⟩ => ⟨S512x512, .bf16⟩
  | _, _ => ⟨S8192x7808, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x7808 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S7808x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDIdeal.lean ====
abbrev S8192x7808 : Shape := ⟨2, ![8192, 7808]⟩
abbrev S7808x2048 : Shape := ⟨2, ![7808, 2048]⟩
abbrev S_ : Shape := ⟨0, ![]⟩
abbrev S8192x2048 : Shape := ⟨2, ![8192, 2048]⟩
abbrev S2048x7808 : Shape := ⟨2, ![2048, 7808]⟩

abbrev nBuf : Space → Nat
  | .hbm => 10
  | .vmem => 0
  | .smem => 0
  | _ => 0

abbrev bufTy : (tb : Table) → Fin (tcTables nBuf tb) → BufTy
  | .hbm, ⟨0, _⟩ => ⟨S8192x7808, .bf16⟩
  | .hbm, ⟨1, _⟩ => ⟨S7808x2048, .bf16⟩
  | .hbm, ⟨2, _⟩ => ⟨S7808x2048, .f32⟩
  | .hbm, ⟨3, _⟩ => ⟨S_, .f32⟩
  | .hbm, ⟨4, _⟩ => ⟨S8192x2048, .f32⟩
  | .hbm, ⟨5, _⟩ => ⟨S2048x7808, .f32⟩
  | .hbm, ⟨6, _⟩ => ⟨S8192x7808, .f32⟩
  | .hbm, ⟨7, _⟩ => ⟨S8192x7808, .f32⟩
  | .hbm, ⟨8, _⟩ => ⟨S8192x2048, .f32⟩
  | .hbm, ⟨9, _⟩ => ⟨S8192x2048, .bf16⟩
  | _, _ => ⟨S8192x7808, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelG.lean ====
abbrev S8192x7808 : Shape := ⟨2, ![8192, 7808]⟩
abbrev S8192x2048 : Shape := ⟨2, ![8192, 2048]⟩
abbrev S7680x2048 : Shape := ⟨2, ![7680, 2048]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x7808, .bf16⟩
  | .hbm, ⟨1, _⟩ => ⟨S8192x2048, .bf16⟩
  | .hbm, ⟨2, _⟩ => ⟨S7680x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x7808, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![15, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGIdeal.lean ====
abbrev S8192x7808 : Shape := ⟨2, ![8192, 7808]⟩
abbrev S8192x2048 : Shape := ⟨2, ![8192, 2048]⟩
abbrev S_ : Shape := ⟨0, ![]⟩
abbrev S7680x2048 : Shape := ⟨2, ![7680, 2048]⟩
abbrev S2048x7680 : Shape := ⟨2, ![2048, 7680]⟩
abbrev S8192x7680 : Shape := ⟨2, ![8192, 7680]⟩

abbrev nBuf : Space → Nat
  | .hbm => 13
  | .vmem => 0
  | .smem => 0
  | _ => 0

abbrev bufTy : (tb : Table) → Fin (tcTables nBuf tb) → BufTy
  | .hbm, ⟨0, _⟩ => ⟨S8192x7808, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S7680x2048, .f32⟩
  | .hbm, ⟨5, _⟩ => ⟨S2048x7680, .f32⟩
  | .hbm, ⟨6, _⟩ => ⟨S8192x7680, .f32⟩
  | .hbm, ⟨7, _⟩ => ⟨S8192x7680, .bf16⟩
  | .hbm, ⟨8, _⟩ => ⟨S8192x7680, .f32⟩
  | .hbm, ⟨9, _⟩ => ⟨S7680x2048, .f32⟩
  | .hbm, ⟨10, _⟩ => ⟨S2048x7680, .f32⟩
  | .hbm, ⟨11, _⟩ => ⟨S7680x2048, .f32⟩
  | .hbm, ⟨12, _⟩ => ⟨S7680x2048, .bf16⟩
  | _, _ => ⟨S8192x7808, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelY.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceYIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelA.lean ====
abbrev S8192x2048 : Shape := ⟨2, ![8192, 2048]⟩
abbrev S5632x2048 : Shape := ⟨2, ![5632, 2048]⟩
abbrev S2x8192x5632 : Shape := ⟨3, ![2, 8192, 5632]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S2x8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAIdeal.lean ====
abbrev S8192x2048 : Shape := ⟨2, ![8192, 2048]⟩
abbrev S5632x2048 : Shape := ⟨2, ![5632, 2048]⟩
abbrev S2x8192x5632 : Shape := ⟨3, ![2, 8192, 5632]⟩
abbrev S_ : Shape := ⟨0, ![]⟩
abbrev S8192x5632 : Shape := ⟨2, ![8192, 5632]⟩
abbrev S1x8192x5632 : Shape := ⟨3, ![1, 8192, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S5632x2048, .f32⟩
  | .hbm, ⟨4, _⟩ => ⟨S2x8192x5632, .f32⟩
  | .hbm, ⟨5, _⟩ => ⟨S_, .f32⟩
  | .hbm, ⟨6, _⟩ => ⟨S8192x5632, .f32⟩
  | .hbm, ⟨7, _⟩ => ⟨S8192x2048, .f32⟩
  | .hbm, ⟨8, _⟩ => ⟨S8192x2048, .f32⟩
  | .hbm, ⟨9, _⟩ => ⟨S8192x5632, .f32⟩
  | .hbm, ⟨10, _⟩ => ⟨S1x8192x5632, .f32⟩
  | .hbm, ⟨11, _⟩ => ⟨S2x8192x5632, .f32⟩
  | .hbm, ⟨12, _⟩ => ⟨S2x8192x5632, .f32⟩
  | .hbm, ⟨13, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Lift.lean ====
/-
  Arrays of real numbers as arrays of extended reals, and what the programs' operations do to them: an operation on
  arrays whose elements are real numbers gives such an array again, and its elements are stated.
-/
module

public import Idealize.ShloMosaic.PureOps.Ideal
public import Idealize.ShloMosaic.Lib.Pointwise

@[expose] public section

set_option maxRecDepth 16384

noncomputable section

namespace Cert.Lift

open Idealize.ShloMosaic

/-- The real numbers `f` at each index, as extended reals. -/
def up0 (f : ℝ) : ((⟨0, ![]⟩ : Shape)).Idx → EReal := fun _ => ((f  : ℝ) : EReal)
def up1 {a : ℕ} (f : Fin a → ℝ) : ((⟨1, ![a]⟩ : Shape)).Idx → EReal := fun x => ((f (x 0) : ℝ) : EReal)
def up2 {a b : ℕ} (f : Fin a → Fin b → ℝ) : ((⟨2, ![a, b]⟩ : Shape)).Idx → EReal := fun x => ((f (x 0) (x 1) : ℝ) : EReal)
def up3 {a b c : ℕ} (f : Fin a → Fin b → Fin c → ℝ) : ((⟨3, ![a, b, c]⟩ : Shape)).Idx → EReal := fun x => ((f (x 0) (x 1) (x 2) : ℝ) : EReal)
def up4 {a b c d : ℕ} (f : Fin a → Fin b → Fin c → Fin d → ℝ) : ((⟨4, ![a, b, c, d]⟩ : Shape)).Idx → EReal := fun x => ((f (x 0) (x 1) (x 2) (x 3) : ℝ) : EReal)

/-! ### At an index -/

@[simp] theorem up0_ix (f : ℝ) (x : ((⟨0, ![]⟩ : Shape)).Idx) : up0 f x = (f : EReal) := rfl
@[simp] theorem up1_ix {a : ℕ} (f : Fin a → ℝ) (i : Fin a) : up1 f (ix1 i) = ((f i : ℝ) : EReal) := rfl
@[simp] theorem up2_ix {a b : ℕ} (f : Fin a → Fin b → ℝ) (i : Fin a) (j : Fin b) : up2 f (ix2 i j) = ((f i j : ℝ) : EReal) := rfl
@[simp] theorem up3_ix {a b c : ℕ} (f : Fin a → Fin b → Fin c → ℝ) (i : Fin a) (j : Fin b) (k : Fin c) : up3 f (ix3 i j k) = ((f i j k : ℝ) : EReal) := rfl
@[simp] theorem up4_ix {a b c d : ℕ} (f : Fin a → Fin b → Fin c → Fin d → ℝ) (i : Fin a) (j : Fin b) (k : Fin c) (l : Fin d) : up4 f (ix4 i j k l) = ((f i j k l : ℝ) : EReal) := rfl

/-- Two such arrays are equal when they are at every index. -/
theorem ext1 {a : ℕ} {X : ((⟨1, ![a]⟩ : Shape)).Idx → EReal} {f : Fin a → ℝ} (h : ∀ (i : Fin a), X (ix1 i) = ((f i : ℝ) : EReal)) : X = up1 f := by
  funext x
  rw [eq_ix1 x]
  exact h _
theorem ext2 {a b : ℕ} {X : ((⟨2, ![a, b]⟩ : Shape)).Idx → EReal} {f : Fin a → Fin b → ℝ} (h : ∀ (i : Fin a) (j : Fin b), X (ix2 i j) = ((f i j : ℝ) : EReal)) : X = up2 f := by
  funext x
  rw [eq_ix2 x]
  exact h _ _
theorem ext3 {a b c : ℕ} {X : ((⟨3, ![a, b, c]⟩ : Shape)).Idx → EReal} {f : Fin a → Fin b → Fin c → ℝ} (h : ∀ (i : Fin a) (j : Fin b) (k : Fin c), X (ix3 i j k) = ((f i j k : ℝ) : EReal)) : X = up3 f := by
  funext x
  rw [eq_ix3 x]
  exact h _ _ _
theorem ext4 {a b c d : ℕ} {X : ((⟨4, ![a, b, c, d]⟩ : Shape)).Idx → EReal} {f : Fin a → Fin b → Fin c → Fin d → ℝ} (h : ∀ (i : Fin a) (j : Fin b) (k : Fin c) (l : Fin d), X (ix4 i j k l) = ((f i j k l : ℝ) : EReal)) : X = up4 f := by
  funext x
  rw [eq_ix4 x]
  exact h _ _ _ _

/-! ### The elementwise operations -/

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm
theorem coe_abs (x : ℝ) : max (x : EReal) (-(x : EReal)) = ((|x| : ℝ) : EReal) := by
  rw [← EReal.coe_neg, coe_max]; rfl
theorem coe_log {x : ℝ} (h : 0 < x) : Ideal.log (x : EReal) = ((Real.log x : ℝ) : EReal) := by
  rw [Ideal.log_coe, if_neg (not_le.mpr h)]
theorem coe_log1p {x : ℝ} (h : 0 < 1 + x) : Ideal.log1p (x : EReal) = ((Real.log (1 + x) : ℝ) : EReal) := by
  have e : (1 : EReal) + (x : EReal) = ((1 + x : ℝ) : EReal) := by rw [EReal.coe_add, EReal.coe_one]
  show Ideal.log (1 + (x : EReal)) = _
  rw [e, coe_log h]
theorem coe_rsqrt {x : ℝ} (h : 0 < x) : Ideal.rsqrt (x : EReal) = (((√x)⁻¹ : ℝ) : EReal) := by
  rw [Ideal.rsqrt_coe, if_neg (not_lt.mpr h.le), if_neg h.ne']
theorem coe_div {x y : ℝ} (h : y ≠ 0) : Ideal.div (x : EReal) (y : EReal) = ((x / y : ℝ) : EReal) := by
  rw [Ideal.div_coe h, ← EReal.coe_mul, mul_one_div]

theorem mul0 (f g : ℝ) {φ : FTy} : (mulf (up0 f) (up0 g) : FVec Ideal ⟨0, ![]⟩ φ) = up0 (f * g) := by funext x; exact (EReal.coe_mul _ _).symm
theorem add0 (f g : ℝ) {φ : FTy} : (addf (up0 f) (up0 g) : FVec Ideal ⟨0, ![]⟩ φ) = up0 (f + g) := by funext x; exact (EReal.coe_add _ _).symm
theorem sub0 (f g : ℝ) {φ : FTy} : (subf (up0 f) (up0 g) : FVec Ideal ⟨0, ![]⟩ φ) = up0 (f - g) := by funext x; exact (EReal.coe_sub _ _).symm
theorem max0 (f g : ℝ) {φ : FTy} : (maximumf (up0 f) (up0 g) : FVec Ideal ⟨0, ![]⟩ φ) = up0 (max f g) := by funext x; exact coe_max _ _
theorem min0 (f g : ℝ) {φ : FTy} : (minimumf (up0 f) (up0 g) : FVec Ideal ⟨0, ![]⟩ φ) = up0 (min f g) := by funext x; exact coe_min _ _
theorem hneg0 (f : ℝ) {φ : FTy} : (Host.negf (up0 f) : FVec Ideal ⟨0, ![]⟩ φ) = up0 (-f) := by funext x; exact (EReal.coe_neg _).symm
theorem habs0 (f : ℝ) {φ : FTy} : (Host.absf (up0 f) : FVec Ideal ⟨0, ![]⟩ φ) = up0 (|f|) := by funext x; exact coe_abs _
theorem abs0 (f : ℝ) {φ : FTy} : (absf (up0 f) : FVec Ideal ⟨0, ![]⟩ φ) = up0 (|f|) := by funext x; exact coe_abs _
theorem hexp0 (f : ℝ) {φ : FTy} : (Host.exp (up0 f) : FVec Ideal ⟨0, ![]⟩ φ) = up0 (Real.exp f) := by funext x; exact Ideal.exp_coe _
theorem exp0 (f : ℝ) {φ : FTy} : (exp (up0 f) : FVec Ideal ⟨0, ![]⟩ φ) = up0 (Real.exp f) := by funext x; exact Ideal.exp_coe _
theorem hlog1p0 (f : ℝ) {φ : FTy} (h : 0 < 1 + f) : (Host.log1p (up0 f) : FVec Ideal ⟨0, ![]⟩ φ) = up0 (Real.log (1 + f)) := by funext x; exact coe_log1p h
theorem log0 (f : ℝ) {φ : FTy} (h : 0 < f) : (log (up0 f) : FVec Ideal ⟨0, ![]⟩ φ) = up0 (Real.log f) := by funext x; exact coe_log h
theorem hrsqrt0 (f : ℝ) {φ : FTy} (h : 0 < f) : (Host.rsqrt (up0 f) : FVec Ideal ⟨0, ![]⟩ φ) = up0 ((√f)⁻¹) := by funext x; exact coe_rsqrt h
theorem rsqrt0 (f : ℝ) {φ : FTy} (h : 0 < f) : (rsqrt (up0 f) : FVec Ideal ⟨0, ![]⟩ φ) = up0 ((√f)⁻¹) := by funext x; exact coe_rsqrt h
theorem hdiv0 (f g : ℝ) {φ : FTy} (h : g ≠ 0) : (Host.divf (up0 f) (up0 g) : FVec Ideal ⟨0, ![]⟩ φ) = up0 (f / g) := by funext x; exact coe_div h
theorem div0 (f g : ℝ) {φ : FTy} (h : g ≠ 0) : (divf (up0 f) (up0 g) : FVec Ideal ⟨0, ![]⟩ φ) = up0 (f / g) := by funext x; exact coe_div h
theorem ext_0 (f : ℝ) {φ ψ : FTy} (h : φ.bits < ψ.bits) : (extf ψ ((up0 f : FVec Ideal ⟨0, ![]⟩ φ)) h : FVec Ideal ⟨0, ![]⟩ ψ) = up0 f := rfl
theorem trunc_0 (f : ℝ) {φ ψ : FTy} (h : ψ.bits < φ.bits) : (truncf ψ ((up0 f : FVec Ideal ⟨0, ![]⟩ φ)) h : FVec Ideal ⟨0, ![]⟩ ψ) = up0 f := rfl
theorem const0 {φ : FTy} {w : BitVec φ.bits} {r : ℝ} (h : Ideal.ofBits φ w = (r : EReal)) : (constant (F := Ideal) ⟨0, ![]⟩ φ w) = up0 (r) := by funext x; exact h
theorem splat0 {φ : FTy} (r : ℝ) : (broadcast ⟨0, ![]⟩ ((r : EReal) : Ideal φ) : FVec Ideal ⟨0, ![]⟩ φ) = up0 (r) := rfl

theorem mul1 {a : ℕ} (f g : Fin a → ℝ) {φ : FTy} : (mulf (up1 f) (up1 g) : FVec Ideal ⟨1, ![a]⟩ φ) = up1 (fun i => (f i) * (g i)) := by funext x; exact (EReal.coe_mul _ _).symm
theorem add1 {a : ℕ} (f g : Fin a → ℝ) {φ : FTy} : (addf (up1 f) (up1 g) : FVec Ideal ⟨1, ![a]⟩ φ) = up1 (fun i => (f i) + (g i)) := by funext x; exact (EReal.coe_add _ _).symm
theorem sub1 {a : ℕ} (f g : Fin a → ℝ) {φ : FTy} : (subf (up1 f) (up1 g) : FVec Ideal ⟨1, ![a]⟩ φ) = up1 (fun i => (f i) - (g i)) := by funext x; exact (EReal.coe_sub _ _).symm
theorem max1 {a : ℕ} (f g : Fin a → ℝ) {φ : FTy} : (maximumf (up1 f) (up1 g) : FVec Ideal ⟨1, ![a]⟩ φ) = up1 (fun i => max (f i) (g i)) := by funext x; exact coe_max _ _
theorem min1 {a : ℕ} (f g : Fin a → ℝ) {φ : FTy} : (minimumf (up1 f) (up1 g) : FVec Ideal ⟨1, ![a]⟩ φ) = up1 (fun i => min (f i) (g i)) := by funext x; exact coe_min _ _
theorem hneg1 {a : ℕ} (f : Fin a → ℝ) {φ : FTy} : (Host.negf (up1 f) : FVec Ideal ⟨1, ![a]⟩ φ) = up1 (fun i => -(f i)) := by funext x; exact (EReal.coe_neg _).symm
theorem habs1 {a : ℕ} (f : Fin a → ℝ) {φ : FTy} : (Host.absf (up1 f) : FVec Ideal ⟨1, ![a]⟩ φ) = up1 (fun i => |(f i)|) := by funext x; exact coe_abs _
theorem abs1 {a : ℕ} (f : Fin a → ℝ) {φ : FTy} : (absf (up1 f) : FVec Ideal ⟨1, ![a]⟩ φ) = up1 (fun i => |(f i)|) := by funext x; exact coe_abs _
theorem hexp1 {a : ℕ} (f : Fin a → ℝ) {φ : FTy} : (Host.exp (up1 f) : FVec Ideal ⟨1, ![a]⟩ φ) = up1 (fun i => Real.exp (f i)) := by funext x; exact Ideal.exp_coe _
theorem exp1 {a : ℕ} (f : Fin a → ℝ) {φ : FTy} : (exp (up1 f) : FVec Ideal ⟨1, ![a]⟩ φ) = up1 (fun i => Real.exp (f i)) := by funext x; exact Ideal.exp_coe _
theorem hlog1p1 {a : ℕ} (f : Fin a → ℝ) {φ : FTy} (h : ∀ (i : Fin a), 0 < 1 + (f i)) : (Host.log1p (up1 f) : FVec Ideal ⟨1, ![a]⟩ φ) = up1 (fun i => Real.log (1 + (f i))) := by funext x; exact coe_log1p (h _)
theorem log1 {a : ℕ} (f : Fin a → ℝ) {φ : FTy} (h : ∀ (i : Fin a), 0 < (f i)) : (log (up1 f) : FVec Ideal ⟨1, ![a]⟩ φ) = up1 (fun i => Real.log (f i)) := by funext x; exact coe_log (h _)
theorem hrsqrt1 {a : ℕ} (f : Fin a → ℝ) {φ : FTy} (h : ∀ (i : Fin a), 0 < (f i)) : (Host.rsqrt (up1 f) : FVec Ideal ⟨1, ![a]⟩ φ) = up1 (fun i => (√(f i))⁻¹) := by funext x; exact coe_rsqrt (h _)
theorem rsqrt1 {a : ℕ} (f : Fin a → ℝ) {φ : FTy} (h : ∀ (i : Fin a), 0 < (f i)) : (rsqrt (up1 f) : FVec Ideal ⟨1, ![a]⟩ φ) = up1 (fun i => (√(f i))⁻¹) := by funext x; exact coe_rsqrt (h _)
theorem hdiv1 {a : ℕ} (f g : Fin a → ℝ) {φ : FTy} (h : ∀ (i : Fin a), (g i) ≠ 0) : (Host.divf (up1 f) (up1 g) : FVec Ideal ⟨1, ![a]⟩ φ) = up1 (fun i => (f i) / (g i)) := by funext x; exact coe_div (h _)
theorem div1 {a : ℕ} (f g : Fin a → ℝ) {φ : FTy} (h : ∀ (i : Fin a), (g i) ≠ 0) : (divf (up1 f) (up1 g) : FVec Ideal ⟨1, ![a]⟩ φ) = up1 (fun i => (f i) / (g i)) := by funext x; exact coe_div (h _)
theorem ext_1 {a : ℕ} (f : Fin a → ℝ) {φ ψ : FTy} (h : φ.bits < ψ.bits) : (extf ψ ((up1 f : FVec Ideal ⟨1, ![a]⟩ φ)) h : FVec Ideal ⟨1, ![a]⟩ ψ) = up1 f := rfl
theorem trunc_1 {a : ℕ} (f : Fin a → ℝ) {φ ψ : FTy} (h : ψ.bits < φ.bits) : (truncf ψ ((up1 f : FVec Ideal ⟨1, ![a]⟩ φ)) h : FVec Ideal ⟨1, ![a]⟩ ψ) = up1 f := rfl
theorem const1 {a : ℕ} {φ : FTy} {w : BitVec φ.bits} {r : ℝ} (h : Ideal.ofBits φ w = (r : EReal)) : (constant (F := Ideal) ⟨1, ![a]⟩ φ w) = up1 (fun i => r) := by funext x; exact h
theorem splat1 {a : ℕ} {φ : FTy} (r : ℝ) : (broadcast ⟨1, ![a]⟩ ((r : EReal) : Ideal φ) : FVec Ideal ⟨1, ![a]⟩ φ) = up1 (fun i => r) := rfl
theorem sel1 {a : ℕ} (p : Fin a → Bool) (f g : Fin a → ℝ) : select (fun x => BitVec.ofBool (p (x 0))) (up1 f) (up1 g) = up1 (fun i => if p i then (f i) else (g i)) := by
  funext x
  show Scalar.select (BitVec.ofBool (p (x 0))) _ _ = ((if p (x 0) then _ else _ : ℝ) : EReal)
  cases p (x 0) <;> rfl

theorem mul2 {a b : ℕ} (f g : Fin a → Fin b → ℝ) {φ : FTy} : (mulf (up2 f) (up2 g) : FVec Ideal ⟨2, ![a, b]⟩ φ) = up2 (fun i j => (f i j) * (g i j)) := by funext x; exact (EReal.coe_mul _ _).symm
theorem add2 {a b : ℕ} (f g : Fin a → Fin b → ℝ) {φ : FTy} : (addf (up2 f) (up2 g) : FVec Ideal ⟨2, ![a, b]⟩ φ) = up2 (fun i j => (f i j) + (g i j)) := by funext x; exact (EReal.coe_add _ _).symm
theorem sub2 {a b : ℕ} (f g : Fin a → Fin b → ℝ) {φ : FTy} : (subf (up2 f) (up2 g) : FVec Ideal ⟨2, ![a, b]⟩ φ) = up2 (fun i j => (f i j) - (g i j)) := by funext x; exact (EReal.coe_sub _ _).symm
theorem max2 {a b : ℕ} (f g : Fin a → Fin b → ℝ) {φ : FTy} : (maximumf (up2 f) (up2 g) : FVec Ideal ⟨2, ![a, b]⟩ φ) = up2 (fun i j => max (f i j) (g i j)) := by funext x; exact coe_max _ _
theorem min2 {a b : ℕ} (f g : Fin a → Fin b → ℝ) {φ : FTy} : (minimumf (up2 f) (up2 g) : FVec Ideal ⟨2, ![a, b]⟩ φ) = up2 (fun i j => min (f i j) (g i j)) := by funext x; exact coe_min _ _
theorem hneg2 {a b : ℕ} (f : Fin a → Fin b → ℝ) {φ : FTy} : (Host.negf (up2 f) : FVec Ideal ⟨2, ![a, b]⟩ φ) = up2 (fun i j => -(f i j)) := by funext x; exact (EReal.coe_neg _).symm
theorem habs2 {a b : ℕ} (f : Fin a → Fin b → ℝ) {φ : FTy} : (Host.absf (up2 f) : FVec Ideal ⟨2, ![a, b]⟩ φ) = up2 (fun i j => |(f i j)|) := by funext x; exact coe_abs _
theorem abs2 {a b : ℕ} (f : Fin a → Fin b → ℝ) {φ : FTy} : (absf (up2 f) : FVec Ideal ⟨2, ![a, b]⟩ φ) = up2 (fun i j => |(f i j)|) := by funext x; exact coe_abs _
theorem hexp2 {a b : ℕ} (f : Fin a → Fin b → ℝ) {φ : FTy} : (Host.exp (up2 f) : FVec Ideal ⟨2, ![a, b]⟩ φ) = up2 (fun i j => Real.exp (f i j)) := by funext x; exact Ideal.exp_coe _
theorem exp2 {a b : ℕ} (f : Fin a → Fin b → ℝ) {φ : FTy} : (exp (up2 f) : FVec Ideal ⟨2, ![a, b]⟩ φ) = up2 (fun i j => Real.exp (f i j)) := by funext x; exact Ideal.exp_coe _
theorem hlog1p2 {a b : ℕ} (f : Fin a → Fin b → ℝ) {φ : FTy} (h : ∀ (i : Fin a) (j : Fin b), 0 < 1 + (f i j)) : (Host.log1p (up2 f) : FVec Ideal ⟨2, ![a, b]⟩ φ) = up2 (fun i j => Real.log (1 + (f i j))) := by funext x; exact coe_log1p (h _ _)
theorem log2 {a b : ℕ} (f : Fin a → Fin b → ℝ) {φ : FTy} (h : ∀ (i : Fin a) (j : Fin b), 0 < (f i j)) : (log (up2 f) : FVec Ideal ⟨2, ![a, b]⟩ φ) = up2 (fun i j => Real.log (f i j)) := by funext x; exact coe_log (h _ _)
theorem hrsqrt2 {a b : ℕ} (f : Fin a → Fin b → ℝ) {φ : FTy} (h : ∀ (i : Fin a) (j : Fin b), 0 < (f i j)) : (Host.rsqrt (up2 f) : FVec Ideal ⟨2, ![a, b]⟩ φ) = up2 (fun i j => (√(f i j))⁻¹) := by funext x; exact coe_rsqrt (h _ _)
theorem rsqrt2 {a b : ℕ} (f : Fin a → Fin b → ℝ) {φ : FTy} (h : ∀ (i : Fin a) (j : Fin b), 0 < (f i j)) : (rsqrt (up2 f) : FVec Ideal ⟨2, ![a, b]⟩ φ) = up2 (fun i j => (√(f i j))⁻¹) := by funext x; exact coe_rsqrt (h _ _)
theorem hdiv2 {a b : ℕ} (f g : Fin a → Fin b → ℝ) {φ : FTy} (h : ∀ (i : Fin a) (j : Fin b), (g i j) ≠ 0) : (Host.divf (up2 f) (up2 g) : FVec Ideal ⟨2, ![a, b]⟩ φ) = up2 (fun i j => (f i j) / (g i j)) := by funext x; exact coe_div (h _ _)
theorem div2 {a b : ℕ} (f g : Fin a → Fin b → ℝ) {φ : FTy} (h : ∀ (i : Fin a) (j : Fin b), (g i j) ≠ 0) : (divf (up2 f) (up2 g) : FVec Ideal ⟨2, ![a, b]⟩ φ) = up2 (fun i j => (f i j) / (g i j)) := by funext x; exact coe_div (h _ _)
theorem ext_2 {a b : ℕ} (f : Fin a → Fin b → ℝ) {φ ψ : FTy} (h : φ.bits < ψ.bits) : (extf ψ ((up2 f : FVec Ideal ⟨2, ![a, b]⟩ φ)) h : FVec Ideal ⟨2, ![a, b]⟩ ψ) = up2 f := rfl
theorem trunc_2 {a b : ℕ} (f : Fin a → Fin b → ℝ) {φ ψ : FTy} (h : ψ.bits < φ.bits) : (truncf ψ ((up2 f : FVec Ideal ⟨2, ![a, b]⟩ φ)) h : FVec Ideal ⟨2, ![a, b]⟩ ψ) = up2 f := rfl
theorem const2 {a b : ℕ} {φ : FTy} {w : BitVec φ.bits} {r : ℝ} (h : Ideal.ofBits φ w = (r : EReal)) : (constant (F := Ideal) ⟨2, ![a, b]⟩ φ w) = up2 (fun i j => r) := by funext x; exact h
theorem splat2 {a b : ℕ} {φ : FTy} (r : ℝ) : (broadcast ⟨2, ![a, b]⟩ ((r : EReal) : Ideal φ) : FVec Ideal ⟨2, ![a, b]⟩ φ) = up2 (fun i j => r) := rfl
theorem sel2 {a b : ℕ} (p : Fin a → Fin b → Bool) (f g : Fin a → Fin b → ℝ) : select (fun x => BitVec.ofBool (p (x 0) (x 1))) (up2 f) (up2 g) = up2 (fun i j => if p i j then (f i j) else (g i j)) := by
  funext x
  show Scalar.select (BitVec.ofBool (p (x 0) (x 1))) _ _ = ((if p (x 0) (x 1) then _ else _ : ℝ) : EReal)
  cases p (x 0) (x 1) <;> rfl

theorem mul3 {a b c : ℕ} (f g : Fin a → Fin b → Fin c → ℝ) {φ : FTy} : (mulf (up3 f) (up3 g) : FVec Ideal ⟨3, ![a, b, c]⟩ φ) = up3 (fun i j k => (f i j k) * (g i j k)) := by funext x; exact (EReal.coe_mul _ _).symm
theorem add3 {a b c : ℕ} (f g : Fin a → Fin b → Fin c → ℝ) {φ : FTy} : (addf (up3 f) (up3 g) : FVec Ideal ⟨3, ![a, b, c]⟩ φ) = up3 (fun i j k => (f i j k) + (g i j k)) := by funext x; exact (EReal.coe_add _ _).symm
theorem sub3 {a b c : ℕ} (f g : Fin a → Fin b → Fin c → ℝ) {φ : FTy} : (subf (up3 f) (up3 g) : FVec Ideal ⟨3, ![a, b, c]⟩ φ) = up3 (fun i j k => (f i j k) - (g i j k)) := by funext x; exact (EReal.coe_sub _ _).symm
theorem max3 {a b c : ℕ} (f g : Fin a → Fin b → Fin c → ℝ) {φ : FTy} : (maximumf (up3 f) (up3 g) : FVec Ideal ⟨3, ![a, b, c]⟩ φ) = up3 (fun i j k => max (f i j k) (g i j k)) := by funext x; exact coe_max _ _
theorem min3 {a b c : ℕ} (f g : Fin a → Fin b → Fin c → ℝ) {φ : FTy} : (minimumf (up3 f) (up3 g) : FVec Ideal ⟨3, ![a, b, c]⟩ φ) = up3 (fun i j k => min (f i j k) (g i j k)) := by funext x; exact coe_min _ _
theorem hneg3 {a b c : ℕ} (f : Fin a → Fin b → Fin c → ℝ) {φ : FTy} : (Host.negf (up3 f) : FVec Ideal ⟨3, ![a, b, c]⟩ φ) = up3 (fun i j k => -(f i j k)) := by funext x; exact (EReal.coe_neg _).symm
theorem habs3 {a b c : ℕ} (f : Fin a → Fin b → Fin c → ℝ) {φ : FTy} : (Host.absf (up3 f) : FVec Ideal ⟨3, ![a, b, c]⟩ φ) = up3 (fun i j k => |(f i j k)|) := by funext x; exact coe_abs _
theorem abs3 {a b c : ℕ} (f : Fin a → Fin b → Fin c → ℝ) {φ : FTy} : (absf (up3 f) : FVec Ideal ⟨3, ![a, b, c]⟩ φ) = up3 (fun i j k => |(f i j k)|) := by funext x; exact coe_abs _
theorem hexp3 {a b c : ℕ} (f : Fin a → Fin b → Fin c → ℝ) {φ : FTy} : (Host.exp (up3 f) : FVec Ideal ⟨3, ![a, b, c]⟩ φ) = up3 (fun i j k => Real.exp (f i j k)) := by funext x; exact Ideal.exp_coe _
theorem exp3 {a b c : ℕ} (f : Fin a → Fin b → Fin c → ℝ) {φ : FTy} : (exp (up3 f) : FVec Ideal ⟨3, ![a, b, c]⟩ φ) = up3 (fun i j k => Real.exp (f i j k)) := by funext x; exact Ideal.exp_coe _
theorem hlog1p3 {a b c : ℕ} (f : Fin a → Fin b → Fin c → ℝ) {φ : FTy} (h : ∀ (i : Fin a) (j : Fin b) (k : Fin c), 0 < 1 + (f i j k)) : (Host.log1p (up3 f) : FVec Ideal ⟨3, ![a, b, c]⟩ φ) = up3 (fun i j k => Real.log (1 + (f i j k))) := by funext x; exact coe_log1p (h _ _ _)
theorem log3 {a b c : ℕ} (f : Fin a → Fin b → Fin c → ℝ) {φ : FTy} (h : ∀ (i : Fin a) (j : Fin b) (k : Fin c), 0 < (f i j k)) : (log (up3 f) : FVec Ideal ⟨3, ![a, b, c]⟩ φ) = up3 (fun i j k => Real.log (f i j k)) := by funext x; exact coe_log (h _ _ _)
theorem hrsqrt3 {a b c : ℕ} (f : Fin a → Fin b → Fin c → ℝ) {φ : FTy} (h : ∀ (i : Fin a) (j : Fin b) (k : Fin c), 0 < (f i j k)) : (Host.rsqrt (up3 f) : FVec Ideal ⟨3, ![a, b, c]⟩ φ) = up3 (fun i j k => (√(f i j k))⁻¹) := by funext x; exact coe_rsqrt (h _ _ _)
theorem rsqrt3 {a b c : ℕ} (f : Fin a → Fin b → Fin c → ℝ) {φ : FTy} (h : ∀ (i : Fin a) (j : Fin b) (k : Fin c), 0 < (f i j k)) : (rsqrt (up3 f) : FVec Ideal ⟨3, ![a, b, c]⟩ φ) = up3 (fun i j k => (√(f i j k))⁻¹) := by funext x; exact coe_rsqrt (h _ _ _)
theorem hdiv3 {a b c : ℕ} (f g : Fin a → Fin b → Fin c → ℝ) {φ : FTy} (h : ∀ (i : Fin a) (j : Fin b) (k : Fin c), (g i j k) ≠ 0) : (Host.divf (up3 f) (up3 g) : FVec Ideal ⟨3, ![a, b, c]⟩ φ) = up3 (fun i j k => (f i j k) / (g i j k)) := by funext x; exact coe_div (h _ _ _)
theorem div3 {a b c : ℕ} (f g : Fin a → Fin b → Fin c → ℝ) {φ : FTy} (h : ∀ (i : Fin a) (j : Fin b) (k : Fin c), (g i j k) ≠ 0) : (divf (up3 f) (up3 g) : FVec Ideal ⟨3, ![a, b, c]⟩ φ) = up3 (fun i j k => (f i j k) / (g i j k)) := by funext x; exact coe_div (h _ _ _)
theorem ext_3 {a b c : ℕ} (f : Fin a → Fin b → Fin c → ℝ) {φ ψ : FTy} (h : φ.bits < ψ.bits) : (extf ψ ((up3 f : FVec Ideal ⟨3, ![a, b, c]⟩ φ)) h : FVec Ideal ⟨3, ![a, b, c]⟩ ψ) = up3 f := rfl
theorem trunc_3 {a b c : ℕ} (f : Fin a → Fin b → Fin c → ℝ) {φ ψ : FTy} (h : ψ.bits < φ.bits) : (truncf ψ ((up3 f : FVec Ideal ⟨3, ![a, b, c]⟩ φ)) h : FVec Ideal ⟨3, ![a, b, c]⟩ ψ) = up3 f := rfl
theorem const3 {a b c : ℕ} {φ : FTy} {w : BitVec φ.bits} {r : ℝ} (h : Ideal.ofBits φ w = (r : EReal)) : (constant (F := Ideal) ⟨3, ![a, b, c]⟩ φ w) = up3 (fun i j k => r) := by funext x; exact h
theorem splat3 {a b c : ℕ} {φ : FTy} (r : ℝ) : (broadcast ⟨3, ![a, b, c]⟩ ((r : EReal) : Ideal φ) : FVec Ideal ⟨3, ![a, b, c]⟩ φ) = up3 (fun i j k => r) := rfl
theorem sel3 {a b c : ℕ} (p : Fin a → Fin b → Fin c → Bool) (f g : Fin a → Fin b → Fin c → ℝ) : select (fun x => BitVec.ofBool (p (x 0) (x 1) (x 2))) (up3 f) (up3 g) = up3 (fun i j k => if p i j k then (f i j k) else (g i j k)) := by
  funext x
  show Scalar.select (BitVec.ofBool (p (x 0) (x 1) (x 2))) _ _ = ((if p (x 0) (x 1) (x 2) then _ else _ : ℝ) : EReal)
  cases p (x 0) (x 1) (x 2) <;> rfl

theorem mul4 {a b c d : ℕ} (f g : Fin a → Fin b → Fin c → Fin d → ℝ) {φ : FTy} : (mulf (up4 f) (up4 g) : FVec Ideal ⟨4, ![a, b, c, d]⟩ φ) = up4 (fun i j k l => (f i j k l) * (g i j k l)) := by funext x; exact (EReal.coe_mul _ _).symm
theorem add4 {a b c d : ℕ} (f g : Fin a → Fin b → Fin c → Fin d → ℝ) {φ : FTy} : (addf (up4 f) (up4 g) : FVec Ideal ⟨4, ![a, b, c, d]⟩ φ) = up4 (fun i j k l => (f i j k l) + (g i j k l)) := by funext x; exact (EReal.coe_add _ _).symm
theorem sub4 {a b c d : ℕ} (f g : Fin a → Fin b → Fin c → Fin d → ℝ) {φ : FTy} : (subf (up4 f) (up4 g) : FVec Ideal ⟨4, ![a, b, c, d]⟩ φ) = up4 (fun i j k l => (f i j k l) - (g i j k l)) := by funext x; exact (EReal.coe_sub _ _).symm
theorem max4 {a b c d : ℕ} (f g : Fin a → Fin b → Fin c → Fin d → ℝ) {φ : FTy} : (maximumf (up4 f) (up4 g) : FVec Ideal ⟨4, ![a, b, c, d]⟩ φ) = up4 (fun i j k l => max (f i j k l) (g i j k l)) := by funext x; exact coe_max _ _
theorem min4 {a b c d : ℕ} (f g : Fin a → Fin b → Fin c → Fin d → ℝ) {φ : FTy} : (minimumf (up4 f) (up4 g) : FVec Ideal ⟨4, ![a, b, c, d]⟩ φ) = up4 (fun i j k l => min (f i j k l) (g i j k l)) := by funext x; exact coe_min _ _
theorem hneg4 {a b c d : ℕ} (f : Fin a → Fin b → Fin c → Fin d → ℝ) {φ : FTy} : (Host.negf (up4 f) : FVec Ideal ⟨4, ![a, b, c, d]⟩ φ) = up4 (fun i j k l => -(f i j k l)) := by funext x; exact (EReal.coe_neg _).symm
theorem habs4 {a b c d : ℕ} (f : Fin a → Fin b → Fin c → Fin d → ℝ) {φ : FTy} : (Host.absf (up4 f) : FVec Ideal ⟨4, ![a, b, c, d]⟩ φ) = up4 (fun i j k l => |(f i j k l)|) := by funext x; exact coe_abs _
theorem abs4 {a b c d : ℕ} (f : Fin a → Fin b → Fin c → Fin d → ℝ) {φ : FTy} : (absf (up4 f) : FVec Ideal ⟨4, ![a, b, c, d]⟩ φ) = up4 (fun i j k l => |(f i j k l)|) := by funext x; exact coe_abs _
theorem hexp4 {a b c d : ℕ} (f : Fin a → Fin b → Fin c → Fin d → ℝ) {φ : FTy} : (Host.exp (up4 f) : FVec Ideal ⟨4, ![a, b, c, d]⟩ φ) = up4 (fun i j k l => Real.exp (f i j k l)) := by funext x; exact Ideal.exp_coe _
theorem exp4 {a b c d : ℕ} (f : Fin a → Fin b → Fin c → Fin d → ℝ) {φ : FTy} : (exp (up4 f) : FVec Ideal ⟨4, ![a, b, c, d]⟩ φ) = up4 (fun i j k l => Real.exp (f i j k l)) := by funext x; exact Ideal.exp_coe _
theorem hlog1p4 {a b c d : ℕ} (f : Fin a → Fin b → Fin c → Fin d → ℝ) {φ : FTy} (h : ∀ (i : Fin a) (j : Fin b) (k : Fin c) (l : Fin d), 0 < 1 + (f i j k l)) : (Host.log1p (up4 f) : FVec Ideal ⟨4, ![a, b, c, d]⟩ φ) = up4 (fun i j k l => Real.log (1 + (f i j k l))) := by funext x; exact coe_log1p (h _ _ _ _)
theorem log4 {a b c d : ℕ} (f : Fin a → Fin b → Fin c → Fin d → ℝ) {φ : FTy} (h : ∀ (i : Fin a) (j : Fin b) (k : Fin c) (l : Fin d), 0 < (f i j k l)) : (log (up4 f) : FVec Ideal ⟨4, ![a, b, c, d]⟩ φ) = up4 (fun i j k l => Real.log (f i j k l)) := by funext x; exact coe_log (h _ _ _ _)
theorem hrsqrt4 {a b c d : ℕ} (f : Fin a → Fin b → Fin c → Fin d → ℝ) {φ : FTy} (h : ∀ (i : Fin a) (j : Fin b) (k : Fin c) (l : Fin d), 0 < (f i j k l)) : (Host.rsqrt (up4 f) : FVec Ideal ⟨4, ![a, b, c, d]⟩ φ) = up4 (fun i j k l => (√(f i j k l))⁻¹) := by funext x; exact coe_rsqrt (h _ _ _ _)
theorem rsqrt4 {a b c d : ℕ} (f : Fin a → Fin b → Fin c → Fin d → ℝ) {φ : FTy} (h : ∀ (i : Fin a) (j : Fin b) (k : Fin c) (l : Fin d), 0 < (f i j k l)) : (rsqrt (up4 f) : FVec Ideal ⟨4, ![a, b, c, d]⟩ φ) = up4 (fun i j k l => (√(f i j k l))⁻¹) := by funext x; exact coe_rsqrt (h _ _ _ _)
theorem hdiv4 {a b c d : ℕ} (f g : Fin a → Fin b → Fin c → Fin d → ℝ) {φ : FTy} (h : ∀ (i : Fin a) (j : Fin b) (k : Fin c) (l : Fin d), (g i j k l) ≠ 0) : (Host.divf (up4 f) (up4 g) : FVec Ideal ⟨4, ![a, b, c, d]⟩ φ) = up4 (fun i j k l => (f i j k l) / (g i j k l)) := by funext x; exact coe_div (h _ _ _ _)
theorem div4 {a b c d : ℕ} (f g : Fin a → Fin b → Fin c → Fin d → ℝ) {φ : FTy} (h : ∀ (i : Fin a) (j : Fin b) (k : Fin c) (l : Fin d), (g i j k l) ≠ 0) : (divf (up4 f) (up4 g) : FVec Ideal ⟨4, ![a, b, c, d]⟩ φ) = up4 (fun i j k l => (f i j k l) / (g i j k l)) := by funext x; exact coe_div (h _ _ _ _)
theorem ext_4 {a b c d : ℕ} (f : Fin a → Fin b → Fin c → Fin d → ℝ) {φ ψ : FTy} (h : φ.bits < ψ.bits) : (extf ψ ((up4 f : FVec Ideal ⟨4, ![a, b, c, d]⟩ φ)) h : FVec Ideal ⟨4, ![a, b, c, d]⟩ ψ) = up4 f := rfl
theorem trunc_4 {a b c d : ℕ} (f : Fin a → Fin b → Fin c → Fin d → ℝ) {φ ψ : FTy} (h : ψ.bits < φ.bits) : (truncf ψ ((up4 f : FVec Ideal ⟨4, ![a, b, c, d]⟩ φ)) h : FVec Ideal ⟨4, ![a, b, c, d]⟩ ψ) = up4 f := rfl
theorem const4 {a b c d : ℕ} {φ : FTy} {w : BitVec φ.bits} {r : ℝ} (h : Ideal.ofBits φ w = (r : EReal)) : (constant (F := Ideal) ⟨4, ![a, b, c, d]⟩ φ w) = up4 (fun i j k l => r) := by funext x; exact h
theorem splat4 {a b c d : ℕ} {φ : FTy} (r : ℝ) : (broadcast ⟨4, ![a, b, c, d]⟩ ((r : EReal) : Ideal φ) : FVec Ideal ⟨4, ![a, b, c, d]⟩ φ) = up4 (fun i j k l => r) := rfl
theorem sel4 {a b c d : ℕ} (p : Fin a → Fin b → Fin c → Fin d → Bool) (f g : Fin a → Fin b → Fin c → Fin d → ℝ) : select (fun x => BitVec.ofBool (p (x 0) (x 1) (x 2) (x 3))) (up4 f) (up4 g) = up4 (fun i j k l => if p i j k l then (f i j k l) else (g i j k l)) := by
  funext x
  show Scalar.select (BitVec.ofBool (p (x 0) (x 1) (x 2) (x 3))) _ _ = ((if p (x 0) (x 1) (x 2) (x 3) then _ else _ : ℝ) : EReal)
  cases p (x 0) (x 1) (x 2) (x 3) <;> rfl

/-! ### The constants -/

/-- The queries' scale and the norm's ε, as the words the programs hold. -/
def sc : ℝ := 11863283 / 134217728
def eps : ℝ := 8796093 / 8796093022208

theorem eps_pos : 0 < eps := by unfold eps; norm_num

theorem w_zero : Ideal.ofBits .f32 0x00000000#32 = ((0 : ℝ) : EReal) := by rw [Ideal.ofBits_zero_f32]; rfl
theorem w_one : Ideal.ofBits .f32 0x3F800000#32 = ((1 : ℝ) : EReal) := by rw [Ideal.ofBits_one_f32]; rfl
theorem w_16 : Ideal.ofBits .f32 0x41800000#32 = ((16 : ℝ) : EReal) := by
  simp [Ideal.ofBits, Ideal.ieee, sc, eps]
  norm_num
  first | (rw [← EReal.coe_mul]; congr 1; norm_num) | skip
theorem w_256 : Ideal.ofBits .f32 0x43800000#32 = ((256 : ℝ) : EReal) := by
  simp [Ideal.ofBits, Ideal.ieee, sc, eps]
  norm_num
  first | (rw [← EReal.coe_mul]; congr 1; norm_num) | skip
theorem w_mhalf : Ideal.ofBits .f32 0xBF000000#32 = ((-1/2 : ℝ) : EReal) := by
  simp [Ideal.ofBits, Ideal.ieee, sc, eps]
  norm_num
  first | (rw [← EReal.coe_mul]; congr 1; norm_num) | skip
theorem w_16th : Ideal.ofBits .f32 0x3D800000#32 = ((1/16 : ℝ) : EReal) := by
  simp [Ideal.ofBits, Ideal.ieee, sc, eps]
  norm_num
  first | (rw [← EReal.coe_mul]; congr 1; norm_num) | skip
theorem w_sc : Ideal.ofBits .f32 0x3DB504F3#32 = ((sc : ℝ) : EReal) := by
  simp [Ideal.ofBits, Ideal.ieee, sc, eps]
  norm_num
  first | (rw [← EReal.coe_mul]; congr 1; norm_num) | skip
theorem w_eps : Ideal.ofBits .f32 0x358637BD#32 = ((eps : ℝ) : EReal) := by
  simp [Ideal.ofBits, Ideal.ieee, sc, eps]
  norm_num
  first | (rw [← EReal.coe_mul]; congr 1; norm_num) | skip

end Cert.Lift
-- ==== Proof.Shapes.lean ====
/-
  Operations that move, sum and multiply, on arrays of real numbers; the six arguments as such arrays.
-/
module

public import proofs.«01_k».proof.Proof.Lift
public import proofs.«01_k».proof.ReferenceIdeal
@[expose] public section

set_option maxRecDepth 16384

noncomputable section

namespace Cert

/-- The six arguments as arrays of real numbers: the projection, the gate's input, its weight and bias, the norm's
    scale, and the gradient with respect to the result. -/
structure In where
  P : Fin 8192 → Fin 7680 → ℝ
  A : Fin 8192 → Fin 128 → ℝ
  W : Fin 128 → Fin 512 → ℝ
  b : Fin 512 → ℝ
  g : Fin 1024 → ℝ
  D : Fin 8192 → Fin 1024 → ℝ

end Cert

namespace Cert.Lift

open Idealize.ShloMosaic

/-- A running sum read from the left is a sum. -/
theorem foldl_sum {ι : Type} (T : ι → EReal) (l : List ι) (v : EReal) : l.foldl (fun r n => r + T n) v = v + (l.map T).sum := by
  induction l generalizing v with
  | nil => simp
  | cons a l ih => simp only [List.foldl_cons, ih, List.map_cons, List.sum_cons, add_assoc]

theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem sum_coe_mul {ι : Type} [Fintype ι] (f g : ι → ℝ) : (∑ i, (f i : EReal) * (g i : EReal)) = ((∑ i, f i * g i : ℝ) : EReal) := by
  rw [← sum_coe]
  exact Finset.sum_congr rfl fun i _ => (EReal.coe_mul _ _).symm

/-- The window that ends at `k`, one after the other, is the part up to `k`. -/
theorem sum_upTo {n : ℕ} (p : ℕ) (hp : p + 1 = n) (f : Fin n → ℝ) (k : Fin n) :
    (∑ w : Fin n, if h : p ≤ k.val + w.val ∧ k.val + w.val - p < n then f ⟨k.val + w.val - p, h.2⟩ else 0) = ∑ s : Fin n, if s ≤ k then f s else 0 := by
  rw [← Finset.sum_filter]
  have hk := k.isLt
  rw [← Finset.sum_filter_add_sum_filter_not Finset.univ (fun w : Fin n => p ≤ k.val + w.val)]
  rw [Finset.sum_eq_zero (s := Finset.univ.filter fun w : Fin n => ¬ p ≤ k.val + w.val) (fun w hw => by
    rw [dif_neg]
    exact fun h => (Finset.mem_filter.1 hw).2 h.1), add_zero]
  refine Finset.sum_bij' (i := fun w hw => (⟨k.val + w.val - p, by have := w.isLt; omega⟩ : Fin n))
    (j := fun s hs => (⟨s.val + p - k.val, by
      have := (Finset.mem_filter.1 hs).2
      have h2 : s.val ≤ k.val := this
      omega⟩ : Fin n)) ?_ ?_ ?_ ?_ ?_
  · intro w hw
    have := w.isLt
    refine Finset.mem_filter.2 ⟨Finset.mem_univ _, ?_⟩
    show k.val + w.val - p ≤ k.val
    omega
  · intro s hs
    have h2 : s.val ≤ k.val := (Finset.mem_filter.1 hs).2
    refine Finset.mem_filter.2 ⟨Finset.mem_univ _, ?_⟩
    show p ≤ k.val + (s.val + p - k.val)
    omega
  · intro w hw
    have h1 : p ≤ k.val + w.val := (Finset.mem_filter.1 hw).2
    refine Fin.ext ?_
    show k.val + w.val - p + p - k.val = w.val
    omega
  · intro s hs
    have h2 : s.val ≤ k.val := (Finset.mem_filter.1 hs).2
    refine Fin.ext ?_
    show k.val + (s.val + p - k.val) - p = s.val
    omega
  · intro w hw
    have h1 : p ≤ k.val + w.val := (Finset.mem_filter.1 hw).2
    have := w.isLt
    rw [dif_pos ⟨h1, by omega⟩]

/-- The window that begins at `k` is the part from `k` on. -/
theorem sum_from {n : ℕ} (f : Fin n → ℝ) (k : Fin n) :
    (∑ w : Fin n, if h : 0 ≤ k.val + w.val ∧ k.val + w.val - 0 < n then f ⟨k.val + w.val - 0, h.2⟩ else 0) = ∑ s : Fin n, if k ≤ s then f s else 0 := by
  rw [← Finset.sum_filter]
  have hk := k.isLt
  rw [← Finset.sum_filter_add_sum_filter_not Finset.univ (fun w : Fin n => k.val + w.val < n)]
  rw [Finset.sum_eq_zero (s := Finset.univ.filter fun w : Fin n => ¬ k.val + w.val < n) (fun w hw => by
    rw [dif_neg]
    exact fun h => (Finset.mem_filter.1 hw).2 h.2), add_zero]
  refine Finset.sum_bij' (i := fun w hw => (⟨k.val + w.val, (Finset.mem_filter.1 hw).2⟩ : Fin n))
    (j := fun s hs => (⟨s.val - k.val, by have := s.isLt; omega⟩ : Fin n)) ?_ ?_ ?_ ?_ ?_
  · intro w hw
    refine Finset.mem_filter.2 ⟨Finset.mem_univ _, ?_⟩
    show k.val ≤ k.val + w.val
    omega
  · intro s hs
    have h2 : k.val ≤ s.val := (Finset.mem_filter.1 hs).2
    have := s.isLt
    refine Finset.mem_filter.2 ⟨Finset.mem_univ _, ?_⟩
    show k.val + (s.val - k.val) < n
    omega
  · intro w hw
    refine Fin.ext ?_
    show k.val + w.val - k.val = w.val
    omega
  · intro s hs
    have h2 : k.val ≤ s.val := (Finset.mem_filter.1 hs).2
    refine Fin.ext ?_
    show k.val + (s.val - k.val) = s.val
    omega
  · intro w hw
    have h1 : k.val + w.val < n := (Finset.mem_filter.1 hw).2
    rw [dif_pos ⟨by omega, h1⟩]
    rfl

/-- A window along the third of four axes, at an index: the elements of the window inside the array. -/
theorem window4 {a b n d : ℕ} (p q : ℕ) (f : Fin a → Fin b → Fin n → Fin d → ℝ) (h) (hu) (i : Fin a) (j : Fin b) (k : Fin n) (l : Fin d) :
    (Host.reduceWindowAdd ![1, 1, n, 1] ![1, 1, 1, 1] ![0, 0, p, 0] ![0, 0, q, 0] (up4 f : FVec Ideal ⟨4, ![a, b, n, d]⟩ .f32)
      (up0 0 : FVec Ideal ⟨0, ![]⟩ .f32) h hu : FVec Ideal ⟨4, ![a, b, n, d]⟩ .f32) (ix4 i j k l)
      = ((∑ w : Fin n, if h : p ≤ k.val + w.val ∧ k.val + w.val - p < n then f i j ⟨k.val + w.val - p, h.2⟩ l else 0 : ℝ) : EReal) := by
  refine (foldl_sum _ _ _).trans ?_
  rw [up0_ix, EReal.coe_zero, zero_add, ← Fin.sum_univ_def, ← sum_coe]
  refine Fintype.sum_equiv ((⟨4, ![1, 1, n, 1]⟩ : Shape).rowMajor.symm.trans (⟨fun w => w 2, fun s => ix4 0 0 s 0, fun w => ?_, fun s => rfl⟩ : (⟨4, ![1, 1, n, 1]⟩ : Shape).Idx ≃ Fin n)) _ _ fun w => ?_
  · refine Eq.trans ?_ (eq_ix4 w).symm
    show ix4 (0 : Fin 1) (0 : Fin 1) (w 2) (0 : Fin 1) = ix4 (w 0) (w 1) (w 2) (w 3)
    congr 1 <;> exact Subsingleton.elim (α := Fin 1) _ _
  · have h0 : (((⟨4, ![1, 1, n, 1]⟩ : Shape).rowMajor.symm w) 0).val = 0 := Nat.lt_one_iff.1 (((⟨4, ![1, 1, n, 1]⟩ : Shape).rowMajor.symm w) 0).isLt
    have h1 : (((⟨4, ![1, 1, n, 1]⟩ : Shape).rowMajor.symm w) 1).val = 0 := Nat.lt_one_iff.1 (((⟨4, ![1, 1, n, 1]⟩ : Shape).rowMajor.symm w) 1).isLt
    have h3 : (((⟨4, ![1, 1, n, 1]⟩ : Shape).rowMajor.symm w) 3).val = 0 := Nat.lt_one_iff.1 (((⟨4, ![1, 1, n, 1]⟩ : Shape).rowMajor.symm w) 3).isLt
    dsimp only
    split
    · next hin =>
      have hk := hin 2
      change p ≤ k.val * 1 + (((⟨4, ![1, 1, n, 1]⟩ : Shape).rowMajor.symm w) 2).val ∧ k.val * 1 + (((⟨4, ![1, 1, n, 1]⟩ : Shape).rowMajor.symm w) 2).val - p < n at hk
      rw [Nat.mul_one] at hk
      refine Eq.trans ?_ (congrArg Real.toEReal (dif_pos hk).symm)
      refine congrArg Real.toEReal ?_
      congr 1 <;> refine Fin.ext ?_
      · show i.val * 1 + (((⟨4, ![1, 1, n, 1]⟩ : Shape).rowMajor.symm w) 0).val - 0 = i.val
        omega
      · show j.val * 1 + (((⟨4, ![1, 1, n, 1]⟩ : Shape).rowMajor.symm w) 1).val - 0 = j.val
        omega
      · show k.val * 1 + (((⟨4, ![1, 1, n, 1]⟩ : Shape).rowMajor.symm w) 2).val - p = k.val + (((⟨4, ![1, 1, n, 1]⟩ : Shape).rowMajor.symm w) 2).val - p
        rw [Nat.mul_one]
      · show l.val * 1 + (((⟨4, ![1, 1, n, 1]⟩ : Shape).rowMajor.symm w) 3).val - 0 = l.val
        omega
    · next hin =>
      refine Eq.trans ?_ (congrArg Real.toEReal (dif_neg fun hk => hin fun ax => by
        match ax with
        | ⟨0, _⟩ =>
          show 0 ≤ i.val * 1 + (((⟨4, ![1, 1, n, 1]⟩ : Shape).rowMajor.symm w) 0).val ∧ i.val * 1 + (((⟨4, ![1, 1, n, 1]⟩ : Shape).rowMajor.symm w) 0).val - 0 < a
          have := i.isLt
          omega
        | ⟨1, _⟩ =>
          show 0 ≤ j.val * 1 + (((⟨4, ![1, 1, n, 1]⟩ : Shape).rowMajor.symm w) 1).val ∧ j.val * 1 + (((⟨4, ![1, 1, n, 1]⟩ : Shape).rowMajor.symm w) 1).val - 0 < b
          have := j.isLt
          omega
        | ⟨2, _⟩ =>
          show p ≤ k.val * 1 + (((⟨4, ![1, 1, n, 1]⟩ : Shape).rowMajor.symm w) 2).val ∧ k.val * 1 + (((⟨4, ![1, 1, n, 1]⟩ : Shape).rowMajor.symm w) 2).val - p < n
          rw [Nat.mul_one]
          exact hk
        | ⟨3, _⟩ =>
          show 0 ≤ l.val * 1 + (((⟨4, ![1, 1, n, 1]⟩ : Shape).rowMajor.symm w) 3).val ∧ l.val * 1 + (((⟨4, ![1, 1, n, 1]⟩ : Shape).rowMajor.symm w) 3).val - 0 < d
          have := l.isLt
          omega
      ).symm)
      rfl

/-- The same along the second of three axes. -/
theorem window3 {a n c : ℕ} (p q : ℕ) (f : Fin a → Fin n → Fin c → ℝ) (h) (hu) (i : Fin a) (j : Fin n) (k : Fin c) :
    (Host.reduceWindowAdd ![1, n, 1] ![1, 1, 1] ![0, p, 0] ![0, q, 0] (up3 f : FVec Ideal ⟨3, ![a, n, c]⟩ .f32)
      (up0 0 : FVec Ideal ⟨0, ![]⟩ .f32) h hu : FVec Ideal ⟨3, ![a, n, c]⟩ .f32) (ix3 i j k)
      = ((∑ w : Fin n, if h : p ≤ j.val + w.val ∧ j.val + w.val - p < n then f i ⟨j.val + w.val - p, h.2⟩ k else 0 : ℝ) : EReal) := by
  refine (foldl_sum _ _ _).trans ?_
  rw [up0_ix, EReal.coe_zero, zero_add, ← Fin.sum_univ_def, ← sum_coe]
  refine Fintype.sum_equiv ((⟨3, ![1, n, 1]⟩ : Shape).rowMajor.symm.trans (⟨fun w => w 1, fun s => ix3 0 s 0, fun w => ?_, fun s => rfl⟩ : (⟨3, ![1, n, 1]⟩ : Shape).Idx ≃ Fin n)) _ _ fun w => ?_
  · refine Eq.trans ?_ (eq_ix3 w).symm
    show ix3 (0 : Fin 1) (w 1) (0 : Fin 1) = ix3 (w 0) (w 1) (w 2)
    congr 1 <;> exact Subsingleton.elim (α := Fin 1) _ _
  · have h0 : (((⟨3, ![1, n, 1]⟩ : Shape).rowMajor.symm w) 0).val = 0 := Nat.lt_one_iff.1 (((⟨3, ![1, n, 1]⟩ : Shape).rowMajor.symm w) 0).isLt
    have h2 : (((⟨3, ![1, n, 1]⟩ : Shape).rowMajor.symm w) 2).val = 0 := Nat.lt_one_iff.1 (((⟨3, ![1, n, 1]⟩ : Shape).rowMajor.symm w) 2).isLt
    dsimp only
    split
    · next hin =>
      have hk := hin 1
      change p ≤ j.val * 1 + (((⟨3, ![1, n, 1]⟩ : Shape).rowMajor.symm w) 1).val ∧ j.val * 1 + (((⟨3, ![1, n, 1]⟩ : Shape).rowMajor.symm w) 1).val - p < n at hk
      rw [Nat.mul_one] at hk
      refine Eq.trans ?_ (congrArg Real.toEReal (dif_pos hk).symm)
      refine congrArg Real.toEReal ?_
      congr 1 <;> refine Fin.ext ?_
      · show i.val * 1 + (((⟨3, ![1, n, 1]⟩ : Shape).rowMajor.symm w) 0).val - 0 = i.val
        omega
      · show j.val * 1 + (((⟨3, ![1, n, 1]⟩ : Shape).rowMajor.symm w) 1).val - p = j.val + (((⟨3, ![1, n, 1]⟩ : Shape).rowMajor.symm w) 1).val - p
        rw [Nat.mul_one]
      · show k.val * 1 + (((⟨3, ![1, n, 1]⟩ : Shape).rowMajor.symm w) 2).val - 0 = k.val
        omega
    · next hin =>
      refine Eq.trans ?_ (congrArg Real.toEReal (dif_neg fun hk => hin fun ax => by
        match ax with
        | ⟨0, _⟩ =>
          show 0 ≤ i.val * 1 + (((⟨3, ![1, n, 1]⟩ : Shape).rowMajor.symm w) 0).val ∧ i.val * 1 + (((⟨3, ![1, n, 1]⟩ : Shape).rowMajor.symm w) 0).val - 0 < a
          have := i.isLt
          omega
        | ⟨1, _⟩ =>
          show p ≤ j.val * 1 + (((⟨3, ![1, n, 1]⟩ : Shape).rowMajor.symm w) 1).val ∧ j.val * 1 + (((⟨3, ![1, n, 1]⟩ : Shape).rowMajor.symm w) 1).val - p < n
          rw [Nat.mul_one]
          exact hk
        | ⟨2, _⟩ =>
          show 0 ≤ k.val * 1 + (((⟨3, ![1, n, 1]⟩ : Shape).rowMajor.symm w) 2).val ∧ k.val * 1 + (((⟨3, ![1, n, 1]⟩ : Shape).rowMajor.symm w) 2).val - 0 < c
          have := k.isLt
          omega
      ).symm)
      rfl

/-- The slice, and the update, at one entry of the first axis. -/
theorem dsl3 {a b c : ℕ} (f : Fin a → Fin b → Fin c → ℝ) (n : Fin a) (st : Fin 3 → ℤ) (hs : ∀ a, st a = ((![n.val, 0, 0] : Fin 3 → ℕ) a : ℤ)) (h : Shape.Slices (⟨3, ![a, b, c]⟩ : Shape) (fun _ => 0) (⟨3, ![1, b, c]⟩ : Shape)) :
    Host.dynamicSlice (⟨3, ![1, b, c]⟩ : Shape) (up3 f) st h = up3 (fun (_ : Fin 1) j k => f n j k) := ext3 fun i j k => by
  have hn := n.isLt
  have hi := i.isLt
  have c0 : Host.clampedStart (⟨3, ![a, b, c]⟩ : Shape) (⟨3, ![1, b, c]⟩ : Shape) h.1 st 0 = n.val := Host.clampedStart_of_le h.1 st 0 _ (hs 0) (by show n.val + 1 ≤ a; omega)
  have c1 : Host.clampedStart (⟨3, ![a, b, c]⟩ : Shape) (⟨3, ![1, b, c]⟩ : Shape) h.1 st 1 = 0 := Host.clampedStart_of_le h.1 st 1 _ (hs 1) (by show 0 + b ≤ b; omega)
  have c2 : Host.clampedStart (⟨3, ![a, b, c]⟩ : Shape) (⟨3, ![1, b, c]⟩ : Shape) h.1 st 2 = 0 := Host.clampedStart_of_le h.1 st 2 _ (hs 2) (by show 0 + c ≤ c; omega)
  refine congrArg Real.toEReal ?_
  congr 1 <;> refine Fin.ext ?_
  · show Host.clampedStart (⟨3, ![a, b, c]⟩ : Shape) (⟨3, ![1, b, c]⟩ : Shape) h.1 st 0 + i.val = n.val
    rw [c0]
    omega
  · show Host.clampedStart (⟨3, ![a, b, c]⟩ : Shape) (⟨3, ![1, b, c]⟩ : Shape) h.1 st 1 + j.val = j.val
    rw [c1]
    omega
  · show Host.clampedStart (⟨3, ![a, b, c]⟩ : Shape) (⟨3, ![1, b, c]⟩ : Shape) h.1 st 2 + k.val = k.val
    rw [c2]
    omega
theorem dus3 {a b c : ℕ} (f : Fin a → Fin b → Fin c → ℝ) (g : Fin 1 → Fin b → Fin c → ℝ) (n : Fin a) (st : Fin 3 → ℤ) (hs : ∀ a, st a = ((![n.val, 0, 0] : Fin 3 → ℕ) a : ℤ)) (h : Shape.Slices (⟨3, ![a, b, c]⟩ : Shape) (fun _ => 0) (⟨3, ![1, b, c]⟩ : Shape)) :
    Host.dynamicUpdateSlice (up3 f) (up3 g) st h = up3 (fun i j k => if i = n then g 0 j k else f i j k) := ext3 fun i j k => by
  have hn := n.isLt
  have c0 : Host.clampedStart (⟨3, ![a, b, c]⟩ : Shape) (⟨3, ![1, b, c]⟩ : Shape) h.1 st 0 = n.val := Host.clampedStart_of_le h.1 st 0 _ (hs 0) (by show n.val + 1 ≤ a; omega)
  have c1 : Host.clampedStart (⟨3, ![a, b, c]⟩ : Shape) (⟨3, ![1, b, c]⟩ : Shape) h.1 st 1 = 0 := Host.clampedStart_of_le h.1 st 1 _ (hs 1) (by show 0 + b ≤ b; omega)
  have c2 : Host.clampedStart (⟨3, ![a, b, c]⟩ : Shape) (⟨3, ![1, b, c]⟩ : Shape) h.1 st 2 = 0 := Host.clampedStart_of_le h.1 st 2 _ (hs 2) (by show 0 + c ≤ c; omega)
  by_cases hi : i = n
  · subst hi
    rw [if_pos rfl]
    refine (dif_pos fun ax => ?_).trans ?_
    · match ax with
      | ⟨0, _⟩ =>
        show Host.clampedStart (⟨3, ![a, b, c]⟩ : Shape) (⟨3, ![1, b, c]⟩ : Shape) h.1 st 0 ≤ i.val ∧ i.val < Host.clampedStart (⟨3, ![a, b, c]⟩ : Shape) (⟨3, ![1, b, c]⟩ : Shape) h.1 st 0 + 1
        rw [c0]
        have := i.isLt
        omega
      | ⟨1, _⟩ =>
        show Host.clampedStart (⟨3, ![a, b, c]⟩ : Shape) (⟨3, ![1, b, c]⟩ : Shape) h.1 st 1 ≤ j.val ∧ j.val < Host.clampedStart (⟨3, ![a, b, c]⟩ : Shape) (⟨3, ![1, b, c]⟩ : Shape) h.1 st 1 + b
        rw [c1]
        have := j.isLt
        omega
      | ⟨2, _⟩ =>
        show Host.clampedStart (⟨3, ![a, b, c]⟩ : Shape) (⟨3, ![1, b, c]⟩ : Shape) h.1 st 2 ≤ k.val ∧ k.val < Host.clampedStart (⟨3, ![a, b, c]⟩ : Shape) (⟨3, ![1, b, c]⟩ : Shape) h.1 st 2 + c
        rw [c2]
        have := k.isLt
        omega
    · refine congrArg Real.toEReal ?_
      congr 1 <;> refine Fin.ext ?_
      · show i.val - Host.clampedStart (⟨3, ![a, b, c]⟩ : Shape) (⟨3, ![1, b, c]⟩ : Shape) h.1 st 0 = 0
        rw [c0]
        omega
      · show j.val - Host.clampedStart (⟨3, ![a, b, c]⟩ : Shape) (⟨3, ![1, b, c]⟩ : Shape) h.1 st 1 = j.val
        rw [c1]
        omega
      · show k.val - Host.clampedStart (⟨3, ![a, b, c]⟩ : Shape) (⟨3, ![1, b, c]⟩ : Shape) h.1 st 2 = k.val
        rw [c2]
        omega
  · rw [if_neg hi]
    refine (dif_neg fun hin => ?_).trans rfl
    have h0 : Host.clampedStart (⟨3, ![a, b, c]⟩ : Shape) (⟨3, ![1, b, c]⟩ : Shape) h.1 st 0 ≤ i.val ∧ i.val < Host.clampedStart (⟨3, ![a, b, c]⟩ : Shape) (⟨3, ![1, b, c]⟩ : Shape) h.1 st 0 + 1 := hin 0
    rw [c0] at h0
    exact hi (Fin.ext (by omega))

/-- The slice, and the update, at one entry of the first axis. -/
theorem dsl4 {a b c d : ℕ} (f : Fin a → Fin b → Fin c → Fin d → ℝ) (n : Fin a) (st : Fin 4 → ℤ) (hs : ∀ a, st a = ((![n.val, 0, 0, 0] : Fin 4 → ℕ) a : ℤ)) (h : Shape.Slices (⟨4, ![a, b, c, d]⟩ : Shape) (fun _ => 0) (⟨4, ![1, b, c, d]⟩ : Shape)) :
    Host.dynamicSlice (⟨4, ![1, b, c, d]⟩ : Shape) (up4 f) st h = up4 (fun (_ : Fin 1) j k l => f n j k l) := ext4 fun i j k l => by
  have hn := n.isLt
  have hi := i.isLt
  have c0 : Host.clampedStart (⟨4, ![a, b, c, d]⟩ : Shape) (⟨4, ![1, b, c, d]⟩ : Shape) h.1 st 0 = n.val := Host.clampedStart_of_le h.1 st 0 _ (hs 0) (by show n.val + 1 ≤ a; omega)
  have c1 : Host.clampedStart (⟨4, ![a, b, c, d]⟩ : Shape) (⟨4, ![1, b, c, d]⟩ : Shape) h.1 st 1 = 0 := Host.clampedStart_of_le h.1 st 1 _ (hs 1) (by show 0 + b ≤ b; omega)
  have c2 : Host.clampedStart (⟨4, ![a, b, c, d]⟩ : Shape) (⟨4, ![1, b, c, d]⟩ : Shape) h.1 st 2 = 0 := Host.clampedStart_of_le h.1 st 2 _ (hs 2) (by show 0 + c ≤ c; omega)
  have c3 : Host.clampedStart (⟨4, ![a, b, c, d]⟩ : Shape) (⟨4, ![1, b, c, d]⟩ : Shape) h.1 st 3 = 0 := Host.clampedStart_of_le h.1 st 3 _ (hs 3) (by show 0 + d ≤ d; omega)
  refine congrArg Real.toEReal ?_
  congr 1 <;> refine Fin.ext ?_
  · show Host.clampedStart (⟨4, ![a, b, c, d]⟩ : Shape) (⟨4, ![1, b, c, d]⟩ : Shape) h.1 st 0 + i.val = n.val
    rw [c0]
    omega
  · show Host.clampedStart (⟨4, ![a, b, c, d]⟩ : Shape) (⟨4, ![1, b, c, d]⟩ : Shape) h.1 st 1 + j.val = j.val
    rw [c1]
    omega
  · show Host.clampedStart (⟨4, ![a, b, c, d]⟩ : Shape) (⟨4, ![1, b, c, d]⟩ : Shape) h.1 st 2 + k.val = k.val
    rw [c2]
    omega
  · show Host.clampedStart (⟨4, ![a, b, c, d]⟩ : Shape) (⟨4, ![1, b, c, d]⟩ : Shape) h.1 st 3 + l.val = l.val
    rw [c3]
    omega
theorem dus4 {a b c d : ℕ} (f : Fin a → Fin b → Fin c → Fin d → ℝ) (g : Fin 1 → Fin b → Fin c → Fin d → ℝ) (n : Fin a) (st : Fin 4 → ℤ) (hs : ∀ a, st a = ((![n.val, 0, 0, 0] : Fin 4 → ℕ) a : ℤ)) (h : Shape.Slices (⟨4, ![a, b, c, d]⟩ : Shape) (fun _ => 0) (⟨4, ![1, b, c, d]⟩ : Shape)) :
    Host.dynamicUpdateSlice (up4 f) (up4 g) st h = up4 (fun i j k l => if i = n then g 0 j k l else f i j k l) := ext4 fun i j k l => by
  have hn := n.isLt
  have c0 : Host.clampedStart (⟨4, ![a, b, c, d]⟩ : Shape) (⟨4, ![1, b, c, d]⟩ : Shape) h.1 st 0 = n.val := Host.clampedStart_of_le h.1 st 0 _ (hs 0) (by show n.val + 1 ≤ a; omega)
  have c1 : Host.clampedStart (⟨4, ![a, b, c, d]⟩ : Shape) (⟨4, ![1, b, c, d]⟩ : Shape) h.1 st 1 = 0 := Host.clampedStart_of_le h.1 st 1 _ (hs 1) (by show 0 + b ≤ b; omega)
  have c2 : Host.clampedStart (⟨4, ![a, b, c, d]⟩ : Shape) (⟨4, ![1, b, c, d]⟩ : Shape) h.1 st 2 = 0 := Host.clampedStart_of_le h.1 st 2 _ (hs 2) (by show 0 + c ≤ c; omega)
  have c3 : Host.clampedStart (⟨4, ![a, b, c, d]⟩ : Shape) (⟨4, ![1, b, c, d]⟩ : Shape) h.1 st 3 = 0 := Host.clampedStart_of_le h.1 st 3 _ (hs 3) (by show 0 + d ≤ d; omega)
  by_cases hi : i = n
  · subst hi
    rw [if_pos rfl]
    refine (dif_pos fun ax => ?_).trans ?_
    · match ax with
      | ⟨0, _⟩ =>
        show Host.clampedStart (⟨4, ![a, b, c, d]⟩ : Shape) (⟨4, ![1, b, c, d]⟩ : Shape) h.1 st 0 ≤ i.val ∧ i.val < Host.clampedStart (⟨4, ![a, b, c, d]⟩ : Shape) (⟨4, ![1, b, c, d]⟩ : Shape) h.1 st 0 + 1
        rw [c0]
        have := i.isLt
        omega
      | ⟨1, _⟩ =>
        show Host.clampedStart (⟨4, ![a, b, c, d]⟩ : Shape) (⟨4, ![1, b, c, d]⟩ : Shape) h.1 st 1 ≤ j.val ∧ j.val < Host.clampedStart (⟨4, ![a, b, c, d]⟩ : Shape) (⟨4, ![1, b, c, d]⟩ : Shape) h.1 st 1 + b
        rw [c1]
        have := j.isLt
        omega
      | ⟨2, _⟩ =>
        show Host.clampedStart (⟨4, ![a, b, c, d]⟩ : Shape) (⟨4, ![1, b, c, d]⟩ : Shape) h.1 st 2 ≤ k.val ∧ k.val < Host.clampedStart (⟨4, ![a, b, c, d]⟩ : Shape) (⟨4, ![1, b, c, d]⟩ : Shape) h.1 st 2 + c
        rw [c2]
        have := k.isLt
        omega
      | ⟨3, _⟩ =>
        show Host.clampedStart (⟨4, ![a, b, c, d]⟩ : Shape) (⟨4, ![1, b, c, d]⟩ : Shape) h.1 st 3 ≤ l.val ∧ l.val < Host.clampedStart (⟨4, ![a, b, c, d]⟩ : Shape) (⟨4, ![1, b, c, d]⟩ : Shape) h.1 st 3 + d
        rw [c3]
        have := l.isLt
        omega
    · refine congrArg Real.toEReal ?_
      congr 1 <;> refine Fin.ext ?_
      · show i.val - Host.clampedStart (⟨4, ![a, b, c, d]⟩ : Shape) (⟨4, ![1, b, c, d]⟩ : Shape) h.1 st 0 = 0
        rw [c0]
        omega
      · show j.val - Host.clampedStart (⟨4, ![a, b, c, d]⟩ : Shape) (⟨4, ![1, b, c, d]⟩ : Shape) h.1 st 1 = j.val
        rw [c1]
        omega
      · show k.val - Host.clampedStart (⟨4, ![a, b, c, d]⟩ : Shape) (⟨4, ![1, b, c, d]⟩ : Shape) h.1 st 2 = k.val
        rw [c2]
        omega
      · show l.val - Host.clampedStart (⟨4, ![a, b, c, d]⟩ : Shape) (⟨4, ![1, b, c, d]⟩ : Shape) h.1 st 3 = l.val
        rw [c3]
        omega
  · rw [if_neg hi]
    refine (dif_neg fun hin => ?_).trans rfl
    have h0 : Host.clampedStart (⟨4, ![a, b, c, d]⟩ : Shape) (⟨4, ![1, b, c, d]⟩ : Shape) h.1 st 0 ≤ i.val ∧ i.val < Host.clampedStart (⟨4, ![a, b, c, d]⟩ : Shape) (⟨4, ![1, b, c, d]⟩ : Shape) h.1 st 0 + 1 := hin 0
    rw [c0] at h0
    exact hi (Fin.ext (by omega))

/-- Running sums along an axis, from the left and from the right. -/
theorem cum4 {a b d p : ℕ} {n : ℕ} (hp : p + 1 = n) (f : Fin a → Fin b → Fin n → Fin d → ℝ) (h) (hu) :
    (Host.reduceWindowAdd ![1, 1, n, 1] ![1, 1, 1, 1] ![0, 0, p, 0] ![0, 0, 0, 0] (up4 f : FVec Ideal ⟨4, ![a, b, n, d]⟩ .f32)
      (up0 0 : FVec Ideal ⟨0, ![]⟩ .f32) h hu : FVec Ideal ⟨4, ![a, b, n, d]⟩ .f32)
      = up4 fun i j k l => ∑ s : Fin n, if s ≤ k then f i j s l else 0 :=
  ext4 fun i j k l => (window4 p 0 f h hu i j k l).trans (congrArg Real.toEReal (sum_upTo p hp (fun s => f i j s l) k))
theorem cumRev4 {a b d : ℕ} {n q : ℕ} (f : Fin a → Fin b → Fin n → Fin d → ℝ) (h) (hu) :
    (Host.reduceWindowAdd ![1, 1, n, 1] ![1, 1, 1, 1] ![0, 0, 0, 0] ![0, 0, q, 0] (up4 f : FVec Ideal ⟨4, ![a, b, n, d]⟩ .f32)
      (up0 0 : FVec Ideal ⟨0, ![]⟩ .f32) h hu : FVec Ideal ⟨4, ![a, b, n, d]⟩ .f32)
      = up4 fun i j k l => ∑ s : Fin n, if k ≤ s then f i j s l else 0 :=
  ext4 fun i j k l => (window4 0 q f h hu i j k l).trans (congrArg Real.toEReal (sum_from (fun s => f i j s l) k))
theorem cum3 {a d p : ℕ} {n : ℕ} (hp : p + 1 = n) (f : Fin a → Fin n → Fin d → ℝ) (h) (hu) :
    (Host.reduceWindowAdd ![1, n, 1] ![1, 1, 1] ![0, p, 0] ![0, 0, 0] (up3 f : FVec Ideal ⟨3, ![a, n, d]⟩ .f32)
      (up0 0 : FVec Ideal ⟨0, ![]⟩ .f32) h hu : FVec Ideal ⟨3, ![a, n, d]⟩ .f32)
      = up3 fun i j k => ∑ s : Fin n, if s ≤ j then f i s k else 0 :=
  ext3 fun i j k => (window3 p 0 f h hu i j k).trans (congrArg Real.toEReal (sum_upTo p hp (fun s => f i s k) j))

/-! ### Comparisons that never hold of real numbers, and the lower triangle -/

theorem une_self2 {a b : ℕ} (f : Fin a → Fin b → ℝ) : cmpf (F := Ideal) (φ := .f32) .une (up2 f) (up2 f) = fun _ => 0#1 := by
  funext x
  show BitVec.ofBool (decide (up2 f x ≠ up2 f x)) = 0#1
  simp
theorem oeq_inf2 {a b : ℕ} (f : Fin a → Fin b → ℝ) (y : (⟨2, ![a, b]⟩ : Shape).Idx → EReal) (hy : ∀ x, y x = ⊤) :
    cmpf (F := Ideal) (φ := .f32) .oeq (up2 f) y = fun _ => 0#1 := by
  funext x
  show BitVec.ofBool (decide (up2 f x = y x)) = 0#1
  rw [hy, decide_eq_false (show ¬ up2 f x = ⊤ from EReal.coe_ne_top _)]
  rfl
theorem w_inf : Ideal.ofBits .f32 0x7F800000#32 = (⊤ : EReal) := by simp [Ideal.ofBits, Ideal.ieee]
theorem sel_none {s : Shape} (f g : s.Idx → EReal) : select (fun _ => 0#1) f g = g := by
  funext x
  show (if (0#1 : BitVec 1) = 1 then f x else g x) = g x
  exact if_neg (by decide)

/-- The lower triangle. -/
def low4 (_ : Fin 4) (_ : Fin 256) (c s : Fin 32) : Bool := decide (s ≤ c)
theorem tri32 {h h' h'' : Shape.BroadcastsInDim ⟨0, ![]⟩ ⟨2, ![32, 32]⟩ ![]} :
    select (cmpi .sge (addi (iotaInDim ⟨2, ![32, 32]⟩ 32 0) (broadcastInDim ⟨2, ![32, 32]⟩ ![] h (constantI ⟨0, ![]⟩ 32 0#32))) (iotaInDim ⟨2, ![32, 32]⟩ 32 1))
      (broadcastInDim ⟨2, ![32, 32]⟩ ![] h' (constantI ⟨0, ![]⟩ 1 1#1)) (broadcastInDim ⟨2, ![32, 32]⟩ ![] h'' (constantI ⟨0, ![]⟩ 1 0#1))
      = fun x => BitVec.ofBool (decide (x 1 ≤ x 0)) := by
  funext x
  rw [eq_ix2 x]
  have key : ∀ a b : Fin 32, Scalar.select (Scalar.cmpi .sge (BitVec.ofNat 32 a.val + 0#32) (BitVec.ofNat 32 b.val)) (1#1) (0#1) = BitVec.ofBool (decide (b ≤ a)) := by decide +kernel
  exact key _ _

/-! ### Rows, columns, heads -/

/-- Token `c` of chunk `n`; the chunk of a token and its place there; component `d` of head `h` and back. -/
def row (n : Fin 256) (c : Fin 32) : Fin 8192 := ⟨n.val * 32 + c.val, by omega⟩
def chk (t : Fin 8192) : Fin 256 := ⟨t.val / 32, by omega⟩
def pos (t : Fin 8192) : Fin 32 := ⟨t.val % 32, by omega⟩
def colK (h : Fin 4) (d : Fin 128) : Fin 512 := ⟨h.val * 128 + d.val, by omega⟩
def headK (j : Fin 512) : Fin 4 := ⟨j.val / 128, by omega⟩
def dimK (j : Fin 512) : Fin 128 := ⟨j.val % 128, by omega⟩
def colV (h : Fin 4) (d : Fin 256) : Fin 1024 := ⟨h.val * 256 + d.val, by omega⟩
def headV (j : Fin 1024) : Fin 4 := ⟨j.val / 256, by omega⟩
def dimV (j : Fin 1024) : Fin 256 := ⟨j.val % 256, by omega⟩

/-- The columns of the projection that are query, key, value, gate. -/
def qcol (j : Fin 512) : Fin 7680 := ⟨6144 + j.val, by omega⟩
def kcol (j : Fin 512) : Fin 7680 := ⟨6656 + j.val, by omega⟩
def vcol (j : Fin 1024) : Fin 7680 := ⟨4096 + j.val, by omega⟩
def rcol (j : Fin 1024) : Fin 7680 := ⟨5120 + j.val, by omega⟩

theorem sl_8192x7680_8192x512_0_6144 (f : Fin 8192 → Fin 7680 → ℝ) (h) : extractStridedSlice (⟨2, ![8192, 512]⟩ : Shape) ![0, 6144] (up2 f) h = up2 (fun (i : Fin 8192) (j : Fin 512) => f i (qcol j)) := ext2 fun i j => by
  pointwise
  first | done | rfl
theorem sl_8192x7680_8192x512_0_6656 (f : Fin 8192 → Fin 7680 → ℝ) (h) : extractStridedSlice (⟨2, ![8192, 512]⟩ : Shape) ![0, 6656] (up2 f) h = up2 (fun (i : Fin 8192) (j : Fin 512) => f i (kcol j)) := ext2 fun i j => by
  pointwise
  first | done | rfl
theorem sl_8192x7680_8192x1024_0_4096 (f : Fin 8192 → Fin 7680 → ℝ) (h) : extractStridedSlice (⟨2, ![8192, 1024]⟩ : Shape) ![0, 4096] (up2 f) h = up2 (fun (i : Fin 8192) (j : Fin 1024) => f i (vcol j)) := ext2 fun i j => by
  pointwise
  first | done | rfl
theorem sl_8192x7680_8192x1024_0_5120 (f : Fin 8192 → Fin 7680 → ℝ) (h) : extractStridedSlice (⟨2, ![8192, 1024]⟩ : Shape) ![0, 5120] (up2 f) h = up2 (fun (i : Fin 8192) (j : Fin 1024) => f i (rcol j)) := ext2 fun i j => by
  pointwise
  first | done | rfl
theorem resh_1x512_512 (f : Fin 1 → Fin 512 → ℝ) (h) : shapeCast (⟨1, ![512]⟩ : Shape) (up2 f) h = up1 (fun (i : Fin 512) => f 0 i) := ext1 fun i => by
  pointwise
  first | done | rfl
theorem resh_1x1024_1024 (f : Fin 1 → Fin 1024 → ℝ) (h) : shapeCast (⟨1, ![1024]⟩ : Shape) (up2 f) h = up1 (fun (i : Fin 1024) => f 0 i) := ext1 fun i => by
  pointwise
  first | done | rfl
theorem hdot_S8192x128_S128x512_S8192x512_1_0_0_1_n_n [Cert.ReferenceIdeal.Facts₀] (f : Fin 8192 → Fin 128 → ℝ) (g : Fin 128 → Fin 512 → ℝ) : (Host.dotGeneral (φ₁ := .f32) (φ₂ := .f32) Cert.ReferenceIdeal.dot_S8192x128_S128x512_S8192x512_1_0_0_1_n_n none ((up2 f : FVec Ideal (⟨2, ![8192, 128]⟩ : Shape) .f32)) ((up2 g : FVec Ideal (⟨2, ![128, 512]⟩ : Shape) .f32)) : FVec Ideal (⟨2, ![8192, 512]⟩ : Shape) .f32) = up2 (fun (i : Fin 8192) (j : Fin 512) => ∑ s : Fin 128, f i s * g s j) := ext2 fun i j => by
  pointwise
  exact sum_coe_mul _ _
theorem bc_512_1x512_1 (f : Fin 512 → ℝ) (h) : broadcastInDim (⟨2, ![1, 512]⟩ : Shape) ![1] h (up1 f) = up2 (fun (i : Fin 1) (j : Fin 512) => f j) := ext2 fun i j => by
  pointwise
  first | done | rfl
theorem bc_1x512_8192x512_01 (f : Fin 1 → Fin 512 → ℝ) (h) : broadcastInDim (⟨2, ![8192, 512]⟩ : Shape) ![0, 1] h (up2 f) = up2 (fun (i : Fin 8192) (j : Fin 512) => f 0 j) := ext2 fun i j => by
  pointwise
  first | done | rfl
theorem bc_u_8192x512_ (f : ℝ) (h) : broadcastInDim (⟨2, ![8192, 512]⟩ : Shape) ![] h (up0 f) = up2 (fun (i : Fin 8192) (j : Fin 512) => f) := ext2 fun i j => by
  pointwise
  first | done | rfl
theorem resh_8192x512_256x32x4x128 (f : Fin 8192 → Fin 512 → ℝ) (h) : shapeCast (⟨4, ![256, 32, 4, 128]⟩ : Shape) (up2 f) h = up4 (fun (i : Fin 256) (j : Fin 32) (k : Fin 4) (l : Fin 128) => f (row i j) (colK k l)) := ext4 fun i j k l => by
  pointwise
  first | done | rfl
theorem tr_256x32x4x128_2013 (f : Fin 256 → Fin 32 → Fin 4 → Fin 128 → ℝ) (h) : transpose (⟨4, ![4, 256, 32, 128]⟩ : Shape) [2, 0, 1, 3] (up4 f) h = up4 (fun (i : Fin 4) (j : Fin 256) (k : Fin 32) (l : Fin 128) => f j k i l) := ext4 fun i j k l => by
  pointwise
  first | done | rfl
theorem bc_u_4x256x32x128_ (f : ℝ) (h) : broadcastInDim (⟨4, ![4, 256, 32, 128]⟩ : Shape) ![] h (up0 f) = up4 (fun (i : Fin 4) (j : Fin 256) (k : Fin 32) (l : Fin 128) => f) := ext4 fun i j k l => by
  pointwise
  first | done | rfl
theorem resh_8192x1024_256x32x4x256 (f : Fin 8192 → Fin 1024 → ℝ) (h) : shapeCast (⟨4, ![256, 32, 4, 256]⟩ : Shape) (up2 f) h = up4 (fun (i : Fin 256) (j : Fin 32) (k : Fin 4) (l : Fin 256) => f (row i j) (colV k l)) := ext4 fun i j k l => by
  pointwise
  first | done | rfl
theorem tr_256x32x4x256_2013 (f : Fin 256 → Fin 32 → Fin 4 → Fin 256 → ℝ) (h) : transpose (⟨4, ![4, 256, 32, 256]⟩ : Shape) [2, 0, 1, 3] (up4 f) h = up4 (fun (i : Fin 4) (j : Fin 256) (k : Fin 32) (l : Fin 256) => f j k i l) := ext4 fun i j k l => by
  pointwise
  first | done | rfl
theorem bc_u_u_ (f : ℝ) (h) : broadcastInDim (⟨0, ![]⟩ : Shape) ![] h (up0 f) = up0 f := rfl
theorem sl_4x256x32x128_4x256x1x128_0_0_31_0 (f : Fin 4 → Fin 256 → Fin 32 → Fin 128 → ℝ) (h) : extractStridedSlice (⟨4, ![4, 256, 1, 128]⟩ : Shape) ![0, 0, 31, 0] (up4 f) h = up4 (fun (i : Fin 4) (j : Fin 256) (k : Fin 1) (l : Fin 128) => f i j 31 l) := ext4 fun i j k l => by
  pointwise
  first | done | rfl
theorem bc_4x256x1x128_4x256x32x128_0123 (f : Fin 4 → Fin 256 → Fin 1 → Fin 128 → ℝ) (h) : broadcastInDim (⟨4, ![4, 256, 32, 128]⟩ : Shape) ![0, 1, 2, 3] h (up4 f) = up4 (fun (i : Fin 4) (j : Fin 256) (k : Fin 32) (l : Fin 128) => f i j 0 l) := ext4 fun i j k l => by
  pointwise
  first | done | rfl
theorem hdot_S4x256x32x128_S4x256x32x128_S4x256x32x32_3_3_2_2_01_01 [Cert.ReferenceIdeal.Facts₀] (f : Fin 4 → Fin 256 → Fin 32 → Fin 128 → ℝ) (g : Fin 4 → Fin 256 → Fin 32 → Fin 128 → ℝ) : (Host.dotGeneral (φ₁ := .f32) (φ₂ := .f32) Cert.ReferenceIdeal.dot_S4x256x32x128_S4x256x32x128_S4x256x32x32_3_3_2_2_01_01 none ((up4 f : FVec Ideal (⟨4, ![4, 256, 32, 128]⟩ : Shape) .f32)) ((up4 g : FVec Ideal (⟨4, ![4, 256, 32, 128]⟩ : Shape) .f32)) : FVec Ideal (⟨4, ![4, 256, 32, 32]⟩ : Shape) .f32) = up4 (fun (i : Fin 4) (j : Fin 256) (k : Fin 32) (l : Fin 32) => ∑ s : Fin 128, f i j k s * g i j l s) := ext4 fun i j k l => by
  pointwise
  exact sum_coe_mul _ _
theorem bc_u_4x256x32x32_ (f : ℝ) (h) : broadcastInDim (⟨4, ![4, 256, 32, 32]⟩ : Shape) ![] h (up0 f) = up4 (fun (i : Fin 4) (j : Fin 256) (k : Fin 32) (l : Fin 32) => f) := ext4 fun i j k l => by
  pointwise
  first | done | rfl
theorem hdot_S4x256x32x32_S4x256x32x256_S4x256x32x256_3_2_2_3_01_01 [Cert.ReferenceIdeal.Facts₀] (f : Fin 4 → Fin 256 → Fin 32 → Fin 32 → ℝ) (g : Fin 4 → Fin 256 → Fin 32 → Fin 256 → ℝ) : (Host.dotGeneral (φ₁ := .f32) (φ₂ := .f32) Cert.ReferenceIdeal.dot_S4x256x32x32_S4x256x32x256_S4x256x32x256_3_2_2_3_01_01 none ((up4 f : FVec Ideal (⟨4, ![4, 256, 32, 32]⟩ : Shape) .f32)) ((up4 g : FVec Ideal (⟨4, ![4, 256, 32, 256]⟩ : Shape) .f32)) : FVec Ideal (⟨4, ![4, 256, 32, 256]⟩ : Shape) .f32) = up4 (fun (i : Fin 4) (j : Fin 256) (k : Fin 32) (l : Fin 256) => ∑ s : Fin 32, f i j k s * g i j s l) := ext4 fun i j k l => by
  pointwise
  exact sum_coe_mul _ _
theorem tr_4x256x32x128_1023 (f : Fin 4 → Fin 256 → Fin 32 → Fin 128 → ℝ) (h) : transpose (⟨4, ![256, 4, 32, 128]⟩ : Shape) [1, 0, 2, 3] (up4 f) h = up4 (fun (i : Fin 256) (j : Fin 4) (k : Fin 32) (l : Fin 128) => f j i k l) := ext4 fun i j k l => by
  pointwise
  first | done | rfl
theorem tr_4x256x32x256_1023 (f : Fin 4 → Fin 256 → Fin 32 → Fin 256 → ℝ) (h) : transpose (⟨4, ![256, 4, 32, 256]⟩ : Shape) [1, 0, 2, 3] (up4 f) h = up4 (fun (i : Fin 256) (j : Fin 4) (k : Fin 32) (l : Fin 256) => f j i k l) := ext4 fun i j k l => by
  pointwise
  first | done | rfl
theorem resh_4x256x1x128_4x256x128 (f : Fin 4 → Fin 256 → Fin 1 → Fin 128 → ℝ) (h) : shapeCast (⟨3, ![4, 256, 128]⟩ : Shape) (up4 f) h = up3 (fun (i : Fin 4) (j : Fin 256) (k : Fin 128) => f i j 0 k) := ext3 fun i j k => by
  pointwise
  first | done | rfl
theorem tr_4x256x128_102 (f : Fin 4 → Fin 256 → Fin 128 → ℝ) (h) : transpose (⟨3, ![256, 4, 128]⟩ : Shape) [1, 0, 2] (up3 f) h = up3 (fun (i : Fin 256) (j : Fin 4) (k : Fin 128) => f j i k) := ext3 fun i j k => by
  pointwise
  first | done | rfl
theorem bc_u_4x128x256_ (f : ℝ) (h) : broadcastInDim (⟨3, ![4, 128, 256]⟩ : Shape) ![] h (up0 f) = up3 (fun (i : Fin 4) (j : Fin 128) (k : Fin 256) => f) := ext3 fun i j k => by
  pointwise
  first | done | rfl
theorem bc_u_256x4x32x256_ (f : ℝ) (h) : broadcastInDim (⟨4, ![256, 4, 32, 256]⟩ : Shape) ![] h (up0 f) = up4 (fun (i : Fin 256) (j : Fin 4) (k : Fin 32) (l : Fin 256) => f) := ext4 fun i j k l => by
  pointwise
  first | done | rfl
theorem bc_u_256x4x128x256_ (f : ℝ) (h) : broadcastInDim (⟨4, ![256, 4, 128, 256]⟩ : Shape) ![] h (up0 f) = up4 (fun (i : Fin 256) (j : Fin 4) (k : Fin 128) (l : Fin 256) => f) := ext4 fun i j k l => by
  pointwise
  first | done | rfl
theorem bc_u_256x4x128x1_ (f : ℝ) (h) : broadcastInDim (⟨4, ![256, 4, 128, 1]⟩ : Shape) ![] h (up0 f) = up4 (fun (i : Fin 256) (j : Fin 4) (k : Fin 128) (l : Fin 1) => f) := ext4 fun i j k l => by
  pointwise
  first | done | rfl
theorem resh_1x4x32x128_4x32x128 (f : Fin 1 → Fin 4 → Fin 32 → Fin 128 → ℝ) (h) : shapeCast (⟨3, ![4, 32, 128]⟩ : Shape) (up4 f) h = up3 (fun (i : Fin 4) (j : Fin 32) (k : Fin 128) => f 0 i j k) := ext3 fun i j k => by
  pointwise
  first | done | rfl
theorem resh_1x4x32x256_4x32x256 (f : Fin 1 → Fin 4 → Fin 32 → Fin 256 → ℝ) (h) : shapeCast (⟨3, ![4, 32, 256]⟩ : Shape) (up4 f) h = up3 (fun (i : Fin 4) (j : Fin 32) (k : Fin 256) => f 0 i j k) := ext3 fun i j k => by
  pointwise
  first | done | rfl
theorem resh_1x4x128_4x128 (f : Fin 1 → Fin 4 → Fin 128 → ℝ) (h) : shapeCast (⟨2, ![4, 128]⟩ : Shape) (up3 f) h = up2 (fun (i : Fin 4) (j : Fin 128) => f 0 i j) := ext2 fun i j => by
  pointwise
  first | done | rfl
theorem hdot_S4x32x128_S4x128x256_S4x32x256_2_1_1_2_0_0 [Cert.ReferenceIdeal.Facts₀] (f : Fin 4 → Fin 32 → Fin 128 → ℝ) (g : Fin 4 → Fin 128 → Fin 256 → ℝ) : (Host.dotGeneral (φ₁ := .f32) (φ₂ := .f32) Cert.ReferenceIdeal.dot_S4x32x128_S4x128x256_S4x32x256_2_1_1_2_0_0 none ((up3 f : FVec Ideal (⟨3, ![4, 32, 128]⟩ : Shape) .f32)) ((up3 g : FVec Ideal (⟨3, ![4, 128, 256]⟩ : Shape) .f32)) : FVec Ideal (⟨3, ![4, 32, 256]⟩ : Shape) .f32) = up3 (fun (i : Fin 4) (j : Fin 32) (k : Fin 256) => ∑ s : Fin 128, f i j s * g i s k) := ext3 fun i j k => by
  pointwise
  exact sum_coe_mul _ _
theorem bc_4x128_4x128x1_01 (f : Fin 4 → Fin 128 → ℝ) (h) : broadcastInDim (⟨3, ![4, 128, 1]⟩ : Shape) ![0, 1] h (up2 f) = up3 (fun (i : Fin 4) (j : Fin 128) (k : Fin 1) => f i j) := ext3 fun i j k => by
  pointwise
  first | done | rfl
theorem bc_4x128x1_4x128x256_012 (f : Fin 4 → Fin 128 → Fin 1 → ℝ) (h) : broadcastInDim (⟨3, ![4, 128, 256]⟩ : Shape) ![0, 1, 2] h (up3 f) = up3 (fun (i : Fin 4) (j : Fin 128) (k : Fin 256) => f i j 0) := ext3 fun i j k => by
  pointwise
  first | done | rfl
theorem hdot_S4x32x128_S4x32x256_S4x128x256_1_1_2_2_0_0 [Cert.ReferenceIdeal.Facts₀] (f : Fin 4 → Fin 32 → Fin 128 → ℝ) (g : Fin 4 → Fin 32 → Fin 256 → ℝ) : (Host.dotGeneral (φ₁ := .f32) (φ₂ := .f32) Cert.ReferenceIdeal.dot_S4x32x128_S4x32x256_S4x128x256_1_1_2_2_0_0 none ((up3 f : FVec Ideal (⟨3, ![4, 32, 128]⟩ : Shape) .f32)) ((up3 g : FVec Ideal (⟨3, ![4, 32, 256]⟩ : Shape) .f32)) : FVec Ideal (⟨3, ![4, 128, 256]⟩ : Shape) .f32) = up3 (fun (i : Fin 4) (j : Fin 128) (k : Fin 256) => ∑ s : Fin 32, f i s j * g i s k) := ext3 fun i j k => by
  pointwise
  exact sum_coe_mul _ _
theorem bc_4x32x256_1x4x32x256_123 (f : Fin 4 → Fin 32 → Fin 256 → ℝ) (h) : broadcastInDim (⟨4, ![1, 4, 32, 256]⟩ : Shape) ![1, 2, 3] h (up3 f) = up4 (fun (i : Fin 1) (j : Fin 4) (k : Fin 32) (l : Fin 256) => f j k l) := ext4 fun i j k l => by
  pointwise
  first | done | rfl
theorem bc_4x128x256_1x4x128x256_123 (f : Fin 4 → Fin 128 → Fin 256 → ℝ) (h) : broadcastInDim (⟨4, ![1, 4, 128, 256]⟩ : Shape) ![1, 2, 3] h (up3 f) = up4 (fun (i : Fin 1) (j : Fin 4) (k : Fin 128) (l : Fin 256) => f j k l) := ext4 fun i j k l => by
  pointwise
  first | done | rfl
theorem bc_4x128x1_1x4x128x1_123 (f : Fin 4 → Fin 128 → Fin 1 → ℝ) (h) : broadcastInDim (⟨4, ![1, 4, 128, 1]⟩ : Shape) ![1, 2, 3] h (up3 f) = up4 (fun (i : Fin 1) (j : Fin 4) (k : Fin 128) (l : Fin 1) => f j k 0) := ext4 fun i j k l => by
  pointwise
  first | done | rfl
theorem tr_256x4x32x256_1023 (f : Fin 256 → Fin 4 → Fin 32 → Fin 256 → ℝ) (h) : transpose (⟨4, ![4, 256, 32, 256]⟩ : Shape) [1, 0, 2, 3] (up4 f) h = up4 (fun (i : Fin 4) (j : Fin 256) (k : Fin 32) (l : Fin 256) => f j i k l) := ext4 fun i j k l => by
  pointwise
  first | done | rfl
theorem tr_4x256x32x256_1203 (f : Fin 4 → Fin 256 → Fin 32 → Fin 256 → ℝ) (h) : transpose (⟨4, ![256, 32, 4, 256]⟩ : Shape) [1, 2, 0, 3] (up4 f) h = up4 (fun (i : Fin 256) (j : Fin 32) (k : Fin 4) (l : Fin 256) => f k i j l) := ext4 fun i j k l => by
  pointwise
  first | done | rfl
theorem resh_256x32x4x256_8192x4x256 (f : Fin 256 → Fin 32 → Fin 4 → Fin 256 → ℝ) (h) : shapeCast (⟨3, ![8192, 4, 256]⟩ : Shape) (up4 f) h = up3 (fun (i : Fin 8192) (j : Fin 4) (k : Fin 256) => f (chk i) (pos i) j k) := ext3 fun i j k => by
  pointwise
  first | done | rfl
theorem red_8192x4x256_2 (f : Fin 8192 → Fin 4 → Fin 256 → ℝ) (h : Shape.ReducesTo (⟨3, ![8192, 4, 256]⟩ : Shape) [2] (⟨2, ![8192, 4]⟩ : Shape)) (hu) : (Host.reduceAdd ((up3 f : FVec Ideal (⟨3, ![8192, 4, 256]⟩ : Shape) .f32)) ((up0 0 : FVec Ideal ⟨0, ![]⟩ .f32)) h hu : FVec Ideal (⟨2, ![8192, 4]⟩ : Shape) .f32) = up2 (fun (i : Fin 8192) (j : Fin 4) => ∑ s : Fin 256, f i j s) := ext2 fun i j => by
  pointwise
  simp only [up0_ix, EReal.coe_zero, zero_add]
  exact sum_coe _
theorem bc_8192x4_8192x4x1_01 (f : Fin 8192 → Fin 4 → ℝ) (h) : broadcastInDim (⟨3, ![8192, 4, 1]⟩ : Shape) ![0, 1] h (up2 f) = up3 (fun (i : Fin 8192) (j : Fin 4) (k : Fin 1) => f i j) := ext3 fun i j k => by
  pointwise
  first | done | rfl
theorem bc_u_8192x4x1_ (f : ℝ) (h) : broadcastInDim (⟨3, ![8192, 4, 1]⟩ : Shape) ![] h (up0 f) = up3 (fun (i : Fin 8192) (j : Fin 4) (k : Fin 1) => f) := ext3 fun i j k => by
  pointwise
  first | done | rfl
theorem bc_8192x4x1_8192x4x256_012 (f : Fin 8192 → Fin 4 → Fin 1 → ℝ) (h) : broadcastInDim (⟨3, ![8192, 4, 256]⟩ : Shape) ![0, 1, 2] h (up3 f) = up3 (fun (i : Fin 8192) (j : Fin 4) (k : Fin 256) => f i j 0) := ext3 fun i j k => by
  pointwise
  first | done | rfl
theorem resh_8192x4x256_8192x1024 (f : Fin 8192 → Fin 4 → Fin 256 → ℝ) (h) : shapeCast (⟨2, ![8192, 1024]⟩ : Shape) (up3 f) h = up2 (fun (i : Fin 8192) (j : Fin 1024) => f i (headV j) (dimV j)) := ext2 fun i j => by
  pointwise
  first | done | rfl
theorem bc_1024_1x1024_1 (f : Fin 1024 → ℝ) (h) : broadcastInDim (⟨2, ![1, 1024]⟩ : Shape) ![1] h (up1 f) = up2 (fun (i : Fin 1) (j : Fin 1024) => f j) := ext2 fun i j => by
  pointwise
  first | done | rfl
theorem bc_1x1024_8192x1024_01 (f : Fin 1 → Fin 1024 → ℝ) (h) : broadcastInDim (⟨2, ![8192, 1024]⟩ : Shape) ![0, 1] h (up2 f) = up2 (fun (i : Fin 8192) (j : Fin 1024) => f 0 j) := ext2 fun i j => by
  pointwise
  first | done | rfl
theorem bc_u_8192x1024_ (f : ℝ) (h) : broadcastInDim (⟨2, ![8192, 1024]⟩ : Shape) ![] h (up0 f) = up2 (fun (i : Fin 8192) (j : Fin 1024) => f) := ext2 fun i j => by
  pointwise
  first | done | rfl
theorem red_8192x1024_0 (f : Fin 8192 → Fin 1024 → ℝ) (h : Shape.ReducesTo (⟨2, ![8192, 1024]⟩ : Shape) [0] (⟨1, ![1024]⟩ : Shape)) (hu) : (Host.reduceAdd ((up2 f : FVec Ideal (⟨2, ![8192, 1024]⟩ : Shape) .f32)) ((up0 0 : FVec Ideal ⟨0, ![]⟩ .f32)) h hu : FVec Ideal (⟨1, ![1024]⟩ : Shape) .f32) = up1 (fun (i : Fin 1024) => ∑ s : Fin 8192, f s i) := ext1 fun i => by
  pointwise
  simp only [up0_ix, EReal.coe_zero, zero_add]
  exact sum_coe _
theorem resh_1024_1x1024 (f : Fin 1024 → ℝ) (h) : shapeCast (⟨2, ![1, 1024]⟩ : Shape) (up1 f) h = up2 (fun (i : Fin 1) (j : Fin 1024) => f j) := ext2 fun i j => by
  pointwise
  first | done | rfl
theorem red_1x1024_0 (f : Fin 1 → Fin 1024 → ℝ) (h : Shape.ReducesTo (⟨2, ![1, 1024]⟩ : Shape) [0] (⟨1, ![1024]⟩ : Shape)) (hu) : (Host.reduceAdd ((up2 f : FVec Ideal (⟨2, ![1, 1024]⟩ : Shape) .f32)) ((up0 0 : FVec Ideal ⟨0, ![]⟩ .f32)) h hu : FVec Ideal (⟨1, ![1024]⟩ : Shape) .f32) = up1 (fun (i : Fin 1024) => f 0 i) := ext1 fun i => by
  pointwise
  simp only [up0_ix, EReal.coe_zero, zero_add]
  rw [Fin.sum_univ_one]
  rfl
theorem resh_8192x1024_8192x4x256 (f : Fin 8192 → Fin 1024 → ℝ) (h) : shapeCast (⟨3, ![8192, 4, 256]⟩ : Shape) (up2 f) h = up3 (fun (i : Fin 8192) (j : Fin 4) (k : Fin 256) => f i (colV j k)) := ext3 fun i j k => by
  pointwise
  first | done | rfl
theorem resh_8192x4_8192x4x1 (f : Fin 8192 → Fin 4 → ℝ) (h) : shapeCast (⟨3, ![8192, 4, 1]⟩ : Shape) (up2 f) h = up3 (fun (i : Fin 8192) (j : Fin 4) (k : Fin 1) => f i j) := ext3 fun i j k => by
  pointwise
  first | done | rfl
theorem red_8192x4x1_2 (f : Fin 8192 → Fin 4 → Fin 1 → ℝ) (h : Shape.ReducesTo (⟨3, ![8192, 4, 1]⟩ : Shape) [2] (⟨2, ![8192, 4]⟩ : Shape)) (hu) : (Host.reduceAdd ((up3 f : FVec Ideal (⟨3, ![8192, 4, 1]⟩ : Shape) .f32)) ((up0 0 : FVec Ideal ⟨0, ![]⟩ .f32)) h hu : FVec Ideal (⟨2, ![8192, 4]⟩ : Shape) .f32) = up2 (fun (i : Fin 8192) (j : Fin 4) => f i j 0) := ext2 fun i j => by
  pointwise
  simp only [up0_ix, EReal.coe_zero, zero_add]
  rw [Fin.sum_univ_one]
  rfl
theorem bc_8192x4_8192x4x256_01 (f : Fin 8192 → Fin 4 → ℝ) (h) : broadcastInDim (⟨3, ![8192, 4, 256]⟩ : Shape) ![0, 1] h (up2 f) = up3 (fun (i : Fin 8192) (j : Fin 4) (k : Fin 256) => f i j) := ext3 fun i j k => by
  pointwise
  first | done | rfl
theorem resh_8192x4x256_256x32x4x256 (f : Fin 8192 → Fin 4 → Fin 256 → ℝ) (h) : shapeCast (⟨4, ![256, 32, 4, 256]⟩ : Shape) (up3 f) h = up4 (fun (i : Fin 256) (j : Fin 32) (k : Fin 4) (l : Fin 256) => f (row i j) k l) := ext4 fun i j k l => by
  pointwise
  first | done | rfl
theorem bc_u_256x4x32x128_ (f : ℝ) (h) : broadcastInDim (⟨4, ![256, 4, 32, 128]⟩ : Shape) ![] h (up0 f) = up4 (fun (i : Fin 256) (j : Fin 4) (k : Fin 32) (l : Fin 128) => f) := ext4 fun i j k l => by
  pointwise
  first | done | rfl
theorem bc_u_256x4x128_ (f : ℝ) (h) : broadcastInDim (⟨3, ![256, 4, 128]⟩ : Shape) ![] h (up0 f) = up3 (fun (i : Fin 256) (j : Fin 4) (k : Fin 128) => f) := ext3 fun i j k => by
  pointwise
  first | done | rfl
theorem resh_1x4x128x256_4x128x256 (f : Fin 1 → Fin 4 → Fin 128 → Fin 256 → ℝ) (h) : shapeCast (⟨3, ![4, 128, 256]⟩ : Shape) (up4 f) h = up3 (fun (i : Fin 4) (j : Fin 128) (k : Fin 256) => f 0 i j k) := ext3 fun i j k => by
  pointwise
  first | done | rfl
theorem resh_1x4x128x1_4x128x1 (f : Fin 1 → Fin 4 → Fin 128 → Fin 1 → ℝ) (h) : shapeCast (⟨3, ![4, 128, 1]⟩ : Shape) (up4 f) h = up3 (fun (i : Fin 4) (j : Fin 128) (k : Fin 1) => f 0 i j 0) := ext3 fun i j k => by
  pointwise
  first | done | rfl
theorem hdot_S4x128x256_S4x32x128_S4x256x32_1_2_2_1_0_0 [Cert.ReferenceIdeal.Facts₀] (f : Fin 4 → Fin 128 → Fin 256 → ℝ) (g : Fin 4 → Fin 32 → Fin 128 → ℝ) : (Host.dotGeneral (φ₁ := .f32) (φ₂ := .f32) Cert.ReferenceIdeal.dot_S4x128x256_S4x32x128_S4x256x32_1_2_2_1_0_0 none ((up3 f : FVec Ideal (⟨3, ![4, 128, 256]⟩ : Shape) .f32)) ((up3 g : FVec Ideal (⟨3, ![4, 32, 128]⟩ : Shape) .f32)) : FVec Ideal (⟨3, ![4, 256, 32]⟩ : Shape) .f32) = up3 (fun (i : Fin 4) (j : Fin 256) (k : Fin 32) => ∑ s : Fin 128, f i s j * g i k s) := ext3 fun i j k => by
  pointwise
  exact sum_coe_mul _ _
theorem tr_4x256x32_021 (f : Fin 4 → Fin 256 → Fin 32 → ℝ) (h) : transpose (⟨3, ![4, 32, 256]⟩ : Shape) [0, 2, 1] (up3 f) h = up3 (fun (i : Fin 4) (j : Fin 32) (k : Fin 256) => f i k j) := ext3 fun i j k => by
  pointwise
  first | done | rfl
theorem hdot_S4x128x256_S4x32x256_S4x128x32_2_2_1_1_0_0 [Cert.ReferenceIdeal.Facts₀] (f : Fin 4 → Fin 128 → Fin 256 → ℝ) (g : Fin 4 → Fin 32 → Fin 256 → ℝ) : (Host.dotGeneral (φ₁ := .f32) (φ₂ := .f32) Cert.ReferenceIdeal.dot_S4x128x256_S4x32x256_S4x128x32_2_2_1_1_0_0 none ((up3 f : FVec Ideal (⟨3, ![4, 128, 256]⟩ : Shape) .f32)) ((up3 g : FVec Ideal (⟨3, ![4, 32, 256]⟩ : Shape) .f32)) : FVec Ideal (⟨3, ![4, 128, 32]⟩ : Shape) .f32) = up3 (fun (i : Fin 4) (j : Fin 128) (k : Fin 32) => ∑ s : Fin 256, f i j s * g i k s) := ext3 fun i j k => by
  pointwise
  exact sum_coe_mul _ _
theorem tr_4x128x32_021 (f : Fin 4 → Fin 128 → Fin 32 → ℝ) (h) : transpose (⟨3, ![4, 32, 128]⟩ : Shape) [0, 2, 1] (up3 f) h = up3 (fun (i : Fin 4) (j : Fin 32) (k : Fin 128) => f i k j) := ext3 fun i j k => by
  pointwise
  first | done | rfl
theorem red_4x128x256_2 (f : Fin 4 → Fin 128 → Fin 256 → ℝ) (h : Shape.ReducesTo (⟨3, ![4, 128, 256]⟩ : Shape) [2] (⟨2, ![4, 128]⟩ : Shape)) (hu) : (Host.reduceAdd ((up3 f : FVec Ideal (⟨3, ![4, 128, 256]⟩ : Shape) .f32)) ((up0 0 : FVec Ideal ⟨0, ![]⟩ .f32)) h hu : FVec Ideal (⟨2, ![4, 128]⟩ : Shape) .f32) = up2 (fun (i : Fin 4) (j : Fin 128) => ∑ s : Fin 256, f i j s) := ext2 fun i j => by
  pointwise
  simp only [up0_ix, EReal.coe_zero, zero_add]
  exact sum_coe _
theorem resh_4x128_4x128x1 (f : Fin 4 → Fin 128 → ℝ) (h) : shapeCast (⟨3, ![4, 128, 1]⟩ : Shape) (up2 f) h = up3 (fun (i : Fin 4) (j : Fin 128) (k : Fin 1) => f i j) := ext3 fun i j k => by
  pointwise
  first | done | rfl
theorem red_4x128x1_2 (f : Fin 4 → Fin 128 → Fin 1 → ℝ) (h : Shape.ReducesTo (⟨3, ![4, 128, 1]⟩ : Shape) [2] (⟨2, ![4, 128]⟩ : Shape)) (hu) : (Host.reduceAdd ((up3 f : FVec Ideal (⟨3, ![4, 128, 1]⟩ : Shape) .f32)) ((up0 0 : FVec Ideal ⟨0, ![]⟩ .f32)) h hu : FVec Ideal (⟨2, ![4, 128]⟩ : Shape) .f32) = up2 (fun (i : Fin 4) (j : Fin 128) => f i j 0) := ext2 fun i j => by
  pointwise
  simp only [up0_ix, EReal.coe_zero, zero_add]
  rw [Fin.sum_univ_one]
  rfl
theorem hdot_S4x32x256_S4x32x128_S4x256x128_1_1_2_2_0_0 [Cert.ReferenceIdeal.Facts₀] (f : Fin 4 → Fin 32 → Fin 256 → ℝ) (g : Fin 4 → Fin 32 → Fin 128 → ℝ) : (Host.dotGeneral (φ₁ := .f32) (φ₂ := .f32) Cert.ReferenceIdeal.dot_S4x32x256_S4x32x128_S4x256x128_1_1_2_2_0_0 none ((up3 f : FVec Ideal (⟨3, ![4, 32, 256]⟩ : Shape) .f32)) ((up3 g : FVec Ideal (⟨3, ![4, 32, 128]⟩ : Shape) .f32)) : FVec Ideal (⟨3, ![4, 256, 128]⟩ : Shape) .f32) = up3 (fun (i : Fin 4) (j : Fin 256) (k : Fin 128) => ∑ s : Fin 32, f i s j * g i s k) := ext3 fun i j k => by
  pointwise
  exact sum_coe_mul _ _
theorem tr_4x256x128_021 (f : Fin 4 → Fin 256 → Fin 128 → ℝ) (h) : transpose (⟨3, ![4, 128, 256]⟩ : Shape) [0, 2, 1] (up3 f) h = up3 (fun (i : Fin 4) (j : Fin 128) (k : Fin 256) => f i k j) := ext3 fun i j k => by
  pointwise
  first | done | rfl
theorem hdot_S4x32x256_S4x128x256_S4x32x128_2_2_1_1_0_0 [Cert.ReferenceIdeal.Facts₀] (f : Fin 4 → Fin 32 → Fin 256 → ℝ) (g : Fin 4 → Fin 128 → Fin 256 → ℝ) : (Host.dotGeneral (φ₁ := .f32) (φ₂ := .f32) Cert.ReferenceIdeal.dot_S4x32x256_S4x128x256_S4x32x128_2_2_1_1_0_0 none ((up3 f : FVec Ideal (⟨3, ![4, 32, 256]⟩ : Shape) .f32)) ((up3 g : FVec Ideal (⟨3, ![4, 128, 256]⟩ : Shape) .f32)) : FVec Ideal (⟨3, ![4, 32, 128]⟩ : Shape) .f32) = up3 (fun (i : Fin 4) (j : Fin 32) (k : Fin 128) => ∑ s : Fin 256, f i j s * g i k s) := ext3 fun i j k => by
  pointwise
  exact sum_coe_mul _ _
theorem bc_4x32x128_1x4x32x128_123 (f : Fin 4 → Fin 32 → Fin 128 → ℝ) (h) : broadcastInDim (⟨4, ![1, 4, 32, 128]⟩ : Shape) ![1, 2, 3] h (up3 f) = up4 (fun (i : Fin 1) (j : Fin 4) (k : Fin 32) (l : Fin 128) => f j k l) := ext4 fun i j k l => by
  pointwise
  first | done | rfl
theorem bc_4x128_1x4x128_12 (f : Fin 4 → Fin 128 → ℝ) (h) : broadcastInDim (⟨3, ![1, 4, 128]⟩ : Shape) ![1, 2] h (up2 f) = up3 (fun (i : Fin 1) (j : Fin 4) (k : Fin 128) => f j k) := ext3 fun i j k => by
  pointwise
  first | done | rfl
theorem tr_256x4x128_102 (f : Fin 256 → Fin 4 → Fin 128 → ℝ) (h) : transpose (⟨3, ![4, 256, 128]⟩ : Shape) [1, 0, 2] (up3 f) h = up3 (fun (i : Fin 4) (j : Fin 256) (k : Fin 128) => f j i k) := ext3 fun i j k => by
  pointwise
  first | done | rfl
theorem bc_4x256x128_4x256x1x128_013 (f : Fin 4 → Fin 256 → Fin 128 → ℝ) (h) : broadcastInDim (⟨4, ![4, 256, 1, 128]⟩ : Shape) ![0, 1, 3] h (up3 f) = up4 (fun (i : Fin 4) (j : Fin 256) (k : Fin 1) (l : Fin 128) => f i j l) := ext4 fun i j k l => by
  pointwise
  first | done | rfl
theorem tr_256x4x32x128_1023 (f : Fin 256 → Fin 4 → Fin 32 → Fin 128 → ℝ) (h) : transpose (⟨4, ![4, 256, 32, 128]⟩ : Shape) [1, 0, 2, 3] (up4 f) h = up4 (fun (i : Fin 4) (j : Fin 256) (k : Fin 32) (l : Fin 128) => f j i k l) := ext4 fun i j k l => by
  pointwise
  first | done | rfl
theorem hdot_S4x256x32x256_S4x256x32x32_S4x256x256x32_2_2_3_3_01_01 [Cert.ReferenceIdeal.Facts₀] (f : Fin 4 → Fin 256 → Fin 32 → Fin 256 → ℝ) (g : Fin 4 → Fin 256 → Fin 32 → Fin 32 → ℝ) : (Host.dotGeneral (φ₁ := .f32) (φ₂ := .f32) Cert.ReferenceIdeal.dot_S4x256x32x256_S4x256x32x32_S4x256x256x32_2_2_3_3_01_01 none ((up4 f : FVec Ideal (⟨4, ![4, 256, 32, 256]⟩ : Shape) .f32)) ((up4 g : FVec Ideal (⟨4, ![4, 256, 32, 32]⟩ : Shape) .f32)) : FVec Ideal (⟨4, ![4, 256, 256, 32]⟩ : Shape) .f32) = up4 (fun (i : Fin 4) (j : Fin 256) (k : Fin 256) (l : Fin 32) => ∑ s : Fin 32, f i j s k * g i j s l) := ext4 fun i j k l => by
  pointwise
  exact sum_coe_mul _ _
theorem tr_4x256x256x32_0132 (f : Fin 4 → Fin 256 → Fin 256 → Fin 32 → ℝ) (h) : transpose (⟨4, ![4, 256, 32, 256]⟩ : Shape) [0, 1, 3, 2] (up4 f) h = up4 (fun (i : Fin 4) (j : Fin 256) (k : Fin 32) (l : Fin 256) => f i j l k) := ext4 fun i j k l => by
  pointwise
  first | done | rfl
theorem hdot_S4x256x32x256_S4x256x32x256_S4x256x32x32_3_3_2_2_01_01 [Cert.ReferenceIdeal.Facts₀] (f : Fin 4 → Fin 256 → Fin 32 → Fin 256 → ℝ) (g : Fin 4 → Fin 256 → Fin 32 → Fin 256 → ℝ) : (Host.dotGeneral (φ₁ := .f32) (φ₂ := .f32) Cert.ReferenceIdeal.dot_S4x256x32x256_S4x256x32x256_S4x256x32x32_3_3_2_2_01_01 none ((up4 f : FVec Ideal (⟨4, ![4, 256, 32, 256]⟩ : Shape) .f32)) ((up4 g : FVec Ideal (⟨4, ![4, 256, 32, 256]⟩ : Shape) .f32)) : FVec Ideal (⟨4, ![4, 256, 32, 32]⟩ : Shape) .f32) = up4 (fun (i : Fin 4) (j : Fin 256) (k : Fin 32) (l : Fin 32) => ∑ s : Fin 256, f i j k s * g i j l s) := ext4 fun i j k l => by
  pointwise
  exact sum_coe_mul _ _
theorem hdot_S4x256x32x32_S4x256x32x128_S4x256x32x128_2_2_3_3_01_01 [Cert.ReferenceIdeal.Facts₀] (f : Fin 4 → Fin 256 → Fin 32 → Fin 32 → ℝ) (g : Fin 4 → Fin 256 → Fin 32 → Fin 128 → ℝ) : (Host.dotGeneral (φ₁ := .f32) (φ₂ := .f32) Cert.ReferenceIdeal.dot_S4x256x32x32_S4x256x32x128_S4x256x32x128_2_2_3_3_01_01 none ((up4 f : FVec Ideal (⟨4, ![4, 256, 32, 32]⟩ : Shape) .f32)) ((up4 g : FVec Ideal (⟨4, ![4, 256, 32, 128]⟩ : Shape) .f32)) : FVec Ideal (⟨4, ![4, 256, 32, 128]⟩ : Shape) .f32) = up4 (fun (i : Fin 4) (j : Fin 256) (k : Fin 32) (l : Fin 128) => ∑ s : Fin 32, f i j s k * g i j s l) := ext4 fun i j k l => by
  pointwise
  exact sum_coe_mul _ _
theorem hdot_S4x256x32x32_S4x256x32x128_S4x256x32x128_3_2_2_3_01_01 [Cert.ReferenceIdeal.Facts₀] (f : Fin 4 → Fin 256 → Fin 32 → Fin 32 → ℝ) (g : Fin 4 → Fin 256 → Fin 32 → Fin 128 → ℝ) : (Host.dotGeneral (φ₁ := .f32) (φ₂ := .f32) Cert.ReferenceIdeal.dot_S4x256x32x32_S4x256x32x128_S4x256x32x128_3_2_2_3_01_01 none ((up4 f : FVec Ideal (⟨4, ![4, 256, 32, 32]⟩ : Shape) .f32)) ((up4 g : FVec Ideal (⟨4, ![4, 256, 32, 128]⟩ : Shape) .f32)) : FVec Ideal (⟨4, ![4, 256, 32, 128]⟩ : Shape) .f32) = up4 (fun (i : Fin 4) (j : Fin 256) (k : Fin 32) (l : Fin 128) => ∑ s : Fin 32, f i j k s * g i j s l) := ext4 fun i j k l => by
  pointwise
  exact sum_coe_mul _ _
theorem red_4x256x32x128_2 (f : Fin 4 → Fin 256 → Fin 32 → Fin 128 → ℝ) (h : Shape.ReducesTo (⟨4, ![4, 256, 32, 128]⟩ : Shape) [2] (⟨3, ![4, 256, 128]⟩ : Shape)) (hu) : (Host.reduceAdd ((up4 f : FVec Ideal (⟨4, ![4, 256, 32, 128]⟩ : Shape) .f32)) ((up0 0 : FVec Ideal ⟨0, ![]⟩ .f32)) h hu : FVec Ideal (⟨3, ![4, 256, 128]⟩ : Shape) .f32) = up3 (fun (i : Fin 4) (j : Fin 256) (k : Fin 128) => ∑ s : Fin 32, f i j s k) := ext3 fun i j k => by
  pointwise
  simp only [up0_ix, EReal.coe_zero, zero_add]
  exact sum_coe _
theorem resh_4x256x128_4x256x1x128 (f : Fin 4 → Fin 256 → Fin 128 → ℝ) (h) : shapeCast (⟨4, ![4, 256, 1, 128]⟩ : Shape) (up3 f) h = up4 (fun (i : Fin 4) (j : Fin 256) (k : Fin 1) (l : Fin 128) => f i j l) := ext4 fun i j k l => by
  pointwise
  first | done | rfl
theorem pad_last (f : Fin 4 → Fin 256 → Fin 1 → Fin 128 → ℝ) (h) (hu) : pad (⟨4, ![4, 256, 32, 128]⟩ : Shape) ![0, 0, 31, 0] ![0, 0, 0, 0] ![0, 0, 0, 0]
    (up4 f) (up0 0) h hu = up4 fun (i : Fin 4) (j : Fin 256) (k : Fin 32) (l : Fin 128) => if k = 31 then f i j 0 l else 0 := ext4 fun i j k l => by
  pointwise
  have hi := i.isLt
  have hj := j.isLt
  have hk := k.isLt
  have hl := l.isLt
  by_cases h31 : k = 31
  · subst h31
    rw [if_pos rfl]
    first | (rw [dif_pos (by simp; omega)]; rfl) | (simp; done)
  · rw [if_neg h31, dif_neg (by
      intro hh
      exact h31 (Fin.ext (by simp at hh ⊢; omega)))]
    rfl
theorem tr_4x256x32x128_1203 (f : Fin 4 → Fin 256 → Fin 32 → Fin 128 → ℝ) (h) : transpose (⟨4, ![256, 32, 4, 128]⟩ : Shape) [1, 2, 0, 3] (up4 f) h = up4 (fun (i : Fin 256) (j : Fin 32) (k : Fin 4) (l : Fin 128) => f k i j l) := ext4 fun i j k l => by
  pointwise
  first | done | rfl
theorem resh_256x32x4x128_8192x512 (f : Fin 256 → Fin 32 → Fin 4 → Fin 128 → ℝ) (h) : shapeCast (⟨2, ![8192, 512]⟩ : Shape) (up4 f) h = up2 (fun (i : Fin 8192) (j : Fin 512) => f (chk i) (pos i) (headK j) (dimK j)) := ext2 fun i j => by
  pointwise
  first | done | rfl
theorem resh_256x32x4x256_8192x1024 (f : Fin 256 → Fin 32 → Fin 4 → Fin 256 → ℝ) (h) : shapeCast (⟨2, ![8192, 1024]⟩ : Shape) (up4 f) h = up2 (fun (i : Fin 8192) (j : Fin 1024) => f (chk i) (pos i) (headV j) (dimV j)) := ext2 fun i j => by
  pointwise
  first | done | rfl
theorem red_8192x512_0 (f : Fin 8192 → Fin 512 → ℝ) (h : Shape.ReducesTo (⟨2, ![8192, 512]⟩ : Shape) [0] (⟨1, ![512]⟩ : Shape)) (hu) : (Host.reduceAdd ((up2 f : FVec Ideal (⟨2, ![8192, 512]⟩ : Shape) .f32)) ((up0 0 : FVec Ideal ⟨0, ![]⟩ .f32)) h hu : FVec Ideal (⟨1, ![512]⟩ : Shape) .f32) = up1 (fun (i : Fin 512) => ∑ s : Fin 8192, f s i) := ext1 fun i => by
  pointwise
  simp only [up0_ix, EReal.coe_zero, zero_add]
  exact sum_coe _
theorem resh_512_1x512 (f : Fin 512 → ℝ) (h) : shapeCast (⟨2, ![1, 512]⟩ : Shape) (up1 f) h = up2 (fun (i : Fin 1) (j : Fin 512) => f j) := ext2 fun i j => by
  pointwise
  first | done | rfl
theorem red_1x512_0 (f : Fin 1 → Fin 512 → ℝ) (h : Shape.ReducesTo (⟨2, ![1, 512]⟩ : Shape) [0] (⟨1, ![512]⟩ : Shape)) (hu) : (Host.reduceAdd ((up2 f : FVec Ideal (⟨2, ![1, 512]⟩ : Shape) .f32)) ((up0 0 : FVec Ideal ⟨0, ![]⟩ .f32)) h hu : FVec Ideal (⟨1, ![512]⟩ : Shape) .f32) = up1 (fun (i : Fin 512) => f 0 i) := ext1 fun i => by
  pointwise
  simp only [up0_ix, EReal.coe_zero, zero_add]
  rw [Fin.sum_univ_one]
  rfl
theorem hdot_S8192x512_S8192x128_S512x128_0_0_1_1_n_n [Cert.ReferenceIdeal.Facts₀] (f : Fin 8192 → Fin 512 → ℝ) (g : Fin 8192 → Fin 128 → ℝ) : (Host.dotGeneral (φ₁ := .f32) (φ₂ := .f32) Cert.ReferenceIdeal.dot_S8192x512_S8192x128_S512x128_0_0_1_1_n_n none ((up2 f : FVec Ideal (⟨2, ![8192, 512]⟩ : Shape) .f32)) ((up2 g : FVec Ideal (⟨2, ![8192, 128]⟩ : Shape) .f32)) : FVec Ideal (⟨2, ![512, 128]⟩ : Shape) .f32) = up2 (fun (i : Fin 512) (j : Fin 128) => ∑ s : Fin 8192, f s i * g s j) := ext2 fun i j => by
  pointwise
  exact sum_coe_mul _ _
theorem tr_512x128_10 (f : Fin 512 → Fin 128 → ℝ) (h) : transpose (⟨2, ![128, 512]⟩ : Shape) [1, 0] (up2 f) h = up2 (fun (i : Fin 128) (j : Fin 512) => f j i) := ext2 fun i j => by
  pointwise
  first | done | rfl
theorem hdot_S8192x512_S128x512_S8192x128_1_1_0_0_n_n [Cert.ReferenceIdeal.Facts₀] (f : Fin 8192 → Fin 512 → ℝ) (g : Fin 128 → Fin 512 → ℝ) : (Host.dotGeneral (φ₁ := .f32) (φ₂ := .f32) Cert.ReferenceIdeal.dot_S8192x512_S128x512_S8192x128_1_1_0_0_n_n none ((up2 f : FVec Ideal (⟨2, ![8192, 512]⟩ : Shape) .f32)) ((up2 g : FVec Ideal (⟨2, ![128, 512]⟩ : Shape) .f32)) : FVec Ideal (⟨2, ![8192, 128]⟩ : Shape) .f32) = up2 (fun (i : Fin 8192) (j : Fin 128) => ∑ s : Fin 512, f i s * g j s) := ext2 fun i j => by
  pointwise
  exact sum_coe_mul _ _

end Cert.Lift

end
-- ==== Proof.Finite.lean ====
/-
  Arguments that are finite are arrays of real numbers.
-/
module

public import proofs.«01_k».proof.Pre_finite
public import proofs.«01_k».proof.Proof.Shapes
public import Idealize.ShloMosaic.Lib.ReduceAll
@[expose] public section

set_option maxRecDepth 16384

noncomputable section

namespace Cert.Finite

open Idealize.ShloMosaic Cert.Lift Cert.Pre_finite

theorem facts : Cert.Pre_finite.Facts where
  bitsLt_bf16_f32 := by decide
  bcast_S_S8192x7680 := by decide
  reducesTo_S8192x7680_S_d0_1 := by decide
  h_S_ := by decide
  bcast_S_S8192x128 := by decide
  reducesTo_S8192x128_S_d0_1 := by decide
  bcast_S_S128x512 := by decide
  reducesTo_S128x512_S_d0_1 := by decide
  bcast_S_S1x512 := by decide
  reducesTo_S1x512_S_d0_1 := by decide
  bcast_S_S1x1024 := by decide
  reducesTo_S1x1024_S_d0_1 := by decide
  bcast_S_S8192x1024 := by decide
  reducesTo_S8192x1024_S_d0_1 := by decide

instance : Subsingleton S_.Idx := ⟨fun a b => funext fun i => i.elim0⟩

/-- What lies below infinity with its sign dropped is a real number. -/
theorem real_of_lt (a : EReal) (h : Ideal.cmp .olt (max a (-a)) (Ideal.ofBits .f32 0x7F800000#32) = 1#1) : ((a.toReal : ℝ) : EReal) = a := by
  have t : Ideal.ofBits .f32 0x7F800000#32 = ⊤ := by simp [Ideal.ofBits, Ideal.ieee]
  rw [t] at h
  have q : max a (-a) < ⊤ := by
    by_contra c
    simp [Ideal.cmp, c] at h
  refine EReal.coe_toReal (fun e => ?_) (fun e => ?_)
  · subst e; simp at q
  · subst e; simp at q

/-- The finiteness of a table, entry by entry. -/
theorem table {a b : ℕ} (X : (⟨2, ![a, b]⟩ : Shape).Idx → EReal) (hb : S_.BroadcastsInDim ⟨2, ![a, b]⟩ (![] : Fin 0 → Fin (⟨2, ![a, b]⟩ : Shape).rank))
    (hr : (⟨2, ![a, b]⟩ : Shape).ReducesTo [0, 1] S_) (hu : 0 < S_.numel) (j : S_.Idx)
    (h : Host.reduce IntOp.andi (cmpf .olt (Host.absf (F := Ideal) (φ := .f32) X) (broadcastInDim ⟨2, ![a, b]⟩ ![] hb (constant (F := Ideal) S_ .f32 0x7F800000#32)))
      (constantI S_ 1 1#1) hr hu j = 1#1) : X = up2 fun i j => (X (ix2 i j)).toReal := by
  funext y
  have q := Host.reduce_andi_all _ _ _ _ _ h y
  refine (real_of_lt (X y) q).symm.trans ?_
  show _ = (((X (ix2 (y 0) (y 1))).toReal : ℝ) : EReal)
  rw [← eq_ix2 y]

/-- The arguments read as real numbers. -/
def read (a0 : S8192x7680.Idx → EReal) (a1 : S8192x128.Idx → EReal) (a2 : S128x512.Idx → EReal) (a3 : S1x512.Idx → EReal)
    (a4 : S1x1024.Idx → EReal) (a5 : S8192x1024.Idx → EReal) : In where
  P i j := (a0 (ix2 i j)).toReal
  A i j := (a1 (ix2 i j)).toReal
  W i j := (a2 (ix2 i j)).toReal
  b j := (a3 (ix2 0 j)).toReal
  g j := (a4 (ix2 0 j)).toReal
  D i j := (a5 (ix2 i j)).toReal

theorem read_eq (hP : Cert.Pre_finite.Facts) (a0 : S8192x7680.Idx → EReal) (a1 : S8192x128.Idx → EReal) (a2 : S128x512.Idx → EReal) (a3 : S1x512.Idx → EReal)
    (a4 : S1x1024.Idx → EReal) (a5 : S8192x1024.Idx → EReal) (h : Cert.Pre_finite.fn (F := Ideal) a0 a1 a2 a3 a4 a5 = fun _ => 1#1) :
    let x := read a0 a1 a2 a3 a4 a5
    a0 = up2 x.P ∧ a1 = up2 x.A ∧ a2 = up2 x.W ∧ (a3 = up2 fun (_ : Fin 1) j => x.b j) ∧ (a4 = up2 fun (_ : Fin 1) j => x.g j) ∧ a5 = up2 x.D := by
  have j : S_.Idx := fun i => i.elim0
  have q := congrFun h j
  unfold Cert.Pre_finite.fn fn_part1 at q
  obtain ⟨q, h5⟩ := IntOp.andi_eq_one.1 q
  obtain ⟨q, h4⟩ := IntOp.andi_eq_one.1 q
  obtain ⟨q, h3⟩ := IntOp.andi_eq_one.1 q
  obtain ⟨q, h2⟩ := IntOp.andi_eq_one.1 q
  obtain ⟨q, h1⟩ := IntOp.andi_eq_one.1 q
  obtain ⟨_, h0⟩ := IntOp.andi_eq_one.1 q
  have one : ∀ (n : ℕ) (X : Fin 1 → Fin n → ℝ), up2 X = up2 fun (_ : Fin 1) j => X 0 j := fun n X =>
    congrArg up2 (funext fun i => by rw [Subsingleton.elim i 0])
  exact ⟨table a0 _ _ _ _ h0, table a1 _ _ _ _ h1, table a2 _ _ _ _ h2, (table a3 _ _ _ _ h3).trans (one _ _),
    (table a4 _ _ _ _ h4).trans (one _ _), table a5 _ _ _ _ h5⟩

end Cert.Finite
-- ==== Proof.HostShapes.lean ====
/-
  More operations on arrays of real numbers: those of the operations before the kernel.
-/
module

public import proofs.«01_k».proof.Proof.Shapes
public import proofs.«01_k».proof.KernelIdeal
@[expose] public section

set_option maxRecDepth 16384

noncomputable section

namespace Cert.Lift

open Idealize.ShloMosaic

/-- The strict lower triangle. -/
def below4 (_ : Fin 4) (i j : Fin 256) (_ : Fin 128) : Bool := decide (j < i)
theorem tri256 {h h' h'' : Shape.BroadcastsInDim ⟨0, ![]⟩ ⟨2, ![256, 256]⟩ ![]} :
    select (cmpi .sge (addi (iotaInDim ⟨2, ![256, 256]⟩ 32 0) (broadcastInDim ⟨2, ![256, 256]⟩ ![] h (constantI ⟨0, ![]⟩ 32 4294967295#32))) (iotaInDim ⟨2, ![256, 256]⟩ 32 1))
      (broadcastInDim ⟨2, ![256, 256]⟩ ![] h' (constantI ⟨0, ![]⟩ 1 1#1)) (broadcastInDim ⟨2, ![256, 256]⟩ ![] h'' (constantI ⟨0, ![]⟩ 1 0#1))
      = fun x => BitVec.ofBool (decide (x 1 < x 0)) := by
  funext x
  rw [eq_ix2 x]
  have ha : ∀ a : Fin 256, (BitVec.ofNat 32 a.val + 4294967295#32).toInt = (a.val : ℤ) - 1 := by decide +kernel
  have hb : ∀ b : Fin 256, (BitVec.ofNat 32 b.val).toInt = (b.val : ℤ) := by decide +kernel
  have key : ∀ a b : Fin 256, Scalar.select (Scalar.cmpi .sge (BitVec.ofNat 32 a.val + 4294967295#32) (BitVec.ofNat 32 b.val)) (1#1) (0#1) = BitVec.ofBool (decide (b < a)) := by
    intro a b
    have e : Scalar.cmpi .sge (BitVec.ofNat 32 a.val + 4294967295#32) (BitVec.ofNat 32 b.val) = BitVec.ofBool (decide (b < a)) := by
      have el : ∀ u v : BitVec 32, Scalar.cmpi .sge u v = BitVec.ofBool (decide (v.toInt ≤ u.toInt)) := fun _ _ => rfl
      rw [el, ha a, hb b]
      refine congrArg BitVec.ofBool (decide_eq_decide.mpr ?_)
      have := a.isLt
      constructor
      · intro h; exact Fin.lt_def.mpr (by omega)
      · intro h; have := Fin.lt_def.mp h; omega
    rw [e]
    by_cases h : b < a
    · rw [decide_eq_true h]; rfl
    · rw [decide_eq_false h]; rfl
  exact key _ _

theorem khdot_S8192x128_S128x512_S8192x512_1_0_0_1_n_n [Cert.KernelIdeal.Facts₀] (f : Fin 8192 → Fin 128 → ℝ) (g : Fin 128 → Fin 512 → ℝ) : (Host.dotGeneral (φ₁ := .f32) (φ₂ := .f32) Cert.KernelIdeal.dot_S8192x128_S128x512_S8192x512_1_0_0_1_n_n none ((up2 f : FVec Ideal (⟨2, ![8192, 128]⟩ : Shape) .f32)) ((up2 g : FVec Ideal (⟨2, ![128, 512]⟩ : Shape) .f32)) : FVec Ideal (⟨2, ![8192, 512]⟩ : Shape) .f32) = up2 (fun (i : Fin 8192) (j : Fin 512) => ∑ s : Fin 128, f i s * g s j) := ext2 fun i j => by
  pointwise
  exact sum_coe_mul _ _
theorem khdot_S4x256x32x128_S4x256x32x128_S4x256x32x32_3_3_2_2_01_01 [Cert.KernelIdeal.Facts₀] (f : Fin 4 → Fin 256 → Fin 32 → Fin 128 → ℝ) (g : Fin 4 → Fin 256 → Fin 32 → Fin 128 → ℝ) : (Host.dotGeneral (φ₁ := .f32) (φ₂ := .f32) Cert.KernelIdeal.dot_S4x256x32x128_S4x256x32x128_S4x256x32x32_3_3_2_2_01_01 none ((up4 f : FVec Ideal (⟨4, ![4, 256, 32, 128]⟩ : Shape) .f32)) ((up4 g : FVec Ideal (⟨4, ![4, 256, 32, 128]⟩ : Shape) .f32)) : FVec Ideal (⟨4, ![4, 256, 32, 32]⟩ : Shape) .f32) = up4 (fun (i : Fin 4) (j : Fin 256) (k : Fin 32) (l : Fin 32) => ∑ s : Fin 128, f i j k s * g i j l s) := ext4 fun i j k l => by
  pointwise
  exact sum_coe_mul _ _
theorem khdot_S4x256x32x32_S4x256x32x256_S4x256x32x256_3_2_2_3_01_01 [Cert.KernelIdeal.Facts₀] (f : Fin 4 → Fin 256 → Fin 32 → Fin 32 → ℝ) (g : Fin 4 → Fin 256 → Fin 32 → Fin 256 → ℝ) : (Host.dotGeneral (φ₁ := .f32) (φ₂ := .f32) Cert.KernelIdeal.dot_S4x256x32x32_S4x256x32x256_S4x256x32x256_3_2_2_3_01_01 none ((up4 f : FVec Ideal (⟨4, ![4, 256, 32, 32]⟩ : Shape) .f32)) ((up4 g : FVec Ideal (⟨4, ![4, 256, 32, 256]⟩ : Shape) .f32)) : FVec Ideal (⟨4, ![4, 256, 32, 256]⟩ : Shape) .f32) = up4 (fun (i : Fin 4) (j : Fin 256) (k : Fin 32) (l : Fin 256) => ∑ s : Fin 32, f i j k s * g i j s l) := ext4 fun i j k l => by
  pointwise
  exact sum_coe_mul _ _
theorem bc_4x256x128_4x1x256x128_023 (f : Fin 4 → Fin 256 → Fin 128 → ℝ) (h) : broadcastInDim (⟨4, ![4, 1, 256, 128]⟩ : Shape) ![0, 2, 3] h (up3 f) = up4 (fun (i : Fin 4) (j : Fin 1) (k : Fin 256) (l : Fin 128) => f i k l) := ext4 fun i j k l => by
  pointwise
  first | done | rfl
theorem bc_4x256x1x128_4x256x256x128_0123 (f : Fin 4 → Fin 256 → Fin 1 → Fin 128 → ℝ) (h) : broadcastInDim (⟨4, ![4, 256, 256, 128]⟩ : Shape) ![0, 1, 2, 3] h (up4 f) = up4 (fun (i : Fin 4) (j : Fin 256) (k : Fin 256) (l : Fin 128) => f i j 0 l) := ext4 fun i j k l => by
  pointwise
  first | done | rfl
theorem bc_4x1x256x128_4x256x256x128_0123 (f : Fin 4 → Fin 1 → Fin 256 → Fin 128 → ℝ) (h) : broadcastInDim (⟨4, ![4, 256, 256, 128]⟩ : Shape) ![0, 1, 2, 3] h (up4 f) = up4 (fun (i : Fin 4) (j : Fin 256) (k : Fin 256) (l : Fin 128) => f i 0 k l) := ext4 fun i j k l => by
  pointwise
  first | done | rfl
theorem bc_u_4x256x256x128_ (f : ℝ) (h) : broadcastInDim (⟨4, ![4, 256, 256, 128]⟩ : Shape) ![] h (up0 f) = up4 (fun (i : Fin 4) (j : Fin 256) (k : Fin 256) (l : Fin 128) => f) := ext4 fun i j k l => by
  pointwise
  first | done | rfl
theorem khdot_S4x256x32x256_S4x256x32x128_S4x256x256x128_2_2_3_3_01_01 [Cert.KernelIdeal.Facts₀] (f : Fin 4 → Fin 256 → Fin 32 → Fin 256 → ℝ) (g : Fin 4 → Fin 256 → Fin 32 → Fin 128 → ℝ) : (Host.dotGeneral (φ₁ := .f32) (φ₂ := .f32) Cert.KernelIdeal.dot_S4x256x32x256_S4x256x32x128_S4x256x256x128_2_2_3_3_01_01 none ((up4 f : FVec Ideal (⟨4, ![4, 256, 32, 256]⟩ : Shape) .f32)) ((up4 g : FVec Ideal (⟨4, ![4, 256, 32, 128]⟩ : Shape) .f32)) : FVec Ideal (⟨4, ![4, 256, 256, 128]⟩ : Shape) .f32) = up4 (fun (i : Fin 4) (j : Fin 256) (k : Fin 256) (l : Fin 128) => ∑ s : Fin 32, f i j s k * g i j s l) := ext4 fun i j k l => by
  pointwise
  exact sum_coe_mul _ _
theorem khdot_S4x256x256x128_S4x256x256x128_S4x128x256x256_1_2_2_1_03_03 [Cert.KernelIdeal.Facts₀] (f : Fin 4 → Fin 256 → Fin 256 → Fin 128 → ℝ) (g : Fin 4 → Fin 256 → Fin 256 → Fin 128 → ℝ) : (Host.dotGeneral (φ₁ := .f32) (φ₂ := .f32) Cert.KernelIdeal.dot_S4x256x256x128_S4x256x256x128_S4x128x256x256_1_2_2_1_03_03 none ((up4 f : FVec Ideal (⟨4, ![4, 256, 256, 128]⟩ : Shape) .f32)) ((up4 g : FVec Ideal (⟨4, ![4, 256, 256, 128]⟩ : Shape) .f32)) : FVec Ideal (⟨4, ![4, 128, 256, 256]⟩ : Shape) .f32) = up4 (fun (i : Fin 4) (j : Fin 128) (k : Fin 256) (l : Fin 256) => ∑ s : Fin 256, f i s k j * g i l s j) := ext4 fun i j k l => by
  pointwise
  exact sum_coe_mul _ _
theorem tr_4x128x256x256_3021 (f : Fin 4 → Fin 128 → Fin 256 → Fin 256 → ℝ) (h) : transpose (⟨4, ![256, 4, 256, 128]⟩ : Shape) [3, 0, 2, 1] (up4 f) h = up4 (fun (i : Fin 256) (j : Fin 4) (k : Fin 256) (l : Fin 128) => f j l k i) := ext4 fun i j k l => by
  pointwise
  first | done | rfl
theorem khdot_S4x256x32x128_S256x4x256x128_S4x256x32x256_3_3_2_2_01_10 [Cert.KernelIdeal.Facts₀] (f : Fin 4 → Fin 256 → Fin 32 → Fin 128 → ℝ) (g : Fin 256 → Fin 4 → Fin 256 → Fin 128 → ℝ) : (Host.dotGeneral (φ₁ := .f32) (φ₂ := .f32) Cert.KernelIdeal.dot_S4x256x32x128_S256x4x256x128_S4x256x32x256_3_3_2_2_01_10 none ((up4 f : FVec Ideal (⟨4, ![4, 256, 32, 128]⟩ : Shape) .f32)) ((up4 g : FVec Ideal (⟨4, ![256, 4, 256, 128]⟩ : Shape) .f32)) : FVec Ideal (⟨4, ![4, 256, 32, 256]⟩ : Shape) .f32) = up4 (fun (i : Fin 4) (j : Fin 256) (k : Fin 32) (l : Fin 256) => ∑ s : Fin 128, f i j k s * g j i l s) := ext4 fun i j k l => by
  pointwise
  exact sum_coe_mul _ _

end Cert.Lift

end
-- ==== Proof.TwoLoops.lean ====
/-
  The run of a host program that is straight-line operations, a counted loop, operations, a second counted loop and
  operations. Every stretch of operations and each of the two loops is one segment; the buffers after the whole program
  are the fold of the operations, each loop's condition and body taken as often as the loop runs.
-/
module

public import Idealize.ShloMosaic.Lib.StableHlo.RunLoop

@[expose] public section

noncomputable section

namespace Cert.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)

variable {nD : Nat} {τ : Topo} {sig : RefSig} {F : FTy → Type} {Λ₀ : Labels}

/-- A list of stretches, each a list of operations. -/
abbrev Stretches (τ : Topo) (sig : RefSig) (F : FTy → Type) := List (List (HloOp τ sig (Elt F)))

/-- A counted loop as data: its label, its condition's operations, its body's stretches and how often the body runs. -/
structure Counted (τ : Topo) (sig : RefSig) (F : FTy → Type) (nL : Nat) where
  label : Fin nL
  condOps : List (HloOp τ sig (Elt F))
  body : Stretches τ sig F
  count : ℕ

/-- The buffers after a counted loop entered with the buffers `W`: the trips, then the condition that fails. -/
def Counted.leave {nL : Nat} (K : Counted τ sig F nL) (W : Dev nD → Valuation τ sig (Elt F)) (c : Dev nD) : Valuation τ sig (Elt F) :=
  after K.condOps (atTrip K.condOps K.body W K.count c)

section Run

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev noAdm : (p : Fin 0) → (pcs p).Adm := fun p => p.elim0
abbrev noTicket : Fin 0 → Ticket (Ix := Unit) (Name := ℕ) (U := Option PUnit) (Lvl := ℕ) (nD := nD) (τ := τ) pcs (noAdm pcs) := fun j => j.elim0
abbrev noIx : GSem nD τ sig → Finset Unit := fun _ => ∅
abbrev noLvl : GSem nD τ sig → Unit → ℕ := fun _ _ => 0

theorem noCells : Function.Injective (Pipeline.cellOf (nD := nD) (τ := τ) (Pipeline.pin pcs (noAdm pcs))) :=
  fun k => k.1.elim0

/-- What stands beside the buffers through every segment: the core owes nothing. -/
abbrev Beside (c : Dev nD) : sProp 𝕄 := iprop(∃ W, owes (c : Thread nD τ) (0 : CellTallies nD τ sig Unit) W)

variable {pcs defs₀ loops}

/-- A condition's specification with `Beside` carried through the condition. -/
theorem carry {cond : Prog (TpuEff nD τ sig (Elt F) (HostLoop.Sig (Pipeline.Sig Λ₀ (Fin 0) fun p => (pcs p).Adm) nL) .tc) (Elt F .i1)}
    {condOps : List (HloOp τ sig (Elt F))} {body : Stretches τ sig F} {W₀ : Dev nD → Valuation τ sig (Elt F)} {n : ℕ}
    (h : CondSpec pcs defs₀ loops cond condOps body W₀ n) :
    LoopCond pcs defs₀ Variants.none loops (Beside (F := F)) cond condOps body W₀ n := by
  intro k hk c bd
  have hv : ∀ v : Elt F .i1,
      iprop(iprop(⌜v = 1#1 ↔ k < n⌝ ∗ boundary (c : Thread nD τ) ∗ held (c : Thread nD τ) (ucRefs τ sig) (after condOps (atTrip condOps body W₀ k c))) ∗ Beside c)
        ⊢ (iprop(⌜v = 1#1 ↔ k < n⌝ ∗ boundary (c : Thread nD τ) ∗ held (c : Thread nD τ) (ucRefs τ sig) (after condOps (atTrip condOps body W₀ k c)) ∗ Beside c) : sProp 𝕄) := by
    intro v
    iintro ⟨⟨%hv, Hb, Hh⟩, HR⟩
    isplitr; · ipureintro; exact hv
    isplitl [Hb]; · iexact Hb
    isplitl [Hh] <;> iassumption
  have hw := ((sep_mono_left (h k hk c bd)).trans (wp_frame_r _ _ _)).trans (wp_mono _ _ _ hv)
  refine BIBase.Entails.trans ?_ hw
  iintro ⟨Hb, Hh, HR⟩
  isplitl [Hb Hh]; · isplitl [Hb] <;> iassumption
  iexact HR

variable {K₁ K₂ : Counted τ sig F nL}
  {cond₁ cond₂ : Prog (TpuEff nD τ sig (Elt F) (HostLoop.Sig (Pipeline.Sig Λ₀ (Fin 0) fun p => (pcs p).Adm) nL) .tc) (Elt F .i1)}
  {body₁ body₂ : Prog (TpuEff nD τ sig (Elt F) (HostLoop.Sig (Pipeline.Sig Λ₀ (Fin 0) fun p => (pcs p).Adm) nL) .tc) PUnit}

/-- One counted loop as a segment, from the buffers `W`. -/
def loopPart (K : Counted τ sig F nL)
    (cond : Prog (TpuEff nD τ sig (Elt F) (HostLoop.Sig (Pipeline.Sig Λ₀ (Fin 0) fun p => (pcs p).Adm) nL) .tc) (Elt F .i1))
    (body : Prog (TpuEff nD τ sig (Elt F) (HostLoop.Sig (Pipeline.Sig Λ₀ (Fin 0) fun p => (pcs p).Adm) nL) .tc) PUnit)
    (hl : loops K.label = HostLoop.step K.label cond body) (hb : Plain K.body)
    (hc : body = Pipeline.chain (K.body.map fun ops => (seq ops : Prog _ PUnit)))
    (W : Dev nD → Valuation τ sig (Elt F)) (hs : CondSpec pcs defs₀ loops cond K.condOps K.body W K.count) :
    CSeg (Ix := Unit) (Name := ℕ) (U := Option PUnit) (Lvl := ℕ) pcs (noAdm pcs) defs₀ Variants.none noIx noLvl loops (noTicket pcs) :=
  loopSeg _ _ _ _ _ _ _ _ K.label cond body hl K.condOps K.body hb hc K.count W Beside (carry hs)

/-- The stretches as segments, from the buffers `W`. -/
abbrev linePart (ops : Stretches τ sig F) (h : Plain ops) (W : Dev nD → Valuation τ sig (Elt F)) :
    List (CSeg (Ix := Unit) (Name := ℕ) (U := Option PUnit) (Lvl := ℕ) pcs (noAdm pcs) defs₀ Variants.none noIx noLvl loops (noTicket pcs)) :=
  segsOf _ _ _ _ _ _ _ _ Beside ops h W

/-- A loop, then a line, chain from the loop's entry to the line's end. -/
theorem loop_line {K : Counted τ sig F nL} {cond body} (hl hb) (hc) (W : Dev nD → Valuation τ sig (Elt F)) (hs)
    (ops : Stretches τ sig F) (h : Plain ops) :
    CSeg.Chains (fun c => iprop(held (c : Thread nD τ) (ucRefs τ sig) (W c) ∗ Beside c))
      (loopPart (pcs := pcs) (defs₀ := defs₀) (loops := loops) K cond body hl hb hc W hs :: linePart ops h (K.leave W))
      (fun c => iprop(held (c : Thread nD τ) (ucRefs τ sig) (afterL ops (K.leave W c)) ∗ Beside c)) :=
  ⟨fun _ => .rfl, segsOf_chains _ _ _ _ _ _ _ _ Beside ops h (K.leave W)⟩

end Run

/-- THE RUN: from any memory with zero counters every fair execution ends, and every tensor buffer of the program holds the
    fold of `pre`, the first loop, `mid`, the second loop and `post` over the launch contents. -/
theorem run_two [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (K₁ K₂ : Counted τ sig F nL)
    (cond₁ cond₂ : Prog (TpuEff nD τ sig (Elt F) (HostLoop.Sig (Pipeline.Sig Λ₀ (Fin 0) fun p => (pcs p).Adm) nL) .tc) (Elt F .i1))
    (body₁ body₂ : Prog (TpuEff nD τ sig (Elt F) (HostLoop.Sig (Pipeline.Sig Λ₀ (Fin 0) fun p => (pcs p).Adm) nL) .tc) PUnit)
    (hl₁ : loops K₁.label = HostLoop.step K₁.label cond₁ body₁) (hl₂ : loops K₂.label = HostLoop.step K₂.label cond₂ body₂)
    (pre mid post : Stretches τ sig F)
    (hpre : Plain pre) (hmid : Plain mid) (hpost : Plain post) (hb₁ : Plain K₁.body) (hb₂ : Plain K₂.body)
    (hmain : ∀ c, main c = Pipeline.chain ((pre.map fun ops => (seq ops : Prog _ PUnit)) ++ HostLoop.enter K₁.label ::
      ((mid.map fun ops => (seq ops : Prog _ PUnit)) ++ HostLoop.enter K₂.label :: post.map fun ops => (seq ops : Prog _ PUnit))))
    (hc₁ : body₁ = Pipeline.chain (K₁.body.map fun ops => (seq ops : Prog _ PUnit)))
    (hc₂ : body₂ = Pipeline.chain (K₂.body.map fun ops => (seq ops : Prog _ PUnit)))
    (m : (ℓ : Loc nD τ sig) → Buf (Elt F) ℓ) (ρ : Dev nD → PrngReg)
    (V₁ V₂ : Dev nD → Valuation τ sig (Elt F))
    (hV₁ : V₁ = fun c => afterL pre (launchContents m c))
    (hV₂ : V₂ = fun c => afterL mid (K₁.leave V₁ c))
    (hs₁ : CondSpec pcs defs₀ loops cond₁ K₁.condOps K₁.body V₁ K₁.count)
    (hs₂ : CondSpec pcs defs₀ loops cond₂ K₂.condOps K₂.body V₂ K₂.count) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL post (K₂.leave V₂ c) (Proc.devRef .tc b)) := by
  have hprog : (linePart (pcs := pcs) (defs₀ := defs₀) (loops := loops) pre hpre (launchContents m)
      ++ ((loopPart K₁ cond₁ body₁ hl₁ hb₁ hc₁ V₁ hs₁ :: linePart mid hmid (K₁.leave V₁))
        ++ (loopPart K₂ cond₂ body₂ hl₂ hb₂ hc₂ V₂ hs₂ :: linePart post hpost (K₂.leave V₂)))).map CSeg.prog
      = (pre.map fun ops => (seq ops : Prog _ PUnit)) ++ HostLoop.enter K₁.label ::
      ((mid.map fun ops => (seq ops : Prog _ PUnit)) ++ HostLoop.enter K₂.label :: post.map fun ops => (seq ops : Prog _ PUnit)) := by
    rw [List.map_append, List.map_append, List.map_cons, List.map_cons, segsOf_prog, segsOf_prog, segsOf_prog]
    rfl
  have hchain : CSeg.Chains (fun c => iprop(held (c : Thread nD τ) (ucRefs τ sig) (launchContents m c) ∗ Beside c))
      (linePart (pcs := pcs) (defs₀ := defs₀) (loops := loops) pre hpre (launchContents m)
      ++ ((loopPart K₁ cond₁ body₁ hl₁ hb₁ hc₁ V₁ hs₁ :: linePart mid hmid (K₁.leave V₁))
        ++ (loopPart K₂ cond₂ body₂ hl₂ hb₂ hc₂ V₂ hs₂ :: linePart post hpost (K₂.leave V₂))))
      (fun c => iprop(iprop(held (c : Thread nD τ) (ucRefs τ sig) (afterL post (K₂.leave V₂ c))) ∗ Beside c)) := by
    refine CSeg.Chains.append (segsOf_chains _ _ _ _ _ _ _ _ Beside pre hpre _) ?_
    have e₁ : ∀ c, afterL pre (launchContents m c) = V₁ c := fun c => by rw [hV₁]
    simp only [e₁]
    refine CSeg.Chains.append (loop_line hl₁ hb₁ hc₁ V₁ hs₁ mid hmid) ?_
    have e₂ : ∀ c, afterL mid (K₁.leave V₁ c) = V₂ c := fun c => by rw [hV₂]
    simp only [e₂]
    exact loop_line hl₂ hb₂ hc₂ V₂ hs₂ post hpost
  exact Pipeline.θ_run_regions_loop_kit (Ix := Unit) (Name := ℕ) (U := Option PUnit) (Lvl := ℕ) (J := Fin 0) (P := Fin 0) (Val := Elt F)
    pcs (noAdm pcs) (noCells pcs) defs₀ Variants.none noIx noLvl loops (noTicket pcs) m ρ main
    (linePart (pcs := pcs) (defs₀ := defs₀) (loops := loops) pre hpre (launchContents m)
      ++ ((loopPart K₁ cond₁ body₁ hl₁ hb₁ hc₁ V₁ hs₁ :: linePart mid hmid (K₁.leave V₁))
        ++ (loopPart K₂ cond₂ body₂ hl₂ hb₂ hc₂ V₂ hs₂ :: linePart post hpost (K₂.leave V₂))))
    (fun c Q => by
      rw [hmain c]
      rw [← hprog]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Beside c))
    (Tₙ := fun c => iprop(held (c : Thread nD τ) (ucRefs τ sig) (afterL post (K₂.leave V₂ c))))
    (hch := hchain)
    (hinit := by
      refine Pipeline.initEach noIx noLvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL post (K₂.leave V₂ c) b)
    (hfin := fun c s' => by
      unfold held
      iintro ⟨Hh, HSI⟩
      ihave Hr := (pointsTo_read_all (ucRefs τ sig) (fun b => ((c : Dev nD), b)) (fun b => afterL post (K₂.leave V₂ c) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.Settled.lean ====
/-
  Reading a straight line of operations in which every buffer is written once, after all that read it is yet to come:
  at the contents the line ends with, every operation's equation holds between the final contents themselves. `Settled`
  says so of a list of operations and a valuation, and one lemma per kind of operation reads the equation off it.
-/
module

public import Idealize.ShloMosaic.Lib.StableHlo.RunLoop
public import proofs.«01_k».proof.Proof.TwoLoops

@[expose] public section

noncomputable section

namespace Cert.Settled

open Idealize.ShloMosaic Idealize.ShloMosaic.TcCoe Idealize.ShloMosaic.StableHlo

variable {τ : Topo} {sig : RefSig} {Val : EltTy → Type}

/-- No operation writes a buffer an earlier one touches. -/
def Once (ops : List (HloOp τ sig Val)) : Prop := ops.Pairwise fun a b => ∀ r ∈ b.writes, r ∉ a.bufs

/-- A buffer's number in its table. -/
def key (b : DevRef τ sig) : ℕ := b.idx.val

/-- `p` lists what `op` writes (its first entry) and the other buffers it touches, by number. -/
def Keys (op : HloOp τ sig Val) (p : ℕ × List ℕ) : Prop := (∀ b ∈ op.writes, key b = p.1) ∧ ∀ b ∈ op.bufs, key b = p.1 ∨ key b ∈ p.2

/-- The list `L` gives the numbers of every operation of the line. -/
abbrev Shape (ops : List (HloOp τ sig Val)) (L : List (ℕ × List ℕ)) : Prop := List.Forall₂ Keys ops L

theorem keys_nullary {y : Ref sig .tc} {v hy} {n : ℕ} (h : key (τ := τ) (Proc.devRef .tc y) = n) :
    Keys (StableHlo.nullary y v hy : HloOp τ sig Val) (n, []) :=
  ⟨fun b hb => by rw [Finset.mem_singleton.mp hb, h], fun b hb => .inl (by rw [Finset.mem_singleton.mp hb, h])⟩

theorem keys_unary {x y : Ref sig .tc} {f hx hy} {n a : ℕ} (ha : key (τ := τ) (Proc.devRef .tc x) = a) (h : key (τ := τ) (Proc.devRef .tc y) = n) :
    Keys (StableHlo.unary x y f hx hy : HloOp τ sig Val) (n, [a]) :=
  ⟨fun b hb => by rw [Finset.mem_singleton.mp hb, h], fun b hb => by
    rcases Finset.mem_insert.mp hb with rfl | hb
    · exact .inr (by simp [ha])
    · exact .inl (by rw [Finset.mem_singleton.mp hb, h])⟩

theorem keys_reshape {x y : Ref sig .tc} {he hs hx hy} {n a : ℕ} (ha : key (τ := τ) (Proc.devRef .tc x) = a) (h : key (τ := τ) (Proc.devRef .tc y) = n) :
    Keys (StableHlo.reshape x y he hs hx hy : HloOp τ sig Val) (n, [a]) :=
  ⟨fun b hb => by rw [Finset.mem_singleton.mp hb, h], fun b hb => by
    rcases Finset.mem_insert.mp hb with rfl | hb
    · exact .inr (by simp [ha])
    · exact .inl (by rw [Finset.mem_singleton.mp hb, h])⟩

theorem keys_binary {x z y : Ref sig .tc} {f hx hz hy} {n a c : ℕ} (ha : key (τ := τ) (Proc.devRef .tc x) = a) (hc : key (τ := τ) (Proc.devRef .tc z) = c)
    (h : key (τ := τ) (Proc.devRef .tc y) = n) : Keys (StableHlo.binary x z y f hx hz hy : HloOp τ sig Val) (n, [a, c]) :=
  ⟨fun b hb => by rw [Finset.mem_singleton.mp hb, h], fun b hb => by
    rcases Finset.mem_insert.mp hb with rfl | hb
    · exact .inr (by simp [ha])
    rcases Finset.mem_insert.mp hb with rfl | hb
    · exact .inr (by simp [hc])
    · exact .inl (by rw [Finset.mem_singleton.mp hb, h])⟩

theorem keys_ternary {x z w y : Ref sig .tc} {f hx hz hw hy} {n a c d : ℕ} (ha : key (τ := τ) (Proc.devRef .tc x) = a) (hc : key (τ := τ) (Proc.devRef .tc z) = c)
    (hd : key (τ := τ) (Proc.devRef .tc w) = d) (h : key (τ := τ) (Proc.devRef .tc y) = n) :
    Keys (StableHlo.ternary x z w y f hx hz hw hy : HloOp τ sig Val) (n, [a, c, d]) :=
  ⟨fun b hb => by rw [Finset.mem_singleton.mp hb, h], fun b hb => by
    rcases Finset.mem_insert.mp hb with rfl | hb
    · exact .inr (by simp [ha])
    rcases Finset.mem_insert.mp hb with rfl | hb
    · exact .inr (by simp [hc])
    rcases Finset.mem_insert.mp hb with rfl | hb
    · exact .inr (by simp [hd])
    · exact .inl (by rw [Finset.mem_singleton.mp hb, h])⟩

theorem keys_unaryIndexed {x y : Ref sig .tc} {k : ℕ} {ix : Fin k → Ref sig .tc} {T : BufTy} {f hT hx hix hy} {n a : ℕ} {l : List ℕ}
    (ha : key (τ := τ) (Proc.devRef .tc x) = a) (hl : ∀ j, key (τ := τ) (Proc.devRef .tc (ix j)) ∈ l) (h : key (τ := τ) (Proc.devRef .tc y) = n) :
    Keys (StableHlo.unaryIndexed x ix T y f hT hx hix hy : HloOp τ sig Val) (n, a :: l) :=
  ⟨fun b hb => by rw [Finset.mem_singleton.mp hb, h], fun b hb => by
    rcases Finset.mem_insert.mp hb with rfl | hb
    · exact .inr (by simp [ha])
    rcases Finset.mem_insert.mp hb with rfl | hb
    · exact .inl h
    · obtain ⟨j, -, rfl⟩ := Finset.mem_image.mp hb
      exact .inr (List.mem_cons_of_mem _ (hl j))⟩

theorem keys_binaryIndexed {x z y : Ref sig .tc} {k : ℕ} {ix : Fin k → Ref sig .tc} {T : BufTy} {f hT hx hz hix hy} {n a c : ℕ} {l : List ℕ}
    (ha : key (τ := τ) (Proc.devRef .tc x) = a) (hc : key (τ := τ) (Proc.devRef .tc z) = c)
    (hl : ∀ j, key (τ := τ) (Proc.devRef .tc (ix j)) ∈ l) (h : key (τ := τ) (Proc.devRef .tc y) = n) :
    Keys (StableHlo.binaryIndexed x z ix T y f hT hx hz hix hy : HloOp τ sig Val) (n, a :: c :: l) :=
  ⟨fun b hb => by rw [Finset.mem_singleton.mp hb, h], fun b hb => by
    rcases Finset.mem_insert.mp hb with rfl | hb
    · exact .inr (by simp [ha])
    rcases Finset.mem_insert.mp hb with rfl | hb
    · exact .inr (by simp [hc])
    rcases Finset.mem_insert.mp hb with rfl | hb
    · exact .inl h
    · obtain ⟨j, -, rfl⟩ := Finset.mem_image.mp hb
      exact .inr (List.mem_cons_of_mem _ (List.mem_cons_of_mem _ (hl j)))⟩

/-- The numbers' own test of `Once`. -/
def onceTest : List (ℕ × List ℕ) → Bool
  | [] => true
  | p :: L => L.all (fun q => q.1 != p.1 && !(p.2.contains q.1)) && onceTest L

/-- No number listed in `L` (written or touched) is in `W`. -/
def apartTest (L : List (ℕ × List ℕ)) (W : List ℕ) : Bool := L.all fun p => !(W.contains p.1) && p.2.all fun q => !(W.contains q)

theorem once_of_shape : ∀ {ops : List (HloOp τ sig Val)} {L : List (ℕ × List ℕ)}, Shape ops L → onceTest L = true → Once ops
  | [], _, _, _ => List.Pairwise.nil
  | op :: ops, [], h, _ => nomatch h
  | op :: ops, p :: L, .cons hk hs, ht => by
    simp only [onceTest, Bool.and_eq_true, List.all_eq_true] at ht
    refine List.pairwise_cons.mpr ⟨fun o ho r hr hb => ?_, once_of_shape hs ht.2⟩
    obtain ⟨q, hq, hkq⟩ : ∃ q ∈ L, Keys o q := by
      clear ht hk
      induction hs with
      | nil => exact nomatch ho
      | cons h₁ h₂ ih =>
        rcases List.mem_cons.mp ho with rfl | ho
        · exact ⟨_, List.mem_cons_self, h₁⟩
        · obtain ⟨q, hq, hk⟩ := ih ho
          exact ⟨q, List.mem_cons_of_mem _ hq, hk⟩
    have ht := ht.1 q hq
    have hw := hkq.1 r hr
    rcases hk.2 r hb with h | h <;> simp_all

theorem Shape.get {ops : List (HloOp τ sig Val)} {L : List (ℕ × List ℕ)} (h : Shape ops L) {op : HloOp τ sig Val} (ho : op ∈ ops) : ∃ p ∈ L, Keys op p := by
  induction h with
  | nil => exact nomatch ho
  | cons h₁ h₂ ih =>
    rcases List.mem_cons.mp ho with rfl | ho
    · exact ⟨_, List.mem_cons_self, h₁⟩
    · obtain ⟨q, hq, hk⟩ := ih ho
      exact ⟨q, List.mem_cons_of_mem _ hq, hk⟩

/-- What a line `ops` touches no operation of the line `later` writes, by the numbers. -/
theorem apart_of_shape {ops later : List (HloOp τ sig Val)} {L M : List (ℕ × List ℕ)} (h : Shape ops L) (h' : Shape later M)
    (ht : apartTest L (M.map Prod.fst) = true) : ∀ op ∈ ops, ∀ b ∈ op.bufs, ∀ o ∈ later, b ∉ o.writes := by
  intro op ho b hb o ho' hw
  obtain ⟨p, hp, hk⟩ := h.get ho
  obtain ⟨q, hq, hk'⟩ := h'.get ho'
  have e := hk'.1 b hw
  have hm : q.1 ∈ M.map Prod.fst := List.mem_map_of_mem hq
  simp only [apartTest, List.all_eq_true, Bool.and_eq_true, Bool.not_eq_true', ← Bool.not_eq_true, List.contains_iff_mem] at ht
  rcases hk.2 b hb with h | h
  · exact (ht p hp).1 (by rw [← h, e]; exact hm)
  · exact (ht p hp).2 _ h (by rw [e]; exact hm)

/-- A buffer whose number the line does not write. -/
theorem unwritten_of_shape {ops : List (HloOp τ sig Val)} {L : List (ℕ × List ℕ)} (h : Shape ops L) {b : DevRef τ sig}
    (ht : (L.map Prod.fst).contains (key b) = false) : ∀ op ∈ ops, b ∉ op.writes := by
  intro op ho hw
  obtain ⟨p, hp, hk⟩ := h.get ho
  have e := hk.1 b hw
  have hm : p.1 ∈ L.map Prod.fst := List.mem_map_of_mem hp
  rw [← e] at hm
  rw [← Bool.not_eq_true, List.contains_iff_mem] at ht
  exact ht hm

theorem after_keep : ∀ (ops : List (HloOp τ sig Val)) (V : Valuation τ sig Val) (b : DevRef τ sig),
    (∀ op ∈ ops, b ∉ op.writes) → after ops V b = V b
  | [], _, _, _ => rfl
  | op :: ops, V, b, h => by
    rw [after_cons, after_keep ops _ b fun o ho => h o (List.mem_cons_of_mem _ ho), HloOp.result_of_not_mem _ _ (h op List.mem_cons_self)]

/-- Each operation's written buffers hold, at `E`, its result from contents that agree with `E` at what it reads. -/
def Settled (ops : List (HloOp τ sig Val)) (E : Valuation τ sig Val) : Prop :=
  ∀ op ∈ ops, ∃ X : Valuation τ sig Val, (∀ b ∈ op.bufs, b ∉ op.writes → X b = E b) ∧ ∀ b ∈ op.writes, E b = op.result X b

theorem settled_after : ∀ (ops : List (HloOp τ sig Val)) (_ : Once ops) (V : Valuation τ sig Val), Settled ops (after ops V)
  | [], _, _ => fun _ h => nomatch h
  | op :: ops, h, V => fun o ho => by
    have hc := List.pairwise_cons.mp h
    rcases List.mem_cons.mp ho with rfl | ho
    · have keep : ∀ b ∈ o.bufs, after (o :: ops) V b = o.result V b := fun b hb => by
        rw [after_cons]
        exact after_keep ops _ b fun o' ho' hw => hc.1 o' ho' b hw hb
      refine ⟨V, fun b hb hw => ?_, fun b hb => keep b (o.writes_sub hb)⟩
      rw [keep b hb, HloOp.result_of_not_mem _ _ hw]
    · exact settled_after ops hc.2 (op.result V) o ho

theorem Settled.mono {ops : List (HloOp τ sig Val)} {E E' : Valuation τ sig Val} (h : Settled ops E)
    (hE : ∀ op ∈ ops, ∀ b ∈ op.bufs, E' b = E b) : Settled ops E' := fun op ho => by
  obtain ⟨X, h₁, h₂⟩ := h op ho
  exact ⟨X, fun b hb hw => by rw [h₁ b hb hw, hE op ho b hb], fun b hb => by rw [hE op ho b (op.writes_sub hb), h₂ b hb]⟩

theorem Settled.sub {ops ops' : List (HloOp τ sig Val)} {E : Valuation τ sig Val} (h : Settled ops E) (hs : ∀ op ∈ ops', op ∈ ops) :
    Settled ops' E := fun op ho => h op (hs op ho)

/-- The `i`-th operation of a list is in it. -/
theorem at_mem {α : Type} {l : List α} (i : ℕ) {x : α} (h : l[i]? = some x) : x ∈ l := List.mem_of_getElem? h

variable {ops : List (HloOp τ sig Val)} {E : Valuation τ sig Val}

theorem ne_dev {x y : Ref sig .tc} (h : (Proc.devRef .tc x : DevRef τ sig) ≠ Proc.devRef .tc y) : (Proc.devRef .tc x : DevRef τ sig) ∉ ({Proc.devRef .tc y} : Finset (DevRef τ sig)) :=
  fun hm => h (Finset.mem_singleton.mp hm)

theorem Settled.nullary (h : Settled ops E) (i : ℕ) {y : Ref sig .tc} {v hy} (hi : ops[i]? = some (StableHlo.nullary y v hy)) :
    E (Proc.devRef .tc y) = v := by
  obtain ⟨X, -, h₂⟩ := h _ (at_mem i hi)
  rw [h₂ _ (Finset.mem_singleton_self _), nullary_result]

theorem Settled.unary (h : Settled ops E) (i : ℕ) {x y : Ref sig .tc} {f hx hy} (hi : ops[i]? = some (StableHlo.unary x y f hx hy))
    (hn : (Proc.devRef .tc x : DevRef τ sig) ≠ Proc.devRef .tc y) : E (Proc.devRef .tc y) = f (E (Proc.devRef .tc x)) := by
  obtain ⟨X, h₁, h₂⟩ := h _ (at_mem i hi)
  rw [h₂ _ (Finset.mem_singleton_self _), unary_result, h₁ _ (Finset.mem_insert_self _ _) (ne_dev hn)]

theorem Settled.reshape (h : Settled ops E) (i : ℕ) {x y : Ref sig .tc} {he hs hx hy} (hi : ops[i]? = some (StableHlo.reshape x y he hs hx hy))
    (hn : (Proc.devRef .tc x : DevRef τ sig) ≠ Proc.devRef .tc y) :
    E (Proc.devRef .tc y) = fun i => he ▸ shapeCast y.ty.shape (E (Proc.devRef .tc x)) hs i := by
  obtain ⟨X, h₁, h₂⟩ := h _ (at_mem i hi)
  rw [h₂ _ (Finset.mem_singleton_self _), reshape_result, h₁ _ (Finset.mem_insert_self _ _) (ne_dev hn)]

theorem Settled.binary (h : Settled ops E) (i : ℕ) {a b y : Ref sig .tc} {f ha hb hy} (hi : ops[i]? = some (StableHlo.binary a b y f ha hb hy))
    (hn : (Proc.devRef .tc a : DevRef τ sig) ≠ Proc.devRef .tc y ∧ (Proc.devRef .tc b : DevRef τ sig) ≠ Proc.devRef .tc y) :
    E (Proc.devRef .tc y) = f (E (Proc.devRef .tc a)) (E (Proc.devRef .tc b)) := by
  obtain ⟨X, h₁, h₂⟩ := h _ (at_mem i hi)
  rw [h₂ _ (Finset.mem_singleton_self _), binary_result, h₁ _ (Finset.mem_insert_self _ _) (ne_dev hn.1),
    h₁ _ (Finset.mem_insert_of_mem (Finset.mem_insert_self _ _)) (ne_dev hn.2)]

theorem Settled.ternary (h : Settled ops E) (i : ℕ) {c a b y : Ref sig .tc} {f hc ha hb hy} (hi : ops[i]? = some (StableHlo.ternary c a b y f hc ha hb hy))
    (hn : (Proc.devRef .tc c : DevRef τ sig) ≠ Proc.devRef .tc y ∧ (Proc.devRef .tc a : DevRef τ sig) ≠ Proc.devRef .tc y ∧ (Proc.devRef .tc b : DevRef τ sig) ≠ Proc.devRef .tc y) :
    E (Proc.devRef .tc y) = f (E (Proc.devRef .tc c)) (E (Proc.devRef .tc a)) (E (Proc.devRef .tc b)) := by
  obtain ⟨X, h₁, h₂⟩ := h _ (at_mem i hi)
  rw [h₂ _ (Finset.mem_singleton_self _), ternary_result, h₁ _ (Finset.mem_insert_self _ _) (ne_dev hn.1),
    h₁ _ (Finset.mem_insert_of_mem (Finset.mem_insert_self _ _)) (ne_dev hn.2.1),
    h₁ _ (Finset.mem_insert_of_mem (Finset.mem_insert_of_mem (Finset.mem_insert_self _ _))) (ne_dev hn.2.2)]

theorem Settled.unaryIndexed (h : Settled ops E) (i : ℕ) {a y : Ref sig .tc} {n : ℕ} {ix : Fin n → Ref sig .tc} {T : BufTy} {f hT ha hix hy}
    (hi : ops[i]? = some (StableHlo.unaryIndexed a ix T y f hT ha hix hy))
    (hn : (Proc.devRef .tc a : DevRef τ sig) ≠ Proc.devRef .tc y ∧ ∀ k, (Proc.devRef .tc (ix k) : DevRef τ sig) ≠ Proc.devRef .tc y) :
    E (Proc.devRef .tc y) = f (E (Proc.devRef .tc a)) (fun k => cast (congrArg (fun U : BufTy => U.Contents Val) (hT k)) (E (Proc.devRef .tc (ix k)))) := by
  obtain ⟨X, h₁, h₂⟩ := h _ (at_mem i hi)
  rw [h₂ _ (Finset.mem_singleton_self _), HloOp.result_of_mem _ _ (Finset.mem_singleton_self _)]
  have e : ∀ k, X (Proc.devRef .tc (ix k)) = E (Proc.devRef .tc (ix k)) := fun k =>
    h₁ _ (Finset.mem_insert_of_mem (Finset.mem_insert_of_mem (Finset.mem_image_of_mem _ (Finset.mem_univ k)))) (ne_dev (hn.2 k))
  show f (X (Proc.devRef .tc a)) (fun k => cast _ (X (Proc.devRef .tc (ix k)))) = _
  rw [h₁ _ (Finset.mem_insert_self _ _) (ne_dev hn.1)]
  simp only [e]

theorem Settled.binaryIndexed (h : Settled ops E) (i : ℕ) {a b y : Ref sig .tc} {n : ℕ} {ix : Fin n → Ref sig .tc} {T : BufTy} {f hT ha hb hix hy}
    (hi : ops[i]? = some (StableHlo.binaryIndexed a b ix T y f hT ha hb hix hy))
    (hn : (Proc.devRef .tc a : DevRef τ sig) ≠ Proc.devRef .tc y ∧ (Proc.devRef .tc b : DevRef τ sig) ≠ Proc.devRef .tc y ∧ ∀ k, (Proc.devRef .tc (ix k) : DevRef τ sig) ≠ Proc.devRef .tc y) :
    E (Proc.devRef .tc y) = f (E (Proc.devRef .tc a)) (E (Proc.devRef .tc b)) (fun k => cast (congrArg (fun U : BufTy => U.Contents Val) (hT k)) (E (Proc.devRef .tc (ix k)))) := by
  obtain ⟨X, h₁, h₂⟩ := h _ (at_mem i hi)
  rw [h₂ _ (Finset.mem_singleton_self _), HloOp.result_of_mem _ _ (Finset.mem_singleton_self _)]
  have e : ∀ k, X (Proc.devRef .tc (ix k)) = E (Proc.devRef .tc (ix k)) := fun k =>
    h₁ _ (Finset.mem_insert_of_mem (Finset.mem_insert_of_mem (Finset.mem_insert_of_mem (Finset.mem_image_of_mem _ (Finset.mem_univ k))))) (ne_dev (hn.2.2 k))
  show f (X (Proc.devRef .tc a)) (X (Proc.devRef .tc b)) (fun k => cast _ (X (Proc.devRef .tc (ix k)))) = _
  rw [h₁ _ (Finset.mem_insert_self _ _) (ne_dev hn.1), h₁ _ (Finset.mem_insert_of_mem (Finset.mem_insert_self _ _)) (ne_dev hn.2.1)]
  simp only [e]

section Loops

variable {F : FTy → Type} {nD : ℕ}

/-- A buffer neither the condition nor the body writes is what it was, at every trip. -/
theorem atTrip_keep {condOps : List (HloOp τ sig (Elt F))} {body : List (List (HloOp τ sig (Elt F)))} {W₀ : Dev nD → Valuation τ sig (Elt F)}
    {b : DevRef τ sig} (h : ∀ op ∈ condOps ++ body.flatten, b ∉ op.writes) (c : Dev nD) : ∀ k, atTrip condOps body W₀ k c b = W₀ c b
  | 0 => rfl
  | k + 1 => by
    rw [atTrip_succ, afterL_eq_after_flatten, after_keep _ _ _ fun op ho => h op (List.mem_append_right _ ho),
      after_keep _ _ _ fun op ho => h op (List.mem_append_left _ ho), atTrip_keep h c k]

theorem leave_keep {nL : ℕ} {K : TwoLoops.Counted τ sig F nL} {W₀ : Dev nD → Valuation τ sig (Elt F)} {b : DevRef τ sig}
    (h : ∀ op ∈ K.condOps ++ K.body.flatten, b ∉ op.writes) (c : Dev nD) : K.leave W₀ c b = W₀ c b := by
  rw [TwoLoops.Counted.leave, after_keep _ _ _ fun op ho => h op (List.mem_append_left _ ho), atTrip_keep h c]

end Loops

end Cert.Settled

end
-- ==== Proof.HostVal.lean ====
/-
  What the operations before the kernel compute, as arrays of real numbers.
-/
module

public import proofs.«01_k».proof.Proof.HostShapes
public import proofs.«01_k».proof.Proof.Settled
public import proofs.«01_k».proof.Proof.Gen.KernelIdeal.Frame
@[expose] public section

set_option maxRecDepth 16384

noncomputable section

namespace Cert.KernelIdeal.Line

open Idealize.ShloMosaic Idealize.ShloMosaic.TcCoe Idealize.ShloMosaic.StableHlo Cert.Settled Cert.KernelIdeal Cert.KernelIdeal.Gen Cert.Lift Cert

section
variable {F : FTy → Type} [FloatOps F]

abbrev host_keys : List (ℕ × List ℕ) := [(6, [1]), (7, [2]), (8, [6, 7]), (9, [3]), (10, [8, 9])]
theorem host_shape : Shape (hostOps0 (F := F)) host_keys :=
  .cons (keys_unary rfl rfl) (.cons (keys_unary rfl rfl) (.cons (keys_binary rfl rfl rfl) (.cons (keys_unary rfl rfl) (.cons (keys_binary rfl rfl rfl) (.nil)))))

abbrev host_1_keys : List (ℕ × List ℕ) := [(11, [10]), (12, []), (13, [12]), (14, [11, 13]), (15, [12]), (16, [11, 15]), (17, [16, 16]), (18, [12]), (19, [11, 18]), (20, [16]), (21, [20]), (22, [21]), (23, [22]), (24, [14, 23]), (25, [17, 19, 24]), (26, [25])]
theorem host_1_shape : Shape (hostOps0_1 (F := F)) host_1_keys :=
  .cons (keys_unary rfl rfl) (.cons (keys_nullary rfl) (.cons (keys_unary rfl rfl) (.cons (keys_binary rfl rfl rfl) (.cons (keys_unary rfl rfl) (.cons (keys_binary rfl rfl rfl) (.cons (keys_binary rfl rfl rfl) (.cons (keys_unary rfl rfl) (.cons (keys_binary rfl rfl rfl) (.cons (keys_unary rfl rfl) (.cons (keys_unary rfl rfl) (.cons (keys_unary rfl rfl) (.cons (keys_unary rfl rfl) (.cons (keys_binary rfl rfl rfl) (.cons (keys_ternary rfl rfl rfl rfl) (.cons (keys_unary rfl rfl) (.nil))))))))))))))))

abbrev host_2_keys : List (ℕ × List ℕ) := [(27, []), (28, [27]), (29, [26, 28]), (30, [0]), (31, [30]), (32, [31]), (33, [32]), (34, []), (35, [34]), (36, [33, 35]), (37, [0]), (38, [37]), (39, [38]), (40, [39]), (41, [0]), (42, [41]), (43, [42]), (44, [43]), (45, [29]), (46, [45])]
theorem host_2_shape : Shape (hostOps0_2 (F := F)) host_2_keys :=
  .cons (keys_nullary rfl) (.cons (keys_unary rfl rfl) (.cons (keys_binary rfl rfl rfl) (.cons (keys_unary rfl rfl) (.cons (keys_unary rfl rfl) (.cons (keys_reshape rfl rfl) (.cons (keys_unary rfl rfl) (.cons (keys_nullary rfl) (.cons (keys_unary rfl rfl) (.cons (keys_binary rfl rfl rfl) (.cons (keys_unary rfl rfl) (.cons (keys_unary rfl rfl) (.cons (keys_reshape rfl rfl) (.cons (keys_unary rfl rfl) (.cons (keys_unary rfl rfl) (.cons (keys_unary rfl rfl) (.cons (keys_reshape rfl rfl) (.cons (keys_unary rfl rfl) (.cons (keys_reshape rfl rfl) (.cons (keys_unary rfl rfl) (.nil))))))))))))))))))))

abbrev host_3_keys : List (ℕ × List ℕ) := [(47, []), (48, [47]), (49, [46, 48])]
theorem host_3_shape : Shape (hostOps0_3 (F := F)) host_3_keys :=
  .cons (keys_nullary rfl) (.cons (keys_unary rfl rfl) (.cons (keys_binary rfl rfl rfl) (.nil)))

abbrev host_4_keys : List (ℕ × List ℕ) := [(50, [49]), (51, [49]), (52, [36, 51]), (53, [49]), (54, [53]), (55, [40, 54]), (56, [50]), (57, [56, 49]), (58, [57]), (59, [40, 58]), (60, []), (61, [60])]
theorem host_4_shape : Shape (hostOps0_4 (F := F)) host_4_keys :=
  .cons (keys_unary rfl rfl) (.cons (keys_unary rfl rfl) (.cons (keys_binary rfl rfl rfl) (.cons (keys_unary rfl rfl) (.cons (keys_unary rfl rfl) (.cons (keys_binary rfl rfl rfl) (.cons (keys_unary rfl rfl) (.cons (keys_binary rfl rfl rfl) (.cons (keys_unary rfl rfl) (.cons (keys_binary rfl rfl rfl) (.cons (keys_nullary rfl) (.cons (keys_unary rfl rfl) (.nil))))))))))))

abbrev host_5_keys : List (ℕ × List ℕ) := [(62, []), (63, []), (64, [63]), (65, [62, 64]), (66, []), (67, [65, 66]), (68, []), (69, [68]), (70, [67, 61, 69])]
theorem host_5_shape : Shape (hostOps0_5 (F := F)) host_5_keys :=
  .cons (keys_nullary rfl) (.cons (keys_nullary rfl) (.cons (keys_unary rfl rfl) (.cons (keys_binary rfl rfl rfl) (.cons (keys_nullary rfl) (.cons (keys_binary rfl rfl rfl) (.cons (keys_nullary rfl) (.cons (keys_unary rfl rfl) (.cons (keys_ternary rfl rfl rfl rfl) (.nil)))))))))

abbrev host_6_keys : List (ℕ × List ℕ) := [(71, [52, 55]), (72, [])]
theorem host_6_shape : Shape (hostOps0_6 (F := F)) host_6_keys :=
  .cons (keys_binary rfl rfl rfl) (.cons (keys_nullary rfl) (.nil))

abbrev host_7_keys : List (ℕ × List ℕ) := [(73, [72]), (74, [70]), (75, [73]), (76, [74, 71, 75])]
theorem host_7_shape : Shape (hostOps0_7 (F := F)) host_7_keys :=
  .cons (keys_unary rfl rfl) (.cons (keys_unary rfl rfl) (.cons (keys_unary rfl rfl) (.cons (keys_ternary rfl rfl rfl rfl) (.nil))))

abbrev host_8_keys : List (ℕ × List ℕ) := [(77, [76, 44]), (78, [50])]
theorem host_8_shape : Shape (hostOps0_8 (F := F)) host_8_keys :=
  .cons (keys_binary rfl rfl rfl) (.cons (keys_reshape rfl rfl) (.nil))

abbrev host_9_keys : List (ℕ × List ℕ) := [(79, []), (80, [79]), (81, [78, 80])]
theorem host_9_shape : Shape (hostOps0_9 (F := F)) host_9_keys :=
  .cons (keys_nullary rfl) (.cons (keys_unary rfl rfl) (.cons (keys_binary rfl rfl rfl) (.nil)))

abbrev host_10_keys : List (ℕ × List ℕ) := [(82, [50]), (83, [81, 82]), (84, []), (85, [84])]
theorem host_10_shape : Shape (hostOps0_10 (F := F)) host_10_keys :=
  .cons (keys_reshape rfl rfl) (.cons (keys_binary rfl rfl rfl) (.cons (keys_nullary rfl) (.cons (keys_unary rfl rfl) (.nil))))

abbrev host_11_keys : List (ℕ × List ℕ) := [(86, []), (87, []), (88, [87]), (89, [86, 88]), (90, []), (91, [89, 90]), (92, []), (93, [92]), (94, [91, 85, 93])]
theorem host_11_shape : Shape (hostOps0_11 (F := F)) host_11_keys :=
  .cons (keys_nullary rfl) (.cons (keys_nullary rfl) (.cons (keys_unary rfl rfl) (.cons (keys_binary rfl rfl rfl) (.cons (keys_nullary rfl) (.cons (keys_binary rfl rfl rfl) (.cons (keys_nullary rfl) (.cons (keys_unary rfl rfl) (.cons (keys_ternary rfl rfl rfl rfl) (.nil)))))))))

abbrev host_12_keys : List (ℕ × List ℕ) := [(95, [94]), (96, [83]), (97, [81]), (98, [96]), (99, [97]), (100, [98, 99]), (101, [100]), (102, [])]
theorem host_12_shape : Shape (hostOps0_12 (F := F)) host_12_keys :=
  .cons (keys_unary rfl rfl) (.cons (keys_unary rfl rfl) (.cons (keys_unary rfl rfl) (.cons (keys_unary rfl rfl) (.cons (keys_unary rfl rfl) (.cons (keys_binary rfl rfl rfl) (.cons (keys_unary rfl rfl) (.cons (keys_nullary rfl) (.nil))))))))

abbrev host_13_keys : List (ℕ × List ℕ) := [(103, [102]), (104, [95]), (105, [103]), (106, [104, 101, 105])]
theorem host_13_shape : Shape (hostOps0_13 (F := F)) host_13_keys :=
  .cons (keys_unary rfl rfl) (.cons (keys_unary rfl rfl) (.cons (keys_unary rfl rfl) (.cons (keys_ternary rfl rfl rfl rfl) (.nil))))

abbrev host_14_keys : List (ℕ × List ℕ) := [(107, [44, 59]), (108, [107, 106]), (109, [108]), (110, [52, 109]), (111, [77, 110]), (112, [111]), (113, [112]), (114, [109])]
theorem host_14_shape : Shape (hostOps0_14 (F := F)) host_14_keys :=
  .cons (keys_binary rfl rfl rfl) (.cons (keys_binary rfl rfl rfl) (.cons (keys_unary rfl rfl) (.cons (keys_binary rfl rfl rfl) (.cons (keys_binary rfl rfl rfl) (.cons (keys_unary rfl rfl) (.cons (keys_reshape rfl rfl) (.cons (keys_unary rfl rfl) (.nil))))))))

/-- The operations before the kernel, in order. -/
abbrev hostLine : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]
abbrev hostLine_keys : List (ℕ × List ℕ) := host_keys ++ (host_1_keys ++ (host_2_keys ++ (host_3_keys ++ (host_4_keys ++ (host_5_keys ++ (host_6_keys ++ (host_7_keys ++ (host_8_keys ++ (host_9_keys ++ (host_10_keys ++ (host_11_keys ++ (host_12_keys ++ (host_13_keys ++ (host_14_keys ++ ([])))))))))))))))
theorem hostLine_shape : Shape (hostLine (F := F)) hostLine_keys :=
  List.rel_append host_shape (List.rel_append host_1_shape (List.rel_append host_2_shape (List.rel_append host_3_shape (List.rel_append host_4_shape (List.rel_append host_5_shape (List.rel_append host_6_shape (List.rel_append host_7_shape (List.rel_append host_8_shape (List.rel_append host_9_shape (List.rel_append host_10_shape (List.rel_append host_11_shape (List.rel_append host_12_shape (List.rel_append host_13_shape (List.rel_append host_14_shape (.nil)))))))))))))))

end

section
variable {ops : List (HloOp τ sig (Elt Ideal))} {E : Valuation τ sig (Elt Ideal)} {T T1 T2 T3 : BufTy}
theorem settled_tnullary (h : Settled ops E) (i : ℕ) (y : TRef sig T) {v w} (hi : ops[i]? = some (TRef.nullary y v)) (hv : v = w) :
    y.ofBuf (E (Proc.devRef .tc y.ref)) = w := by
  rw [h.nullary i hi, ← hv]
  exact cast_cast _ _ _
theorem settled_tunary (h : Settled ops E) (i : ℕ) (a : TRef sig T1) (y : TRef sig T) {f u w} (hi : ops[i]? = some (TRef.unary a y f))
    (hn : (Proc.devRef .tc a.ref : DevRef τ sig) ≠ Proc.devRef .tc y.ref) (ha : a.ofBuf (E (Proc.devRef .tc a.ref)) = u) (hv : f u = w) :
    y.ofBuf (E (Proc.devRef .tc y.ref)) = w := by
  rw [h.unary i hi hn, ha, hv]
  exact cast_cast _ _ _
theorem settled_tbinary (h : Settled ops E) (i : ℕ) (a : TRef sig T1) (b : TRef sig T2) (y : TRef sig T) {f u u' w} (hi : ops[i]? = some (TRef.binary a b y f))
    (hn : (Proc.devRef .tc a.ref : DevRef τ sig) ≠ Proc.devRef .tc y.ref ∧ (Proc.devRef .tc b.ref : DevRef τ sig) ≠ Proc.devRef .tc y.ref)
    (ha : a.ofBuf (E (Proc.devRef .tc a.ref)) = u) (hb : b.ofBuf (E (Proc.devRef .tc b.ref)) = u') (hv : f u u' = w) :
    y.ofBuf (E (Proc.devRef .tc y.ref)) = w := by
  rw [h.binary i hi hn, ha, hb, hv]
  exact cast_cast _ _ _
theorem settled_tternary (h : Settled ops E) (i : ℕ) (a : TRef sig T1) (b : TRef sig T2) (d : TRef sig T3) (y : TRef sig T) {f u u' u'' w} (hi : ops[i]? = some (TRef.ternary a b d y f))
    (hn : (Proc.devRef .tc a.ref : DevRef τ sig) ≠ Proc.devRef .tc y.ref ∧ (Proc.devRef .tc b.ref : DevRef τ sig) ≠ Proc.devRef .tc y.ref ∧ (Proc.devRef .tc d.ref : DevRef τ sig) ≠ Proc.devRef .tc y.ref)
    (ha : a.ofBuf (E (Proc.devRef .tc a.ref)) = u) (hb : b.ofBuf (E (Proc.devRef .tc b.ref)) = u') (hd : d.ofBuf (E (Proc.devRef .tc d.ref)) = u'') (hv : f u u' u'' = w) :
    y.ofBuf (E (Proc.devRef .tc y.ref)) = w := by
  rw [h.ternary i hi hn, ha, hb, hd, hv]
  exact cast_cast _ _ _
end

/-- What the buffers hold when the kernel starts. -/
def fin (m : (ℓ : Loc nD τ sig) → Buf (Elt Ideal) ℓ) (c : Dev nD) : Valuation τ sig (Elt Ideal) := StableHlo.after (hostLine (F := Ideal)) (fun b => m (c, b))
theorem settled_host (m : (ℓ : Loc nD τ sig) → Buf (Elt Ideal) ℓ) (c : Dev nD) : Settled (hostLine (F := Ideal)) (fin m c) :=
  settled_after _ (once_of_shape hostLine_shape (by decide +kernel)) _

/-- The arguments hold the real arrays `x`. -/
structure Of (m : (ℓ : Loc nD τ sig) → Buf (Elt Ideal) ℓ) (c : Dev nD) (x : In) : Prop where
  p0 : m (c, Proc.devRef .tc main_arg0) = up2 x.P
  p1 : m (c, Proc.devRef .tc main_arg1) = up2 x.A
  p2 : m (c, Proc.devRef .tc main_arg2) = up2 x.W
  p3 : m (c, Proc.devRef .tc main_arg3) = up2 (fun (_ : Fin 1) j => x.b j)
  p4 : m (c, Proc.devRef .tc main_arg4) = up2 (fun (_ : Fin 1) j => x.g j)
  p5 : m (c, Proc.devRef .tc main_arg5) = up2 x.D

variable {m : (ℓ : Loc nD τ sig) → Buf (Elt Ideal) ℓ} {c : Dev nD} {x : In}

theorem Of.arg0 (hx : Of m c x) : fin m c (Proc.devRef .tc main_arg0) = up2 x.P := (V_main_arg0 m c).trans hx.p0
theorem Of.arg1 (hx : Of m c x) : fin m c (Proc.devRef .tc main_arg1) = up2 x.A := (V_main_arg1 m c).trans hx.p1
theorem Of.arg2 (hx : Of m c x) : fin m c (Proc.devRef .tc main_arg2) = up2 x.W := (V_main_arg2 m c).trans hx.p2
theorem Of.arg3 (hx : Of m c x) : fin m c (Proc.devRef .tc main_arg3) = up2 (fun (_ : Fin 1) j => x.b j) := (V_main_arg3 m c).trans hx.p3
theorem Of.arg4 (hx : Of m c x) : fin m c (Proc.devRef .tc main_arg4) = up2 (fun (_ : Fin 1) j => x.g j) := (V_main_arg4 m c).trans hx.p4
theorem Of.arg5 (hx : Of m c x) : fin m c (Proc.devRef .tc main_arg5) = up2 x.D := (V_main_arg5 m c).trans hx.p5

theorem t_v0 {m c x} (hx : Of m c x) : fin m c (Proc.devRef .tc main_v0) = up2 (fun (i : Fin 8192) (j : Fin 128) => x.A i j) := by
  rw [(settled_host m c).unary 0 rfl (by decide), Of.arg1 hx]
  rfl
theorem t_v1 {m c x} (hx : Of m c x) : fin m c (Proc.devRef .tc main_v1) = up2 (fun (i : Fin 128) (j : Fin 512) => x.W i j) := by
  rw [(settled_host m c).unary 1 rfl (by decide), Of.arg2 hx]
  rfl
def v2 (x : In) (i : Fin 8192) (j : Fin 512) : ℝ := ∑ s : Fin 128, x.A i s * x.W s j
theorem t_v2 {m c x} (hx : Of m c x) : fin m c (Proc.devRef .tc main_v2) = up2 (v2 x) := by
  rw [(settled_host m c).binary 2 rfl (by decide), t_v0 hx, t_v1 hx]
  exact khdot_S8192x128_S128x512_S8192x512_1_0_0_1_n_n _ _
theorem t_v3 {m c x} (hx : Of m c x) : fin m c (Proc.devRef .tc main_v3) = up2 (fun (i : Fin 8192) (j : Fin 512) => x.b j) := by
  rw [(settled_host m c).unary 3 rfl (by decide), Of.arg3 hx]
  exact bc_1x512_8192x512_01 _ _
def v4 (x : In) (i : Fin 8192) (j : Fin 512) : ℝ := v2 x i j + x.b j
theorem t_v4 {m c x} (hx : Of m c x) : fin m c (Proc.devRef .tc main_v4) = up2 (v4 x) := by
  rw [(settled_host m c).binary 4 rfl (by decide), t_v2 hx, t_v3 hx]
  exact add2 _ _
def call0_v0 (x : In) (i : Fin 8192) (j : Fin 512) : ℝ := -(v4 x i j)
theorem t_call0_v0 {m c x} (hx : Of m c x) : fin m c (Proc.devRef .tc main_call0_v0) = up2 (call0_v0 x) := by
  exact settled_tunary (settled_host m c) 5 (.of main_v4 : TRef sig ⟨S8192x512, .f32⟩) (.of main_call0_v0 : TRef sig ⟨S8192x512, .f32⟩) rfl (show (Proc.devRef .tc main_v4 : DevRef τ sig) ≠ Proc.devRef .tc main_call0_v0 from by decide) (t_v4 hx) (hneg2 _)
theorem t_call0_call0_cst {m c x} (hx : Of m c x) : fin m c (Proc.devRef .tc main_call0_call0_cst) = up0 0 := by
  rw [(settled_host m c).nullary 6 rfl]
  exact const0 w_zero
theorem t_call0_call0_v0 {m c x} (hx : Of m c x) : fin m c (Proc.devRef .tc main_call0_call0_v0) = up2 (fun (i : Fin 8192) (j : Fin 512) => 0) := by
  exact settled_tunary (settled_host m c) 7 (.of main_call0_call0_cst : TRef sig ⟨S_, .f32⟩) (.of main_call0_call0_v0 : TRef sig ⟨S8192x512, .f32⟩) rfl (show (Proc.devRef .tc main_call0_call0_cst : DevRef τ sig) ≠ Proc.devRef .tc main_call0_call0_v0 from by decide) (t_call0_call0_cst hx) (bc_u_8192x512_ _ _)
def call0_call0_v1 (x : In) (i : Fin 8192) (j : Fin 512) : ℝ := max (call0_v0 x i j) 0
theorem t_call0_call0_v1 {m c x} (hx : Of m c x) : fin m c (Proc.devRef .tc main_call0_call0_v1) = up2 (call0_call0_v1 x) := by
  exact settled_tbinary (settled_host m c) 8 (.of main_call0_v0 : TRef sig ⟨S8192x512, .f32⟩) (.of main_call0_call0_v0 : TRef sig ⟨S8192x512, .f32⟩) (.of main_call0_call0_v1 : TRef sig ⟨S8192x512, .f32⟩) rfl (show (Proc.devRef .tc main_call0_v0 : DevRef τ sig) ≠ Proc.devRef .tc main_call0_call0_v1 ∧ (Proc.devRef .tc main_call0_call0_v0 : DevRef τ sig) ≠ Proc.devRef .tc main_call0_call0_v1 from by decide) (t_call0_v0 hx) (t_call0_call0_v0 hx) (max2 _ _)
theorem t_call0_call0_v2 {m c x} (hx : Of m c x) : fin m c (Proc.devRef .tc main_call0_call0_v2) = up2 (fun (i : Fin 8192) (j : Fin 512) => 0) := by
  exact settled_tunary (settled_host m c) 9 (.of main_call0_call0_cst : TRef sig ⟨S_, .f32⟩) (.of main_call0_call0_v2 : TRef sig ⟨S8192x512, .f32⟩) rfl (show (Proc.devRef .tc main_call0_call0_cst : DevRef τ sig) ≠ Proc.devRef .tc main_call0_call0_v2 from by decide) (t_call0_call0_cst hx) (bc_u_8192x512_ _ _)
def call0_call0_v3 (x : In) (i : Fin 8192) (j : Fin 512) : ℝ := call0_v0 x i j - 0
theorem t_call0_call0_v3 {m c x} (hx : Of m c x) : fin m c (Proc.devRef .tc main_call0_call0_v3) = up2 (call0_call0_v3 x) := by
  exact settled_tbinary (settled_host m c) 10 (.of main_call0_v0 : TRef sig ⟨S8192x512, .f32⟩) (.of main_call0_call0_v2 : TRef sig ⟨S8192x512, .f32⟩) (.of main_call0_call0_v3 : TRef sig ⟨S8192x512, .f32⟩) rfl (show (Proc.devRef .tc main_call0_v0 : DevRef τ sig) ≠ Proc.devRef .tc main_call0_call0_v3 ∧ (Proc.devRef .tc main_call0_call0_v2 : DevRef τ sig) ≠ Proc.devRef .tc main_call0_call0_v3 from by decide) (t_call0_v0 hx) (t_call0_call0_v2 hx) (sub2 _ _)
theorem t_call0_call0_v4 {m c x} (hx : Of m c x) : fin m c (Proc.devRef .tc main_call0_call0_v4) = fun _ => 0#1 := by
  exact settled_tbinary (settled_host m c) 11 (.of main_call0_call0_v3 : TRef sig ⟨S8192x512, .f32⟩) (.of main_call0_call0_v3 : TRef sig ⟨S8192x512, .f32⟩) (.of main_call0_call0_v4 : TRef sig ⟨S8192x512, .i1⟩) rfl (show (Proc.devRef .tc main_call0_call0_v3 : DevRef τ sig) ≠ Proc.devRef .tc main_call0_call0_v4 ∧ (Proc.devRef .tc main_call0_call0_v3 : DevRef τ sig) ≠ Proc.devRef .tc main_call0_call0_v4 from by decide) (t_call0_call0_v3 hx) (t_call0_call0_v3 hx) (une_self2 _)
theorem t_call0_call0_v5 {m c x} (hx : Of m c x) : fin m c (Proc.devRef .tc main_call0_call0_v5) = up2 (fun (i : Fin 8192) (j : Fin 512) => 0) := by
  exact settled_tunary (settled_host m c) 12 (.of main_call0_call0_cst : TRef sig ⟨S_, .f32⟩) (.of main_call0_call0_v5 : TRef sig ⟨S8192x512, .f32⟩) rfl (show (Proc.devRef .tc main_call0_call0_cst : DevRef τ sig) ≠ Proc.devRef .tc main_call0_call0_v5 from by decide) (t_call0_call0_cst hx) (bc_u_8192x512_ _ _)
def call0_call0_v6 (x : In) (i : Fin 8192) (j : Fin 512) : ℝ := call0_v0 x i j + 0
theorem t_call0_call0_v6 {m c x} (hx : Of m c x) : fin m c (Proc.devRef .tc main_call0_call0_v6) = up2 (call0_call0_v6 x) := by
  exact settled_tbinary (settled_host m c) 13 (.of main_call0_v0 : TRef sig ⟨S8192x512, .f32⟩) (.of main_call0_call0_v5 : TRef sig ⟨S8192x512, .f32⟩) (.of main_call0_call0_v6 : TRef sig ⟨S8192x512, .f32⟩) rfl (show (Proc.devRef .tc main_call0_v0 : DevRef τ sig) ≠ Proc.devRef .tc main_call0_call0_v6 ∧ (Proc.devRef .tc main_call0_call0_v5 : DevRef τ sig) ≠ Proc.devRef .tc main_call0_call0_v6 from by decide) (t_call0_v0 hx) (t_call0_call0_v5 hx) (add2 _ _)
def call0_call0_v7 (x : In) (i : Fin 8192) (j : Fin 512) : ℝ := |call0_call0_v3 x i j|
theorem t_call0_call0_v7 {m c x} (hx : Of m c x) : fin m c (Proc.devRef .tc main_call0_call0_v7) = up2 (call0_call0_v7 x) := by
  exact settled_tunary (settled_host m c) 14 (.of main_call0_call0_v3 : TRef sig ⟨S8192x512, .f32⟩) (.of main_call0_call0_v7 : TRef sig ⟨S8192x512, .f32⟩) rfl (show (Proc.devRef .tc main_call0_call0_v3 : DevRef τ sig) ≠ Proc.devRef .tc main_call0_call0_v7 from by decide) (t_call0_call0_v3 hx) (habs2 _)
def call0_call0_v8 (x : In) (i : Fin 8192) (j : Fin 512) : ℝ := -(call0_call0_v7 x i j)
theorem t_call0_call0_v8 {m c x} (hx : Of m c x) : fin m c (Proc.devRef .tc main_call0_call0_v8) = up2 (call0_call0_v8 x) := by
  exact settled_tunary (settled_host m c) 15 (.of main_call0_call0_v7 : TRef sig ⟨S8192x512, .f32⟩) (.of main_call0_call0_v8 : TRef sig ⟨S8192x512, .f32⟩) rfl (show (Proc.devRef .tc main_call0_call0_v7 : DevRef τ sig) ≠ Proc.devRef .tc main_call0_call0_v8 from by decide) (t_call0_call0_v7 hx) (hneg2 _)
def call0_call0_v9 (x : In) (i : Fin 8192) (j : Fin 512) : ℝ := Real.exp (call0_call0_v8 x i j)
theorem t_call0_call0_v9 {m c x} (hx : Of m c x) : fin m c (Proc.devRef .tc main_call0_call0_v9) = up2 (call0_call0_v9 x) := by
  exact settled_tunary (settled_host m c) 16 (.of main_call0_call0_v8 : TRef sig ⟨S8192x512, .f32⟩) (.of main_call0_call0_v9 : TRef sig ⟨S8192x512, .f32⟩) rfl (show (Proc.devRef .tc main_call0_call0_v8 : DevRef τ sig) ≠ Proc.devRef .tc main_call0_call0_v9 from by decide) (t_call0_call0_v8 hx) (hexp2 _)
def call0_call0_v10 (x : In) (i : Fin 8192) (j : Fin 512) : ℝ := Real.log (1 + (call0_call0_v9 x i j))
theorem t_call0_call0_v10 {m c x} (hx : Of m c x) : fin m c (Proc.devRef .tc main_call0_call0_v10) = up2 (call0_call0_v10 x) := by
  exact settled_tunary (settled_host m c) 17 (.of main_call0_call0_v9 : TRef sig ⟨S8192x512, .f32⟩) (.of main_call0_call0_v10 : TRef sig ⟨S8192x512, .f32⟩) rfl (show (Proc.devRef .tc main_call0_call0_v9 : DevRef τ sig) ≠ Proc.devRef .tc main_call0_call0_v10 from by decide) (t_call0_call0_v9 hx) (hlog1p2 _ (fun i j => add_pos one_pos (Real.exp_pos _)))
def call0_call0_v11 (x : In) (i : Fin 8192) (j : Fin 512) : ℝ := call0_call0_v1 x i j + call0_call0_v10 x i j
theorem t_call0_call0_v11 {m c x} (hx : Of m c x) : fin m c (Proc.devRef .tc main_call0_call0_v11) = up2 (call0_call0_v11 x) := by
  exact settled_tbinary (settled_host m c) 18 (.of main_call0_call0_v1 : TRef sig ⟨S8192x512, .f32⟩) (.of main_call0_call0_v10 : TRef sig ⟨S8192x512, .f32⟩) (.of main_call0_call0_v11 : TRef sig ⟨S8192x512, .f32⟩) rfl (show (Proc.devRef .tc main_call0_call0_v1 : DevRef τ sig) ≠ Proc.devRef .tc main_call0_call0_v11 ∧ (Proc.devRef .tc main_call0_call0_v10 : DevRef τ sig) ≠ Proc.devRef .tc main_call0_call0_v11 from by decide) (t_call0_call0_v1 hx) (t_call0_call0_v10 hx) (add2 _ _)
theorem t_call0_v1 {m c x} (hx : Of m c x) : fin m c (Proc.devRef .tc main_call0_v1) = up2 (fun (i : Fin 8192) (j : Fin 512) => call0_call0_v11 x i j) := by
  exact settled_tternary (settled_host m c) 19 (.of main_call0_call0_v4 : TRef sig ⟨S8192x512, .i1⟩) (.of main_call0_call0_v6 : TRef sig ⟨S8192x512, .f32⟩) (.of main_call0_call0_v11 : TRef sig ⟨S8192x512, .f32⟩) (.of main_call0_v1 : TRef sig ⟨S8192x512, .f32⟩) rfl (show (Proc.devRef .tc main_call0_call0_v4 : DevRef τ sig) ≠ Proc.devRef .tc main_call0_v1 ∧ (Proc.devRef .tc main_call0_call0_v6 : DevRef τ sig) ≠ Proc.devRef .tc main_call0_v1 ∧ (Proc.devRef .tc main_call0_call0_v11 : DevRef τ sig) ≠ Proc.devRef .tc main_call0_v1 from by decide) (t_call0_call0_v4 hx) (t_call0_call0_v6 hx) (t_call0_call0_v11 hx) (sel_none _ _)
def v5 (x : In) (i : Fin 8192) (j : Fin 512) : ℝ := -(call0_call0_v11 x i j)
theorem t_v5 {m c x} (hx : Of m c x) : fin m c (Proc.devRef .tc main_v5) = up2 (v5 x) := by
  exact settled_tunary (settled_host m c) 20 (.of main_call0_v1 : TRef sig ⟨S8192x512, .f32⟩) (.of main_v5 : TRef sig ⟨S8192x512, .f32⟩) rfl (show (Proc.devRef .tc main_call0_v1 : DevRef τ sig) ≠ Proc.devRef .tc main_v5 from by decide) (t_call0_v1 hx) (hneg2 _)
theorem t_cst {m c x} (hx : Of m c x) : fin m c (Proc.devRef .tc main_cst) = up0 16 := by
  rw [(settled_host m c).nullary 21 rfl]
  exact const0 w_16
theorem t_v6 {m c x} (hx : Of m c x) : fin m c (Proc.devRef .tc main_v6) = up2 (fun (i : Fin 8192) (j : Fin 512) => 16) := by
  rw [(settled_host m c).unary 22 rfl (by decide), t_cst hx]
  exact bc_u_8192x512_ _ _
def v7 (x : In) (i : Fin 8192) (j : Fin 512) : ℝ := v5 x i j / 16
theorem t_v7 {m c x} (hx : Of m c x) : fin m c (Proc.devRef .tc main_v7) = up2 (v7 x) := by
  rw [(settled_host m c).binary 23 rfl (by decide), t_v5 hx, t_v6 hx]
  exact hdiv2 _ _ (fun _ _ => by norm_num)
theorem t_v8 {m c x} (hx : Of m c x) : fin m c (Proc.devRef .tc main_v8) = up2 (fun (i : Fin 8192) (j : Fin 512) => x.P i (qcol j)) := by
  rw [(settled_host m c).unary 24 rfl (by decide), Of.arg0 hx]
  exact sl_8192x7680_8192x512_0_6144 _ _
theorem t_v9 {m c x} (hx : Of m c x) : fin m c (Proc.devRef .tc main_v9) = up2 (fun (i : Fin 8192) (j : Fin 512) => x.P i (qcol j)) := by
  rw [(settled_host m c).unary 25 rfl (by decide), t_v8 hx]
  rfl
theorem t_v10 {m c x} (hx : Of m c x) : fin m c (Proc.devRef .tc main_v10) = up4 (fun (i : Fin 256) (j : Fin 32) (k : Fin 4) (l : Fin 128) => x.P (row i j) (qcol (colK k l))) := by
  rw [(settled_host m c).reshape 26 rfl (by decide), t_v9 hx]
  exact resh_8192x512_256x32x4x128 _ _
theorem t_v11 {m c x} (hx : Of m c x) : fin m c (Proc.devRef .tc main_v11) = up4 (fun (i : Fin 4) (j : Fin 256) (k : Fin 32) (l : Fin 128) => x.P (row j k) (qcol (colK i l))) := by
  rw [(settled_host m c).unary 27 rfl (by decide), t_v10 hx]
  exact tr_256x32x4x128_2013 _ _
theorem t_cst_0 {m c x} (hx : Of m c x) : fin m c (Proc.devRef .tc main_cst_0) = up0 sc := by
  rw [(settled_host m c).nullary 28 rfl]
  exact const0 w_sc
theorem t_v12 {m c x} (hx : Of m c x) : fin m c (Proc.devRef .tc main_v12) = up4 (fun (i : Fin 4) (j : Fin 256) (k : Fin 32) (l : Fin 128) => sc) := by
  rw [(settled_host m c).unary 29 rfl (by decide), t_cst_0 hx]
  exact bc_u_4x256x32x128_ _ _
def v13 (x : In) (i : Fin 4) (j : Fin 256) (k : Fin 32) (l : Fin 128) : ℝ := (x.P (row j k) (qcol (colK i l))) * sc
theorem t_v13 {m c x} (hx : Of m c x) : fin m c (Proc.devRef .tc main_v13) = up4 (v13 x) := by
  rw [(settled_host m c).binary 30 rfl (by decide), t_v11 hx, t_v12 hx]
  exact mul4 _ _
theorem t_v14 {m c x} (hx : Of m c x) : fin m c (Proc.devRef .tc main_v14) = up2 (fun (i : Fin 8192) (j : Fin 512) => x.P i (kcol j)) := by
  rw [(settled_host m c).unary 31 rfl (by decide), Of.arg0 hx]
  exact sl_8192x7680_8192x512_0_6656 _ _
theorem t_v15 {m c x} (hx : Of m c x) : fin m c (Proc.devRef .tc main_v15) = up2 (fun (i : Fin 8192) (j : Fin 512) => x.P i (kcol j)) := by
  rw [(settled_host m c).unary 32 rfl (by decide), t_v14 hx]
  rfl
theorem t_v16 {m c x} (hx : Of m c x) : fin m c (Proc.devRef .tc main_v16) = up4 (fun (i : Fin 256) (j : Fin 32) (k : Fin 4) (l : Fin 128) => x.P (row i j) (kcol (colK k l))) := by
  rw [(settled_host m c).reshape 33 rfl (by decide), t_v15 hx]
  exact resh_8192x512_256x32x4x128 _ _
theorem t_v17 {m c x} (hx : Of m c x) : fin m c (Proc.devRef .tc main_v17) = up4 (fun (i : Fin 4) (j : Fin 256) (k : Fin 32) (l : Fin 128) => x.P (row j k) (kcol (colK i l))) := by
  rw [(settled_host m c).unary 34 rfl (by decide), t_v16 hx]
  exact tr_256x32x4x128_2013 _ _
theorem t_v18 {m c x} (hx : Of m c x) : fin m c (Proc.devRef .tc main_v18) = up2 (fun (i : Fin 8192) (j : Fin 1024) => x.P i (vcol j)) := by
  rw [(settled_host m c).unary 35 rfl (by decide), Of.arg0 hx]
  exact sl_8192x7680_8192x1024_0_4096 _ _
theorem t_v19 {m c x} (hx : Of m c x) : fin m c (Proc.devRef .tc main_v19) = up2 (fun (i : Fin 8192) (j : Fin 1024) => x.P i (vcol j)) := by
  rw [(settled_host m c).unary 36 rfl (by decide), t_v18 hx]
  rfl
theorem t_v20 {m c x} (hx : Of m c x) : fin m c (Proc.devRef .tc main_v20) = up4 (fun (i : Fin 256) (j : Fin 32) (k : Fin 4) (l : Fin 256) => x.P (row i j) (vcol (colV k l))) := by
  rw [(settled_host m c).reshape 37 rfl (by decide), t_v19 hx]
  exact resh_8192x1024_256x32x4x256 _ _
theorem t_v21 {m c x} (hx : Of m c x) : fin m c (Proc.devRef .tc main_v21) = up4 (fun (i : Fin 4) (j : Fin 256) (k : Fin 32) (l : Fin 256) => x.P (row j k) (vcol (colV i l))) := by
  rw [(settled_host m c).unary 38 rfl (by decide), t_v20 hx]
  exact tr_256x32x4x256_2013 _ _
theorem t_v22 {m c x} (hx : Of m c x) : fin m c (Proc.devRef .tc main_v22) = up4 (fun (i : Fin 256) (j : Fin 32) (k : Fin 4) (l : Fin 128) => v7 x (row i j) (colK k l)) := by
  rw [(settled_host m c).reshape 39 rfl (by decide), t_v7 hx]
  exact resh_8192x512_256x32x4x128 _ _
theorem t_v23 {m c x} (hx : Of m c x) : fin m c (Proc.devRef .tc main_v23) = up4 (fun (i : Fin 4) (j : Fin 256) (k : Fin 32) (l : Fin 128) => v7 x (row j k) (colK i l)) := by
  rw [(settled_host m c).unary 40 rfl (by decide), t_v22 hx]
  exact tr_256x32x4x128_2013 _ _
theorem t_call1_call0_cst {m c x} (hx : Of m c x) : fin m c (Proc.devRef .tc main_call1_call0_cst) = up0 0 := by
  rw [(settled_host m c).nullary 41 rfl]
  exact const0 w_zero
theorem t_call1_call0_v0 {m c x} (hx : Of m c x) : fin m c (Proc.devRef .tc main_call1_call0_v0) = up0 0 := by
  exact settled_tunary (settled_host m c) 42 (.of main_call1_call0_cst : TRef sig ⟨S_, .f32⟩) (.of main_call1_call0_v0 : TRef sig ⟨S_, .f32⟩) rfl (show (Proc.devRef .tc main_call1_call0_cst : DevRef τ sig) ≠ Proc.devRef .tc main_call1_call0_v0 from by decide) (t_call1_call0_cst hx) (bc_u_u_ _ _)
def v24 (x : In) (i : Fin 4) (j : Fin 256) (k : Fin 32) (l : Fin 128) : ℝ := ∑ s : Fin 32, if s ≤ k then v7 x (row j s) (colK i l) else 0
theorem t_v24 {m c x} (hx : Of m c x) : fin m c (Proc.devRef .tc main_v24) = up4 (v24 x) := by
  exact settled_tbinary (settled_host m c) 43 (.of main_v23 : TRef sig ⟨S4x256x32x128, .f32⟩) (.of main_call1_call0_v0 : TRef sig ⟨S_, .f32⟩) (.of main_v24 : TRef sig ⟨S4x256x32x128, .f32⟩) rfl (show (Proc.devRef .tc main_v23 : DevRef τ sig) ≠ Proc.devRef .tc main_v24 ∧ (Proc.devRef .tc main_call1_call0_v0 : DevRef τ sig) ≠ Proc.devRef .tc main_v24 from by decide) (t_v23 hx) (t_call1_call0_v0 hx) (cum4 rfl _ _ _)
theorem t_v25 {m c x} (hx : Of m c x) : fin m c (Proc.devRef .tc main_v25) = up4 (fun (i : Fin 4) (j : Fin 256) (k : Fin 1) (l : Fin 128) => v24 x i j 31 l) := by
  rw [(settled_host m c).unary 44 rfl (by decide), t_v24 hx]
  exact sl_4x256x32x128_4x256x1x128_0_0_31_0 _ _
def v26 (x : In) (i : Fin 4) (j : Fin 256) (k : Fin 32) (l : Fin 128) : ℝ := Real.exp (v24 x i j k l)
theorem t_v26 {m c x} (hx : Of m c x) : fin m c (Proc.devRef .tc main_v26) = up4 (v26 x) := by
  rw [(settled_host m c).unary 45 rfl (by decide), t_v24 hx]
  exact hexp4 _
def v27 (x : In) (i : Fin 4) (j : Fin 256) (k : Fin 32) (l : Fin 128) : ℝ := v13 x i j k l * v26 x i j k l
theorem t_v27 {m c x} (hx : Of m c x) : fin m c (Proc.devRef .tc main_v27) = up4 (v27 x) := by
  rw [(settled_host m c).binary 46 rfl (by decide), t_v13 hx, t_v26 hx]
  exact mul4 _ _
def v28 (x : In) (i : Fin 4) (j : Fin 256) (k : Fin 32) (l : Fin 128) : ℝ := -(v24 x i j k l)
theorem t_v28 {m c x} (hx : Of m c x) : fin m c (Proc.devRef .tc main_v28) = up4 (v28 x) := by
  rw [(settled_host m c).unary 47 rfl (by decide), t_v24 hx]
  exact hneg4 _
def v29 (x : In) (i : Fin 4) (j : Fin 256) (k : Fin 32) (l : Fin 128) : ℝ := Real.exp (v28 x i j k l)
theorem t_v29 {m c x} (hx : Of m c x) : fin m c (Proc.devRef .tc main_v29) = up4 (v29 x) := by
  rw [(settled_host m c).unary 48 rfl (by decide), t_v28 hx]
  exact hexp4 _
def v30 (x : In) (i : Fin 4) (j : Fin 256) (k : Fin 32) (l : Fin 128) : ℝ := (x.P (row j k) (kcol (colK i l))) * v29 x i j k l
theorem t_v30 {m c x} (hx : Of m c x) : fin m c (Proc.devRef .tc main_v30) = up4 (v30 x) := by
  rw [(settled_host m c).binary 49 rfl (by decide), t_v17 hx, t_v29 hx]
  exact mul4 _ _
theorem t_v31 {m c x} (hx : Of m c x) : fin m c (Proc.devRef .tc main_v31) = up4 (fun (i : Fin 4) (j : Fin 256) (k : Fin 32) (l : Fin 128) => v24 x i j 31 l) := by
  rw [(settled_host m c).unary 50 rfl (by decide), t_v25 hx]
  exact bc_4x256x1x128_4x256x32x128_0123 _ _
def v32 (x : In) (i : Fin 4) (j : Fin 256) (k : Fin 32) (l : Fin 128) : ℝ := v24 x i j 31 l - v24 x i j k l
theorem t_v32 {m c x} (hx : Of m c x) : fin m c (Proc.devRef .tc main_v32) = up4 (v32 x) := by
  rw [(settled_host m c).binary 51 rfl (by decide), t_v31 hx, t_v24 hx]
  exact sub4 _ _
def v33 (x : In) (i : Fin 4) (j : Fin 256) (k : Fin 32) (l : Fin 128) : ℝ := Real.exp (v32 x i j k l)
theorem t_v33 {m c x} (hx : Of m c x) : fin m c (Proc.devRef .tc main_v33) = up4 (v33 x) := by
  rw [(settled_host m c).unary 52 rfl (by decide), t_v32 hx]
  exact hexp4 _
def v34 (x : In) (i : Fin 4) (j : Fin 256) (k : Fin 32) (l : Fin 128) : ℝ := (x.P (row j k) (kcol (colK i l))) * v33 x i j k l
theorem t_v34 {m c x} (hx : Of m c x) : fin m c (Proc.devRef .tc main_v34) = up4 (v34 x) := by
  rw [(settled_host m c).binary 53 rfl (by decide), t_v17 hx, t_v33 hx]
  exact mul4 _ _
theorem t_c {m c x} (hx : Of m c x) : fin m c (Proc.devRef .tc main_c) = constantI S_ 1 1#1 := by
  rw [(settled_host m c).nullary 54 rfl]
theorem t_v35 {m c x} (hx : Of m c x) : fin m c (Proc.devRef .tc main_v35) = broadcastInDim S32x32 ![] bcast_S_S32x32 (constantI S_ 1 1#1) := by
  rw [(settled_host m c).unary 55 rfl (by decide), t_c hx]
theorem t_call2_v0 {m c x} (hx : Of m c x) : fin m c (Proc.devRef .tc main_call2_v0) = iotaInDim S32x32 32 0 := by
  exact settled_tnullary (settled_host m c) 56 (.of main_call2_v0 : TRef sig ⟨S32x32, .i32⟩) rfl rfl
theorem t_call2_c {m c x} (hx : Of m c x) : fin m c (Proc.devRef .tc main_call2_c) = constantI S_ 32 0#32 := by
  exact settled_tnullary (settled_host m c) 57 (.of main_call2_c : TRef sig ⟨S_, .i32⟩) rfl rfl
theorem t_call2_v1 {m c x} (hx : Of m c x) : fin m c (Proc.devRef .tc main_call2_v1) = broadcastInDim S32x32 ![] bcast_S_S32x32 (constantI S_ 32 0#32) := by
  exact settled_tunary (settled_host m c) 58 (.of main_call2_c : TRef sig ⟨S_, .i32⟩) (.of main_call2_v1 : TRef sig ⟨S32x32, .i32⟩) rfl (show (Proc.devRef .tc main_call2_c : DevRef τ sig) ≠ Proc.devRef .tc main_call2_v1 from by decide) (t_call2_c hx) rfl
theorem t_call2_v2 {m c x} (hx : Of m c x) : fin m c (Proc.devRef .tc main_call2_v2) = addi (iotaInDim S32x32 32 0) (broadcastInDim S32x32 ![] bcast_S_S32x32 (constantI S_ 32 0#32)) := by
  exact settled_tbinary (settled_host m c) 59 (.of main_call2_v0 : TRef sig ⟨S32x32, .i32⟩) (.of main_call2_v1 : TRef sig ⟨S32x32, .i32⟩) (.of main_call2_v2 : TRef sig ⟨S32x32, .i32⟩) rfl (show (Proc.devRef .tc main_call2_v0 : DevRef τ sig) ≠ Proc.devRef .tc main_call2_v2 ∧ (Proc.devRef .tc main_call2_v1 : DevRef τ sig) ≠ Proc.devRef .tc main_call2_v2 from by decide) (t_call2_v0 hx) (t_call2_v1 hx) rfl
theorem t_call2_v3 {m c x} (hx : Of m c x) : fin m c (Proc.devRef .tc main_call2_v3) = iotaInDim S32x32 32 1 := by
  exact settled_tnullary (settled_host m c) 60 (.of main_call2_v3 : TRef sig ⟨S32x32, .i32⟩) rfl rfl
theorem t_call2_v4 {m c x} (hx : Of m c x) : fin m c (Proc.devRef .tc main_call2_v4) = cmpi .sge (addi (iotaInDim S32x32 32 0) (broadcastInDim S32x32 ![] bcast_S_S32x32 (constantI S_ 32 0#32))) (iotaInDim S32x32 32 1) := by
  exact settled_tbinary (settled_host m c) 61 (.of main_call2_v2 : TRef sig ⟨S32x32, .i32⟩) (.of main_call2_v3 : TRef sig ⟨S32x32, .i32⟩) (.of main_call2_v4 : TRef sig ⟨S32x32, .i1⟩) rfl (show (Proc.devRef .tc main_call2_v2 : DevRef τ sig) ≠ Proc.devRef .tc main_call2_v4 ∧ (Proc.devRef .tc main_call2_v3 : DevRef τ sig) ≠ Proc.devRef .tc main_call2_v4 from by decide) (t_call2_v2 hx) (t_call2_v3 hx) rfl
theorem t_call2_c_0 {m c x} (hx : Of m c x) : fin m c (Proc.devRef .tc main_call2_c_0) = constantI S_ 1 0#1 := by
  exact settled_tnullary (settled_host m c) 62 (.of main_call2_c_0 : TRef sig ⟨S_, .i1⟩) rfl rfl
theorem t_call2_v5 {m c x} (hx : Of m c x) : fin m c (Proc.devRef .tc main_call2_v5) = broadcastInDim S32x32 ![] bcast_S_S32x32 (constantI S_ 1 0#1) := by
  exact settled_tunary (settled_host m c) 63 (.of main_call2_c_0 : TRef sig ⟨S_, .i1⟩) (.of main_call2_v5 : TRef sig ⟨S32x32, .i1⟩) rfl (show (Proc.devRef .tc main_call2_c_0 : DevRef τ sig) ≠ Proc.devRef .tc main_call2_v5 from by decide) (t_call2_c_0 hx) rfl
theorem t_v36 {m c x} (hx : Of m c x) : fin m c (Proc.devRef .tc main_v36) = fun x => BitVec.ofBool (decide (x 1 ≤ x 0)) := by
  exact settled_tternary (settled_host m c) 64 (.of main_call2_v4 : TRef sig ⟨S32x32, .i1⟩) (.of main_v35 : TRef sig ⟨S32x32, .i1⟩) (.of main_call2_v5 : TRef sig ⟨S32x32, .i1⟩) (.of main_v36 : TRef sig ⟨S32x32, .i1⟩) rfl (show (Proc.devRef .tc main_call2_v4 : DevRef τ sig) ≠ Proc.devRef .tc main_v36 ∧ (Proc.devRef .tc main_v35 : DevRef τ sig) ≠ Proc.devRef .tc main_v36 ∧ (Proc.devRef .tc main_call2_v5 : DevRef τ sig) ≠ Proc.devRef .tc main_v36 from by decide) (t_call2_v4 hx) (t_v35 hx) (t_call2_v5 hx) tri32
def v37 (x : In) (i : Fin 4) (j : Fin 256) (k : Fin 32) (l : Fin 32) : ℝ := ∑ s : Fin 128, v27 x i j k s * v30 x i j l s
theorem t_v37 {m c x} (hx : Of m c x) : fin m c (Proc.devRef .tc main_v37) = up4 (v37 x) := by
  rw [(settled_host m c).binary 65 rfl (by decide), t_v27 hx, t_v30 hx]
  exact khdot_S4x256x32x128_S4x256x32x128_S4x256x32x32_3_3_2_2_01_01 _ _
theorem t_cst_1 {m c x} (hx : Of m c x) : fin m c (Proc.devRef .tc main_cst_1) = up0 0 := by
  rw [(settled_host m c).nullary 66 rfl]
  exact const0 w_zero
theorem t_call3_v0 {m c x} (hx : Of m c x) : fin m c (Proc.devRef .tc main_call3_v0) = up0 0 := by
  exact settled_tunary (settled_host m c) 67 (.of main_cst_1 : TRef sig ⟨S_, .f32⟩) (.of main_call3_v0 : TRef sig ⟨S_, .f32⟩) rfl (show (Proc.devRef .tc main_cst_1 : DevRef τ sig) ≠ Proc.devRef .tc main_call3_v0 from by decide) (t_cst_1 hx) (by rfl)
theorem t_call3_v1 {m c x} (hx : Of m c x) : fin m c (Proc.devRef .tc main_call3_v1) = fun x => BitVec.ofBool (low4 (x 0) (x 1) (x 2) (x 3)) := by
  exact settled_tunary (settled_host m c) 68 (.of main_v36 : TRef sig ⟨S32x32, .i1⟩) (.of main_call3_v1 : TRef sig ⟨S4x256x32x32, .i1⟩) rfl (show (Proc.devRef .tc main_v36 : DevRef τ sig) ≠ Proc.devRef .tc main_call3_v1 from by decide) (t_v36 hx) (by rfl)
theorem t_call3_v2 {m c x} (hx : Of m c x) : fin m c (Proc.devRef .tc main_call3_v2) = up4 (fun (i : Fin 4) (j : Fin 256) (k : Fin 32) (l : Fin 32) => 0) := by
  exact settled_tunary (settled_host m c) 69 (.of main_call3_v0 : TRef sig ⟨S_, .f32⟩) (.of main_call3_v2 : TRef sig ⟨S4x256x32x32, .f32⟩) rfl (show (Proc.devRef .tc main_call3_v0 : DevRef τ sig) ≠ Proc.devRef .tc main_call3_v2 from by decide) (t_call3_v0 hx) (bc_u_4x256x32x32_ _ _)
def v38 (x : In) (i : Fin 4) (j : Fin 256) (k : Fin 32) (l : Fin 32) : ℝ := if low4 i j k l then v37 x i j k l else 0
theorem t_v38 {m c x} (hx : Of m c x) : fin m c (Proc.devRef .tc main_v38) = up4 (v38 x) := by
  exact settled_tternary (settled_host m c) 70 (.of main_call3_v1 : TRef sig ⟨S4x256x32x32, .i1⟩) (.of main_v37 : TRef sig ⟨S4x256x32x32, .f32⟩) (.of main_call3_v2 : TRef sig ⟨S4x256x32x32, .f32⟩) (.of main_v38 : TRef sig ⟨S4x256x32x32, .f32⟩) rfl (show (Proc.devRef .tc main_call3_v1 : DevRef τ sig) ≠ Proc.devRef .tc main_v38 ∧ (Proc.devRef .tc main_v37 : DevRef τ sig) ≠ Proc.devRef .tc main_v38 ∧ (Proc.devRef .tc main_call3_v2 : DevRef τ sig) ≠ Proc.devRef .tc main_v38 from by decide) (t_call3_v1 hx) (t_v37 hx) (t_call3_v2 hx) (sel4 low4 _ _)
def v39 (x : In) (i : Fin 4) (j : Fin 256) (k : Fin 32) (l : Fin 256) : ℝ := ∑ s : Fin 32, v38 x i j k s * (x.P (row j s) (vcol (colV i l)))
theorem t_v39 {m c x} (hx : Of m c x) : fin m c (Proc.devRef .tc main_v39) = up4 (v39 x) := by
  rw [(settled_host m c).binary 71 rfl (by decide), t_v38 hx, t_v21 hx]
  exact khdot_S4x256x32x32_S4x256x32x256_S4x256x32x256_3_2_2_3_01_01 _ _
theorem t_v40 {m c x} (hx : Of m c x) : fin m c (Proc.devRef .tc main_v40) = up3 (fun (i : Fin 4) (j : Fin 256) (k : Fin 128) => v24 x i j 31 k) := by
  rw [(settled_host m c).reshape 72 rfl (by decide), t_v25 hx]
  exact resh_4x256x1x128_4x256x128 _ _
theorem t_call4_call0_cst {m c x} (hx : Of m c x) : fin m c (Proc.devRef .tc main_call4_call0_cst) = up0 0 := by
  rw [(settled_host m c).nullary 73 rfl]
  exact const0 w_zero
theorem t_call4_call0_v0 {m c x} (hx : Of m c x) : fin m c (Proc.devRef .tc main_call4_call0_v0) = up0 0 := by
  exact settled_tunary (settled_host m c) 74 (.of main_call4_call0_cst : TRef sig ⟨S_, .f32⟩) (.of main_call4_call0_v0 : TRef sig ⟨S_, .f32⟩) rfl (show (Proc.devRef .tc main_call4_call0_cst : DevRef τ sig) ≠ Proc.devRef .tc main_call4_call0_v0 from by decide) (t_call4_call0_cst hx) (bc_u_u_ _ _)
def v41 (x : In) (i : Fin 4) (j : Fin 256) (k : Fin 128) : ℝ := ∑ s : Fin 256, if s ≤ j then v24 x i s 31 k else 0
theorem t_v41 {m c x} (hx : Of m c x) : fin m c (Proc.devRef .tc main_v41) = up3 (v41 x) := by
  exact settled_tbinary (settled_host m c) 75 (.of main_v40 : TRef sig ⟨S4x256x128, .f32⟩) (.of main_call4_call0_v0 : TRef sig ⟨S_, .f32⟩) (.of main_v41 : TRef sig ⟨S4x256x128, .f32⟩) rfl (show (Proc.devRef .tc main_v40 : DevRef τ sig) ≠ Proc.devRef .tc main_v41 ∧ (Proc.devRef .tc main_call4_call0_v0 : DevRef τ sig) ≠ Proc.devRef .tc main_v41 from by decide) (t_v40 hx) (t_call4_call0_v0 hx) (cum3 rfl _ _ _)
theorem t_v42 {m c x} (hx : Of m c x) : fin m c (Proc.devRef .tc main_v42) = up3 (fun (i : Fin 4) (j : Fin 256) (k : Fin 128) => v24 x i j 31 k) := by
  rw [(settled_host m c).reshape 76 rfl (by decide), t_v25 hx]
  exact resh_4x256x1x128_4x256x128 _ _
def v43 (x : In) (i : Fin 4) (j : Fin 256) (k : Fin 128) : ℝ := v41 x i j k - v24 x i j 31 k
theorem t_v43 {m c x} (hx : Of m c x) : fin m c (Proc.devRef .tc main_v43) = up3 (v43 x) := by
  rw [(settled_host m c).binary 77 rfl (by decide), t_v41 hx, t_v42 hx]
  exact sub3 _ _
theorem t_c_2 {m c x} (hx : Of m c x) : fin m c (Proc.devRef .tc main_c_2) = constantI S_ 1 1#1 := by
  rw [(settled_host m c).nullary 78 rfl]
theorem t_v44 {m c x} (hx : Of m c x) : fin m c (Proc.devRef .tc main_v44) = broadcastInDim S256x256 ![] bcast_S_S256x256 (constantI S_ 1 1#1) := by
  rw [(settled_host m c).unary 79 rfl (by decide), t_c_2 hx]
theorem t_call5_v0 {m c x} (hx : Of m c x) : fin m c (Proc.devRef .tc main_call5_v0) = iotaInDim S256x256 32 0 := by
  exact settled_tnullary (settled_host m c) 80 (.of main_call5_v0 : TRef sig ⟨S256x256, .i32⟩) rfl rfl
theorem t_call5_c {m c x} (hx : Of m c x) : fin m c (Proc.devRef .tc main_call5_c) = constantI S_ 32 4294967295#32 := by
  exact settled_tnullary (settled_host m c) 81 (.of main_call5_c : TRef sig ⟨S_, .i32⟩) rfl rfl
theorem t_call5_v1 {m c x} (hx : Of m c x) : fin m c (Proc.devRef .tc main_call5_v1) = broadcastInDim S256x256 ![] bcast_S_S256x256 (constantI S_ 32 4294967295#32) := by
  exact settled_tunary (settled_host m c) 82 (.of main_call5_c : TRef sig ⟨S_, .i32⟩) (.of main_call5_v1 : TRef sig ⟨S256x256, .i32⟩) rfl (show (Proc.devRef .tc main_call5_c : DevRef τ sig) ≠ Proc.devRef .tc main_call5_v1 from by decide) (t_call5_c hx) rfl
theorem t_call5_v2 {m c x} (hx : Of m c x) : fin m c (Proc.devRef .tc main_call5_v2) = addi (iotaInDim S256x256 32 0) (broadcastInDim S256x256 ![] bcast_S_S256x256 (constantI S_ 32 4294967295#32)) := by
  exact settled_tbinary (settled_host m c) 83 (.of main_call5_v0 : TRef sig ⟨S256x256, .i32⟩) (.of main_call5_v1 : TRef sig ⟨S256x256, .i32⟩) (.of main_call5_v2 : TRef sig ⟨S256x256, .i32⟩) rfl (show (Proc.devRef .tc main_call5_v0 : DevRef τ sig) ≠ Proc.devRef .tc main_call5_v2 ∧ (Proc.devRef .tc main_call5_v1 : DevRef τ sig) ≠ Proc.devRef .tc main_call5_v2 from by decide) (t_call5_v0 hx) (t_call5_v1 hx) rfl
theorem t_call5_v3 {m c x} (hx : Of m c x) : fin m c (Proc.devRef .tc main_call5_v3) = iotaInDim S256x256 32 1 := by
  exact settled_tnullary (settled_host m c) 84 (.of main_call5_v3 : TRef sig ⟨S256x256, .i32⟩) rfl rfl
theorem t_call5_v4 {m c x} (hx : Of m c x) : fin m c (Proc.devRef .tc main_call5_v4) = cmpi .sge (addi (iotaInDim S256x256 32 0) (broadcastInDim S256x256 ![] bcast_S_S256x256 (constantI S_ 32 4294967295#32))) (iotaInDim S256x256 32 1) := by
  exact settled_tbinary (settled_host m c) 85 (.of main_call5_v2 : TRef sig ⟨S256x256, .i32⟩) (.of main_call5_v3 : TRef sig ⟨S256x256, .i32⟩) (.of main_call5_v4 : TRef sig ⟨S256x256, .i1⟩) rfl (show (Proc.devRef .tc main_call5_v2 : DevRef τ sig) ≠ Proc.devRef .tc main_call5_v4 ∧ (Proc.devRef .tc main_call5_v3 : DevRef τ sig) ≠ Proc.devRef .tc main_call5_v4 from by decide) (t_call5_v2 hx) (t_call5_v3 hx) rfl
theorem t_call5_c_0 {m c x} (hx : Of m c x) : fin m c (Proc.devRef .tc main_call5_c_0) = constantI S_ 1 0#1 := by
  exact settled_tnullary (settled_host m c) 86 (.of main_call5_c_0 : TRef sig ⟨S_, .i1⟩) rfl rfl
theorem t_call5_v5 {m c x} (hx : Of m c x) : fin m c (Proc.devRef .tc main_call5_v5) = broadcastInDim S256x256 ![] bcast_S_S256x256 (constantI S_ 1 0#1) := by
  exact settled_tunary (settled_host m c) 87 (.of main_call5_c_0 : TRef sig ⟨S_, .i1⟩) (.of main_call5_v5 : TRef sig ⟨S256x256, .i1⟩) rfl (show (Proc.devRef .tc main_call5_c_0 : DevRef τ sig) ≠ Proc.devRef .tc main_call5_v5 from by decide) (t_call5_c_0 hx) rfl
theorem t_v45 {m c x} (hx : Of m c x) : fin m c (Proc.devRef .tc main_v45) = fun x => BitVec.ofBool (decide (x 1 < x 0)) := by
  exact settled_tternary (settled_host m c) 88 (.of main_call5_v4 : TRef sig ⟨S256x256, .i1⟩) (.of main_v44 : TRef sig ⟨S256x256, .i1⟩) (.of main_call5_v5 : TRef sig ⟨S256x256, .i1⟩) (.of main_v45 : TRef sig ⟨S256x256, .i1⟩) rfl (show (Proc.devRef .tc main_call5_v4 : DevRef τ sig) ≠ Proc.devRef .tc main_v45 ∧ (Proc.devRef .tc main_v44 : DevRef τ sig) ≠ Proc.devRef .tc main_v45 ∧ (Proc.devRef .tc main_call5_v5 : DevRef τ sig) ≠ Proc.devRef .tc main_v45 from by decide) (t_call5_v4 hx) (t_v44 hx) (t_call5_v5 hx) tri256
theorem t_v46 {m c x} (hx : Of m c x) : fin m c (Proc.devRef .tc main_v46) = fun x => BitVec.ofBool (decide (x 1 < x 0)) := by
  rw [(settled_host m c).unary 89 rfl (by decide), t_v45 hx]
  rfl
theorem t_v47 {m c x} (hx : Of m c x) : fin m c (Proc.devRef .tc main_v47) = up4 (fun (i : Fin 4) (j : Fin 256) (k : Fin 1) (l : Fin 128) => v43 x i j l) := by
  rw [(settled_host m c).unary 90 rfl (by decide), t_v43 hx]
  exact bc_4x256x128_4x256x1x128_013 _ _
theorem t_v48 {m c x} (hx : Of m c x) : fin m c (Proc.devRef .tc main_v48) = up4 (fun (i : Fin 4) (j : Fin 1) (k : Fin 256) (l : Fin 128) => v41 x i k l) := by
  rw [(settled_host m c).unary 91 rfl (by decide), t_v41 hx]
  exact bc_4x256x128_4x1x256x128_023 _ _
theorem t_v49 {m c x} (hx : Of m c x) : fin m c (Proc.devRef .tc main_v49) = up4 (fun (i : Fin 4) (j : Fin 256) (k : Fin 256) (l : Fin 128) => v43 x i j l) := by
  rw [(settled_host m c).unary 92 rfl (by decide), t_v47 hx]
  exact bc_4x256x1x128_4x256x256x128_0123 _ _
theorem t_v50 {m c x} (hx : Of m c x) : fin m c (Proc.devRef .tc main_v50) = up4 (fun (i : Fin 4) (j : Fin 256) (k : Fin 256) (l : Fin 128) => v41 x i k l) := by
  rw [(settled_host m c).unary 93 rfl (by decide), t_v48 hx]
  exact bc_4x1x256x128_4x256x256x128_0123 _ _
def v51 (x : In) (i : Fin 4) (j : Fin 256) (k : Fin 256) (l : Fin 128) : ℝ := v43 x i j l - v41 x i k l
theorem t_v51 {m c x} (hx : Of m c x) : fin m c (Proc.devRef .tc main_v51) = up4 (v51 x) := by
  rw [(settled_host m c).binary 94 rfl (by decide), t_v49 hx, t_v50 hx]
  exact sub4 _ _
def v52 (x : In) (i : Fin 4) (j : Fin 256) (k : Fin 256) (l : Fin 128) : ℝ := Real.exp (v51 x i j k l)
theorem t_v52 {m c x} (hx : Of m c x) : fin m c (Proc.devRef .tc main_v52) = up4 (v52 x) := by
  rw [(settled_host m c).unary 95 rfl (by decide), t_v51 hx]
  exact hexp4 _
theorem t_cst_3 {m c x} (hx : Of m c x) : fin m c (Proc.devRef .tc main_cst_3) = up0 0 := by
  rw [(settled_host m c).nullary 96 rfl]
  exact const0 w_zero
theorem t_call6_v0 {m c x} (hx : Of m c x) : fin m c (Proc.devRef .tc main_call6_v0) = up0 0 := by
  exact settled_tunary (settled_host m c) 97 (.of main_cst_3 : TRef sig ⟨S_, .f32⟩) (.of main_call6_v0 : TRef sig ⟨S_, .f32⟩) rfl (show (Proc.devRef .tc main_cst_3 : DevRef τ sig) ≠ Proc.devRef .tc main_call6_v0 from by decide) (t_cst_3 hx) (by rfl)
theorem t_call6_v1 {m c x} (hx : Of m c x) : fin m c (Proc.devRef .tc main_call6_v1) = fun x => BitVec.ofBool (below4 (x 0) (x 1) (x 2) (x 3)) := by
  exact settled_tunary (settled_host m c) 98 (.of main_v46 : TRef sig ⟨S256x256x1, .i1⟩) (.of main_call6_v1 : TRef sig ⟨S4x256x256x128, .i1⟩) rfl (show (Proc.devRef .tc main_v46 : DevRef τ sig) ≠ Proc.devRef .tc main_call6_v1 from by decide) (t_v46 hx) (by rfl)
theorem t_call6_v2 {m c x} (hx : Of m c x) : fin m c (Proc.devRef .tc main_call6_v2) = up4 (fun (i : Fin 4) (j : Fin 256) (k : Fin 256) (l : Fin 128) => 0) := by
  exact settled_tunary (settled_host m c) 99 (.of main_call6_v0 : TRef sig ⟨S_, .f32⟩) (.of main_call6_v2 : TRef sig ⟨S4x256x256x128, .f32⟩) rfl (show (Proc.devRef .tc main_call6_v0 : DevRef τ sig) ≠ Proc.devRef .tc main_call6_v2 from by decide) (t_call6_v0 hx) (bc_u_4x256x256x128_ _ _)
def v53 (x : In) (i : Fin 4) (j : Fin 256) (k : Fin 256) (l : Fin 128) : ℝ := if below4 i j k l then v52 x i j k l else 0
theorem t_v53 {m c x} (hx : Of m c x) : fin m c (Proc.devRef .tc main_v53) = up4 (v53 x) := by
  exact settled_tternary (settled_host m c) 100 (.of main_call6_v1 : TRef sig ⟨S4x256x256x128, .i1⟩) (.of main_v52 : TRef sig ⟨S4x256x256x128, .f32⟩) (.of main_call6_v2 : TRef sig ⟨S4x256x256x128, .f32⟩) (.of main_v53 : TRef sig ⟨S4x256x256x128, .f32⟩) rfl (show (Proc.devRef .tc main_call6_v1 : DevRef τ sig) ≠ Proc.devRef .tc main_v53 ∧ (Proc.devRef .tc main_v52 : DevRef τ sig) ≠ Proc.devRef .tc main_v53 ∧ (Proc.devRef .tc main_call6_v2 : DevRef τ sig) ≠ Proc.devRef .tc main_v53 from by decide) (t_call6_v1 hx) (t_v52 hx) (t_call6_v2 hx) (sel4 below4 _ _)
def v54 (x : In) (i : Fin 4) (j : Fin 256) (k : Fin 256) (l : Fin 128) : ℝ := ∑ s : Fin 32, (x.P (row j s) (vcol (colV i k))) * v34 x i j s l
theorem t_v54 {m c x} (hx : Of m c x) : fin m c (Proc.devRef .tc main_v54) = up4 (v54 x) := by
  rw [(settled_host m c).binary 101 rfl (by decide), t_v21 hx, t_v34 hx]
  exact khdot_S4x256x32x256_S4x256x32x128_S4x256x256x128_2_2_3_3_01_01 _ _
def v55 (x : In) (i : Fin 4) (j : Fin 128) (k : Fin 256) (l : Fin 256) : ℝ := ∑ s : Fin 256, v54 x i s k j * v53 x i l s j
theorem t_v55 {m c x} (hx : Of m c x) : fin m c (Proc.devRef .tc main_v55) = up4 (v55 x) := by
  rw [(settled_host m c).binary 102 rfl (by decide), t_v54 hx, t_v53 hx]
  exact khdot_S4x256x256x128_S4x256x256x128_S4x128x256x256_1_2_2_1_03_03 _ _
theorem t_v56 {m c x} (hx : Of m c x) : fin m c (Proc.devRef .tc main_v56) = up4 (fun (i : Fin 256) (j : Fin 4) (k : Fin 256) (l : Fin 128) => v55 x j l k i) := by
  rw [(settled_host m c).unary 103 rfl (by decide), t_v55 hx]
  exact tr_4x128x256x256_3021 _ _
def v57 (x : In) (i : Fin 4) (j : Fin 256) (k : Fin 32) (l : Fin 256) : ℝ := ∑ s : Fin 128, v27 x i j k s * v55 x i s l j
theorem t_v57 {m c x} (hx : Of m c x) : fin m c (Proc.devRef .tc main_v57) = up4 (v57 x) := by
  rw [(settled_host m c).binary 104 rfl (by decide), t_v27 hx, t_v56 hx]
  exact khdot_S4x256x32x128_S256x4x256x128_S4x256x32x256_3_3_2_2_01_10 _ _
def v58 (x : In) (i : Fin 4) (j : Fin 256) (k : Fin 32) (l : Fin 256) : ℝ := v39 x i j k l + v57 x i j k l
theorem t_v58 {m c x} (hx : Of m c x) : fin m c (Proc.devRef .tc main_v58) = up4 (v58 x) := by
  rw [(settled_host m c).binary 105 rfl (by decide), t_v39 hx, t_v57 hx]
  exact add4 _ _
theorem t_v59 {m c x} (hx : Of m c x) : fin m c (Proc.devRef .tc main_v59) = up4 (fun (i : Fin 256) (j : Fin 32) (k : Fin 4) (l : Fin 256) => v58 x k i j l) := by
  rw [(settled_host m c).unary 106 rfl (by decide), t_v58 hx]
  exact tr_4x256x32x256_1203 _ _
theorem t_v60 {m c x} (hx : Of m c x) : fin m c (Proc.devRef .tc main_v60) = up2 (fun (i : Fin 8192) (j : Fin 1024) => v58 x (headV j) (chk i) (pos i) (dimV j)) := by
  rw [(settled_host m c).reshape 107 rfl (by decide), t_v59 hx]
  exact resh_256x32x4x256_8192x1024 _ _
theorem t_v61 {m c x} (hx : Of m c x) : fin m c (Proc.devRef .tc main_v61) = up4 (fun (i : Fin 256) (j : Fin 4) (k : Fin 256) (l : Fin 128) => v55 x j l k i) := by
  rw [(settled_host m c).unary 108 rfl (by decide), t_v56 hx]
  rfl

end Cert.KernelIdeal.Line

end
-- ==== Proof.KerIn.lean ====
/-
  The blocks of the inputs at a grid point of the backward kernel, as tables of reals: point `t` works on the rows of
  block `31 - t`.
-/
module

public import proofs.«01_k».proof.Proof.HostVal
public import proofs.«01_k».proof.Proof.Gen.KernelIdeal.Value
public import Idealize.ShloMosaic.Lib.Pipeline.ValueKit
@[expose] public section

set_option maxRecDepth 16384

noncomputable section

namespace Cert.KernelIdeal.Points

open Idealize.ShloMosaic Idealize.ShloMosaic.TcCoe Idealize.ShloMosaic.Pointwise Cert.Lift Cert.KernelIdeal.Gen Cert.KernelIdeal.Line

/-- Row `i` of the block of point `t`. -/
def brow (t : Fin 32) (i : Fin 256) : Fin 8192 := ⟨(31 - t.val) * 256 + i.val, by omega⟩
/-- Chunk `n` of the block of point `t`. -/
def bchk (t : Fin 32) (n : ℕ) : Fin 256 := ⟨(31 - t.val) * 8 + n % 8, by omega⟩

theorem at0 : ∀ t : Fin cfg0.N, win0_0.index t = ![31 - t.val, 12] := (by decide +kernel : ∀ t : Fin grid0.N, win0_0.index t = ![31 - t.val, 12])
theorem at1 : ∀ t : Fin cfg0.N, win0_1.index t = ![31 - t.val, 13] := (by decide +kernel : ∀ t : Fin grid0.N, win0_1.index t = ![31 - t.val, 13])
theorem at2 : ∀ t : Fin cfg0.N, win0_2.index t = ![31 - t.val, 4] := (by decide +kernel : ∀ t : Fin grid0.N, win0_2.index t = ![31 - t.val, 4])
theorem at3 : ∀ t : Fin cfg0.N, win0_3.index t = ![31 - t.val, 5] := (by decide +kernel : ∀ t : Fin grid0.N, win0_3.index t = ![31 - t.val, 5])
theorem at4 : ∀ t : Fin cfg0.N, win0_4.index t = ![31 - t.val, 0] := (by decide +kernel : ∀ t : Fin grid0.N, win0_4.index t = ![31 - t.val, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![0, 0] := (by decide +kernel : ∀ t : Fin grid0.N, win0_7.index t = ![0, 0])
theorem at8 : ∀ t : Fin cfg0.N, win0_8.index t = ![31 - t.val, 0] := (by decide +kernel : ∀ t : Fin grid0.N, win0_8.index t = ![31 - t.val, 0])
theorem at9 : ∀ t : Fin cfg0.N, win0_9.index t = ![31 - t.val, 0, 0, 0] := (by decide +kernel : ∀ t : Fin grid0.N, win0_9.index t = ![31 - t.val, 0, 0, 0])
theorem at10 : ∀ t : Fin cfg0.N, win0_10.index t = ![31 - t.val, 0] := (by decide +kernel : ∀ t : Fin grid0.N, win0_10.index t = ![31 - t.val, 0])
theorem at11 : ∀ t : Fin cfg0.N, win0_11.index t = ![31 - t.val, 0] := (by decide +kernel : ∀ t : Fin grid0.N, win0_11.index t = ![31 - t.val, 0])
theorem at12 : ∀ t : Fin cfg0.N, win0_12.index t = ![31 - t.val, 0] := (by decide +kernel : ∀ t : Fin grid0.N, win0_12.index t = ![31 - t.val, 0])
theorem at13 : ∀ t : Fin cfg0.N, win0_13.index t = ![31 - t.val, 0] := (by decide +kernel : ∀ t : Fin grid0.N, win0_13.index t = ![31 - t.val, 0])
theorem at14 : ∀ t : Fin cfg0.N, win0_14.index t = ![31 - t.val, 0] := (by decide +kernel : ∀ t : Fin grid0.N, win0_14.index t = ![31 - t.val, 0])
theorem at15 : ∀ t : Fin cfg0.N, win0_15.index t = ![31 - t.val, 0] := (by decide +kernel : ∀ t : Fin grid0.N, win0_15.index t = ![31 - t.val, 0])
theorem at16 : ∀ t : Fin cfg0.N, win0_16.index t = ![0, 0] := (by decide +kernel : ∀ t : Fin grid0.N, win0_16.index t = ![0, 0])
theorem at17 : ∀ t : Fin cfg0.N, win0_17.index t = ![0, 0] := (by decide +kernel : ∀ t : Fin grid0.N, win0_17.index t = ![0, 0])
theorem at18 : ∀ t : Fin cfg0.N, win0_18.index t = ![0, 0] := (by decide +kernel : ∀ t : Fin grid0.N, win0_18.index t = ![0, 0])

variable {m : (ℓ : Loc nD τ sig) → Buf (Elt Ideal) ℓ} {c : Dev nD} {x : In}

theorem V60 (hx : Of m c x) : V m c main_v60 = up2 (fun (i : Fin 8192) (j : Fin 1024) => v58 x (headV j) (chk i) (pos i) (dimV j)) := by
  unfold V
  exact t_v60 hx
theorem V61 (hx : Of m c x) : V m c main_v61 = up4 (fun (i : Fin 256) (j : Fin 4) (k : Fin 256) (l : Fin 128) => v55 x j l k i) := by
  unfold V
  exact t_v61 hx
theorem in0 (hx : Of m c x) (t : Fin cfg0.N) : iblk m c 0 t = up2 fun (i : Fin 256) (s : Fin 512) => x.P (brow t i) (qcol s) := by
  funext y
  refine (congrFun hx.arg0 _).trans ?_
  refine (congrArg (up2 x.P) (show ((cfg0.win 0).blk t).view.emb y = ix2 (brow t (y 0)) (qcol (y 1)) from ?_)).trans rfl
  blk_ext [at0, brow, qcol, kcol, vcol, rcol, bchk]
theorem in1 (hx : Of m c x) (t : Fin cfg0.N) : iblk m c 1 t = up2 fun (i : Fin 256) (s : Fin 512) => x.P (brow t i) (kcol s) := by
  funext y
  refine (congrFun hx.arg0 _).trans ?_
  refine (congrArg (up2 x.P) (show ((cfg0.win 1).blk t).view.emb y = ix2 (brow t (y 0)) (kcol (y 1)) from ?_)).trans rfl
  blk_ext [at1, brow, qcol, kcol, vcol, rcol, bchk]
theorem in2 (hx : Of m c x) (t : Fin cfg0.N) : X0_2 m c t = up2 fun (i : Fin 256) (s : Fin 1024) => x.P (brow t i) (vcol s) := by
  funext y
  unfold X0_2 Pipeline.Window.fill
  rw [dif_pos (moved0_2 t y)]
  refine (congrFun hx.arg0 _).trans ?_
  refine (congrArg (up2 x.P) (show _ = ix2 (brow t (y 0)) (vcol (y 1)) from ?_)).trans rfl
  blk_ext [at2, brow, qcol, kcol, vcol, rcol, bchk]
theorem in3 (hx : Of m c x) (t : Fin cfg0.N) : X0_3 m c t = up2 fun (i : Fin 256) (s : Fin 1024) => x.P (brow t i) (rcol s) := by
  funext y
  unfold X0_3 Pipeline.Window.fill
  rw [dif_pos (moved0_3 t y)]
  refine (congrFun hx.arg0 _).trans ?_
  refine (congrArg (up2 x.P) (show _ = ix2 (brow t (y 0)) (rcol (y 1)) from ?_)).trans rfl
  blk_ext [at3, brow, qcol, kcol, vcol, rcol, bchk]
theorem in4 (hx : Of m c x) (t : Fin cfg0.N) : iblk m c 4 t = up2 fun (i : Fin 256) (s : Fin 128) => x.A (brow t i) s := by
  funext y
  refine (congrFun hx.arg1 _).trans ?_
  refine (congrArg (up2 x.A) (show ((cfg0.win 4).blk t).view.emb y = ix2 (brow t (y 0)) (y 1) from ?_)).trans rfl
  blk_ext [at4, brow, qcol, kcol, vcol, rcol, bchk]
theorem in5 (hx : Of m c x) (t : Fin cfg0.N) : iblk m c 5 t = up2 x.W := by
  funext y
  refine (congrFun hx.arg2 _).trans ?_
  refine (congrArg (up2 x.W) (show ((cfg0.win 5).blk t).view.emb y = y from ?_)).trans rfl
  blk_ext [at5, brow, qcol, kcol, vcol, rcol, bchk]
theorem in6 (hx : Of m c x) (t : Fin cfg0.N) : iblk m c 6 t = up2 fun (_ : Fin 1) j => x.b j := by
  funext y
  refine (congrFun hx.arg3 _).trans ?_
  refine (congrArg ((up2 fun (_ : Fin 1) j => x.b j)) (show ((cfg0.win 6).blk t).view.emb y = y from ?_)).trans rfl
  blk_ext [at6, brow, qcol, kcol, vcol, rcol, bchk]
theorem in7 (hx : Of m c x) (t : Fin cfg0.N) : iblk m c 7 t = up2 fun (_ : Fin 1) j => x.g j := by
  funext y
  refine (congrFun hx.arg4 _).trans ?_
  refine (congrArg ((up2 fun (_ : Fin 1) j => x.g j)) (show ((cfg0.win 7).blk t).view.emb y = y from ?_)).trans rfl
  blk_ext [at7, brow, qcol, kcol, vcol, rcol, bchk]
theorem emb8 (t : Fin cfg0.N) (y : S256x1024.Idx) : (((cfg0.win 8).blk t).view.emb y : S8192x1024.Idx) = ix2 (brow t (y 0)) (y 1) := by
  funext a
  apply Fin.ext
  match a with
  | ⟨0, _⟩ =>
    refine (show _ = win0_8.index t 0 * 256 + 1 * (y 0).val from rfl).trans ?_
    rw [at8]
    show (31 - t.val) * 256 + 1 * (y 0).val = (31 - t.val) * 256 + (y 0).val
    omega
  | ⟨1, _⟩ =>
    refine (show _ = win0_8.index t 1 * 1024 + 1 * (y 1).val from rfl).trans ?_
    rw [at8]
    show 0 * 1024 + 1 * (y 1).val = (y 1).val
    omega
theorem in8 (hx : Of m c x) (t : Fin cfg0.N) : iblk m c 8 t = up2 fun (i : Fin 256) (j : Fin 1024) => v58 x (headV j) (chk (brow t i)) (pos (brow t i)) (dimV j) := by
  funext y
  unfold iblk
  refine (show _ = V m c main_v60 (((cfg0.win 8).blk t).view.emb y) from rfl).trans ?_
  rw [V60 hx, emb8]
  rfl
theorem emb9 (t : Fin cfg0.N) (y : S8x4x256x128.Idx) : (((cfg0.win 9).blk t).view.emb y : S256x4x256x128.Idx) = ix4 (bchk t (y 0).val) (y 1) (y 2) (y 3) := by
  funext a
  apply Fin.ext
  match a with
  | ⟨0, _⟩ =>
    refine (show _ = win0_9.index t 0 * 8 + 1 * (y 0).val from rfl).trans ?_
    rw [at9]
    show (31 - t.val) * 8 + 1 * (y 0).val = (31 - t.val) * 8 + (y 0).val % 8
    have := (y 0).isLt
    have h8 : (y 0).val < 8 := this
    omega
  | ⟨1, _⟩ =>
    refine (show _ = win0_9.index t 1 * 4 + 1 * (y 1).val from rfl).trans ?_
    rw [at9]
    show 0 * 4 + 1 * (y 1).val = (y 1).val
    omega
  | ⟨2, _⟩ =>
    refine (show _ = win0_9.index t 2 * 256 + 1 * (y 2).val from rfl).trans ?_
    rw [at9]
    show 0 * 256 + 1 * (y 2).val = (y 2).val
    omega
  | ⟨3, _⟩ =>
    refine (show _ = win0_9.index t 3 * 128 + 1 * (y 3).val from rfl).trans ?_
    rw [at9]
    show 0 * 128 + 1 * (y 3).val = (y 3).val
    omega
theorem in9 (hx : Of m c x) (t : Fin cfg0.N) : iblk m c 9 t = up4 fun (i : Fin 8) (j : Fin 4) (k : Fin 256) (l : Fin 128) => v55 x j l k (bchk t i.val) := by
  funext y
  unfold iblk
  refine (show _ = V m c main_v61 (((cfg0.win 9).blk t).view.emb y) from rfl).trans ?_
  rw [V61 hx, emb9]
  rfl
theorem in10 (hx : Of m c x) (t : Fin cfg0.N) : iblk m c 10 t = up2 fun (i : Fin 256) (s : Fin 1024) => x.D (brow t i) s := by
  funext y
  refine (congrFun hx.arg5 _).trans ?_
  refine (congrArg (up2 x.D) (show ((cfg0.win 10).blk t).view.emb y = ix2 (brow t (y 0)) (y 1) from ?_)).trans rfl
  blk_ext [at10, brow, qcol, kcol, vcol, rcol, bchk]

end Cert.KernelIdeal.Points
-- ==== Proof.KerWords.lean ====
/-
  One block of the backward kernel as a function of what it reads: the eleven inputs by rectangles, the gradient with
  respect to the state by heads, the three running sums. Each definition is one value the kernel computes from the
  ones before it; the lists are what it has stored, the last store first.
-/
module

public import proofs.«01_k».proof.Proof.Gen.KernelIdeal.Value
public import proofs.«01_k».proof.Proof.Lift
@[expose] public section

set_option maxRecDepth 16384

noncomputable section

namespace Cert.KernelIdeal.Body

open Idealize.ShloMosaic Idealize.ShloMosaic.TcCoe Cert.KernelIdeal.Gen

/-- What a block reads; `T` is what was stored into the state's gradient before the block's own stores. -/
structure Reads where
  q : (B : LoadRect S256x512) → B.shape.Idx → EReal
  k : (B : LoadRect S256x512) → B.shape.Idx → EReal
  v : (B : LoadRect S256x1024) → B.shape.Idx → EReal
  r : (B : LoadRect S256x1024) → B.shape.Idx → EReal
  al : (B : LoadRect S256x128) → B.shape.Idx → EReal
  wa : (B : LoadRect S128x512) → B.shape.Idx → EReal
  ba : (B : LoadRect S1x512) → B.shape.Idx → EReal
  gh : (B : LoadRect S1x1024) → B.shape.Idx → EReal
  op : (B : LoadRect S256x1024) → B.shape.Idx → EReal
  st : (B : LoadRect S8x4x256x128) → B.shape.Idx → EReal
  ct : (B : LoadRect S256x1024) → B.shape.Idx → EReal
  G0 : FVec Ideal S1x256x128 .f32
  G1 : FVec Ideal S1x256x128 .f32
  G2 : FVec Ideal S1x256x128 .f32
  G3 : FVec Ideal S1x256x128 .f32
  wacc : FVec Ideal S128x512 .f32
  bacc : FVec Ideal S1x512 .f32
  n0 : FVec Ideal S1x256 .f32
  n1 : FVec Ideal S1x256 .f32
  n2 : FVec Ideal S1x256 .f32
  n3 : FVec Ideal S1x256 .f32
  m20 : Memref sig .tc .vmem S4x256x128 .f32
  m21 : Memref sig .tc .vmem S256x512 .f32
  m22 : Memref sig .tc .vmem S256x512 .f32
  m23 : Memref sig .tc .vmem S256x512 .f32
  m24 : Memref sig .tc .vmem S256x512 .f32
  T : List (View.Piece (Elt Ideal) S4x256x128 .f32)

variable (R : Reads)

def r_3 : FVec Ideal S256x512 .f32 := k0_pay16 (R.al (Rect.unit (s := S256x128) ![0, 0] S256x128.size inb_S256x128_S256x128_0_0).toLoadRect) (R.wa (Rect.unit (s := S128x512) ![0, 0] S128x512.size inb_S128x512_S128x512_0_0).toLoadRect) (R.ba (Rect.unit (s := S1x512) ![0, 0] S1x512.size inb_S1x512_S1x512_0_0).toLoadRect)
def r_4 : FVec Ideal S256x512 .f32 := k0_pay17 (R.al (Rect.unit (s := S256x128) ![0, 0] S256x128.size inb_S256x128_S256x128_0_0).toLoadRect) (R.wa (Rect.unit (s := S128x512) ![0, 0] S128x512.size inb_S128x512_S128x512_0_0).toLoadRect) (R.ba (Rect.unit (s := S1x512) ![0, 0] S1x512.size inb_S1x512_S1x512_0_0).toLoadRect)
def cst_15 : Ideal .f32 := FloatOps.ofBits .f32 1065353216#32
def r_6 : FVec Ideal S256x512 .f32 := k0_pay21 k0_pay13 (r_3 R) (r_4 R) cst_15
def r_46 : FVec Ideal S256x1 .f32 := k0_pay78 (R.op (Rect.unit (s := S256x1024) ![0, 768] S256x256.size inb_S256x1024_S256x256_0_768).toLoadRect)
def r_47 : FVec Ideal S256x1 .f32 := k0_pay80 (r_46 R) k0_pay79
def r_45 : FVec Ideal S256x256 .f32 := k0_pay77 (R.op (Rect.unit (s := S256x1024) ![0, 768] S256x256.size inb_S256x1024_S256x256_0_768).toLoadRect)
def r_48 : FVec Ideal S256x256 .f32 := k0_pay81 (r_45 R) (r_46 R) k0_pay79
def r_49 : FVec Ideal S1x256 .f32 := R.gh (Rect.unit (s := S1x1024) ![0, 768] S1x256.size inb_S1x1024_S1x256_0_768).toLoadRect
def r_50 : FVec Ideal S256x256 .f32 := k0_pay85 (R.r (Rect.unit (s := S256x1024) ![0, 768] S256x256.size inb_S256x1024_S256x256_0_768).toLoadRect) (R.ct (Rect.unit (s := S256x1024) ![0, 768] S256x256.size inb_S256x1024_S256x256_0_768).toLoadRect)
def r_51 : FVec Ideal S256x256 .bf16 := k0_pay88 (r_47 R) (r_48 R) (r_49 R) (r_50 R)
def r_13 : FVec Ideal S256x512 .bf16 := k0_pay29 k0_pay13 (r_3 R) (r_4 R) cst_15 (R.k (Rect.unit (s := S256x512) ![0, 0] S256x512.size inb_S256x512_S256x512_0_0).toLoadRect)
def r_53 : FVec Ideal S256x128 .f32 := k0_pay90 k0_pay11 (r_13 R) (r_47 R) (r_48 R) (r_49 R) (r_50 R) (R.v (Rect.unit (s := S256x1024) ![0, 768] S256x256.size inb_S256x1024_S256x256_0_768).toLoadRect)
def r_35 : FVec Ideal S256x256 .f32 := k0_pay63 (R.op (Rect.unit (s := S256x1024) ![0, 512] S256x256.size inb_S256x1024_S256x256_0_512).toLoadRect)
def r_36 : FVec Ideal S256x1 .f32 := k0_pay64 (r_35 R)
def r_34 : FVec Ideal S256x256 .f32 := k0_pay62 (R.op (Rect.unit (s := S256x1024) ![0, 512] S256x256.size inb_S256x1024_S256x256_0_512).toLoadRect)
def r_37 : FVec Ideal S256x256 .f32 := k0_pay65 (r_34 R) (r_35 R)
def r_38 : FVec Ideal S1x256 .f32 := R.gh (Rect.unit (s := S1x1024) ![0, 512] S1x256.size inb_S1x1024_S1x256_0_512).toLoadRect
def r_39 : FVec Ideal S256x256 .f32 := k0_pay69 (R.r (Rect.unit (s := S256x1024) ![0, 512] S256x256.size inb_S256x1024_S256x256_0_512).toLoadRect) (R.ct (Rect.unit (s := S256x1024) ![0, 512] S256x256.size inb_S256x1024_S256x256_0_512).toLoadRect)
def r_41 : FVec Ideal S256x256 .bf16 := k0_pay72 (r_36 R) (r_37 R) (r_38 R) (r_39 R)
def r_43 : FVec Ideal S256x128 .f32 := k0_pay74 k0_pay11 (r_13 R) (r_36 R) (r_37 R) (r_38 R) (r_39 R) (R.v (Rect.unit (s := S256x1024) ![0, 512] S256x256.size inb_S256x1024_S256x256_0_512).toLoadRect)
def r_170 : FVec Ideal S256x128 .f32 := k0_pay418 (R.st (Rect.unit (s := S8x4x256x128) ![0, 2, 0, 0] S1x1x256x128.size inb_S8x4x256x128_S1x1x256x128_0_2_0_0).toLoadRect)
def r_24 : FVec Ideal S256x1 .f32 := k0_pay47 (R.op (Rect.unit (s := S256x1024) ![0, 256] S256x256.size inb_S256x1024_S256x256_0_256).toLoadRect)
def r_25 : FVec Ideal S256x256 .f32 := k0_pay48 (R.op (Rect.unit (s := S256x1024) ![0, 256] S256x256.size inb_S256x1024_S256x256_0_256).toLoadRect)
def r_26 : FVec Ideal S1x256 .f32 := R.gh (Rect.unit (s := S1x1024) ![0, 256] S1x256.size inb_S1x1024_S1x256_0_256).toLoadRect
def r_27 : FVec Ideal S256x256 .f32 := k0_pay52 (R.r (Rect.unit (s := S256x1024) ![0, 256] S256x256.size inb_S256x1024_S256x256_0_256).toLoadRect) (R.ct (Rect.unit (s := S256x1024) ![0, 256] S256x256.size inb_S256x1024_S256x256_0_256).toLoadRect)
def r_30 : FVec Ideal S256x256 .bf16 := k0_pay57 (r_24 R) (r_25 R) (r_26 R) (r_27 R)
def r_32 : FVec Ideal S256x128 .f32 := k0_pay59 k0_pay11 (r_13 R) (r_24 R) (r_25 R) (r_26 R) (r_27 R) (R.v (Rect.unit (s := S256x1024) ![0, 256] S256x256.size inb_S256x1024_S256x256_0_256).toLoadRect)
def r_167 : FVec Ideal S256x128 .f32 := k0_pay408 (R.st (Rect.unit (s := S8x4x256x128) ![0, 1, 0, 0] S1x1x256x128.size inb_S8x4x256x128_S1x1x256x128_0_1_0_0).toLoadRect)
def r_16 : FVec Ideal S256x1 .f32 := k0_pay33 (R.op (Rect.unit (s := S256x1024) ![0, 0] S256x256.size inb_S256x1024_S256x256_0_0).toLoadRect)
def r_17 : FVec Ideal S256x256 .f32 := k0_pay34 (R.op (Rect.unit (s := S256x1024) ![0, 0] S256x256.size inb_S256x1024_S256x256_0_0).toLoadRect)
def r_18 : FVec Ideal S1x256 .f32 := R.gh (Rect.unit (s := S1x1024) ![0, 0] S1x256.size inb_S1x1024_S1x256_0_0).toLoadRect
def r_19 : FVec Ideal S256x256 .f32 := k0_pay38 (R.r (Rect.unit (s := S256x1024) ![0, 0] S256x256.size inb_S256x1024_S256x256_0_0).toLoadRect) (R.ct (Rect.unit (s := S256x1024) ![0, 0] S256x256.size inb_S256x1024_S256x256_0_0).toLoadRect)
def r_20 : FVec Ideal S256x256 .bf16 := k0_pay41 (r_16 R) (r_17 R) (r_18 R) (r_19 R)
def r_22 : FVec Ideal S256x128 .f32 := k0_pay43 k0_pay11 (r_13 R) (r_16 R) (r_17 R) (r_18 R) (r_19 R) (R.v (Rect.unit (s := S256x1024) ![0, 0] S256x256.size inb_S256x1024_S256x256_0_0).toLoadRect)
def r_163 : FVec Ideal S256x128 .f32 := k0_pay398 (R.st (Rect.unit (s := S8x4x256x128) ![0, 0, 0, 0] S1x1x256x128.size inb_S8x4x256x128_S1x1x256x128_0_0_0_0).toLoadRect)
def r_159 : FVec Ideal S32x128 .f32 := k0_pay392 (r_53 R)
def r_160 : FVec Ideal S32x256 .bf16 := k0_pay393 (r_51 R)
def r_161 : FVec Ideal S256x128 .bf16 := k0_pay394 (R.st (Rect.unit (s := S8x4x256x128) ![1, 3, 0, 0] S1x1x256x128.size inb_S8x4x256x128_S1x1x256x128_1_3_0_0).toLoadRect)
def cst_226 : FVec Ideal S32x128 .f32 := constant S32x128 .f32 0#32
def r_151 : FVec Ideal S256x128 .f32 := k0_pay364 (R.st (Rect.unit (s := S8x4x256x128) ![1, 1, 0, 0] S1x1x256x128.size inb_S8x4x256x128_S1x1x256x128_1_1_0_0).toLoadRect)
def r_148 : FVec Ideal S256x128 .f32 := k0_pay354 (R.st (Rect.unit (s := S8x4x256x128) ![1, 0, 0, 0] S1x1x256x128.size inb_S8x4x256x128_S1x1x256x128_1_0_0_0).toLoadRect)
def r_144 : FVec Ideal S256x128 .f32 := k0_pay344 (R.st (Rect.unit (s := S8x4x256x128) ![2, 3, 0, 0] S1x1x256x128.size inb_S8x4x256x128_S1x1x256x128_2_3_0_0).toLoadRect)
def r_140 : FVec Ideal S32x128 .f32 := k0_pay338 (r_43 R)
def r_141 : FVec Ideal S32x256 .bf16 := k0_pay339 (r_41 R)
def r_142 : FVec Ideal S256x128 .bf16 := k0_pay340 (R.st (Rect.unit (s := S8x4x256x128) ![2, 2, 0, 0] S1x1x256x128.size inb_S8x4x256x128_S1x1x256x128_2_2_0_0).toLoadRect)
def r_132 : FVec Ideal S256x128 .f32 := k0_pay310 (R.st (Rect.unit (s := S8x4x256x128) ![2, 0, 0, 0] S1x1x256x128.size inb_S8x4x256x128_S1x1x256x128_2_0_0_0).toLoadRect)
def r_129 : FVec Ideal S256x128 .f32 := k0_pay300 (R.st (Rect.unit (s := S8x4x256x128) ![3, 3, 0, 0] S1x1x256x128.size inb_S8x4x256x128_S1x1x256x128_3_3_0_0).toLoadRect)
def r_125 : FVec Ideal S256x128 .f32 := k0_pay290 (R.st (Rect.unit (s := S8x4x256x128) ![3, 2, 0, 0] S1x1x256x128.size inb_S8x4x256x128_S1x1x256x128_3_2_0_0).toLoadRect)
def r_121 : FVec Ideal S32x128 .f32 := k0_pay284 (r_32 R)
def r_122 : FVec Ideal S32x256 .bf16 := k0_pay285 (r_30 R)
def r_123 : FVec Ideal S256x128 .bf16 := k0_pay286 (R.st (Rect.unit (s := S8x4x256x128) ![3, 1, 0, 0] S1x1x256x128.size inb_S8x4x256x128_S1x1x256x128_3_1_0_0).toLoadRect)
def r_113 : FVec Ideal S256x128 .f32 := k0_pay256 (R.st (Rect.unit (s := S8x4x256x128) ![4, 3, 0, 0] S1x1x256x128.size inb_S8x4x256x128_S1x1x256x128_4_3_0_0).toLoadRect)
def r_110 : FVec Ideal S256x128 .f32 := k0_pay246 (R.st (Rect.unit (s := S8x4x256x128) ![4, 2, 0, 0] S1x1x256x128.size inb_S8x4x256x128_S1x1x256x128_4_2_0_0).toLoadRect)
def r_106 : FVec Ideal S256x128 .f32 := k0_pay236 (R.st (Rect.unit (s := S8x4x256x128) ![4, 1, 0, 0] S1x1x256x128.size inb_S8x4x256x128_S1x1x256x128_4_1_0_0).toLoadRect)
def r_102 : FVec Ideal S32x128 .f32 := k0_pay230 (r_22 R)
def r_103 : FVec Ideal S32x256 .bf16 := k0_pay231 (r_20 R)
def r_104 : FVec Ideal S256x128 .bf16 := k0_pay232 (R.st (Rect.unit (s := S8x4x256x128) ![4, 0, 0, 0] S1x1x256x128.size inb_S8x4x256x128_S1x1x256x128_4_0_0_0).toLoadRect)
def r_94 : FVec Ideal S256x128 .f32 := k0_pay202 (R.st (Rect.unit (s := S8x4x256x128) ![5, 2, 0, 0] S1x1x256x128.size inb_S8x4x256x128_S1x1x256x128_5_2_0_0).toLoadRect)
def r_91 : FVec Ideal S256x128 .f32 := k0_pay192 (R.st (Rect.unit (s := S8x4x256x128) ![5, 1, 0, 0] S1x1x256x128.size inb_S8x4x256x128_S1x1x256x128_5_1_0_0).toLoadRect)
def r_87 : FVec Ideal S256x128 .f32 := k0_pay182 (R.st (Rect.unit (s := S8x4x256x128) ![5, 0, 0, 0] S1x1x256x128.size inb_S8x4x256x128_S1x1x256x128_5_0_0_0).toLoadRect)
def r_83 : FVec Ideal S32x128 .f32 := k0_pay176 (r_53 R)
def r_84 : FVec Ideal S32x256 .bf16 := k0_pay177 (r_51 R)
def r_85 : FVec Ideal S256x128 .bf16 := k0_pay178 (R.st (Rect.unit (s := S8x4x256x128) ![6, 3, 0, 0] S1x1x256x128.size inb_S8x4x256x128_S1x1x256x128_6_3_0_0).toLoadRect)
def r_75 : FVec Ideal S256x128 .f32 := k0_pay148 (R.st (Rect.unit (s := S8x4x256x128) ![6, 1, 0, 0] S1x1x256x128.size inb_S8x4x256x128_S1x1x256x128_6_1_0_0).toLoadRect)
def r_72 : FVec Ideal S256x128 .f32 := k0_pay138 (R.st (Rect.unit (s := S8x4x256x128) ![6, 0, 0, 0] S1x1x256x128.size inb_S8x4x256x128_S1x1x256x128_6_0_0_0).toLoadRect)
def r_68 : FVec Ideal S256x128 .f32 := k0_pay128 (R.st (Rect.unit (s := S8x4x256x128) ![7, 3, 0, 0] S1x1x256x128.size inb_S8x4x256x128_S1x1x256x128_7_3_0_0).toLoadRect)
def r_64 : FVec Ideal S32x128 .f32 := k0_pay122 (r_43 R)
def r_65 : FVec Ideal S32x256 .bf16 := k0_pay123 (r_41 R)
def r_66 : FVec Ideal S256x128 .bf16 := k0_pay124 (R.st (Rect.unit (s := S8x4x256x128) ![7, 2, 0, 0] S1x1x256x128.size inb_S8x4x256x128_S1x1x256x128_7_2_0_0).toLoadRect)
def r_56 : FVec Ideal S256x128 .f32 := k0_pay94 (R.st (Rect.unit (s := S8x4x256x128) ![7, 0, 0, 0] S1x1x256x128.size inb_S8x4x256x128_S1x1x256x128_7_0_0_0).toLoadRect)
def HS1_32 : List (View.Piece (Elt Ideal) S256x512 .f32) := ⟨Rect.unit ![0, 384] S32x128.size inb_S256x512_S32x128_0_384, (k0_pay434 (F := Ideal) (r_51 R) (r_53 R) (R.st (Rect.unit (s := S8x4x256x128) ![0, 3, 0, 0] S1x1x256x128.size inb_S8x4x256x128_S1x1x256x128_0_3_0_0).toLoadRect))⟩ :: (⟨Rect.unit ![0, 256] S32x128.size inb_S256x512_S32x128_0_256, (k0_pay425 (F := Ideal) (r_41 R) (r_43 R) (r_170 R))⟩ :: (⟨Rect.unit ![0, 128] S32x128.size inb_S256x512_S32x128_0_128, (k0_pay415 (F := Ideal) (r_30 R) (r_32 R) (r_167 R))⟩ :: (⟨Rect.unit ![0, 0] S32x128.size inb_S256x512_S32x128_0_0, (k0_pay405 (F := Ideal) (r_20 R) (r_22 R) (r_163 R))⟩ :: (⟨Rect.unit ![32, 384] S32x128.size inb_S256x512_S32x128_32_384, (k0_pay395 (F := Ideal) (r_159 R) (r_160 R) (r_161 R) cst_226)⟩ :: (⟨Rect.unit ![32, 256] S32x128.size inb_S256x512_S32x128_32_256, (k0_pay380 (F := Ideal) (r_41 R) (r_43 R) (R.st (Rect.unit (s := S8x4x256x128) ![1, 2, 0, 0] S1x1x256x128.size inb_S8x4x256x128_S1x1x256x128_1_2_0_0).toLoadRect))⟩ :: (⟨Rect.unit ![32, 128] S32x128.size inb_S256x512_S32x128_32_128, (k0_pay371 (F := Ideal) (r_30 R) (r_32 R) (r_151 R))⟩ :: (⟨Rect.unit ![32, 0] S32x128.size inb_S256x512_S32x128_32_0, (k0_pay361 (F := Ideal) (r_20 R) (r_22 R) (r_148 R))⟩ :: (⟨Rect.unit ![64, 384] S32x128.size inb_S256x512_S32x128_64_384, (k0_pay351 (F := Ideal) (r_51 R) (r_53 R) (r_144 R))⟩ :: (⟨Rect.unit ![64, 256] S32x128.size inb_S256x512_S32x128_64_256, (k0_pay341 (F := Ideal) (r_140 R) (r_141 R) (r_142 R) cst_226)⟩ :: (⟨Rect.unit ![64, 128] S32x128.size inb_S256x512_S32x128_64_128, (k0_pay326 (F := Ideal) (r_30 R) (r_32 R) (R.st (Rect.unit (s := S8x4x256x128) ![2, 1, 0, 0] S1x1x256x128.size inb_S8x4x256x128_S1x1x256x128_2_1_0_0).toLoadRect))⟩ :: (⟨Rect.unit ![64, 0] S32x128.size inb_S256x512_S32x128_64_0, (k0_pay317 (F := Ideal) (r_20 R) (r_22 R) (r_132 R))⟩ :: (⟨Rect.unit ![96, 384] S32x128.size inb_S256x512_S32x128_96_384, (k0_pay307 (F := Ideal) (r_51 R) (r_53 R) (r_129 R))⟩ :: (⟨Rect.unit ![96, 256] S32x128.size inb_S256x512_S32x128_96_256, (k0_pay297 (F := Ideal) (r_41 R) (r_43 R) (r_125 R))⟩ :: (⟨Rect.unit ![96, 128] S32x128.size inb_S256x512_S32x128_96_128, (k0_pay287 (F := Ideal) (r_121 R) (r_122 R) (r_123 R) cst_226)⟩ :: (⟨Rect.unit ![96, 0] S32x128.size inb_S256x512_S32x128_96_0, (k0_pay272 (F := Ideal) (r_20 R) (r_22 R) (R.st (Rect.unit (s := S8x4x256x128) ![3, 0, 0, 0] S1x1x256x128.size inb_S8x4x256x128_S1x1x256x128_3_0_0_0).toLoadRect))⟩ :: (⟨Rect.unit ![128, 384] S32x128.size inb_S256x512_S32x128_128_384, (k0_pay263 (F := Ideal) (r_51 R) (r_53 R) (r_113 R))⟩ :: (⟨Rect.unit ![128, 256] S32x128.size inb_S256x512_S32x128_128_256, (k0_pay253 (F := Ideal) (r_41 R) (r_43 R) (r_110 R))⟩ :: (⟨Rect.unit ![128, 128] S32x128.size inb_S256x512_S32x128_128_128, (k0_pay243 (F := Ideal) (r_30 R) (r_32 R) (r_106 R))⟩ :: (⟨Rect.unit ![128, 0] S32x128.size inb_S256x512_S32x128_128_0, (k0_pay233 (F := Ideal) (r_102 R) (r_103 R) (r_104 R) cst_226)⟩ :: (⟨Rect.unit ![160, 384] S32x128.size inb_S256x512_S32x128_160_384, (k0_pay218 (F := Ideal) (r_51 R) (r_53 R) (R.st (Rect.unit (s := S8x4x256x128) ![5, 3, 0, 0] S1x1x256x128.size inb_S8x4x256x128_S1x1x256x128_5_3_0_0).toLoadRect))⟩ :: (⟨Rect.unit ![160, 256] S32x128.size inb_S256x512_S32x128_160_256, (k0_pay209 (F := Ideal) (r_41 R) (r_43 R) (r_94 R))⟩ :: (⟨Rect.unit ![160, 128] S32x128.size inb_S256x512_S32x128_160_128, (k0_pay199 (F := Ideal) (r_30 R) (r_32 R) (r_91 R))⟩ :: (⟨Rect.unit ![160, 0] S32x128.size inb_S256x512_S32x128_160_0, (k0_pay189 (F := Ideal) (r_20 R) (r_22 R) (r_87 R))⟩ :: (⟨Rect.unit ![192, 384] S32x128.size inb_S256x512_S32x128_192_384, (k0_pay179 (F := Ideal) (r_83 R) (r_84 R) (r_85 R) cst_226)⟩ :: (⟨Rect.unit ![192, 256] S32x128.size inb_S256x512_S32x128_192_256, (k0_pay164 (F := Ideal) (r_41 R) (r_43 R) (R.st (Rect.unit (s := S8x4x256x128) ![6, 2, 0, 0] S1x1x256x128.size inb_S8x4x256x128_S1x1x256x128_6_2_0_0).toLoadRect))⟩ :: (⟨Rect.unit ![192, 128] S32x128.size inb_S256x512_S32x128_192_128, (k0_pay155 (F := Ideal) (r_30 R) (r_32 R) (r_75 R))⟩ :: (⟨Rect.unit ![192, 0] S32x128.size inb_S256x512_S32x128_192_0, (k0_pay145 (F := Ideal) (r_20 R) (r_22 R) (r_72 R))⟩ :: (⟨Rect.unit ![224, 384] S32x128.size inb_S256x512_S32x128_224_384, (k0_pay135 (F := Ideal) (r_51 R) (r_53 R) (r_68 R))⟩ :: (⟨Rect.unit ![224, 256] S32x128.size inb_S256x512_S32x128_224_256, (k0_pay125 (F := Ideal) (r_64 R) (r_65 R) (r_66 R) cst_226)⟩ :: (⟨Rect.unit ![224, 128] S32x128.size inb_S256x512_S32x128_224_128, (k0_pay110 (F := Ideal) (r_30 R) (r_32 R) (R.st (Rect.unit (s := S8x4x256x128) ![7, 1, 0, 0] S1x1x256x128.size inb_S8x4x256x128_S1x1x256x128_7_1_0_0).toLoadRect))⟩ :: (⟨Rect.unit ![224, 0] S32x128.size inb_S256x512_S32x128_224_0, (k0_pay101 (F := Ideal) (r_20 R) (r_22 R) (r_56 R))⟩ :: [])))))))))))))))))))))))))))))))
def v1803 : FVec Ideal S256x512 .f32 := R.m21.view.readCov (HS1_32 R) (Rect.unit (s := S256x512) ![0, 0] S256x512.size inb_S256x512_S256x512_0_0).toLoadRect
def r_7 : FVec Ideal S256x512 .f32 := k0_pay22 k0_pay13 (r_3 R) (r_4 R) cst_15
def r_8 : FVec Ideal S256x512 .f32 := k0_pay23 k0_pay12 k0_pay13 (r_3 R) (r_4 R) cst_15
def r_12 : FVec Ideal S256x512 .bf16 := k0_pay28 k0_pay13 (r_3 R) (r_4 R) cst_15 (R.q (Rect.unit (s := S256x512) ![0, 0] S256x512.size inb_S256x512_S256x512_0_0).toLoadRect)
def HS2_4 : List (View.Piece (Elt Ideal) S256x512 .f32) := ⟨Rect.unit ![0, 384] S256x128.size inb_S256x512_S256x128_0_384, (k0_pay91 (F := Ideal) k0_pay11 (r_12 R) (r_47 R) (r_48 R) (r_49 R) (r_50 R) (R.v (Rect.unit (s := S256x1024) ![0, 768] S256x256.size inb_S256x1024_S256x256_0_768).toLoadRect))⟩ :: (⟨Rect.unit ![0, 256] S256x128.size inb_S256x512_S256x128_0_256, (k0_pay75 (F := Ideal) k0_pay11 (r_12 R) (r_36 R) (r_37 R) (r_38 R) (r_39 R) (R.v (Rect.unit (s := S256x1024) ![0, 512] S256x256.size inb_S256x1024_S256x256_0_512).toLoadRect))⟩ :: (⟨Rect.unit ![0, 128] S256x128.size inb_S256x512_S256x128_0_128, (k0_pay60 (F := Ideal) k0_pay11 (r_12 R) (r_24 R) (r_25 R) (r_26 R) (r_27 R) (R.v (Rect.unit (s := S256x1024) ![0, 256] S256x256.size inb_S256x1024_S256x256_0_256).toLoadRect))⟩ :: (⟨Rect.unit ![0, 0] S256x128.size inb_S256x512_S256x128_0_0, (k0_pay44 (F := Ideal) k0_pay11 (r_12 R) (r_16 R) (r_17 R) (r_18 R) (r_19 R) (R.v (Rect.unit (s := S256x1024) ![0, 0] S256x256.size inb_S256x1024_S256x256_0_0).toLoadRect))⟩ :: [])))
def v1804 : FVec Ideal S256x512 .f32 := R.m22.view.readCov (HS2_4 R) (Rect.unit (s := S256x512) ![0, 0] S256x512.size inb_S256x512_S256x512_0_0).toLoadRect
def r_52 : FVec Ideal S256x256 .bf16 := R.v (Rect.unit (s := S256x1024) ![0, 768] S256x256.size inb_S256x1024_S256x256_0_768).toLoadRect
def r_5 : FVec Ideal S256x512 .f32 := k0_pay20 k0_pay12 (r_3 R) (r_4 R) cst_15
def r_15 : FVec Ideal S256x512 .f32 := k0_pay31 (r_5 R)
def v527 : FVec Ideal S1x256x128 .f32 := R.G3
def r_67 : FVec Ideal S256x128 .f32 := k0_pay127 (v527 R)
def r_69 : FVec Ideal S1x128 .f32 := k0_pay132 (r_15 R)
def v483 : FVec Ideal S1x256x128 .f32 := R.G2
def r_62 : FVec Ideal S256x128 .f32 := k0_pay115 (v483 R)
def r_63 : FVec Ideal S1x128 .f32 := k0_pay120 (r_15 R)
def v439 : FVec Ideal S1x256x128 .f32 := R.G1
def r_59 : FVec Ideal S256x128 .f32 := k0_pay111 (r_15 R) (v439 R)
def r_60 : FVec Ideal S32x256 .bf16 := k0_pay112 (r_30 R)
def r_61 : FVec Ideal S32x128 .bf16 := k0_pay113 (r_12 R)
def r_55 : FVec Ideal S256x128 .f32 := k0_pay93 R.G0
def HS0_4 : List (View.Piece (Elt Ideal) S4x256x128 .f32) := ⟨Rect.unit ![3, 0, 0] S1x256x128.size inb_S4x256x128_S1x256x128_3_0_0, (k0_pay136 (F := Ideal) (r_12 R) (r_51 R) (r_67 R) (r_69 R))⟩ :: (⟨Rect.unit ![2, 0, 0] S1x256x128.size inb_S4x256x128_S1x256x128_2_0_0, (k0_pay126 (F := Ideal) (r_12 R) (r_41 R) (r_62 R) (r_63 R))⟩ :: (⟨Rect.unit ![1, 0, 0] S1x256x128.size inb_S4x256x128_S1x256x128_1_0_0, (k0_pay114 (F := Ideal) (r_59 R) (r_60 R) (r_61 R))⟩ :: (⟨Rect.unit ![0, 0, 0] S1x256x128.size inb_S4x256x128_S1x256x128_0_0_0, (k0_pay102 (F := Ideal) (r_12 R) (r_15 R) (r_20 R) (r_55 R))⟩ :: R.T)))
def v571 : FVec Ideal S1x256x128 .f32 := R.m20.view.readCov (HS0_4 R) (Rect.unit (s := S4x256x128) ![0, 0, 0] S1x256x128.size inb_S4x256x128_S1x256x128_0_0_0).toLoadRect
def r_71 : FVec Ideal S256x128 .f32 := k0_pay137 (v571 R)
def HS0_5 : List (View.Piece (Elt Ideal) S4x256x128 .f32) := ⟨Rect.unit ![0, 0, 0] S1x256x128.size inb_S4x256x128_S1x256x128_0_0_0, (k0_pay146 (F := Ideal) (r_12 R) (r_15 R) (r_20 R) (r_71 R))⟩ :: (HS0_4 R)
def v615 : FVec Ideal S1x256x128 .f32 := R.m20.view.readCov (HS0_5 R) (Rect.unit (s := S4x256x128) ![1, 0, 0] S1x256x128.size inb_S4x256x128_S1x256x128_1_0_0).toLoadRect
def r_74 : FVec Ideal S256x128 .f32 := k0_pay147 (v615 R)
def HS0_6 : List (View.Piece (Elt Ideal) S4x256x128 .f32) := ⟨Rect.unit ![1, 0, 0] S1x256x128.size inb_S4x256x128_S1x256x128_1_0_0, (k0_pay156 (F := Ideal) (r_12 R) (r_15 R) (r_30 R) (r_74 R))⟩ :: (HS0_5 R)
def v659 : FVec Ideal S1x256x128 .f32 := R.m20.view.readCov (HS0_6 R) (Rect.unit (s := S4x256x128) ![2, 0, 0] S1x256x128.size inb_S4x256x128_S1x256x128_2_0_0).toLoadRect
def r_78 : FVec Ideal S256x128 .f32 := k0_pay165 (r_15 R) (v659 R)
def r_79 : FVec Ideal S32x256 .bf16 := k0_pay166 (r_41 R)
def r_80 : FVec Ideal S32x128 .bf16 := k0_pay167 (r_12 R)
def HS0_7 : List (View.Piece (Elt Ideal) S4x256x128 .f32) := ⟨Rect.unit ![2, 0, 0] S1x256x128.size inb_S4x256x128_S1x256x128_2_0_0, (k0_pay168 (F := Ideal) (r_78 R) (r_79 R) (r_80 R))⟩ :: (HS0_6 R)
def v703 : FVec Ideal S1x256x128 .f32 := R.m20.view.readCov (HS0_7 R) (Rect.unit (s := S4x256x128) ![3, 0, 0] S1x256x128.size inb_S4x256x128_S1x256x128_3_0_0).toLoadRect
def r_81 : FVec Ideal S256x128 .f32 := k0_pay169 (v703 R)
def r_82 : FVec Ideal S1x128 .f32 := k0_pay174 (r_15 R)
def HS0_8 : List (View.Piece (Elt Ideal) S4x256x128 .f32) := ⟨Rect.unit ![3, 0, 0] S1x256x128.size inb_S4x256x128_S1x256x128_3_0_0, (k0_pay180 (F := Ideal) (r_12 R) (r_51 R) (r_81 R) (r_82 R))⟩ :: (HS0_7 R)
def v747 : FVec Ideal S1x256x128 .f32 := R.m20.view.readCov (HS0_8 R) (Rect.unit (s := S4x256x128) ![0, 0, 0] S1x256x128.size inb_S4x256x128_S1x256x128_0_0_0).toLoadRect
def r_86 : FVec Ideal S256x128 .f32 := k0_pay181 (v747 R)
def r_88 : FVec Ideal S1x128 .f32 := k0_pay186 (r_15 R)
def HS0_9 : List (View.Piece (Elt Ideal) S4x256x128 .f32) := ⟨Rect.unit ![0, 0, 0] S1x256x128.size inb_S4x256x128_S1x256x128_0_0_0, (k0_pay190 (F := Ideal) (r_12 R) (r_20 R) (r_86 R) (r_88 R))⟩ :: (HS0_8 R)
def v791 : FVec Ideal S1x256x128 .f32 := R.m20.view.readCov (HS0_9 R) (Rect.unit (s := S4x256x128) ![1, 0, 0] S1x256x128.size inb_S4x256x128_S1x256x128_1_0_0).toLoadRect
def r_90 : FVec Ideal S256x128 .f32 := k0_pay191 (v791 R)
def HS0_10 : List (View.Piece (Elt Ideal) S4x256x128 .f32) := ⟨Rect.unit ![1, 0, 0] S1x256x128.size inb_S4x256x128_S1x256x128_1_0_0, (k0_pay200 (F := Ideal) (r_12 R) (r_15 R) (r_30 R) (r_90 R))⟩ :: (HS0_9 R)
def v835 : FVec Ideal S1x256x128 .f32 := R.m20.view.readCov (HS0_10 R) (Rect.unit (s := S4x256x128) ![2, 0, 0] S1x256x128.size inb_S4x256x128_S1x256x128_2_0_0).toLoadRect
def r_93 : FVec Ideal S256x128 .f32 := k0_pay201 (v835 R)
def HS0_11 : List (View.Piece (Elt Ideal) S4x256x128 .f32) := ⟨Rect.unit ![2, 0, 0] S1x256x128.size inb_S4x256x128_S1x256x128_2_0_0, (k0_pay210 (F := Ideal) (r_12 R) (r_15 R) (r_41 R) (r_93 R))⟩ :: (HS0_10 R)
def v879 : FVec Ideal S1x256x128 .f32 := R.m20.view.readCov (HS0_11 R) (Rect.unit (s := S4x256x128) ![3, 0, 0] S1x256x128.size inb_S4x256x128_S1x256x128_3_0_0).toLoadRect
def r_97 : FVec Ideal S256x128 .f32 := k0_pay219 (r_15 R) (v879 R)
def r_98 : FVec Ideal S32x256 .bf16 := k0_pay220 (r_51 R)
def r_99 : FVec Ideal S32x128 .bf16 := k0_pay221 (r_12 R)
def HS0_12 : List (View.Piece (Elt Ideal) S4x256x128 .f32) := ⟨Rect.unit ![3, 0, 0] S1x256x128.size inb_S4x256x128_S1x256x128_3_0_0, (k0_pay222 (F := Ideal) (r_97 R) (r_98 R) (r_99 R))⟩ :: (HS0_11 R)
def v923 : FVec Ideal S1x256x128 .f32 := R.m20.view.readCov (HS0_12 R) (Rect.unit (s := S4x256x128) ![0, 0, 0] S1x256x128.size inb_S4x256x128_S1x256x128_0_0_0).toLoadRect
def r_100 : FVec Ideal S256x128 .f32 := k0_pay223 (v923 R)
def r_101 : FVec Ideal S1x128 .f32 := k0_pay228 (r_15 R)
def HS0_13 : List (View.Piece (Elt Ideal) S4x256x128 .f32) := ⟨Rect.unit ![0, 0, 0] S1x256x128.size inb_S4x256x128_S1x256x128_0_0_0, (k0_pay234 (F := Ideal) (r_12 R) (r_20 R) (r_100 R) (r_101 R))⟩ :: (HS0_12 R)
def v967 : FVec Ideal S1x256x128 .f32 := R.m20.view.readCov (HS0_13 R) (Rect.unit (s := S4x256x128) ![1, 0, 0] S1x256x128.size inb_S4x256x128_S1x256x128_1_0_0).toLoadRect
def r_105 : FVec Ideal S256x128 .f32 := k0_pay235 (v967 R)
def r_107 : FVec Ideal S1x128 .f32 := k0_pay240 (r_15 R)
def HS0_14 : List (View.Piece (Elt Ideal) S4x256x128 .f32) := ⟨Rect.unit ![1, 0, 0] S1x256x128.size inb_S4x256x128_S1x256x128_1_0_0, (k0_pay244 (F := Ideal) (r_12 R) (r_30 R) (r_105 R) (r_107 R))⟩ :: (HS0_13 R)
def v1011 : FVec Ideal S1x256x128 .f32 := R.m20.view.readCov (HS0_14 R) (Rect.unit (s := S4x256x128) ![2, 0, 0] S1x256x128.size inb_S4x256x128_S1x256x128_2_0_0).toLoadRect
def r_109 : FVec Ideal S256x128 .f32 := k0_pay245 (v1011 R)
def HS0_15 : List (View.Piece (Elt Ideal) S4x256x128 .f32) := ⟨Rect.unit ![2, 0, 0] S1x256x128.size inb_S4x256x128_S1x256x128_2_0_0, (k0_pay254 (F := Ideal) (r_12 R) (r_15 R) (r_41 R) (r_109 R))⟩ :: (HS0_14 R)
def v1055 : FVec Ideal S1x256x128 .f32 := R.m20.view.readCov (HS0_15 R) (Rect.unit (s := S4x256x128) ![3, 0, 0] S1x256x128.size inb_S4x256x128_S1x256x128_3_0_0).toLoadRect
def r_112 : FVec Ideal S256x128 .f32 := k0_pay255 (v1055 R)
def HS0_16 : List (View.Piece (Elt Ideal) S4x256x128 .f32) := ⟨Rect.unit ![3, 0, 0] S1x256x128.size inb_S4x256x128_S1x256x128_3_0_0, (k0_pay264 (F := Ideal) (r_12 R) (r_15 R) (r_51 R) (r_112 R))⟩ :: (HS0_15 R)
def v1099 : FVec Ideal S1x256x128 .f32 := R.m20.view.readCov (HS0_16 R) (Rect.unit (s := S4x256x128) ![0, 0, 0] S1x256x128.size inb_S4x256x128_S1x256x128_0_0_0).toLoadRect
def r_116 : FVec Ideal S256x128 .f32 := k0_pay273 (r_15 R) (v1099 R)
def r_117 : FVec Ideal S32x256 .bf16 := k0_pay274 (r_20 R)
def r_118 : FVec Ideal S32x128 .bf16 := k0_pay275 (r_12 R)
def HS0_17 : List (View.Piece (Elt Ideal) S4x256x128 .f32) := ⟨Rect.unit ![0, 0, 0] S1x256x128.size inb_S4x256x128_S1x256x128_0_0_0, (k0_pay276 (F := Ideal) (r_116 R) (r_117 R) (r_118 R))⟩ :: (HS0_16 R)
def v1143 : FVec Ideal S1x256x128 .f32 := R.m20.view.readCov (HS0_17 R) (Rect.unit (s := S4x256x128) ![1, 0, 0] S1x256x128.size inb_S4x256x128_S1x256x128_1_0_0).toLoadRect
def r_119 : FVec Ideal S256x128 .f32 := k0_pay277 (v1143 R)
def r_120 : FVec Ideal S1x128 .f32 := k0_pay282 (r_15 R)
def HS0_18 : List (View.Piece (Elt Ideal) S4x256x128 .f32) := ⟨Rect.unit ![1, 0, 0] S1x256x128.size inb_S4x256x128_S1x256x128_1_0_0, (k0_pay288 (F := Ideal) (r_12 R) (r_30 R) (r_119 R) (r_120 R))⟩ :: (HS0_17 R)
def v1187 : FVec Ideal S1x256x128 .f32 := R.m20.view.readCov (HS0_18 R) (Rect.unit (s := S4x256x128) ![2, 0, 0] S1x256x128.size inb_S4x256x128_S1x256x128_2_0_0).toLoadRect
def r_124 : FVec Ideal S256x128 .f32 := k0_pay289 (v1187 R)
def r_126 : FVec Ideal S1x128 .f32 := k0_pay294 (r_15 R)
def HS0_19 : List (View.Piece (Elt Ideal) S4x256x128 .f32) := ⟨Rect.unit ![2, 0, 0] S1x256x128.size inb_S4x256x128_S1x256x128_2_0_0, (k0_pay298 (F := Ideal) (r_12 R) (r_41 R) (r_124 R) (r_126 R))⟩ :: (HS0_18 R)
def v1231 : FVec Ideal S1x256x128 .f32 := R.m20.view.readCov (HS0_19 R) (Rect.unit (s := S4x256x128) ![3, 0, 0] S1x256x128.size inb_S4x256x128_S1x256x128_3_0_0).toLoadRect
def r_128 : FVec Ideal S256x128 .f32 := k0_pay299 (v1231 R)
def HS0_20 : List (View.Piece (Elt Ideal) S4x256x128 .f32) := ⟨Rect.unit ![3, 0, 0] S1x256x128.size inb_S4x256x128_S1x256x128_3_0_0, (k0_pay308 (F := Ideal) (r_12 R) (r_15 R) (r_51 R) (r_128 R))⟩ :: (HS0_19 R)
def v1275 : FVec Ideal S1x256x128 .f32 := R.m20.view.readCov (HS0_20 R) (Rect.unit (s := S4x256x128) ![0, 0, 0] S1x256x128.size inb_S4x256x128_S1x256x128_0_0_0).toLoadRect
def r_131 : FVec Ideal S256x128 .f32 := k0_pay309 (v1275 R)
def HS0_21 : List (View.Piece (Elt Ideal) S4x256x128 .f32) := ⟨Rect.unit ![0, 0, 0] S1x256x128.size inb_S4x256x128_S1x256x128_0_0_0, (k0_pay318 (F := Ideal) (r_12 R) (r_15 R) (r_20 R) (r_131 R))⟩ :: (HS0_20 R)
def v1319 : FVec Ideal S1x256x128 .f32 := R.m20.view.readCov (HS0_21 R) (Rect.unit (s := S4x256x128) ![1, 0, 0] S1x256x128.size inb_S4x256x128_S1x256x128_1_0_0).toLoadRect
def r_135 : FVec Ideal S256x128 .f32 := k0_pay327 (r_15 R) (v1319 R)
def r_136 : FVec Ideal S32x256 .bf16 := k0_pay328 (r_30 R)
def r_137 : FVec Ideal S32x128 .bf16 := k0_pay329 (r_12 R)
def HS0_22 : List (View.Piece (Elt Ideal) S4x256x128 .f32) := ⟨Rect.unit ![1, 0, 0] S1x256x128.size inb_S4x256x128_S1x256x128_1_0_0, (k0_pay330 (F := Ideal) (r_135 R) (r_136 R) (r_137 R))⟩ :: (HS0_21 R)
def v1363 : FVec Ideal S1x256x128 .f32 := R.m20.view.readCov (HS0_22 R) (Rect.unit (s := S4x256x128) ![2, 0, 0] S1x256x128.size inb_S4x256x128_S1x256x128_2_0_0).toLoadRect
def r_138 : FVec Ideal S256x128 .f32 := k0_pay331 (v1363 R)
def r_139 : FVec Ideal S1x128 .f32 := k0_pay336 (r_15 R)
def HS0_23 : List (View.Piece (Elt Ideal) S4x256x128 .f32) := ⟨Rect.unit ![2, 0, 0] S1x256x128.size inb_S4x256x128_S1x256x128_2_0_0, (k0_pay342 (F := Ideal) (r_12 R) (r_41 R) (r_138 R) (r_139 R))⟩ :: (HS0_22 R)
def v1407 : FVec Ideal S1x256x128 .f32 := R.m20.view.readCov (HS0_23 R) (Rect.unit (s := S4x256x128) ![3, 0, 0] S1x256x128.size inb_S4x256x128_S1x256x128_3_0_0).toLoadRect
def r_143 : FVec Ideal S256x128 .f32 := k0_pay343 (v1407 R)
def r_145 : FVec Ideal S1x128 .f32 := k0_pay348 (r_15 R)
def HS0_24 : List (View.Piece (Elt Ideal) S4x256x128 .f32) := ⟨Rect.unit ![3, 0, 0] S1x256x128.size inb_S4x256x128_S1x256x128_3_0_0, (k0_pay352 (F := Ideal) (r_12 R) (r_51 R) (r_143 R) (r_145 R))⟩ :: (HS0_23 R)
def v1451 : FVec Ideal S1x256x128 .f32 := R.m20.view.readCov (HS0_24 R) (Rect.unit (s := S4x256x128) ![0, 0, 0] S1x256x128.size inb_S4x256x128_S1x256x128_0_0_0).toLoadRect
def r_147 : FVec Ideal S256x128 .f32 := k0_pay353 (v1451 R)
def HS0_25 : List (View.Piece (Elt Ideal) S4x256x128 .f32) := ⟨Rect.unit ![0, 0, 0] S1x256x128.size inb_S4x256x128_S1x256x128_0_0_0, (k0_pay362 (F := Ideal) (r_12 R) (r_15 R) (r_20 R) (r_147 R))⟩ :: (HS0_24 R)
def v1495 : FVec Ideal S1x256x128 .f32 := R.m20.view.readCov (HS0_25 R) (Rect.unit (s := S4x256x128) ![1, 0, 0] S1x256x128.size inb_S4x256x128_S1x256x128_1_0_0).toLoadRect
def r_150 : FVec Ideal S256x128 .f32 := k0_pay363 (v1495 R)
def HS0_26 : List (View.Piece (Elt Ideal) S4x256x128 .f32) := ⟨Rect.unit ![1, 0, 0] S1x256x128.size inb_S4x256x128_S1x256x128_1_0_0, (k0_pay372 (F := Ideal) (r_12 R) (r_15 R) (r_30 R) (r_150 R))⟩ :: (HS0_25 R)
def v1539 : FVec Ideal S1x256x128 .f32 := R.m20.view.readCov (HS0_26 R) (Rect.unit (s := S4x256x128) ![2, 0, 0] S1x256x128.size inb_S4x256x128_S1x256x128_2_0_0).toLoadRect
def r_154 : FVec Ideal S256x128 .f32 := k0_pay381 (r_15 R) (v1539 R)
def r_155 : FVec Ideal S32x256 .bf16 := k0_pay382 (r_41 R)
def r_156 : FVec Ideal S32x128 .bf16 := k0_pay383 (r_12 R)
def HS0_27 : List (View.Piece (Elt Ideal) S4x256x128 .f32) := ⟨Rect.unit ![2, 0, 0] S1x256x128.size inb_S4x256x128_S1x256x128_2_0_0, (k0_pay384 (F := Ideal) (r_154 R) (r_155 R) (r_156 R))⟩ :: (HS0_26 R)
def v1583 : FVec Ideal S1x256x128 .f32 := R.m20.view.readCov (HS0_27 R) (Rect.unit (s := S4x256x128) ![3, 0, 0] S1x256x128.size inb_S4x256x128_S1x256x128_3_0_0).toLoadRect
def r_157 : FVec Ideal S256x128 .f32 := k0_pay385 (v1583 R)
def r_158 : FVec Ideal S1x128 .f32 := k0_pay390 (r_15 R)
def HS0_28 : List (View.Piece (Elt Ideal) S4x256x128 .f32) := ⟨Rect.unit ![3, 0, 0] S1x256x128.size inb_S4x256x128_S1x256x128_3_0_0, (k0_pay396 (F := Ideal) (r_12 R) (r_51 R) (r_157 R) (r_158 R))⟩ :: (HS0_27 R)
def v1627 : FVec Ideal S1x256x128 .f32 := R.m20.view.readCov (HS0_28 R) (Rect.unit (s := S4x256x128) ![0, 0, 0] S1x256x128.size inb_S4x256x128_S1x256x128_0_0_0).toLoadRect
def r_162 : FVec Ideal S256x128 .f32 := k0_pay397 (v1627 R)
def r_164 : FVec Ideal S1x128 .f32 := k0_pay402 (r_15 R)
def HS0_29 : List (View.Piece (Elt Ideal) S4x256x128 .f32) := ⟨Rect.unit ![0, 0, 0] S1x256x128.size inb_S4x256x128_S1x256x128_0_0_0, (k0_pay406 (F := Ideal) (r_12 R) (r_20 R) (r_162 R) (r_164 R))⟩ :: (HS0_28 R)
def v1671 : FVec Ideal S1x256x128 .f32 := R.m20.view.readCov (HS0_29 R) (Rect.unit (s := S4x256x128) ![1, 0, 0] S1x256x128.size inb_S4x256x128_S1x256x128_1_0_0).toLoadRect
def r_166 : FVec Ideal S256x128 .f32 := k0_pay407 (v1671 R)
def HS0_30 : List (View.Piece (Elt Ideal) S4x256x128 .f32) := ⟨Rect.unit ![1, 0, 0] S1x256x128.size inb_S4x256x128_S1x256x128_1_0_0, (k0_pay416 (F := Ideal) (r_12 R) (r_15 R) (r_30 R) (r_166 R))⟩ :: (HS0_29 R)
def v1715 : FVec Ideal S1x256x128 .f32 := R.m20.view.readCov (HS0_30 R) (Rect.unit (s := S4x256x128) ![2, 0, 0] S1x256x128.size inb_S4x256x128_S1x256x128_2_0_0).toLoadRect
def r_169 : FVec Ideal S256x128 .f32 := k0_pay417 (v1715 R)
def HS0_31 : List (View.Piece (Elt Ideal) S4x256x128 .f32) := ⟨Rect.unit ![2, 0, 0] S1x256x128.size inb_S4x256x128_S1x256x128_2_0_0, (k0_pay426 (F := Ideal) (r_12 R) (r_15 R) (r_41 R) (r_169 R))⟩ :: (HS0_30 R)
def v1759 : FVec Ideal S1x256x128 .f32 := R.m20.view.readCov (HS0_31 R) (Rect.unit (s := S4x256x128) ![3, 0, 0] S1x256x128.size inb_S4x256x128_S1x256x128_3_0_0).toLoadRect
def r_42 : FVec Ideal S256x256 .bf16 := R.v (Rect.unit (s := S256x1024) ![0, 512] S256x256.size inb_S256x1024_S256x256_0_512).toLoadRect
def r_171 : FVec Ideal S256x128 .bf16 := k0_pay419 (v1715 R)
def r_31 : FVec Ideal S256x256 .bf16 := R.v (Rect.unit (s := S256x1024) ![0, 256] S256x256.size inb_S256x1024_S256x256_0_256).toLoadRect
def r_168 : FVec Ideal S32x128 .f32 := k0_pay411 (r_31 R) (v1671 R)
def r_21 : FVec Ideal S256x256 .bf16 := R.v (Rect.unit (s := S256x1024) ![0, 0] S256x256.size inb_S256x1024_S256x256_0_0).toLoadRect
def r_152 : FVec Ideal S256x128 .bf16 := k0_pay365 (v1495 R)
def r_149 : FVec Ideal S32x128 .f32 := k0_pay357 (r_21 R) (v1451 R)
def r_133 : FVec Ideal S256x128 .bf16 := k0_pay311 (v1275 R)
def r_130 : FVec Ideal S32x128 .f32 := k0_pay303 (r_52 R) (v1231 R)
def r_114 : FVec Ideal S256x128 .bf16 := k0_pay257 (v1055 R)
def r_111 : FVec Ideal S32x128 .f32 := k0_pay249 (r_42 R) (v1011 R)
def r_95 : FVec Ideal S256x128 .bf16 := k0_pay203 (v835 R)
def r_92 : FVec Ideal S32x128 .f32 := k0_pay195 (r_31 R) (v791 R)
def r_76 : FVec Ideal S256x128 .bf16 := k0_pay149 (v615 R)
def r_73 : FVec Ideal S32x128 .f32 := k0_pay141 (r_21 R) (v571 R)
def r_57 : FVec Ideal S256x128 .bf16 := k0_pay95 R.G0
def HS3_32 : List (View.Piece (Elt Ideal) S256x512 .f32) := ⟨Rect.unit ![0, 384] S32x128.size inb_S256x512_S32x128_0_384, (k0_pay431 (F := Ideal) (r_52 R) (v1759 R))⟩ :: (⟨Rect.unit ![0, 256] S32x128.size inb_S256x512_S32x128_0_256, (k0_pay422 (F := Ideal) (r_42 R) (r_171 R))⟩ :: (⟨Rect.unit ![0, 128] S32x128.size inb_S256x512_S32x128_0_128, (k0_pay412 (F := Ideal) (r_168 R))⟩ :: (⟨Rect.unit ![0, 0] S32x128.size inb_S256x512_S32x128_0_0, (k0_pay401 (F := Ideal) (r_21 R) (v1627 R))⟩ :: (⟨Rect.unit ![32, 384] S32x128.size inb_S256x512_S32x128_32_384, (k0_pay389 (F := Ideal) (r_52 R) (v1583 R))⟩ :: (⟨Rect.unit ![32, 256] S32x128.size inb_S256x512_S32x128_32_256, (k0_pay377 (F := Ideal) (r_42 R) (v1539 R))⟩ :: (⟨Rect.unit ![32, 128] S32x128.size inb_S256x512_S32x128_32_128, (k0_pay368 (F := Ideal) (r_31 R) (r_152 R))⟩ :: (⟨Rect.unit ![32, 0] S32x128.size inb_S256x512_S32x128_32_0, (k0_pay358 (F := Ideal) (r_149 R))⟩ :: (⟨Rect.unit ![64, 384] S32x128.size inb_S256x512_S32x128_64_384, (k0_pay347 (F := Ideal) (r_52 R) (v1407 R))⟩ :: (⟨Rect.unit ![64, 256] S32x128.size inb_S256x512_S32x128_64_256, (k0_pay335 (F := Ideal) (r_42 R) (v1363 R))⟩ :: (⟨Rect.unit ![64, 128] S32x128.size inb_S256x512_S32x128_64_128, (k0_pay323 (F := Ideal) (r_31 R) (v1319 R))⟩ :: (⟨Rect.unit ![64, 0] S32x128.size inb_S256x512_S32x128_64_0, (k0_pay314 (F := Ideal) (r_21 R) (r_133 R))⟩ :: (⟨Rect.unit ![96, 384] S32x128.size inb_S256x512_S32x128_96_384, (k0_pay304 (F := Ideal) (r_130 R))⟩ :: (⟨Rect.unit ![96, 256] S32x128.size inb_S256x512_S32x128_96_256, (k0_pay293 (F := Ideal) (r_42 R) (v1187 R))⟩ :: (⟨Rect.unit ![96, 128] S32x128.size inb_S256x512_S32x128_96_128, (k0_pay281 (F := Ideal) (r_31 R) (v1143 R))⟩ :: (⟨Rect.unit ![96, 0] S32x128.size inb_S256x512_S32x128_96_0, (k0_pay269 (F := Ideal) (r_21 R) (v1099 R))⟩ :: (⟨Rect.unit ![128, 384] S32x128.size inb_S256x512_S32x128_128_384, (k0_pay260 (F := Ideal) (r_52 R) (r_114 R))⟩ :: (⟨Rect.unit ![128, 256] S32x128.size inb_S256x512_S32x128_128_256, (k0_pay250 (F := Ideal) (r_111 R))⟩ :: (⟨Rect.unit ![128, 128] S32x128.size inb_S256x512_S32x128_128_128, (k0_pay239 (F := Ideal) (r_31 R) (v967 R))⟩ :: (⟨Rect.unit ![128, 0] S32x128.size inb_S256x512_S32x128_128_0, (k0_pay227 (F := Ideal) (r_21 R) (v923 R))⟩ :: (⟨Rect.unit ![160, 384] S32x128.size inb_S256x512_S32x128_160_384, (k0_pay215 (F := Ideal) (r_52 R) (v879 R))⟩ :: (⟨Rect.unit ![160, 256] S32x128.size inb_S256x512_S32x128_160_256, (k0_pay206 (F := Ideal) (r_42 R) (r_95 R))⟩ :: (⟨Rect.unit ![160, 128] S32x128.size inb_S256x512_S32x128_160_128, (k0_pay196 (F := Ideal) (r_92 R))⟩ :: (⟨Rect.unit ![160, 0] S32x128.size inb_S256x512_S32x128_160_0, (k0_pay185 (F := Ideal) (r_21 R) (v747 R))⟩ :: (⟨Rect.unit ![192, 384] S32x128.size inb_S256x512_S32x128_192_384, (k0_pay173 (F := Ideal) (r_52 R) (v703 R))⟩ :: (⟨Rect.unit ![192, 256] S32x128.size inb_S256x512_S32x128_192_256, (k0_pay161 (F := Ideal) (r_42 R) (v659 R))⟩ :: (⟨Rect.unit ![192, 128] S32x128.size inb_S256x512_S32x128_192_128, (k0_pay152 (F := Ideal) (r_31 R) (r_76 R))⟩ :: (⟨Rect.unit ![192, 0] S32x128.size inb_S256x512_S32x128_192_0, (k0_pay142 (F := Ideal) (r_73 R))⟩ :: (⟨Rect.unit ![224, 384] S32x128.size inb_S256x512_S32x128_224_384, (k0_pay131 (F := Ideal) (r_52 R) (v527 R))⟩ :: (⟨Rect.unit ![224, 256] S32x128.size inb_S256x512_S32x128_224_256, (k0_pay119 (F := Ideal) (r_42 R) (v483 R))⟩ :: (⟨Rect.unit ![224, 128] S32x128.size inb_S256x512_S32x128_224_128, (k0_pay107 (F := Ideal) (r_31 R) (v439 R))⟩ :: (⟨Rect.unit ![224, 0] S32x128.size inb_S256x512_S32x128_224_0, (k0_pay98 (F := Ideal) (r_21 R) (r_57 R))⟩ :: [])))))))))))))))))))))))))))))))
def v1805 : FVec Ideal S256x512 .f32 := R.m23.view.readCov (HS3_32 R) (Rect.unit (s := S256x512) ![0, 0] S256x512.size inb_S256x512_S256x512_0_0).toLoadRect
def r_11 : FVec Ideal S256x512 .f32 := k0_pay27 k0_pay12 k0_pay13 (r_3 R) (r_4 R) cst_15 (R.k (Rect.unit (s := S256x512) ![0, 0] S256x512.size inb_S256x512_S256x512_0_0).toLoadRect)
def r_14 : FVec Ideal S256x512 .bf16 := k0_pay30 (r_11 R)
def r_54 : FVec Ideal S256x256 .f32 := k0_pay92 k0_pay11 (r_12 R) (r_13 R) (r_47 R) (r_48 R) (r_49 R) (r_50 R)
def r_44 : FVec Ideal S256x256 .f32 := k0_pay76 k0_pay11 (r_12 R) (r_13 R) (r_36 R) (r_37 R) (r_38 R) (r_39 R)
def r_172 : FVec Ideal S32x256 .f32 := k0_pay420 (r_44 R)
def r_33 : FVec Ideal S256x256 .f32 := k0_pay61 k0_pay11 (r_12 R) (r_13 R) (r_24 R) (r_25 R) (r_26 R) (r_27 R)
def r_23 : FVec Ideal S256x256 .f32 := k0_pay45 k0_pay11 (r_12 R) (r_13 R) (r_16 R) (r_17 R) (r_18 R) (r_19 R)
def r_153 : FVec Ideal S32x256 .f32 := k0_pay366 (r_33 R)
def r_134 : FVec Ideal S32x256 .f32 := k0_pay312 (r_23 R)
def r_115 : FVec Ideal S32x256 .f32 := k0_pay258 (r_54 R)
def r_96 : FVec Ideal S32x256 .f32 := k0_pay204 (r_44 R)
def r_77 : FVec Ideal S32x256 .f32 := k0_pay150 (r_33 R)
def r_58 : FVec Ideal S32x256 .f32 := k0_pay96 (r_23 R)
def r_1 : FVec Ideal S128x512 .bf16 := R.wa (Rect.unit (s := S128x512) ![0, 0] S128x512.size inb_S128x512_S128x512_0_0).toLoadRect
def r_9 : FVec Ideal S256x512 .f32 := k0_pay25 k0_pay13 (r_3 R) (r_4 R) cst_15 (R.q (Rect.unit (s := S256x512) ![0, 0] S256x512.size inb_S256x512_S256x512_0_0).toLoadRect)
def r_10 : FVec Ideal S256x512 .f32 := k0_pay26 k0_pay13 (r_3 R) (r_4 R) cst_15 (R.k (Rect.unit (s := S256x512) ![0, 0] S256x512.size inb_S256x512_S256x512_0_0).toLoadRect)
def r_176 : FVec Ideal S256x512 .f32 := k0_pay441 k0_pay12 k0_pay14 (r_9 R) (r_10 R) (r_11 R) (v1803 R) (v1804 R) (v1805 R)
def r_165 : FVec Ideal S1x128 .f32 := k0_pay403 (r_15 R) (v1627 R) (R.st (Rect.unit (s := S8x4x256x128) ![0, 0, 0, 0] S1x1x256x128.size inb_S8x4x256x128_S1x1x256x128_0_0_0_0).toLoadRect)
def r_146 : FVec Ideal S1x128 .f32 := k0_pay349 (r_15 R) (v1407 R) (R.st (Rect.unit (s := S8x4x256x128) ![2, 3, 0, 0] S1x1x256x128.size inb_S8x4x256x128_S1x1x256x128_2_3_0_0).toLoadRect)
def r_127 : FVec Ideal S1x128 .f32 := k0_pay295 (r_15 R) (v1187 R) (R.st (Rect.unit (s := S8x4x256x128) ![3, 2, 0, 0] S1x1x256x128.size inb_S8x4x256x128_S1x1x256x128_3_2_0_0).toLoadRect)
def r_108 : FVec Ideal S1x128 .f32 := k0_pay241 (r_15 R) (v967 R) (R.st (Rect.unit (s := S8x4x256x128) ![4, 1, 0, 0] S1x1x256x128.size inb_S8x4x256x128_S1x1x256x128_4_1_0_0).toLoadRect)
def r_89 : FVec Ideal S1x128 .f32 := k0_pay187 (r_15 R) (v747 R) (R.st (Rect.unit (s := S8x4x256x128) ![5, 0, 0, 0] S1x1x256x128.size inb_S8x4x256x128_S1x1x256x128_5_0_0_0).toLoadRect)
def r_70 : FVec Ideal S1x128 .f32 := k0_pay133 (r_15 R) (v527 R) (R.st (Rect.unit (s := S8x4x256x128) ![7, 3, 0, 0] S1x1x256x128.size inb_S8x4x256x128_S1x1x256x128_7_3_0_0).toLoadRect)
def HS4_32 : List (View.Piece (Elt Ideal) S256x512 .f32) := ⟨Rect.unit ![0, 384] S32x128.size inb_S256x512_S32x128_0_384, (k0_pay433 (F := Ideal) (r_15 R) (v1759 R) (R.st (Rect.unit (s := S8x4x256x128) ![0, 3, 0, 0] S1x1x256x128.size inb_S8x4x256x128_S1x1x256x128_0_3_0_0).toLoadRect))⟩ :: (⟨Rect.unit ![0, 256] S32x128.size inb_S256x512_S32x128_0_256, (k0_pay424 (F := Ideal) (r_15 R) (r_169 R) (r_170 R))⟩ :: (⟨Rect.unit ![0, 128] S32x128.size inb_S256x512_S32x128_0_128, (k0_pay414 (F := Ideal) (r_15 R) (r_166 R) (r_167 R))⟩ :: (⟨Rect.unit ![0, 0] S32x128.size inb_S256x512_S32x128_0_0, (k0_pay404 (F := Ideal) (r_165 R))⟩ :: (⟨Rect.unit ![32, 384] S32x128.size inb_S256x512_S32x128_32_384, (k0_pay391 (F := Ideal) (r_15 R) (v1583 R) (R.st (Rect.unit (s := S8x4x256x128) ![1, 3, 0, 0] S1x1x256x128.size inb_S8x4x256x128_S1x1x256x128_1_3_0_0).toLoadRect))⟩ :: (⟨Rect.unit ![32, 256] S32x128.size inb_S256x512_S32x128_32_256, (k0_pay379 (F := Ideal) (r_15 R) (v1539 R) (R.st (Rect.unit (s := S8x4x256x128) ![1, 2, 0, 0] S1x1x256x128.size inb_S8x4x256x128_S1x1x256x128_1_2_0_0).toLoadRect))⟩ :: (⟨Rect.unit ![32, 128] S32x128.size inb_S256x512_S32x128_32_128, (k0_pay370 (F := Ideal) (r_15 R) (r_150 R) (r_151 R))⟩ :: (⟨Rect.unit ![32, 0] S32x128.size inb_S256x512_S32x128_32_0, (k0_pay360 (F := Ideal) (r_15 R) (r_147 R) (r_148 R))⟩ :: (⟨Rect.unit ![64, 384] S32x128.size inb_S256x512_S32x128_64_384, (k0_pay350 (F := Ideal) (r_146 R))⟩ :: (⟨Rect.unit ![64, 256] S32x128.size inb_S256x512_S32x128_64_256, (k0_pay337 (F := Ideal) (r_15 R) (v1363 R) (R.st (Rect.unit (s := S8x4x256x128) ![2, 2, 0, 0] S1x1x256x128.size inb_S8x4x256x128_S1x1x256x128_2_2_0_0).toLoadRect))⟩ :: (⟨Rect.unit ![64, 128] S32x128.size inb_S256x512_S32x128_64_128, (k0_pay325 (F := Ideal) (r_15 R) (v1319 R) (R.st (Rect.unit (s := S8x4x256x128) ![2, 1, 0, 0] S1x1x256x128.size inb_S8x4x256x128_S1x1x256x128_2_1_0_0).toLoadRect))⟩ :: (⟨Rect.unit ![64, 0] S32x128.size inb_S256x512_S32x128_64_0, (k0_pay316 (F := Ideal) (r_15 R) (r_131 R) (r_132 R))⟩ :: (⟨Rect.unit ![96, 384] S32x128.size inb_S256x512_S32x128_96_384, (k0_pay306 (F := Ideal) (r_15 R) (r_128 R) (r_129 R))⟩ :: (⟨Rect.unit ![96, 256] S32x128.size inb_S256x512_S32x128_96_256, (k0_pay296 (F := Ideal) (r_127 R))⟩ :: (⟨Rect.unit ![96, 128] S32x128.size inb_S256x512_S32x128_96_128, (k0_pay283 (F := Ideal) (r_15 R) (v1143 R) (R.st (Rect.unit (s := S8x4x256x128) ![3, 1, 0, 0] S1x1x256x128.size inb_S8x4x256x128_S1x1x256x128_3_1_0_0).toLoadRect))⟩ :: (⟨Rect.unit ![96, 0] S32x128.size inb_S256x512_S32x128_96_0, (k0_pay271 (F := Ideal) (r_15 R) (v1099 R) (R.st (Rect.unit (s := S8x4x256x128) ![3, 0, 0, 0] S1x1x256x128.size inb_S8x4x256x128_S1x1x256x128_3_0_0_0).toLoadRect))⟩ :: (⟨Rect.unit ![128, 384] S32x128.size inb_S256x512_S32x128_128_384, (k0_pay262 (F := Ideal) (r_15 R) (r_112 R) (r_113 R))⟩ :: (⟨Rect.unit ![128, 256] S32x128.size inb_S256x512_S32x128_128_256, (k0_pay252 (F := Ideal) (r_15 R) (r_109 R) (r_110 R))⟩ :: (⟨Rect.unit ![128, 128] S32x128.size inb_S256x512_S32x128_128_128, (k0_pay242 (F := Ideal) (r_108 R))⟩ :: (⟨Rect.unit ![128, 0] S32x128.size inb_S256x512_S32x128_128_0, (k0_pay229 (F := Ideal) (r_15 R) (v923 R) (R.st (Rect.unit (s := S8x4x256x128) ![4, 0, 0, 0] S1x1x256x128.size inb_S8x4x256x128_S1x1x256x128_4_0_0_0).toLoadRect))⟩ :: (⟨Rect.unit ![160, 384] S32x128.size inb_S256x512_S32x128_160_384, (k0_pay217 (F := Ideal) (r_15 R) (v879 R) (R.st (Rect.unit (s := S8x4x256x128) ![5, 3, 0, 0] S1x1x256x128.size inb_S8x4x256x128_S1x1x256x128_5_3_0_0).toLoadRect))⟩ :: (⟨Rect.unit ![160, 256] S32x128.size inb_S256x512_S32x128_160_256, (k0_pay208 (F := Ideal) (r_15 R) (r_93 R) (r_94 R))⟩ :: (⟨Rect.unit ![160, 128] S32x128.size inb_S256x512_S32x128_160_128, (k0_pay198 (F := Ideal) (r_15 R) (r_90 R) (r_91 R))⟩ :: (⟨Rect.unit ![160, 0] S32x128.size inb_S256x512_S32x128_160_0, (k0_pay188 (F := Ideal) (r_89 R))⟩ :: (⟨Rect.unit ![192, 384] S32x128.size inb_S256x512_S32x128_192_384, (k0_pay175 (F := Ideal) (r_15 R) (v703 R) (R.st (Rect.unit (s := S8x4x256x128) ![6, 3, 0, 0] S1x1x256x128.size inb_S8x4x256x128_S1x1x256x128_6_3_0_0).toLoadRect))⟩ :: (⟨Rect.unit ![192, 256] S32x128.size inb_S256x512_S32x128_192_256, (k0_pay163 (F := Ideal) (r_15 R) (v659 R) (R.st (Rect.unit (s := S8x4x256x128) ![6, 2, 0, 0] S1x1x256x128.size inb_S8x4x256x128_S1x1x256x128_6_2_0_0).toLoadRect))⟩ :: (⟨Rect.unit ![192, 128] S32x128.size inb_S256x512_S32x128_192_128, (k0_pay154 (F := Ideal) (r_15 R) (r_74 R) (r_75 R))⟩ :: (⟨Rect.unit ![192, 0] S32x128.size inb_S256x512_S32x128_192_0, (k0_pay144 (F := Ideal) (r_15 R) (r_71 R) (r_72 R))⟩ :: (⟨Rect.unit ![224, 384] S32x128.size inb_S256x512_S32x128_224_384, (k0_pay134 (F := Ideal) (r_70 R))⟩ :: (⟨Rect.unit ![224, 256] S32x128.size inb_S256x512_S32x128_224_256, (k0_pay121 (F := Ideal) (r_15 R) (v483 R) (R.st (Rect.unit (s := S8x4x256x128) ![7, 2, 0, 0] S1x1x256x128.size inb_S8x4x256x128_S1x1x256x128_7_2_0_0).toLoadRect))⟩ :: (⟨Rect.unit ![224, 128] S32x128.size inb_S256x512_S32x128_224_128, (k0_pay109 (F := Ideal) (r_15 R) (v439 R) (R.st (Rect.unit (s := S8x4x256x128) ![7, 1, 0, 0] S1x1x256x128.size inb_S8x4x256x128_S1x1x256x128_7_1_0_0).toLoadRect))⟩ :: (⟨Rect.unit ![224, 0] S32x128.size inb_S256x512_S32x128_224_0, (k0_pay100 (F := Ideal) (r_15 R) (r_55 R) (r_56 R))⟩ :: [])))))))))))))))))))))))))))))))
def v1836 : FVec Ideal S256x512 .f32 := R.m24.view.readCov (HS4_32 R) (Rect.unit (s := S256x512) ![0, 0] S256x512.size inb_S256x512_S256x512_0_0).toLoadRect
def r_177 : FVec Ideal S256x512 .f32 := k0_pay442 (r_176 R) (v1836 R)
def r_2 : FVec Ideal S256x512 .f32 := k0_pay15 (R.al (Rect.unit (s := S256x128) ![0, 0] S256x128.size inb_S256x128_S256x128_0_0).toLoadRect) (R.wa (Rect.unit (s := S128x512) ![0, 0] S128x512.size inb_S128x512_S128x512_0_0).toLoadRect) (R.ba (Rect.unit (s := S1x512) ![0, 0] S1x512.size inb_S1x512_S1x512_0_0).toLoadRect)
def r_178 : FVec Ideal S256x512 .f32 := k0_pay443 (r_2 R)
def r : FVec Ideal S256x128 .bf16 := R.al (Rect.unit (s := S256x128) ![0, 0] S256x128.size inb_S256x128_S256x128_0_0).toLoadRect
def v356 : FVec Ideal S1x256 .f32 := R.n3
def v279 : FVec Ideal S1x256 .f32 := R.n2
def r_40 : FVec Ideal S1x256 .f32 := k0_pay71 (r_34 R) (r_35 R) (R.r (Rect.unit (s := S256x1024) ![0, 512] S256x256.size inb_S256x1024_S256x256_0_512).toLoadRect) (R.ct (Rect.unit (s := S256x1024) ![0, 512] S256x256.size inb_S256x1024_S256x256_0_512).toLoadRect) (v279 R)
def v202 : FVec Ideal S1x256 .f32 := R.n1
def r_28 : FVec Ideal S1x256 .f32 := k0_pay54 (v202 R)
def r_29 : FVec Ideal S256x256 .f32 := k0_pay55 (R.op (Rect.unit (s := S256x1024) ![0, 256] S256x256.size inb_S256x1024_S256x256_0_256).toLoadRect) (R.r (Rect.unit (s := S256x1024) ![0, 256] S256x256.size inb_S256x1024_S256x256_0_256).toLoadRect) (R.ct (Rect.unit (s := S256x1024) ![0, 256] S256x256.size inb_S256x1024_S256x256_0_256).toLoadRect)
def r_173 : FVec Ideal S256x128 .f32 := k0_pay435 (r_15 R) (v1759 R)
def r_174 : FVec Ideal S32x256 .bf16 := k0_pay436 (r_51 R)
def r_175 : FVec Ideal S32x128 .bf16 := k0_pay437 (r_12 R)

/-! What the block stores into each result, and into the state's gradient. -/

def L11 : List (View.Piece (Elt Ideal) S256x512 .bf16) := ⟨Rect.unit ![0, 0] S256x512.size inb_S256x512_S256x512_0_0, (k0_pay439 (F := Ideal) (r_6 R) (v1803 R))⟩ :: []
def L12 : List (View.Piece (Elt Ideal) S256x512 .bf16) := ⟨Rect.unit ![0, 0] S256x512.size inb_S256x512_S256x512_0_0, (k0_pay440 (F := Ideal) (r_7 R) (r_8 R) (v1804 R) (v1805 R))⟩ :: []
def L13 : List (View.Piece (Elt Ideal) S256x1024 .bf16) := ⟨Rect.unit ![0, 768] S32x256.size inb_S256x1024_S32x256_0_768, (k0_pay430 (F := Ideal) (r_14 R) (r_54 R) (v1759 R))⟩ :: (⟨Rect.unit ![0, 512] S32x256.size inb_S256x1024_S32x256_0_512, (k0_pay421 (F := Ideal) (r_14 R) (r_171 R) (r_172 R))⟩ :: (⟨Rect.unit ![0, 256] S32x256.size inb_S256x1024_S32x256_0_256, (k0_pay410 (F := Ideal) (r_14 R) (r_33 R) (v1671 R))⟩ :: (⟨Rect.unit ![0, 0] S32x256.size inb_S256x1024_S32x256_0_0, (k0_pay400 (F := Ideal) (r_14 R) (r_23 R) (v1627 R))⟩ :: (⟨Rect.unit ![32, 768] S32x256.size inb_S256x1024_S32x256_32_768, (k0_pay388 (F := Ideal) (r_14 R) (r_54 R) (v1583 R))⟩ :: (⟨Rect.unit ![32, 512] S32x256.size inb_S256x1024_S32x256_32_512, (k0_pay376 (F := Ideal) (r_14 R) (r_44 R) (v1539 R))⟩ :: (⟨Rect.unit ![32, 256] S32x256.size inb_S256x1024_S32x256_32_256, (k0_pay367 (F := Ideal) (r_14 R) (r_152 R) (r_153 R))⟩ :: (⟨Rect.unit ![32, 0] S32x256.size inb_S256x1024_S32x256_32_0, (k0_pay356 (F := Ideal) (r_14 R) (r_23 R) (v1451 R))⟩ :: (⟨Rect.unit ![64, 768] S32x256.size inb_S256x1024_S32x256_64_768, (k0_pay346 (F := Ideal) (r_14 R) (r_54 R) (v1407 R))⟩ :: (⟨Rect.unit ![64, 512] S32x256.size inb_S256x1024_S32x256_64_512, (k0_pay334 (F := Ideal) (r_14 R) (r_44 R) (v1363 R))⟩ :: (⟨Rect.unit ![64, 256] S32x256.size inb_S256x1024_S32x256_64_256, (k0_pay322 (F := Ideal) (r_14 R) (r_33 R) (v1319 R))⟩ :: (⟨Rect.unit ![64, 0] S32x256.size inb_S256x1024_S32x256_64_0, (k0_pay313 (F := Ideal) (r_14 R) (r_133 R) (r_134 R))⟩ :: (⟨Rect.unit ![96, 768] S32x256.size inb_S256x1024_S32x256_96_768, (k0_pay302 (F := Ideal) (r_14 R) (r_54 R) (v1231 R))⟩ :: (⟨Rect.unit ![96, 512] S32x256.size inb_S256x1024_S32x256_96_512, (k0_pay292 (F := Ideal) (r_14 R) (r_44 R) (v1187 R))⟩ :: (⟨Rect.unit ![96, 256] S32x256.size inb_S256x1024_S32x256_96_256, (k0_pay280 (F := Ideal) (r_14 R) (r_33 R) (v1143 R))⟩ :: (⟨Rect.unit ![96, 0] S32x256.size inb_S256x1024_S32x256_96_0, (k0_pay268 (F := Ideal) (r_14 R) (r_23 R) (v1099 R))⟩ :: (⟨Rect.unit ![128, 768] S32x256.size inb_S256x1024_S32x256_128_768, (k0_pay259 (F := Ideal) (r_14 R) (r_114 R) (r_115 R))⟩ :: (⟨Rect.unit ![128, 512] S32x256.size inb_S256x1024_S32x256_128_512, (k0_pay248 (F := Ideal) (r_14 R) (r_44 R) (v1011 R))⟩ :: (⟨Rect.unit ![128, 256] S32x256.size inb_S256x1024_S32x256_128_256, (k0_pay238 (F := Ideal) (r_14 R) (r_33 R) (v967 R))⟩ :: (⟨Rect.unit ![128, 0] S32x256.size inb_S256x1024_S32x256_128_0, (k0_pay226 (F := Ideal) (r_14 R) (r_23 R) (v923 R))⟩ :: (⟨Rect.unit ![160, 768] S32x256.size inb_S256x1024_S32x256_160_768, (k0_pay214 (F := Ideal) (r_14 R) (r_54 R) (v879 R))⟩ :: (⟨Rect.unit ![160, 512] S32x256.size inb_S256x1024_S32x256_160_512, (k0_pay205 (F := Ideal) (r_14 R) (r_95 R) (r_96 R))⟩ :: (⟨Rect.unit ![160, 256] S32x256.size inb_S256x1024_S32x256_160_256, (k0_pay194 (F := Ideal) (r_14 R) (r_33 R) (v791 R))⟩ :: (⟨Rect.unit ![160, 0] S32x256.size inb_S256x1024_S32x256_160_0, (k0_pay184 (F := Ideal) (r_14 R) (r_23 R) (v747 R))⟩ :: (⟨Rect.unit ![192, 768] S32x256.size inb_S256x1024_S32x256_192_768, (k0_pay172 (F := Ideal) (r_14 R) (r_54 R) (v703 R))⟩ :: (⟨Rect.unit ![192, 512] S32x256.size inb_S256x1024_S32x256_192_512, (k0_pay160 (F := Ideal) (r_14 R) (r_44 R) (v659 R))⟩ :: (⟨Rect.unit ![192, 256] S32x256.size inb_S256x1024_S32x256_192_256, (k0_pay151 (F := Ideal) (r_14 R) (r_76 R) (r_77 R))⟩ :: (⟨Rect.unit ![192, 0] S32x256.size inb_S256x1024_S32x256_192_0, (k0_pay140 (F := Ideal) (r_14 R) (r_23 R) (v571 R))⟩ :: (⟨Rect.unit ![224, 768] S32x256.size inb_S256x1024_S32x256_224_768, (k0_pay130 (F := Ideal) (r_14 R) (r_54 R) (v527 R))⟩ :: (⟨Rect.unit ![224, 512] S32x256.size inb_S256x1024_S32x256_224_512, (k0_pay118 (F := Ideal) (r_14 R) (r_44 R) (v483 R))⟩ :: (⟨Rect.unit ![224, 256] S32x256.size inb_S256x1024_S32x256_224_256, (k0_pay106 (F := Ideal) (r_14 R) (r_33 R) (v439 R))⟩ :: (⟨Rect.unit ![224, 0] S32x256.size inb_S256x1024_S32x256_224_0, (k0_pay97 (F := Ideal) (r_14 R) (r_57 R) (r_58 R))⟩ :: [])))))))))))))))))))))))))))))))
def L14 : List (View.Piece (Elt Ideal) S256x1024 .bf16) := ⟨Rect.unit ![0, 768] S256x256.size inb_S256x1024_S256x256_0_768, (k0_pay86 (F := Ideal) (r_45 R) (r_46 R) k0_pay79 (R.gh (Rect.unit (s := S1x1024) ![0, 768] S1x256.size inb_S1x1024_S1x256_0_768).toLoadRect) (R.r (Rect.unit (s := S256x1024) ![0, 768] S256x256.size inb_S256x1024_S256x256_0_768).toLoadRect) (R.ct (Rect.unit (s := S256x1024) ![0, 768] S256x256.size inb_S256x1024_S256x256_0_768).toLoadRect))⟩ :: (⟨Rect.unit ![0, 512] S256x256.size inb_S256x1024_S256x256_0_512, (k0_pay70 (F := Ideal) (r_34 R) (r_35 R) (R.gh (Rect.unit (s := S1x1024) ![0, 512] S1x256.size inb_S1x1024_S1x256_0_512).toLoadRect) (R.r (Rect.unit (s := S256x1024) ![0, 512] S256x256.size inb_S256x1024_S256x256_0_512).toLoadRect) (R.ct (Rect.unit (s := S256x1024) ![0, 512] S256x256.size inb_S256x1024_S256x256_0_512).toLoadRect))⟩ :: (⟨Rect.unit ![0, 256] S256x256.size inb_S256x1024_S256x256_0_256, (k0_pay53 (F := Ideal) (R.op (Rect.unit (s := S256x1024) ![0, 256] S256x256.size inb_S256x1024_S256x256_0_256).toLoadRect) (R.gh (Rect.unit (s := S1x1024) ![0, 256] S1x256.size inb_S1x1024_S1x256_0_256).toLoadRect) (R.r (Rect.unit (s := S256x1024) ![0, 256] S256x256.size inb_S256x1024_S256x256_0_256).toLoadRect) (R.ct (Rect.unit (s := S256x1024) ![0, 256] S256x256.size inb_S256x1024_S256x256_0_256).toLoadRect))⟩ :: (⟨Rect.unit ![0, 0] S256x256.size inb_S256x1024_S256x256_0_0, (k0_pay39 (F := Ideal) (R.op (Rect.unit (s := S256x1024) ![0, 0] S256x256.size inb_S256x1024_S256x256_0_0).toLoadRect) (R.gh (Rect.unit (s := S1x1024) ![0, 0] S1x256.size inb_S1x1024_S1x256_0_0).toLoadRect) (R.r (Rect.unit (s := S256x1024) ![0, 0] S256x256.size inb_S256x1024_S256x256_0_0).toLoadRect) (R.ct (Rect.unit (s := S256x1024) ![0, 0] S256x256.size inb_S256x1024_S256x256_0_0).toLoadRect))⟩ :: [])))
def L15 : List (View.Piece (Elt Ideal) S256x128 .bf16) := ⟨Rect.unit ![0, 0] S256x128.size inb_S256x128_S256x128_0_0, (k0_pay3 (F := Ideal) (r_1 R) (r_177 R) (r_178 R))⟩ :: []
def L16 : List (View.Piece (Elt Ideal) S128x512 .f32) := ⟨Rect.unit ![0, 0] S128x512.size inb_S128x512_S128x512_0_0, (k0_pay4 (F := Ideal) (r R) (r_177 R) (r_178 R) R.wacc)⟩ :: []
def L17 : List (View.Piece (Elt Ideal) S1x512 .f32) := ⟨Rect.unit ![0, 0] S1x512.size inb_S1x512_S1x512_0_0, (k0_pay5 (F := Ideal) (r_177 R) (r_178 R) R.bacc)⟩ :: []
def L18 : List (View.Piece (Elt Ideal) S1x1024 .f32) := ⟨Rect.unit ![0, 768] S1x256.size inb_S1x1024_S1x256_0_768, (k0_pay87 (F := Ideal) (r_45 R) (r_46 R) k0_pay79 (R.r (Rect.unit (s := S256x1024) ![0, 768] S256x256.size inb_S256x1024_S256x256_0_768).toLoadRect) (R.ct (Rect.unit (s := S256x1024) ![0, 768] S256x256.size inb_S256x1024_S256x256_0_768).toLoadRect) (v356 R))⟩ :: (⟨Rect.unit ![0, 512] S1x256.size inb_S1x1024_S1x256_0_512, (r_40 R)⟩ :: (⟨Rect.unit ![0, 256] S1x256.size inb_S1x1024_S1x256_0_256, (k0_pay56 (F := Ideal) (r_28 R) (r_29 R))⟩ :: (⟨Rect.unit ![0, 0] S1x256.size inb_S1x1024_S1x256_0_0, (k0_pay40 (F := Ideal) (r_17 R) (r_19 R) R.n0)⟩ :: [])))
def LS : List (View.Piece (Elt Ideal) S4x256x128 .f32) := ⟨Rect.unit ![3, 0, 0] S1x256x128.size inb_S4x256x128_S1x256x128_3_0_0, (k0_pay438 (F := Ideal) (r_173 R) (r_174 R) (r_175 R))⟩ :: (HS0_31 R)

end Cert.KernelIdeal.Body
-- ==== Proof.KerLink.lean ====
/-
  The run of one block of the backward kernel, as the run's values are named, is the block of the words over what it
  reads: in the first block the gradient of the state and the running sums are read after they are set to zero, in the
  others they are what the block before left.
-/
module

public import proofs.«01_k».proof.Proof.KerWords
@[expose] public section

set_option maxRecDepth 100000

noncomputable section

namespace Cert.KernelIdeal.Body

open Idealize.ShloMosaic Idealize.ShloMosaic.TcCoe Cert.KernelIdeal.Gen

/-- Where a block's arguments lie, and its eleven inputs. -/
structure Env where
  c : Dev nD
  i : grid0.Coords
  a1 : Memref sig .tc .vmem S256x512 .bf16
  h1 : a1.IsWhole
  a2 : Memref sig .tc .vmem S256x512 .bf16
  h2 : a2.IsWhole
  a3 : Memref sig .tc .vmem S256x1024 .bf16
  h3 : a3.IsWhole
  a4 : Memref sig .tc .vmem S256x1024 .bf16
  h4 : a4.IsWhole
  a5 : Memref sig .tc .vmem S256x128 .bf16
  h5 : a5.IsWhole
  a6 : Memref sig .tc .vmem S128x512 .bf16
  h6 : a6.IsWhole
  a7 : Memref sig .tc .vmem S1x512 .f32
  h7 : a7.IsWhole
  a8 : Memref sig .tc .vmem S1x1024 .f32
  h8 : a8.IsWhole
  a9 : Memref sig .tc .vmem S256x1024 .f32
  h9 : a9.IsWhole
  a10 : Memref sig .tc .vmem S8x4x256x128 .bf16
  h10 : a10.IsWhole
  a11 : Memref sig .tc .vmem S256x1024 .bf16
  h11 : a11.IsWhole
  a12 : Memref sig .tc .vmem S256x512 .bf16
  h12 : a12.IsWhole
  a13 : Memref sig .tc .vmem S256x512 .bf16
  h13 : a13.IsWhole
  a14 : Memref sig .tc .vmem S256x1024 .bf16
  h14 : a14.IsWhole
  a15 : Memref sig .tc .vmem S256x1024 .bf16
  h15 : a15.IsWhole
  a16 : Memref sig .tc .vmem S256x128 .bf16
  h16 : a16.IsWhole
  a17 : Memref sig .tc .vmem S128x512 .f32
  h17 : a17.IsWhole
  a18 : Memref sig .tc .vmem S1x512 .f32
  h18 : a18.IsWhole
  a19 : Memref sig .tc .vmem S1x1024 .f32
  h19 : a19.IsWhole
  a20 : Memref sig .tc .vmem S4x256x128 .f32
  h20 : a20.IsWhole
  a21 : Memref sig .tc .vmem S256x512 .f32
  h21 : a21.IsWhole
  a22 : Memref sig .tc .vmem S256x512 .f32
  h22 : a22.IsWhole
  a23 : Memref sig .tc .vmem S256x512 .f32
  h23 : a23.IsWhole
  a24 : Memref sig .tc .vmem S256x512 .f32
  h24 : a24.IsWhole
  x0 : Vec Ideal S256x512 .bf16
  x1 : Vec Ideal S256x512 .bf16
  x2 : Vec Ideal S256x1024 .bf16
  x3 : Vec Ideal S256x1024 .bf16
  x4 : Vec Ideal S256x128 .bf16
  x5 : Vec Ideal S128x512 .bf16
  x6 : Vec Ideal S1x512 .f32
  x7 : Vec Ideal S1x1024 .f32
  x8 : Vec Ideal S256x1024 .f32
  x9 : Vec Ideal S8x4x256x128 .bf16
  x10 : Vec Ideal S256x1024 .bf16

variable (e : Env)

/-- The run of a block that is the first. -/
def runA (h0 : cond0_0 e.i) :=
  kernelRun0_A e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10

/-- The run of a block that is not the first. -/
def runB (h0 : ¬cond0_0 e.i) (xo16 : Vec Ideal S128x512 .f32) (xo17 : Vec Ideal S1x512 .f32) (xo18 : Vec Ideal S1x1024 .f32) (xs : Vec Ideal S4x256x128 .f32) :=
  kernelRun0_B e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs

/-- What a block that is the first reads. -/
def rA : Reads where
  q B := e.a1.view.readAt (Elt Ideal) B (e.h1.unread e.x0)
  k B := e.a2.view.readAt (Elt Ideal) B (e.h2.unread e.x1)
  v B := e.a3.view.readAt (Elt Ideal) B (e.h3.unread e.x2)
  r B := e.a4.view.readAt (Elt Ideal) B (e.h4.unread e.x3)
  al B := e.a5.view.readAt (Elt Ideal) B (e.h5.unread e.x4)
  wa B := e.a6.view.readAt (Elt Ideal) B (e.h6.unread e.x5)
  ba B := e.a7.view.readAt (Elt Ideal) B (e.h7.unread e.x6)
  gh B := e.a8.view.readAt (Elt Ideal) B (e.h8.unread e.x7)
  op B := e.a9.view.readAt (Elt Ideal) B (e.h9.unread e.x8)
  st B := e.a10.view.readAt (Elt Ideal) B (e.h10.unread e.x9)
  ct B := e.a11.view.readAt (Elt Ideal) B (e.h11.unread e.x10)
  G0 := kernelRun0_A.sl.v395 (F := Ideal) e.c e.a20
  G1 := kernelRun0_A.sl.v439 (F := Ideal) e.c e.a1 e.h1 e.a4 e.h4 e.a5 e.h5 e.a6 e.h6 e.a7 e.h7 e.a8 e.h8 e.a9 e.h9 e.a11 e.h11 e.a20 e.x0 e.x3 e.x4 e.x5 e.x6 e.x7 e.x8 e.x10
  G2 := kernelRun0_A.sl.v483 (F := Ideal) e.c e.a1 e.h1 e.a4 e.h4 e.a5 e.h5 e.a6 e.h6 e.a7 e.h7 e.a8 e.h8 e.a9 e.h9 e.a11 e.h11 e.a20 e.x0 e.x3 e.x4 e.x5 e.x6 e.x7 e.x8 e.x10
  G3 := kernelRun0_A.sl.v527 (F := Ideal) e.c e.a1 e.h1 e.a4 e.h4 e.a5 e.h5 e.a6 e.h6 e.a7 e.h7 e.a8 e.h8 e.a9 e.h9 e.a11 e.h11 e.a20 e.x0 e.x3 e.x4 e.x5 e.x6 e.x7 e.x8 e.x10
  wacc := kernelRun0_A.sl.v1854 (F := Ideal) e.c e.a17
  bacc := kernelRun0_A.sl.v1859 (F := Ideal) e.c e.a18
  n0 := kernelRun0_A.sl.v125 (F := Ideal) e.c e.a19
  n1 := kernelRun0_A.sl.v202 (F := Ideal) e.c e.a4 e.h4 e.a9 e.h9 e.a11 e.h11 e.a19 e.x3 e.x8 e.x10
  n2 := kernelRun0_A.sl.v279 (F := Ideal) e.c e.a4 e.h4 e.a9 e.h9 e.a11 e.h11 e.a19 e.x3 e.x8 e.x10
  n3 := kernelRun0_A.sl.v356 (F := Ideal) e.c e.a4 e.h4 e.a9 e.h9 e.a11 e.h11 e.a19 e.x3 e.x8 e.x10
  m20 := e.a20
  m21 := e.a21
  m22 := e.a22
  m23 := e.a23
  m24 := e.a24
  T := kernelRun0_A.sl.HS0_1 (F := Ideal)

/-- What a block that is not the first reads. -/
def rB (xo16 : Vec Ideal S128x512 .f32) (xo17 : Vec Ideal S1x512 .f32) (xo18 : Vec Ideal S1x1024 .f32) (xs : Vec Ideal S4x256x128 .f32) : Reads where
  q B := e.a1.view.readAt (Elt Ideal) B (e.h1.unread e.x0)
  k B := e.a2.view.readAt (Elt Ideal) B (e.h2.unread e.x1)
  v B := e.a3.view.readAt (Elt Ideal) B (e.h3.unread e.x2)
  r B := e.a4.view.readAt (Elt Ideal) B (e.h4.unread e.x3)
  al B := e.a5.view.readAt (Elt Ideal) B (e.h5.unread e.x4)
  wa B := e.a6.view.readAt (Elt Ideal) B (e.h6.unread e.x5)
  ba B := e.a7.view.readAt (Elt Ideal) B (e.h7.unread e.x6)
  gh B := e.a8.view.readAt (Elt Ideal) B (e.h8.unread e.x7)
  op B := e.a9.view.readAt (Elt Ideal) B (e.h9.unread e.x8)
  st B := e.a10.view.readAt (Elt Ideal) B (e.h10.unread e.x9)
  ct B := e.a11.view.readAt (Elt Ideal) B (e.h11.unread e.x10)
  G0 := e.a20.view.readAt (Elt Ideal) (Rect.unit (s := S4x256x128) ![0, 0, 0] S1x256x128.size inb_S4x256x128_S1x256x128_0_0_0).toLoadRect (e.h20.unread xs)
  G1 := e.a20.view.readAt (Elt Ideal) (Rect.unit (s := S4x256x128) ![1, 0, 0] S1x256x128.size inb_S4x256x128_S1x256x128_1_0_0).toLoadRect (e.h20.unread xs)
  G2 := e.a20.view.readAt (Elt Ideal) (Rect.unit (s := S4x256x128) ![2, 0, 0] S1x256x128.size inb_S4x256x128_S1x256x128_2_0_0).toLoadRect (e.h20.unread xs)
  G3 := e.a20.view.readAt (Elt Ideal) (Rect.unit (s := S4x256x128) ![3, 0, 0] S1x256x128.size inb_S4x256x128_S1x256x128_3_0_0).toLoadRect (e.h20.unread xs)
  wacc := e.a17.view.readAt (Elt Ideal) (Rect.unit (s := S128x512) ![0, 0] S128x512.size inb_S128x512_S128x512_0_0).toLoadRect (e.h17.unread xo16)
  bacc := e.a18.view.readAt (Elt Ideal) (Rect.unit (s := S1x512) ![0, 0] S1x512.size inb_S1x512_S1x512_0_0).toLoadRect (e.h18.unread xo17)
  n0 := e.a19.view.readAt (Elt Ideal) (Rect.unit (s := S1x1024) ![0, 0] S1x256.size inb_S1x1024_S1x256_0_0).toLoadRect (e.h19.unread xo18)
  n1 := e.a19.view.readAt (Elt Ideal) (Rect.unit (s := S1x1024) ![0, 256] S1x256.size inb_S1x1024_S1x256_0_256).toLoadRect (e.h19.unread xo18)
  n2 := e.a19.view.readAt (Elt Ideal) (Rect.unit (s := S1x1024) ![0, 512] S1x256.size inb_S1x1024_S1x256_0_512).toLoadRect (e.h19.unread xo18)
  n3 := e.a19.view.readAt (Elt Ideal) (Rect.unit (s := S1x1024) ![0, 768] S1x256.size inb_S1x1024_S1x256_0_768).toLoadRect (e.h19.unread xo18)
  m20 := e.a20
  m21 := e.a21
  m22 := e.a22
  m23 := e.a23
  m24 := e.a24
  T := []

open kernelRun0_A in
set_option maxHeartbeats 4000000 in
theorem runA_eq (h0 : cond0_0 e.i) :
    (runA e h0).1 = L11 (rA e) ∧
    (runA e h0).2.1 = L12 (rA e) ∧
    (runA e h0).2.2.1 = L13 (rA e) ∧
    (runA e h0).2.2.2.1 = L14 (rA e) ∧
    (runA e h0).2.2.2.2.1 = L15 (rA e) ∧
    (runA e h0).2.2.2.2.2.1 = L16 (rA e) ++ kernelRun0_A.sl.H16_1 (F := Ideal)  ∧
    (runA e h0).2.2.2.2.2.2.1 = L17 (rA e) ++ kernelRun0_A.sl.H17_1 (F := Ideal)  ∧
    (runA e h0).2.2.2.2.2.2.2.1 = L18 (rA e) ++ kernelRun0_A.sl.H18_1 (F := Ideal)  ∧
    (runA e h0).2.2.2.2.2.2.2.2.1 = LS (rA e) := by
  unfold runA kernelRun0_A
  dsimp only
  refine ⟨?_, ?_, ?_, ?_, ?_, ?_, ?_, ?_, ?_⟩ <;> dsimp only [rA,
    r_3, r_4, cst_15, r_6, r_46, r_47, r_45, r_48, r_49, r_50, r_51, r_13, r_53, r_35, r_36, r_34, r_37, r_38, r_39,
    r_41, r_43, r_170, r_24, r_25, r_26, r_27, r_30, r_32, r_167, r_16, r_17, r_18, r_19, r_20, r_22, r_163, r_159,
    r_160, r_161, cst_226, r_151, r_148, r_144, r_140, r_141, r_142, r_132, r_129, r_125, r_121, r_122, r_123,
    r_113, r_110, r_106, r_102, r_103, r_104, r_94, r_91, r_87, r_83, r_84, r_85, r_75, r_72, r_68, r_64, r_65,
    r_66, r_56, HS1_32, v1803, r_7, r_8, r_12, HS2_4, v1804, r_52, r_5, r_15, v527, r_67, r_69, v483, r_62, r_63,
    v439, r_59, r_60, r_61, r_55, HS0_4, v571, r_71, HS0_5, v615, r_74, HS0_6, v659, r_78, r_79, r_80, HS0_7, v703,
    r_81, r_82, HS0_8, v747, r_86, r_88, HS0_9, v791, r_90, HS0_10, v835, r_93, HS0_11, v879, r_97, r_98, r_99,
    HS0_12, v923, r_100, r_101, HS0_13, v967, r_105, r_107, HS0_14, v1011, r_109, HS0_15, v1055, r_112, HS0_16,
    v1099, r_116, r_117, r_118, HS0_17, v1143, r_119, r_120, HS0_18, v1187, r_124, r_126, HS0_19, v1231, r_128,
    HS0_20, v1275, r_131, HS0_21, v1319, r_135, r_136, r_137, HS0_22, v1363, r_138, r_139, HS0_23, v1407, r_143,
    r_145, HS0_24, v1451, r_147, HS0_25, v1495, r_150, HS0_26, v1539, r_154, r_155, r_156, HS0_27, v1583, r_157,
    r_158, HS0_28, v1627, r_162, r_164, HS0_29, v1671, r_166, HS0_30, v1715, r_169, HS0_31, v1759, r_42, r_171,
    r_31, r_168, r_21, r_152, r_149, r_133, r_130, r_114, r_111, r_95, r_92, r_76, r_73, r_57, HS3_32, v1805, r_11,
    r_14, r_54, r_44, r_172, r_33, r_23, r_153, r_134, r_115, r_96, r_77, r_58, r_1, r_9, r_10, r_176, r_165, r_146,
    r_127, r_108, r_89, r_70, HS4_32, v1836, r_177, r_2, r_178, r, v356, v279, r_40, v202, r_28, r_29, r_173, r_174,
    r_175, L11, L12, L13, L14, L15, L16, L17, L18, LS,
    sl.r_47, sl.r_124, sl.r_84, sl.r_156, sl.r_27, sl.r_88, sl.r_127, sl.v202, sl.r_49, sl.r_11, sl.r_136, sl.r_4,
    sl.r_86, sl.r_87, sl.r_164, sl.r_131, sl.r_112, sl.r_166, sl.v1055, sl.r_163, sl.r_114, sl.v791, sl.r_119,
    sl.r_106, sl.r_125, sl.r_68, sl.v967, sl.r_45, sl.r_17, sl.H16_1, sl.v527, sl.r_78, sl.v395, sl.r_170, sl.r_178,
    sl.r_172, sl.r_159, sl.r_39, sl.v1759, sl.r_150, sl.r_118, sl.r_36, sl.v1583, sl.r_115, sl.r_137, sl.v1803,
    sl.v1836, sl.v1099, sl.r_152, sl.r_61, sl.r_165, sl.r_169, sl.H17_1, sl.HS0_5, sl.v279, sl.HS0_14, sl.r_19,
    sl.v1854, sl.HS0_13, sl.r_95, sl.r_135, sl.r_2, sl.r_16, sl.r_175, sl.HS0_26, sl.HS0_32, sl.r_50, sl.r_123,
    sl.HS2_4, sl.v439, sl.r_147, sl.r_111, sl.r_38, sl.r_69, sl.r_64, sl.r_21, sl.v703, sl.r_37, sl.r_110, sl.HS0_1,
    sl.r_9, sl.HS0_15, sl.cst_15, sl.H18_3, sl.v2, sl.r_72, sl.r_70, sl.r_138, sl.v1539, sl.r_89, sl.r_53, sl.r_129,
    sl.r_167, sl.HS0_9, sl.v1187, sl.r_100, sl.r_157, sl.v1805, sl.r_71, sl.r_161, sl.r_109, sl.r_130, sl.H18_1,
    sl.HS0_31, sl.HS0_29, sl.r_67, sl.r_32, sl.r_35, sl.r_154, sl.r_1, sl.r_96, sl.HS0_7, sl.r_139, sl.v1363,
    sl.r_91, sl.v1143, sl.r_83, sl.r_73, sl.r_23, sl.r_42, sl.H18_2, sl.r_56, sl.r_31, sl.r_155, sl.v1495, sl.r_148,
    sl.r_76, sl.r_57, sl.r_162, sl.v1859, sl.r_24, sl.v483, sl.r_149, sl.v1627, sl.r_145, sl.HS3_32, sl.r_40,
    sl.r_120, sl.HS0_23, sl.r_51, sl.r_132, sl.r_55, sl.r_20, sl.HS0_3, sl.r_29, sl.r_142, sl.r_140, sl.r_8,
    sl.v1319, sl.HS4_32, sl.r_75, sl.r_85, sl.HS0_21, sl.v125, sl.r_92, sl.r_90, sl.r_5, sl.v1407, sl.HS0_24,
    sl.r_98, sl.r_158, sl.v571, sl.v1451, sl.HS0_19, sl.r_10, sl.v1715, sl.r_58, sl.v1231, sl.v835, sl.r_102,
    sl.v923, sl.r_7, sl.v1, sl.r_12, sl.v1011, sl.r_13, sl.r_146, sl.r_63, sl.r, sl.v1275, sl.r_79, sl.v1804,
    sl.r_30, sl.r_43, sl.HS0_10, sl.r_171, sl.HS0_8, sl.r_93, sl.r_14, sl.r_133, sl.HS0_12, sl.r_44, sl.r_134,
    sl.r_108, sl.r_46, sl.v0, sl.r_176, sl.r_60, sl.r_103, sl.r_143, sl.H18_4, sl.r_54, sl.r_62, sl.r_97, sl.HS0_18,
    sl.HS0_11, sl.r_121, sl.HS0_25, sl.r_153, sl.r_22, sl.r_77, sl.r_116, sl.r_48, sl.r_80, sl.r_151, sl.r_66,
    sl.r_122, sl.HS0_20, sl.r_174, sl.r_59, sl.r_141, sl.r_82, sl.HS0_4, sl.r_41, sl.r_25, sl.v615, sl.HS0_27,
    sl.r_28, sl.v747, sl.r_34, sl.r_101, sl.HS1_32, sl.r_104, sl.r_117, sl.v879, sl.v1671, sl.HS0_30, sl.cst_226,
    sl.HS0_28, sl.HS0_16, sl.r_99, sl.r_6, sl.r_126, sl.r_74, sl.r_144, sl.r_113, sl.r_18, sl.v356, sl.HS0_17,
    sl.r_3, sl.r_107, sl.HS0_6, sl.r_94, sl.r_128, sl.HS0_22, sl.r_168, sl.r_65, sl.r_160, sl.r_177, sl.HS0_2,
    sl.v659, sl.r_81, sl.r_33, sl.r_15, sl.r_52, sl.r_173, sl.r_26, sl.r_105] <;> rfl

open kernelRun0_B in
set_option maxHeartbeats 4000000 in
theorem runB_eq (h0 : ¬cond0_0 e.i) (xo16 : Vec Ideal S128x512 .f32) (xo17 : Vec Ideal S1x512 .f32) (xo18 : Vec Ideal S1x1024 .f32) (xs : Vec Ideal S4x256x128 .f32) :
    (runB e h0 xo16 xo17 xo18 xs).1 = L11 (rB e xo16 xo17 xo18 xs) ∧
    (runB e h0 xo16 xo17 xo18 xs).2.1 = L12 (rB e xo16 xo17 xo18 xs) ∧
    (runB e h0 xo16 xo17 xo18 xs).2.2.1 = L13 (rB e xo16 xo17 xo18 xs) ∧
    (runB e h0 xo16 xo17 xo18 xs).2.2.2.1 = L14 (rB e xo16 xo17 xo18 xs) ∧
    (runB e h0 xo16 xo17 xo18 xs).2.2.2.2.1 = L15 (rB e xo16 xo17 xo18 xs) ∧
    (runB e h0 xo16 xo17 xo18 xs).2.2.2.2.2.1 = L16 (rB e xo16 xo17 xo18 xs) ∧
    (runB e h0 xo16 xo17 xo18 xs).2.2.2.2.2.2.1 = L17 (rB e xo16 xo17 xo18 xs) ∧
    (runB e h0 xo16 xo17 xo18 xs).2.2.2.2.2.2.2.1 = L18 (rB e xo16 xo17 xo18 xs) ∧
    (runB e h0 xo16 xo17 xo18 xs).2.2.2.2.2.2.2.2.1 = LS (rB e xo16 xo17 xo18 xs) := by
  unfold runB kernelRun0_B
  dsimp only
  refine ⟨?_, ?_, ?_, ?_, ?_, ?_, ?_, ?_, ?_⟩ <;> dsimp only [rB,
    r_3, r_4, cst_15, r_6, r_46, r_47, r_45, r_48, r_49, r_50, r_51, r_13, r_53, r_35, r_36, r_34, r_37, r_38, r_39,
    r_41, r_43, r_170, r_24, r_25, r_26, r_27, r_30, r_32, r_167, r_16, r_17, r_18, r_19, r_20, r_22, r_163, r_159,
    r_160, r_161, cst_226, r_151, r_148, r_144, r_140, r_141, r_142, r_132, r_129, r_125, r_121, r_122, r_123,
    r_113, r_110, r_106, r_102, r_103, r_104, r_94, r_91, r_87, r_83, r_84, r_85, r_75, r_72, r_68, r_64, r_65,
    r_66, r_56, HS1_32, v1803, r_7, r_8, r_12, HS2_4, v1804, r_52, r_5, r_15, v527, r_67, r_69, v483, r_62, r_63,
    v439, r_59, r_60, r_61, r_55, HS0_4, v571, r_71, HS0_5, v615, r_74, HS0_6, v659, r_78, r_79, r_80, HS0_7, v703,
    r_81, r_82, HS0_8, v747, r_86, r_88, HS0_9, v791, r_90, HS0_10, v835, r_93, HS0_11, v879, r_97, r_98, r_99,
    HS0_12, v923, r_100, r_101, HS0_13, v967, r_105, r_107, HS0_14, v1011, r_109, HS0_15, v1055, r_112, HS0_16,
    v1099, r_116, r_117, r_118, HS0_17, v1143, r_119, r_120, HS0_18, v1187, r_124, r_126, HS0_19, v1231, r_128,
    HS0_20, v1275, r_131, HS0_21, v1319, r_135, r_136, r_137, HS0_22, v1363, r_138, r_139, HS0_23, v1407, r_143,
    r_145, HS0_24, v1451, r_147, HS0_25, v1495, r_150, HS0_26, v1539, r_154, r_155, r_156, HS0_27, v1583, r_157,
    r_158, HS0_28, v1627, r_162, r_164, HS0_29, v1671, r_166, HS0_30, v1715, r_169, HS0_31, v1759, r_42, r_171,
    r_31, r_168, r_21, r_152, r_149, r_133, r_130, r_114, r_111, r_95, r_92, r_76, r_73, r_57, HS3_32, v1805, r_11,
    r_14, r_54, r_44, r_172, r_33, r_23, r_153, r_134, r_115, r_96, r_77, r_58, r_1, r_9, r_10, r_176, r_165, r_146,
    r_127, r_108, r_89, r_70, HS4_32, v1836, r_177, r_2, r_178, r, v356, v279, r_40, v202, r_28, r_29, r_173, r_174,
    r_175, L11, L12, L13, L14, L15, L16, L17, L18, LS,
    sl.v1187, sl.r_11, sl.r_133, sl.r_101, sl.r_110, sl.r_123, sl.HS0_16, sl.r_25, sl.HS0_9, sl.r_112, sl.r_163,
    sl.r_41, sl.r_178, sl.r_4, sl.HS0_7, sl.r_122, sl.v835, sl.HS0_23, sl.r_149, sl.v1363, sl.HS1_32, sl.v1671,
    sl.r_48, sl.v483, sl.r_158, sl.r_8, sl.r_49, sl.r_141, sl.v1275, sl.r_75, sl.r_165, sl.v1759, sl.v1011,
    sl.v1836, sl.r_97, sl.r_24, sl.r_6, sl.r_20, sl.r_72, sl.r_23, sl.r_150, sl.r_124, sl.r_5, sl.r_90, sl.r,
    sl.r_100, sl.r_129, sl.r_103, sl.r_29, sl.r_108, sl.v967, sl.r_120, sl.r_22, sl.r_37, sl.r_159, sl.r_153,
    sl.r_88, sl.r_67, sl.r_54, sl.HS0_24, sl.r_170, sl.v1319, sl.r_139, sl.r_58, sl.r_45, sl.r_78, sl.v1804,
    sl.r_39, sl.r_176, sl.v571, sl.r_138, sl.r_53, sl.r_51, sl.r_102, sl.r_70, sl.r_157, sl.r_79, sl.r_144, sl.r_82,
    sl.r_168, sl.r_96, sl.r_9, sl.HS0_5, sl.HS0_6, sl.r_15, sl.r_26, sl.r_89, sl.r_65, sl.r_117, sl.r_126,
    sl.HS0_10, sl.HS0_29, sl.r_1, sl.r_128, sl.v527, sl.r_137, sl.r_132, sl.r_169, sl.r_121, sl.r_162, sl.HS0_31,
    sl.r_173, sl.r_99, sl.r_80, sl.HS0_30, sl.r_152, sl.HS0_14, sl.HS0_27, sl.v791, sl.r_147, sl.r_85, sl.r_18,
    sl.r_125, sl.cst_15, sl.HS4_32, sl.HS0_11, sl.v703, sl.HS2_4, sl.r_148, sl.r_10, sl.v615, sl.r_115, sl.v279,
    sl.r_119, sl.r_134, sl.r_171, sl.r_76, sl.r_2, sl.v1, sl.r_130, sl.r_127, sl.r_55, sl.r_74, sl.r_43, sl.HS0_12,
    sl.r_56, sl.r_81, sl.r_136, sl.r_66, sl.v1805, sl.r_118, sl.HS0_15, sl.v1627, sl.r_68, sl.v356, sl.r_177,
    sl.r_91, sl.v747, sl.HS3_32, sl.r_34, sl.v2, sl.r_19, sl.r_28, sl.r_69, sl.v439, sl.r_84, sl.v1143, sl.r_52,
    sl.r_172, sl.r_57, sl.r_42, sl.v1099, sl.r_111, sl.r_174, sl.v879, sl.r_47, sl.r_21, sl.r_83, sl.HS0_18,
    sl.HS0_19, sl.HS0_20, sl.v659, sl.r_160, sl.HS0_4, sl.r_86, sl.r_104, sl.v1803, sl.r_77, sl.r_7, sl.v1407,
    sl.HS0_13, sl.r_145, sl.r_94, sl.HS0_8, sl.r_156, sl.r_93, sl.v1451, sl.r_60, sl.r_35, sl.r_131, sl.r_142,
    sl.v1539, sl.HS0_26, sl.r_27, sl.HS0_22, sl.r_95, sl.r_71, sl.r_151, sl.r_31, sl.r_36, sl.r_166, sl.r_14,
    sl.r_135, sl.v202, sl.v923, sl.r_64, sl.r_12, sl.r_146, sl.v0, sl.HS0_25, sl.r_116, sl.HS0_21, sl.r_44,
    sl.r_161, sl.r_143, sl.r_73, sl.r_17, sl.r_107, sl.r_175, sl.r_105, sl.r_33, sl.r_140, sl.r_62, sl.r_114,
    sl.r_16, sl.r_38, sl.r_46, sl.r_63, sl.r_13, sl.r_30, sl.r_106, sl.v1231, sl.r_167, sl.r_154, sl.v1495, sl.r_98,
    sl.r_92, sl.r_61, sl.HS0_28, sl.v1055, sl.r_3, sl.r_59, sl.HS0_17, sl.cst_226, sl.r_155, sl.r_113, sl.r_50,
    sl.r_109, sl.r_32, sl.v1715, sl.r_40, sl.v1583, sl.r_164, sl.r_87]

end Cert.KernelIdeal.Body
-- ==== Proof.KerShapes.lean ====
/-
  The kernel's operations on arrays of real numbers: products, slices, row and column broadcasts, sums, the masks that
  keep a chunk's own rows, and loads of rectangles.
-/
module

public import proofs.«01_k».proof.Proof.KerLink
public import proofs.«01_k».proof.Proof.Shapes
public import Idealize.ShloMosaic.Lib.Pipeline.ValueKit
@[expose] public section

set_option maxRecDepth 16384

noncomputable section

namespace Cert.KernelIdeal.Body

open Idealize.ShloMosaic Cert.KernelIdeal.Gen Cert.Lift

theorem mm1 {φ ψ : FTy} (f : Fin 32 → Fin 256 → ℝ) (g : Fin 256 → Fin 128 → ℝ) :
    (matmul (φ₁ := φ) (φ₂ := ψ) dot_S32x256_S256x128_S32x128_1_0_0_1_n_n none (up2 f : FVec Ideal S32x256 φ) (up2 g : FVec Ideal S256x128 ψ) (constant S32x128 .f32 0x00000000#32) : FVec Ideal S32x128 .f32)
      = up2 fun i j => ∑ s : Fin 256, f i s * g s j := ext2 fun i j => by
  pointwise
  exact sum_coe_mul _ _
theorem mm2 {φ ψ : FTy} (f : Fin 32 → Fin 128 → ℝ) (g : Fin 256 → Fin 128 → ℝ) :
    (matmul (φ₁ := φ) (φ₂ := ψ) dot_S32x128_S256x128_S32x256_1_1_0_0_n_n none (up2 f : FVec Ideal S32x128 φ) (up2 g : FVec Ideal S256x128 ψ) (constant S32x256 .f32 0x00000000#32) : FVec Ideal S32x256 .f32)
      = up2 fun i j => ∑ s : Fin 128, f i s * g j s := ext2 fun i j => by
  pointwise
  exact sum_coe_mul _ _
theorem mm3 {φ ψ : FTy} (f : Fin 32 → Fin 256 → ℝ) (g : Fin 32 → Fin 128 → ℝ) :
    (matmul (φ₁ := φ) (φ₂ := ψ) dot_S32x256_S32x128_S256x128_0_0_1_1_n_n none (up2 f : FVec Ideal S32x256 φ) (up2 g : FVec Ideal S32x128 ψ) (constant S256x128 .f32 0x00000000#32) : FVec Ideal S256x128 .f32)
      = up2 fun i j => ∑ s : Fin 32, f s i * g s j := ext2 fun i j => by
  pointwise
  exact sum_coe_mul _ _
theorem mm4 {φ ψ : FTy} (f : Fin 256 → Fin 256 → ℝ) (g : Fin 256 → Fin 512 → ℝ) :
    (matmul (φ₁ := φ) (φ₂ := ψ) dot_S256x256_S256x512_S256x512_1_0_0_1_n_n none (up2 f : FVec Ideal S256x256 φ) (up2 g : FVec Ideal S256x512 ψ) (constant S256x512 .f32 0x00000000#32) : FVec Ideal S256x512 .f32)
      = up2 fun i j => ∑ s : Fin 256, f i s * g s j := ext2 fun i j => by
  pointwise
  exact sum_coe_mul _ _
theorem mm5 {φ ψ : FTy} (f : Fin 256 → Fin 256 → ℝ) (g : Fin 256 → Fin 256 → ℝ) :
    (matmul (φ₁ := φ) (φ₂ := ψ) dot_S256x256_S256x256_S256x256_1_1_0_0_n_n none (up2 f : FVec Ideal S256x256 φ) (up2 g : FVec Ideal S256x256 ψ) (constant S256x256 .f32 0x00000000#32) : FVec Ideal S256x256 .f32)
      = up2 fun i j => ∑ s : Fin 256, f i s * g j s := ext2 fun i j => by
  pointwise
  exact sum_coe_mul _ _
theorem mm6 {φ ψ : FTy} (f : Fin 256 → Fin 256 → ℝ) (g : Fin 256 → Fin 128 → ℝ) :
    (matmul (φ₁ := φ) (φ₂ := ψ) dot_S256x256_S256x128_S256x128_1_0_0_1_n_n none (up2 f : FVec Ideal S256x256 φ) (up2 g : FVec Ideal S256x128 ψ) (constant S256x128 .f32 0x00000000#32) : FVec Ideal S256x128 .f32)
      = up2 fun i j => ∑ s : Fin 256, f i s * g s j := ext2 fun i j => by
  pointwise
  exact sum_coe_mul _ _
theorem mm7 {φ ψ : FTy} (f : Fin 256 → Fin 256 → ℝ) (g : Fin 256 → Fin 128 → ℝ) :
    (matmul (φ₁ := φ) (φ₂ := ψ) dot_S256x256_S256x128_S256x128_0_0_1_1_n_n none (up2 f : FVec Ideal S256x256 φ) (up2 g : FVec Ideal S256x128 ψ) (constant S256x128 .f32 0x00000000#32) : FVec Ideal S256x128 .f32)
      = up2 fun i j => ∑ s : Fin 256, f s i * g s j := ext2 fun i j => by
  pointwise
  exact sum_coe_mul _ _
theorem mm8 {φ ψ : FTy} (f : Fin 256 → Fin 128 → ℝ) (g : Fin 256 → Fin 128 → ℝ) :
    (matmul (φ₁ := φ) (φ₂ := ψ) dot_S256x128_S256x128_S256x256_1_1_0_0_n_n none (up2 f : FVec Ideal S256x128 φ) (up2 g : FVec Ideal S256x128 ψ) (constant S256x256 .f32 0x00000000#32) : FVec Ideal S256x256 .f32)
      = up2 fun i j => ∑ s : Fin 128, f i s * g j s := ext2 fun i j => by
  pointwise
  exact sum_coe_mul _ _
theorem mm9 {φ ψ : FTy} (f : Fin 256 → Fin 256 → ℝ) (g : Fin 256 → Fin 256 → ℝ) :
    (matmul (φ₁ := φ) (φ₂ := ψ) dot_S256x256_S256x256_S256x256_0_0_1_1_n_n none (up2 f : FVec Ideal S256x256 φ) (up2 g : FVec Ideal S256x256 ψ) (constant S256x256 .f32 0x00000000#32) : FVec Ideal S256x256 .f32)
      = up2 fun i j => ∑ s : Fin 256, f s i * g s j := ext2 fun i j => by
  pointwise
  exact sum_coe_mul _ _
theorem mm10 {φ ψ : FTy} (f : Fin 256 → Fin 512 → ℝ) (g : Fin 128 → Fin 512 → ℝ) :
    (matmul (φ₁ := φ) (φ₂ := ψ) dot_S256x512_S128x512_S256x128_1_1_0_0_n_n none (up2 f : FVec Ideal S256x512 φ) (up2 g : FVec Ideal S128x512 ψ) (constant S256x128 .f32 0x00000000#32) : FVec Ideal S256x128 .f32)
      = up2 fun i j => ∑ s : Fin 512, f i s * g j s := ext2 fun i j => by
  pointwise
  exact sum_coe_mul _ _
theorem mm11 {φ ψ : FTy} (f : Fin 256 → Fin 128 → ℝ) (g : Fin 256 → Fin 512 → ℝ) :
    (matmul (φ₁ := φ) (φ₂ := ψ) dot_S256x128_S256x512_S128x512_0_0_1_1_n_n none (up2 f : FVec Ideal S256x128 φ) (up2 g : FVec Ideal S256x512 ψ) (constant S128x512 .f32 0x00000000#32) : FVec Ideal S128x512 .f32)
      = up2 fun i j => ∑ s : Fin 256, f s i * g s j := ext2 fun i j => by
  pointwise
  exact sum_coe_mul _ _
theorem mm12 {φ ψ : FTy} (f : Fin 256 → Fin 128 → ℝ) (g : Fin 128 → Fin 512 → ℝ) :
    (matmul (φ₁ := φ) (φ₂ := ψ) dot_S256x128_S128x512_S256x512_1_0_0_1_n_n none (up2 f : FVec Ideal S256x128 φ) (up2 g : FVec Ideal S128x512 ψ) (constant S256x512 .f32 0x00000000#32) : FVec Ideal S256x512 .f32)
      = up2 fun i j => ∑ s : Fin 128, f i s * g s j := ext2 fun i j => by
  pointwise
  exact sum_coe_mul _ _

/-- Slices of tables: a head's columns, a chunk's rows. -/
theorem slA (f : Fin 256 → Fin 512 → ℝ) (q : ℕ) (h : S256x512.Slices ![0, q] S256x128) : extractStridedSlice S256x128 ![0, q] (up2 f) h
    = up2 fun (i : Fin 256) (j : Fin 128) => f i ⟨q + j.val, lt_of_lt_of_le (Nat.add_lt_add_left j.isLt q) (h.2 1)⟩ := ext2 fun i j => by
  simp only [extractStridedSlice, up2]
  exact congrArg (fun a : Fin 256 => ((f a _ : ℝ) : EReal)) (Fin.ext (Nat.zero_add _))
theorem slB (f : Fin 256 → Fin 512 → ℝ) (p q : ℕ) (h : S256x512.Slices ![p, q] S32x128) : extractStridedSlice S32x128 ![p, q] (up2 f) h
    = up2 fun (i : Fin 32) (j : Fin 128) => f ⟨p + i.val, lt_of_lt_of_le (Nat.add_lt_add_left i.isLt p) (h.2 0)⟩
        ⟨q + j.val, lt_of_lt_of_le (Nat.add_lt_add_left j.isLt q) (h.2 1)⟩ := rfl
theorem slC (f : Fin 256 → Fin 512 → ℝ) (p q : ℕ) (h : S256x512.Slices ![p, q] S1x128) : extractStridedSlice S1x128 ![p, q] (up2 f) h
    = up2 fun (i : Fin 1) (j : Fin 128) => f ⟨p + i.val, lt_of_lt_of_le (Nat.add_lt_add_left i.isLt p) (h.2 0)⟩
        ⟨q + j.val, lt_of_lt_of_le (Nat.add_lt_add_left j.isLt q) (h.2 1)⟩ := rfl
theorem slD (f : Fin 256 → Fin 256 → ℝ) (p : ℕ) (h : S256x256.Slices ![p, 0] S32x256) : extractStridedSlice S32x256 ![p, 0] (up2 f) h
    = up2 fun (i : Fin 32) (j : Fin 256) => f ⟨p + i.val, lt_of_lt_of_le (Nat.add_lt_add_left i.isLt p) (h.2 0)⟩ j := ext2 fun i j => by
  simp only [extractStridedSlice, up2]
  exact congrArg (fun a : Fin 256 => ((f _ a : ℝ) : EReal)) (Fin.ext (Nat.zero_add _))
theorem slE (f : Fin 256 → Fin 128 → ℝ) (p : ℕ) (h : S256x128.Slices ![p, 0] S32x128) : extractStridedSlice S32x128 ![p, 0] (up2 f) h
    = up2 fun (i : Fin 32) (j : Fin 128) => f ⟨p + i.val, lt_of_lt_of_le (Nat.add_lt_add_left i.isLt p) (h.2 0)⟩ j := ext2 fun i j => by
  simp only [extractStridedSlice, up2]
  exact congrArg (fun a : Fin 128 => ((f _ a : ℝ) : EReal)) (Fin.ext (Nat.zero_add _))
theorem ld2 {a b n m : ℕ} (f : Fin a → Fin b → ℝ) (p q : ℕ) (inb : ∀ c, ![p, q] c + ![n, m] c ≤ (⟨2, ![a, b]⟩ : Shape).size c) :
    View.ld (Val := fun _ : EltTy => EReal) (e' := .f32) (up2 f) (Rect.unit (s := ⟨2, ![a, b]⟩) ![p, q] ![n, m] inb)
      = up2 fun i j => f ⟨p + i.val, lt_of_lt_of_le (Nat.add_lt_add_left i.isLt p) (inb 0)⟩
          ⟨q + j.val, lt_of_lt_of_le (Nat.add_lt_add_left j.isLt q) (inb 1)⟩ := ext2 fun i j =>
  View.ld_unit_apply_of (Val := fun _ : EltTy => EReal) (e := .f32) _ _ _ _ _ (ix2 (⟨p + i.val, lt_of_lt_of_le (Nat.add_lt_add_left i.isLt p) (inb 0)⟩ : Fin a)
    (⟨q + j.val, lt_of_lt_of_le (Nat.add_lt_add_left j.isLt q) (inb 1)⟩ : Fin b)) fun c => by
      match c with
      | 0 => rfl
      | 1 => rfl

theorem bcR32x128 (f : Fin 1 → Fin 128 → ℝ) (h : S1x128.Broadcasts S32x128) :
    broadcastTo S32x128 (up2 f) h = up2 fun _ j => f 0 j := ext2 fun i j => by pointwise; rfl
theorem bcR256x128 (f : Fin 1 → Fin 128 → ℝ) (h : S1x128.Broadcasts S256x128) :
    broadcastTo S256x128 (up2 f) h = up2 fun _ j => f 0 j := ext2 fun i j => by pointwise; rfl
theorem bcR256x256 (f : Fin 1 → Fin 256 → ℝ) (h : S1x256.Broadcasts S256x256) :
    broadcastTo S256x256 (up2 f) h = up2 fun _ j => f 0 j := ext2 fun i j => by pointwise; rfl
theorem bcR256x512 (f : Fin 1 → Fin 512 → ℝ) (h : S1x512.Broadcasts S256x512) :
    broadcastTo S256x512 (up2 f) h = up2 fun _ j => f 0 j := ext2 fun i j => by pointwise; rfl
theorem bcC (f : Fin 256 → Fin 1 → ℝ) (h : S256x1.Broadcasts S256x256) :
    broadcastTo S256x256 (up2 f) h = up2 fun i _ => f i 0 := ext2 fun i j => by pointwise; rfl
theorem row128 (f : Fin 128 → ℝ) (h) : shapeCast S1x128 (up1 f) h = up2 fun _ j => f j := ext2 fun i j => by pointwise; rfl
theorem row256 (f : Fin 256 → ℝ) (h) : shapeCast S1x256 (up1 f) h = up2 fun _ j => f j := ext2 fun i j => by pointwise; rfl
theorem row512 (f : Fin 512 → ℝ) (h) : shapeCast S1x512 (up1 f) h = up2 fun _ j => f j := ext2 fun i j => by pointwise; rfl
theorem col256 (f : Fin 256 → ℝ) (h) : shapeCast S256x1 (up1 f) h = up2 fun i _ => f i := ext2 fun i j => by pointwise; rfl
theorem cast32 (f : Fin 256 → Fin 128 → ℝ) (h) : shapeCast S1x256x128 (up2 f) h = up3 fun _ j k => f j k := ext3 fun i j k => by pointwise; rfl
theorem cast23 (f : Fin 1 → Fin 256 → Fin 128 → ℝ) (h) : shapeCast S256x128 (up3 f) h = up2 fun j k => f 0 j k := ext2 fun i j => by pointwise; rfl
theorem cast24 (f : Fin 1 → Fin 1 → Fin 256 → Fin 128 → ℝ) (h) : shapeCast S256x128 (up4 f) h = up2 fun j k => f 0 0 j k := ext2 fun i j => by pointwise; rfl

theorem rd1 (f : Fin 256 → Fin 128 → ℝ) (h) :
    (multiReduction (φ := .f32) .add [0] S128 (up2 f : FVec Ideal S256x128 .f32) 0x00000000#32 h (.inl rfl) rfl : FVec Ideal S128 .f32)
      = up1 fun i => ∑ s, f s i := ext1 fun i => by
  pointwise
  exact sum_coe _
theorem rd2 (f : Fin 256 → Fin 256 → ℝ) (h) :
    (multiReduction (φ := .f32) .add [0] S256 (up2 f : FVec Ideal S256x256 .f32) 0x00000000#32 h (.inl rfl) rfl : FVec Ideal S256 .f32)
      = up1 fun i => ∑ s, f s i := ext1 fun i => by
  pointwise
  exact sum_coe _
theorem rd3 (f : Fin 256 → Fin 512 → ℝ) (h) :
    (multiReduction (φ := .f32) .add [0] S512 (up2 f : FVec Ideal S256x512 .f32) 0x00000000#32 h (.inl rfl) rfl : FVec Ideal S512 .f32)
      = up1 fun i => ∑ s, f s i := ext1 fun i => by
  pointwise
  exact sum_coe _
theorem rd4 (f : Fin 256 → Fin 256 → ℝ) (h) :
    (multiReduction (φ := .f32) .add [1] S256 (up2 f : FVec Ideal S256x256 .f32) 0x00000000#32 h (.inl rfl) rfl : FVec Ideal S256 .f32)
      = up1 fun i => ∑ s, f i s := ext1 fun i => by
  pointwise
  exact sum_coe _

/-- Rows of one chunk; of one chunk and not after; of one chunk and not before. -/
def inS (i j : Fin 256) : Bool := decide (i.val / 32 = j.val / 32)
def inL (i j : Fin 256) : Bool := decide (i.val / 32 = j.val / 32 ∧ j.val ≤ i.val)
def inU (i j : Fin 256) : Bool := decide (i.val / 32 = j.val / 32 ∧ i.val ≤ j.val)

theorem nat32 : ∀ a : Fin 256, (BitVec.ofNat 32 a.val).toInt = (a.val : ℤ) ∧ (IntOp.shrui .vector (BitVec.ofNat 32 a.val) 5#32) = BitVec.ofNat 32 (a.val / 32) := by
  decide +kernel
theorem eq32 : ∀ a b : Fin 256, Scalar.cmpi .eq (IntOp.shrui .vector (BitVec.ofNat 32 a.val) 5#32) (IntOp.shrui .vector (BitVec.ofNat 32 b.val) 5#32)
    = BitVec.ofBool (inS a b) := by
  intro a b
  rw [(nat32 a).2, (nat32 b).2]
  refine congrArg BitVec.ofBool (Bool.eq_iff_iff.mpr ?_)
  rw [inS, beq_iff_eq, decide_eq_true_eq]
  constructor
  · intro h
    have := congrArg BitVec.toNat h
    rw [BitVec.toNat_ofNat, BitVec.toNat_ofNat, Nat.mod_eq_of_lt (by omega), Nat.mod_eq_of_lt (by omega)] at this
    exact this
  · intro h
    rw [h]
theorem le32 (a b : Fin 256) : IntOp.cmpi .sle (BitVec.ofNat 32 a.val) (BitVec.ofNat 32 b.val) = BitVec.ofBool (decide (a.val ≤ b.val)) := by
  have el : ∀ u v : BitVec 32, IntOp.cmpi .sle u v = BitVec.ofBool (decide (u.toInt ≤ v.toInt)) := fun _ _ => rfl
  rw [el, (nat32 a).1, (nat32 b).1]
  exact congrArg BitVec.ofBool (decide_eq_decide.mpr Int.ofNat_le)
theorem and1 (p q : Bool) : (BitVec.ofBool p &&& BitVec.ofBool q) = BitVec.ofBool (p && q) := by cases p <;> cases q <;> rfl

theorem mS : k0_pay10 = fun x => BitVec.ofBool (inS (x 0) (x 1)) := by
  funext x
  rw [k0_pay10, cmpi_apply, shrui_apply, shrui_apply, iota_apply, iota_apply]
  simp only [List.foldl_cons, List.foldl_nil, Nat.zero_mul, Nat.zero_add]
  exact eq32 (x 0) (x 1)
theorem mL : k0_pay11 = fun x => BitVec.ofBool (inL (x 0) (x 1)) := by
  funext x
  rw [k0_pay11, andi_apply, cmpi_apply, iota_apply, iota_apply, mS]
  simp only [List.foldl_cons, List.foldl_nil, Nat.zero_mul, Nat.zero_add]
  rw [le32 (x 1) (x 0)]
  refine (and1 (inS (x 0) (x 1)) _).trans ?_
  exact congrArg BitVec.ofBool (Bool.decide_and _ _).symm
theorem ofb {w : BitVec 32} {r : ℝ} (h : Ideal.ofBits .f32 w = (r : EReal)) : (FloatOps.ofBits .f32 w : Ideal .f32) = ((r : ℝ) : EReal) := h
theorem m12 : (k0_pay12 : FVec Ideal S256x256 .bf16) = up2 fun i j => if inS i j then 1 else 0 := by
  simp only [k0_pay12, mS, ofb w_one, ofb w_zero, splat2, sel2 inS, trunc_2]
theorem m13 : (k0_pay13 : FVec Ideal S256x256 .bf16) = up2 fun i j => if inL i j then 1 else 0 := by
  simp only [k0_pay13, mL, ofb w_one, ofb w_zero, splat2, sel2 inL, trunc_2]
theorem m14 : (k0_pay14 : FVec Ideal S256x256 .bf16) = up2 fun i j => if inU i j then 1 else 0 := by
  have e : andi k0_pay10 (cmpi .sle (iota .tc S256x256 32 [0] iota_S256x256_d0_w32) (iota .tc S256x256 32 [1] iota_S256x256_d1_w32))
      = fun x => BitVec.ofBool (inU (x 0) (x 1)) := by
    funext x
    rw [andi_apply, cmpi_apply, iota_apply, iota_apply, mS]
    simp only [List.foldl_cons, List.foldl_nil, Nat.zero_mul, Nat.zero_add]
    rw [le32 (x 0) (x 1)]
    refine (and1 (inS (x 0) (x 1)) _).trans ?_
    exact congrArg BitVec.ofBool (Bool.decide_and _ _).symm
  simp only [k0_pay14, e, ofb w_one, ofb w_zero, splat2, sel2 inU, trunc_2]

/-- The logarithm and the reciprocal root at the arguments they have here. -/
theorem log_up {a b : ℕ} (f : Fin a → Fin b → ℝ) {φ : FTy} : (log (up2 fun i j => 1 + Real.exp (f i j)) : FVec Ideal ⟨2, ![a, b]⟩ φ)
    = up2 fun i j => Real.log (1 + Real.exp (f i j)) := log2 _ fun _ _ => by positivity
theorem sig_up {a b : ℕ} (f g : Fin a → Fin b → ℝ) {φ : FTy} : (divf (up2 g) (up2 fun i j => 1 + Real.exp (f i j)) : FVec Ideal ⟨2, ![a, b]⟩ φ)
    = up2 fun i j => g i j / (1 + Real.exp (f i j)) := div2 _ _ fun _ _ => by positivity
theorem mean_up {a b : ℕ} (f : Fin a → Fin b → ℝ) {φ : FTy} : (divf (up2 f) (up2 fun _ _ => 256) : FVec Ideal ⟨2, ![a, b]⟩ φ)
    = up2 fun i j => f i j / 256 := div2 _ _ fun _ _ => by norm_num
theorem rs_up {a b n : ℕ} (f : Fin a → Fin n → ℝ) {φ : FTy} : (rsqrt (up2 fun i (_ : Fin b) => (∑ s, f i s * f i s) / 256 + eps) : FVec Ideal ⟨2, ![a, b]⟩ φ)
    = up2 fun i _ => (√((∑ s, f i s * f i s) / 256 + eps))⁻¹ := rsqrt2 _ fun i _ => by
  have h : 0 ≤ ∑ s, f i s * f i s := Finset.sum_nonneg fun s _ => mul_self_nonneg _
  have := eps_pos
  positivity

end Cert.KernelIdeal.Body
-- ==== Proof.KerVal.lean ====
/-
  One block of the backward kernel on real numbers: the words over what it reads are tables of real numbers.
-/
module

public import proofs.«01_k».proof.Proof.KerShapes
@[expose] public section

set_option maxRecDepth 16384

noncomputable section

namespace Cert.KernelIdeal.Body

open Idealize.ShloMosaic Cert.KernelIdeal.Gen Cert.Lift

/-- What a block reads, as real numbers; `st n h` is the state before chunk `n`, `G h` the gradient with respect to the state after it. -/
structure Blk where
  q : Fin 256 → Fin 512 → ℝ
  k : Fin 256 → Fin 512 → ℝ
  v : Fin 256 → Fin 1024 → ℝ
  r : Fin 256 → Fin 1024 → ℝ
  al : Fin 256 → Fin 128 → ℝ
  wa : Fin 128 → Fin 512 → ℝ
  ba : Fin 512 → ℝ
  gh : Fin 1024 → ℝ
  op : Fin 256 → Fin 1024 → ℝ
  st : ℕ → ℕ → Fin 256 → Fin 128 → ℝ
  ct : Fin 256 → Fin 1024 → ℝ
  G : ℕ → Fin 256 → Fin 128 → ℝ
  wacc : Fin 128 → Fin 512 → ℝ
  bacc : Fin 512 → ℝ
  n : ℕ → Fin 256 → ℝ

/-- The reads are these numbers. -/
structure Of (R : Reads) (x : Blk) : Prop where
  q : ∀ inb, R.q (Rect.unit (s := S256x512) ![0, 0] S256x512.size inb).toLoadRect = up2 x.q
  k : ∀ inb, R.k (Rect.unit (s := S256x512) ![0, 0] S256x512.size inb).toLoadRect = up2 x.k
  v : ∀ (p : ℕ) (inb : ∀ a, (![0, p] : Fin 2 → ℕ) a + S256x256.size a ≤ S256x1024.size a), R.v (Rect.unit (s := S256x1024) ![0, p] S256x256.size inb).toLoadRect
    = up2 fun (i : Fin 256) (j : Fin 256) => x.v i ⟨p + j.val, lt_of_lt_of_le (Nat.add_lt_add_left j.isLt p) (inb 1)⟩
  r : ∀ (p : ℕ) (inb : ∀ a, (![0, p] : Fin 2 → ℕ) a + S256x256.size a ≤ S256x1024.size a), R.r (Rect.unit (s := S256x1024) ![0, p] S256x256.size inb).toLoadRect
    = up2 fun (i : Fin 256) (j : Fin 256) => x.r i ⟨p + j.val, lt_of_lt_of_le (Nat.add_lt_add_left j.isLt p) (inb 1)⟩
  op : ∀ (p : ℕ) (inb : ∀ a, (![0, p] : Fin 2 → ℕ) a + S256x256.size a ≤ S256x1024.size a), R.op (Rect.unit (s := S256x1024) ![0, p] S256x256.size inb).toLoadRect
    = up2 fun (i : Fin 256) (j : Fin 256) => x.op i ⟨p + j.val, lt_of_lt_of_le (Nat.add_lt_add_left j.isLt p) (inb 1)⟩
  ct : ∀ (p : ℕ) (inb : ∀ a, (![0, p] : Fin 2 → ℕ) a + S256x256.size a ≤ S256x1024.size a), R.ct (Rect.unit (s := S256x1024) ![0, p] S256x256.size inb).toLoadRect
    = up2 fun (i : Fin 256) (j : Fin 256) => x.ct i ⟨p + j.val, lt_of_lt_of_le (Nat.add_lt_add_left j.isLt p) (inb 1)⟩
  al : ∀ inb, R.al (Rect.unit (s := S256x128) ![0, 0] S256x128.size inb).toLoadRect = up2 x.al
  wa : ∀ inb, R.wa (Rect.unit (s := S128x512) ![0, 0] S128x512.size inb).toLoadRect = up2 x.wa
  ba : ∀ inb, R.ba (Rect.unit (s := S1x512) ![0, 0] S1x512.size inb).toLoadRect = up2 fun (_ : Fin 1) => x.ba
  gh : ∀ (p : ℕ) (inb : ∀ a, (![0, p] : Fin 2 → ℕ) a + S1x256.size a ≤ S1x1024.size a), R.gh (Rect.unit (s := S1x1024) ![0, p] S1x256.size inb).toLoadRect
    = up2 fun (_ : Fin 1) (j : Fin 256) => x.gh ⟨p + j.val, lt_of_lt_of_le (Nat.add_lt_add_left j.isLt p) (inb 1)⟩
  st : ∀ (n h : ℕ) (inb : ∀ a, (![n, h, 0, 0] : Fin 4 → ℕ) a + S1x1x256x128.size a ≤ S8x4x256x128.size a), R.st (Rect.unit (s := S8x4x256x128) ![n, h, 0, 0] S1x1x256x128.size inb).toLoadRect
    = up4 fun (_ : Fin 1) (_ : Fin 1) j k => x.st n h j k
  G0 : R.G0 = up3 fun (_ : Fin 1) j k => x.G 0 j k
  G1 : R.G1 = up3 fun (_ : Fin 1) j k => x.G 1 j k
  G2 : R.G2 = up3 fun (_ : Fin 1) j k => x.G 2 j k
  G3 : R.G3 = up3 fun (_ : Fin 1) j k => x.G 3 j k
  wacc : R.wacc = up2 x.wacc
  bacc : R.bacc = up2 fun (_ : Fin 1) => x.bacc
  n0 : R.n0 = up2 fun (_ : Fin 1) j => x.n 0 j
  n1 : R.n1 = up2 fun (_ : Fin 1) j => x.n 1 j
  n2 : R.n2 = up2 fun (_ : Fin 1) j => x.n 2 j
  n3 : R.n3 = up2 fun (_ : Fin 1) j => x.n 3 j

section
variable (x : Blk)

def z (i : Fin 256) (s : Fin 512) : ℝ := (∑ t, x.al i t * x.wa t s) + x.ba s
def la (i : Fin 256) (s : Fin 512) : ℝ := (min (z x i s) 0 - Real.log (1 + Real.exp (0 - |z x i s|))) * (1/16)
def bc (i : Fin 256) (s : Fin 512) : ℝ := ∑ t, (if inL i t then 1 else 0) * la x t s
def bl (i : Fin 256) (s : Fin 512) : ℝ := ∑ t, (if inS i t then 1 else 0) * la x t s
def eb (i : Fin 256) (s : Fin 512) : ℝ := Real.exp (bc x i s)
def en (i : Fin 256) (s : Fin 512) : ℝ := Real.exp (0 - bc x i s)
def es (i : Fin 256) (s : Fin 512) : ℝ := Real.exp (bl x i s - bc x i s)
def dl (i : Fin 256) (s : Fin 512) : ℝ := Real.exp (bl x i s)
def qd (i : Fin 256) (s : Fin 512) : ℝ := x.q i s * sc * eb x i s
def ki (i : Fin 256) (s : Fin 512) : ℝ := x.k i s * en x i s
def ks (i : Fin 256) (s : Fin 512) : ℝ := x.k i s * es x i s

/-- Column `d` of head `h`, of the keys and of the values; row `i` of the chunk reached after `k` others. -/
def cK (h : Fin 4) (d : Fin 128) : Fin 512 := ⟨128 * h.val + d.val, by omega⟩
def cV (h : Fin 4) (d : Fin 256) : Fin 1024 := ⟨256 * h.val + d.val, by omega⟩
def rw_ (k : ℕ) (i : Fin 32) : Fin 256 := ⟨32 * (7 - k) + i.val, by omega⟩

variable (h : Fin 4)
def rs (i : Fin 256) : ℝ := (√((∑ s, x.op i (cV h s) * x.op i (cV h s)) / 256 + eps))⁻¹
def oh (i : Fin 256) (v : Fin 256) : ℝ := x.op i (cV h v) * rs x h i
def sg (i : Fin 256) (v : Fin 256) : ℝ := 1 / (1 + Real.exp (0 - x.r i (cV h v)))
def don (i : Fin 256) (v : Fin 256) : ℝ := x.ct i (cV h v) * (x.r i (cV h v) * sg x h i v)
def dow (i : Fin 256) (v : Fin 256) : ℝ :=
  rs x h i * (don x h i v * x.gh (cV h v) - oh x h i v * ((∑ s, don x h i s * x.gh (cV h s) * oh x h i s) / 256))
def drw (i : Fin 256) (v : Fin 256) : ℝ :=
  x.ct i (cV h v) * (oh x h i v * x.gh (cV h v)) * (sg x h i v * (1 + x.r i (cV h v) * (1 - sg x h i v)))
def pm (i j : Fin 256) : ℝ := if inL i j then ∑ s, dow x h i s * x.v j (cV h s) else 0
def sm (i j : Fin 256) : ℝ := if inL i j then ∑ s, qd x i (cK h s) * ki x j (cK h s) else 0
def dq0 (i : Fin 256) (d : Fin 128) : ℝ := ∑ j, pm x h i j * ki x j (cK h d)
def dk0 (i : Fin 256) (d : Fin 128) : ℝ := ∑ j, pm x h j i * qd x j (cK h d)
def dv0 (i : Fin 256) (v : Fin 256) : ℝ := ∑ j, sm x h j i * dow x h j v

/-- The gradient with respect to the state after `k` chunks, from the last back. -/
def gr : ℕ → Fin 256 → Fin 128 → ℝ
  | 0 => fun v d => x.G h v d
  | k + 1 => fun v d => dl x (rw_ k 0) (cK h d) * gr k v d + ∑ c, dow x h (rw_ k c) v * qd x (rw_ k c) (cK h d)

def tdq (k : ℕ) (i : Fin 32) (d : Fin 128) : ℝ := dq0 x h (rw_ k i) d + ∑ v, dow x h (rw_ k i) v * x.st (7 - k) h v d
def tdv (k : ℕ) (i : Fin 32) (v : Fin 256) : ℝ := dv0 x h (rw_ k i) v + ∑ d, ks x (rw_ k i) (cK h d) * gr x h k v d
def tdk (k : ℕ) (i : Fin 32) (d : Fin 128) : ℝ := ∑ v, x.v (rw_ k i) (cV h v) * gr x h k v d
def tdd (k : ℕ) (_ : Fin 32) (d : Fin 128) : ℝ := (∑ v, gr x h k v d * x.st (7 - k) h v d) * dl x (rw_ k 0) (cK h d)
end

variable {R : Reads} {x : Blk}

theorem t_r_2 (hx : Of R x) : r_2 R = up2 (z x) := by
  simp only [r_2, k0_pay15, add2, splat2, bcR32x128, bcR256x128, bcR256x256, bcR256x512, bcC, ofb w_zero, mm12, hx.al, hx.wa, hx.ba] <;> rfl
theorem t_r_3 (hx : Of R x) : r_3 R = up2 fun i s => min (z x i s) 0 := by
  simp only [r_3, k0_pay16, k0_pay15, add2, min2, splat2, bcR32x128, bcR256x128, bcR256x256, bcR256x512, bcC, ofb w_zero, mm12, hx.al, hx.wa, hx.ba] <;> rfl
theorem t_r_4 (hx : Of R x) : r_4 R = up2 fun i s => Real.exp (0 - |z x i s|) := by
  simp only [r_4, k0_pay17, k0_pay15, add2, sub2, abs2, exp2, splat2, bcR32x128, bcR256x128, bcR256x256, bcR256x512, bcC, ofb w_zero, mm12, hx.al, hx.wa, hx.ba] <;> rfl
theorem t_r_6 (hx : Of R x) : r_6 R = up2 (eb x) := by
  simp only [r_6, k0_pay21, k0_pay19, k0_pay18, cst_15, mul2, add2, sub2, exp2, log_up, ext_2, trunc_2, splat2, ofb w_zero, ofb w_16th, ofb w_one, mm4, m13, t_r_3 hx, t_r_4 hx, sub_self, mul_zero, Finset.sum_const_zero, add_zero] <;> rfl
theorem t_r_7 (hx : Of R x) : r_7 R = up2 (en x) := by
  simp only [r_7, k0_pay22, k0_pay19, k0_pay18, cst_15, mul2, add2, sub2, exp2, log_up, ext_2, trunc_2, splat2, ofb w_zero, ofb w_16th, ofb w_one, mm4, m13, t_r_3 hx, t_r_4 hx, sub_self, mul_zero, Finset.sum_const_zero, add_zero] <;> rfl
theorem t_r_8 (hx : Of R x) : r_8 R = up2 (es x) := by
  simp only [r_8, k0_pay23, k0_pay20, k0_pay18, k0_pay19, cst_15, mul2, add2, sub2, exp2, log_up, ext_2, trunc_2, splat2, ofb w_zero, ofb w_16th, ofb w_one, mm4, m12, m13, t_r_3 hx, t_r_4 hx, sub_self, mul_zero, Finset.sum_const_zero, add_zero] <;> rfl
theorem t_r_5 (hx : Of R x) : r_5 R = up2 (bl x) := by
  simp only [r_5, k0_pay20, k0_pay18, cst_15, mul2, add2, sub2, log_up, ext_2, trunc_2, splat2, ofb w_zero, ofb w_16th, ofb w_one, mm4, m12, t_r_3 hx, t_r_4 hx, sub_self, mul_zero, Finset.sum_const_zero, add_zero] <;> rfl
theorem t_r_15 (hx : Of R x) : r_15 R = up2 (dl x) := by
  simp only [r_15, k0_pay31, exp2, t_r_5 hx] <;> rfl
theorem t_r_9 (hx : Of R x) : r_9 R = up2 (qd x) := by
  simp only [r_9, k0_pay25, k0_pay21, k0_pay19, k0_pay18, cst_15, mul2, add2, sub2, exp2, log_up, ext_2, trunc_2, splat2, ofb w_zero, ofb w_16th, ofb w_sc, ofb w_one, mm4, m13, hx.q, t_r_3 hx, t_r_4 hx, sub_self, mul_zero, Finset.sum_const_zero, add_zero] <;> rfl
theorem t_r_10 (hx : Of R x) : r_10 R = up2 (ki x) := by
  simp only [r_10, k0_pay26, k0_pay24, k0_pay22, k0_pay19, k0_pay18, cst_15, mul2, add2, sub2, exp2, log_up, ext_2, trunc_2, splat2, ofb w_zero, ofb w_16th, ofb w_one, mm4, m13, hx.k, t_r_3 hx, t_r_4 hx, sub_self, mul_zero, Finset.sum_const_zero, add_zero] <;> rfl
theorem t_r_11 (hx : Of R x) : r_11 R = up2 (ks x) := by
  simp only [r_11, k0_pay27, k0_pay24, k0_pay23, k0_pay20, k0_pay18, k0_pay19, cst_15, mul2, add2, sub2, exp2, log_up, ext_2, trunc_2, splat2, ofb w_zero, ofb w_16th, ofb w_one, mm4, m12, m13, hx.k, t_r_3 hx, t_r_4 hx, sub_self, mul_zero, Finset.sum_const_zero, add_zero] <;> rfl
theorem t_r_12 (hx : Of R x) : r_12 R = up2 (qd x) := by
  simp only [r_12, k0_pay28, k0_pay25, k0_pay21, k0_pay19, k0_pay18, cst_15, mul2, add2, sub2, exp2, log_up, ext_2, trunc_2, splat2, ofb w_zero, ofb w_16th, ofb w_sc, ofb w_one, mm4, m13, hx.q, t_r_3 hx, t_r_4 hx, sub_self, mul_zero, Finset.sum_const_zero, add_zero] <;> rfl
theorem t_r_13 (hx : Of R x) : r_13 R = up2 (ki x) := by
  simp only [r_13, k0_pay29, k0_pay26, k0_pay24, k0_pay22, k0_pay19, k0_pay18, cst_15, mul2, add2, sub2, exp2, log_up, ext_2, trunc_2, splat2, ofb w_zero, ofb w_16th, ofb w_one, mm4, m13, hx.k, t_r_3 hx, t_r_4 hx, sub_self, mul_zero, Finset.sum_const_zero, add_zero] <;> rfl
theorem t_r_14 (hx : Of R x) : r_14 R = up2 (ks x) := by
  simp only [r_14, k0_pay30, trunc_2, t_r_11 hx] <;> rfl
theorem t_r_16 (hx : Of R x) : r_16 R = up2 fun i (_ : Fin 1) => rs x 0 i := by
  simp only [r_16, k0_pay33, k0_pay32, mul2, add2, splat2, rs_up, sig_up, mean_up, shapeCast_self, row128, row256, row512, col256, cast32, cast23, cast24, ofb w_zero, ofb w_eps, ofb w_256, hx.op]; (repeat ((first | rw [rd4]); try simp only [mul2, add2, splat2, rs_up, sig_up, mean_up, shapeCast_self, row128, row256, row512, col256, cast32, cast23, cast24, ofb w_zero, ofb w_eps, ofb w_256, hx.op])); rfl
theorem t_r_17 (hx : Of R x) : r_17 R = up2 (oh x 0) := by
  simp only [r_17, k0_pay34, k0_pay33, k0_pay32, mul2, add2, splat2, rs_up, sig_up, mean_up, shapeCast_self, row128, row256, row512, col256, cast32, cast23, cast24, bcR32x128, bcR256x128, bcR256x256, bcR256x512, bcC, ofb w_zero, ofb w_eps, ofb w_256, hx.op]; (repeat ((first | rw [rd4]); try simp only [mul2, add2, splat2, rs_up, sig_up, mean_up, shapeCast_self, row128, row256, row512, col256, cast32, cast23, cast24, bcR32x128, bcR256x128, bcR256x256, bcR256x512, bcC, ofb w_zero, ofb w_eps, ofb w_256, hx.op])); rfl
theorem t_r_18 (hx : Of R x) : r_18 R = up2 fun (_ : Fin 1) j => x.gh (cV 0 j) := by
  simp only [r_18, hx.gh] <;> rfl
theorem t_r_19 (hx : Of R x) : r_19 R = up2 (don x 0) := by
  simp only [r_19, k0_pay38, k0_pay35, k0_pay36, k0_pay37, mul2, add2, sub2, exp2, ext_2, splat2, sig_up, mean_up, ofb w_one, ofb w_zero, hx.r, hx.ct] <;> rfl
theorem t_r_20 (hx : Of R x) : r_20 R = up2 (dow x 0) := by
  simp only [r_20, k0_pay41, mul2, sub2, trunc_2, splat2, sig_up, mean_up, shapeCast_self, row128, row256, row512, col256, cast32, cast23, cast24, bcR32x128, bcR256x128, bcR256x256, bcR256x512, bcC, ofb w_zero, ofb w_256, t_r_16 hx, t_r_17 hx, t_r_18 hx, t_r_19 hx]; (repeat ((first | rw [rd4]); try simp only [mul2, sub2, trunc_2, splat2, sig_up, mean_up, shapeCast_self, row128, row256, row512, col256, cast32, cast23, cast24, bcR32x128, bcR256x128, bcR256x256, bcR256x512, bcC, ofb w_zero, ofb w_256])); rfl
theorem t_r_21 (hx : Of R x) : r_21 R = up2 fun i j => x.v i (cV 0 j) := by
  simp only [r_21, hx.v] <;> rfl
theorem t_r_22 (hx : Of R x) : r_22 R = up2 (dq0 x 0) := by
  simp only [r_22, k0_pay43, k0_pay42, k0_pay41, mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v, t_r_13 hx, t_r_16 hx, t_r_17 hx, t_r_18 hx, t_r_19 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v])); rfl
theorem t_r_23 (hx : Of R x) : r_23 R = up2 (dv0 x 0) := by
  simp only [r_23, k0_pay45, k0_pay41, mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL, t_r_12 hx, t_r_13 hx, t_r_16 hx, t_r_17 hx, t_r_18 hx, t_r_19 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL])); rfl
theorem t_r_24 (hx : Of R x) : r_24 R = up2 fun i (_ : Fin 1) => rs x 1 i := by
  simp only [r_24, k0_pay47, k0_pay46, mul2, add2, splat2, rs_up, sig_up, mean_up, shapeCast_self, row128, row256, row512, col256, cast32, cast23, cast24, ofb w_zero, ofb w_eps, ofb w_256, hx.op]; (repeat ((first | rw [rd4]); try simp only [mul2, add2, splat2, rs_up, sig_up, mean_up, shapeCast_self, row128, row256, row512, col256, cast32, cast23, cast24, ofb w_zero, ofb w_eps, ofb w_256, hx.op])); rfl
theorem t_r_25 (hx : Of R x) : r_25 R = up2 (oh x 1) := by
  simp only [r_25, k0_pay48, k0_pay47, k0_pay46, mul2, add2, splat2, rs_up, sig_up, mean_up, shapeCast_self, row128, row256, row512, col256, cast32, cast23, cast24, bcR32x128, bcR256x128, bcR256x256, bcR256x512, bcC, ofb w_zero, ofb w_eps, ofb w_256, hx.op]; (repeat ((first | rw [rd4]); try simp only [mul2, add2, splat2, rs_up, sig_up, mean_up, shapeCast_self, row128, row256, row512, col256, cast32, cast23, cast24, bcR32x128, bcR256x128, bcR256x256, bcR256x512, bcC, ofb w_zero, ofb w_eps, ofb w_256, hx.op])); rfl
theorem t_r_26 (hx : Of R x) : r_26 R = up2 fun (_ : Fin 1) j => x.gh (cV 1 j) := by
  simp only [r_26, hx.gh] <;> rfl
theorem t_r_27 (hx : Of R x) : r_27 R = up2 (don x 1) := by
  simp only [r_27, k0_pay52, k0_pay49, k0_pay50, k0_pay51, mul2, add2, sub2, exp2, ext_2, splat2, sig_up, mean_up, ofb w_one, ofb w_zero, hx.r, hx.ct] <;> rfl
theorem t_r_30 (hx : Of R x) : r_30 R = up2 (dow x 1) := by
  simp only [r_30, k0_pay57, mul2, sub2, trunc_2, splat2, sig_up, mean_up, shapeCast_self, row128, row256, row512, col256, cast32, cast23, cast24, bcR32x128, bcR256x128, bcR256x256, bcR256x512, bcC, ofb w_zero, ofb w_256, t_r_24 hx, t_r_25 hx, t_r_26 hx, t_r_27 hx]; (repeat ((first | rw [rd4]); try simp only [mul2, sub2, trunc_2, splat2, sig_up, mean_up, shapeCast_self, row128, row256, row512, col256, cast32, cast23, cast24, bcR32x128, bcR256x128, bcR256x256, bcR256x512, bcC, ofb w_zero, ofb w_256])); rfl
theorem t_r_31 (hx : Of R x) : r_31 R = up2 fun i j => x.v i (cV 1 j) := by
  simp only [r_31, hx.v] <;> rfl
theorem t_r_32 (hx : Of R x) : r_32 R = up2 (dq0 x 1) := by
  simp only [r_32, k0_pay59, k0_pay58, k0_pay57, mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v, t_r_13 hx, t_r_24 hx, t_r_25 hx, t_r_26 hx, t_r_27 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v])); rfl
theorem t_r_33 (hx : Of R x) : r_33 R = up2 (dv0 x 1) := by
  simp only [r_33, k0_pay61, k0_pay57, mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL, t_r_12 hx, t_r_13 hx, t_r_24 hx, t_r_25 hx, t_r_26 hx, t_r_27 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL])); rfl
theorem t_r_36 (hx : Of R x) : r_36 R = up2 fun i (_ : Fin 1) => rs x 2 i := by
  simp only [r_36, k0_pay64, r_35, k0_pay63, k0_pay62, mul2, add2, splat2, rs_up, sig_up, mean_up, shapeCast_self, row128, row256, row512, col256, cast32, cast23, cast24, ofb w_zero, ofb w_eps, ofb w_256, hx.op]; (repeat ((first | rw [rd4]); try simp only [mul2, add2, splat2, rs_up, sig_up, mean_up, shapeCast_self, row128, row256, row512, col256, cast32, cast23, cast24, ofb w_zero, ofb w_eps, ofb w_256, hx.op])); rfl
theorem t_r_37 (hx : Of R x) : r_37 R = up2 (oh x 2) := by
  simp only [r_37, k0_pay65, k0_pay64, r_34, k0_pay62, r_35, k0_pay63, mul2, add2, splat2, rs_up, sig_up, mean_up, shapeCast_self, row128, row256, row512, col256, cast32, cast23, cast24, bcR32x128, bcR256x128, bcR256x256, bcR256x512, bcC, ofb w_zero, ofb w_eps, ofb w_256, hx.op]; (repeat ((first | rw [rd4]); try simp only [mul2, add2, splat2, rs_up, sig_up, mean_up, shapeCast_self, row128, row256, row512, col256, cast32, cast23, cast24, bcR32x128, bcR256x128, bcR256x256, bcR256x512, bcC, ofb w_zero, ofb w_eps, ofb w_256, hx.op])); rfl
theorem t_r_38 (hx : Of R x) : r_38 R = up2 fun (_ : Fin 1) j => x.gh (cV 2 j) := by
  simp only [r_38, hx.gh] <;> rfl
theorem t_r_39 (hx : Of R x) : r_39 R = up2 (don x 2) := by
  simp only [r_39, k0_pay69, k0_pay66, k0_pay67, k0_pay68, mul2, add2, sub2, exp2, ext_2, splat2, sig_up, mean_up, ofb w_one, ofb w_zero, hx.r, hx.ct] <;> rfl
theorem t_r_41 (hx : Of R x) : r_41 R = up2 (dow x 2) := by
  simp only [r_41, k0_pay72, mul2, sub2, trunc_2, splat2, sig_up, mean_up, shapeCast_self, row128, row256, row512, col256, cast32, cast23, cast24, bcR32x128, bcR256x128, bcR256x256, bcR256x512, bcC, ofb w_zero, ofb w_256, t_r_36 hx, t_r_37 hx, t_r_38 hx, t_r_39 hx]; (repeat ((first | rw [rd4]); try simp only [mul2, sub2, trunc_2, splat2, sig_up, mean_up, shapeCast_self, row128, row256, row512, col256, cast32, cast23, cast24, bcR32x128, bcR256x128, bcR256x256, bcR256x512, bcC, ofb w_zero, ofb w_256])); rfl
theorem t_r_42 (hx : Of R x) : r_42 R = up2 fun i j => x.v i (cV 2 j) := by
  simp only [r_42, hx.v] <;> rfl
theorem t_r_43 (hx : Of R x) : r_43 R = up2 (dq0 x 2) := by
  simp only [r_43, k0_pay74, k0_pay73, k0_pay72, mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v, t_r_13 hx, t_r_36 hx, t_r_37 hx, t_r_38 hx, t_r_39 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v])); rfl
theorem t_r_44 (hx : Of R x) : r_44 R = up2 (dv0 x 2) := by
  simp only [r_44, k0_pay76, k0_pay72, mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL, t_r_12 hx, t_r_13 hx, t_r_36 hx, t_r_37 hx, t_r_38 hx, t_r_39 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL])); rfl
theorem t_r_47 (hx : Of R x) : r_47 R = up2 fun i (_ : Fin 1) => rs x 3 i := by
  simp only [r_47, k0_pay80, k0_pay79, r_46, k0_pay78, k0_pay77, mul2, add2, splat2, rs_up, sig_up, mean_up, shapeCast_self, row128, row256, row512, col256, cast32, cast23, cast24, ofb w_zero, ofb w_eps, ofb w_256, hx.op]; (repeat ((first | rw [rd4]); try simp only [mul2, add2, splat2, rs_up, sig_up, mean_up, shapeCast_self, row128, row256, row512, col256, cast32, cast23, cast24, ofb w_zero, ofb w_eps, ofb w_256, hx.op])); rfl
theorem t_r_48 (hx : Of R x) : r_48 R = up2 (oh x 3) := by
  simp only [r_48, k0_pay81, k0_pay80, k0_pay79, r_45, k0_pay77, r_46, k0_pay78, mul2, add2, splat2, rs_up, sig_up, mean_up, shapeCast_self, row128, row256, row512, col256, cast32, cast23, cast24, bcR32x128, bcR256x128, bcR256x256, bcR256x512, bcC, ofb w_zero, ofb w_eps, ofb w_256, hx.op]; (repeat ((first | rw [rd4]); try simp only [mul2, add2, splat2, rs_up, sig_up, mean_up, shapeCast_self, row128, row256, row512, col256, cast32, cast23, cast24, bcR32x128, bcR256x128, bcR256x256, bcR256x512, bcC, ofb w_zero, ofb w_eps, ofb w_256, hx.op])); rfl
theorem t_r_49 (hx : Of R x) : r_49 R = up2 fun (_ : Fin 1) j => x.gh (cV 3 j) := by
  simp only [r_49, hx.gh] <;> rfl
theorem t_r_50 (hx : Of R x) : r_50 R = up2 (don x 3) := by
  simp only [r_50, k0_pay85, k0_pay82, k0_pay83, k0_pay84, mul2, add2, sub2, exp2, ext_2, splat2, sig_up, mean_up, ofb w_one, ofb w_zero, hx.r, hx.ct] <;> rfl
theorem t_r_51 (hx : Of R x) : r_51 R = up2 (dow x 3) := by
  simp only [r_51, k0_pay88, mul2, sub2, trunc_2, splat2, sig_up, mean_up, shapeCast_self, row128, row256, row512, col256, cast32, cast23, cast24, bcR32x128, bcR256x128, bcR256x256, bcR256x512, bcC, ofb w_zero, ofb w_256, t_r_47 hx, t_r_48 hx, t_r_49 hx, t_r_50 hx]; (repeat ((first | rw [rd4]); try simp only [mul2, sub2, trunc_2, splat2, sig_up, mean_up, shapeCast_self, row128, row256, row512, col256, cast32, cast23, cast24, bcR32x128, bcR256x128, bcR256x256, bcR256x512, bcC, ofb w_zero, ofb w_256])); rfl
theorem t_r_52 (hx : Of R x) : r_52 R = up2 fun i j => x.v i (cV 3 j) := by
  simp only [r_52, hx.v] <;> rfl
theorem t_r_53 (hx : Of R x) : r_53 R = up2 (dq0 x 3) := by
  simp only [r_53, k0_pay90, k0_pay89, k0_pay88, mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v, t_r_13 hx, t_r_47 hx, t_r_48 hx, t_r_49 hx, t_r_50 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm5, mm6, slA, slB, slC, slD, slE, mL, hx.v])); rfl
theorem t_r_54 (hx : Of R x) : r_54 R = up2 (dv0 x 3) := by
  simp only [r_54, k0_pay92, k0_pay88, mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL, t_r_12 hx, t_r_13 hx, t_r_47 hx, t_r_48 hx, t_r_49 hx, t_r_50 hx]; (repeat ((first | rw [rd4]); try simp only [mul2, sub2, trunc_2, splat2, sig_up, mean_up, shapeCast_self, row128, row256, row512, col256, cast32, cast23, cast24, bcR32x128, bcR256x128, bcR256x256, bcR256x512, bcC, sel2 inL, ofb w_zero, ofb w_256, mm8, mm9, slA, slB, slC, slD, slE, mL])); rfl

end Cert.KernelIdeal.Body
-- ==== Proof.KerTiles.lean ====
/-
  One block of the backward kernel on real numbers, continued: the gradient with respect to the state from chunk to
  chunk, the tables gathered from the chunks and heads, what the block leaves.
-/
module

public import proofs.«01_k».proof.Proof.KerVal
public import Idealize.ShloMosaic.Lib.Pipeline.ReadBack
@[expose] public section

set_option maxRecDepth 16384

noncomputable section

namespace Cert.KernelIdeal.Body

open Idealize.ShloMosaic Cert.KernelIdeal.Gen Cert.Lift

/-- A table from its values by head, chunk, row and column; by head and column. -/
def asmK (T : Fin 4 → ℕ → Fin 32 → Fin 128 → ℝ) (i : Fin 256) (s : Fin 512) : ℝ :=
  T ⟨s.val / 128, by omega⟩ (7 - i.val / 32) ⟨i.val % 32, by omega⟩ ⟨s.val % 128, by omega⟩
def asmV (T : Fin 4 → ℕ → Fin 32 → Fin 256 → ℝ) (i : Fin 256) (s : Fin 1024) : ℝ :=
  T ⟨s.val / 256, by omega⟩ (7 - i.val / 32) ⟨i.val % 32, by omega⟩ ⟨s.val % 256, by omega⟩
def colK (T : Fin 4 → Fin 256 → Fin 128 → ℝ) (i : Fin 256) (s : Fin 512) : ℝ :=
  T ⟨s.val / 128, by omega⟩ i ⟨s.val % 128, by omega⟩
def colV {n : ℕ} (T : Fin 4 → Fin n → Fin 256 → ℝ) (i : Fin n) (s : Fin 1024) : ℝ :=
  T ⟨s.val / 256, by omega⟩ i ⟨s.val % 256, by omega⟩

theorem asmK_at (T : Fin 4 → ℕ → Fin 32 → Fin 128 → ℝ) (k : Fin 8) (h : Fin 4) (i : Fin 32) (d : Fin 128) :
    asmK T (rw_ k i) (cK h d) = T h k i d := by
  unfold asmK rw_ cK
  have e1 : (⟨(128 * h.val + d.val) / 128, by omega⟩ : Fin 4) = h := Fin.ext (by show _ / 128 = _; omega)
  have e2 : 7 - (32 * (7 - k.val) + i.val) / 32 = k.val := by omega
  have e3 : (⟨(32 * (7 - k.val) + i.val) % 32, by omega⟩ : Fin 32) = i := Fin.ext (by show _ % 32 = _; omega)
  have e4 : (⟨(128 * h.val + d.val) % 128, by omega⟩ : Fin 128) = d := Fin.ext (by show _ % 128 = _; omega)
  rw [e1, e3, e4]
  exact congrArg (fun t => T h t i d) e2
theorem asmV_at (T : Fin 4 → ℕ → Fin 32 → Fin 256 → ℝ) (k : Fin 8) (h : Fin 4) (i : Fin 32) (d : Fin 256) :
    asmV T (rw_ k i) (cV h d) = T h k i d := by
  unfold asmV rw_ cV
  have e1 : (⟨(256 * h.val + d.val) / 256, by omega⟩ : Fin 4) = h := Fin.ext (by show _ / 256 = _; omega)
  have e2 : 7 - (32 * (7 - k.val) + i.val) / 32 = k.val := by omega
  have e3 : (⟨(32 * (7 - k.val) + i.val) % 32, by omega⟩ : Fin 32) = i := Fin.ext (by show _ % 32 = _; omega)
  have e4 : (⟨(256 * h.val + d.val) % 256, by omega⟩ : Fin 256) = d := Fin.ext (by show _ % 256 = _; omega)
  rw [e1, e3, e4]
  exact congrArg (fun t => T h t i d) e2
theorem colK_at (T : Fin 4 → Fin 256 → Fin 128 → ℝ) (h : Fin 4) (i : Fin 256) (d : Fin 128) : colK T i (cK h d) = T h i d := by
  unfold colK cK
  have e1 : (⟨(128 * h.val + d.val) / 128, by omega⟩ : Fin 4) = h := Fin.ext (by show _ / 128 = _; omega)
  have e4 : (⟨(128 * h.val + d.val) % 128, by omega⟩ : Fin 128) = d := Fin.ext (by show _ % 128 = _; omega)
  rw [e1, e4]
theorem colV_at {n : ℕ} (T : Fin 4 → Fin n → Fin 256 → ℝ) (h : Fin 4) (i : Fin n) (d : Fin 256) : colV T i (cV h d) = T h i d := by
  unfold colV cV
  have e1 : (⟨(256 * h.val + d.val) / 256, by omega⟩ : Fin 4) = h := Fin.ext (by show _ / 256 = _; omega)
  have e4 : (⟨(256 * h.val + d.val) % 256, by omega⟩ : Fin 256) = d := Fin.ext (by show _ % 256 = _; omega)
  rw [e1, e4]

theorem z2 : (![0, 0] : Fin 2 → ℕ) = fun _ => 0 := by funext a; fin_cases a <;> rfl

/-- A stored piece that is a part of a table. -/
theorem tile {a b n m : ℕ} {F : Fin a → Fin b → ℝ} {f : Fin n → Fin m → ℝ} {w : (⟨2, ![n, m]⟩ : Shape).Idx → EReal}
    (ρ : Fin n → Fin a) (κ : Fin m → Fin b) (hF : ∀ i j, F (ρ i) (κ j) = f i j) (hw : w = up2 f)
    {x : (⟨2, ![n, m]⟩ : Shape).Idx} {y : (⟨2, ![a, b]⟩ : Shape).Idx} (h0 : (y 0).val = (ρ (x 0)).val) (h1 : (y 1).val = (κ (x 1)).val) :
    w x = up2 F y := by
  rw [hw]
  show ((f (x 0) (x 1) : ℝ) : EReal) = ((F (y 0) (y 1) : ℝ) : EReal)
  rw [show y 0 = ρ (x 0) from Fin.ext h0, show y 1 = κ (x 1) from Fin.ext h1]
  exact congrArg (fun r : ℝ => (r : EReal)) (hF (x 0) (x 1)).symm

section
variable (x : Blk)
def dqd : Fin 256 → Fin 512 → ℝ := asmK (tdq x)
def dkd : Fin 256 → Fin 512 → ℝ := colK (dk0 x)
def dks : Fin 256 → Fin 512 → ℝ := asmK (tdk x)
def ddl : Fin 256 → Fin 512 → ℝ := asmK (tdd x)
def odq (i : Fin 256) (s : Fin 512) : ℝ := dqd x i s * (sc * eb x i s)
def odk (i : Fin 256) (s : Fin 512) : ℝ := dkd x i s * en x i s + dks x i s * es x i s
def odv : Fin 256 → Fin 1024 → ℝ := asmV (tdv x)
def odr : Fin 256 → Fin 1024 → ℝ := colV (drw x)
def dbc (i : Fin 256) (s : Fin 512) : ℝ := dqd x i s * qd x i s - dkd x i s * ki x i s - dks x i s * ks x i s
def dla0 (i : Fin 256) (s : Fin 512) : ℝ :=
  (∑ t, (if inU i t then 1 else 0) * dbc x t s) + ∑ t, (if inS i t then 1 else 0) * (dks x t s * ks x t s)
def dla (i : Fin 256) (s : Fin 512) : ℝ := (dla0 x i s + ddl x i s) * (1/16)
def dz (i : Fin 256) (s : Fin 512) : ℝ := dla x i s * (1 - 1 / (1 + Real.exp (0 - z x i s)))
def oal (i : Fin 256) (t : Fin 128) : ℝ := ∑ s, dz x i s * x.wa t s
def owa (t : Fin 128) (s : Fin 512) : ℝ := x.wacc t s + ∑ i, x.al i t * dz x i s
def oba (s : Fin 512) : ℝ := x.bacc s + ∑ i, dz x i s
def ogh : Fin 1024 → ℝ := colV (fun h (_ : Fin 1) v => x.n h v + ∑ i, don x h i v * oh x h i v) 0
end

variable {R : Reads} {x : Blk}

theorem t_v571 (hx : Of R x) : v571 R = up3 fun (_ : Fin 1) j k => gr x 0 1 j k := by
  simp (disch := decide) only [v571, HS0_4, ↓View.readCov_skip, ↓View.readCov_cons_toLoadRect]
  simp only [r_55, k0_pay93, k0_pay102, k0_pay99, mul2, add2, splat2, cast23, cast32, bcR256x128, mm3, slD, slC, slB, hx.G0, t_r_12 hx, t_r_15 hx, t_r_20 hx] <;> rfl
theorem t_v615 (hx : Of R x) : v615 R = up3 fun (_ : Fin 1) j k => gr x 1 1 j k := by
  simp (disch := decide) only [v615, HS0_5, HS0_4, ↓View.readCov_skip, ↓View.readCov_cons_toLoadRect]
  simp only [r_59, v439, k0_pay111, k0_pay108, k0_pay103, r_60, k0_pay112, r_61, k0_pay113, k0_pay114, mul2, add2, splat2, cast23, cast32, bcR256x128, mm3, slD, slC, slB, hx.G1, t_r_15 hx, t_r_30 hx, t_r_12 hx] <;> rfl
theorem t_v659 (hx : Of R x) : v659 R = up3 fun (_ : Fin 1) j k => gr x 2 1 j k := by
  simp (disch := decide) only [v659, HS0_6, HS0_5, HS0_4, ↓View.readCov_skip, ↓View.readCov_cons_toLoadRect]
  simp only [r_62, v483, k0_pay115, r_63, k0_pay120, k0_pay126, mul2, add2, splat2, cast23, cast32, bcR256x128, mm3, slD, slC, slB, hx.G2, t_r_12 hx, t_r_41 hx, t_r_15 hx] <;> rfl
theorem t_v703 (hx : Of R x) : v703 R = up3 fun (_ : Fin 1) j k => gr x 3 1 j k := by
  simp (disch := decide) only [v703, HS0_7, HS0_6, HS0_5, HS0_4, ↓View.readCov_skip, ↓View.readCov_cons_toLoadRect]
  simp only [r_67, v527, k0_pay127, r_69, k0_pay132, k0_pay136, mul2, add2, splat2, cast23, cast32, bcR256x128, mm3, slD, slC, slB, hx.G3, t_r_12 hx, t_r_51 hx, t_r_15 hx] <;> rfl
theorem t_v747 (hx : Of R x) : v747 R = up3 fun (_ : Fin 1) j k => gr x 0 2 j k := by
  simp (disch := decide) only [v747, HS0_8, HS0_7, HS0_6, HS0_5, ↓View.readCov_skip, ↓View.readCov_cons_toLoadRect]
  simp only [r_71, k0_pay137, k0_pay146, k0_pay143, mul2, add2, splat2, cast23, cast32, bcR256x128, mm3, slD, slC, slB, t_r_12 hx, t_r_15 hx, t_r_20 hx, t_v571 hx] <;> rfl
theorem t_v791 (hx : Of R x) : v791 R = up3 fun (_ : Fin 1) j k => gr x 1 2 j k := by
  simp (disch := decide) only [v791, HS0_9, HS0_8, HS0_7, HS0_6, ↓View.readCov_skip, ↓View.readCov_cons_toLoadRect]
  simp only [r_74, k0_pay147, k0_pay156, k0_pay153, mul2, add2, splat2, cast23, cast32, bcR256x128, mm3, slD, slC, slB, t_r_12 hx, t_r_15 hx, t_r_30 hx, t_v615 hx] <;> rfl
theorem t_v835 (hx : Of R x) : v835 R = up3 fun (_ : Fin 1) j k => gr x 2 2 j k := by
  simp (disch := decide) only [v835, HS0_10, HS0_9, HS0_8, HS0_7, ↓View.readCov_skip, ↓View.readCov_cons_toLoadRect]
  simp only [r_78, k0_pay165, k0_pay162, k0_pay157, r_79, k0_pay166, r_80, k0_pay167, k0_pay168, mul2, add2, splat2, cast23, cast32, bcR256x128, mm3, slD, slC, slB, t_r_15 hx, t_v659 hx, t_r_41 hx, t_r_12 hx] <;> rfl
theorem t_v879 (hx : Of R x) : v879 R = up3 fun (_ : Fin 1) j k => gr x 3 2 j k := by
  simp (disch := decide) only [v879, HS0_11, HS0_10, HS0_9, HS0_8, ↓View.readCov_skip, ↓View.readCov_cons_toLoadRect]
  simp only [r_81, k0_pay169, r_82, k0_pay174, k0_pay180, mul2, add2, splat2, cast23, cast32, bcR256x128, mm3, slD, slC, slB, t_r_12 hx, t_r_51 hx, t_v703 hx, t_r_15 hx] <;> rfl
theorem t_v923 (hx : Of R x) : v923 R = up3 fun (_ : Fin 1) j k => gr x 0 3 j k := by
  simp (disch := decide) only [v923, HS0_12, HS0_11, HS0_10, HS0_9, ↓View.readCov_skip, ↓View.readCov_cons_toLoadRect]
  simp only [r_86, k0_pay181, r_88, k0_pay186, k0_pay190, mul2, add2, splat2, cast23, cast32, bcR256x128, mm3, slD, slC, slB, t_r_12 hx, t_r_20 hx, t_v747 hx, t_r_15 hx] <;> rfl
theorem t_v967 (hx : Of R x) : v967 R = up3 fun (_ : Fin 1) j k => gr x 1 3 j k := by
  simp (disch := decide) only [v967, HS0_13, HS0_12, HS0_11, HS0_10, ↓View.readCov_skip, ↓View.readCov_cons_toLoadRect]
  simp only [r_90, k0_pay191, k0_pay200, k0_pay197, mul2, add2, splat2, cast23, cast32, bcR256x128, mm3, slD, slC, slB, t_r_12 hx, t_r_15 hx, t_r_30 hx, t_v791 hx] <;> rfl
theorem t_v1011 (hx : Of R x) : v1011 R = up3 fun (_ : Fin 1) j k => gr x 2 3 j k := by
  simp (disch := decide) only [v1011, HS0_14, HS0_13, HS0_12, HS0_11, ↓View.readCov_skip, ↓View.readCov_cons_toLoadRect]
  simp only [r_93, k0_pay201, k0_pay210, k0_pay207, mul2, add2, splat2, cast23, cast32, bcR256x128, mm3, slD, slC, slB, t_r_12 hx, t_r_15 hx, t_r_41 hx, t_v835 hx] <;> rfl
theorem t_v1055 (hx : Of R x) : v1055 R = up3 fun (_ : Fin 1) j k => gr x 3 3 j k := by
  simp (disch := decide) only [v1055, HS0_15, HS0_14, HS0_13, HS0_12, ↓View.readCov_skip, ↓View.readCov_cons_toLoadRect]
  simp only [r_97, k0_pay219, k0_pay216, k0_pay211, r_98, k0_pay220, r_99, k0_pay221, k0_pay222, mul2, add2, splat2, cast23, cast32, bcR256x128, mm3, slD, slC, slB, t_r_15 hx, t_v879 hx, t_r_51 hx, t_r_12 hx] <;> rfl
theorem t_v1099 (hx : Of R x) : v1099 R = up3 fun (_ : Fin 1) j k => gr x 0 4 j k := by
  simp (disch := decide) only [v1099, HS0_16, HS0_15, HS0_14, HS0_13, ↓View.readCov_skip, ↓View.readCov_cons_toLoadRect]
  simp only [r_100, k0_pay223, r_101, k0_pay228, k0_pay234, mul2, add2, splat2, cast23, cast32, bcR256x128, mm3, slD, slC, slB, t_r_12 hx, t_r_20 hx, t_v923 hx, t_r_15 hx] <;> rfl
theorem t_v1143 (hx : Of R x) : v1143 R = up3 fun (_ : Fin 1) j k => gr x 1 4 j k := by
  simp (disch := decide) only [v1143, HS0_17, HS0_16, HS0_15, HS0_14, ↓View.readCov_skip, ↓View.readCov_cons_toLoadRect]
  simp only [r_105, k0_pay235, r_107, k0_pay240, k0_pay244, mul2, add2, splat2, cast23, cast32, bcR256x128, mm3, slD, slC, slB, t_r_12 hx, t_r_30 hx, t_v967 hx, t_r_15 hx] <;> rfl
theorem t_v1187 (hx : Of R x) : v1187 R = up3 fun (_ : Fin 1) j k => gr x 2 4 j k := by
  simp (disch := decide) only [v1187, HS0_18, HS0_17, HS0_16, HS0_15, ↓View.readCov_skip, ↓View.readCov_cons_toLoadRect]
  simp only [r_109, k0_pay245, k0_pay254, k0_pay251, mul2, add2, splat2, cast23, cast32, bcR256x128, mm3, slD, slC, slB, t_r_12 hx, t_r_15 hx, t_r_41 hx, t_v1011 hx] <;> rfl
theorem t_v1231 (hx : Of R x) : v1231 R = up3 fun (_ : Fin 1) j k => gr x 3 4 j k := by
  simp (disch := decide) only [v1231, HS0_19, HS0_18, HS0_17, HS0_16, ↓View.readCov_skip, ↓View.readCov_cons_toLoadRect]
  simp only [r_112, k0_pay255, k0_pay264, k0_pay261, mul2, add2, splat2, cast23, cast32, bcR256x128, mm3, slD, slC, slB, t_r_12 hx, t_r_15 hx, t_r_51 hx, t_v1055 hx] <;> rfl
theorem t_v1275 (hx : Of R x) : v1275 R = up3 fun (_ : Fin 1) j k => gr x 0 5 j k := by
  simp (disch := decide) only [v1275, HS0_20, HS0_19, HS0_18, HS0_17, ↓View.readCov_skip, ↓View.readCov_cons_toLoadRect]
  simp only [r_116, k0_pay273, k0_pay270, k0_pay265, r_117, k0_pay274, r_118, k0_pay275, k0_pay276, mul2, add2, splat2, cast23, cast32, bcR256x128, mm3, slD, slC, slB, t_r_15 hx, t_v1099 hx, t_r_20 hx, t_r_12 hx] <;> rfl
theorem t_v1319 (hx : Of R x) : v1319 R = up3 fun (_ : Fin 1) j k => gr x 1 5 j k := by
  simp (disch := decide) only [v1319, HS0_21, HS0_20, HS0_19, HS0_18, ↓View.readCov_skip, ↓View.readCov_cons_toLoadRect]
  simp only [r_119, k0_pay277, r_120, k0_pay282, k0_pay288, mul2, add2, splat2, cast23, cast32, bcR256x128, mm3, slD, slC, slB, t_r_12 hx, t_r_30 hx, t_v1143 hx, t_r_15 hx] <;> rfl
theorem t_v1363 (hx : Of R x) : v1363 R = up3 fun (_ : Fin 1) j k => gr x 2 5 j k := by
  simp (disch := decide) only [v1363, HS0_22, HS0_21, HS0_20, HS0_19, ↓View.readCov_skip, ↓View.readCov_cons_toLoadRect]
  simp only [r_124, k0_pay289, r_126, k0_pay294, k0_pay298, mul2, add2, splat2, cast23, cast32, bcR256x128, mm3, slD, slC, slB, t_r_12 hx, t_r_41 hx, t_v1187 hx, t_r_15 hx] <;> rfl
theorem t_v1407 (hx : Of R x) : v1407 R = up3 fun (_ : Fin 1) j k => gr x 3 5 j k := by
  simp (disch := decide) only [v1407, HS0_23, HS0_22, HS0_21, HS0_20, ↓View.readCov_skip, ↓View.readCov_cons_toLoadRect]
  simp only [r_128, k0_pay299, k0_pay308, k0_pay305, mul2, add2, splat2, cast23, cast32, bcR256x128, mm3, slD, slC, slB, t_r_12 hx, t_r_15 hx, t_r_51 hx, t_v1231 hx] <;> rfl
theorem t_v1451 (hx : Of R x) : v1451 R = up3 fun (_ : Fin 1) j k => gr x 0 6 j k := by
  simp (disch := decide) only [v1451, HS0_24, HS0_23, HS0_22, HS0_21, ↓View.readCov_skip, ↓View.readCov_cons_toLoadRect]
  simp only [r_131, k0_pay309, k0_pay318, k0_pay315, mul2, add2, splat2, cast23, cast32, bcR256x128, mm3, slD, slC, slB, t_r_12 hx, t_r_15 hx, t_r_20 hx, t_v1275 hx] <;> rfl
theorem t_v1495 (hx : Of R x) : v1495 R = up3 fun (_ : Fin 1) j k => gr x 1 6 j k := by
  simp (disch := decide) only [v1495, HS0_25, HS0_24, HS0_23, HS0_22, ↓View.readCov_skip, ↓View.readCov_cons_toLoadRect]
  simp only [r_135, k0_pay327, k0_pay324, k0_pay319, r_136, k0_pay328, r_137, k0_pay329, k0_pay330, mul2, add2, splat2, cast23, cast32, bcR256x128, mm3, slD, slC, slB, t_r_15 hx, t_v1319 hx, t_r_30 hx, t_r_12 hx] <;> rfl
theorem t_v1539 (hx : Of R x) : v1539 R = up3 fun (_ : Fin 1) j k => gr x 2 6 j k := by
  simp (disch := decide) only [v1539, HS0_26, HS0_25, HS0_24, HS0_23, ↓View.readCov_skip, ↓View.readCov_cons_toLoadRect]
  simp only [r_138, k0_pay331, r_139, k0_pay336, k0_pay342, mul2, add2, splat2, cast23, cast32, bcR256x128, mm3, slD, slC, slB, t_r_12 hx, t_r_41 hx, t_v1363 hx, t_r_15 hx] <;> rfl
theorem t_v1583 (hx : Of R x) : v1583 R = up3 fun (_ : Fin 1) j k => gr x 3 6 j k := by
  simp (disch := decide) only [v1583, HS0_27, HS0_26, HS0_25, HS0_24, ↓View.readCov_skip, ↓View.readCov_cons_toLoadRect]
  simp only [r_143, k0_pay343, r_145, k0_pay348, k0_pay352, mul2, add2, splat2, cast23, cast32, bcR256x128, mm3, slD, slC, slB, t_r_12 hx, t_r_51 hx, t_v1407 hx, t_r_15 hx] <;> rfl
theorem t_v1627 (hx : Of R x) : v1627 R = up3 fun (_ : Fin 1) j k => gr x 0 7 j k := by
  simp (disch := decide) only [v1627, HS0_28, HS0_27, HS0_26, HS0_25, ↓View.readCov_skip, ↓View.readCov_cons_toLoadRect]
  simp only [r_147, k0_pay353, k0_pay362, k0_pay359, mul2, add2, splat2, cast23, cast32, bcR256x128, mm3, slD, slC, slB, t_r_12 hx, t_r_15 hx, t_r_20 hx, t_v1451 hx] <;> rfl
theorem t_v1671 (hx : Of R x) : v1671 R = up3 fun (_ : Fin 1) j k => gr x 1 7 j k := by
  simp (disch := decide) only [v1671, HS0_29, HS0_28, HS0_27, HS0_26, ↓View.readCov_skip, ↓View.readCov_cons_toLoadRect]
  simp only [r_150, k0_pay363, k0_pay372, k0_pay369, mul2, add2, splat2, cast23, cast32, bcR256x128, mm3, slD, slC, slB, t_r_12 hx, t_r_15 hx, t_r_30 hx, t_v1495 hx] <;> rfl
theorem t_v1715 (hx : Of R x) : v1715 R = up3 fun (_ : Fin 1) j k => gr x 2 7 j k := by
  simp (disch := decide) only [v1715, HS0_30, HS0_29, HS0_28, HS0_27, ↓View.readCov_skip, ↓View.readCov_cons_toLoadRect]
  simp only [r_154, k0_pay381, k0_pay378, k0_pay373, r_155, k0_pay382, r_156, k0_pay383, k0_pay384, mul2, add2, splat2, cast23, cast32, bcR256x128, mm3, slD, slC, slB, t_r_15 hx, t_v1539 hx, t_r_41 hx, t_r_12 hx] <;> rfl
theorem t_v1759 (hx : Of R x) : v1759 R = up3 fun (_ : Fin 1) j k => gr x 3 7 j k := by
  simp (disch := decide) only [v1759, HS0_31, HS0_30, HS0_29, HS0_28, ↓View.readCov_skip, ↓View.readCov_cons_toLoadRect]
  simp only [r_157, k0_pay385, r_158, k0_pay390, k0_pay396, mul2, add2, splat2, cast23, cast32, bcR256x128, mm3, slD, slC, slB, t_r_12 hx, t_r_51 hx, t_v1583 hx, t_r_15 hx] <;> rfl
theorem t_LS0 (hx : Of R x) : R.m20.view.readCov (LS R) (Rect.unit (s := S4x256x128) ![0, 0, 0] S1x256x128.size inb_S4x256x128_S1x256x128_0_0_0).toLoadRect
    = up3 fun (_ : Fin 1) j k => gr x 0 8 j k := by
  simp (disch := decide) only [LS, HS0_31, HS0_30, HS0_29, ↓View.readCov_skip, ↓View.readCov_cons_toLoadRect]
  simp only [r_162, k0_pay397, r_164, k0_pay402, k0_pay406, mul2, add2, splat2, cast23, cast32, bcR256x128, mm3, slD, slC, slB, t_r_12 hx, t_r_20 hx, t_v1627 hx, t_r_15 hx] <;> rfl
theorem t_LS1 (hx : Of R x) : R.m20.view.readCov (LS R) (Rect.unit (s := S4x256x128) ![1, 0, 0] S1x256x128.size inb_S4x256x128_S1x256x128_1_0_0).toLoadRect
    = up3 fun (_ : Fin 1) j k => gr x 1 8 j k := by
  simp (disch := decide) only [LS, HS0_31, HS0_30, HS0_29, ↓View.readCov_skip, ↓View.readCov_cons_toLoadRect]
  simp only [r_166, k0_pay407, k0_pay416, k0_pay413, mul2, add2, splat2, cast23, cast32, bcR256x128, mm3, slD, slC, slB, t_r_12 hx, t_r_15 hx, t_r_30 hx, t_v1671 hx] <;> rfl
theorem t_LS2 (hx : Of R x) : R.m20.view.readCov (LS R) (Rect.unit (s := S4x256x128) ![2, 0, 0] S1x256x128.size inb_S4x256x128_S1x256x128_2_0_0).toLoadRect
    = up3 fun (_ : Fin 1) j k => gr x 2 8 j k := by
  simp (disch := decide) only [LS, HS0_31, HS0_30, HS0_29, ↓View.readCov_skip, ↓View.readCov_cons_toLoadRect]
  simp only [r_169, k0_pay417, k0_pay426, k0_pay423, mul2, add2, splat2, cast23, cast32, bcR256x128, mm3, slD, slC, slB, t_r_12 hx, t_r_15 hx, t_r_41 hx, t_v1715 hx] <;> rfl
theorem t_LS3 (hx : Of R x) : R.m20.view.readCov (LS R) (Rect.unit (s := S4x256x128) ![3, 0, 0] S1x256x128.size inb_S4x256x128_S1x256x128_3_0_0).toLoadRect
    = up3 fun (_ : Fin 1) j k => gr x 3 8 j k := by
  simp (disch := decide) only [LS, HS0_31, HS0_30, HS0_29, ↓View.readCov_skip, ↓View.readCov_cons_toLoadRect]
  simp only [r_173, k0_pay435, k0_pay432, k0_pay427, r_174, k0_pay436, r_175, k0_pay437, k0_pay438, mul2, add2, splat2, cast23, cast32, bcR256x128, mm3, slD, slC, slB, t_r_15 hx, t_v1759 hx, t_r_51 hx, t_r_12 hx] <;> rfl
set_option maxHeartbeats 4000000 in
theorem c_dq (hx : Of R x) : View.canon (Val := Elt Ideal) (HS1_32 R) = up2 (dqd x) := by
  funext y
  unfold HS1_32
  canon_tiles x h
  · exact tile (rw_ 7) (cK 3) (asmK_at _ 7 3) (by simp only [k0_pay434, k0_pay428, add2, ext_2, trunc_2, cast24, shapeCast_self, mm1, slE, slD, hx.st, t_r_51 hx, t_r_53 hx] <;> rfl) (by simp only [rw_, cK]; omega) (by simp only [cK]; omega)
  · exact tile (rw_ 7) (cK 2) (asmK_at _ 7 2) (by simp only [r_170, k0_pay418, k0_pay425, add2, ext_2, trunc_2, cast24, shapeCast_self, mm1, slE, slD, hx.st, t_r_41 hx, t_r_43 hx] <;> rfl) (by simp only [rw_, cK]; omega) (by simp only [cK]; omega)
  · exact tile (rw_ 7) (cK 1) (asmK_at _ 7 1) (by simp only [r_167, k0_pay408, k0_pay415, add2, ext_2, trunc_2, cast24, shapeCast_self, mm1, slE, slD, hx.st, t_r_30 hx, t_r_32 hx] <;> rfl) (by simp only [rw_, cK]; omega) (by simp only [cK]; omega)
  · exact tile (rw_ 7) (cK 0) (asmK_at _ 7 0) (by simp only [r_163, k0_pay398, k0_pay405, add2, ext_2, trunc_2, cast24, shapeCast_self, mm1, slE, slD, hx.st, t_r_20 hx, t_r_22 hx] <;> rfl) (by simp only [rw_, cK]; omega) (by simp only [cK]; omega)
  · exact tile (rw_ 6) (cK 3) (asmK_at _ 6 3) (by simp only [r_159, k0_pay392, r_160, k0_pay393, r_161, k0_pay394, k0_pay386, cst_226, k0_pay395, add2, ext_2, trunc_2, cast24, shapeCast_self, mm1, slE, slD, hx.st, t_r_53 hx, t_r_51 hx] <;> rfl) (by simp only [rw_, cK]; omega) (by simp only [cK]; omega)
  · exact tile (rw_ 6) (cK 2) (asmK_at _ 6 2) (by simp only [k0_pay380, k0_pay374, add2, ext_2, trunc_2, cast24, shapeCast_self, mm1, slE, slD, hx.st, t_r_41 hx, t_r_43 hx] <;> rfl) (by simp only [rw_, cK]; omega) (by simp only [cK]; omega)
  · exact tile (rw_ 6) (cK 1) (asmK_at _ 6 1) (by simp only [r_151, k0_pay364, k0_pay371, add2, ext_2, trunc_2, cast24, shapeCast_self, mm1, slE, slD, hx.st, t_r_30 hx, t_r_32 hx] <;> rfl) (by simp only [rw_, cK]; omega) (by simp only [cK]; omega)
  · exact tile (rw_ 6) (cK 0) (asmK_at _ 6 0) (by simp only [r_148, k0_pay354, k0_pay361, add2, ext_2, trunc_2, cast24, shapeCast_self, mm1, slE, slD, hx.st, t_r_20 hx, t_r_22 hx] <;> rfl) (by simp only [rw_, cK]; omega) (by simp only [cK]; omega)
  · exact tile (rw_ 5) (cK 3) (asmK_at _ 5 3) (by simp only [r_144, k0_pay344, k0_pay351, add2, ext_2, trunc_2, cast24, shapeCast_self, mm1, slE, slD, hx.st, t_r_51 hx, t_r_53 hx] <;> rfl) (by simp only [rw_, cK]; omega) (by simp only [cK]; omega)
  · exact tile (rw_ 5) (cK 2) (asmK_at _ 5 2) (by simp only [r_140, k0_pay338, r_141, k0_pay339, r_142, k0_pay340, k0_pay332, cst_226, k0_pay341, add2, ext_2, trunc_2, cast24, shapeCast_self, mm1, slE, slD, hx.st, t_r_43 hx, t_r_41 hx] <;> rfl) (by simp only [rw_, cK]; omega) (by simp only [cK]; omega)
  · exact tile (rw_ 5) (cK 1) (asmK_at _ 5 1) (by simp only [k0_pay326, k0_pay320, add2, ext_2, trunc_2, cast24, shapeCast_self, mm1, slE, slD, hx.st, t_r_30 hx, t_r_32 hx] <;> rfl) (by simp only [rw_, cK]; omega) (by simp only [cK]; omega)
  · exact tile (rw_ 5) (cK 0) (asmK_at _ 5 0) (by simp only [r_132, k0_pay310, k0_pay317, add2, ext_2, trunc_2, cast24, shapeCast_self, mm1, slE, slD, hx.st, t_r_20 hx, t_r_22 hx] <;> rfl) (by simp only [rw_, cK]; omega) (by simp only [cK]; omega)
  · exact tile (rw_ 4) (cK 3) (asmK_at _ 4 3) (by simp only [r_129, k0_pay300, k0_pay307, add2, ext_2, trunc_2, cast24, shapeCast_self, mm1, slE, slD, hx.st, t_r_51 hx, t_r_53 hx] <;> rfl) (by simp only [rw_, cK]; omega) (by simp only [cK]; omega)
  · exact tile (rw_ 4) (cK 2) (asmK_at _ 4 2) (by simp only [r_125, k0_pay290, k0_pay297, add2, ext_2, trunc_2, cast24, shapeCast_self, mm1, slE, slD, hx.st, t_r_41 hx, t_r_43 hx] <;> rfl) (by simp only [rw_, cK]; omega) (by simp only [cK]; omega)
  · exact tile (rw_ 4) (cK 1) (asmK_at _ 4 1) (by simp only [r_121, k0_pay284, r_122, k0_pay285, r_123, k0_pay286, k0_pay278, cst_226, k0_pay287, add2, ext_2, trunc_2, cast24, shapeCast_self, mm1, slE, slD, hx.st, t_r_32 hx, t_r_30 hx] <;> rfl) (by simp only [rw_, cK]; omega) (by simp only [cK]; omega)
  · exact tile (rw_ 4) (cK 0) (asmK_at _ 4 0) (by simp only [k0_pay272, k0_pay266, add2, ext_2, trunc_2, cast24, shapeCast_self, mm1, slE, slD, hx.st, t_r_20 hx, t_r_22 hx] <;> rfl) (by simp only [rw_, cK]; omega) (by simp only [cK]; omega)
  · exact tile (rw_ 3) (cK 3) (asmK_at _ 3 3) (by simp only [r_113, k0_pay256, k0_pay263, add2, ext_2, trunc_2, cast24, shapeCast_self, mm1, slE, slD, hx.st, t_r_51 hx, t_r_53 hx] <;> rfl) (by simp only [rw_, cK]; omega) (by simp only [cK]; omega)
  · exact tile (rw_ 3) (cK 2) (asmK_at _ 3 2) (by simp only [r_110, k0_pay246, k0_pay253, add2, ext_2, trunc_2, cast24, shapeCast_self, mm1, slE, slD, hx.st, t_r_41 hx, t_r_43 hx] <;> rfl) (by simp only [rw_, cK]; omega) (by simp only [cK]; omega)
  · exact tile (rw_ 3) (cK 1) (asmK_at _ 3 1) (by simp only [r_106, k0_pay236, k0_pay243, add2, ext_2, trunc_2, cast24, shapeCast_self, mm1, slE, slD, hx.st, t_r_30 hx, t_r_32 hx] <;> rfl) (by simp only [rw_, cK]; omega) (by simp only [cK]; omega)
  · exact tile (rw_ 3) (cK 0) (asmK_at _ 3 0) (by simp only [r_102, k0_pay230, r_103, k0_pay231, r_104, k0_pay232, k0_pay224, cst_226, k0_pay233, add2, ext_2, trunc_2, cast24, shapeCast_self, mm1, slE, slD, hx.st, t_r_22 hx, t_r_20 hx] <;> rfl) (by simp only [rw_, cK]; omega) (by simp only [cK]; omega)
  · exact tile (rw_ 2) (cK 3) (asmK_at _ 2 3) (by simp only [k0_pay218, k0_pay212, add2, ext_2, trunc_2, cast24, shapeCast_self, mm1, slE, slD, hx.st, t_r_51 hx, t_r_53 hx] <;> rfl) (by simp only [rw_, cK]; omega) (by simp only [cK]; omega)
  · exact tile (rw_ 2) (cK 2) (asmK_at _ 2 2) (by simp only [r_94, k0_pay202, k0_pay209, add2, ext_2, trunc_2, cast24, shapeCast_self, mm1, slE, slD, hx.st, t_r_41 hx, t_r_43 hx] <;> rfl) (by simp only [rw_, cK]; omega) (by simp only [cK]; omega)
  · exact tile (rw_ 2) (cK 1) (asmK_at _ 2 1) (by simp only [r_91, k0_pay192, k0_pay199, add2, ext_2, trunc_2, cast24, shapeCast_self, mm1, slE, slD, hx.st, t_r_30 hx, t_r_32 hx] <;> rfl) (by simp only [rw_, cK]; omega) (by simp only [cK]; omega)
  · exact tile (rw_ 2) (cK 0) (asmK_at _ 2 0) (by simp only [r_87, k0_pay182, k0_pay189, add2, ext_2, trunc_2, cast24, shapeCast_self, mm1, slE, slD, hx.st, t_r_20 hx, t_r_22 hx] <;> rfl) (by simp only [rw_, cK]; omega) (by simp only [cK]; omega)
  · exact tile (rw_ 1) (cK 3) (asmK_at _ 1 3) (by simp only [r_83, k0_pay176, r_84, k0_pay177, r_85, k0_pay178, k0_pay170, cst_226, k0_pay179, add2, ext_2, trunc_2, cast24, shapeCast_self, mm1, slE, slD, hx.st, t_r_53 hx, t_r_51 hx] <;> rfl) (by simp only [rw_, cK]; omega) (by simp only [cK]; omega)
  · exact tile (rw_ 1) (cK 2) (asmK_at _ 1 2) (by simp only [k0_pay164, k0_pay158, add2, ext_2, trunc_2, cast24, shapeCast_self, mm1, slE, slD, hx.st, t_r_41 hx, t_r_43 hx] <;> rfl) (by simp only [rw_, cK]; omega) (by simp only [cK]; omega)
  · exact tile (rw_ 1) (cK 1) (asmK_at _ 1 1) (by simp only [r_75, k0_pay148, k0_pay155, add2, ext_2, trunc_2, cast24, shapeCast_self, mm1, slE, slD, hx.st, t_r_30 hx, t_r_32 hx] <;> rfl) (by simp only [rw_, cK]; omega) (by simp only [cK]; omega)
  · exact tile (rw_ 1) (cK 0) (asmK_at _ 1 0) (by simp only [r_72, k0_pay138, k0_pay145, add2, ext_2, trunc_2, cast24, shapeCast_self, mm1, slE, slD, hx.st, t_r_20 hx, t_r_22 hx] <;> rfl) (by simp only [rw_, cK]; omega) (by simp only [cK]; omega)
  · exact tile (rw_ 0) (cK 3) (asmK_at _ 0 3) (by simp only [r_68, k0_pay128, k0_pay135, add2, ext_2, trunc_2, cast24, shapeCast_self, mm1, slE, slD, hx.st, t_r_51 hx, t_r_53 hx] <;> rfl) (by simp only [rw_, cK]; omega) (by simp only [cK]; omega)
  · exact tile (rw_ 0) (cK 2) (asmK_at _ 0 2) (by simp only [r_64, k0_pay122, r_65, k0_pay123, r_66, k0_pay124, k0_pay116, cst_226, k0_pay125, add2, ext_2, trunc_2, cast24, shapeCast_self, mm1, slE, slD, hx.st, t_r_43 hx, t_r_41 hx] <;> rfl) (by simp only [rw_, cK]; omega) (by simp only [cK]; omega)
  · exact tile (rw_ 0) (cK 1) (asmK_at _ 0 1) (by simp only [k0_pay110, k0_pay104, add2, ext_2, trunc_2, cast24, shapeCast_self, mm1, slE, slD, hx.st, t_r_30 hx, t_r_32 hx] <;> rfl) (by simp only [rw_, cK]; omega) (by simp only [cK]; omega)
  · exact tile (rw_ 0) (cK 0) (asmK_at _ 0 0) (by simp only [r_56, k0_pay94, k0_pay101, add2, ext_2, trunc_2, cast24, shapeCast_self, mm1, slE, slD, hx.st, t_r_20 hx, t_r_22 hx] <;> rfl) (by simp only [rw_, cK]; omega) (by simp only [cK]; omega)
set_option maxHeartbeats 4000000 in
theorem c_dk (hx : Of R x) : View.canon (Val := Elt Ideal) (HS2_4 R) = up2 (dkd x) := by
  funext y
  unfold HS2_4
  canon_tiles x h
  · exact tile id (cK 3) (fun i j => colK_at _ 3 i j) (by simp only [k0_pay91, k0_pay89, k0_pay88, mul2, sub2, trunc_2, splat2, sig_up, sel2 inL, col256, shapeCast_self, bcR256x256, bcC, mean_up, ofb w_zero, ofb w_256, mm5, mm7, slA, mL, hx.v, t_r_12 hx, t_r_47 hx, t_r_48 hx, t_r_49 hx, t_r_50 hx]; (repeat ((first | rw [rd4]); try simp only [mul2, sub2, trunc_2, splat2, sig_up, sel2 inL, col256, shapeCast_self, bcR256x256, bcC, mean_up, ofb w_zero, ofb w_256, mm5, mm7, slA, mL, hx.v])); rfl) (by simp only [id, cK]; omega) (by simp only [cK]; omega)
  · exact tile id (cK 2) (fun i j => colK_at _ 2 i j) (by simp only [k0_pay75, k0_pay73, k0_pay72, mul2, sub2, trunc_2, splat2, sig_up, sel2 inL, col256, shapeCast_self, bcR256x256, bcC, mean_up, ofb w_zero, ofb w_256, mm5, mm7, slA, mL, hx.v, t_r_12 hx, t_r_36 hx, t_r_37 hx, t_r_38 hx, t_r_39 hx]; (repeat ((first | rw [rd4]); try simp only [mul2, sub2, trunc_2, splat2, sig_up, sel2 inL, col256, shapeCast_self, bcR256x256, bcC, mean_up, ofb w_zero, ofb w_256, mm5, mm7, slA, mL, hx.v])); rfl) (by simp only [id, cK]; omega) (by simp only [cK]; omega)
  · exact tile id (cK 1) (fun i j => colK_at _ 1 i j) (by simp only [k0_pay60, k0_pay58, k0_pay57, mul2, sub2, trunc_2, splat2, sig_up, sel2 inL, col256, shapeCast_self, bcR256x256, bcC, mean_up, ofb w_zero, ofb w_256, mm5, mm7, slA, mL, hx.v, t_r_12 hx, t_r_24 hx, t_r_25 hx, t_r_26 hx, t_r_27 hx]; (repeat ((first | rw [rd4]); try simp only [mul2, sub2, trunc_2, splat2, sig_up, sel2 inL, col256, shapeCast_self, bcR256x256, bcC, mean_up, ofb w_zero, ofb w_256, mm5, mm7, slA, mL, hx.v])); rfl) (by simp only [id, cK]; omega) (by simp only [cK]; omega)
  · exact tile id (cK 0) (fun i j => colK_at _ 0 i j) (by simp only [k0_pay44, k0_pay42, k0_pay41, mul2, sub2, trunc_2, splat2, sig_up, sel2 inL, col256, shapeCast_self, bcR256x256, bcC, mean_up, ofb w_zero, ofb w_256, mm5, mm7, slA, mL, hx.v, t_r_12 hx, t_r_16 hx, t_r_17 hx, t_r_18 hx, t_r_19 hx]; (repeat ((first | rw [rd4]); try simp only [mul2, sub2, trunc_2, splat2, sig_up, sel2 inL, col256, shapeCast_self, bcR256x256, bcC, mean_up, ofb w_zero, ofb w_256, mm5, mm7, slA, mL, hx.v])); rfl) (by simp only [id, cK]; omega) (by simp only [cK]; omega)
set_option maxHeartbeats 4000000 in
theorem c_dks (hx : Of R x) : View.canon (Val := Elt Ideal) (HS3_32 R) = up2 (dks x) := by
  funext y
  unfold HS3_32
  canon_tiles x h
  · exact tile (rw_ 7) (cK 3) (asmK_at _ 7 3) (by simp only [k0_pay431, k0_pay429, k0_pay427, trunc_2, cast23, shapeCast_self, mm1, slD, t_r_52 hx, t_v1759 hx] <;> rfl) (by simp only [rw_, cK]; omega) (by simp only [cK]; omega)
  · exact tile (rw_ 7) (cK 2) (asmK_at _ 7 2) (by simp only [r_171, k0_pay419, k0_pay417, k0_pay422, trunc_2, cast23, shapeCast_self, mm1, slD, t_r_42 hx, t_v1715 hx] <;> rfl) (by simp only [rw_, cK]; omega) (by simp only [cK]; omega)
  · exact tile (rw_ 7) (cK 1) (asmK_at _ 7 1) (by simp only [r_168, k0_pay411, k0_pay409, k0_pay407, k0_pay412, trunc_2, cast23, shapeCast_self, mm1, slD, t_r_31 hx, t_v1671 hx] <;> rfl) (by simp only [rw_, cK]; omega) (by simp only [cK]; omega)
  · exact tile (rw_ 7) (cK 0) (asmK_at _ 7 0) (by simp only [k0_pay401, k0_pay399, k0_pay397, trunc_2, cast23, shapeCast_self, mm1, slD, t_r_21 hx, t_v1627 hx] <;> rfl) (by simp only [rw_, cK]; omega) (by simp only [cK]; omega)
  · exact tile (rw_ 6) (cK 3) (asmK_at _ 6 3) (by simp only [k0_pay389, k0_pay387, k0_pay385, trunc_2, cast23, shapeCast_self, mm1, slD, t_r_52 hx, t_v1583 hx] <;> rfl) (by simp only [rw_, cK]; omega) (by simp only [cK]; omega)
  · exact tile (rw_ 6) (cK 2) (asmK_at _ 6 2) (by simp only [k0_pay377, k0_pay375, k0_pay373, trunc_2, cast23, shapeCast_self, mm1, slD, t_r_42 hx, t_v1539 hx] <;> rfl) (by simp only [rw_, cK]; omega) (by simp only [cK]; omega)
  · exact tile (rw_ 6) (cK 1) (asmK_at _ 6 1) (by simp only [r_152, k0_pay365, k0_pay363, k0_pay368, trunc_2, cast23, shapeCast_self, mm1, slD, t_r_31 hx, t_v1495 hx] <;> rfl) (by simp only [rw_, cK]; omega) (by simp only [cK]; omega)
  · exact tile (rw_ 6) (cK 0) (asmK_at _ 6 0) (by simp only [r_149, k0_pay357, k0_pay355, k0_pay353, k0_pay358, trunc_2, cast23, shapeCast_self, mm1, slD, t_r_21 hx, t_v1451 hx] <;> rfl) (by simp only [rw_, cK]; omega) (by simp only [cK]; omega)
  · exact tile (rw_ 5) (cK 3) (asmK_at _ 5 3) (by simp only [k0_pay347, k0_pay345, k0_pay343, trunc_2, cast23, shapeCast_self, mm1, slD, t_r_52 hx, t_v1407 hx] <;> rfl) (by simp only [rw_, cK]; omega) (by simp only [cK]; omega)
  · exact tile (rw_ 5) (cK 2) (asmK_at _ 5 2) (by simp only [k0_pay335, k0_pay333, k0_pay331, trunc_2, cast23, shapeCast_self, mm1, slD, t_r_42 hx, t_v1363 hx] <;> rfl) (by simp only [rw_, cK]; omega) (by simp only [cK]; omega)
  · exact tile (rw_ 5) (cK 1) (asmK_at _ 5 1) (by simp only [k0_pay323, k0_pay321, k0_pay319, trunc_2, cast23, shapeCast_self, mm1, slD, t_r_31 hx, t_v1319 hx] <;> rfl) (by simp only [rw_, cK]; omega) (by simp only [cK]; omega)
  · exact tile (rw_ 5) (cK 0) (asmK_at _ 5 0) (by simp only [r_133, k0_pay311, k0_pay309, k0_pay314, trunc_2, cast23, shapeCast_self, mm1, slD, t_r_21 hx, t_v1275 hx] <;> rfl) (by simp only [rw_, cK]; omega) (by simp only [cK]; omega)
  · exact tile (rw_ 4) (cK 3) (asmK_at _ 4 3) (by simp only [r_130, k0_pay303, k0_pay301, k0_pay299, k0_pay304, trunc_2, cast23, shapeCast_self, mm1, slD, t_r_52 hx, t_v1231 hx] <;> rfl) (by simp only [rw_, cK]; omega) (by simp only [cK]; omega)
  · exact tile (rw_ 4) (cK 2) (asmK_at _ 4 2) (by simp only [k0_pay293, k0_pay291, k0_pay289, trunc_2, cast23, shapeCast_self, mm1, slD, t_r_42 hx, t_v1187 hx] <;> rfl) (by simp only [rw_, cK]; omega) (by simp only [cK]; omega)
  · exact tile (rw_ 4) (cK 1) (asmK_at _ 4 1) (by simp only [k0_pay281, k0_pay279, k0_pay277, trunc_2, cast23, shapeCast_self, mm1, slD, t_r_31 hx, t_v1143 hx] <;> rfl) (by simp only [rw_, cK]; omega) (by simp only [cK]; omega)
  · exact tile (rw_ 4) (cK 0) (asmK_at _ 4 0) (by simp only [k0_pay269, k0_pay267, k0_pay265, trunc_2, cast23, shapeCast_self, mm1, slD, t_r_21 hx, t_v1099 hx] <;> rfl) (by simp only [rw_, cK]; omega) (by simp only [cK]; omega)
  · exact tile (rw_ 3) (cK 3) (asmK_at _ 3 3) (by simp only [r_114, k0_pay257, k0_pay255, k0_pay260, trunc_2, cast23, shapeCast_self, mm1, slD, t_r_52 hx, t_v1055 hx] <;> rfl) (by simp only [rw_, cK]; omega) (by simp only [cK]; omega)
  · exact tile (rw_ 3) (cK 2) (asmK_at _ 3 2) (by simp only [r_111, k0_pay249, k0_pay247, k0_pay245, k0_pay250, trunc_2, cast23, shapeCast_self, mm1, slD, t_r_42 hx, t_v1011 hx] <;> rfl) (by simp only [rw_, cK]; omega) (by simp only [cK]; omega)
  · exact tile (rw_ 3) (cK 1) (asmK_at _ 3 1) (by simp only [k0_pay239, k0_pay237, k0_pay235, trunc_2, cast23, shapeCast_self, mm1, slD, t_r_31 hx, t_v967 hx] <;> rfl) (by simp only [rw_, cK]; omega) (by simp only [cK]; omega)
  · exact tile (rw_ 3) (cK 0) (asmK_at _ 3 0) (by simp only [k0_pay227, k0_pay225, k0_pay223, trunc_2, cast23, shapeCast_self, mm1, slD, t_r_21 hx, t_v923 hx] <;> rfl) (by simp only [rw_, cK]; omega) (by simp only [cK]; omega)
  · exact tile (rw_ 2) (cK 3) (asmK_at _ 2 3) (by simp only [k0_pay215, k0_pay213, k0_pay211, trunc_2, cast23, shapeCast_self, mm1, slD, t_r_52 hx, t_v879 hx] <;> rfl) (by simp only [rw_, cK]; omega) (by simp only [cK]; omega)
  · exact tile (rw_ 2) (cK 2) (asmK_at _ 2 2) (by simp only [r_95, k0_pay203, k0_pay201, k0_pay206, trunc_2, cast23, shapeCast_self, mm1, slD, t_r_42 hx, t_v835 hx] <;> rfl) (by simp only [rw_, cK]; omega) (by simp only [cK]; omega)
  · exact tile (rw_ 2) (cK 1) (asmK_at _ 2 1) (by simp only [r_92, k0_pay195, k0_pay193, k0_pay191, k0_pay196, trunc_2, cast23, shapeCast_self, mm1, slD, t_r_31 hx, t_v791 hx] <;> rfl) (by simp only [rw_, cK]; omega) (by simp only [cK]; omega)
  · exact tile (rw_ 2) (cK 0) (asmK_at _ 2 0) (by simp only [k0_pay185, k0_pay183, k0_pay181, trunc_2, cast23, shapeCast_self, mm1, slD, t_r_21 hx, t_v747 hx] <;> rfl) (by simp only [rw_, cK]; omega) (by simp only [cK]; omega)
  · exact tile (rw_ 1) (cK 3) (asmK_at _ 1 3) (by simp only [k0_pay173, k0_pay171, k0_pay169, trunc_2, cast23, shapeCast_self, mm1, slD, t_r_52 hx, t_v703 hx] <;> rfl) (by simp only [rw_, cK]; omega) (by simp only [cK]; omega)
  · exact tile (rw_ 1) (cK 2) (asmK_at _ 1 2) (by simp only [k0_pay161, k0_pay159, k0_pay157, trunc_2, cast23, shapeCast_self, mm1, slD, t_r_42 hx, t_v659 hx] <;> rfl) (by simp only [rw_, cK]; omega) (by simp only [cK]; omega)
  · exact tile (rw_ 1) (cK 1) (asmK_at _ 1 1) (by simp only [r_76, k0_pay149, k0_pay147, k0_pay152, trunc_2, cast23, shapeCast_self, mm1, slD, t_r_31 hx, t_v615 hx] <;> rfl) (by simp only [rw_, cK]; omega) (by simp only [cK]; omega)
  · exact tile (rw_ 1) (cK 0) (asmK_at _ 1 0) (by simp only [r_73, k0_pay141, k0_pay139, k0_pay137, k0_pay142, trunc_2, cast23, shapeCast_self, mm1, slD, t_r_21 hx, t_v571 hx] <;> rfl) (by simp only [rw_, cK]; omega) (by simp only [cK]; omega)
  · exact tile (rw_ 0) (cK 3) (asmK_at _ 0 3) (by simp only [v527, k0_pay131, k0_pay129, k0_pay127, trunc_2, cast23, shapeCast_self, mm1, slD, hx.G3, t_r_52 hx] <;> rfl) (by simp only [rw_, cK]; omega) (by simp only [cK]; omega)
  · exact tile (rw_ 0) (cK 2) (asmK_at _ 0 2) (by simp only [v483, k0_pay119, k0_pay117, k0_pay115, trunc_2, cast23, shapeCast_self, mm1, slD, hx.G2, t_r_42 hx] <;> rfl) (by simp only [rw_, cK]; omega) (by simp only [cK]; omega)
  · exact tile (rw_ 0) (cK 1) (asmK_at _ 0 1) (by simp only [v439, k0_pay107, k0_pay105, k0_pay103, trunc_2, cast23, shapeCast_self, mm1, slD, hx.G1, t_r_31 hx] <;> rfl) (by simp only [rw_, cK]; omega) (by simp only [cK]; omega)
  · exact tile (rw_ 0) (cK 0) (asmK_at _ 0 0) (by simp only [r_57, k0_pay95, k0_pay93, k0_pay98, trunc_2, cast23, shapeCast_self, mm1, slD, hx.G0, t_r_21 hx] <;> rfl) (by simp only [rw_, cK]; omega) (by simp only [cK]; omega)
set_option maxHeartbeats 4000000 in
theorem c_ddl (hx : Of R x) : View.canon (Val := Elt Ideal) (HS4_32 R) = up2 (ddl x) := by
  funext y
  unfold HS4_32
  canon_tiles x h
  · exact tile (rw_ 7) (cK 3) (asmK_at _ 7 3) (by simp only [k0_pay433, k0_pay427, k0_pay428, k0_pay432, mul2, ext_2, splat2, row128, shapeCast_self, cast24, cast23, bcR32x128, slC, hx.st, t_r_15 hx, t_v1759 hx]; (repeat ((first | rw [rd1]); try simp only [mul2, ext_2, splat2, row128, shapeCast_self, cast24, cast23, bcR32x128, slC, hx.st])); rfl) (by simp only [rw_, cK]; omega) (by simp only [cK]; omega)
  · exact tile (rw_ 7) (cK 2) (asmK_at _ 7 2) (by simp only [r_169, k0_pay417, r_170, k0_pay418, k0_pay424, k0_pay423, mul2, ext_2, splat2, row128, shapeCast_self, cast24, cast23, bcR32x128, slC, hx.st, t_r_15 hx, t_v1715 hx]; (repeat ((first | rw [rd1]); try simp only [mul2, ext_2, splat2, row128, shapeCast_self, cast24, cast23, bcR32x128, slC, hx.st])); rfl) (by simp only [rw_, cK]; omega) (by simp only [cK]; omega)
  · exact tile (rw_ 7) (cK 1) (asmK_at _ 7 1) (by simp only [r_166, k0_pay407, r_167, k0_pay408, k0_pay414, k0_pay413, mul2, ext_2, splat2, row128, shapeCast_self, cast24, cast23, bcR32x128, slC, hx.st, t_r_15 hx, t_v1671 hx]; (repeat ((first | rw [rd1]); try simp only [mul2, ext_2, splat2, row128, shapeCast_self, cast24, cast23, bcR32x128, slC, hx.st])); rfl) (by simp only [rw_, cK]; omega) (by simp only [cK]; omega)
  · exact tile (rw_ 7) (cK 0) (asmK_at _ 7 0) (by simp only [r_165, k0_pay403, k0_pay397, k0_pay398, k0_pay402, k0_pay404, mul2, ext_2, splat2, row128, shapeCast_self, cast24, cast23, bcR32x128, slC, hx.st, t_r_15 hx, t_v1627 hx]; (repeat ((first | rw [rd1]); try simp only [mul2, ext_2, splat2, row128, shapeCast_self, cast24, cast23, bcR32x128, slC, hx.st])); rfl) (by simp only [rw_, cK]; omega) (by simp only [cK]; omega)
  · exact tile (rw_ 6) (cK 3) (asmK_at _ 6 3) (by simp only [k0_pay391, k0_pay385, k0_pay386, k0_pay390, mul2, ext_2, splat2, row128, shapeCast_self, cast24, cast23, bcR32x128, slC, hx.st, t_r_15 hx, t_v1583 hx]; (repeat ((first | rw [rd1]); try simp only [mul2, ext_2, splat2, row128, shapeCast_self, cast24, cast23, bcR32x128, slC, hx.st])); rfl) (by simp only [rw_, cK]; omega) (by simp only [cK]; omega)
  · exact tile (rw_ 6) (cK 2) (asmK_at _ 6 2) (by simp only [k0_pay379, k0_pay373, k0_pay374, k0_pay378, mul2, ext_2, splat2, row128, shapeCast_self, cast24, cast23, bcR32x128, slC, hx.st, t_r_15 hx, t_v1539 hx]; (repeat ((first | rw [rd1]); try simp only [mul2, ext_2, splat2, row128, shapeCast_self, cast24, cast23, bcR32x128, slC, hx.st])); rfl) (by simp only [rw_, cK]; omega) (by simp only [cK]; omega)
  · exact tile (rw_ 6) (cK 1) (asmK_at _ 6 1) (by simp only [r_150, k0_pay363, r_151, k0_pay364, k0_pay370, k0_pay369, mul2, ext_2, splat2, row128, shapeCast_self, cast24, cast23, bcR32x128, slC, hx.st, t_r_15 hx, t_v1495 hx]; (repeat ((first | rw [rd1]); try simp only [mul2, ext_2, splat2, row128, shapeCast_self, cast24, cast23, bcR32x128, slC, hx.st])); rfl) (by simp only [rw_, cK]; omega) (by simp only [cK]; omega)
  · exact tile (rw_ 6) (cK 0) (asmK_at _ 6 0) (by simp only [r_147, k0_pay353, r_148, k0_pay354, k0_pay360, k0_pay359, mul2, ext_2, splat2, row128, shapeCast_self, cast24, cast23, bcR32x128, slC, hx.st, t_r_15 hx, t_v1451 hx]; (repeat ((first | rw [rd1]); try simp only [mul2, ext_2, splat2, row128, shapeCast_self, cast24, cast23, bcR32x128, slC, hx.st])); rfl) (by simp only [rw_, cK]; omega) (by simp only [cK]; omega)
  · exact tile (rw_ 5) (cK 3) (asmK_at _ 5 3) (by simp only [r_146, k0_pay349, k0_pay343, k0_pay344, k0_pay348, k0_pay350, mul2, ext_2, splat2, row128, shapeCast_self, cast24, cast23, bcR32x128, slC, hx.st, t_r_15 hx, t_v1407 hx]; (repeat ((first | rw [rd1]); try simp only [mul2, ext_2, splat2, row128, shapeCast_self, cast24, cast23, bcR32x128, slC, hx.st])); rfl) (by simp only [rw_, cK]; omega) (by simp only [cK]; omega)
  · exact tile (rw_ 5) (cK 2) (asmK_at _ 5 2) (by simp only [k0_pay337, k0_pay331, k0_pay332, k0_pay336, mul2, ext_2, splat2, row128, shapeCast_self, cast24, cast23, bcR32x128, slC, hx.st, t_r_15 hx, t_v1363 hx]; (repeat ((first | rw [rd1]); try simp only [mul2, ext_2, splat2, row128, shapeCast_self, cast24, cast23, bcR32x128, slC, hx.st])); rfl) (by simp only [rw_, cK]; omega) (by simp only [cK]; omega)
  · exact tile (rw_ 5) (cK 1) (asmK_at _ 5 1) (by simp only [k0_pay325, k0_pay319, k0_pay320, k0_pay324, mul2, ext_2, splat2, row128, shapeCast_self, cast24, cast23, bcR32x128, slC, hx.st, t_r_15 hx, t_v1319 hx]; (repeat ((first | rw [rd1]); try simp only [mul2, ext_2, splat2, row128, shapeCast_self, cast24, cast23, bcR32x128, slC, hx.st])); rfl) (by simp only [rw_, cK]; omega) (by simp only [cK]; omega)
  · exact tile (rw_ 5) (cK 0) (asmK_at _ 5 0) (by simp only [r_131, k0_pay309, r_132, k0_pay310, k0_pay316, k0_pay315, mul2, ext_2, splat2, row128, shapeCast_self, cast24, cast23, bcR32x128, slC, hx.st, t_r_15 hx, t_v1275 hx]; (repeat ((first | rw [rd1]); try simp only [mul2, ext_2, splat2, row128, shapeCast_self, cast24, cast23, bcR32x128, slC, hx.st])); rfl) (by simp only [rw_, cK]; omega) (by simp only [cK]; omega)
  · exact tile (rw_ 4) (cK 3) (asmK_at _ 4 3) (by simp only [r_128, k0_pay299, r_129, k0_pay300, k0_pay306, k0_pay305, mul2, ext_2, splat2, row128, shapeCast_self, cast24, cast23, bcR32x128, slC, hx.st, t_r_15 hx, t_v1231 hx]; (repeat ((first | rw [rd1]); try simp only [mul2, ext_2, splat2, row128, shapeCast_self, cast24, cast23, bcR32x128, slC, hx.st])); rfl) (by simp only [rw_, cK]; omega) (by simp only [cK]; omega)
  · exact tile (rw_ 4) (cK 2) (asmK_at _ 4 2) (by simp only [r_127, k0_pay295, k0_pay289, k0_pay290, k0_pay294, k0_pay296, mul2, ext_2, splat2, row128, shapeCast_self, cast24, cast23, bcR32x128, slC, hx.st, t_r_15 hx, t_v1187 hx]; (repeat ((first | rw [rd1]); try simp only [mul2, ext_2, splat2, row128, shapeCast_self, cast24, cast23, bcR32x128, slC, hx.st])); rfl) (by simp only [rw_, cK]; omega) (by simp only [cK]; omega)
  · exact tile (rw_ 4) (cK 1) (asmK_at _ 4 1) (by simp only [k0_pay283, k0_pay277, k0_pay278, k0_pay282, mul2, ext_2, splat2, row128, shapeCast_self, cast24, cast23, bcR32x128, slC, hx.st, t_r_15 hx, t_v1143 hx]; (repeat ((first | rw [rd1]); try simp only [mul2, ext_2, splat2, row128, shapeCast_self, cast24, cast23, bcR32x128, slC, hx.st])); rfl) (by simp only [rw_, cK]; omega) (by simp only [cK]; omega)
  · exact tile (rw_ 4) (cK 0) (asmK_at _ 4 0) (by simp only [k0_pay271, k0_pay265, k0_pay266, k0_pay270, mul2, ext_2, splat2, row128, shapeCast_self, cast24, cast23, bcR32x128, slC, hx.st, t_r_15 hx, t_v1099 hx]; (repeat ((first | rw [rd1]); try simp only [mul2, ext_2, splat2, row128, shapeCast_self, cast24, cast23, bcR32x128, slC, hx.st])); rfl) (by simp only [rw_, cK]; omega) (by simp only [cK]; omega)
  · exact tile (rw_ 3) (cK 3) (asmK_at _ 3 3) (by simp only [r_112, k0_pay255, r_113, k0_pay256, k0_pay262, k0_pay261, mul2, ext_2, splat2, row128, shapeCast_self, cast24, cast23, bcR32x128, slC, hx.st, t_r_15 hx, t_v1055 hx]; (repeat ((first | rw [rd1]); try simp only [mul2, ext_2, splat2, row128, shapeCast_self, cast24, cast23, bcR32x128, slC, hx.st])); rfl) (by simp only [rw_, cK]; omega) (by simp only [cK]; omega)
  · exact tile (rw_ 3) (cK 2) (asmK_at _ 3 2) (by simp only [r_109, k0_pay245, r_110, k0_pay246, k0_pay252, k0_pay251, mul2, ext_2, splat2, row128, shapeCast_self, cast24, cast23, bcR32x128, slC, hx.st, t_r_15 hx, t_v1011 hx]; (repeat ((first | rw [rd1]); try simp only [mul2, ext_2, splat2, row128, shapeCast_self, cast24, cast23, bcR32x128, slC, hx.st])); rfl) (by simp only [rw_, cK]; omega) (by simp only [cK]; omega)
  · exact tile (rw_ 3) (cK 1) (asmK_at _ 3 1) (by simp only [r_108, k0_pay241, k0_pay235, k0_pay236, k0_pay240, k0_pay242, mul2, ext_2, splat2, row128, shapeCast_self, cast24, cast23, bcR32x128, slC, hx.st, t_r_15 hx, t_v967 hx]; (repeat ((first | rw [rd1]); try simp only [mul2, ext_2, splat2, row128, shapeCast_self, cast24, cast23, bcR32x128, slC, hx.st])); rfl) (by simp only [rw_, cK]; omega) (by simp only [cK]; omega)
  · exact tile (rw_ 3) (cK 0) (asmK_at _ 3 0) (by simp only [k0_pay229, k0_pay223, k0_pay224, k0_pay228, mul2, ext_2, splat2, row128, shapeCast_self, cast24, cast23, bcR32x128, slC, hx.st, t_r_15 hx, t_v923 hx]; (repeat ((first | rw [rd1]); try simp only [mul2, ext_2, splat2, row128, shapeCast_self, cast24, cast23, bcR32x128, slC, hx.st])); rfl) (by simp only [rw_, cK]; omega) (by simp only [cK]; omega)
  · exact tile (rw_ 2) (cK 3) (asmK_at _ 2 3) (by simp only [k0_pay217, k0_pay211, k0_pay212, k0_pay216, mul2, ext_2, splat2, row128, shapeCast_self, cast24, cast23, bcR32x128, slC, hx.st, t_r_15 hx, t_v879 hx]; (repeat ((first | rw [rd1]); try simp only [mul2, ext_2, splat2, row128, shapeCast_self, cast24, cast23, bcR32x128, slC, hx.st])); rfl) (by simp only [rw_, cK]; omega) (by simp only [cK]; omega)
  · exact tile (rw_ 2) (cK 2) (asmK_at _ 2 2) (by simp only [r_93, k0_pay201, r_94, k0_pay202, k0_pay208, k0_pay207, mul2, ext_2, splat2, row128, shapeCast_self, cast24, cast23, bcR32x128, slC, hx.st, t_r_15 hx, t_v835 hx]; (repeat ((first | rw [rd1]); try simp only [mul2, ext_2, splat2, row128, shapeCast_self, cast24, cast23, bcR32x128, slC, hx.st])); rfl) (by simp only [rw_, cK]; omega) (by simp only [cK]; omega)
  · exact tile (rw_ 2) (cK 1) (asmK_at _ 2 1) (by simp only [r_90, k0_pay191, r_91, k0_pay192, k0_pay198, k0_pay197, mul2, ext_2, splat2, row128, shapeCast_self, cast24, cast23, bcR32x128, slC, hx.st, t_r_15 hx, t_v791 hx]; (repeat ((first | rw [rd1]); try simp only [mul2, ext_2, splat2, row128, shapeCast_self, cast24, cast23, bcR32x128, slC, hx.st])); rfl) (by simp only [rw_, cK]; omega) (by simp only [cK]; omega)
  · exact tile (rw_ 2) (cK 0) (asmK_at _ 2 0) (by simp only [r_89, k0_pay187, k0_pay181, k0_pay182, k0_pay186, k0_pay188, mul2, ext_2, splat2, row128, shapeCast_self, cast24, cast23, bcR32x128, slC, hx.st, t_r_15 hx, t_v747 hx]; (repeat ((first | rw [rd1]); try simp only [mul2, ext_2, splat2, row128, shapeCast_self, cast24, cast23, bcR32x128, slC, hx.st])); rfl) (by simp only [rw_, cK]; omega) (by simp only [cK]; omega)
  · exact tile (rw_ 1) (cK 3) (asmK_at _ 1 3) (by simp only [k0_pay175, k0_pay169, k0_pay170, k0_pay174, mul2, ext_2, splat2, row128, shapeCast_self, cast24, cast23, bcR32x128, slC, hx.st, t_r_15 hx, t_v703 hx]; (repeat ((first | rw [rd1]); try simp only [mul2, ext_2, splat2, row128, shapeCast_self, cast24, cast23, bcR32x128, slC, hx.st])); rfl) (by simp only [rw_, cK]; omega) (by simp only [cK]; omega)
  · exact tile (rw_ 1) (cK 2) (asmK_at _ 1 2) (by simp only [k0_pay163, k0_pay157, k0_pay158, k0_pay162, mul2, ext_2, splat2, row128, shapeCast_self, cast24, cast23, bcR32x128, slC, hx.st, t_r_15 hx, t_v659 hx]; (repeat ((first | rw [rd1]); try simp only [mul2, ext_2, splat2, row128, shapeCast_self, cast24, cast23, bcR32x128, slC, hx.st])); rfl) (by simp only [rw_, cK]; omega) (by simp only [cK]; omega)
  · exact tile (rw_ 1) (cK 1) (asmK_at _ 1 1) (by simp only [r_74, k0_pay147, r_75, k0_pay148, k0_pay154, k0_pay153, mul2, ext_2, splat2, row128, shapeCast_self, cast24, cast23, bcR32x128, slC, hx.st, t_r_15 hx, t_v615 hx]; (repeat ((first | rw [rd1]); try simp only [mul2, ext_2, splat2, row128, shapeCast_self, cast24, cast23, bcR32x128, slC, hx.st])); rfl) (by simp only [rw_, cK]; omega) (by simp only [cK]; omega)
  · exact tile (rw_ 1) (cK 0) (asmK_at _ 1 0) (by simp only [r_71, k0_pay137, r_72, k0_pay138, k0_pay144, k0_pay143, mul2, ext_2, splat2, row128, shapeCast_self, cast24, cast23, bcR32x128, slC, hx.st, t_r_15 hx, t_v571 hx]; (repeat ((first | rw [rd1]); try simp only [mul2, ext_2, splat2, row128, shapeCast_self, cast24, cast23, bcR32x128, slC, hx.st])); rfl) (by simp only [rw_, cK]; omega) (by simp only [cK]; omega)
  · exact tile (rw_ 0) (cK 3) (asmK_at _ 0 3) (by simp only [r_70, v527, k0_pay133, k0_pay127, k0_pay128, k0_pay132, k0_pay134, mul2, ext_2, splat2, row128, shapeCast_self, cast24, cast23, bcR32x128, slC, hx.st, hx.G3, t_r_15 hx]; (repeat ((first | rw [rd1]); try simp only [mul2, ext_2, splat2, row128, shapeCast_self, cast24, cast23, bcR32x128, slC, hx.st, hx.G3])); rfl) (by simp only [rw_, cK]; omega) (by simp only [cK]; omega)
  · exact tile (rw_ 0) (cK 2) (asmK_at _ 0 2) (by simp only [v483, k0_pay121, k0_pay115, k0_pay116, k0_pay120, mul2, ext_2, splat2, row128, shapeCast_self, cast24, cast23, bcR32x128, slC, hx.st, hx.G2, t_r_15 hx]; (repeat ((first | rw [rd1]); try simp only [mul2, ext_2, splat2, row128, shapeCast_self, cast24, cast23, bcR32x128, slC, hx.st, hx.G2])); rfl) (by simp only [rw_, cK]; omega) (by simp only [cK]; omega)
  · exact tile (rw_ 0) (cK 1) (asmK_at _ 0 1) (by simp only [v439, k0_pay109, k0_pay103, k0_pay104, k0_pay108, mul2, ext_2, splat2, row128, shapeCast_self, cast24, cast23, bcR32x128, slC, hx.st, hx.G1, t_r_15 hx]; (repeat ((first | rw [rd1]); try simp only [mul2, ext_2, splat2, row128, shapeCast_self, cast24, cast23, bcR32x128, slC, hx.st, hx.G1])); rfl) (by simp only [rw_, cK]; omega) (by simp only [cK]; omega)
  · exact tile (rw_ 0) (cK 0) (asmK_at _ 0 0) (by simp only [r_55, k0_pay93, r_56, k0_pay94, k0_pay100, k0_pay99, mul2, ext_2, splat2, row128, shapeCast_self, cast24, cast23, bcR32x128, slC, hx.st, hx.G0, t_r_15 hx]; (repeat ((first | rw [rd1]); try simp only [mul2, ext_2, splat2, row128, shapeCast_self, cast24, cast23, bcR32x128, slC, hx.st, hx.G0])); rfl) (by simp only [rw_, cK]; omega) (by simp only [cK]; omega)
set_option maxHeartbeats 4000000 in
theorem c_13 (hx : Of R x) : View.canon (Val := Elt Ideal) (L13 R) = up2 (odv x) := by
  funext y
  unfold L13
  canon_tiles x h
  · exact tile (rw_ 7) (cV 3) (asmV_at _ 7 3) (by simp only [k0_pay430, k0_pay429, k0_pay427, add2, trunc_2, cast23, mm2, slD, slB, t_r_14 hx, t_r_54 hx, t_v1759 hx] <;> rfl) (by simp only [rw_, cV]; omega) (by simp only [cV]; omega)
  · exact tile (rw_ 7) (cV 2) (asmV_at _ 7 2) (by simp only [r_171, k0_pay419, k0_pay417, r_172, k0_pay420, k0_pay421, add2, trunc_2, cast23, mm2, slD, slB, t_r_14 hx, t_v1715 hx, t_r_44 hx] <;> rfl) (by simp only [rw_, cV]; omega) (by simp only [cV]; omega)
  · exact tile (rw_ 7) (cV 1) (asmV_at _ 7 1) (by simp only [k0_pay410, k0_pay409, k0_pay407, add2, trunc_2, cast23, mm2, slD, slB, t_r_14 hx, t_r_33 hx, t_v1671 hx] <;> rfl) (by simp only [rw_, cV]; omega) (by simp only [cV]; omega)
  · exact tile (rw_ 7) (cV 0) (asmV_at _ 7 0) (by simp only [k0_pay400, k0_pay399, k0_pay397, add2, trunc_2, cast23, mm2, slD, slB, t_r_14 hx, t_r_23 hx, t_v1627 hx] <;> rfl) (by simp only [rw_, cV]; omega) (by simp only [cV]; omega)
  · exact tile (rw_ 6) (cV 3) (asmV_at _ 6 3) (by simp only [k0_pay388, k0_pay387, k0_pay385, add2, trunc_2, cast23, mm2, slD, slB, t_r_14 hx, t_r_54 hx, t_v1583 hx] <;> rfl) (by simp only [rw_, cV]; omega) (by simp only [cV]; omega)
  · exact tile (rw_ 6) (cV 2) (asmV_at _ 6 2) (by simp only [k0_pay376, k0_pay375, k0_pay373, add2, trunc_2, cast23, mm2, slD, slB, t_r_14 hx, t_r_44 hx, t_v1539 hx] <;> rfl) (by simp only [rw_, cV]; omega) (by simp only [cV]; omega)
  · exact tile (rw_ 6) (cV 1) (asmV_at _ 6 1) (by simp only [r_152, k0_pay365, k0_pay363, r_153, k0_pay366, k0_pay367, add2, trunc_2, cast23, mm2, slD, slB, t_r_14 hx, t_v1495 hx, t_r_33 hx] <;> rfl) (by simp only [rw_, cV]; omega) (by simp only [cV]; omega)
  · exact tile (rw_ 6) (cV 0) (asmV_at _ 6 0) (by simp only [k0_pay356, k0_pay355, k0_pay353, add2, trunc_2, cast23, mm2, slD, slB, t_r_14 hx, t_r_23 hx, t_v1451 hx] <;> rfl) (by simp only [rw_, cV]; omega) (by simp only [cV]; omega)
  · exact tile (rw_ 5) (cV 3) (asmV_at _ 5 3) (by simp only [k0_pay346, k0_pay345, k0_pay343, add2, trunc_2, cast23, mm2, slD, slB, t_r_14 hx, t_r_54 hx, t_v1407 hx] <;> rfl) (by simp only [rw_, cV]; omega) (by simp only [cV]; omega)
  · exact tile (rw_ 5) (cV 2) (asmV_at _ 5 2) (by simp only [k0_pay334, k0_pay333, k0_pay331, add2, trunc_2, cast23, mm2, slD, slB, t_r_14 hx, t_r_44 hx, t_v1363 hx] <;> rfl) (by simp only [rw_, cV]; omega) (by simp only [cV]; omega)
  · exact tile (rw_ 5) (cV 1) (asmV_at _ 5 1) (by simp only [k0_pay322, k0_pay321, k0_pay319, add2, trunc_2, cast23, mm2, slD, slB, t_r_14 hx, t_r_33 hx, t_v1319 hx] <;> rfl) (by simp only [rw_, cV]; omega) (by simp only [cV]; omega)
  · exact tile (rw_ 5) (cV 0) (asmV_at _ 5 0) (by simp only [r_133, k0_pay311, k0_pay309, r_134, k0_pay312, k0_pay313, add2, trunc_2, cast23, mm2, slD, slB, t_r_14 hx, t_v1275 hx, t_r_23 hx] <;> rfl) (by simp only [rw_, cV]; omega) (by simp only [cV]; omega)
  · exact tile (rw_ 4) (cV 3) (asmV_at _ 4 3) (by simp only [k0_pay302, k0_pay301, k0_pay299, add2, trunc_2, cast23, mm2, slD, slB, t_r_14 hx, t_r_54 hx, t_v1231 hx] <;> rfl) (by simp only [rw_, cV]; omega) (by simp only [cV]; omega)
  · exact tile (rw_ 4) (cV 2) (asmV_at _ 4 2) (by simp only [k0_pay292, k0_pay291, k0_pay289, add2, trunc_2, cast23, mm2, slD, slB, t_r_14 hx, t_r_44 hx, t_v1187 hx] <;> rfl) (by simp only [rw_, cV]; omega) (by simp only [cV]; omega)
  · exact tile (rw_ 4) (cV 1) (asmV_at _ 4 1) (by simp only [k0_pay280, k0_pay279, k0_pay277, add2, trunc_2, cast23, mm2, slD, slB, t_r_14 hx, t_r_33 hx, t_v1143 hx] <;> rfl) (by simp only [rw_, cV]; omega) (by simp only [cV]; omega)
  · exact tile (rw_ 4) (cV 0) (asmV_at _ 4 0) (by simp only [k0_pay268, k0_pay267, k0_pay265, add2, trunc_2, cast23, mm2, slD, slB, t_r_14 hx, t_r_23 hx, t_v1099 hx] <;> rfl) (by simp only [rw_, cV]; omega) (by simp only [cV]; omega)
  · exact tile (rw_ 3) (cV 3) (asmV_at _ 3 3) (by simp only [r_114, k0_pay257, k0_pay255, r_115, k0_pay258, k0_pay259, add2, trunc_2, cast23, mm2, slD, slB, t_r_14 hx, t_v1055 hx, t_r_54 hx] <;> rfl) (by simp only [rw_, cV]; omega) (by simp only [cV]; omega)
  · exact tile (rw_ 3) (cV 2) (asmV_at _ 3 2) (by simp only [k0_pay248, k0_pay247, k0_pay245, add2, trunc_2, cast23, mm2, slD, slB, t_r_14 hx, t_r_44 hx, t_v1011 hx] <;> rfl) (by simp only [rw_, cV]; omega) (by simp only [cV]; omega)
  · exact tile (rw_ 3) (cV 1) (asmV_at _ 3 1) (by simp only [k0_pay238, k0_pay237, k0_pay235, add2, trunc_2, cast23, mm2, slD, slB, t_r_14 hx, t_r_33 hx, t_v967 hx] <;> rfl) (by simp only [rw_, cV]; omega) (by simp only [cV]; omega)
  · exact tile (rw_ 3) (cV 0) (asmV_at _ 3 0) (by simp only [k0_pay226, k0_pay225, k0_pay223, add2, trunc_2, cast23, mm2, slD, slB, t_r_14 hx, t_r_23 hx, t_v923 hx] <;> rfl) (by simp only [rw_, cV]; omega) (by simp only [cV]; omega)
  · exact tile (rw_ 2) (cV 3) (asmV_at _ 2 3) (by simp only [k0_pay214, k0_pay213, k0_pay211, add2, trunc_2, cast23, mm2, slD, slB, t_r_14 hx, t_r_54 hx, t_v879 hx] <;> rfl) (by simp only [rw_, cV]; omega) (by simp only [cV]; omega)
  · exact tile (rw_ 2) (cV 2) (asmV_at _ 2 2) (by simp only [r_95, k0_pay203, k0_pay201, r_96, k0_pay204, k0_pay205, add2, trunc_2, cast23, mm2, slD, slB, t_r_14 hx, t_v835 hx, t_r_44 hx] <;> rfl) (by simp only [rw_, cV]; omega) (by simp only [cV]; omega)
  · exact tile (rw_ 2) (cV 1) (asmV_at _ 2 1) (by simp only [k0_pay194, k0_pay193, k0_pay191, add2, trunc_2, cast23, mm2, slD, slB, t_r_14 hx, t_r_33 hx, t_v791 hx] <;> rfl) (by simp only [rw_, cV]; omega) (by simp only [cV]; omega)
  · exact tile (rw_ 2) (cV 0) (asmV_at _ 2 0) (by simp only [k0_pay184, k0_pay183, k0_pay181, add2, trunc_2, cast23, mm2, slD, slB, t_r_14 hx, t_r_23 hx, t_v747 hx] <;> rfl) (by simp only [rw_, cV]; omega) (by simp only [cV]; omega)
  · exact tile (rw_ 1) (cV 3) (asmV_at _ 1 3) (by simp only [k0_pay172, k0_pay171, k0_pay169, add2, trunc_2, cast23, mm2, slD, slB, t_r_14 hx, t_r_54 hx, t_v703 hx] <;> rfl) (by simp only [rw_, cV]; omega) (by simp only [cV]; omega)
  · exact tile (rw_ 1) (cV 2) (asmV_at _ 1 2) (by simp only [k0_pay160, k0_pay159, k0_pay157, add2, trunc_2, cast23, mm2, slD, slB, t_r_14 hx, t_r_44 hx, t_v659 hx] <;> rfl) (by simp only [rw_, cV]; omega) (by simp only [cV]; omega)
  · exact tile (rw_ 1) (cV 1) (asmV_at _ 1 1) (by simp only [r_76, k0_pay149, k0_pay147, r_77, k0_pay150, k0_pay151, add2, trunc_2, cast23, mm2, slD, slB, t_r_14 hx, t_v615 hx, t_r_33 hx] <;> rfl) (by simp only [rw_, cV]; omega) (by simp only [cV]; omega)
  · exact tile (rw_ 1) (cV 0) (asmV_at _ 1 0) (by simp only [k0_pay140, k0_pay139, k0_pay137, add2, trunc_2, cast23, mm2, slD, slB, t_r_14 hx, t_r_23 hx, t_v571 hx] <;> rfl) (by simp only [rw_, cV]; omega) (by simp only [cV]; omega)
  · exact tile (rw_ 0) (cV 3) (asmV_at _ 0 3) (by simp only [v527, k0_pay130, k0_pay129, k0_pay127, add2, trunc_2, cast23, mm2, slD, slB, hx.G3, t_r_14 hx, t_r_54 hx] <;> rfl) (by simp only [rw_, cV]; omega) (by simp only [cV]; omega)
  · exact tile (rw_ 0) (cV 2) (asmV_at _ 0 2) (by simp only [v483, k0_pay118, k0_pay117, k0_pay115, add2, trunc_2, cast23, mm2, slD, slB, hx.G2, t_r_14 hx, t_r_44 hx] <;> rfl) (by simp only [rw_, cV]; omega) (by simp only [cV]; omega)
  · exact tile (rw_ 0) (cV 1) (asmV_at _ 0 1) (by simp only [v439, k0_pay106, k0_pay105, k0_pay103, add2, trunc_2, cast23, mm2, slD, slB, hx.G1, t_r_14 hx, t_r_33 hx] <;> rfl) (by simp only [rw_, cV]; omega) (by simp only [cV]; omega)
  · exact tile (rw_ 0) (cV 0) (asmV_at _ 0 0) (by simp only [r_57, k0_pay95, k0_pay93, r_58, k0_pay96, k0_pay97, add2, trunc_2, cast23, mm2, slD, slB, hx.G0, t_r_14 hx, t_r_23 hx] <;> rfl) (by simp only [rw_, cV]; omega) (by simp only [cV]; omega)
set_option maxHeartbeats 4000000 in
theorem c_14 (hx : Of R x) : View.canon (Val := Elt Ideal) (L14 R) = up2 (odr x) := by
  funext y
  unfold L14
  canon_tiles x h
  · exact tile id (cV 3) (fun i j => colV_at _ 3 i j) (by simp only [r_45, k0_pay77, r_46, k0_pay78, k0_pay86, k0_pay81, k0_pay80, k0_pay84, k0_pay83, k0_pay82, k0_pay79, mul2, add2, sub2, exp2, ext_2, trunc_2, splat2, sig_up, col256, shapeCast_self, bcR256x256, bcC, mean_up, rs_up, ofb w_one, ofb w_zero, ofb w_eps, ofb w_256, hx.r, hx.gh, hx.op, hx.ct]; (repeat ((first | rw [rd4]); try simp only [mul2, add2, sub2, exp2, ext_2, trunc_2, splat2, sig_up, col256, shapeCast_self, bcR256x256, bcC, mean_up, rs_up, ofb w_one, ofb w_zero, ofb w_eps, ofb w_256, hx.r, hx.gh, hx.op, hx.ct])); rfl) (by simp only [id, cV]; omega) (by simp only [cV]; omega)
  · exact tile id (cV 2) (fun i j => colV_at _ 2 i j) (by simp only [r_34, k0_pay62, r_35, k0_pay63, k0_pay70, k0_pay65, k0_pay64, k0_pay68, k0_pay67, k0_pay66, mul2, add2, sub2, exp2, ext_2, trunc_2, splat2, sig_up, col256, shapeCast_self, bcR256x256, bcC, mean_up, rs_up, ofb w_one, ofb w_zero, ofb w_eps, ofb w_256, hx.r, hx.gh, hx.op, hx.ct]; (repeat ((first | rw [rd4]); try simp only [mul2, add2, sub2, exp2, ext_2, trunc_2, splat2, sig_up, col256, shapeCast_self, bcR256x256, bcC, mean_up, rs_up, ofb w_one, ofb w_zero, ofb w_eps, ofb w_256, hx.r, hx.gh, hx.op, hx.ct])); rfl) (by simp only [id, cV]; omega) (by simp only [cV]; omega)
  · exact tile id (cV 1) (fun i j => colV_at _ 1 i j) (by simp only [k0_pay53, k0_pay48, k0_pay47, k0_pay46, k0_pay51, k0_pay50, k0_pay49, mul2, add2, sub2, exp2, ext_2, trunc_2, splat2, sig_up, col256, shapeCast_self, bcR256x256, bcC, mean_up, rs_up, ofb w_one, ofb w_zero, ofb w_eps, ofb w_256, hx.r, hx.gh, hx.op, hx.ct]; (repeat ((first | rw [rd4]); try simp only [mul2, add2, sub2, exp2, ext_2, trunc_2, splat2, sig_up, col256, shapeCast_self, bcR256x256, bcC, mean_up, rs_up, ofb w_one, ofb w_zero, ofb w_eps, ofb w_256, hx.r, hx.gh, hx.op, hx.ct])); rfl) (by simp only [id, cV]; omega) (by simp only [cV]; omega)
  · exact tile id (cV 0) (fun i j => colV_at _ 0 i j) (by simp only [k0_pay39, k0_pay34, k0_pay33, k0_pay32, k0_pay37, k0_pay36, k0_pay35, mul2, add2, sub2, exp2, ext_2, trunc_2, splat2, sig_up, col256, shapeCast_self, bcR256x256, bcC, mean_up, rs_up, ofb w_one, ofb w_zero, ofb w_eps, ofb w_256, hx.r, hx.gh, hx.op, hx.ct]; (repeat ((first | rw [rd4]); try simp only [mul2, add2, sub2, exp2, ext_2, trunc_2, splat2, sig_up, col256, shapeCast_self, bcR256x256, bcC, mean_up, rs_up, ofb w_one, ofb w_zero, ofb w_eps, ofb w_256, hx.r, hx.gh, hx.op, hx.ct])); rfl) (by simp only [id, cV]; omega) (by simp only [cV]; omega)
theorem t_v1803 (hx : Of R x) : v1803 R = up2 (dqd x) := by
  rw [v1803, View.readCov_eq_canon', c_dq hx]
  exact View.ld_unit_zero (Val := Elt Ideal) (e := .f32) z2 _ _
theorem t_v1804 (hx : Of R x) : v1804 R = up2 (dkd x) := by
  rw [v1804, View.readCov_eq_canon', c_dk hx]
  exact View.ld_unit_zero (Val := Elt Ideal) (e := .f32) z2 _ _
theorem t_v1805 (hx : Of R x) : v1805 R = up2 (dks x) := by
  rw [v1805, View.readCov_eq_canon', c_dks hx]
  exact View.ld_unit_zero (Val := Elt Ideal) (e := .f32) z2 _ _
theorem t_v1836 (hx : Of R x) : v1836 R = up2 (ddl x) := by
  rw [v1836, View.readCov_eq_canon', c_ddl hx]
  exact View.ld_unit_zero (Val := Elt Ideal) (e := .f32) z2 _ _
theorem t_r_176 (hx : Of R x) : r_176 R = up2 (dla0 x) := by
  simp only [r_176, k0_pay441, mul2, add2, sub2, ext_2, trunc_2, mm4, m12, m14, t_r_9 hx, t_r_10 hx, t_r_11 hx, t_v1803 hx, t_v1804 hx, t_v1805 hx, sub_self, mul_zero, Finset.sum_const_zero, add_zero] <;> rfl
theorem t_r_177 (hx : Of R x) : r_177 R = up2 (dla x) := by
  simp only [r_177, k0_pay442, mul2, add2, splat2, ofb w_16th, t_r_176 hx, t_v1836 hx] <;> rfl
theorem t_r_178 (hx : Of R x) : r_178 R = up2 fun i s => Real.exp (0 - z x i s) := by
  simp only [r_178, k0_pay443, sub2, exp2, splat2, ofb w_zero, t_r_2 hx] <;> rfl
theorem c_11 (hx : Of R x) : View.canon (Val := Elt Ideal) (L11 R) = up2 (odq x) := by
  rw [L11, View.canon_cons_unit_zero z2]
  simp only [k0_pay439, mul2, trunc_2, splat2, ofb w_sc, t_r_6 hx, t_v1803 hx] <;> rfl
theorem c_12 (hx : Of R x) : View.canon (Val := Elt Ideal) (L12 R) = up2 (odk x) := by
  rw [L12, View.canon_cons_unit_zero z2]
  simp only [k0_pay440, mul2, add2, trunc_2, t_r_7 hx, t_r_8 hx, t_v1804 hx, t_v1805 hx] <;> rfl
theorem c_15 (hx : Of R x) : View.canon (Val := Elt Ideal) (L15 R) = up2 (oal x) := by
  rw [L15, View.canon_cons_unit_zero z2]
  simp only [r_1, k0_pay3, k0_pay2, k0_pay1, mul2, add2, sub2, trunc_2, splat2, sig_up, ofb w_one, mm10, hx.wa, t_r_177 hx, t_r_178 hx] <;> rfl
theorem c_16 (hx : Of R x) : View.canon (Val := Elt Ideal) (L16 R) = up2 (owa x) := by
  rw [L16, View.canon_cons_unit_zero z2]
  simp only [r, k0_pay4, k0_pay2, k0_pay1, mul2, add2, sub2, trunc_2, splat2, sig_up, shapeCast_self, ofb w_one, mm11, hx.al, hx.wacc, t_r_177 hx, t_r_178 hx] <;> rfl
theorem c_17 (hx : Of R x) : View.canon (Val := Elt Ideal) (L17 R) = up2 fun (_ : Fin 1) => oba x := by
  rw [L17, View.canon_cons_unit_zero z2]
  simp only [k0_pay5, k0_pay1, mul2, add2, sub2, splat2, sig_up, shapeCast_self, row512, ofb w_one, hx.bacc, t_r_177 hx, t_r_178 hx]; (repeat ((first | rw [rd3]); try simp only [mul2, add2, sub2, splat2, sig_up, shapeCast_self, row512, ofb w_one, hx.bacc])); rfl
theorem c_18 (hx : Of R x) : View.canon (Val := Elt Ideal) (L18 R) = up2 fun (_ : Fin 1) => ogh x := by
  funext y
  unfold L18
  canon_tiles x h
  · exact tile id (cV 3) (fun _ j => colV_at _ 3 0 j) (by simp only [r_45, k0_pay77, r_46, k0_pay78, v356, k0_pay87, k0_pay85, k0_pay82, k0_pay83, k0_pay84, k0_pay81, k0_pay80, k0_pay79, mul2, add2, sub2, exp2, ext_2, splat2, sig_up, shapeCast_self, row256, col256, bcC, mean_up, rs_up, ofb w_one, ofb w_zero, ofb w_eps, ofb w_256, hx.r, hx.op, hx.ct, hx.n3]; (repeat ((first | rw [rd2] | rw [rd4]); try simp only [mul2, add2, sub2, exp2, ext_2, splat2, sig_up, shapeCast_self, row256, col256, bcC, mean_up, rs_up, ofb w_one, ofb w_zero, ofb w_eps, ofb w_256, hx.r, hx.op, hx.ct, hx.n3])); rfl) (by simp only [id]; omega) (by simp only [cV]; omega)
  · exact tile id (cV 2) (fun _ j => colV_at _ 2 0 j) (by simp only [r_40, r_34, k0_pay62, r_35, k0_pay63, v279, k0_pay71, k0_pay69, k0_pay66, k0_pay67, k0_pay68, k0_pay65, k0_pay64, mul2, add2, sub2, exp2, ext_2, splat2, sig_up, shapeCast_self, row256, col256, bcC, mean_up, rs_up, ofb w_one, ofb w_zero, ofb w_eps, ofb w_256, hx.r, hx.op, hx.ct, hx.n2]; (repeat ((first | rw [rd2] | rw [rd4]); try simp only [mul2, add2, sub2, exp2, ext_2, splat2, sig_up, shapeCast_self, row256, col256, bcC, mean_up, rs_up, ofb w_one, ofb w_zero, ofb w_eps, ofb w_256, hx.r, hx.op, hx.ct, hx.n2])); rfl) (by simp only [id]; omega) (by simp only [cV]; omega)
  · exact tile id (cV 1) (fun _ j => colV_at _ 1 0 j) (by simp only [r_28, v202, k0_pay54, r_29, k0_pay55, k0_pay52, k0_pay49, k0_pay50, k0_pay51, k0_pay48, k0_pay47, k0_pay46, k0_pay56, mul2, add2, sub2, exp2, ext_2, splat2, sig_up, shapeCast_self, row256, col256, bcC, mean_up, rs_up, ofb w_one, ofb w_zero, ofb w_eps, ofb w_256, hx.r, hx.op, hx.ct, hx.n1]; (repeat ((first | rw [rd2] | rw [rd4]); try simp only [mul2, add2, sub2, exp2, ext_2, splat2, sig_up, shapeCast_self, row256, col256, bcC, mean_up, rs_up, ofb w_one, ofb w_zero, ofb w_eps, ofb w_256, hx.r, hx.op, hx.ct, hx.n1])); rfl) (by simp only [id]; omega) (by simp only [cV]; omega)
  · exact tile id (cV 0) (fun _ j => colV_at _ 0 0 j) (by simp only [k0_pay40, mul2, add2, shapeCast_self, row256, hx.n0, t_r_17 hx, t_r_19 hx]; (repeat ((first | rw [rd2]); try simp only [mul2, add2, shapeCast_self, row256, hx.n0])); rfl) (by simp only [id]; omega) (by simp only [cV]; omega)

end Cert.KernelIdeal.Body
-- ==== Proof.KerPoints.lean ====
/-
  The grid points of the backward kernel: what each leaves in its outputs and in the gradient it carries, as tables of
  reals. A block takes the carried gradient of the state and the running sums of the block before it.
-/
module

public import proofs.«01_k».proof.Proof.KerIn
public import proofs.«01_k».proof.Proof.KerLink
public import proofs.«01_k».proof.Proof.KerTiles
public import Idealize.ShloMosaic.Lib.Pipeline.ReadBack
@[expose] public section

set_option maxRecDepth 16384

noncomputable section

namespace Cert.KernelIdeal.Points

open Idealize.ShloMosaic Idealize.ShloMosaic.TcCoe Idealize.ShloMosaic.Pointwise Cert.Lift Cert.KernelIdeal.Gen Cert.KernelIdeal.Line Cert.KernelIdeal.Body

/-- What a block hands to the next. -/
structure Carry where
  G : ℕ → Fin 256 → Fin 128 → ℝ
  wacc : Fin 128 → Fin 512 → ℝ
  bacc : Fin 512 → ℝ
  n : ℕ → Fin 256 → ℝ

/-- The block of point `t` over what it is handed. -/
def blkOf (x : In) (t : Fin 32) (K : Carry) : Blk where
  q i s := x.P (brow t i) (qcol s)
  k i s := x.P (brow t i) (kcol s)
  v i s := x.P (brow t i) (vcol s)
  r i s := x.P (brow t i) (rcol s)
  al i s := x.A (brow t i) s
  wa := x.W
  ba := x.b
  gh := x.g
  op i j := v58 x (headV j) (chk (brow t i)) (pos (brow t i)) (dimV j)
  st n h k l := v55 x (Fin.ofNat 4 h) l k (bchk t n)
  ct i s := x.D (brow t i) s
  G := K.G
  wacc := K.wacc
  bacc := K.bacc
  n := K.n

/-- What a block hands on. -/
def handed (b : Blk) : Carry where
  G h := gr b (Fin.ofNat 4 h) 8
  wacc := owa b
  bacc := oba b
  n h j := ogh b (cV (Fin.ofNat 4 h) j)

/-- What point `n` is handed: nothing at the first. -/
def carry (x : In) : ℕ → Carry
  | 0 => ⟨fun _ _ _ => 0, fun _ _ => 0, fun _ => 0, fun _ _ => 0⟩
  | n + 1 => handed (blkOf x (Fin.ofNat 32 n) (carry x n))

/-- The block of point `t`. -/
def blk (x : In) (t : Fin 32) : Blk := blkOf x t (carry x t.val)

variable {m : (ℓ : Loc nD τ sig) → Buf (Elt Ideal) ℓ} {c : Dev nD} {x : In}

/-- Where the block of point `t` finds its arguments. -/
abbrev envAt (m : (ℓ : Loc nD τ sig) → Buf (Elt Ideal) ℓ) (c : Dev nD) (t : Fin cfg0.N) : Env :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, scM0_0, Memref.isWhole_whole _, scM0_1, Memref.isWhole_whole _, scM0_2, Memref.isWhole_whole _, scM0_3, Memref.isWhole_whole _, scM0_4, Memref.isWhole_whole _, iblk m c 0 t, iblk m c 1 t, X0_2 m c t, X0_3 m c t, iblk m c 4 t, iblk m c 5 t, iblk m c 6 t, iblk m c 7 t, iblk m c 8 t, iblk m c 9 t, iblk m c 10 t⟩

theorem condA (t : Fin cfg0.N) (h0 : t.val % 32 = 0) : cond0_0 (envAt m c t).i := by
  show cond0_0 (grid0.coords t)
  exact (hcond0_0 t).mpr h0
theorem condB (t : Fin cfg0.N) (h0 : ¬t.val % 32 = 0) : ¬cond0_0 (envAt m c t).i := by
  show ¬cond0_0 (grid0.coords t)
  exact fun h => h0 ((hcond0_0 t).mp h)

theorem wA_11 (e : Env) (h0 : cond0_0 e.i) : out0_A_11 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L11 (rA e)) := by
  have h := (runA_eq e h0).1
  unfold runA at h
  unfold out0_A_11
  rw [View.read_writes_junk_eq_canon, h]
theorem wA_12 (e : Env) (h0 : cond0_0 e.i) : out0_A_12 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L12 (rA e)) := by
  have h := (runA_eq e h0).2.1
  unfold runA at h
  unfold out0_A_12
  rw [View.read_writes_junk_eq_canon, h]
theorem wA_13 (e : Env) (h0 : cond0_0 e.i) : out0_A_13 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L13 (rA e)) := by
  have h := (runA_eq e h0).2.2.1
  unfold runA at h
  unfold out0_A_13
  rw [View.read_writes_junk_eq_canon, h]
theorem wA_14 (e : Env) (h0 : cond0_0 e.i) : out0_A_14 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L14 (rA e)) := by
  have h := (runA_eq e h0).2.2.2.1
  unfold runA at h
  unfold out0_A_14
  rw [View.read_writes_junk_eq_canon, h]
theorem wA_15 (e : Env) (h0 : cond0_0 e.i) : out0_A_15 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L15 (rA e)) := by
  have h := (runA_eq e h0).2.2.2.2.1
  unfold runA at h
  unfold out0_A_15
  rw [View.read_writes_junk_eq_canon, h]
theorem wA_16 (e : Env) (h0 : cond0_0 e.i) : out0_A_16 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L16 (rA e) ++ kernelRun0_A.sl.H16_1 (F := Ideal)) := by
  have h := (runA_eq e h0).2.2.2.2.2.1
  unfold runA at h
  unfold out0_A_16
  rw [View.read_writes_junk_eq_canon, h]
theorem wA_17 (e : Env) (h0 : cond0_0 e.i) : out0_A_17 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L17 (rA e) ++ kernelRun0_A.sl.H17_1 (F := Ideal)) := by
  have h := (runA_eq e h0).2.2.2.2.2.2.1
  unfold runA at h
  unfold out0_A_17
  rw [View.read_writes_junk_eq_canon, h]
theorem wA_18 (e : Env) (h0 : cond0_0 e.i) : out0_A_18 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (L18 (rA e) ++ kernelRun0_A.sl.H18_1 (F := Ideal)) := by
  have h := (runA_eq e h0).2.2.2.2.2.2.2.1
  unfold runA at h
  unfold out0_A_18
  rw [View.read_writes_junk_eq_canon, h]
theorem wA_S (e : Env) (h0 : cond0_0 e.i) : sout0_A_0 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 = View.canon (Val := Elt Ideal) (LS (rA e)) := by
  have h := (runA_eq e h0).2.2.2.2.2.2.2.2
  unfold runA at h
  unfold sout0_A_0
  rw [View.read_writes_junk_eq_canon, h]
theorem wB_11 (e : Env) (h0 : ¬cond0_0 e.i) (xo16 : Vec Ideal S128x512 .f32) (xo17 : Vec Ideal S1x512 .f32) (xo18 : Vec Ideal S1x1024 .f32) (xs : Vec Ideal S4x256x128 .f32) : out0_B_11 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L11 (rB e xo16 xo17 xo18 xs)) := by
  have h := (runB_eq e h0 xo16 xo17 xo18 xs).1
  unfold runB at h
  unfold out0_B_11
  rw [View.read_writes_junk_eq_canon, h]
theorem wB_12 (e : Env) (h0 : ¬cond0_0 e.i) (xo16 : Vec Ideal S128x512 .f32) (xo17 : Vec Ideal S1x512 .f32) (xo18 : Vec Ideal S1x1024 .f32) (xs : Vec Ideal S4x256x128 .f32) : out0_B_12 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L12 (rB e xo16 xo17 xo18 xs)) := by
  have h := (runB_eq e h0 xo16 xo17 xo18 xs).2.1
  unfold runB at h
  unfold out0_B_12
  rw [View.read_writes_junk_eq_canon, h]
theorem wB_13 (e : Env) (h0 : ¬cond0_0 e.i) (xo16 : Vec Ideal S128x512 .f32) (xo17 : Vec Ideal S1x512 .f32) (xo18 : Vec Ideal S1x1024 .f32) (xs : Vec Ideal S4x256x128 .f32) : out0_B_13 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L13 (rB e xo16 xo17 xo18 xs)) := by
  have h := (runB_eq e h0 xo16 xo17 xo18 xs).2.2.1
  unfold runB at h
  unfold out0_B_13
  rw [View.read_writes_junk_eq_canon, h]
theorem wB_14 (e : Env) (h0 : ¬cond0_0 e.i) (xo16 : Vec Ideal S128x512 .f32) (xo17 : Vec Ideal S1x512 .f32) (xo18 : Vec Ideal S1x1024 .f32) (xs : Vec Ideal S4x256x128 .f32) : out0_B_14 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L14 (rB e xo16 xo17 xo18 xs)) := by
  have h := (runB_eq e h0 xo16 xo17 xo18 xs).2.2.2.1
  unfold runB at h
  unfold out0_B_14
  rw [View.read_writes_junk_eq_canon, h]
theorem wB_15 (e : Env) (h0 : ¬cond0_0 e.i) (xo16 : Vec Ideal S128x512 .f32) (xo17 : Vec Ideal S1x512 .f32) (xo18 : Vec Ideal S1x1024 .f32) (xs : Vec Ideal S4x256x128 .f32) : out0_B_15 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L15 (rB e xo16 xo17 xo18 xs)) := by
  have h := (runB_eq e h0 xo16 xo17 xo18 xs).2.2.2.2.1
  unfold runB at h
  unfold out0_B_15
  rw [View.read_writes_junk_eq_canon, h]
theorem wB_16 (e : Env) (h0 : ¬cond0_0 e.i) (xo16 : Vec Ideal S128x512 .f32) (xo17 : Vec Ideal S1x512 .f32) (xo18 : Vec Ideal S1x1024 .f32) (xs : Vec Ideal S4x256x128 .f32) : out0_B_16 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L16 (rB e xo16 xo17 xo18 xs)) := by
  have h := (runB_eq e h0 xo16 xo17 xo18 xs).2.2.2.2.2.1
  unfold runB at h
  unfold out0_B_16
  rw [View.read_writes_junk_eq_canon, h]
theorem wB_17 (e : Env) (h0 : ¬cond0_0 e.i) (xo16 : Vec Ideal S128x512 .f32) (xo17 : Vec Ideal S1x512 .f32) (xo18 : Vec Ideal S1x1024 .f32) (xs : Vec Ideal S4x256x128 .f32) : out0_B_17 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L17 (rB e xo16 xo17 xo18 xs)) := by
  have h := (runB_eq e h0 xo16 xo17 xo18 xs).2.2.2.2.2.2.1
  unfold runB at h
  unfold out0_B_17
  rw [View.read_writes_junk_eq_canon, h]
theorem wB_18 (e : Env) (h0 : ¬cond0_0 e.i) (xo16 : Vec Ideal S128x512 .f32) (xo17 : Vec Ideal S1x512 .f32) (xo18 : Vec Ideal S1x1024 .f32) (xs : Vec Ideal S4x256x128 .f32) : out0_B_18 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (L18 (rB e xo16 xo17 xo18 xs)) := by
  have h := (runB_eq e h0 xo16 xo17 xo18 xs).2.2.2.2.2.2.2.1
  unfold runB at h
  unfold out0_B_18
  rw [View.read_writes_junk_eq_canon, h]
theorem wB_S (e : Env) (h0 : ¬cond0_0 e.i) (xo16 : Vec Ideal S128x512 .f32) (xo17 : Vec Ideal S1x512 .f32) (xo18 : Vec Ideal S1x1024 .f32) (xs : Vec Ideal S4x256x128 .f32) : sout0_B_0 e.c e.i e.a1 e.h1 e.a2 e.h2 e.a3 e.h3 e.a4 e.h4 e.a5 e.h5 e.a6 e.h6 e.a7 e.h7 e.a8 e.h8 e.a9 e.h9 e.a10 e.h10 e.a11 e.h11 e.a12 e.h12 e.a13 e.h13 e.a14 e.h14 e.a15 e.h15 e.a16 e.h16 e.a17 e.h17 e.a18 e.h18 e.a19 e.h19 e.a20 e.h20 e.a21 e.h21 e.a22 e.h22 e.a23 e.h23 e.a24 e.h24 h0 e.x0 e.x1 e.x2 e.x3 e.x4 e.x5 e.x6 e.x7 e.x8 e.x9 e.x10 xo16 xo17 xo18 xs = View.canon (Val := Elt Ideal) (LS (rB e xo16 xo17 xo18 xs)) := by
  have h := (runB_eq e h0 xo16 xo17 xo18 xs).2.2.2.2.2.2.2.2
  unfold runB at h
  unfold sout0_B_0
  rw [View.read_writes_junk_eq_canon, h]

theorem outsA (t : Fin cfg0.N) (h0 : t.val % 32 = 0) : outsAt0 m c t.val t.isLt =
    (View.canon (Val := Elt Ideal) (L11 (rA (envAt m c t))), View.canon (Val := Elt Ideal) (L12 (rA (envAt m c t))), View.canon (Val := Elt Ideal) (L13 (rA (envAt m c t))), View.canon (Val := Elt Ideal) (L14 (rA (envAt m c t))), View.canon (Val := Elt Ideal) (L15 (rA (envAt m c t))),
      View.canon (Val := Elt Ideal) (L16 (rA (envAt m c t)) ++ kernelRun0_A.sl.H16_1 (F := Ideal)), View.canon (Val := Elt Ideal) (L17 (rA (envAt m c t)) ++ kernelRun0_A.sl.H17_1 (F := Ideal)), View.canon (Val := Elt Ideal) (L18 (rA (envAt m c t)) ++ kernelRun0_A.sl.H18_1 (F := Ideal)), View.canon (Val := Elt Ideal) (LS (rA (envAt m c t)))) := by
  have q1 := wA_11 (envAt m c t) (condA t h0)
  have q2 := wA_12 (envAt m c t) (condA t h0)
  have q3 := wA_13 (envAt m c t) (condA t h0)
  have q4 := wA_14 (envAt m c t) (condA t h0)
  have q5 := wA_15 (envAt m c t) (condA t h0)
  have q6 := wA_16 (envAt m c t) (condA t h0)
  have q7 := wA_17 (envAt m c t) (condA t h0)
  have q8 := wA_18 (envAt m c t) (condA t h0)
  have q9 := wA_S (envAt m c t) (condA t h0)
  rw [outsAt0_A m c t h0]
  dsimp only [envAt] at q1 q2 q3 q4 q5 q6 q7 q8 q9 ⊢
  rw [q1, q2, q3, q4, q5, q6, q7, q8, q9]

theorem outsB (t : Fin cfg0.N) (h0 : ¬t.val % 32 = 0) (R : Reads)
    (hR : R = rB (envAt m c t) (outsAt0 m c (t.val - 1) (by have := t.isLt; omega)).2.2.2.2.2.1 (outsAt0 m c (t.val - 1) (by have := t.isLt; omega)).2.2.2.2.2.2.1
      (outsAt0 m c (t.val - 1) (by have := t.isLt; omega)).2.2.2.2.2.2.2.1 (outsAt0 m c (t.val - 1) (by have := t.isLt; omega)).2.2.2.2.2.2.2.2) :
    outsAt0 m c t.val t.isLt = (View.canon (Val := Elt Ideal) (L11 R), View.canon (Val := Elt Ideal) (L12 R), View.canon (Val := Elt Ideal) (L13 R), View.canon (Val := Elt Ideal) (L14 R), View.canon (Val := Elt Ideal) (L15 R), View.canon (Val := Elt Ideal) (L16 R), View.canon (Val := Elt Ideal) (L17 R), View.canon (Val := Elt Ideal) (L18 R), View.canon (Val := Elt Ideal) (LS R)) := by
  subst hR
  have q1 := wB_11 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q2 := wB_12 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q3 := wB_13 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q4 := wB_14 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q5 := wB_15 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q6 := wB_16 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q7 := wB_17 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q8 := wB_18 (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  have q9 := wB_S (envAt m c t) (condB t h0) (outsAt0 m c (t.val - 1) (by have := t.isLt; omega)).2.2.2.2.2.1 (outsAt0 m c (t.val - 1) (by have := t.isLt; omega)).2.2.2.2.2.2.1 (outsAt0 m c (t.val - 1) (by have := t.isLt; omega)).2.2.2.2.2.2.2.1 (outsAt0 m c (t.val - 1) (by have := t.isLt; omega)).2.2.2.2.2.2.2.2
  rw [outsAt0_B m c t h0]
  dsimp only [envAt] at q1 q2 q3 q4 q5 q6 q7 q8 q9 ⊢
  rw [q1, q2, q3, q4, q5, q6, q7, q8, q9]

/-- A read of all of a buffer. -/
theorem rd_all {n m : ℕ} {e : EltTy} {a : Memref sig .tc .vmem ⟨2, ![n, m]⟩ e} (h : a.IsWhole) (X : Vec Ideal ⟨2, ![n, m]⟩ e) (inb) :
    a.view.readAt (Elt Ideal) (Rect.unit ![0, 0] (⟨2, ![n, m]⟩ : Shape).size inb).toLoadRect (h.unread X) = X := by
  rw [View.readAt_eq_ld, h.read_unread]
  exact View.ld_unit_zero (Val := Elt Ideal) (e := e) z2 _ _
/-- A read of some columns. -/
theorem rd_col {n w p : ℕ} {e : EltTy} {a : Memref sig .tc .vmem ⟨2, ![n, w]⟩ e} (h : a.IsWhole) (X : Vec Ideal ⟨2, ![n, w]⟩ e) (b : ℕ)
    (inb : ∀ k, (![0, b] : Fin 2 → ℕ) k + (⟨2, ![n, p]⟩ : Shape).size k ≤ (⟨2, ![n, w]⟩ : Shape).size k) :
    a.view.readAt (Elt Ideal) (Rect.unit (s := ⟨2, ![n, w]⟩) ![0, b] (⟨2, ![n, p]⟩ : Shape).size inb).toLoadRect (h.unread X)
      = fun y => X (ix2 (y 0) ⟨b + (y 1).val, lt_of_lt_of_le (Nat.add_lt_add_left (y 1).isLt b) (inb 1)⟩) := by
  rw [View.readAt_eq_ld, h.read_unread]
  funext y
  refine View.ld_unit_apply_of (Val := Elt Ideal) (e := e) X _ _ inb y (ix2 (y 0) ⟨b + (y 1).val, lt_of_lt_of_le (Nat.add_lt_add_left (y 1).isLt b) (inb 1)⟩) ?_
  intro a
  match a with
  | ⟨0, _⟩ => exact (Nat.zero_add _).symm
  | ⟨1, _⟩ => rfl
/-- A read of one state. -/
theorem rd_st {a : Memref sig .tc .vmem S8x4x256x128 .bf16} (h : a.IsWhole) (X : Vec Ideal S8x4x256x128 .bf16) (n b : ℕ)
    (inb : ∀ k, (![n, b, 0, 0] : Fin 4 → ℕ) k + S1x1x256x128.size k ≤ S8x4x256x128.size k) :
    a.view.readAt (Elt Ideal) (Rect.unit (s := S8x4x256x128) ![n, b, 0, 0] S1x1x256x128.size inb).toLoadRect (h.unread X)
      = fun y => X (ix4 ⟨n, inb 0⟩ ⟨b, inb 1⟩ (y 2) (y 3)) := by
  rw [View.readAt_eq_ld, h.read_unread]
  funext y
  refine View.ld_unit_apply_of (Val := Elt Ideal) (e := .bf16) X _ _ inb y (ix4 ⟨n, inb 0⟩ ⟨b, inb 1⟩ (y 2) (y 3)) ?_
  intro a
  match a with
  | ⟨0, _⟩ =>
    have h1 : (y 0).val < 1 := (y 0).isLt
    show n = n + (y 0).val
    omega
  | ⟨1, _⟩ =>
    have h1 : (y 1).val < 1 := (y 1).isLt
    show b = b + (y 1).val
    omega
  | ⟨2, _⟩ => exact (Nat.zero_add _).symm
  | ⟨3, _⟩ => exact (Nat.zero_add _).symm
/-- A read of one gradient of the state. -/
theorem rd_G {a : Memref sig .tc .vmem S4x256x128 .f32} (h : a.IsWhole) (X : Vec Ideal S4x256x128 .f32) (b : ℕ)
    (inb : ∀ k, (![b, 0, 0] : Fin 3 → ℕ) k + S1x256x128.size k ≤ S4x256x128.size k) :
    a.view.readAt (Elt Ideal) (Rect.unit (s := S4x256x128) ![b, 0, 0] S1x256x128.size inb).toLoadRect (h.unread X)
      = fun y => X (ix3 ⟨b, inb 0⟩ (y 1) (y 2)) := by
  rw [View.readAt_eq_ld, h.read_unread]
  funext y
  refine View.ld_unit_apply_of (Val := Elt Ideal) (e := .f32) X _ _ inb y (ix3 ⟨b, inb 0⟩ (y 1) (y 2)) ?_
  intro a
  match a with
  | ⟨0, _⟩ =>
    have h1 : (y 0).val < 1 := (y 0).isLt
    show b = b + (y 0).val
    omega
  | ⟨1, _⟩ => exact (Nat.zero_add _).symm
  | ⟨2, _⟩ => exact (Nat.zero_add _).symm

set_option maxHeartbeats 2000000 in
/-- What a block that is not the first reads. -/
theorem ofB (e : Env) (b : Blk) {xo16 : Vec Ideal S128x512 .f32} {xo17 : Vec Ideal S1x512 .f32} {xo18 : Vec Ideal S1x1024 .f32} {xs : Vec Ideal S4x256x128 .f32}
    (q : e.x0 = up2 b.q) (k : e.x1 = up2 b.k) (v : e.x2 = up2 b.v) (r : e.x3 = up2 b.r) (al : e.x4 = up2 b.al) (wa : e.x5 = up2 b.wa) (ba : e.x6 = up2 fun (_ : Fin 1) j => b.ba j) (gh : e.x7 = up2 fun (_ : Fin 1) j => b.gh j) (op : e.x8 = up2 b.op) (ct : e.x10 = up2 b.ct)
    (st : e.x9 = up4 fun (i : Fin 8) (j : Fin 4) k l => b.st i.val j.val k l)
    (h16 : xo16 = up2 b.wacc) (h17 : xo17 = up2 fun (_ : Fin 1) j => b.bacc j) (w : Fin 1024 → ℝ) (h18 : xo18 = up2 fun (_ : Fin 1) => w) (hw : ∀ h j, b.n h j = w (cV (Fin.ofNat 4 h) j)) (hs : xs = up3 fun (h : Fin 4) j k => b.G h.val j k) :
    Body.Of (rB e xo16 xo17 xo18 xs) b :=
  {
    q := fun inb => (rd_all e.h1 e.x0 inb).trans q
    k := fun inb => (rd_all e.h2 e.x1 inb).trans k
    al := fun inb => (rd_all e.h5 e.x4 inb).trans al
    wa := fun inb => (rd_all e.h6 e.x5 inb).trans wa
    ba := fun inb => (rd_all e.h7 e.x6 inb).trans ba
    v := fun p inb => (rd_col e.h3 e.x2 p inb).trans (by rw [v]; rfl)
    r := fun p inb => (rd_col e.h4 e.x3 p inb).trans (by rw [r]; rfl)
    gh := fun p inb => (rd_col e.h8 e.x7 p inb).trans (by rw [gh]; rfl)
    op := fun p inb => (rd_col e.h9 e.x8 p inb).trans (by rw [op]; rfl)
    ct := fun p inb => (rd_col e.h11 e.x10 p inb).trans (by rw [ct]; rfl)
    st := fun n h inb => (rd_st e.h10 e.x9 n h inb).trans (by rw [st]; rfl)
    G0 := (rd_G e.h20 xs 0 inb_S4x256x128_S1x256x128_0_0_0).trans (by rw [hs]; rfl)
    G1 := (rd_G e.h20 xs 1 inb_S4x256x128_S1x256x128_1_0_0).trans (by rw [hs]; rfl)
    G2 := (rd_G e.h20 xs 2 inb_S4x256x128_S1x256x128_2_0_0).trans (by rw [hs]; rfl)
    G3 := (rd_G e.h20 xs 3 inb_S4x256x128_S1x256x128_3_0_0).trans (by rw [hs]; rfl)
    wacc := (rd_all e.h17 xo16 inb_S128x512_S128x512_0_0).trans h16
    bacc := (rd_all e.h18 xo17 inb_S1x512_S1x512_0_0).trans h17
    n0 := (rd_col e.h19 xo18 0 inb_S1x1024_S1x256_0_0).trans (by rw [h18]; exact funext fun y => congrArg (fun k : ℝ => (k : EReal)) ((congrArg w (Fin.ext rfl)).trans (hw 0 (y 1)).symm))
    n1 := (rd_col e.h19 xo18 256 inb_S1x1024_S1x256_0_256).trans (by rw [h18]; exact funext fun y => congrArg (fun k : ℝ => (k : EReal)) ((congrArg w (Fin.ext rfl)).trans (hw 1 (y 1)).symm))
    n2 := (rd_col e.h19 xo18 512 inb_S1x1024_S1x256_0_512).trans (by rw [h18]; exact funext fun y => congrArg (fun k : ℝ => (k : EReal)) ((congrArg w (Fin.ext rfl)).trans (hw 2 (y 1)).symm))
    n3 := (rd_col e.h19 xo18 768 inb_S1x1024_S1x256_0_768).trans (by rw [h18]; exact funext fun y => congrArg (fun k : ℝ => (k : EReal)) ((congrArg w (Fin.ext rfl)).trans (hw 3 (y 1)).symm))
  }

theorem zero_f32 : (FloatOps.ofBits (F := Ideal) .f32 0x00000000#32 : EReal) = ((0 : ℝ) : EReal) := ofb w_zero
open kernelRun0_A in
set_option maxHeartbeats 2000000 in
/-- What the first block reads: nothing is handed to it. -/
theorem ofA (e : Env) (b : Blk)
    (q : e.x0 = up2 b.q) (k : e.x1 = up2 b.k) (v : e.x2 = up2 b.v) (r : e.x3 = up2 b.r) (al : e.x4 = up2 b.al) (wa : e.x5 = up2 b.wa) (ba : e.x6 = up2 fun (_ : Fin 1) j => b.ba j) (gh : e.x7 = up2 fun (_ : Fin 1) j => b.gh j) (op : e.x8 = up2 b.op) (ct : e.x10 = up2 b.ct)
    (st : e.x9 = up4 fun (i : Fin 8) (j : Fin 4) k l => b.st i.val j.val k l)
    (hG : b.G = fun _ _ _ => 0) (h16 : b.wacc = fun _ _ => 0) (h17 : b.bacc = fun _ => 0) (hn : b.n = fun _ _ => 0) : Body.Of (rA e) b :=
  {
    q := fun inb => (rd_all e.h1 e.x0 inb).trans q
    k := fun inb => (rd_all e.h2 e.x1 inb).trans k
    al := fun inb => (rd_all e.h5 e.x4 inb).trans al
    wa := fun inb => (rd_all e.h6 e.x5 inb).trans wa
    ba := fun inb => (rd_all e.h7 e.x6 inb).trans ba
    v := fun p inb => (rd_col e.h3 e.x2 p inb).trans (by rw [v]; rfl)
    r := fun p inb => (rd_col e.h4 e.x3 p inb).trans (by rw [r]; rfl)
    gh := fun p inb => (rd_col e.h8 e.x7 p inb).trans (by rw [gh]; rfl)
    op := fun p inb => (rd_col e.h9 e.x8 p inb).trans (by rw [op]; rfl)
    ct := fun p inb => (rd_col e.h11 e.x10 p inb).trans (by rw [ct]; rfl)
    st := fun n h inb => (rd_st e.h10 e.x9 n h inb).trans (by rw [st]; rfl)
    G0 := by
      simp (disch := decide) only [hG, rA, sl.v395, sl.HS0_1, sl.HS0_2, sl.HS0_3, sl.HS0_4, ↓View.readCov_skip, ↓View.readCov_fill]
      exact funext fun y => zero_f32
    G1 := by
      simp (disch := decide) only [hG, rA, sl.v439, sl.HS0_1, sl.HS0_2, sl.HS0_3, sl.HS0_4, ↓View.readCov_skip, ↓View.readCov_fill]
      exact funext fun y => zero_f32
    G2 := by
      simp (disch := decide) only [hG, rA, sl.v483, sl.HS0_1, sl.HS0_2, sl.HS0_3, sl.HS0_4, ↓View.readCov_skip, ↓View.readCov_fill]
      exact funext fun y => zero_f32
    G3 := by
      simp (disch := decide) only [hG, rA, sl.v527, sl.HS0_1, sl.HS0_2, sl.HS0_3, sl.HS0_4, ↓View.readCov_skip, ↓View.readCov_fill]
      exact funext fun y => zero_f32
    wacc := by
      simp (disch := decide) only [h16, rA, sl.v1854, sl.H16_1, ↓View.readCov_skip, ↓View.readCov_fill]
      exact funext fun y => zero_f32
    bacc := by
      simp (disch := decide) only [h17, rA, sl.v1859, sl.H17_1, ↓View.readCov_skip, ↓View.readCov_fill]
      exact funext fun y => zero_f32
    n0 := by
      simp (disch := decide) only [hn, rA, sl.v125, sl.H18_1, sl.H18_2, sl.H18_3, sl.H18_4, ↓View.readCov_skip, ↓View.readCov_fill]
      exact funext fun y => zero_f32
    n1 := by
      simp (disch := decide) only [hn, rA, sl.v202, sl.H18_1, sl.H18_2, sl.H18_3, sl.H18_4, ↓View.readCov_skip, ↓View.readCov_fill]
      exact funext fun y => zero_f32
    n2 := by
      simp (disch := decide) only [hn, rA, sl.v279, sl.H18_1, sl.H18_2, sl.H18_3, sl.H18_4, ↓View.readCov_skip, ↓View.readCov_fill]
      exact funext fun y => zero_f32
    n3 := by
      simp (disch := decide) only [hn, rA, sl.v356, sl.H18_1, sl.H18_2, sl.H18_3, sl.H18_4, ↓View.readCov_skip, ↓View.readCov_fill]
      exact funext fun y => zero_f32
  }

end Cert.KernelIdeal.Points
-- ==== Proof.KerOuts.lean ====
/-
  What each grid point of the backward kernel leaves, and the arrays it ends with, as tables of reals.
-/
module

public import proofs.«01_k».proof.Proof.KerPoints
@[expose] public section

set_option maxRecDepth 16384

noncomputable section

namespace Cert.KernelIdeal.Points

open Idealize.ShloMosaic Idealize.ShloMosaic.TcCoe Idealize.ShloMosaic.Pointwise Cert.Lift Cert.KernelIdeal.Gen Cert.KernelIdeal.Line Cert.KernelIdeal.Body

variable {m : (ℓ : Loc nD τ sig) → Buf (Elt Ideal) ℓ} {c : Dev nD} {x : In}

/-- Writes that cover an index decide it, whatever was written before. -/
theorem canon_tail {S : Shape} {e : EltTy} (T : List (View.Piece (Elt Ideal) S e)) (y : S.Idx) : ∀ L : List (View.Piece (Elt Ideal) S e),
    (∃ p ∈ L, y ∈ p.1.set) → View.canon (Val := Elt Ideal) (L ++ T) y = View.canon (Val := Elt Ideal) L y
  | [], h => by obtain ⟨p, hp, _⟩ := h; simp at hp
  | p :: L, h => by
    by_cases hm : y ∈ p.1.set
    · obtain ⟨z, rfl⟩ := p.1.exists_idx_of_mem hm
      exact (View.canon_cons_emb (Val := Elt Ideal) p.1 p.2 (L ++ T) z).trans (View.canon_cons_emb (Val := Elt Ideal) p.1 p.2 L z).symm
    · rw [List.cons_append, View.canon_cons_of_not_mem p _ hm, View.canon_cons_of_not_mem p _ hm]
      refine canon_tail T y L ?_
      obtain ⟨q, hq, hy⟩ := h
      rcases List.mem_cons.mp hq with rfl | hq
      · exact absurd hy hm
      · exact ⟨q, hq, hy⟩

/-- The carried gradient of the states at head `h`. -/
theorem canon_LS {R : Reads} {b : Blk} (hb : Body.Of R b) : View.canon (Val := Elt Ideal) (LS R) = up3 fun (h : Fin 4) j k => gr b h 8 j k := by
  have key : ∀ (h : Fin 4) (inb : ∀ a, (![h.val, 0, 0] : Fin 3 → ℕ) a + S1x256x128.size a ≤ S4x256x128.size a),
      R.m20.view.readCov (LS R) (Rect.unit (s := S4x256x128) ![h.val, 0, 0] S1x256x128.size inb).toLoadRect = up3 fun (_ : Fin 1) j k => gr b h 8 j k := by
    intro h inb
    match h with
    | ⟨0, _⟩ => exact t_LS0 hb
    | ⟨1, _⟩ => exact t_LS1 hb
    | ⟨2, _⟩ => exact t_LS2 hb
    | ⟨3, _⟩ => exact t_LS3 hb
  funext y
  have inb : ∀ a, (![(y 0).val, 0, 0] : Fin 3 → ℕ) a + S1x256x128.size a ≤ S4x256x128.size a := by
    intro a
    match a with
    | ⟨0, _⟩ => exact (y 0).isLt
    | ⟨1, _⟩ => exact le_refl _
    | ⟨2, _⟩ => exact le_refl _
  have k := congrFun ((View.readCov_eq_canon' R.m20.view (LS R) _).symm.trans (key (y 0) inb)) (ix3 (0 : Fin 1) (y 1) (y 2))
  refine Eq.trans (congrArg _ ?_) k
  funext a
  apply Fin.ext
  match a with
  | ⟨0, _⟩ => exact (Nat.add_zero _).symm
  | ⟨1, _⟩ => show (y 1).val = 0 + 1 * (y 1).val; omega
  | ⟨2, _⟩ => show (y 2).val = 0 + 1 * (y 2).val; omega

theorem cover_L18 (R : Reads) (y : S1x1024.Idx) : ∃ p ∈ L18 R, y ∈ p.1.set :=
  View.cover_of_tiledL (L18 R) S1x256.size (by sl_kernel_rfl) y

/-- The nine tables a block leaves. -/
abbrev left (b : Blk) : Vec Ideal S256x512 .bf16 × Vec Ideal S256x512 .bf16 × Vec Ideal S256x1024 .bf16 × Vec Ideal S256x1024 .bf16 × Vec Ideal S256x128 .bf16 × Vec Ideal S128x512 .f32 × Vec Ideal S1x512 .f32 × Vec Ideal S1x1024 .f32 × Vec Ideal S4x256x128 .f32 :=
  (up2 (odq b), up2 (odk b), up2 (odv b), up2 (odr b), up2 (oal b), up2 (owa b), up2 fun (_ : Fin 1) => oba b, up2 fun (_ : Fin 1) => ogh b, up3 fun (h : Fin 4) j k => gr b h 8 j k)

theorem st_eq (hx : Line.Of m c x) (t : Fin cfg0.N) (K : Carry) : iblk m c 9 t = up4 fun (i : Fin 8) (j : Fin 4) k l => (blkOf x t K).st i.val j.val k l := by
  rw [in9 hx t]
  funext y
  have e : Fin.ofNat 4 (y 1).val = (y 1 : Fin 4) := Fin.ext (Nat.mod_eq_of_lt (y 1).isLt)
  show ((v55 x (y 1) (y 3) (y 2) (bchk t (y 0).val) : ℝ) : EReal) = ((v55 x (Fin.ofNat 4 (y 1).val) (y 3) (y 2) (bchk t (y 0).val) : ℝ) : EReal)
  rw [e]

set_option maxHeartbeats 2000000 in
theorem inA (hx : Line.Of m c x) (t : Fin cfg0.N) : Body.Of (rA (envAt m c t)) (blkOf x t (carry x 0)) :=
  ofA (envAt m c t) (blkOf x t (carry x 0)) (in0 hx t) (in1 hx t) (in2 hx t) (in3 hx t) (in4 hx t) (in5 hx t) (in6 hx t) (in7 hx t) (in8 hx t) (in10 hx t) (st_eq hx t _) rfl rfl rfl rfl

set_option maxHeartbeats 2000000 in
theorem inB (hx : Line.Of m c x) (t : Fin cfg0.N) (b : Blk) {xo16 : Vec Ideal S128x512 .f32} {xo17 : Vec Ideal S1x512 .f32} {xo18 : Vec Ideal S1x1024 .f32} {xs : Vec Ideal S4x256x128 .f32}
    (h16 : xo16 = up2 (owa b)) (h17 : xo17 = up2 fun (_ : Fin 1) => oba b) (h18 : xo18 = up2 fun (_ : Fin 1) => ogh b) (hs : xs = up3 fun (h : Fin 4) j k => gr b h 8 j k) :
    Body.Of (rB (envAt m c t) xo16 xo17 xo18 xs) (blkOf x t (handed b)) :=
  ofB (envAt m c t) (blkOf x t (handed b)) (in0 hx t) (in1 hx t) (in2 hx t) (in3 hx t) (in4 hx t) (in5 hx t) (in6 hx t) (in7 hx t) (in8 hx t) (in10 hx t) (st_eq hx t _) h16 h17 (ogh b) h18 (fun _ _ => rfl) (hs.trans (by
    funext y
    have e : Fin.ofNat 4 (y 0).val = (y 0 : Fin 4) := Fin.ext (Nat.mod_eq_of_lt (y 0).isLt)
    show ((gr b (y 0) 8 (y 1) (y 2) : ℝ) : EReal) = ((gr b (Fin.ofNat 4 (y 0).val) 8 (y 1) (y 2) : ℝ) : EReal)
    rw [e]))

theorem left_A {R : Reads} {b : Blk} (hb : Body.Of R b) : (View.canon (Val := Elt Ideal) (L11 R), View.canon (Val := Elt Ideal) (L12 R), View.canon (Val := Elt Ideal) (L13 R), View.canon (Val := Elt Ideal) (L14 R), View.canon (Val := Elt Ideal) (L15 R),
      View.canon (Val := Elt Ideal) (L16 R ++ kernelRun0_A.sl.H16_1 (F := Ideal)), View.canon (Val := Elt Ideal) (L17 R ++ kernelRun0_A.sl.H17_1 (F := Ideal)), View.canon (Val := Elt Ideal) (L18 R ++ kernelRun0_A.sl.H18_1 (F := Ideal)), View.canon (Val := Elt Ideal) (LS R)) = left b := by
  have h16 : View.canon (Val := Elt Ideal) (L16 R ++ kernelRun0_A.sl.H16_1 (F := Ideal)) = View.canon (Val := Elt Ideal) (L16 R) := by
    rw [L16, List.cons_append, View.canon_cons_unit_zero z2, View.canon_cons_unit_zero z2]
  have h17 : View.canon (Val := Elt Ideal) (L17 R ++ kernelRun0_A.sl.H17_1 (F := Ideal)) = View.canon (Val := Elt Ideal) (L17 R) := by
    rw [L17, List.cons_append, View.canon_cons_unit_zero z2, View.canon_cons_unit_zero z2]
  have h18 : View.canon (Val := Elt Ideal) (L18 R ++ kernelRun0_A.sl.H18_1 (F := Ideal)) = View.canon (Val := Elt Ideal) (L18 R) :=
    funext fun y => canon_tail _ y _ (cover_L18 R y)
  rw [h16, h17, h18, c_11 hb, c_12 hb, c_13 hb, c_14 hb, c_15 hb, c_16 hb, c_17 hb, c_18 hb, canon_LS hb]

theorem left_B {R : Reads} {b : Blk} (hb : Body.Of R b) : (View.canon (Val := Elt Ideal) (L11 R), View.canon (Val := Elt Ideal) (L12 R), View.canon (Val := Elt Ideal) (L13 R), View.canon (Val := Elt Ideal) (L14 R), View.canon (Val := Elt Ideal) (L15 R),
      View.canon (Val := Elt Ideal) (L16 R), View.canon (Val := Elt Ideal) (L17 R), View.canon (Val := Elt Ideal) (L18 R), View.canon (Val := Elt Ideal) (LS R)) = left b := by
  rw [c_11 hb, c_12 hb, c_13 hb, c_14 hb, c_15 hb, c_16 hb, c_17 hb, c_18 hb, canon_LS hb]

/-- Every point leaves the results of its block. -/
theorem outs (hx : Line.Of m c x) : ∀ (n : ℕ) (h : n < cfg0.N), outsAt0 m c n h = left (blk x ⟨n, h⟩)
  | 0, h => (outsA (m := m) (c := c) ⟨0, h⟩ rfl).trans (left_A (inA hx ⟨0, h⟩))
  | n + 1, h => by
    have hn : n + 1 < 32 := h
    have e : Fin.ofNat 32 n = (⟨n, Nat.lt_of_succ_lt hn⟩ : Fin 32) := Fin.ext (Nat.mod_eq_of_lt (Nat.lt_of_succ_lt hn))
    have ih := outs hx n (Nat.lt_of_succ_lt h)
    have k := inB hx ⟨n + 1, h⟩ (blk x ⟨n, Nat.lt_of_succ_lt h⟩) (congrArg (fun p => p.2.2.2.2.2.1) ih) (congrArg (fun p => p.2.2.2.2.2.2.1) ih) (congrArg (fun p => p.2.2.2.2.2.2.2.1) ih) (congrArg (fun p => p.2.2.2.2.2.2.2.2) ih)
    have hb : blkOf x ⟨n + 1, h⟩ (handed (blk x ⟨n, Nat.lt_of_succ_lt h⟩)) = blk x ⟨n + 1, h⟩ := by
      show _ = blkOf x ⟨n + 1, h⟩ (handed (blkOf x (Fin.ofNat 32 n) (carry x n)))
      rw [e]
      rfl
    exact (outsB (m := m) (c := c) ⟨n + 1, h⟩ (by show ¬(n + 1) % 32 = 0; omega) _ rfl).trans ((left_B k).trans (congrArg left hb))

end Cert.KernelIdeal.Points
-- ==== Proof.KerFinal.lean ====
/-
  The eight arrays the backward kernel ends with, as tables of reals.
-/
module

public import proofs.«01_k».proof.Proof.KerOuts
@[expose] public section

set_option maxRecDepth 16384

noncomputable section

namespace Cert.KernelIdeal.Points

open Idealize.ShloMosaic Idealize.ShloMosaic.TcCoe Idealize.ShloMosaic.Pointwise Cert.Lift Cert.KernelIdeal.Gen Cert.KernelIdeal.Body

variable {m : (ℓ : Loc nD τ sig) → Buf (Elt Ideal) ℓ} {c : Dev nD} {x : In}

/-- The point whose block holds row `i`. -/
def pt (i : Fin 8192) : Fin 32 := ⟨31 - i.val / 256, by omega⟩
/-- Where in its block row `i` is. -/
def rr (i : Fin 8192) : Fin 256 := ⟨i.val % 256, by omega⟩
theorem pt_brow (t : Fin 32) (i : Fin 256) : pt (brow t i) = t := Fin.ext (by simp only [pt, brow]; omega)
theorem rr_brow (t : Fin 32) (i : Fin 256) : rr (brow t i) = i := Fin.ext (by simp only [rr, brow]; omega)
theorem at_brow (x : In) {n : ℕ} (f : Blk → Fin 256 → Fin n → ℝ) (t : Fin 32) (i : Fin 256) (j : Fin n) :
    f (blk x (pt (brow t i))) (rr (brow t i)) j = f (blk x t) i j := by rw [pt_brow, rr_brow]

theorem emb11 (t : Fin cfg0.N) (y : S256x512.Idx) : (((cfg0.win 11).blk t).view.emb y : S8192x512.Idx) = ix2 (brow t (y 0)) (y 1) := by
  funext a
  apply Fin.ext
  match a with
  | ⟨0, _⟩ =>
    refine (show _ = win0_11.index t 0 * 256 + 1 * (y 0).val from rfl).trans ?_
    rw [at11]
    show (31 - t.val) * 256 + 1 * (y 0).val = (31 - t.val) * 256 + (y 0).val
    omega
  | ⟨1, _⟩ =>
    refine (show _ = win0_11.index t 1 * 512 + 1 * (y 1).val from rfl).trans ?_
    rw [at11]
    show 0 * 512 + 1 * (y 1).val = (y 1).val
    omega
theorem arr11 (hx : Line.Of m c x) : (dats m 0 c).arrAt 11 cfg0.N = up2 fun (i : Fin 8192) (j : Fin 512) => odq (blk x (pt i)) (rr i) j := by
  refine (dats m 0 c).arrAt_eq_of_covers 11 _ (by decide +kernel) fun t _ y => ?_
  rw [after0_11, outs hx t.val t.isLt]
  refine (cast_eq _ _).trans ?_
  refine Eq.trans ?_ (congrArg (up2 fun (i : Fin 8192) (j : Fin 512) => odq (blk x (pt i)) (rr i) j) (emb11 t y)).symm
  show ((odq (blk x t) (y 0) (y 1) : ℝ) : EReal) = ((odq (blk x (pt (brow t (y 0)))) (rr (brow t (y 0))) (y 1) : ℝ) : EReal)
  exact congrArg (fun r : ℝ => (r : EReal)) (at_brow x odq t (y 0) (y 1)).symm
theorem emb12 (t : Fin cfg0.N) (y : S256x512.Idx) : (((cfg0.win 12).blk t).view.emb y : S8192x512.Idx) = ix2 (brow t (y 0)) (y 1) := by
  funext a
  apply Fin.ext
  match a with
  | ⟨0, _⟩ =>
    refine (show _ = win0_12.index t 0 * 256 + 1 * (y 0).val from rfl).trans ?_
    rw [at12]
    show (31 - t.val) * 256 + 1 * (y 0).val = (31 - t.val) * 256 + (y 0).val
    omega
  | ⟨1, _⟩ =>
    refine (show _ = win0_12.index t 1 * 512 + 1 * (y 1).val from rfl).trans ?_
    rw [at12]
    show 0 * 512 + 1 * (y 1).val = (y 1).val
    omega
theorem arr12 (hx : Line.Of m c x) : (dats m 0 c).arrAt 12 cfg0.N = up2 fun (i : Fin 8192) (j : Fin 512) => odk (blk x (pt i)) (rr i) j := by
  refine (dats m 0 c).arrAt_eq_of_covers 12 _ (by decide +kernel) fun t _ y => ?_
  rw [after0_12, outs hx t.val t.isLt]
  refine (cast_eq _ _).trans ?_
  refine Eq.trans ?_ (congrArg (up2 fun (i : Fin 8192) (j : Fin 512) => odk (blk x (pt i)) (rr i) j) (emb12 t y)).symm
  show ((odk (blk x t) (y 0) (y 1) : ℝ) : EReal) = ((odk (blk x (pt (brow t (y 0)))) (rr (brow t (y 0))) (y 1) : ℝ) : EReal)
  exact congrArg (fun r : ℝ => (r : EReal)) (at_brow x odk t (y 0) (y 1)).symm
theorem emb13 (t : Fin cfg0.N) (y : S256x1024.Idx) : (((cfg0.win 13).blk t).view.emb y : S8192x1024.Idx) = ix2 (brow t (y 0)) (y 1) := by
  funext a
  apply Fin.ext
  match a with
  | ⟨0, _⟩ =>
    refine (show _ = win0_13.index t 0 * 256 + 1 * (y 0).val from rfl).trans ?_
    rw [at13]
    show (31 - t.val) * 256 + 1 * (y 0).val = (31 - t.val) * 256 + (y 0).val
    omega
  | ⟨1, _⟩ =>
    refine (show _ = win0_13.index t 1 * 1024 + 1 * (y 1).val from rfl).trans ?_
    rw [at13]
    show 0 * 1024 + 1 * (y 1).val = (y 1).val
    omega
theorem arr13 (hx : Line.Of m c x) : (dats m 0 c).arrAt 13 cfg0.N = up2 fun (i : Fin 8192) (j : Fin 1024) => odv (blk x (pt i)) (rr i) j := by
  refine (dats m 0 c).arrAt_eq_of_covers 13 _ (by decide +kernel) fun t _ y => ?_
  rw [after0_13, outs hx t.val t.isLt]
  refine (cast_eq _ _).trans ?_
  refine Eq.trans ?_ (congrArg (up2 fun (i : Fin 8192) (j : Fin 1024) => odv (blk x (pt i)) (rr i) j) (emb13 t y)).symm
  show ((odv (blk x t) (y 0) (y 1) : ℝ) : EReal) = ((odv (blk x (pt (brow t (y 0)))) (rr (brow t (y 0))) (y 1) : ℝ) : EReal)
  exact congrArg (fun r : ℝ => (r : EReal)) (at_brow x odv t (y 0) (y 1)).symm
theorem emb14 (t : Fin cfg0.N) (y : S256x1024.Idx) : (((cfg0.win 14).blk t).view.emb y : S8192x1024.Idx) = ix2 (brow t (y 0)) (y 1) := by
  funext a
  apply Fin.ext
  match a with
  | ⟨0, _⟩ =>
    refine (show _ = win0_14.index t 0 * 256 + 1 * (y 0).val from rfl).trans ?_
    rw [at14]
    show (31 - t.val) * 256 + 1 * (y 0).val = (31 - t.val) * 256 + (y 0).val
    omega
  | ⟨1, _⟩ =>
    refine (show _ = win0_14.index t 1 * 1024 + 1 * (y 1).val from rfl).trans ?_
    rw [at14]
    show 0 * 1024 + 1 * (y 1).val = (y 1).val
    omega
theorem arr14 (hx : Line.Of m c x) : (dats m 0 c).arrAt 14 cfg0.N = up2 fun (i : Fin 8192) (j : Fin 1024) => odr (blk x (pt i)) (rr i) j := by
  refine (dats m 0 c).arrAt_eq_of_covers 14 _ (by decide +kernel) fun t _ y => ?_
  rw [after0_14, outs hx t.val t.isLt]
  refine (cast_eq _ _).trans ?_
  refine Eq.trans ?_ (congrArg (up2 fun (i : Fin 8192) (j : Fin 1024) => odr (blk x (pt i)) (rr i) j) (emb14 t y)).symm
  show ((odr (blk x t) (y 0) (y 1) : ℝ) : EReal) = ((odr (blk x (pt (brow t (y 0)))) (rr (brow t (y 0))) (y 1) : ℝ) : EReal)
  exact congrArg (fun r : ℝ => (r : EReal)) (at_brow x odr t (y 0) (y 1)).symm
theorem emb15 (t : Fin cfg0.N) (y : S256x128.Idx) : (((cfg0.win 15).blk t).view.emb y : S8192x128.Idx) = ix2 (brow t (y 0)) (y 1) := by
  funext a
  apply Fin.ext
  match a with
  | ⟨0, _⟩ =>
    refine (show _ = win0_15.index t 0 * 256 + 1 * (y 0).val from rfl).trans ?_
    rw [at15]
    show (31 - t.val) * 256 + 1 * (y 0).val = (31 - t.val) * 256 + (y 0).val
    omega
  | ⟨1, _⟩ =>
    refine (show _ = win0_15.index t 1 * 128 + 1 * (y 1).val from rfl).trans ?_
    rw [at15]
    show 0 * 128 + 1 * (y 1).val = (y 1).val
    omega
theorem arr15 (hx : Line.Of m c x) : (dats m 0 c).arrAt 15 cfg0.N = up2 fun (i : Fin 8192) (j : Fin 128) => oal (blk x (pt i)) (rr i) j := by
  refine (dats m 0 c).arrAt_eq_of_covers 15 _ (by decide +kernel) fun t _ y => ?_
  rw [after0_15, outs hx t.val t.isLt]
  refine (cast_eq _ _).trans ?_
  refine Eq.trans ?_ (congrArg (up2 fun (i : Fin 8192) (j : Fin 128) => oal (blk x (pt i)) (rr i) j) (emb15 t y)).symm
  show ((oal (blk x t) (y 0) (y 1) : ℝ) : EReal) = ((oal (blk x (pt (brow t (y 0)))) (rr (brow t (y 0))) (y 1) : ℝ) : EReal)
  exact congrArg (fun r : ℝ => (r : EReal)) (at_brow x oal t (y 0) (y 1)).symm
theorem arr16 (hx : Line.Of m c x) : (dats m 0 c).arrAt 16 cfg0.N = up2 (owa (blk x 31)) := by
  refine (dats m 0 c).arrAt_eq_of_after_last 16 ⟨31, by decide⟩ (by decide +kernel) _ fun j => ?_
  rw [after0_16, outs hx 31 (by decide)]
  exact (cast_eq _ _).trans rfl
theorem arr17 (hx : Line.Of m c x) : (dats m 0 c).arrAt 17 cfg0.N = up2 fun (_ : Fin 1) => oba (blk x 31) := by
  refine (dats m 0 c).arrAt_eq_of_after_last 17 ⟨31, by decide⟩ (by decide +kernel) _ fun j => ?_
  rw [after0_17, outs hx 31 (by decide)]
  exact (cast_eq _ _).trans rfl
theorem arr18 (hx : Line.Of m c x) : (dats m 0 c).arrAt 18 cfg0.N = up2 fun (_ : Fin 1) => ogh (blk x 31) := by
  refine (dats m 0 c).arrAt_eq_of_after_last 18 ⟨31, by decide⟩ (by decide +kernel) _ fun j => ?_
  rw [after0_18, outs hx 31 (by decide)]
  exact (cast_eq _ _).trans rfl

end Cert.KernelIdeal.Points
-- ==== Proof.RefOps.lean ====
/-
  The reference program's operations, in the order it runs them: @main is straight-line operations, a counted loop over
  the 256 chunks forward, more operations, a counted loop over the 256 chunks backward, and the operations after it.
  Here each stretch of operations is named as a list, and @main and the two loop bodies are shown to be the sequences of
  their stretches. A called function's operations stand at the call, over that call's own buffers.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 16384

noncomputable section

namespace Cert.ReferenceIdeal.Line

open Idealize.ShloMosaic Idealize.ShloMosaic.TcCoe Idealize.SL.Sem Cert.ReferenceIdeal.Gen

variable {F : FTy → Type} [FloatOps F]

abbrev pre0 : List (HloOp τ sig (Elt F)) :=
  [ StableHlo.unary main_arg0 main_v0 ((extf .f32 · bitsLt_bf16_f32) : (⟨S8192x7680, .bf16⟩ : BufTy).Contents (Elt F) → (⟨S8192x7680, .f32⟩ : BufTy).Contents (Elt F)),
    StableHlo.unary main_v0 main_v1 ((extractStridedSlice S8192x512 ![0, 6144] · slices_S8192x7680_S8192x512_0_6144) : (⟨S8192x7680, .f32⟩ : BufTy).Contents (Elt F) → (⟨S8192x512, .f32⟩ : BufTy).Contents (Elt F)),
    StableHlo.unary main_v0 main_v2 ((extractStridedSlice S8192x512 ![0, 6656] · slices_S8192x7680_S8192x512_0_6656) : (⟨S8192x7680, .f32⟩ : BufTy).Contents (Elt F) → (⟨S8192x512, .f32⟩ : BufTy).Contents (Elt F)),
    StableHlo.unary main_v0 main_v3 ((extractStridedSlice S8192x1024 ![0, 4096] · slices_S8192x7680_S8192x1024_0_4096) : (⟨S8192x7680, .f32⟩ : BufTy).Contents (Elt F) → (⟨S8192x1024, .f32⟩ : BufTy).Contents (Elt F)),
    StableHlo.unary main_v0 main_v4 ((extractStridedSlice S8192x1024 ![0, 5120] · slices_S8192x7680_S8192x1024_0_5120) : (⟨S8192x7680, .f32⟩ : BufTy).Contents (Elt F) → (⟨S8192x1024, .f32⟩ : BufTy).Contents (Elt F)),
    StableHlo.unary main_arg1 main_v5 ((extf .f32 · bitsLt_bf16_f32) : (⟨S8192x128, .bf16⟩ : BufTy).Contents (Elt F) → (⟨S8192x128, .f32⟩ : BufTy).Contents (Elt F)),
    StableHlo.unary main_arg2 main_v6 ((extf .f32 · bitsLt_bf16_f32) : (⟨S128x512, .bf16⟩ : BufTy).Contents (Elt F) → (⟨S128x512, .f32⟩ : BufTy).Contents (Elt F)),
    StableHlo.reshape main_arg3 main_v7 (rfl : (.f32 : EltTy) = .f32) shapeCasts_S1x512_S512,
    StableHlo.reshape main_arg4 main_v8 (rfl : (.f32 : EltTy) = .f32) shapeCasts_S1x1024_S1024,
    StableHlo.binary main_v5 main_v6 main_v9 ((fun l r => Host.dotGeneral dot_S8192x128_S128x512_S8192x512_1_0_0_1_n_n none l r) : (⟨S8192x128, .f32⟩ : BufTy).Contents (Elt F) → (⟨S128x512, .f32⟩ : BufTy).Contents (Elt F) → (⟨S8192x512, .f32⟩ : BufTy).Contents (Elt F)),
    StableHlo.unary main_v7 main_v10 (broadcastInDim S1x512 ![1] bcast_S512_S1x512_1 : (⟨S512, .f32⟩ : BufTy).Contents (Elt F) → (⟨S1x512, .f32⟩ : BufTy).Contents (Elt F)),
    StableHlo.unary main_v10 main_v11 (broadcastInDim S8192x512 ![0, 1] bcast_S1x512_S8192x512_0_1 : (⟨S1x512, .f32⟩ : BufTy).Contents (Elt F) → (⟨S8192x512, .f32⟩ : BufTy).Contents (Elt F)),
    StableHlo.binary main_v9 main_v11 main_v12 (addf : (⟨S8192x512, .f32⟩ : BufTy).Contents (Elt F) → (⟨S8192x512, .f32⟩ : BufTy).Contents (Elt F) → (⟨S8192x512, .f32⟩ : BufTy).Contents (Elt F)) ]

theorem pre0_sub : (pre0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.reshape_bufs_sub .., StableHlo.reshape_bufs_sub .., StableHlo.binary_bufs_sub .., StableHlo.unary_bufs_sub .., StableHlo.unary_bufs_sub .., StableHlo.binary_bufs_sub ..⟩

theorem pre0_plain : ∀ op ∈ (pre0 : List (HloOp τ sig (Elt F))), op.fresh = ∅ :=
  List.forall_iff_forall_mem.mp (StableHlo.forall_fresh_of_map rfl)

abbrev pre1 : List (HloOp τ sig (Elt F)) :=
  [ StableHlo.unary main_v12 main_call0_v0 (Host.negf : (⟨S8192x512, .f32⟩ : BufTy).Contents (Elt F) → (⟨S8192x512, .f32⟩ : BufTy).Contents (Elt F)),
    StableHlo.nullary main_call0_call0_cst (constant S_ .f32 0x00000000#32),
    StableHlo.unary main_call0_call0_cst main_call0_call0_v0 ((broadcastInDim S8192x512 ![] bcast_S_S8192x512) : (⟨S_, .f32⟩ : BufTy).Contents (Elt F) → (⟨S8192x512, .f32⟩ : BufTy).Contents (Elt F)),
    StableHlo.binary main_call0_v0 main_call0_call0_v0 main_call0_call0_v1 (maximumf : (⟨S8192x512, .f32⟩ : BufTy).Contents (Elt F) → (⟨S8192x512, .f32⟩ : BufTy).Contents (Elt F) → (⟨S8192x512, .f32⟩ : BufTy).Contents (Elt F)),
    StableHlo.unary main_call0_call0_cst main_call0_call0_v2 ((broadcastInDim S8192x512 ![] bcast_S_S8192x512) : (⟨S_, .f32⟩ : BufTy).Contents (Elt F) → (⟨S8192x512, .f32⟩ : BufTy).Contents (Elt F)),
    StableHlo.binary main_call0_v0 main_call0_call0_v2 main_call0_call0_v3 (subf : (⟨S8192x512, .f32⟩ : BufTy).Contents (Elt F) → (⟨S8192x512, .f32⟩ : BufTy).Contents (Elt F) → (⟨S8192x512, .f32⟩ : BufTy).Contents (Elt F)),
    StableHlo.binary main_call0_call0_v3 main_call0_call0_v3 main_call0_call0_v4 ((cmpf .une) : (⟨S8192x512, .f32⟩ : BufTy).Contents (Elt F) → (⟨S8192x512, .f32⟩ : BufTy).Contents (Elt F) → (⟨S8192x512, .i1⟩ : BufTy).Contents (Elt F)),
    StableHlo.unary main_call0_call0_cst main_call0_call0_v5 ((broadcastInDim S8192x512 ![] bcast_S_S8192x512) : (⟨S_, .f32⟩ : BufTy).Contents (Elt F) → (⟨S8192x512, .f32⟩ : BufTy).Contents (Elt F)),
    StableHlo.binary main_call0_v0 main_call0_call0_v5 main_call0_call0_v6 (addf : (⟨S8192x512, .f32⟩ : BufTy).Contents (Elt F) → (⟨S8192x512, .f32⟩ : BufTy).Contents (Elt F) → (⟨S8192x512, .f32⟩ : BufTy).Contents (Elt F)),
    StableHlo.unary main_call0_call0_v3 main_call0_call0_v7 (Host.absf : (⟨S8192x512, .f32⟩ : BufTy).Contents (Elt F) → (⟨S8192x512, .f32⟩ : BufTy).Contents (Elt F)),
    StableHlo.unary main_call0_call0_v7 main_call0_call0_v8 (Host.negf : (⟨S8192x512, .f32⟩ : BufTy).Contents (Elt F) → (⟨S8192x512, .f32⟩ : BufTy).Contents (Elt F)),
    StableHlo.unary main_call0_call0_v8 main_call0_call0_v9 (Host.exp : (⟨S8192x512, .f32⟩ : BufTy).Contents (Elt F) → (⟨S8192x512, .f32⟩ : BufTy).Contents (Elt F)),
    StableHlo.unary main_call0_call0_v9 main_call0_call0_v10 (Host.log1p : (⟨S8192x512, .f32⟩ : BufTy).Contents (Elt F) → (⟨S8192x512, .f32⟩ : BufTy).Contents (Elt F)),
    StableHlo.binary main_call0_call0_v1 main_call0_call0_v10 main_call0_call0_v11 (addf : (⟨S8192x512, .f32⟩ : BufTy).Contents (Elt F) → (⟨S8192x512, .f32⟩ : BufTy).Contents (Elt F) → (⟨S8192x512, .f32⟩ : BufTy).Contents (Elt F)),
    StableHlo.ternary main_call0_call0_v4 main_call0_call0_v6 main_call0_call0_v11 main_call0_v1_0 (select : (⟨S8192x512, .i1⟩ : BufTy).Contents (Elt F) → (⟨S8192x512, .f32⟩ : BufTy).Contents (Elt F) → (⟨S8192x512, .f32⟩ : BufTy).Contents (Elt F) → (⟨S8192x512, .f32⟩ : BufTy).Contents (Elt F)),
    StableHlo.nullary main_call0_call0_cst_0 (constant S_ .f32 0x7F800000#32),
    StableHlo.unary main_call0_call0_cst_0 main_call0_call0_v13 ((broadcastInDim S8192x512 ![] bcast_S_S8192x512) : (⟨S_, .f32⟩ : BufTy).Contents (Elt F) → (⟨S8192x512, .f32⟩ : BufTy).Contents (Elt F)),
    StableHlo.binary main_call0_v0 main_call0_call0_v13 main_call0_call0_v14 ((cmpf .oeq) : (⟨S8192x512, .f32⟩ : BufTy).Contents (Elt F) → (⟨S8192x512, .f32⟩ : BufTy).Contents (Elt F) → (⟨S8192x512, .i1⟩ : BufTy).Contents (Elt F)),
    StableHlo.nullary main_call0_call0_cst_1 (constant S_ .f32 0x00000000#32),
    StableHlo.unary main_call0_call0_cst_1 main_call0_call0_v15 ((broadcastInDim S8192x512 ![] bcast_S_S8192x512) : (⟨S_, .f32⟩ : BufTy).Contents (Elt F) → (⟨S8192x512, .f32⟩ : BufTy).Contents (Elt F)),
    StableHlo.ternary main_call0_call0_v14 main_call0_call0_v15 main_call0_v0 main_call0_call0_v16 (select : (⟨S8192x512, .i1⟩ : BufTy).Contents (Elt F) → (⟨S8192x512, .f32⟩ : BufTy).Contents (Elt F) → (⟨S8192x512, .f32⟩ : BufTy).Contents (Elt F) → (⟨S8192x512, .f32⟩ : BufTy).Contents (Elt F)),
    StableHlo.nullary main_call0_call0_cst_2 (constant S_ .f32 0x7F800000#32),
    StableHlo.unary main_call0_call0_cst_2 main_call0_call0_v17 ((broadcastInDim S8192x512 ![] bcast_S_S8192x512) : (⟨S_, .f32⟩ : BufTy).Contents (Elt F) → (⟨S8192x512, .f32⟩ : BufTy).Contents (Elt F)),
    StableHlo.binary main_call0_v1_0 main_call0_call0_v17 main_call0_call0_v18 ((cmpf .oeq) : (⟨S8192x512, .f32⟩ : BufTy).Contents (Elt F) → (⟨S8192x512, .f32⟩ : BufTy).Contents (Elt F) → (⟨S8192x512, .i1⟩ : BufTy).Contents (Elt F)),
    StableHlo.nullary main_call0_call0_cst_3 (constant S_ .f32 0x00000000#32),
    StableHlo.unary main_call0_call0_cst_3 main_call0_call0_v19 ((broadcastInDim S8192x512 ![] bcast_S_S8192x512) : (⟨S_, .f32⟩ : BufTy).Contents (Elt F) → (⟨S8192x512, .f32⟩ : BufTy).Contents (Elt F)),
    StableHlo.ternary main_call0_call0_v18 main_call0_call0_v19 main_call0_v1_0 main_call0_call0_v20 (select : (⟨S8192x512, .i1⟩ : BufTy).Contents (Elt F) → (⟨S8192x512, .f32⟩ : BufTy).Contents (Elt F) → (⟨S8192x512, .f32⟩ : BufTy).Contents (Elt F) → (⟨S8192x512, .f32⟩ : BufTy).Contents (Elt F)),
    StableHlo.binary main_call0_call0_v16 main_call0_call0_v20 main_call0_call0_v21 (subf : (⟨S8192x512, .f32⟩ : BufTy).Contents (Elt F) → (⟨S8192x512, .f32⟩ : BufTy).Contents (Elt F) → (⟨S8192x512, .f32⟩ : BufTy).Contents (Elt F)),
    StableHlo.unary main_call0_call0_v21 main_v13_1 (Host.exp : (⟨S8192x512, .f32⟩ : BufTy).Contents (Elt F) → (⟨S8192x512, .f32⟩ : BufTy).Contents (Elt F)),
    StableHlo.nullary main_call0_call0_cst_4 (constant S_ .f32 0x00000000#32),
    StableHlo.nullary main_call0_call0_cst_5 (constant S_ .f32 0x7F800000#32),
    StableHlo.binary main_call0_call0_cst_4 main_call0_call0_cst_5 main_call0_call0_v23 ((cmpf .oeq) : (⟨S_, .f32⟩ : BufTy).Contents (Elt F) → (⟨S_, .f32⟩ : BufTy).Contents (Elt F) → (⟨S_, .i1⟩ : BufTy).Contents (Elt F)),
    StableHlo.nullary main_call0_call0_cst_6 (constant S_ .f32 0x00000000#32),
    StableHlo.nullary main_call0_call0_cst_7 (constant S_ .f32 0x00000000#32),
    StableHlo.ternary main_call0_call0_v23 main_call0_call0_cst_7 main_call0_call0_cst_6 main_call0_call0_v24 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
    StableHlo.nullary main_call0_call0_cst_8 (constant S_ .f32 0x7F800000#32),
    StableHlo.unary main_call0_call0_cst_8 main_call0_call0_v25 ((broadcastInDim S8192x512 ![] bcast_S_S8192x512) : (⟨S_, .f32⟩ : BufTy).Contents (Elt F) → (⟨S8192x512, .f32⟩ : BufTy).Contents (Elt F)),
    StableHlo.binary main_call0_v1_0 main_call0_call0_v25 main_call0_call0_v26 ((cmpf .oeq) : (⟨S8192x512, .f32⟩ : BufTy).Contents (Elt F) → (⟨S8192x512, .f32⟩ : BufTy).Contents (Elt F) → (⟨S8192x512, .i1⟩ : BufTy).Contents (Elt F)),
    StableHlo.nullary main_call0_call0_cst_9 (constant S_ .f32 0x00000000#32),
    StableHlo.unary main_call0_call0_cst_9 main_call0_call0_v27 ((broadcastInDim S8192x512 ![] bcast_S_S8192x512) : (⟨S_, .f32⟩ : BufTy).Contents (Elt F) → (⟨S8192x512, .f32⟩ : BufTy).Contents (Elt F)),
    StableHlo.ternary main_call0_call0_v26 main_call0_call0_v27 main_call0_v1_0 main_call0_call0_v28 (select : (⟨S8192x512, .i1⟩ : BufTy).Contents (Elt F) → (⟨S8192x512, .f32⟩ : BufTy).Contents (Elt F) → (⟨S8192x512, .f32⟩ : BufTy).Contents (Elt F) → (⟨S8192x512, .f32⟩ : BufTy).Contents (Elt F)),
    StableHlo.unary main_call0_call0_v24 main_call0_call0_v29 ((broadcastInDim S8192x512 ![] bcast_S_S8192x512) : (⟨S_, .f32⟩ : BufTy).Contents (Elt F) → (⟨S8192x512, .f32⟩ : BufTy).Contents (Elt F)),
    StableHlo.binary main_call0_call0_v29 main_call0_call0_v28 main_call0_call0_v30 (subf : (⟨S8192x512, .f32⟩ : BufTy).Contents (Elt F) → (⟨S8192x512, .f32⟩ : BufTy).Contents (Elt F) → (⟨S8192x512, .f32⟩ : BufTy).Contents (Elt F)),
    StableHlo.unary main_call0_call0_v30 main_call0_call0_v31 (Host.exp : (⟨S8192x512, .f32⟩ : BufTy).Contents (Elt F) → (⟨S8192x512, .f32⟩ : BufTy).Contents (Elt F)),
    StableHlo.nullary main_call0_call0_cst_10 (constant S_ .f32 0x00000000#32),
    StableHlo.unary main_call0_call0_cst_10 main_call0_call0_v32 ((broadcastInDim S8192x512 ![] bcast_S_S8192x512) : (⟨S_, .f32⟩ : BufTy).Contents (Elt F) → (⟨S8192x512, .f32⟩ : BufTy).Contents (Elt F)),
    StableHlo.binary main_call0_call0_v32 main_call0_call0_v31 main_v13_2 (mulf : (⟨S8192x512, .f32⟩ : BufTy).Contents (Elt F) → (⟨S8192x512, .f32⟩ : BufTy).Contents (Elt F) → (⟨S8192x512, .f32⟩ : BufTy).Contents (Elt F)),
    StableHlo.unary main_call0_v1_0 main_v13_0 (Host.negf : (⟨S8192x512, .f32⟩ : BufTy).Contents (Elt F) → (⟨S8192x512, .f32⟩ : BufTy).Contents (Elt F)) ]

theorem pre1_sub : (pre1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩

theorem pre1_plain : ∀ op ∈ (pre1 : List (HloOp τ sig (Elt F))), op.fresh = ∅ :=
  List.forall_iff_forall_mem.mp (StableHlo.forall_fresh_of_map rfl)

abbrev pre2 : List (HloOp τ sig (Elt F)) :=
  [ StableHlo.nullary main_cst (constant S_ .f32 0x41800000#32),
    StableHlo.unary main_cst main_v14 (broadcastInDim S8192x512 ![] bcast_S_S8192x512 : (⟨S_, .f32⟩ : BufTy).Contents (Elt F) → (⟨S8192x512, .f32⟩ : BufTy).Contents (Elt F)),
    StableHlo.binary main_v13_0 main_v14 main_v15 (Host.divf : (⟨S8192x512, .f32⟩ : BufTy).Contents (Elt F) → (⟨S8192x512, .f32⟩ : BufTy).Contents (Elt F) → (⟨S8192x512, .f32⟩ : BufTy).Contents (Elt F)),
    StableHlo.reshape main_v1 main_v16 (rfl : (.f32 : EltTy) = .f32) shapeCasts_S8192x512_S256x32x4x128,
    StableHlo.unary main_v16 main_v17 ((transpose S4x256x32x128 [2, 0, 1, 3] · transposes_S256x32x4x128_S4x256x32x128_2_0_1_3) : (⟨S256x32x4x128, .f32⟩ : BufTy).Contents (Elt F) → (⟨S4x256x32x128, .f32⟩ : BufTy).Contents (Elt F)),
    StableHlo.nullary main_cst_0 (constant S_ .f32 0x3DB504F3#32),
    StableHlo.unary main_cst_0 main_v18 (broadcastInDim S4x256x32x128 ![] bcast_S_S4x256x32x128 : (⟨S_, .f32⟩ : BufTy).Contents (Elt F) → (⟨S4x256x32x128, .f32⟩ : BufTy).Contents (Elt F)),
    StableHlo.binary main_v17 main_v18 main_v19 (mulf : (⟨S4x256x32x128, .f32⟩ : BufTy).Contents (Elt F) → (⟨S4x256x32x128, .f32⟩ : BufTy).Contents (Elt F) → (⟨S4x256x32x128, .f32⟩ : BufTy).Contents (Elt F)),
    StableHlo.reshape main_v2 main_v20 (rfl : (.f32 : EltTy) = .f32) shapeCasts_S8192x512_S256x32x4x128,
    StableHlo.unary main_v20 main_v21 ((transpose S4x256x32x128 [2, 0, 1, 3] · transposes_S256x32x4x128_S4x256x32x128_2_0_1_3) : (⟨S256x32x4x128, .f32⟩ : BufTy).Contents (Elt F) → (⟨S4x256x32x128, .f32⟩ : BufTy).Contents (Elt F)),
    StableHlo.reshape main_v3 main_v22 (rfl : (.f32 : EltTy) = .f32) shapeCasts_S8192x1024_S256x32x4x256,
    StableHlo.unary main_v22 main_v23 ((transpose S4x256x32x256 [2, 0, 1, 3] · transposes_S256x32x4x256_S4x256x32x256_2_0_1_3) : (⟨S256x32x4x256, .f32⟩ : BufTy).Contents (Elt F) → (⟨S4x256x32x256, .f32⟩ : BufTy).Contents (Elt F)),
    StableHlo.reshape main_v15 main_v24 (rfl : (.f32 : EltTy) = .f32) shapeCasts_S8192x512_S256x32x4x128,
    StableHlo.unary main_v24 main_v25 ((transpose S4x256x32x128 [2, 0, 1, 3] · transposes_S256x32x4x128_S4x256x32x128_2_0_1_3) : (⟨S256x32x4x128, .f32⟩ : BufTy).Contents (Elt F) → (⟨S4x256x32x128, .f32⟩ : BufTy).Contents (Elt F)) ]

theorem pre2_sub : (pre2 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub ..⟩

theorem pre2_plain : ∀ op ∈ (pre2 : List (HloOp τ sig (Elt F))), op.fresh = ∅ :=
  List.forall_iff_forall_mem.mp (StableHlo.forall_fresh_of_map rfl)

abbrev pre3 : List (HloOp τ sig (Elt F)) :=
  [ StableHlo.nullary main_call1_call0_cst (constant S_ .f32 0x00000000#32),
    StableHlo.unary main_call1_call0_cst main_call1_call0_v0 ((broadcastInDim S_ ![] bcast_S_S_) : (⟨S_, .f32⟩ : BufTy).Contents (Elt F) → (⟨S_, .f32⟩ : BufTy).Contents (Elt F)),
    StableHlo.binary main_v25 main_call1_call0_v0 main_v26 ((fun x v => Host.reduceWindowAdd ![1, 1, 32, 1] ![1, 1, 1, 1] ![0, 0, 31, 0] ![0, 0, 0, 0] x v reduceWindows_S4x256x32x128_S4x256x32x128_w1s1p0_0_w1s1p0_0_w32s1p31_0_w1s1p0_0 h_S_) : (⟨S4x256x32x128, .f32⟩ : BufTy).Contents (Elt F) → (⟨S_, .f32⟩ : BufTy).Contents (Elt F) → (⟨S4x256x32x128, .f32⟩ : BufTy).Contents (Elt F)) ]

theorem pre3_sub : (pre3 : List (HloOp τ sig (Elt F))).Forall fun op => op.bufs ⊆ StableHlo.tcRefs τ sig :=
  ⟨StableHlo.nullary_bufs_sub .., StableHlo.unary_bufs_sub .., StableHlo.binary_bufs_sub ..⟩

theorem pre3_plain : ∀ op ∈ (pre3 : List (HloOp τ sig (Elt F))), op.fresh = ∅ :=
  List.forall_iff_forall_mem.mp (StableHlo.forall_fresh_of_map rfl)

abbrev pre4 : List (HloOp τ sig (Elt F)) :=
  [ StableHlo.unary main_v26 main_v27 ((extractStridedSlice S4x256x1x128 ![0, 0, 31, 0] · slices_S4x256x32x128_S4x256x1x128_0_0_31_0) : (⟨S4x256x32x128, .f32⟩ : BufTy).Contents (Elt F) → (⟨S4x256x1x128, .f32⟩ : BufTy).Contents (Elt F)),
    StableHlo.unary main_v26 main_v28 (Host.exp : (⟨S4x256x32x128, .f32⟩ : BufTy).Contents (Elt F) → (⟨S4x256x32x128, .f32⟩ : BufTy).Contents (Elt F)),
    StableHlo.binary main_v19 main_v28 main_v29 (mulf : (⟨S4x256x32x128, .f32⟩ : BufTy).Contents (Elt F) → (⟨S4x256x32x128, .f32⟩ : BufTy).Contents (Elt F) → (⟨S4x256x32x128, .f32⟩ : BufTy).Contents (Elt F)),
    StableHlo.unary main_v26 main_v30 (Host.negf : (⟨S4x256x32x128, .f32⟩ : BufTy).Contents (Elt F) → (⟨S4x256x32x128, .f32⟩ : BufTy).Contents (Elt F)),
    StableHlo.unary main_v30 main_v31 (Host.exp : (⟨S4x256x32x128, .f32⟩ : BufTy).Contents (Elt F) → (⟨S4x256x32x128, .f32⟩ : BufTy).Contents (Elt F)),
    StableHlo.binary main_v21 main_v31 main_v32 (mulf : (⟨S4x256x32x128, .f32⟩ : BufTy).Contents (Elt F) → (⟨S4x256x32x128, .f32⟩ : BufTy).Contents (Elt F) → (⟨S4x256x32x128, .f32⟩ : BufTy).Contents (Elt F)),
    StableHlo.unary main_v27 main_v33 (broadcastInDim S4x256x32x128 ![0, 1, 2, 3] bcast_S4x256x1x128_S4x256x32x128_0_1_2_3 : (⟨S4x256x1x128, .f32⟩ : BufTy).Contents (Elt F) → (⟨S4x256x32x128, .f32⟩ : BufTy).Contents (Elt F)),
    StableHlo.binary main_v33 main_v26 main_v34 (subf : (⟨S4x256x32x128, .f32⟩ : BufTy).Contents (Elt F) → (⟨S4x256x32x128, .f32⟩ : BufTy).Contents (Elt F) → (⟨S4x256x32x128, .f32⟩ : BufTy).Contents (Elt F)),
    StableHlo.unary main_v34 main_v35 (Host.exp : (⟨S4x256x32x128, .f32⟩ : BufTy).Contents (Elt F) → (⟨S4x256x32x128, .f32⟩ : BufTy).Contents (Elt F)),
    StableHlo.binary main_v21 main_v35 main_v36 (mulf : (⟨S4x256x32x128, .f32⟩ : BufTy).Contents (Elt F) → (⟨S4x256x32x128, .f32⟩ : BufTy).Contents (Elt F) → (⟨S4x256x32x128, .f32⟩ : BufTy).Contents (Elt F)),
    StableHlo.nullary main_c (constantI S_ 1 1#1),
    StableHlo.unary main_c main_v37 (broadcastInDim S32x32 ![] bcast_S_S32x32 : (⟨S_, .i1⟩ : BufTy).Contents (Elt F) → (⟨S32x32, .i1⟩ : BufTy).Contents (Elt F)) ]

theorem pre4_sub : (pre4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub ..⟩

theorem pre4_plain : ∀ op ∈ (pre4 : List (HloOp τ sig (Elt F))), op.fresh = ∅ :=
  List.forall_iff_forall_mem.mp (StableHlo.forall_fresh_of_map rfl)

abbrev pre5 : List (HloOp τ sig (Elt F)) :=
  [ StableHlo.nullary main_call2_v0 (iotaInDim S32x32 32 0),
    StableHlo.nullary main_call2_c (constantI S_ 32 0#32),
    StableHlo.unary main_call2_c main_call2_v1 ((broadcastInDim S32x32 ![] bcast_S_S32x32) : (⟨S_, .i32⟩ : BufTy).Contents (Elt F) → (⟨S32x32, .i32⟩ : BufTy).Contents (Elt F)),
    StableHlo.binary main_call2_v0 main_call2_v1 main_call2_v2 (addi : (⟨S32x32, .i32⟩ : BufTy).Contents (Elt F) → (⟨S32x32, .i32⟩ : BufTy).Contents (Elt F) → (⟨S32x32, .i32⟩ : BufTy).Contents (Elt F)),
    StableHlo.nullary main_call2_v3 (iotaInDim S32x32 32 1),
    StableHlo.binary main_call2_v2 main_call2_v3 main_call2_v4 ((cmpi .sge) : (⟨S32x32, .i32⟩ : BufTy).Contents (Elt F) → (⟨S32x32, .i32⟩ : BufTy).Contents (Elt F) → (⟨S32x32, .i1⟩ : BufTy).Contents (Elt F)),
    StableHlo.nullary main_call2_c_0 (constantI S_ 1 0#1),
    StableHlo.unary main_call2_c_0 main_call2_v5 ((broadcastInDim S32x32 ![] bcast_S_S32x32) : (⟨S_, .i1⟩ : BufTy).Contents (Elt F) → (⟨S32x32, .i1⟩ : BufTy).Contents (Elt F)),
    StableHlo.ternary main_call2_v4 main_v37 main_call2_v5 main_v38 (select : (⟨S32x32, .i1⟩ : BufTy).Contents (Elt F) → (⟨S32x32, .i1⟩ : BufTy).Contents (Elt F) → (⟨S32x32, .i1⟩ : BufTy).Contents (Elt F) → (⟨S32x32, .i1⟩ : BufTy).Contents (Elt F)) ]

theorem pre5_sub : (pre5 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩

theorem pre5_plain : ∀ op ∈ (pre5 : List (HloOp τ sig (Elt F))), op.fresh = ∅ :=
  List.forall_iff_forall_mem.mp (StableHlo.forall_fresh_of_map rfl)

abbrev pre6 : List (HloOp τ sig (Elt F)) :=
  [ StableHlo.binary main_v29 main_v32 main_v39 ((fun l r => Host.dotGeneral dot_S4x256x32x128_S4x256x32x128_S4x256x32x32_3_3_2_2_01_01 none l r) : (⟨S4x256x32x128, .f32⟩ : BufTy).Contents (Elt F) → (⟨S4x256x32x128, .f32⟩ : BufTy).Contents (Elt F) → (⟨S4x256x32x32, .f32⟩ : BufTy).Contents (Elt F)),
    StableHlo.nullary main_cst_1 (constant S_ .f32 0x00000000#32) ]

theorem pre6_sub : (pre6 : List (HloOp τ sig (Elt F))).Forall fun op => op.bufs ⊆ StableHlo.tcRefs τ sig :=
  ⟨StableHlo.binary_bufs_sub .., StableHlo.nullary_bufs_sub ..⟩

theorem pre6_plain : ∀ op ∈ (pre6 : List (HloOp τ sig (Elt F))), op.fresh = ∅ :=
  List.forall_iff_forall_mem.mp (StableHlo.forall_fresh_of_map rfl)

abbrev pre7 : List (HloOp τ sig (Elt F)) :=
  [ StableHlo.unary main_cst_1 main_call3_v0 (id : (⟨S_, .f32⟩ : BufTy).Contents (Elt F) → (⟨S_, .f32⟩ : BufTy).Contents (Elt F)),
    StableHlo.unary main_v38 main_v40_1 ((broadcastInDim S4x256x32x32 ![2, 3] bcast_S32x32_S4x256x32x32_2_3) : (⟨S32x32, .i1⟩ : BufTy).Contents (Elt F) → (⟨S4x256x32x32, .i1⟩ : BufTy).Contents (Elt F)),
    StableHlo.unary main_call3_v0 main_call3_v2 ((broadcastInDim S4x256x32x32 ![] bcast_S_S4x256x32x32) : (⟨S_, .f32⟩ : BufTy).Contents (Elt F) → (⟨S4x256x32x32, .f32⟩ : BufTy).Contents (Elt F)),
    StableHlo.ternary main_v40_1 main_v39 main_call3_v2 main_v40_0 (select : (⟨S4x256x32x32, .i1⟩ : BufTy).Contents (Elt F) → (⟨S4x256x32x32, .f32⟩ : BufTy).Contents (Elt F) → (⟨S4x256x32x32, .f32⟩ : BufTy).Contents (Elt F) → (⟨S4x256x32x32, .f32⟩ : BufTy).Contents (Elt F)),
    StableHlo.nullary main_call3_cst (constant S_ .f32 0x00000000#32),
    StableHlo.unary main_call3_cst main_v40_2 ((broadcastInDim S4x256x32x32 ![] bcast_S_S4x256x32x32) : (⟨S_, .f32⟩ : BufTy).Contents (Elt F) → (⟨S4x256x32x32, .f32⟩ : BufTy).Contents (Elt F)) ]

theorem pre7_sub : (pre7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩

theorem pre7_plain : ∀ op ∈ (pre7 : List (HloOp τ sig (Elt F))), op.fresh = ∅ :=
  List.forall_iff_forall_mem.mp (StableHlo.forall_fresh_of_map rfl)

abbrev pre8 : List (HloOp τ sig (Elt F)) :=
  [ StableHlo.binary main_v40_0 main_v23 main_v41 ((fun l r => Host.dotGeneral dot_S4x256x32x32_S4x256x32x256_S4x256x32x256_3_2_2_3_01_01 none l r) : (⟨S4x256x32x32, .f32⟩ : BufTy).Contents (Elt F) → (⟨S4x256x32x256, .f32⟩ : BufTy).Contents (Elt F) → (⟨S4x256x32x256, .f32⟩ : BufTy).Contents (Elt F)),
    StableHlo.unary main_v29 main_v42 ((transpose S256x4x32x128 [1, 0, 2, 3] · transposes_S4x256x32x128_S256x4x32x128_1_0_2_3) : (⟨S4x256x32x128, .f32⟩ : BufTy).Contents (Elt F) → (⟨S256x4x32x128, .f32⟩ : BufTy).Contents (Elt F)),
    StableHlo.unary main_v36 main_v43 ((transpose S256x4x32x128 [1, 0, 2, 3] · transposes_S4x256x32x128_S256x4x32x128_1_0_2_3) : (⟨S4x256x32x128, .f32⟩ : BufTy).Contents (Elt F) → (⟨S256x4x32x128, .f32⟩ : BufTy).Contents (Elt F)),
    StableHlo.unary main_v23 main_v44 ((transpose S256x4x32x256 [1, 0, 2, 3] · transposes_S4x256x32x256_S256x4x32x256_1_0_2_3) : (⟨S4x256x32x256, .f32⟩ : BufTy).Contents (Elt F) → (⟨S256x4x32x256, .f32⟩ : BufTy).Contents (Elt F)),
    StableHlo.reshape main_v27 main_v45 (rfl : (.f32 : EltTy) = .f32) shapeCasts_S4x256x1x128_S4x256x128,
    StableHlo.unary main_v45 main_v46 (Host.exp : (⟨S4x256x128, .f32⟩ : BufTy).Contents (Elt F) → (⟨S4x256x128, .f32⟩ : BufTy).Contents (Elt F)),
    StableHlo.unary main_v46 main_v47 ((transpose S256x4x128 [1, 0, 2] · transposes_S4x256x128_S256x4x128_1_0_2) : (⟨S4x256x128, .f32⟩ : BufTy).Contents (Elt F) → (⟨S256x4x128, .f32⟩ : BufTy).Contents (Elt F)),
    StableHlo.nullary main_cst_2 (constant S_ .f32 0x00000000#32),
    StableHlo.unary main_cst_2 main_v48 (broadcastInDim S4x128x256 ![] bcast_S_S4x128x256 : (⟨S_, .f32⟩ : BufTy).Contents (Elt F) → (⟨S4x128x256, .f32⟩ : BufTy).Contents (Elt F)),
    StableHlo.nullary main_cst_3 (constant S_ .f32 0x00000000#32),
    StableHlo.unary main_cst_3 main_v49 (broadcastInDim S256x4x32x256 ![] bcast_S_S256x4x32x256 : (⟨S_, .f32⟩ : BufTy).Contents (Elt F) → (⟨S256x4x32x256, .f32⟩ : BufTy).Contents (Elt F)),
    StableHlo.nullary main_cst_4 (constant S_ .f32 0x00000000#32),
    StableHlo.unary main_cst_4 main_v50 (broadcastInDim S256x4x128x256 ![] bcast_S_S256x4x128x256 : (⟨S_, .f32⟩ : BufTy).Contents (Elt F) → (⟨S256x4x128x256, .f32⟩ : BufTy).Contents (Elt F)),
    StableHlo.nullary main_cst_5 (constant S_ .f32 0x00000000#32),
    StableHlo.unary main_cst_5 main_v51 (broadcastInDim S256x4x128x1 ![] bcast_S_S256x4x128x1 : (⟨S_, .f32⟩ : BufTy).Contents (Elt F) → (⟨S256x4x128x1, .f32⟩ : BufTy).Contents (Elt F)) ]

theorem pre8_sub : (pre8 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub ..⟩

theorem pre8_plain : ∀ op ∈ (pre8 : List (HloOp τ sig (Elt F))), op.fresh = ∅ :=
  List.forall_iff_forall_mem.mp (StableHlo.forall_fresh_of_map rfl)

abbrev pre9 : List (HloOp τ sig (Elt F)) :=
  [ StableHlo.nullary main_c_6 (constantI S_ 32 0#32) ]

theorem pre9_sub : (pre9 : List (HloOp τ sig (Elt F))).Forall fun op => op.bufs ⊆ StableHlo.tcRefs τ sig :=
  StableHlo.nullary_bufs_sub ..

theorem pre9_plain : ∀ op ∈ (pre9 : List (HloOp τ sig (Elt F))), op.fresh = ∅ :=
  List.forall_iff_forall_mem.mp (StableHlo.forall_fresh_of_map rfl)

abbrev pre10 : List (HloOp τ sig (Elt F)) :=
  [ StableHlo.unary main_v42 main_v52_0 id,
    StableHlo.unary main_v43 main_v52_1 id,
    StableHlo.unary main_v44 main_v52_2 id,
    StableHlo.unary main_v47 main_v52_3 id,
    StableHlo.unary main_c_6 main_v52_4 id,
    StableHlo.unary main_v48 main_v52_5 id,
    StableHlo.unary main_v49 main_v52_6 id,
    StableHlo.unary main_v50 main_v52_7 id,
    StableHlo.unary main_v51 main_v52_8 id ]

theorem pre10_sub : (pre10 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem pre10_plain : ∀ op ∈ (pre10 : List (HloOp τ sig (Elt F))), op.fresh = ∅ :=
  List.forall_iff_forall_mem.mp (StableHlo.forall_fresh_of_map rfl)

abbrev mid0 : List (HloOp τ sig (Elt F)) :=
  [ StableHlo.unary main_v52_6 main_v53 ((transpose S4x256x32x256 [1, 0, 2, 3] · transposes_S256x4x32x256_S4x256x32x256_1_0_2_3) : (⟨S256x4x32x256, .f32⟩ : BufTy).Contents (Elt F) → (⟨S4x256x32x256, .f32⟩ : BufTy).Contents (Elt F)),
    StableHlo.binary main_v41 main_v53 main_v54 (addf : (⟨S4x256x32x256, .f32⟩ : BufTy).Contents (Elt F) → (⟨S4x256x32x256, .f32⟩ : BufTy).Contents (Elt F) → (⟨S4x256x32x256, .f32⟩ : BufTy).Contents (Elt F)),
    StableHlo.unary main_v54 main_v55 ((transpose S256x32x4x256 [1, 2, 0, 3] · transposes_S4x256x32x256_S256x32x4x256_1_2_0_3) : (⟨S4x256x32x256, .f32⟩ : BufTy).Contents (Elt F) → (⟨S256x32x4x256, .f32⟩ : BufTy).Contents (Elt F)),
    StableHlo.reshape main_v55 main_v56 (rfl : (.f32 : EltTy) = .f32) shapeCasts_S256x32x4x256_S8192x4x256,
    StableHlo.binary main_v56 main_v56 main_v57 (mulf : (⟨S8192x4x256, .f32⟩ : BufTy).Contents (Elt F) → (⟨S8192x4x256, .f32⟩ : BufTy).Contents (Elt F) → (⟨S8192x4x256, .f32⟩ : BufTy).Contents (Elt F)),
    StableHlo.nullary main_cst_7 (constant S_ .f32 0x00000000#32),
    StableHlo.binary main_v57 main_cst_7 main_v58 ((fun x v => Host.reduceAdd x v reducesTo_S8192x4x256_S8192x4_d2 h_S_) : (⟨S8192x4x256, .f32⟩ : BufTy).Contents (Elt F) → (⟨S_, .f32⟩ : BufTy).Contents (Elt F) → (⟨S8192x4, .f32⟩ : BufTy).Contents (Elt F)),
    StableHlo.unary main_v58 main_v59 (broadcastInDim S8192x4x1 ![0, 1] bcast_S8192x4_S8192x4x1_0_1 : (⟨S8192x4, .f32⟩ : BufTy).Contents (Elt F) → (⟨S8192x4x1, .f32⟩ : BufTy).Contents (Elt F)),
    StableHlo.nullary main_cst_8 (constant S_ .f32 0x43800000#32),
    StableHlo.unary main_cst_8 main_v60 (broadcastInDim S8192x4x1 ![] bcast_S_S8192x4x1 : (⟨S_, .f32⟩ : BufTy).Contents (Elt F) → (⟨S8192x4x1, .f32⟩ : BufTy).Contents (Elt F)),
    StableHlo.binary main_v59 main_v60 main_v61 (Host.divf : (⟨S8192x4x1, .f32⟩ : BufTy).Contents (Elt F) → (⟨S8192x4x1, .f32⟩ : BufTy).Contents (Elt F) → (⟨S8192x4x1, .f32⟩ : BufTy).Contents (Elt F)),
    StableHlo.nullary main_cst_9 (constant S_ .f32 0x358637BD#32),
    StableHlo.unary main_cst_9 main_v62 (broadcastInDim S8192x4x1 ![] bcast_S_S8192x4x1 : (⟨S_, .f32⟩ : BufTy).Contents (Elt F) → (⟨S8192x4x1, .f32⟩ : BufTy).Contents (Elt F)),
    StableHlo.binary main_v61 main_v62 main_v63 (addf : (⟨S8192x4x1, .f32⟩ : BufTy).Contents (Elt F) → (⟨S8192x4x1, .f32⟩ : BufTy).Contents (Elt F) → (⟨S8192x4x1, .f32⟩ : BufTy).Contents (Elt F)),
    StableHlo.unary main_v63 main_v64 (Host.rsqrt : (⟨S8192x4x1, .f32⟩ : BufTy).Contents (Elt F) → (⟨S8192x4x1, .f32⟩ : BufTy).Contents (Elt F)),
    StableHlo.binary main_v64 main_v63 main_v65 (Host.divf : (⟨S8192x4x1, .f32⟩ : BufTy).Contents (Elt F) → (⟨S8192x4x1, .f32⟩ : BufTy).Contents (Elt F) → (⟨S8192x4x1, .f32⟩ : BufTy).Contents (Elt F)),
    StableHlo.nullary main_cst_10 (constant S_ .f32 0xBF000000#32),
    StableHlo.unary main_cst_10 main_v66 (broadcastInDim S8192x4x1 ![] bcast_S_S8192x4x1 : (⟨S_, .f32⟩ : BufTy).Contents (Elt F) → (⟨S8192x4x1, .f32⟩ : BufTy).Contents (Elt F)),
    StableHlo.binary main_v66 main_v65 main_v67 (mulf : (⟨S8192x4x1, .f32⟩ : BufTy).Contents (Elt F) → (⟨S8192x4x1, .f32⟩ : BufTy).Contents (Elt F) → (⟨S8192x4x1, .f32⟩ : BufTy).Contents (Elt F)),
    StableHlo.unary main_v64 main_v68 (broadcastInDim S8192x4x256 ![0, 1, 2] bcast_S8192x4x1_S8192x4x256_0_1_2 : (⟨S8192x4x1, .f32⟩ : BufTy).Contents (Elt F) → (⟨S8192x4x256, .f32⟩ : BufTy).Contents (Elt F)),
    StableHlo.binary main_v56 main_v68 main_v69 (mulf : (⟨S8192x4x256, .f32⟩ : BufTy).Contents (Elt F) → (⟨S8192x4x256, .f32⟩ : BufTy).Contents (Elt F) → (⟨S8192x4x256, .f32⟩ : BufTy).Contents (Elt F)),
    StableHlo.reshape main_v69 main_v70 (rfl : (.f32 : EltTy) = .f32) shapeCasts_S8192x4x256_S8192x1024,
    StableHlo.unary main_v8 main_v71 (broadcastInDim S1x1024 ![1] bcast_S1024_S1x1024_1 : (⟨S1024, .f32⟩ : BufTy).Contents (Elt F) → (⟨S1x1024, .f32⟩ : BufTy).Contents (Elt F)),
    StableHlo.unary main_v71 main_v72 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v70 main_v72 main_v73 (mulf : (⟨S8192x1024, .f32⟩ : BufTy).Contents (Elt F) → (⟨S8192x1024, .f32⟩ : BufTy).Contents (Elt F) → (⟨S8192x1024, .f32⟩ : BufTy).Contents (Elt F)) ]

theorem mid0_sub : (mid0 : List (HloOp τ sig (Elt F))).Forall fun op => op.bufs ⊆ StableHlo.tcRefs τ sig :=
  ⟨StableHlo.unary_bufs_sub .., StableHlo.binary_bufs_sub .., StableHlo.unary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub ..⟩

theorem mid0_plain : ∀ op ∈ (mid0 : List (HloOp τ sig (Elt F))), op.fresh = ∅ :=
  List.forall_iff_forall_mem.mp (StableHlo.forall_fresh_of_map rfl)

abbrev mid1 : List (HloOp τ sig (Elt F)) :=
  [ StableHlo.unary main_v4 main_call11_v0 (Host.negf : (⟨S8192x1024, .f32⟩ : BufTy).Contents (Elt F) → (⟨S8192x1024, .f32⟩ : BufTy).Contents (Elt F)),
    StableHlo.unary main_call11_v0 main_call11_v1 (Host.exp : (⟨S8192x1024, .f32⟩ : BufTy).Contents (Elt F) → (⟨S8192x1024, .f32⟩ : BufTy).Contents (Elt F)),
    StableHlo.nullary main_call11_cst (constant S_ .f32 0x3F800000#32),
    StableHlo.unary main_call11_cst main_call11_v2 ((broadcastInDim S8192x1024 ![] bcast_S_S8192x1024) : (⟨S_, .f32⟩ : BufTy).Contents (Elt F) → (⟨S8192x1024, .f32⟩ : BufTy).Contents (Elt F)),
    StableHlo.binary main_call11_v2 main_call11_v1 main_call11_v3 (addf : (⟨S8192x1024, .f32⟩ : BufTy).Contents (Elt F) → (⟨S8192x1024, .f32⟩ : BufTy).Contents (Elt F) → (⟨S8192x1024, .f32⟩ : BufTy).Contents (Elt F)),
    StableHlo.nullary main_call11_cst_0 (constant S_ .f32 0x3F800000#32),
    StableHlo.unary main_call11_cst_0 main_call11_v4 ((broadcastInDim S8192x1024 ![] bcast_S_S8192x1024) : (⟨S_, .f32⟩ : BufTy).Contents (Elt F) → (⟨S8192x1024, .f32⟩ : BufTy).Contents (Elt F)),
    StableHlo.binary main_call11_v4 main_call11_v3 main_v74_2 (Host.divf : (⟨S8192x1024, .f32⟩ : BufTy).Contents (Elt F) → (⟨S8192x1024, .f32⟩ : BufTy).Contents (Elt F) → (⟨S8192x1024, .f32⟩ : BufTy).Contents (Elt F)),
    StableHlo.nullary main_call11_cst_1 (constant S_ .f32 0x3F800000#32),
    StableHlo.unary main_call11_cst_1 main_call11_v6 ((broadcastInDim S8192x1024 ![] bcast_S_S8192x1024) : (⟨S_, .f32⟩ : BufTy).Contents (Elt F) → (⟨S8192x1024, .f32⟩ : BufTy).Contents (Elt F)),
    StableHlo.binary main_call11_v6 main_v74_2 main_call11_v7 (subf : (⟨S8192x1024, .f32⟩ : BufTy).Contents (Elt F) → (⟨S8192x1024, .f32⟩ : BufTy).Contents (Elt F) → (⟨S8192x1024, .f32⟩ : BufTy).Contents (Elt F)),
    StableHlo.binary main_v74_2 main_call11_v7 main_v74_1 (mulf : (⟨S8192x1024, .f32⟩ : BufTy).Contents (Elt F) → (⟨S8192x1024, .f32⟩ : BufTy).Contents (Elt F) → (⟨S8192x1024, .f32⟩ : BufTy).Contents (Elt F)),
    StableHlo.binary main_v4 main_v74_2 main_v74_0 (mulf : (⟨S8192x1024, .f32⟩ : BufTy).Contents (Elt F) → (⟨S8192x1024, .f32⟩ : BufTy).Contents (Elt F) → (⟨S8192x1024, .f32⟩ : BufTy).Contents (Elt F)) ]

theorem mid1_sub : (mid1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

theorem mid1_plain : ∀ op ∈ (mid1 : List (HloOp τ sig (Elt F))), op.fresh = ∅ :=
  List.forall_iff_forall_mem.mp (StableHlo.forall_fresh_of_map rfl)

abbrev mid2 : List (HloOp τ sig (Elt F)) :=
  [ StableHlo.binary main_v74_0 main_v73 main_v75 (mulf : (⟨S8192x1024, .f32⟩ : BufTy).Contents (Elt F) → (⟨S8192x1024, .f32⟩ : BufTy).Contents (Elt F) → (⟨S8192x1024, .f32⟩ : BufTy).Contents (Elt F)),
    StableHlo.unary main_arg5 main_v76 ((extf .f32 · bitsLt_bf16_f32) : (⟨S8192x1024, .bf16⟩ : BufTy).Contents (Elt F) → (⟨S8192x1024, .f32⟩ : BufTy).Contents (Elt F)),
    StableHlo.nullary main_cst_11 (constant S_ .f32 0x00000000#32),
    StableHlo.unary main_cst_11 main_v77 (broadcastInDim S4x128x256 ![] bcast_S_S4x128x256 : (⟨S_, .f32⟩ : BufTy).Contents (Elt F) → (⟨S4x128x256, .f32⟩ : BufTy).Contents (Elt F)),
    StableHlo.binary main_v74_0 main_v76 main_v78 (mulf : (⟨S8192x1024, .f32⟩ : BufTy).Contents (Elt F) → (⟨S8192x1024, .f32⟩ : BufTy).Contents (Elt F) → (⟨S8192x1024, .f32⟩ : BufTy).Contents (Elt F)),
    StableHlo.binary main_v76 main_v73 main_v79 (mulf : (⟨S8192x1024, .f32⟩ : BufTy).Contents (Elt F) → (⟨S8192x1024, .f32⟩ : BufTy).Contents (Elt F) → (⟨S8192x1024, .f32⟩ : BufTy).Contents (Elt F)) ]

theorem mid2_sub : (mid2 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.binary_bufs_sub ..⟩

theorem mid2_plain : ∀ op ∈ (mid2 : List (HloOp τ sig (Elt F))), op.fresh = ∅ :=
  List.forall_iff_forall_mem.mp (StableHlo.forall_fresh_of_map rfl)

abbrev mid3 : List (HloOp τ sig (Elt F)) :=
  [ StableHlo.binary main_v4 main_v79 main_call12_v0 (mulf : (⟨S8192x1024, .f32⟩ : BufTy).Contents (Elt F) → (⟨S8192x1024, .f32⟩ : BufTy).Contents (Elt F) → (⟨S8192x1024, .f32⟩ : BufTy).Contents (Elt F)),
    StableHlo.binary main_v79 main_v74_2 main_call12_v1 (mulf : (⟨S8192x1024, .f32⟩ : BufTy).Contents (Elt F) → (⟨S8192x1024, .f32⟩ : BufTy).Contents (Elt F) → (⟨S8192x1024, .f32⟩ : BufTy).Contents (Elt F)),
    StableHlo.binary main_call12_v0 main_v74_1 main_call12_v2 (mulf : (⟨S8192x1024, .f32⟩ : BufTy).Contents (Elt F) → (⟨S8192x1024, .f32⟩ : BufTy).Contents (Elt F) → (⟨S8192x1024, .f32⟩ : BufTy).Contents (Elt F)),
    StableHlo.binary main_call12_v1 main_call12_v2 main_v80 (addf : (⟨S8192x1024, .f32⟩ : BufTy).Contents (Elt F) → (⟨S8192x1024, .f32⟩ : BufTy).Contents (Elt F) → (⟨S8192x1024, .f32⟩ : BufTy).Contents (Elt F)) ]

theorem mid3_sub : (mid3 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩

theorem mid3_plain : ∀ op ∈ (mid3 : List (HloOp τ sig (Elt F))), op.fresh = ∅ :=
  List.forall_iff_forall_mem.mp (StableHlo.forall_fresh_of_map rfl)

abbrev mid4 : List (HloOp τ sig (Elt F)) :=
  [ StableHlo.binary main_v70 main_v78 main_v81 (mulf : (⟨S8192x1024, .f32⟩ : BufTy).Contents (Elt F) → (⟨S8192x1024, .f32⟩ : BufTy).Contents (Elt F) → (⟨S8192x1024, .f32⟩ : BufTy).Contents (Elt F)),
    StableHlo.nullary main_cst_12 (constant S_ .f32 0x00000000#32),
    StableHlo.binary main_v81 main_cst_12 main_v82 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v82 main_v83 (rfl : (.f32 : EltTy) = .f32) shapeCasts_S1024_S1x1024,
    StableHlo.unary main_v71 main_v84 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v78 main_v84 main_v85 (mulf : (⟨S8192x1024, .f32⟩ : BufTy).Contents (Elt F) → (⟨S8192x1024, .f32⟩ : BufTy).Contents (Elt F) → (⟨S8192x1024, .f32⟩ : BufTy).Contents (Elt F)),
    StableHlo.nullary main_cst_13 (constant S_ .f32 0x00000000#32),
    StableHlo.binary main_v83 main_cst_13 main_v86 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.reshape main_v85 main_v87 (rfl : (.f32 : EltTy) = .f32) shapeCasts_S8192x1024_S8192x4x256,
    StableHlo.binary main_v56 main_v87 main_v88 (mulf : (⟨S8192x4x256, .f32⟩ : BufTy).Contents (Elt F) → (⟨S8192x4x256, .f32⟩ : BufTy).Contents (Elt F) → (⟨S8192x4x256, .f32⟩ : BufTy).Contents (Elt F)),
    StableHlo.nullary main_cst_14 (constant S_ .f32 0x00000000#32),
    StableHlo.binary main_v88 main_cst_14 main_v89 ((fun x v => Host.reduceAdd x v reducesTo_S8192x4x256_S8192x4_d2 h_S_) : (⟨S8192x4x256, .f32⟩ : BufTy).Contents (Elt F) → (⟨S_, .f32⟩ : BufTy).Contents (Elt F) → (⟨S8192x4, .f32⟩ : BufTy).Contents (Elt F)),
    StableHlo.reshape main_v89 main_v90 (rfl : (.f32 : EltTy) = .f32) shapeCasts_S8192x4_S8192x4x1,
    StableHlo.unary main_v64 main_v91 (broadcastInDim S8192x4x256 ![0, 1, 2] bcast_S8192x4x1_S8192x4x256_0_1_2 : (⟨S8192x4x1, .f32⟩ : BufTy).Contents (Elt F) → (⟨S8192x4x256, .f32⟩ : BufTy).Contents (Elt F)),
    StableHlo.binary main_v87 main_v91 main_v92 (mulf : (⟨S8192x4x256, .f32⟩ : BufTy).Contents (Elt F) → (⟨S8192x4x256, .f32⟩ : BufTy).Contents (Elt F) → (⟨S8192x4x256, .f32⟩ : BufTy).Contents (Elt F)),
    StableHlo.binary main_v90 main_v67 main_v93 (mulf : (⟨S8192x4x1, .f32⟩ : BufTy).Contents (Elt F) → (⟨S8192x4x1, .f32⟩ : BufTy).Contents (Elt F) → (⟨S8192x4x1, .f32⟩ : BufTy).Contents (Elt F)) ]

theorem mid4_sub : (mid4 : List (HloOp τ sig (Elt F))).Forall fun op => op.bufs ⊆ StableHlo.tcRefs τ sig :=
  ⟨StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub ..⟩

theorem mid4_plain : ∀ op ∈ (mid4 : List (HloOp τ sig (Elt F))), op.fresh = ∅ :=
  List.forall_iff_forall_mem.mp (StableHlo.forall_fresh_of_map rfl)

abbrev mid5 : List (HloOp τ sig (Elt F)) :=
  [ StableHlo.nullary main_cst_15 (constant S_ .f32 0x43800000#32),
    StableHlo.unary main_cst_15 main_v94 (broadcastInDim S8192x4x1 ![] bcast_S_S8192x4x1 : (⟨S_, .f32⟩ : BufTy).Contents (Elt F) → (⟨S8192x4x1, .f32⟩ : BufTy).Contents (Elt F)),
    StableHlo.binary main_v93 main_v94 main_v95 (Host.divf : (⟨S8192x4x1, .f32⟩ : BufTy).Contents (Elt F) → (⟨S8192x4x1, .f32⟩ : BufTy).Contents (Elt F) → (⟨S8192x4x1, .f32⟩ : BufTy).Contents (Elt F)),
    StableHlo.nullary main_cst_16 (constant S_ .f32 0x00000000#32),
    StableHlo.binary main_v95 main_cst_16 main_v96 ((fun x v => Host.reduceAdd x v reducesTo_S8192x4x1_S8192x4_d2 h_S_) : (⟨S8192x4x1, .f32⟩ : BufTy).Contents (Elt F) → (⟨S_, .f32⟩ : BufTy).Contents (Elt F) → (⟨S8192x4, .f32⟩ : BufTy).Contents (Elt F)),
    StableHlo.unary main_v96 main_v97 (broadcastInDim S8192x4x256 ![0, 1] bcast_S8192x4_S8192x4x256_0_1 : (⟨S8192x4, .f32⟩ : BufTy).Contents (Elt F) → (⟨S8192x4x256, .f32⟩ : BufTy).Contents (Elt F)),
    StableHlo.binary main_v56 main_v97 main_v98 (mulf : (⟨S8192x4x256, .f32⟩ : BufTy).Contents (Elt F) → (⟨S8192x4x256, .f32⟩ : BufTy).Contents (Elt F) → (⟨S8192x4x256, .f32⟩ : BufTy).Contents (Elt F)),
    StableHlo.binary main_v92 main_v98 main_v99 (addf : (⟨S8192x4x256, .f32⟩ : BufTy).Contents (Elt F) → (⟨S8192x4x256, .f32⟩ : BufTy).Contents (Elt F) → (⟨S8192x4x256, .f32⟩ : BufTy).Contents (Elt F)),
    StableHlo.binary main_v97 main_v56 main_v100 (mulf : (⟨S8192x4x256, .f32⟩ : BufTy).Contents (Elt F) → (⟨S8192x4x256, .f32⟩ : BufTy).Contents (Elt F) → (⟨S8192x4x256, .f32⟩ : BufTy).Contents (Elt F)),
    StableHlo.binary main_v99 main_v100 main_v101 (addf : (⟨S8192x4x256, .f32⟩ : BufTy).Contents (Elt F) → (⟨S8192x4x256, .f32⟩ : BufTy).Contents (Elt F) → (⟨S8192x4x256, .f32⟩ : BufTy).Contents (Elt F)),
    StableHlo.reshape main_v101 main_v102 (rfl : (.f32 : EltTy) = .f32) shapeCasts_S8192x4x256_S256x32x4x256,
    StableHlo.unary main_v102 main_v103 ((transpose S4x256x32x256 [2, 0, 1, 3] · transposes_S256x32x4x256_S4x256x32x256_2_0_1_3) : (⟨S256x32x4x256, .f32⟩ : BufTy).Contents (Elt F) → (⟨S4x256x32x256, .f32⟩ : BufTy).Contents (Elt F)),
    StableHlo.unary main_v103 main_v104 ((transpose S256x4x32x256 [1, 0, 2, 3] · transposes_S4x256x32x256_S256x4x32x256_1_0_2_3) : (⟨S4x256x32x256, .f32⟩ : BufTy).Contents (Elt F) → (⟨S256x4x32x256, .f32⟩ : BufTy).Contents (Elt F)),
    StableHlo.nullary main_cst_17 (constant S_ .f32 0x00000000#32),
    StableHlo.unary main_cst_17 main_v105 (broadcastInDim S4x128x256 ![] bcast_S_S4x128x256 : (⟨S_, .f32⟩ : BufTy).Contents (Elt F) → (⟨S4x128x256, .f32⟩ : BufTy).Contents (Elt F)),
    StableHlo.nullary main_cst_18 (constant S_ .f32 0x00000000#32),
    StableHlo.unary main_cst_18 main_v106 (broadcastInDim S256x4x32x128 ![] bcast_S_S256x4x32x128 : (⟨S_, .f32⟩ : BufTy).Contents (Elt F) → (⟨S256x4x32x128, .f32⟩ : BufTy).Contents (Elt F)),
    StableHlo.nullary main_cst_19 (constant S_ .f32 0x00000000#32),
    StableHlo.unary main_cst_19 main_v107 (broadcastInDim S256x4x32x128 ![] bcast_S_S256x4x32x128 : (⟨S_, .f32⟩ : BufTy).Contents (Elt F) → (⟨S256x4x32x128, .f32⟩ : BufTy).Contents (Elt F)),
    StableHlo.nullary main_cst_20 (constant S_ .f32 0x00000000#32),
    StableHlo.unary main_cst_20 main_v108 (broadcastInDim S256x4x32x256 ![] bcast_S_S256x4x32x256 : (⟨S_, .f32⟩ : BufTy).Contents (Elt F) → (⟨S256x4x32x256, .f32⟩ : BufTy).Contents (Elt F)),
    StableHlo.nullary main_cst_21 (constant S_ .f32 0x00000000#32),
    StableHlo.unary main_cst_21 main_v109 (broadcastInDim S256x4x128 ![] bcast_S_S256x4x128 : (⟨S_, .f32⟩ : BufTy).Contents (Elt F) → (⟨S256x4x128, .f32⟩ : BufTy).Contents (Elt F)),
    StableHlo.nullary main_c_22 (constantI S_ 32 0#32) ]

theorem mid5_sub : (mid5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub ..⟩

theorem mid5_plain : ∀ op ∈ (mid5 : List (HloOp τ sig (Elt F))), op.fresh = ∅ :=
  List.forall_iff_forall_mem.mp (StableHlo.forall_fresh_of_map rfl)

abbrev mid6 : List (HloOp τ sig (Elt F)) :=
  [ StableHlo.unary main_v104 main_v110_0 id,
    StableHlo.unary main_v52_7 main_v110_1 id,
    StableHlo.unary main_v42 main_v110_2 id,
    StableHlo.unary main_v52_8 main_v110_3 id,
    StableHlo.unary main_v44 main_v110_4 id,
    StableHlo.unary main_v43 main_v110_5 id,
    StableHlo.unary main_c_22 main_v110_6 id,
    StableHlo.unary main_v105 main_v110_7 id,
    StableHlo.unary main_v106 main_v110_8 id,
    StableHlo.unary main_v107 main_v110_9 id,
    StableHlo.unary main_v108 main_v110_10 id,
    StableHlo.unary main_v109 main_v110_11 id ]

theorem mid6_sub : (mid6 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem mid6_plain : ∀ op ∈ (mid6 : List (HloOp τ sig (Elt F))), op.fresh = ∅ :=
  List.forall_iff_forall_mem.mp (StableHlo.forall_fresh_of_map rfl)

abbrev post0 : List (HloOp τ sig (Elt F)) :=
  [ StableHlo.unary main_v110_11 main_v111 ((transpose S4x256x128 [1, 0, 2] · transposes_S256x4x128_S4x256x128_1_0_2) : (⟨S256x4x128, .f32⟩ : BufTy).Contents (Elt F) → (⟨S4x256x128, .f32⟩ : BufTy).Contents (Elt F)),
    StableHlo.binary main_v111 main_v46 main_v112 (mulf : (⟨S4x256x128, .f32⟩ : BufTy).Contents (Elt F) → (⟨S4x256x128, .f32⟩ : BufTy).Contents (Elt F) → (⟨S4x256x128, .f32⟩ : BufTy).Contents (Elt F)),
    StableHlo.unary main_v112 main_v113 (broadcastInDim S4x256x1x128 ![0, 1, 3] bcast_S4x256x128_S4x256x1x128_0_1_3 : (⟨S4x256x128, .f32⟩ : BufTy).Contents (Elt F) → (⟨S4x256x1x128, .f32⟩ : BufTy).Contents (Elt F)),
    StableHlo.unary main_v110_10 main_v114 ((transpose S4x256x32x256 [1, 0, 2, 3] · transposes_S256x4x32x256_S4x256x32x256_1_0_2_3) : (⟨S256x4x32x256, .f32⟩ : BufTy).Contents (Elt F) → (⟨S4x256x32x256, .f32⟩ : BufTy).Contents (Elt F)),
    StableHlo.unary main_v110_9 main_v115 ((transpose S4x256x32x128 [1, 0, 2, 3] · transposes_S256x4x32x128_S4x256x32x128_1_0_2_3) : (⟨S256x4x32x128, .f32⟩ : BufTy).Contents (Elt F) → (⟨S4x256x32x128, .f32⟩ : BufTy).Contents (Elt F)),
    StableHlo.unary main_v110_8 main_v116 ((transpose S4x256x32x128 [1, 0, 2, 3] · transposes_S256x4x32x128_S4x256x32x128_1_0_2_3) : (⟨S256x4x32x128, .f32⟩ : BufTy).Contents (Elt F) → (⟨S4x256x32x128, .f32⟩ : BufTy).Contents (Elt F)),
    StableHlo.binary main_v103 main_v40_0 main_v117 ((fun l r => Host.dotGeneral dot_S4x256x32x256_S4x256x32x32_S4x256x256x32_2_2_3_3_01_01 none l r) : (⟨S4x256x32x256, .f32⟩ : BufTy).Contents (Elt F) → (⟨S4x256x32x32, .f32⟩ : BufTy).Contents (Elt F) → (⟨S4x256x256x32, .f32⟩ : BufTy).Contents (Elt F)),
    StableHlo.unary main_v117 main_v118 ((transpose S4x256x32x256 [0, 1, 3, 2] · transposes_S4x256x256x32_S4x256x32x256_0_1_3_2) : (⟨S4x256x256x32, .f32⟩ : BufTy).Contents (Elt F) → (⟨S4x256x32x256, .f32⟩ : BufTy).Contents (Elt F)),
    StableHlo.binary main_v114 main_v118 main_v119 (addf : (⟨S4x256x32x256, .f32⟩ : BufTy).Contents (Elt F) → (⟨S4x256x32x256, .f32⟩ : BufTy).Contents (Elt F) → (⟨S4x256x32x256, .f32⟩ : BufTy).Contents (Elt F)),
    StableHlo.binary main_v103 main_v23 main_v120 ((fun l r => Host.dotGeneral dot_S4x256x32x256_S4x256x32x256_S4x256x32x32_3_3_2_2_01_01 none l r) : (⟨S4x256x32x256, .f32⟩ : BufTy).Contents (Elt F) → (⟨S4x256x32x256, .f32⟩ : BufTy).Contents (Elt F) → (⟨S4x256x32x32, .f32⟩ : BufTy).Contents (Elt F)) ]

theorem post0_sub : (post0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub ..⟩

theorem post0_plain : ∀ op ∈ (post0 : List (HloOp τ sig (Elt F))), op.fresh = ∅ :=
  List.forall_iff_forall_mem.mp (StableHlo.forall_fresh_of_map rfl)

abbrev post1 : List (HloOp τ sig (Elt F)) :=
  [ StableHlo.nullary main_call23_cst (constant S_ .f32 0x00000000#32),
    StableHlo.unary main_call23_cst main_call23_v0 ((broadcastInDim S4x256x32x32 ![] bcast_S_S4x256x32x32) : (⟨S_, .f32⟩ : BufTy).Contents (Elt F) → (⟨S4x256x32x32, .f32⟩ : BufTy).Contents (Elt F)),
    StableHlo.ternary main_v40_1 main_v120 main_call23_v0 main_v121 (select : (⟨S4x256x32x32, .i1⟩ : BufTy).Contents (Elt F) → (⟨S4x256x32x32, .f32⟩ : BufTy).Contents (Elt F) → (⟨S4x256x32x32, .f32⟩ : BufTy).Contents (Elt F) → (⟨S4x256x32x32, .f32⟩ : BufTy).Contents (Elt F)) ]

theorem post1_sub : (post1 : List (HloOp τ sig (Elt F))).Forall fun op => op.bufs ⊆ StableHlo.tcRefs τ sig :=
  ⟨StableHlo.nullary_bufs_sub .., StableHlo.unary_bufs_sub .., StableHlo.ternary_bufs_sub ..⟩

theorem post1_plain : ∀ op ∈ (post1 : List (HloOp τ sig (Elt F))), op.fresh = ∅ :=
  List.forall_iff_forall_mem.mp (StableHlo.forall_fresh_of_map rfl)

abbrev post2 : List (HloOp τ sig (Elt F)) :=
  [ StableHlo.binary main_v121 main_v29 main_v122 ((fun l r => Host.dotGeneral dot_S4x256x32x32_S4x256x32x128_S4x256x32x128_2_2_3_3_01_01 none l r) : (⟨S4x256x32x32, .f32⟩ : BufTy).Contents (Elt F) → (⟨S4x256x32x128, .f32⟩ : BufTy).Contents (Elt F) → (⟨S4x256x32x128, .f32⟩ : BufTy).Contents (Elt F)),
    StableHlo.binary main_v121 main_v32 main_v123 ((fun l r => Host.dotGeneral dot_S4x256x32x32_S4x256x32x128_S4x256x32x128_3_2_2_3_01_01 none l r) : (⟨S4x256x32x32, .f32⟩ : BufTy).Contents (Elt F) → (⟨S4x256x32x128, .f32⟩ : BufTy).Contents (Elt F) → (⟨S4x256x32x128, .f32⟩ : BufTy).Contents (Elt F)),
    StableHlo.binary main_v116 main_v123 main_v124 (addf : (⟨S4x256x32x128, .f32⟩ : BufTy).Contents (Elt F) → (⟨S4x256x32x128, .f32⟩ : BufTy).Contents (Elt F) → (⟨S4x256x32x128, .f32⟩ : BufTy).Contents (Elt F)),
    StableHlo.binary main_v21 main_v115 main_v125 (mulf : (⟨S4x256x32x128, .f32⟩ : BufTy).Contents (Elt F) → (⟨S4x256x32x128, .f32⟩ : BufTy).Contents (Elt F) → (⟨S4x256x32x128, .f32⟩ : BufTy).Contents (Elt F)),
    StableHlo.binary main_v115 main_v35 main_v126 (mulf : (⟨S4x256x32x128, .f32⟩ : BufTy).Contents (Elt F) → (⟨S4x256x32x128, .f32⟩ : BufTy).Contents (Elt F) → (⟨S4x256x32x128, .f32⟩ : BufTy).Contents (Elt F)),
    StableHlo.binary main_v125 main_v35 main_v127 (mulf : (⟨S4x256x32x128, .f32⟩ : BufTy).Contents (Elt F) → (⟨S4x256x32x128, .f32⟩ : BufTy).Contents (Elt F) → (⟨S4x256x32x128, .f32⟩ : BufTy).Contents (Elt F)),
    StableHlo.nullary main_cst_23 (constant S_ .f32 0x00000000#32),
    StableHlo.binary main_v127 main_cst_23 main_v128 ((fun x v => Host.reduceAdd x v reducesTo_S4x256x32x128_S4x256x128_d2 h_S_) : (⟨S4x256x32x128, .f32⟩ : BufTy).Contents (Elt F) → (⟨S_, .f32⟩ : BufTy).Contents (Elt F) → (⟨S4x256x128, .f32⟩ : BufTy).Contents (Elt F)),
    StableHlo.reshape main_v128 main_v129 (rfl : (.f32 : EltTy) = .f32) shapeCasts_S4x256x128_S4x256x1x128,
    StableHlo.unary main_v127 main_v130 (Host.negf : (⟨S4x256x32x128, .f32⟩ : BufTy).Contents (Elt F) → (⟨S4x256x32x128, .f32⟩ : BufTy).Contents (Elt F)),
    StableHlo.binary main_v113 main_v129 main_v131 (addf : (⟨S4x256x1x128, .f32⟩ : BufTy).Contents (Elt F) → (⟨S4x256x1x128, .f32⟩ : BufTy).Contents (Elt F) → (⟨S4x256x1x128, .f32⟩ : BufTy).Contents (Elt F)),
    StableHlo.binary main_v21 main_v122 main_v132 (mulf : (⟨S4x256x32x128, .f32⟩ : BufTy).Contents (Elt F) → (⟨S4x256x32x128, .f32⟩ : BufTy).Contents (Elt F) → (⟨S4x256x32x128, .f32⟩ : BufTy).Contents (Elt F)) ]

theorem post2_sub : (post2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub ..⟩

theorem post2_plain : ∀ op ∈ (post2 : List (HloOp τ sig (Elt F))), op.fresh = ∅ :=
  List.forall_iff_forall_mem.mp (StableHlo.forall_fresh_of_map rfl)

abbrev post3 : List (HloOp τ sig (Elt F)) :=
  [ StableHlo.binary main_v122 main_v31 main_v133 (mulf : (⟨S4x256x32x128, .f32⟩ : BufTy).Contents (Elt F) → (⟨S4x256x32x128, .f32⟩ : BufTy).Contents (Elt F) → (⟨S4x256x32x128, .f32⟩ : BufTy).Contents (Elt F)),
    StableHlo.binary main_v126 main_v133 main_v134 (addf : (⟨S4x256x32x128, .f32⟩ : BufTy).Contents (Elt F) → (⟨S4x256x32x128, .f32⟩ : BufTy).Contents (Elt F) → (⟨S4x256x32x128, .f32⟩ : BufTy).Contents (Elt F)),
    StableHlo.binary main_v132 main_v31 main_v135 (mulf : (⟨S4x256x32x128, .f32⟩ : BufTy).Contents (Elt F) → (⟨S4x256x32x128, .f32⟩ : BufTy).Contents (Elt F) → (⟨S4x256x32x128, .f32⟩ : BufTy).Contents (Elt F)),
    StableHlo.unary main_v135 main_v136 (Host.negf : (⟨S4x256x32x128, .f32⟩ : BufTy).Contents (Elt F) → (⟨S4x256x32x128, .f32⟩ : BufTy).Contents (Elt F)),
    StableHlo.binary main_v130 main_v136 main_v137 (addf : (⟨S4x256x32x128, .f32⟩ : BufTy).Contents (Elt F) → (⟨S4x256x32x128, .f32⟩ : BufTy).Contents (Elt F) → (⟨S4x256x32x128, .f32⟩ : BufTy).Contents (Elt F)),
    StableHlo.binary main_v19 main_v124 main_v138 (mulf : (⟨S4x256x32x128, .f32⟩ : BufTy).Contents (Elt F) → (⟨S4x256x32x128, .f32⟩ : BufTy).Contents (Elt F) → (⟨S4x256x32x128, .f32⟩ : BufTy).Contents (Elt F)),
    StableHlo.binary main_v124 main_v28 main_v139 (mulf : (⟨S4x256x32x128, .f32⟩ : BufTy).Contents (Elt F) → (⟨S4x256x32x128, .f32⟩ : BufTy).Contents (Elt F) → (⟨S4x256x32x128, .f32⟩ : BufTy).Contents (Elt F)),
    StableHlo.binary main_v138 main_v28 main_v140 (mulf : (⟨S4x256x32x128, .f32⟩ : BufTy).Contents (Elt F) → (⟨S4x256x32x128, .f32⟩ : BufTy).Contents (Elt F) → (⟨S4x256x32x128, .f32⟩ : BufTy).Contents (Elt F)),
    StableHlo.binary main_v137 main_v140 main_v141 (addf : (⟨S4x256x32x128, .f32⟩ : BufTy).Contents (Elt F) → (⟨S4x256x32x128, .f32⟩ : BufTy).Contents (Elt F) → (⟨S4x256x32x128, .f32⟩ : BufTy).Contents (Elt F)),
    StableHlo.nullary main_cst_24 (constant S_ .f32 0x00000000#32),
    StableHlo.binary main_v131 main_cst_24 main_v142 ((fun x v => pad S4x256x32x128 ![0, 0, 31, 0] ![0, 0, 0, 0] ![0, 0, 0, 0] x v pads_S4x256x1x128_S4x256x32x128_000_000_3100_000 h_S_) : (⟨S4x256x1x128, .f32⟩ : BufTy).Contents (Elt F) → (⟨S_, .f32⟩ : BufTy).Contents (Elt F) → (⟨S4x256x32x128, .f32⟩ : BufTy).Contents (Elt F)),
    StableHlo.binary main_v141 main_v142 main_v143 (addf : (⟨S4x256x32x128, .f32⟩ : BufTy).Contents (Elt F) → (⟨S4x256x32x128, .f32⟩ : BufTy).Contents (Elt F) → (⟨S4x256x32x128, .f32⟩ : BufTy).Contents (Elt F)) ]

theorem post3_sub : (post3 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub ..⟩

theorem post3_plain : ∀ op ∈ (post3 : List (HloOp τ sig (Elt F))), op.fresh = ∅ :=
  List.forall_iff_forall_mem.mp (StableHlo.forall_fresh_of_map rfl)

abbrev post4 : List (HloOp τ sig (Elt F)) :=
  [ StableHlo.nullary main_call24_call0_cst (constant S_ .f32 0x00000000#32),
    StableHlo.unary main_call24_call0_cst main_call24_call0_v0 ((broadcastInDim S_ ![] bcast_S_S_) : (⟨S_, .f32⟩ : BufTy).Contents (Elt F) → (⟨S_, .f32⟩ : BufTy).Contents (Elt F)),
    StableHlo.binary main_v143 main_call24_call0_v0 main_v144 ((fun x v => Host.reduceWindowAdd ![1, 1, 32, 1] ![1, 1, 1, 1] ![0, 0, 0, 0] ![0, 0, 31, 0] x v reduceWindows_S4x256x32x128_S4x256x32x128_w1s1p0_0_w1s1p0_0_w32s1p0_31_w1s1p0_0 h_S_) : (⟨S4x256x32x128, .f32⟩ : BufTy).Contents (Elt F) → (⟨S_, .f32⟩ : BufTy).Contents (Elt F) → (⟨S4x256x32x128, .f32⟩ : BufTy).Contents (Elt F)) ]

theorem post4_sub : (post4 : List (HloOp τ sig (Elt F))).Forall fun op => op.bufs ⊆ StableHlo.tcRefs τ sig :=
  ⟨StableHlo.nullary_bufs_sub .., StableHlo.unary_bufs_sub .., StableHlo.binary_bufs_sub ..⟩

theorem post4_plain : ∀ op ∈ (post4 : List (HloOp τ sig (Elt F))), op.fresh = ∅ :=
  List.forall_iff_forall_mem.mp (StableHlo.forall_fresh_of_map rfl)

abbrev post5 : List (HloOp τ sig (Elt F)) :=
  [ StableHlo.unary main_v144 main_v145 ((transpose S256x32x4x128 [1, 2, 0, 3] · transposes_S4x256x32x128_S256x32x4x128_1_2_0_3) : (⟨S4x256x32x128, .f32⟩ : BufTy).Contents (Elt F) → (⟨S256x32x4x128, .f32⟩ : BufTy).Contents (Elt F)),
    StableHlo.reshape main_v145 main_v146 (rfl : (.f32 : EltTy) = .f32) shapeCasts_S256x32x4x128_S8192x512,
    StableHlo.unary main_v119 main_v147 ((transpose S256x32x4x256 [1, 2, 0, 3] · transposes_S4x256x32x256_S256x32x4x256_1_2_0_3) : (⟨S4x256x32x256, .f32⟩ : BufTy).Contents (Elt F) → (⟨S256x32x4x256, .f32⟩ : BufTy).Contents (Elt F)),
    StableHlo.reshape main_v147 main_v148 (rfl : (.f32 : EltTy) = .f32) shapeCasts_S256x32x4x256_S8192x1024,
    StableHlo.unary main_v134 main_v149 ((transpose S256x32x4x128 [1, 2, 0, 3] · transposes_S4x256x32x128_S256x32x4x128_1_2_0_3) : (⟨S4x256x32x128, .f32⟩ : BufTy).Contents (Elt F) → (⟨S256x32x4x128, .f32⟩ : BufTy).Contents (Elt F)),
    StableHlo.reshape main_v149 main_v150 (rfl : (.f32 : EltTy) = .f32) shapeCasts_S256x32x4x128_S8192x512,
    StableHlo.nullary main_cst_25 (constant S_ .f32 0x3DB504F3#32),
    StableHlo.unary main_cst_25 main_v151 (broadcastInDim S4x256x32x128 ![] bcast_S_S4x256x32x128 : (⟨S_, .f32⟩ : BufTy).Contents (Elt F) → (⟨S4x256x32x128, .f32⟩ : BufTy).Contents (Elt F)),
    StableHlo.binary main_v139 main_v151 main_v152 (mulf : (⟨S4x256x32x128, .f32⟩ : BufTy).Contents (Elt F) → (⟨S4x256x32x128, .f32⟩ : BufTy).Contents (Elt F) → (⟨S4x256x32x128, .f32⟩ : BufTy).Contents (Elt F)),
    StableHlo.unary main_v152 main_v153 ((transpose S256x32x4x128 [1, 2, 0, 3] · transposes_S4x256x32x128_S256x32x4x128_1_2_0_3) : (⟨S4x256x32x128, .f32⟩ : BufTy).Contents (Elt F) → (⟨S256x32x4x128, .f32⟩ : BufTy).Contents (Elt F)),
    StableHlo.reshape main_v153 main_v154 (rfl : (.f32 : EltTy) = .f32) shapeCasts_S256x32x4x128_S8192x512,
    StableHlo.nullary main_cst_26 (constant S_ .f32 0x41800000#32),
    StableHlo.unary main_cst_26 main_v155 (broadcastInDim S8192x512 ![] bcast_S_S8192x512 : (⟨S_, .f32⟩ : BufTy).Contents (Elt F) → (⟨S8192x512, .f32⟩ : BufTy).Contents (Elt F)),
    StableHlo.binary main_v146 main_v155 main_v156 (Host.divf : (⟨S8192x512, .f32⟩ : BufTy).Contents (Elt F) → (⟨S8192x512, .f32⟩ : BufTy).Contents (Elt F) → (⟨S8192x512, .f32⟩ : BufTy).Contents (Elt F)) ]

theorem post5_sub : (post5 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub ..⟩

theorem post5_plain : ∀ op ∈ (post5 : List (HloOp τ sig (Elt F))), op.fresh = ∅ :=
  List.forall_iff_forall_mem.mp (StableHlo.forall_fresh_of_map rfl)

abbrev post6 : List (HloOp τ sig (Elt F)) :=
  [ StableHlo.unary main_v156 main_call25_v0 (Host.negf : (⟨S8192x512, .f32⟩ : BufTy).Contents (Elt F) → (⟨S8192x512, .f32⟩ : BufTy).Contents (Elt F)),
    StableHlo.binary main_call25_v0 main_v13_1 main_call25_v1 (mulf : (⟨S8192x512, .f32⟩ : BufTy).Contents (Elt F) → (⟨S8192x512, .f32⟩ : BufTy).Contents (Elt F) → (⟨S8192x512, .f32⟩ : BufTy).Contents (Elt F)),
    StableHlo.unary main_call25_v1 main_v157 (Host.negf : (⟨S8192x512, .f32⟩ : BufTy).Contents (Elt F) → (⟨S8192x512, .f32⟩ : BufTy).Contents (Elt F)) ]

theorem post6_sub : (post6 : List (HloOp τ sig (Elt F))).Forall fun op => op.bufs ⊆ StableHlo.tcRefs τ sig :=
  ⟨StableHlo.unary_bufs_sub .., StableHlo.binary_bufs_sub .., StableHlo.unary_bufs_sub ..⟩

theorem post6_plain : ∀ op ∈ (post6 : List (HloOp τ sig (Elt F))), op.fresh = ∅ :=
  List.forall_iff_forall_mem.mp (StableHlo.forall_fresh_of_map rfl)

abbrev post7 : List (HloOp τ sig (Elt F)) :=
  [ StableHlo.nullary main_cst_27 (constant S_ .f32 0x00000000#32),
    StableHlo.binary main_v157 main_cst_27 main_v158 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    StableHlo.reshape main_v158 main_v159 (rfl : (.f32 : EltTy) = .f32) shapeCasts_S512_S1x512,
    StableHlo.nullary main_cst_28 (constant S_ .f32 0x00000000#32),
    StableHlo.binary main_v159 main_cst_28 main_v160 ((fun x v => Host.reduceAdd x v reducesTo_S1x512_S512_d0 h_S_) : (⟨S1x512, .f32⟩ : BufTy).Contents (Elt F) → (⟨S_, .f32⟩ : BufTy).Contents (Elt F) → (⟨S512, .f32⟩ : BufTy).Contents (Elt F)),
    StableHlo.binary main_v157 main_v5 main_v161 ((fun l r => Host.dotGeneral dot_S8192x512_S8192x128_S512x128_0_0_1_1_n_n none l r) : (⟨S8192x512, .f32⟩ : BufTy).Contents (Elt F) → (⟨S8192x128, .f32⟩ : BufTy).Contents (Elt F) → (⟨S512x128, .f32⟩ : BufTy).Contents (Elt F)),
    StableHlo.unary main_v161 main_v162 ((transpose S128x512 [1, 0] · transposes_S512x128_S128x512_1_0) : (⟨S512x128, .f32⟩ : BufTy).Contents (Elt F) → (⟨S128x512, .f32⟩ : BufTy).Contents (Elt F)),
    StableHlo.binary main_v157 main_v6 main_v163 ((fun l r => Host.dotGeneral dot_S8192x512_S128x512_S8192x128_1_1_0_0_n_n none l r) : (⟨S8192x512, .f32⟩ : BufTy).Contents (Elt F) → (⟨S128x512, .f32⟩ : BufTy).Contents (Elt F) → (⟨S8192x128, .f32⟩ : BufTy).Contents (Elt F)),
    StableHlo.unary main_v154 main_v164 ((truncf .bf16 · bitsLt_bf16_f32) : (⟨S8192x512, .f32⟩ : BufTy).Contents (Elt F) → (⟨S8192x512, .bf16⟩ : BufTy).Contents (Elt F)),
    StableHlo.unary main_v150 main_v165 ((truncf .bf16 · bitsLt_bf16_f32) : (⟨S8192x512, .f32⟩ : BufTy).Contents (Elt F) → (⟨S8192x512, .bf16⟩ : BufTy).Contents (Elt F)),
    StableHlo.unary main_v148 main_v166 ((truncf .bf16 · bitsLt_bf16_f32) : (⟨S8192x1024, .f32⟩ : BufTy).Contents (Elt F) → (⟨S8192x1024, .bf16⟩ : BufTy).Contents (Elt F)),
    StableHlo.unary main_v80 main_v167 ((truncf .bf16 · bitsLt_bf16_f32) : (⟨S8192x1024, .f32⟩ : BufTy).Contents (Elt F) → (⟨S8192x1024, .bf16⟩ : BufTy).Contents (Elt F)),
    StableHlo.unary main_v163 main_v168 ((truncf .bf16 · bitsLt_bf16_f32) : (⟨S8192x128, .f32⟩ : BufTy).Contents (Elt F) → (⟨S8192x128, .bf16⟩ : BufTy).Contents (Elt F)),
    StableHlo.unary main_v160 main_v169 (broadcastInDim S1x512 ![1] bcast_S512_S1x512_1 : (⟨S512, .f32⟩ : BufTy).Contents (Elt F) → (⟨S1x512, .f32⟩ : BufTy).Contents (Elt F)),
    StableHlo.unary main_v86 main_v170 (broadcastInDim S1x1024 ![1] bcast_S1024_S1x1024_1 : (⟨S1024, .f32⟩ : BufTy).Contents (Elt F) → (⟨S1x1024, .f32⟩ : BufTy).Contents (Elt F)) ]

theorem post7_sub : (post7 : List (HloOp τ sig (Elt F))).Forall fun op => op.bufs ⊆ StableHlo.tcRefs τ sig :=
  ⟨StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem post7_plain : ∀ op ∈ (post7 : List (HloOp τ sig (Elt F))), op.fresh = ∅ :=
  List.forall_iff_forall_mem.mp (StableHlo.forall_fresh_of_map rfl)

abbrev trip0_0 : List (HloOp τ sig (Elt F)) :=
  [ StableHlo.nullary main_while0b_call4_c (constantI S_ 32 0#32),
    StableHlo.nullary main_while0b_call4_c_0 (constantI S_ 32 0#32),
    StableHlo.nullary main_while0b_call4_c_1 (constantI S_ 32 0#32),
    StableHlo.TRef.unaryIndexed (.of main_v52_0 : StableHlo.TRef sig ⟨S256x4x32x128, .f32⟩) ![(.of main_v52_4 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x4x32x128, .f32⟩) (fun x i => Host.dynamicSlice S1x4x32x128 x (fun k => (i k (Shape.Idx.first h_S_)).toInt) sliceFits_S256x4x32x128_S1x4x32x128),
    StableHlo.reshape main_while0b_call4_v0 main_while0b_v171 (rfl : (.f32 : EltTy) = .f32) shapeCasts_S1x4x32x128_S4x32x128 ]

theorem trip0_0_sub : (trip0_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip0_0_plain : ∀ op ∈ (trip0_0 : List (HloOp τ sig (Elt F))), op.fresh = ∅ :=
  List.forall_iff_forall_mem.mp (StableHlo.forall_fresh_of_map rfl)

abbrev trip0_1 : List (HloOp τ sig (Elt F)) :=
  [ StableHlo.nullary main_while0b_call5_c (constantI S_ 32 0#32),
    StableHlo.nullary main_while0b_call5_c_0 (constantI S_ 32 0#32),
    StableHlo.nullary main_while0b_call5_c_1 (constantI S_ 32 0#32),
    StableHlo.TRef.unaryIndexed (.of main_v52_1 : StableHlo.TRef sig ⟨S256x4x32x128, .f32⟩) ![(.of main_v52_4 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x4x32x128, .f32⟩) (fun x i => Host.dynamicSlice S1x4x32x128 x (fun k => (i k (Shape.Idx.first h_S_)).toInt) sliceFits_S256x4x32x128_S1x4x32x128),
    StableHlo.reshape main_while0b_call5_v0 main_while0b_v172 (rfl : (.f32 : EltTy) = .f32) shapeCasts_S1x4x32x128_S4x32x128 ]

theorem trip0_1_sub : (trip0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip0_1_plain : ∀ op ∈ (trip0_1 : List (HloOp τ sig (Elt F))), op.fresh = ∅ :=
  List.forall_iff_forall_mem.mp (StableHlo.forall_fresh_of_map rfl)

abbrev trip0_2 : List (HloOp τ sig (Elt F)) :=
  [ StableHlo.nullary main_while0b_call6_c (constantI S_ 32 0#32),
    StableHlo.nullary main_while0b_call6_c_0 (constantI S_ 32 0#32),
    StableHlo.nullary main_while0b_call6_c_1 (constantI S_ 32 0#32),
    StableHlo.TRef.unaryIndexed (.of main_v52_2 : StableHlo.TRef sig ⟨S256x4x32x256, .f32⟩) ![(.of main_v52_4 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_call6_v0 : StableHlo.TRef sig ⟨S1x4x32x256, .f32⟩) (fun x i => Host.dynamicSlice S1x4x32x256 x (fun k => (i k (Shape.Idx.first h_S_)).toInt) sliceFits_S256x4x32x256_S1x4x32x256),
    StableHlo.reshape main_while0b_call6_v0 main_while0b_v173 (rfl : (.f32 : EltTy) = .f32) shapeCasts_S1x4x32x256_S4x32x256 ]

theorem trip0_2_sub : (trip0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip0_2_plain : ∀ op ∈ (trip0_2 : List (HloOp τ sig (Elt F))), op.fresh = ∅ :=
  List.forall_iff_forall_mem.mp (StableHlo.forall_fresh_of_map rfl)

abbrev trip0_3 : List (HloOp τ sig (Elt F)) :=
  [ StableHlo.nullary main_while0b_call7_c (constantI S_ 32 0#32),
    StableHlo.nullary main_while0b_call7_c_0 (constantI S_ 32 0#32),
    StableHlo.TRef.unaryIndexed (.of main_v52_3 : StableHlo.TRef sig ⟨S256x4x128, .f32⟩) ![(.of main_v52_4 : StableHlo.TRef sig ⟨S_, .i32⟩), (.of main_while0b_call7_c : StableHlo.TRef sig ⟨S_, .i32⟩), (.of main_while0b_call7_c_0 : StableHlo.TRef sig ⟨S_, .i32⟩)] (.of main_while0b_call7_v0 : StableHlo.TRef sig ⟨S1x4x128, .f32⟩) (fun x i => Host.dynamicSlice S1x4x128 x (fun k => (i k (Shape.Idx.first h_S_)).toInt) sliceFits_S256x4x128_S1x4x128),
    StableHlo.reshape main_while0b_call7_v0 main_while0b_v174 (rfl : (.f32 : EltTy) = .f32) shapeCasts_S1x4x128_S4x128 ]

theorem trip0_3_sub : (trip0_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem trip0_3_plain : ∀ op ∈ (trip0_3 : List (HloOp τ sig (Elt F))), op.fresh = ∅ :=
  List.forall_iff_forall_mem.mp (StableHlo.forall_fresh_of_map rfl)

abbrev trip0_4 : List (HloOp τ sig (Elt F)) :=
  [ StableHlo.binary main_while0b_v171 main_v52_5 main_while0b_v175 ((fun l r => Host.dotGeneral dot_S4x32x128_S4x128x256_S4x32x256_2_1_1_2_0_0 none l r) : (⟨S4x32x128, .f32⟩ : BufTy).Contents (Elt F) → (⟨S4x128x256, .f32⟩ : BufTy).Contents (Elt F) → (⟨S4x32x256, .f32⟩ : BufTy).Contents (Elt F)),
    StableHlo.unary main_while0b_v174 main_while0b_v176 (broadcastInDim S4x128x1 ![0, 1] bcast_S4x128_S4x128x1_0_1 : (⟨S4x128, .f32⟩ : BufTy).Contents (Elt F) → (⟨S4x128x1, .f32⟩ : BufTy).Contents (Elt F)),
    StableHlo.unary main_while0b_v176 main_while0b_v177 (broadcastInDim S4x128x256 ![0, 1, 2] bcast_S4x128x1_S4x128x256_0_1_2 : (⟨S4x128x1, .f32⟩ : BufTy).Contents (Elt F) → (⟨S4x128x256, .f32⟩ : BufTy).Contents (Elt F)),
    StableHlo.binary main_while0b_v177 main_v52_5 main_while0b_v178 (mulf : (⟨S4x128x256, .f32⟩ : BufTy).Contents (Elt F) → (⟨S4x128x256, .f32⟩ : BufTy).Contents (Elt F) → (⟨S4x128x256, .f32⟩ : BufTy).Contents (Elt F)),
    StableHlo.binary main_while0b_v172 main_while0b_v173 main_while0b_v179 ((fun l r => Host.dotGeneral dot_S4x32x128_S4x32x256_S4x128x256_1_1_2_2_0_0 none l r) : (⟨S4x32x128, .f32⟩ : BufTy).Contents (Elt F) → (⟨S4x32x256, .f32⟩ : BufTy).Contents (Elt F) → (⟨S4x128x256, .f32⟩ : BufTy).Contents (Elt F)),
    StableHlo.binary main_while0b_v178 main_while0b_v179 main_while0b_v180 (addf : (⟨S4x128x256, .f32⟩ : BufTy).Contents (Elt F) → (⟨S4x128x256, .f32⟩ : BufTy).Contents (Elt F) → (⟨S4x128x256, .f32⟩ : BufTy).Contents (Elt F)) ]

theorem trip0_4_sub : (trip0_4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.binary_bufs_sub ..⟩

theorem trip0_4_plain : ∀ op ∈ (trip0_4 : List (HloOp τ sig (Elt F))), op.fresh = ∅ :=
  List.forall_iff_forall_mem.mp (StableHlo.forall_fresh_of_map rfl)

abbrev trip0_5 : List (HloOp τ sig (Elt F)) :=
  [ StableHlo.unary main_while0b_v175 main_while0b_call8_v0 ((broadcastInDim S1x4x32x256 ![1, 2, 3] bcast_S4x32x256_S1x4x32x256_1_2_3) : (⟨S4x32x256, .f32⟩ : BufTy).Contents (Elt F) → (⟨S1x4x32x256, .f32⟩ : BufTy).Contents (Elt F)),
    StableHlo.nullary main_while0b_call8_c (constantI S_ 32 0#32),
    StableHlo.nullary main_while0b_call8_c_0 (constantI S_ 32 0#32),
    StableHlo.nullary main_while0b_call8_c_1 (constantI S_ 32 0#32),
    StableHlo.TRef.binaryIndexed (.of main_v52_6 : StableHlo.TRef sig ⟨S256x4x32x256, .f32⟩) (.of main_while0b_call8_v0 : StableHlo.TRef sig ⟨S1x4x32x256, .f32⟩) ![(.of main_v52_4 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v181 : StableHlo.TRef sig ⟨S256x4x32x256, .f32⟩) (fun x u i => Host.dynamicUpdateSlice x u (fun k => (i k (Shape.Idx.first h_S_)).toInt) updateFits_S256x4x32x256_S1x4x32x256) ]

theorem trip0_5_sub : (trip0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem trip0_5_plain : ∀ op ∈ (trip0_5 : List (HloOp τ sig (Elt F))), op.fresh = ∅ :=
  List.forall_iff_forall_mem.mp (StableHlo.forall_fresh_of_map rfl)

abbrev trip0_6 : List (HloOp τ sig (Elt F)) :=
  [ StableHlo.unary main_v52_5 main_while0b_call9_v0 ((broadcastInDim S1x4x128x256 ![1, 2, 3] bcast_S4x128x256_S1x4x128x256_1_2_3) : (⟨S4x128x256, .f32⟩ : BufTy).Contents (Elt F) → (⟨S1x4x128x256, .f32⟩ : BufTy).Contents (Elt F)),
    StableHlo.nullary main_while0b_call9_c (constantI S_ 32 0#32),
    StableHlo.nullary main_while0b_call9_c_0 (constantI S_ 32 0#32),
    StableHlo.nullary main_while0b_call9_c_1 (constantI S_ 32 0#32),
    StableHlo.TRef.binaryIndexed (.of main_v52_7 : StableHlo.TRef sig ⟨S256x4x128x256, .f32⟩) (.of main_while0b_call9_v0 : StableHlo.TRef sig ⟨S1x4x128x256, .f32⟩) ![(.of main_v52_4 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩)] (.of main_while0b_v182 : StableHlo.TRef sig ⟨S256x4x128x256, .f32⟩) (fun x u i => Host.dynamicUpdateSlice x u (fun k => (i k (Shape.Idx.first h_S_)).toInt) updateFits_S256x4x128x256_S1x4x128x256) ]

theorem trip0_6_sub : (trip0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem trip0_6_plain : ∀ op ∈ (trip0_6 : List (HloOp τ sig (Elt F))), op.fresh = ∅ :=
  List.forall_iff_forall_mem.mp (StableHlo.forall_fresh_of_map rfl)

abbrev trip0_7 : List (HloOp τ sig (Elt F)) :=
  [ StableHlo.unary main_while0b_v176 main_while0b_call10_v0 ((broadcastInDim S1x4x128x1 ![1, 2, 3] bcast_S4x128x1_S1x4x128x1_1_2_3) : (⟨S4x128x1, .f32⟩ : BufTy).Contents (Elt F) → (⟨S1x4x128x1, .f32⟩ : BufTy).Contents (Elt F)),
    StableHlo.nullary main_while0b_call10_c (constantI S_ 32 0#32),
    StableHlo.nullary main_while0b_call10_c_0 (constantI S_ 32 0#32),
    StableHlo.nullary main_while0b_call10_c_1 (constantI S_ 32 0#32),
    StableHlo.TRef.binaryIndexed (.of main_v52_8 : StableHlo.TRef sig ⟨S256x4x128x1, .f32⟩) (.of main_while0b_call10_v0 : StableHlo.TRef sig ⟨S1x4x128x1, .f32⟩) ![(.of main_v52_4 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩)] (.of main_while0b_v183 : StableHlo.TRef sig ⟨S256x4x128x1, .f32⟩) (fun x u i => Host.dynamicUpdateSlice x u (fun k => (i k (Shape.Idx.first h_S_)).toInt) updateFits_S256x4x128x1_S1x4x128x1) ]

theorem trip0_7_sub : (trip0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem trip0_7_plain : ∀ op ∈ (trip0_7 : List (HloOp τ sig (Elt F))), op.fresh = ∅ :=
  List.forall_iff_forall_mem.mp (StableHlo.forall_fresh_of_map rfl)

abbrev trip0_8 : List (HloOp τ sig (Elt F)) :=
  [ StableHlo.nullary main_while0b_c_37 (constantI S_ 32 1#32),
    StableHlo.binary main_v52_4 main_while0b_c_37 main_while0b_v184 (addi : (⟨S_, .i32⟩ : BufTy).Contents (Elt F) → (⟨S_, .i32⟩ : BufTy).Contents (Elt F) → (⟨S_, .i32⟩ : BufTy).Contents (Elt F)) ]

theorem trip0_8_sub : (trip0_8 : List (HloOp τ sig (Elt F))).Forall fun op => op.bufs ⊆ StableHlo.tcRefs τ sig :=
  ⟨StableHlo.nullary_bufs_sub .., StableHlo.binary_bufs_sub ..⟩

theorem trip0_8_plain : ∀ op ∈ (trip0_8 : List (HloOp τ sig (Elt F))), op.fresh = ∅ :=
  List.forall_iff_forall_mem.mp (StableHlo.forall_fresh_of_map rfl)

abbrev trip0_9 : List (HloOp τ sig (Elt F)) :=
  [ StableHlo.unary main_while0b_v184 main_v52_4 id,
    StableHlo.unary main_while0b_v180 main_v52_5 id,
    StableHlo.unary main_while0b_v181 main_v52_6 id,
    StableHlo.unary main_while0b_v182 main_v52_7 id,
    StableHlo.unary main_while0b_v183 main_v52_8 id ]

theorem trip0_9_sub : (trip0_9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩

theorem trip0_9_plain : ∀ op ∈ (trip0_9 : List (HloOp τ sig (Elt F))), op.fresh = ∅ :=
  List.forall_iff_forall_mem.mp (StableHlo.forall_fresh_of_map rfl)

abbrev trip1_0 : List (HloOp τ sig (Elt F)) :=
  [ StableHlo.nullary main_while1b_c_40 (constantI S_ 32 256#32),
    StableHlo.binary main_while1b_c_40 main_v110_6 main_while1b_v171 (subi : (⟨S_, .i32⟩ : BufTy).Contents (Elt F) → (⟨S_, .i32⟩ : BufTy).Contents (Elt F) → (⟨S_, .i32⟩ : BufTy).Contents (Elt F)),
    StableHlo.nullary main_while1b_c_41 (constantI S_ 32 1#32),
    StableHlo.binary main_while1b_v171 main_while1b_c_41 main_while1b_v172 (subi : (⟨S_, .i32⟩ : BufTy).Contents (Elt F) → (⟨S_, .i32⟩ : BufTy).Contents (Elt F) → (⟨S_, .i32⟩ : BufTy).Contents (Elt F)) ]

theorem trip1_0_sub : (trip1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem trip1_0_plain : ∀ op ∈ (trip1_0 : List (HloOp τ sig (Elt F))), op.fresh = ∅ :=
  List.forall_iff_forall_mem.mp (StableHlo.forall_fresh_of_map rfl)

abbrev trip1_1 : List (HloOp τ sig (Elt F)) :=
  [ StableHlo.nullary main_while1b_call13_c (constantI S_ 32 0#32),
    StableHlo.nullary main_while1b_call13_c_0 (constantI S_ 32 0#32),
    StableHlo.nullary main_while1b_call13_c_1 (constantI S_ 32 0#32),
    StableHlo.TRef.unaryIndexed (.of main_v110_0 : StableHlo.TRef sig ⟨S256x4x32x256, .f32⟩) ![(.of main_while1b_v172 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x4x32x256, .f32⟩) (fun x i => Host.dynamicSlice S1x4x32x256 x (fun k => (i k (Shape.Idx.first h_S_)).toInt) sliceFits_S256x4x32x256_S1x4x32x256),
    StableHlo.reshape main_while1b_call13_v0 main_while1b_v173 (rfl : (.f32 : EltTy) = .f32) shapeCasts_S1x4x32x256_S4x32x256 ]

theorem trip1_1_sub : (trip1_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip1_1_plain : ∀ op ∈ (trip1_1 : List (HloOp τ sig (Elt F))), op.fresh = ∅ :=
  List.forall_iff_forall_mem.mp (StableHlo.forall_fresh_of_map rfl)

abbrev trip1_2 : List (HloOp τ sig (Elt F)) :=
  [ StableHlo.nullary main_while1b_call14_c (constantI S_ 32 0#32),
    StableHlo.nullary main_while1b_call14_c_0 (constantI S_ 32 0#32),
    StableHlo.nullary main_while1b_call14_c_1 (constantI S_ 32 0#32),
    StableHlo.TRef.unaryIndexed (.of main_v110_1 : StableHlo.TRef sig ⟨S256x4x128x256, .f32⟩) ![(.of main_while1b_v172 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x4x128x256, .f32⟩) (fun x i => Host.dynamicSlice S1x4x128x256 x (fun k => (i k (Shape.Idx.first h_S_)).toInt) sliceFits_S256x4x128x256_S1x4x128x256),
    StableHlo.reshape main_while1b_call14_v0 main_while1b_v174 (rfl : (.f32 : EltTy) = .f32) shapeCasts_S1x4x128x256_S4x128x256 ]

theorem trip1_2_sub : (trip1_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip1_2_plain : ∀ op ∈ (trip1_2 : List (HloOp τ sig (Elt F))), op.fresh = ∅ :=
  List.forall_iff_forall_mem.mp (StableHlo.forall_fresh_of_map rfl)

abbrev trip1_3 : List (HloOp τ sig (Elt F)) :=
  [ StableHlo.nullary main_while1b_call15_c (constantI S_ 32 0#32),
    StableHlo.nullary main_while1b_call15_c_0 (constantI S_ 32 0#32),
    StableHlo.nullary main_while1b_call15_c_1 (constantI S_ 32 0#32),
    StableHlo.TRef.unaryIndexed (.of main_v110_2 : StableHlo.TRef sig ⟨S256x4x32x128, .f32⟩) ![(.of main_while1b_v172 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x4x32x128, .f32⟩) (fun x i => Host.dynamicSlice S1x4x32x128 x (fun k => (i k (Shape.Idx.first h_S_)).toInt) sliceFits_S256x4x32x128_S1x4x32x128),
    StableHlo.reshape main_while1b_call15_v0 main_while1b_v175 (rfl : (.f32 : EltTy) = .f32) shapeCasts_S1x4x32x128_S4x32x128 ]

theorem trip1_3_sub : (trip1_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip1_3_plain : ∀ op ∈ (trip1_3 : List (HloOp τ sig (Elt F))), op.fresh = ∅ :=
  List.forall_iff_forall_mem.mp (StableHlo.forall_fresh_of_map rfl)

abbrev trip1_4 : List (HloOp τ sig (Elt F)) :=
  [ StableHlo.nullary main_while1b_call16_c (constantI S_ 32 0#32),
    StableHlo.nullary main_while1b_call16_c_0 (constantI S_ 32 0#32),
    StableHlo.nullary main_while1b_call16_c_1 (constantI S_ 32 0#32),
    StableHlo.TRef.unaryIndexed (.of main_v110_3 : StableHlo.TRef sig ⟨S256x4x128x1, .f32⟩) ![(.of main_while1b_v172 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x4x128x1, .f32⟩) (fun x i => Host.dynamicSlice S1x4x128x1 x (fun k => (i k (Shape.Idx.first h_S_)).toInt) sliceFits_S256x4x128x1_S1x4x128x1),
    StableHlo.reshape main_while1b_call16_v0 main_while1b_v176 (rfl : (.f32 : EltTy) = .f32) shapeCasts_S1x4x128x1_S4x128x1 ]

theorem trip1_4_sub : (trip1_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip1_4_plain : ∀ op ∈ (trip1_4 : List (HloOp τ sig (Elt F))), op.fresh = ∅ :=
  List.forall_iff_forall_mem.mp (StableHlo.forall_fresh_of_map rfl)

abbrev trip1_5 : List (HloOp τ sig (Elt F)) :=
  [ StableHlo.nullary main_while1b_call17_c (constantI S_ 32 0#32),
    StableHlo.nullary main_while1b_call17_c_0 (constantI S_ 32 0#32),
    StableHlo.nullary main_while1b_call17_c_1 (constantI S_ 32 0#32),
    StableHlo.TRef.unaryIndexed (.of main_v110_4 : StableHlo.TRef sig ⟨S256x4x32x256, .f32⟩) ![(.of main_while1b_v172 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_call17_v0 : StableHlo.TRef sig ⟨S1x4x32x256, .f32⟩) (fun x i => Host.dynamicSlice S1x4x32x256 x (fun k => (i k (Shape.Idx.first h_S_)).toInt) sliceFits_S256x4x32x256_S1x4x32x256),
    StableHlo.reshape main_while1b_call17_v0 main_while1b_v177 (rfl : (.f32 : EltTy) = .f32) shapeCasts_S1x4x32x256_S4x32x256 ]

theorem trip1_5_sub : (trip1_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip1_5_plain : ∀ op ∈ (trip1_5 : List (HloOp τ sig (Elt F))), op.fresh = ∅ :=
  List.forall_iff_forall_mem.mp (StableHlo.forall_fresh_of_map rfl)

abbrev trip1_6 : List (HloOp τ sig (Elt F)) :=
  [ StableHlo.nullary main_while1b_call18_c (constantI S_ 32 0#32),
    StableHlo.nullary main_while1b_call18_c_0 (constantI S_ 32 0#32),
    StableHlo.nullary main_while1b_call18_c_1 (constantI S_ 32 0#32),
    StableHlo.TRef.unaryIndexed (.of main_v110_5 : StableHlo.TRef sig ⟨S256x4x32x128, .f32⟩) ![(.of main_while1b_v172 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_call18_v0 : StableHlo.TRef sig ⟨S1x4x32x128, .f32⟩) (fun x i => Host.dynamicSlice S1x4x32x128 x (fun k => (i k (Shape.Idx.first h_S_)).toInt) sliceFits_S256x4x32x128_S1x4x32x128),
    StableHlo.reshape main_while1b_call18_v0 main_while1b_v178 (rfl : (.f32 : EltTy) = .f32) shapeCasts_S1x4x32x128_S4x32x128 ]

theorem trip1_6_sub : (trip1_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

theorem trip1_6_plain : ∀ op ∈ (trip1_6 : List (HloOp τ sig (Elt F))), op.fresh = ∅ :=
  List.forall_iff_forall_mem.mp (StableHlo.forall_fresh_of_map rfl)

abbrev trip1_7 : List (HloOp τ sig (Elt F)) :=
  [ StableHlo.binary main_v110_7 main_while1b_v178 main_while1b_v179 ((fun l r => Host.dotGeneral dot_S4x128x256_S4x32x128_S4x256x32_1_2_2_1_0_0 none l r) : (⟨S4x128x256, .f32⟩ : BufTy).Contents (Elt F) → (⟨S4x32x128, .f32⟩ : BufTy).Contents (Elt F) → (⟨S4x256x32, .f32⟩ : BufTy).Contents (Elt F)),
    StableHlo.unary main_while1b_v179 main_while1b_v180 ((transpose S4x32x256 [0, 2, 1] · transposes_S4x256x32_S4x32x256_0_2_1) : (⟨S4x256x32, .f32⟩ : BufTy).Contents (Elt F) → (⟨S4x32x256, .f32⟩ : BufTy).Contents (Elt F)),
    StableHlo.binary main_v110_7 main_while1b_v177 main_while1b_v181 ((fun l r => Host.dotGeneral dot_S4x128x256_S4x32x256_S4x128x32_2_2_1_1_0_0 none l r) : (⟨S4x128x256, .f32⟩ : BufTy).Contents (Elt F) → (⟨S4x32x256, .f32⟩ : BufTy).Contents (Elt F) → (⟨S4x128x32, .f32⟩ : BufTy).Contents (Elt F)),
    StableHlo.unary main_while1b_v181 main_while1b_v182 ((transpose S4x32x128 [0, 2, 1] · transposes_S4x128x32_S4x32x128_0_2_1) : (⟨S4x128x32, .f32⟩ : BufTy).Contents (Elt F) → (⟨S4x32x128, .f32⟩ : BufTy).Contents (Elt F)),
    StableHlo.unary main_while1b_v176 main_while1b_v183 (broadcastInDim S4x128x256 ![0, 1, 2] bcast_S4x128x1_S4x128x256_0_1_2 : (⟨S4x128x1, .f32⟩ : BufTy).Contents (Elt F) → (⟨S4x128x256, .f32⟩ : BufTy).Contents (Elt F)),
    StableHlo.binary main_while1b_v183 main_v110_7 main_while1b_v184 (mulf : (⟨S4x128x256, .f32⟩ : BufTy).Contents (Elt F) → (⟨S4x128x256, .f32⟩ : BufTy).Contents (Elt F) → (⟨S4x128x256, .f32⟩ : BufTy).Contents (Elt F)),
    StableHlo.binary main_v110_7 main_while1b_v174 main_while1b_v185 (mulf : (⟨S4x128x256, .f32⟩ : BufTy).Contents (Elt F) → (⟨S4x128x256, .f32⟩ : BufTy).Contents (Elt F) → (⟨S4x128x256, .f32⟩ : BufTy).Contents (Elt F)),
    StableHlo.nullary main_while1b_cst_42 (constant S_ .f32 0x00000000#32),
    StableHlo.binary main_while1b_v185 main_while1b_cst_42 main_while1b_v186 ((fun x v => Host.reduceAdd x v reducesTo_S4x128x256_S4x128_d2 h_S_) : (⟨S4x128x256, .f32⟩ : BufTy).Contents (Elt F) → (⟨S_, .f32⟩ : BufTy).Contents (Elt F) → (⟨S4x128, .f32⟩ : BufTy).Contents (Elt F)),
    StableHlo.reshape main_while1b_v186 main_while1b_v187 (rfl : (.f32 : EltTy) = .f32) shapeCasts_S4x128_S4x128x1,
    StableHlo.nullary main_while1b_cst_43 (constant S_ .f32 0x00000000#32),
    StableHlo.binary main_while1b_v187 main_while1b_cst_43 main_while1b_v188 ((fun x v => Host.reduceAdd x v reducesTo_S4x128x1_S4x128_d2 h_S_) : (⟨S4x128x1, .f32⟩ : BufTy).Contents (Elt F) → (⟨S_, .f32⟩ : BufTy).Contents (Elt F) → (⟨S4x128, .f32⟩ : BufTy).Contents (Elt F)),
    StableHlo.binary main_while1b_v173 main_while1b_v175 main_while1b_v189 ((fun l r => Host.dotGeneral dot_S4x32x256_S4x32x128_S4x256x128_1_1_2_2_0_0 none l r) : (⟨S4x32x256, .f32⟩ : BufTy).Contents (Elt F) → (⟨S4x32x128, .f32⟩ : BufTy).Contents (Elt F) → (⟨S4x256x128, .f32⟩ : BufTy).Contents (Elt F)),
    StableHlo.unary main_while1b_v189 main_while1b_v190 ((transpose S4x128x256 [0, 2, 1] · transposes_S4x256x128_S4x128x256_0_2_1) : (⟨S4x256x128, .f32⟩ : BufTy).Contents (Elt F) → (⟨S4x128x256, .f32⟩ : BufTy).Contents (Elt F)),
    StableHlo.binary main_while1b_v184 main_while1b_v190 main_while1b_v191 (addf : (⟨S4x128x256, .f32⟩ : BufTy).Contents (Elt F) → (⟨S4x128x256, .f32⟩ : BufTy).Contents (Elt F) → (⟨S4x128x256, .f32⟩ : BufTy).Contents (Elt F)),
    StableHlo.binary main_while1b_v173 main_while1b_v174 main_while1b_v192 ((fun l r => Host.dotGeneral dot_S4x32x256_S4x128x256_S4x32x128_2_2_1_1_0_0 none l r) : (⟨S4x32x256, .f32⟩ : BufTy).Contents (Elt F) → (⟨S4x128x256, .f32⟩ : BufTy).Contents (Elt F) → (⟨S4x32x128, .f32⟩ : BufTy).Contents (Elt F)) ]

theorem trip1_7_sub : (trip1_7 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.binary_bufs_sub .., StableHlo.unary_bufs_sub .., StableHlo.binary_bufs_sub .., StableHlo.binary_bufs_sub ..⟩

theorem trip1_7_plain : ∀ op ∈ (trip1_7 : List (HloOp τ sig (Elt F))), op.fresh = ∅ :=
  List.forall_iff_forall_mem.mp (StableHlo.forall_fresh_of_map rfl)

abbrev trip1_8 : List (HloOp τ sig (Elt F)) :=
  [ StableHlo.unary main_while1b_v192 main_while1b_call19_v0 ((broadcastInDim S1x4x32x128 ![1, 2, 3] bcast_S4x32x128_S1x4x32x128_1_2_3) : (⟨S4x32x128, .f32⟩ : BufTy).Contents (Elt F) → (⟨S1x4x32x128, .f32⟩ : BufTy).Contents (Elt F)),
    StableHlo.nullary main_while1b_call19_c (constantI S_ 32 0#32),
    StableHlo.nullary main_while1b_call19_c_0 (constantI S_ 32 0#32),
    StableHlo.nullary main_while1b_call19_c_1 (constantI S_ 32 0#32),
    StableHlo.TRef.binaryIndexed (.of main_v110_8 : StableHlo.TRef sig ⟨S256x4x32x128, .f32⟩) (.of main_while1b_call19_v0 : StableHlo.TRef sig ⟨S1x4x32x128, .f32⟩) ![(.of main_while1b_v172 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v193 : StableHlo.TRef sig ⟨S256x4x32x128, .f32⟩) (fun x u i => Host.dynamicUpdateSlice x u (fun k => (i k (Shape.Idx.first h_S_)).toInt) updateFits_S256x4x32x128_S1x4x32x128) ]

theorem trip1_8_sub : (trip1_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem trip1_8_plain : ∀ op ∈ (trip1_8 : List (HloOp τ sig (Elt F))), op.fresh = ∅ :=
  List.forall_iff_forall_mem.mp (StableHlo.forall_fresh_of_map rfl)

abbrev trip1_9 : List (HloOp τ sig (Elt F)) :=
  [ StableHlo.unary main_while1b_v182 main_while1b_call20_v0 ((broadcastInDim S1x4x32x128 ![1, 2, 3] bcast_S4x32x128_S1x4x32x128_1_2_3) : (⟨S4x32x128, .f32⟩ : BufTy).Contents (Elt F) → (⟨S1x4x32x128, .f32⟩ : BufTy).Contents (Elt F)),
    StableHlo.nullary main_while1b_call20_c (constantI S_ 32 0#32),
    StableHlo.nullary main_while1b_call20_c_0 (constantI S_ 32 0#32),
    StableHlo.nullary main_while1b_call20_c_1 (constantI S_ 32 0#32),
    StableHlo.TRef.binaryIndexed (.of main_v110_9 : StableHlo.TRef sig ⟨S256x4x32x128, .f32⟩) (.of main_while1b_call20_v0 : StableHlo.TRef sig ⟨S1x4x32x128, .f32⟩) ![(.of main_while1b_v172 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v194 : StableHlo.TRef sig ⟨S256x4x32x128, .f32⟩) (fun x u i => Host.dynamicUpdateSlice x u (fun k => (i k (Shape.Idx.first h_S_)).toInt) updateFits_S256x4x32x128_S1x4x32x128) ]

theorem trip1_9_sub : (trip1_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem trip1_9_plain : ∀ op ∈ (trip1_9 : List (HloOp τ sig (Elt F))), op.fresh = ∅ :=
  List.forall_iff_forall_mem.mp (StableHlo.forall_fresh_of_map rfl)

abbrev trip1_10 : List (HloOp τ sig (Elt F)) :=
  [ StableHlo.unary main_while1b_v180 main_while1b_call21_v0 ((broadcastInDim S1x4x32x256 ![1, 2, 3] bcast_S4x32x256_S1x4x32x256_1_2_3) : (⟨S4x32x256, .f32⟩ : BufTy).Contents (Elt F) → (⟨S1x4x32x256, .f32⟩ : BufTy).Contents (Elt F)),
    StableHlo.nullary main_while1b_call21_c (constantI S_ 32 0#32),
    StableHlo.nullary main_while1b_call21_c_0 (constantI S_ 32 0#32),
    StableHlo.nullary main_while1b_call21_c_1 (constantI S_ 32 0#32),
    StableHlo.TRef.binaryIndexed (.of main_v110_10 : StableHlo.TRef sig ⟨S256x4x32x256, .f32⟩) (.of main_while1b_call21_v0 : StableHlo.TRef sig ⟨S1x4x32x256, .f32⟩) ![(.of main_while1b_v172 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v195 : StableHlo.TRef sig ⟨S256x4x32x256, .f32⟩) (fun x u i => Host.dynamicUpdateSlice x u (fun k => (i k (Shape.Idx.first h_S_)).toInt) updateFits_S256x4x32x256_S1x4x32x256) ]

theorem trip1_10_sub : (trip1_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

theorem trip1_10_plain : ∀ op ∈ (trip1_10 : List (HloOp τ sig (Elt F))), op.fresh = ∅ :=
  List.forall_iff_forall_mem.mp (StableHlo.forall_fresh_of_map rfl)

abbrev trip1_11 : List (HloOp τ sig (Elt F)) :=
  [ StableHlo.unary main_while1b_v188 main_while1b_call22_v0 ((broadcastInDim S1x4x128 ![1, 2] bcast_S4x128_S1x4x128_1_2) : (⟨S4x128, .f32⟩ : BufTy).Contents (Elt F) → (⟨S1x4x128, .f32⟩ : BufTy).Contents (Elt F)),
    StableHlo.nullary main_while1b_call22_c (constantI S_ 32 0#32),
    StableHlo.nullary main_while1b_call22_c_0 (constantI S_ 32 0#32),
    StableHlo.TRef.binaryIndexed (.of main_v110_11 : StableHlo.TRef sig ⟨S256x4x128, .f32⟩) (.of main_while1b_call22_v0 : StableHlo.TRef sig ⟨S1x4x128, .f32⟩) ![(.of main_while1b_v172 : StableHlo.TRef sig ⟨S_, .i32⟩), (.of main_while1b_call22_c : StableHlo.TRef sig ⟨S_, .i32⟩), (.of main_while1b_call22_c_0 : StableHlo.TRef sig ⟨S_, .i32⟩)] (.of main_while1b_v196 : StableHlo.TRef sig ⟨S256x4x128, .f32⟩) (fun x u i => Host.dynamicUpdateSlice x u (fun k => (i k (Shape.Idx.first h_S_)).toInt) updateFits_S256x4x128_S1x4x128) ]

theorem trip1_11_sub : (trip1_11 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem trip1_11_plain : ∀ op ∈ (trip1_11 : List (HloOp τ sig (Elt F))), op.fresh = ∅ :=
  List.forall_iff_forall_mem.mp (StableHlo.forall_fresh_of_map rfl)

abbrev trip1_12 : List (HloOp τ sig (Elt F)) :=
  [ StableHlo.nullary main_while1b_c_44 (constantI S_ 32 1#32),
    StableHlo.binary main_v110_6 main_while1b_c_44 main_while1b_v197 (addi : (⟨S_, .i32⟩ : BufTy).Contents (Elt F) → (⟨S_, .i32⟩ : BufTy).Contents (Elt F) → (⟨S_, .i32⟩ : BufTy).Contents (Elt F)) ]

theorem trip1_12_sub : (trip1_12 : List (HloOp τ sig (Elt F))).Forall fun op => op.bufs ⊆ StableHlo.tcRefs τ sig :=
  ⟨StableHlo.nullary_bufs_sub .., StableHlo.binary_bufs_sub ..⟩

theorem trip1_12_plain : ∀ op ∈ (trip1_12 : List (HloOp τ sig (Elt F))), op.fresh = ∅ :=
  List.forall_iff_forall_mem.mp (StableHlo.forall_fresh_of_map rfl)

abbrev trip1_13 : List (HloOp τ sig (Elt F)) :=
  [ StableHlo.unary main_while1b_v197 main_v110_6 id,
    StableHlo.unary main_while1b_v191 main_v110_7 id,
    StableHlo.unary main_while1b_v193 main_v110_8 id,
    StableHlo.unary main_while1b_v194 main_v110_9 id,
    StableHlo.unary main_while1b_v195 main_v110_10 id,
    StableHlo.unary main_while1b_v196 main_v110_11 id ]

theorem trip1_13_sub : (trip1_13 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..⟩

theorem trip1_13_plain : ∀ op ∈ (trip1_13 : List (HloOp τ sig (Elt F))), op.fresh = ∅ :=
  List.forall_iff_forall_mem.mp (StableHlo.forall_fresh_of_map rfl)

theorem part0_chain (c : Dev nD) : main_part0 (F := F) c = (Pipeline.chainK
  [ StableHlo.seq pre0,
    StableHlo.seq pre1,
    StableHlo.seq pre2,
    StableHlo.seq pre3,
    StableHlo.seq pre4,
    StableHlo.seq pre5,
    StableHlo.seq pre6,
    StableHlo.seq pre7 ]
  (StableHlo.seq pre8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem part1_chain (c : Dev nD) : main_part1 (F := F) c = (Pipeline.chainK
  [ StableHlo.seq pre9,
    StableHlo.seq pre10,
    HostLoop.enter 0,
    StableHlo.seq mid0,
    StableHlo.seq mid1,
    StableHlo.seq mid2,
    StableHlo.seq mid3 ]
  (StableHlo.seq mid4) : Prog (TpuEff nD τ sig (Elt F) (HostLoop.Sig (Pipeline.Sig Λ₀ (Fin 0) fun p => (pcfgs (F := F) p).Adm) 2) .tc) PUnit) := by
  rewrite [StableHlo.chainK_seq_cons, StableHlo.chainK_seq_cons, Pipeline.chainK_cons, StableHlo.chainK_seq_cons, Pipeline.chainK_cons, StableHlo.chainK_seq_cons, Pipeline.chainK_cons]
  chain_rfl

theorem part2_chain (c : Dev nD) : main_part2 (F := F) c = (Pipeline.chainK
  [ StableHlo.seq mid5,
    StableHlo.seq mid6,
    HostLoop.enter 1,
    StableHlo.seq post0,
    StableHlo.seq post1 ]
  (StableHlo.seq post2) : Prog (TpuEff nD τ sig (Elt F) (HostLoop.Sig (Pipeline.Sig Λ₀ (Fin 0) fun p => (pcfgs (F := F) p).Adm) 2) .tc) PUnit) := by
  rewrite [StableHlo.chainK_seq_cons, StableHlo.chainK_seq_cons, Pipeline.chainK_cons, StableHlo.chainK_seq_cons, Pipeline.chainK_cons]
  chain_rfl

theorem part3_chain (c : Dev nD) : main_part3 (F := F) c = (Pipeline.chain
  [ StableHlo.seq post3,
    StableHlo.seq post4,
    StableHlo.seq post5,
    StableHlo.seq post6,
    StableHlo.seq post7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- @main is the sequence of its stretches and its two loops. -/
theorem main_chain (c : Dev nD) : main (F := F) c = (Pipeline.chain
  [ StableHlo.seq pre0,
    StableHlo.seq pre1,
    StableHlo.seq pre2,
    StableHlo.seq pre3,
    StableHlo.seq pre4,
    StableHlo.seq pre5,
    StableHlo.seq pre6,
    StableHlo.seq pre7,
    StableHlo.seq pre8,
    StableHlo.seq pre9,
    StableHlo.seq pre10,
    HostLoop.enter 0,
    StableHlo.seq mid0,
    StableHlo.seq mid1,
    StableHlo.seq mid2,
    StableHlo.seq mid3,
    StableHlo.seq mid4,
    StableHlo.seq mid5,
    StableHlo.seq mid6,
    HostLoop.enter 1,
    StableHlo.seq post0,
    StableHlo.seq post1,
    StableHlo.seq post2,
    StableHlo.seq post3,
    StableHlo.seq post4,
    StableHlo.seq post5,
    StableHlo.seq post6,
    StableHlo.seq post7 ] : Prog (TpuEff nD τ sig (Elt F) (HostLoop.Sig (Pipeline.Sig Λ₀ (Fin 0) fun p => (pcfgs (F := F) p).Adm) 2) .tc) PUnit) := by
  show (main_part0 c >>= fun _ => main_part1 c >>= fun _ => main_part2 c >>= fun _ => main_part3 c) = _
  rewrite [part3_chain, part2_chain, Pipeline.chainK_bind_chain, part1_chain, Pipeline.chainK_bind_chain, part0_chain, Pipeline.chainK_bind_chain]
  chain_rfl

/-- The body of loop 0 is the sequence of its stretches. -/
theorem body0_chain : main_while0_body (F := F) = (Pipeline.chain
  [ StableHlo.seq trip0_0,
    StableHlo.seq trip0_1,
    StableHlo.seq trip0_2,
    StableHlo.seq trip0_3,
    StableHlo.seq trip0_4,
    StableHlo.seq trip0_5,
    StableHlo.seq trip0_6,
    StableHlo.seq trip0_7,
    StableHlo.seq trip0_8,
    StableHlo.seq trip0_9 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, StableHlo.chain_seq_cons, Pipeline.chain_cons, Pipeline.chain_cons, Pipeline.chain_cons, StableHlo.chain_seq_cons, StableHlo.chain_seq_cons]
  chain_rfl

/-- The body of loop 1 is the sequence of its stretches. -/
theorem body1_chain : main_while1_body (F := F) = (Pipeline.chain
  [ StableHlo.seq trip1_0,
    StableHlo.seq trip1_1,
    StableHlo.seq trip1_2,
    StableHlo.seq trip1_3,
    StableHlo.seq trip1_4,
    StableHlo.seq trip1_5,
    StableHlo.seq trip1_6,
    StableHlo.seq trip1_7,
    StableHlo.seq trip1_8,
    StableHlo.seq trip1_9,
    StableHlo.seq trip1_10,
    StableHlo.seq trip1_11,
    StableHlo.seq trip1_12,
    StableHlo.seq trip1_13 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons, StableHlo.chain_seq_cons]
  chain_rfl

/-- The stretches before the first loop. -/
abbrev preL : List (List (HloOp τ sig (Elt F))) := [pre0, pre1, pre2, pre3, pre4, pre5, pre6, pre7, pre8, pre9, pre10]

theorem preL_plain : StableHlo.Plain (preL (F := F)) := .cons pre0_sub (hf := pre0_plain) (.cons pre1_sub (hf := pre1_plain) (.cons pre2_sub (hf := pre2_plain) (.cons pre3_sub (hf := pre3_plain) (.cons pre4_sub (hf := pre4_plain) (.cons pre5_sub (hf := pre5_plain) (.cons pre6_sub (hf := pre6_plain) (.cons pre7_sub (hf := pre7_plain) (.cons pre8_sub (hf := pre8_plain) (.cons pre9_sub (hf := pre9_plain) (.cons pre10_sub (hf := pre10_plain) (.nil)))))))))))

/-- The stretches between the loops. -/
abbrev midL : List (List (HloOp τ sig (Elt F))) := [mid0, mid1, mid2, mid3, mid4, mid5, mid6]

theorem midL_plain : StableHlo.Plain (midL (F := F)) := .cons mid0_sub (hf := mid0_plain) (.cons mid1_sub (hf := mid1_plain) (.cons mid2_sub (hf := mid2_plain) (.cons mid3_sub (hf := mid3_plain) (.cons mid4_sub (hf := mid4_plain) (.cons mid5_sub (hf := mid5_plain) (.cons mid6_sub (hf := mid6_plain) (.nil)))))))

/-- The stretches after the second loop. -/
abbrev postL : List (List (HloOp τ sig (Elt F))) := [post0, post1, post2, post3, post4, post5, post6, post7]

theorem postL_plain : StableHlo.Plain (postL (F := F)) := .cons post0_sub (hf := post0_plain) (.cons post1_sub (hf := post1_plain) (.cons post2_sub (hf := post2_plain) (.cons post3_sub (hf := post3_plain) (.cons post4_sub (hf := post4_plain) (.cons post5_sub (hf := post5_plain) (.cons post6_sub (hf := post6_plain) (.cons post7_sub (hf := post7_plain) (.nil))))))))

/-- The first loop's body. -/
abbrev bodyL0 : List (List (HloOp τ sig (Elt F))) := [trip0_0, trip0_1, trip0_2, trip0_3, trip0_4, trip0_5, trip0_6, trip0_7, trip0_8, trip0_9]

theorem bodyL0_plain : StableHlo.Plain (bodyL0 (F := F)) := .cons trip0_0_sub (hf := trip0_0_plain) (.cons trip0_1_sub (hf := trip0_1_plain) (.cons trip0_2_sub (hf := trip0_2_plain) (.cons trip0_3_sub (hf := trip0_3_plain) (.cons trip0_4_sub (hf := trip0_4_plain) (.cons trip0_5_sub (hf := trip0_5_plain) (.cons trip0_6_sub (hf := trip0_6_plain) (.cons trip0_7_sub (hf := trip0_7_plain) (.cons trip0_8_sub (hf := trip0_8_plain) (.cons trip0_9_sub (hf := trip0_9_plain) (.nil))))))))))

/-- The second loop's body. -/
abbrev bodyL1 : List (List (HloOp τ sig (Elt F))) := [trip1_0, trip1_1, trip1_2, trip1_3, trip1_4, trip1_5, trip1_6, trip1_7, trip1_8, trip1_9, trip1_10, trip1_11, trip1_12, trip1_13]

theorem bodyL1_plain : StableHlo.Plain (bodyL1 (F := F)) := .cons trip1_0_sub (hf := trip1_0_plain) (.cons trip1_1_sub (hf := trip1_1_plain) (.cons trip1_2_sub (hf := trip1_2_plain) (.cons trip1_3_sub (hf := trip1_3_plain) (.cons trip1_4_sub (hf := trip1_4_plain) (.cons trip1_5_sub (hf := trip1_5_plain) (.cons trip1_6_sub (hf := trip1_6_plain) (.cons trip1_7_sub (hf := trip1_7_plain) (.cons trip1_8_sub (hf := trip1_8_plain) (.cons trip1_9_sub (hf := trip1_9_plain) (.cons trip1_10_sub (hf := trip1_10_plain) (.cons trip1_11_sub (hf := trip1_11_plain) (.cons trip1_12_sub (hf := trip1_12_plain) (.cons trip1_13_sub (hf := trip1_13_plain) (.nil))))))))))))))

end Cert.ReferenceIdeal.Line

end
-- ==== Proof.RefShape.lean ====
/-
  Which buffers each operation of the reference writes and touches, by number, one entry per operation.
-/
module

public import proofs.«01_k».proof.Proof.RefOps
public import proofs.«01_k».proof.Proof.Settled

@[expose] public section

set_option maxRecDepth 16384

noncomputable section

namespace Cert.ReferenceIdeal.Line

open Idealize.ShloMosaic Idealize.ShloMosaic.TcCoe Idealize.ShloMosaic.StableHlo
open Cert.Settled Cert.ReferenceIdeal.Gen

variable {F : FTy → Type} [FloatOps F]

abbrev pre0_keys : List (ℕ × List ℕ) := [(6, [0]), (7, [6]), (8, [6]), (9, [6]), (10, [6]), (11, [1]), (12, [2]), (13, [3]), (14, [4]), (15, [11, 12]), (16, [13]), (17, [16]), (18, [15, 17])]
theorem pre0_shape : Shape (pre0 (F := F)) pre0_keys :=
  .cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_reshape rfl rfl) (.cons (keys_reshape rfl rfl) (.cons (keys_binary rfl rfl rfl) (.cons (keys_unary rfl rfl) (.cons (keys_unary rfl rfl) (.cons (keys_binary rfl rfl rfl) (.nil)))))))))))))

abbrev pre1_keys : List (ℕ × List ℕ) := [(19, [18]), (20, []), (21, [20]), (22, [19, 21]), (23, [20]), (24, [19, 23]), (25, [24, 24]), (26, [20]), (27, [19, 26]), (28, [24]), (29, [28]), (30, [29]), (31, [30]), (32, [22, 31]), (33, [25, 27, 32]), (34, []), (35, [34]), (36, [19, 35]), (37, []), (38, [37]), (39, [36, 38, 19]), (40, []), (41, [40]), (42, [33, 41]), (43, []), (44, [43]), (45, [42, 44, 33]), (46, [39, 45]), (47, [46]), (48, []), (49, []), (50, [48, 49]), (51, []), (52, []), (53, [50, 52, 51]), (54, []), (55, [54]), (56, [33, 55]), (57, []), (58, [57]), (59, [56, 58, 33]), (60, [53]), (61, [60, 59]), (62, [61]), (63, []), (64, [63]), (65, [64, 62]), (66, [33])]
theorem pre1_shape : Shape (pre1 (F := F)) pre1_keys :=
  .cons (keys_unary rfl rfl) (.cons (keys_nullary rfl) (.cons (keys_unary rfl rfl) (.cons (keys_binary rfl rfl rfl) (.cons (keys_unary rfl rfl) (.cons (keys_binary rfl rfl rfl) (.cons (keys_binary rfl rfl rfl) (.cons (keys_unary rfl rfl) (.cons (keys_binary rfl rfl rfl) (.cons (keys_unary rfl rfl) (.cons (keys_unary rfl rfl) (.cons (keys_unary rfl rfl) (.cons (keys_unary rfl rfl) (.cons (keys_binary rfl rfl rfl) (.cons (keys_ternary rfl rfl rfl rfl) (.cons (keys_nullary rfl) (.cons (keys_unary rfl rfl) (.cons (keys_binary rfl rfl rfl) (.cons (keys_nullary rfl) (.cons (keys_unary rfl rfl) (.cons (keys_ternary rfl rfl rfl rfl) (.cons (keys_nullary rfl) (.cons (keys_unary rfl rfl) (.cons (keys_binary rfl rfl rfl) (.cons (keys_nullary rfl) (.cons (keys_unary rfl rfl) (.cons (keys_ternary rfl rfl rfl rfl) (.cons (keys_binary rfl rfl rfl) (.cons (keys_unary rfl rfl) (.cons (keys_nullary rfl) (.cons (keys_nullary rfl) (.cons (keys_binary rfl rfl rfl) (.cons (keys_nullary rfl) (.cons (keys_nullary rfl) (.cons (keys_ternary rfl rfl rfl rfl) (.cons (keys_nullary rfl) (.cons (keys_unary rfl rfl) (.cons (keys_binary rfl rfl rfl) (.cons (keys_nullary rfl) (.cons (keys_unary rfl rfl) (.cons (keys_ternary rfl rfl rfl rfl) (.cons (keys_unary rfl rfl) (.cons (keys_binary rfl rfl rfl) (.cons (keys_unary rfl rfl) (.cons (keys_nullary rfl) (.cons (keys_unary rfl rfl) (.cons (keys_binary rfl rfl rfl) (.cons (keys_unary rfl rfl) (.nil))))))))))))))))))))))))))))))))))))))))))))))))

abbrev pre2_keys : List (ℕ × List ℕ) := [(67, []), (68, [67]), (69, [66, 68]), (70, [7]), (71, [70]), (72, []), (73, [72]), (74, [71, 73]), (75, [8]), (76, [75]), (77, [9]), (78, [77]), (79, [69]), (80, [79])]
theorem pre2_shape : Shape (pre2 (F := F)) pre2_keys :=
  .cons (keys_nullary rfl) (.cons (keys_unary rfl rfl) (.cons (keys_binary rfl rfl rfl) (.cons (keys_reshape rfl rfl) (.cons (keys_unary rfl rfl) (.cons (keys_nullary rfl) (.cons (keys_unary rfl rfl) (.cons (keys_binary rfl rfl rfl) (.cons (keys_reshape rfl rfl) (.cons (keys_unary rfl rfl) (.cons (keys_reshape rfl rfl) (.cons (keys_unary rfl rfl) (.cons (keys_reshape rfl rfl) (.cons (keys_unary rfl rfl) (.nil))))))))))))))

abbrev pre3_keys : List (ℕ × List ℕ) := [(81, []), (82, [81]), (83, [80, 82])]
theorem pre3_shape : Shape (pre3 (F := F)) pre3_keys :=
  .cons (keys_nullary rfl) (.cons (keys_unary rfl rfl) (.cons (keys_binary rfl rfl rfl) (.nil)))

abbrev pre4_keys : List (ℕ × List ℕ) := [(84, [83]), (85, [83]), (86, [74, 85]), (87, [83]), (88, [87]), (89, [76, 88]), (90, [84]), (91, [90, 83]), (92, [91]), (93, [76, 92]), (94, []), (95, [94])]
theorem pre4_shape : Shape (pre4 (F := F)) pre4_keys :=
  .cons (keys_unary rfl rfl) (.cons (keys_unary rfl rfl) (.cons (keys_binary rfl rfl rfl) (.cons (keys_unary rfl rfl) (.cons (keys_unary rfl rfl) (.cons (keys_binary rfl rfl rfl) (.cons (keys_unary rfl rfl) (.cons (keys_binary rfl rfl rfl) (.cons (keys_unary rfl rfl) (.cons (keys_binary rfl rfl rfl) (.cons (keys_nullary rfl) (.cons (keys_unary rfl rfl) (.nil))))))))))))

abbrev pre5_keys : List (ℕ × List ℕ) := [(96, []), (97, []), (98, [97]), (99, [96, 98]), (100, []), (101, [99, 100]), (102, []), (103, [102]), (104, [101, 95, 103])]
theorem pre5_shape : Shape (pre5 (F := F)) pre5_keys :=
  .cons (keys_nullary rfl) (.cons (keys_nullary rfl) (.cons (keys_unary rfl rfl) (.cons (keys_binary rfl rfl rfl) (.cons (keys_nullary rfl) (.cons (keys_binary rfl rfl rfl) (.cons (keys_nullary rfl) (.cons (keys_unary rfl rfl) (.cons (keys_ternary rfl rfl rfl rfl) (.nil)))))))))

abbrev pre6_keys : List (ℕ × List ℕ) := [(105, [86, 89]), (106, [])]
theorem pre6_shape : Shape (pre6 (F := F)) pre6_keys :=
  .cons (keys_binary rfl rfl rfl) (.cons (keys_nullary rfl) (.nil))

abbrev pre7_keys : List (ℕ × List ℕ) := [(107, [106]), (108, [104]), (109, [107]), (110, [108, 105, 109]), (111, []), (112, [111])]
theorem pre7_shape : Shape (pre7 (F := F)) pre7_keys :=
  .cons (keys_unary rfl rfl) (.cons (keys_unary rfl rfl) (.cons (keys_unary rfl rfl) (.cons (keys_ternary rfl rfl rfl rfl) (.cons (keys_nullary rfl) (.cons (keys_unary rfl rfl) (.nil))))))

abbrev pre8_keys : List (ℕ × List ℕ) := [(113, [110, 78]), (114, [86]), (115, [93]), (116, [78]), (117, [84]), (118, [117]), (119, [118]), (120, []), (121, [120]), (122, []), (123, [122]), (124, []), (125, [124]), (126, []), (127, [126])]
theorem pre8_shape : Shape (pre8 (F := F)) pre8_keys :=
  .cons (keys_binary rfl rfl rfl) (.cons (keys_unary rfl rfl) (.cons (keys_unary rfl rfl) (.cons (keys_unary rfl rfl) (.cons (keys_reshape rfl rfl) (.cons (keys_unary rfl rfl) (.cons (keys_unary rfl rfl) (.cons (keys_nullary rfl) (.cons (keys_unary rfl rfl) (.cons (keys_nullary rfl) (.cons (keys_unary rfl rfl) (.cons (keys_nullary rfl) (.cons (keys_unary rfl rfl) (.cons (keys_nullary rfl) (.cons (keys_unary rfl rfl) (.nil)))))))))))))))

abbrev pre9_keys : List (ℕ × List ℕ) := [(128, [])]
theorem pre9_shape : Shape (pre9 (F := F)) pre9_keys :=
  .cons (keys_nullary rfl) (.nil)

abbrev pre10_keys : List (ℕ × List ℕ) := [(129, [114]), (130, [115]), (131, [116]), (132, [119]), (133, [128]), (134, [121]), (135, [123]), (136, [125]), (137, [127])]
theorem pre10_shape : Shape (pre10 (F := F)) pre10_keys :=
  .cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.nil)))))))))

abbrev mid0_keys : List (ℕ × List ℕ) := [(182, [135]), (183, [113, 182]), (184, [183]), (185, [184]), (186, [185, 185]), (187, []), (188, [186, 187]), (189, [188]), (190, []), (191, [190]), (192, [189, 191]), (193, []), (194, [193]), (195, [192, 194]), (196, [195]), (197, [196, 195]), (198, []), (199, [198]), (200, [199, 197]), (201, [196]), (202, [185, 201]), (203, [202]), (204, [14]), (205, [204]), (206, [203, 205])]
theorem mid0_shape : Shape (mid0 (F := F)) mid0_keys :=
  .cons (keys_unary rfl rfl) (.cons (keys_binary rfl rfl rfl) (.cons (keys_unary rfl rfl) (.cons (keys_reshape rfl rfl) (.cons (keys_binary rfl rfl rfl) (.cons (keys_nullary rfl) (.cons (keys_binary rfl rfl rfl) (.cons (keys_unary rfl rfl) (.cons (keys_nullary rfl) (.cons (keys_unary rfl rfl) (.cons (keys_binary rfl rfl rfl) (.cons (keys_nullary rfl) (.cons (keys_unary rfl rfl) (.cons (keys_binary rfl rfl rfl) (.cons (keys_unary rfl rfl) (.cons (keys_binary rfl rfl rfl) (.cons (keys_nullary rfl) (.cons (keys_unary rfl rfl) (.cons (keys_binary rfl rfl rfl) (.cons (keys_unary rfl rfl) (.cons (keys_binary rfl rfl rfl) (.cons (keys_reshape rfl rfl) (.cons (keys_unary rfl rfl) (.cons (keys_unary rfl rfl) (.cons (keys_binary rfl rfl rfl) (.nil)))))))))))))))))))))))))

abbrev mid1_keys : List (ℕ × List ℕ) := [(207, [10]), (208, [207]), (209, []), (210, [209]), (211, [210, 208]), (212, []), (213, [212]), (214, [213, 211]), (215, []), (216, [215]), (217, [216, 214]), (218, [214, 217]), (219, [10, 214])]
theorem mid1_shape : Shape (mid1 (F := F)) mid1_keys :=
  .cons (keys_unary rfl rfl) (.cons (keys_unary rfl rfl) (.cons (keys_nullary rfl) (.cons (keys_unary rfl rfl) (.cons (keys_binary rfl rfl rfl) (.cons (keys_nullary rfl) (.cons (keys_unary rfl rfl) (.cons (keys_binary rfl rfl rfl) (.cons (keys_nullary rfl) (.cons (keys_unary rfl rfl) (.cons (keys_binary rfl rfl rfl) (.cons (keys_binary rfl rfl rfl) (.cons (keys_binary rfl rfl rfl) (.nil)))))))))))))

abbrev mid2_keys : List (ℕ × List ℕ) := [(220, [219, 206]), (221, [5]), (222, []), (223, [222]), (224, [219, 221]), (225, [221, 206])]
theorem mid2_shape : Shape (mid2 (F := F)) mid2_keys :=
  .cons (keys_binary rfl rfl rfl) (.cons (keys_unary rfl rfl) (.cons (keys_nullary rfl) (.cons (keys_unary rfl rfl) (.cons (keys_binary rfl rfl rfl) (.cons (keys_binary rfl rfl rfl) (.nil))))))

abbrev mid3_keys : List (ℕ × List ℕ) := [(226, [10, 225]), (227, [225, 214]), (228, [226, 218]), (229, [227, 228])]
theorem mid3_shape : Shape (mid3 (F := F)) mid3_keys :=
  .cons (keys_binary rfl rfl rfl) (.cons (keys_binary rfl rfl rfl) (.cons (keys_binary rfl rfl rfl) (.cons (keys_binary rfl rfl rfl) (.nil))))

abbrev mid4_keys : List (ℕ × List ℕ) := [(230, [203, 224]), (231, []), (232, [230, 231]), (233, [232]), (234, [204]), (235, [224, 234]), (236, []), (237, [233, 236]), (238, [235]), (239, [185, 238]), (240, []), (241, [239, 240]), (242, [241]), (243, [196]), (244, [238, 243]), (245, [242, 200])]
theorem mid4_shape : Shape (mid4 (F := F)) mid4_keys :=
  .cons (keys_binary rfl rfl rfl) (.cons (keys_nullary rfl) (.cons (keys_binary rfl rfl rfl) (.cons (keys_reshape rfl rfl) (.cons (keys_unary rfl rfl) (.cons (keys_binary rfl rfl rfl) (.cons (keys_nullary rfl) (.cons (keys_binary rfl rfl rfl) (.cons (keys_reshape rfl rfl) (.cons (keys_binary rfl rfl rfl) (.cons (keys_nullary rfl) (.cons (keys_binary rfl rfl rfl) (.cons (keys_reshape rfl rfl) (.cons (keys_unary rfl rfl) (.cons (keys_binary rfl rfl rfl) (.cons (keys_binary rfl rfl rfl) (.nil))))))))))))))))

abbrev mid5_keys : List (ℕ × List ℕ) := [(246, []), (247, [246]), (248, [245, 247]), (249, []), (250, [248, 249]), (251, [250]), (252, [185, 251]), (253, [244, 252]), (254, [251, 185]), (255, [253, 254]), (256, [255]), (257, [256]), (258, [257]), (259, []), (260, [259]), (261, []), (262, [261]), (263, []), (264, [263]), (265, []), (266, [265]), (267, []), (268, [267]), (269, [])]
theorem mid5_shape : Shape (mid5 (F := F)) mid5_keys :=
  .cons (keys_nullary rfl) (.cons (keys_unary rfl rfl) (.cons (keys_binary rfl rfl rfl) (.cons (keys_nullary rfl) (.cons (keys_binary rfl rfl rfl) (.cons (keys_unary rfl rfl) (.cons (keys_binary rfl rfl rfl) (.cons (keys_binary rfl rfl rfl) (.cons (keys_binary rfl rfl rfl) (.cons (keys_binary rfl rfl rfl) (.cons (keys_reshape rfl rfl) (.cons (keys_unary rfl rfl) (.cons (keys_unary rfl rfl) (.cons (keys_nullary rfl) (.cons (keys_unary rfl rfl) (.cons (keys_nullary rfl) (.cons (keys_unary rfl rfl) (.cons (keys_nullary rfl) (.cons (keys_unary rfl rfl) (.cons (keys_nullary rfl) (.cons (keys_unary rfl rfl) (.cons (keys_nullary rfl) (.cons (keys_unary rfl rfl) (.cons (keys_nullary rfl) (.nil))))))))))))))))))))))))

abbrev mid6_keys : List (ℕ × List ℕ) := [(270, [258]), (271, [136]), (272, [114]), (273, [137]), (274, [116]), (275, [115]), (276, [269]), (277, [260]), (278, [262]), (279, [264]), (280, [266]), (281, [268])]
theorem mid6_shape : Shape (mid6 (F := F)) mid6_keys :=
  .cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.nil))))))))))))

abbrev post0_keys : List (ℕ × List ℕ) := [(355, [281]), (356, [355, 118]), (357, [356]), (358, [280]), (359, [279]), (360, [278]), (361, [257, 110]), (362, [361]), (363, [358, 362]), (364, [257, 78])]
theorem post0_shape : Shape (post0 (F := F)) post0_keys :=
  .cons (keys_unary rfl rfl) (.cons (keys_binary rfl rfl rfl) (.cons (keys_unary rfl rfl) (.cons (keys_unary rfl rfl) (.cons (keys_unary rfl rfl) (.cons (keys_unary rfl rfl) (.cons (keys_binary rfl rfl rfl) (.cons (keys_unary rfl rfl) (.cons (keys_binary rfl rfl rfl) (.cons (keys_binary rfl rfl rfl) (.nil))))))))))

abbrev post1_keys : List (ℕ × List ℕ) := [(365, []), (366, [365]), (367, [108, 364, 366])]
theorem post1_shape : Shape (post1 (F := F)) post1_keys :=
  .cons (keys_nullary rfl) (.cons (keys_unary rfl rfl) (.cons (keys_ternary rfl rfl rfl rfl) (.nil)))

abbrev post2_keys : List (ℕ × List ℕ) := [(368, [367, 86]), (369, [367, 89]), (370, [360, 369]), (371, [76, 359]), (372, [359, 92]), (373, [371, 92]), (374, []), (375, [373, 374]), (376, [375]), (377, [373]), (378, [357, 376]), (379, [76, 368])]
theorem post2_shape : Shape (post2 (F := F)) post2_keys :=
  .cons (keys_binary rfl rfl rfl) (.cons (keys_binary rfl rfl rfl) (.cons (keys_binary rfl rfl rfl) (.cons (keys_binary rfl rfl rfl) (.cons (keys_binary rfl rfl rfl) (.cons (keys_binary rfl rfl rfl) (.cons (keys_nullary rfl) (.cons (keys_binary rfl rfl rfl) (.cons (keys_reshape rfl rfl) (.cons (keys_unary rfl rfl) (.cons (keys_binary rfl rfl rfl) (.cons (keys_binary rfl rfl rfl) (.nil))))))))))))

abbrev post3_keys : List (ℕ × List ℕ) := [(380, [368, 88]), (381, [372, 380]), (382, [379, 88]), (383, [382]), (384, [377, 383]), (385, [74, 370]), (386, [370, 85]), (387, [385, 85]), (388, [384, 387]), (389, []), (390, [378, 389]), (391, [388, 390])]
theorem post3_shape : Shape (post3 (F := F)) post3_keys :=
  .cons (keys_binary rfl rfl rfl) (.cons (keys_binary rfl rfl rfl) (.cons (keys_binary rfl rfl rfl) (.cons (keys_unary rfl rfl) (.cons (keys_binary rfl rfl rfl) (.cons (keys_binary rfl rfl rfl) (.cons (keys_binary rfl rfl rfl) (.cons (keys_binary rfl rfl rfl) (.cons (keys_binary rfl rfl rfl) (.cons (keys_nullary rfl) (.cons (keys_binary rfl rfl rfl) (.cons (keys_binary rfl rfl rfl) (.nil))))))))))))

abbrev post4_keys : List (ℕ × List ℕ) := [(392, []), (393, [392]), (394, [391, 393])]
theorem post4_shape : Shape (post4 (F := F)) post4_keys :=
  .cons (keys_nullary rfl) (.cons (keys_unary rfl rfl) (.cons (keys_binary rfl rfl rfl) (.nil)))

abbrev post5_keys : List (ℕ × List ℕ) := [(395, [394]), (396, [395]), (397, [363]), (398, [397]), (399, [381]), (400, [399]), (401, []), (402, [401]), (403, [386, 402]), (404, [403]), (405, [404]), (406, []), (407, [406]), (408, [396, 407])]
theorem post5_shape : Shape (post5 (F := F)) post5_keys :=
  .cons (keys_unary rfl rfl) (.cons (keys_reshape rfl rfl) (.cons (keys_unary rfl rfl) (.cons (keys_reshape rfl rfl) (.cons (keys_unary rfl rfl) (.cons (keys_reshape rfl rfl) (.cons (keys_nullary rfl) (.cons (keys_unary rfl rfl) (.cons (keys_binary rfl rfl rfl) (.cons (keys_unary rfl rfl) (.cons (keys_reshape rfl rfl) (.cons (keys_nullary rfl) (.cons (keys_unary rfl rfl) (.cons (keys_binary rfl rfl rfl) (.nil))))))))))))))

abbrev post6_keys : List (ℕ × List ℕ) := [(409, [408]), (410, [409, 47]), (411, [410])]
theorem post6_shape : Shape (post6 (F := F)) post6_keys :=
  .cons (keys_unary rfl rfl) (.cons (keys_binary rfl rfl rfl) (.cons (keys_unary rfl rfl) (.nil)))

abbrev post7_keys : List (ℕ × List ℕ) := [(412, []), (413, [411, 412]), (414, [413]), (415, []), (416, [414, 415]), (417, [411, 11]), (418, [417]), (419, [411, 12]), (420, [405]), (421, [400]), (422, [398]), (423, [229]), (424, [419]), (425, [416]), (426, [237])]
theorem post7_shape : Shape (post7 (F := F)) post7_keys :=
  .cons (keys_nullary rfl) (.cons (keys_binary rfl rfl rfl) (.cons (keys_reshape rfl rfl) (.cons (keys_nullary rfl) (.cons (keys_binary rfl rfl rfl) (.cons (keys_binary rfl rfl rfl) (.cons (keys_unary rfl rfl) (.cons (keys_binary rfl rfl rfl) (.cons (keys_unary rfl rfl) (.cons (keys_unary rfl rfl) (.cons (keys_unary rfl rfl) (.cons (keys_unary rfl rfl) (.cons (keys_unary rfl rfl) (.cons (keys_unary rfl rfl) (.cons (keys_unary rfl rfl) (.nil)))))))))))))))

abbrev trip0_0_keys : List (ℕ × List ℕ) := [(140, []), (141, []), (142, []), (143, [129, 133, 140, 141, 142]), (144, [143])]
theorem trip0_0_shape : Shape (trip0_0 (F := F)) trip0_0_keys :=
  .cons (keys_nullary rfl) (.cons (keys_nullary rfl) (.cons (keys_nullary rfl) (.cons (keys_unaryIndexed rfl (by decide) rfl) (.cons (keys_reshape rfl rfl) (.nil)))))

abbrev trip0_1_keys : List (ℕ × List ℕ) := [(145, []), (146, []), (147, []), (148, [130, 133, 145, 146, 147]), (149, [148])]
theorem trip0_1_shape : Shape (trip0_1 (F := F)) trip0_1_keys :=
  .cons (keys_nullary rfl) (.cons (keys_nullary rfl) (.cons (keys_nullary rfl) (.cons (keys_unaryIndexed rfl (by decide) rfl) (.cons (keys_reshape rfl rfl) (.nil)))))

abbrev trip0_2_keys : List (ℕ × List ℕ) := [(150, []), (151, []), (152, []), (153, [131, 133, 150, 151, 152]), (154, [153])]
theorem trip0_2_shape : Shape (trip0_2 (F := F)) trip0_2_keys :=
  .cons (keys_nullary rfl) (.cons (keys_nullary rfl) (.cons (keys_nullary rfl) (.cons (keys_unaryIndexed rfl (by decide) rfl) (.cons (keys_reshape rfl rfl) (.nil)))))

abbrev trip0_3_keys : List (ℕ × List ℕ) := [(155, []), (156, []), (157, [132, 133, 155, 156]), (158, [157])]
theorem trip0_3_shape : Shape (trip0_3 (F := F)) trip0_3_keys :=
  .cons (keys_nullary rfl) (.cons (keys_nullary rfl) (.cons (keys_unaryIndexed rfl (by decide) rfl) (.cons (keys_reshape rfl rfl) (.nil))))

abbrev trip0_4_keys : List (ℕ × List ℕ) := [(159, [144, 134]), (160, [158]), (161, [160]), (162, [161, 134]), (163, [149, 154]), (164, [162, 163])]
theorem trip0_4_shape : Shape (trip0_4 (F := F)) trip0_4_keys :=
  .cons (keys_binary rfl rfl rfl) (.cons (keys_unary rfl rfl) (.cons (keys_unary rfl rfl) (.cons (keys_binary rfl rfl rfl) (.cons (keys_binary rfl rfl rfl) (.cons (keys_binary rfl rfl rfl) (.nil))))))

abbrev trip0_5_keys : List (ℕ × List ℕ) := [(165, [159]), (166, []), (167, []), (168, []), (169, [135, 165, 133, 166, 167, 168])]
theorem trip0_5_shape : Shape (trip0_5 (F := F)) trip0_5_keys :=
  .cons (keys_unary rfl rfl) (.cons (keys_nullary rfl) (.cons (keys_nullary rfl) (.cons (keys_nullary rfl) (.cons (keys_binaryIndexed rfl rfl (by decide) rfl) (.nil)))))

abbrev trip0_6_keys : List (ℕ × List ℕ) := [(170, [134]), (171, []), (172, []), (173, []), (174, [136, 170, 133, 171, 172, 173])]
theorem trip0_6_shape : Shape (trip0_6 (F := F)) trip0_6_keys :=
  .cons (keys_unary rfl rfl) (.cons (keys_nullary rfl) (.cons (keys_nullary rfl) (.cons (keys_nullary rfl) (.cons (keys_binaryIndexed rfl rfl (by decide) rfl) (.nil)))))

abbrev trip0_7_keys : List (ℕ × List ℕ) := [(175, [160]), (176, []), (177, []), (178, []), (179, [137, 175, 133, 176, 177, 178])]
theorem trip0_7_shape : Shape (trip0_7 (F := F)) trip0_7_keys :=
  .cons (keys_unary rfl rfl) (.cons (keys_nullary rfl) (.cons (keys_nullary rfl) (.cons (keys_nullary rfl) (.cons (keys_binaryIndexed rfl rfl (by decide) rfl) (.nil)))))

abbrev trip0_8_keys : List (ℕ × List ℕ) := [(180, []), (181, [133, 180])]
theorem trip0_8_shape : Shape (trip0_8 (F := F)) trip0_8_keys :=
  .cons (keys_nullary rfl) (.cons (keys_binary rfl rfl rfl) (.nil))

abbrev trip0_9_keys : List (ℕ × List ℕ) := [(133, [181]), (134, [164]), (135, [169]), (136, [174]), (137, [179])]
theorem trip0_9_shape : Shape (trip0_9 (F := F)) trip0_9_keys :=
  .cons (keys_unary rfl rfl) (.cons (keys_unary rfl rfl) (.cons (keys_unary rfl rfl) (.cons (keys_unary rfl rfl) (.cons (keys_unary rfl rfl) (.nil)))))

abbrev trip1_0_keys : List (ℕ × List ℕ) := [(284, []), (285, [284, 276]), (286, []), (287, [285, 286])]
theorem trip1_0_shape : Shape (trip1_0 (F := F)) trip1_0_keys :=
  .cons (keys_nullary rfl) (.cons (keys_binary rfl rfl rfl) (.cons (keys_nullary rfl) (.cons (keys_binary rfl rfl rfl) (.nil))))

abbrev trip1_1_keys : List (ℕ × List ℕ) := [(288, []), (289, []), (290, []), (291, [270, 287, 288, 289, 290]), (292, [291])]
theorem trip1_1_shape : Shape (trip1_1 (F := F)) trip1_1_keys :=
  .cons (keys_nullary rfl) (.cons (keys_nullary rfl) (.cons (keys_nullary rfl) (.cons (keys_unaryIndexed rfl (by decide) rfl) (.cons (keys_reshape rfl rfl) (.nil)))))

abbrev trip1_2_keys : List (ℕ × List ℕ) := [(293, []), (294, []), (295, []), (296, [271, 287, 293, 294, 295]), (297, [296])]
theorem trip1_2_shape : Shape (trip1_2 (F := F)) trip1_2_keys :=
  .cons (keys_nullary rfl) (.cons (keys_nullary rfl) (.cons (keys_nullary rfl) (.cons (keys_unaryIndexed rfl (by decide) rfl) (.cons (keys_reshape rfl rfl) (.nil)))))

abbrev trip1_3_keys : List (ℕ × List ℕ) := [(298, []), (299, []), (300, []), (301, [272, 287, 298, 299, 300]), (302, [301])]
theorem trip1_3_shape : Shape (trip1_3 (F := F)) trip1_3_keys :=
  .cons (keys_nullary rfl) (.cons (keys_nullary rfl) (.cons (keys_nullary rfl) (.cons (keys_unaryIndexed rfl (by decide) rfl) (.cons (keys_reshape rfl rfl) (.nil)))))

abbrev trip1_4_keys : List (ℕ × List ℕ) := [(303, []), (304, []), (305, []), (306, [273, 287, 303, 304, 305]), (307, [306])]
theorem trip1_4_shape : Shape (trip1_4 (F := F)) trip1_4_keys :=
  .cons (keys_nullary rfl) (.cons (keys_nullary rfl) (.cons (keys_nullary rfl) (.cons (keys_unaryIndexed rfl (by decide) rfl) (.cons (keys_reshape rfl rfl) (.nil)))))

abbrev trip1_5_keys : List (ℕ × List ℕ) := [(308, []), (309, []), (310, []), (311, [274, 287, 308, 309, 310]), (312, [311])]
theorem trip1_5_shape : Shape (trip1_5 (F := F)) trip1_5_keys :=
  .cons (keys_nullary rfl) (.cons (keys_nullary rfl) (.cons (keys_nullary rfl) (.cons (keys_unaryIndexed rfl (by decide) rfl) (.cons (keys_reshape rfl rfl) (.nil)))))

abbrev trip1_6_keys : List (ℕ × List ℕ) := [(313, []), (314, []), (315, []), (316, [275, 287, 313, 314, 315]), (317, [316])]
theorem trip1_6_shape : Shape (trip1_6 (F := F)) trip1_6_keys :=
  .cons (keys_nullary rfl) (.cons (keys_nullary rfl) (.cons (keys_nullary rfl) (.cons (keys_unaryIndexed rfl (by decide) rfl) (.cons (keys_reshape rfl rfl) (.nil)))))

abbrev trip1_7_keys : List (ℕ × List ℕ) := [(318, [277, 317]), (319, [318]), (320, [277, 312]), (321, [320]), (322, [307]), (323, [322, 277]), (324, [277, 297]), (325, []), (326, [324, 325]), (327, [326]), (328, []), (329, [327, 328]), (330, [292, 302]), (331, [330]), (332, [323, 331]), (333, [292, 297])]
theorem trip1_7_shape : Shape (trip1_7 (F := F)) trip1_7_keys :=
  .cons (keys_binary rfl rfl rfl) (.cons (keys_unary rfl rfl) (.cons (keys_binary rfl rfl rfl) (.cons (keys_unary rfl rfl) (.cons (keys_unary rfl rfl) (.cons (keys_binary rfl rfl rfl) (.cons (keys_binary rfl rfl rfl) (.cons (keys_nullary rfl) (.cons (keys_binary rfl rfl rfl) (.cons (keys_reshape rfl rfl) (.cons (keys_nullary rfl) (.cons (keys_binary rfl rfl rfl) (.cons (keys_binary rfl rfl rfl) (.cons (keys_unary rfl rfl) (.cons (keys_binary rfl rfl rfl) (.cons (keys_binary rfl rfl rfl) (.nil))))))))))))))))

abbrev trip1_8_keys : List (ℕ × List ℕ) := [(334, [333]), (335, []), (336, []), (337, []), (338, [278, 334, 287, 335, 336, 337])]
theorem trip1_8_shape : Shape (trip1_8 (F := F)) trip1_8_keys :=
  .cons (keys_unary rfl rfl) (.cons (keys_nullary rfl) (.cons (keys_nullary rfl) (.cons (keys_nullary rfl) (.cons (keys_binaryIndexed rfl rfl (by decide) rfl) (.nil)))))

abbrev trip1_9_keys : List (ℕ × List ℕ) := [(339, [321]), (340, []), (341, []), (342, []), (343, [279, 339, 287, 340, 341, 342])]
theorem trip1_9_shape : Shape (trip1_9 (F := F)) trip1_9_keys :=
  .cons (keys_unary rfl rfl) (.cons (keys_nullary rfl) (.cons (keys_nullary rfl) (.cons (keys_nullary rfl) (.cons (keys_binaryIndexed rfl rfl (by decide) rfl) (.nil)))))

abbrev trip1_10_keys : List (ℕ × List ℕ) := [(344, [319]), (345, []), (346, []), (347, []), (348, [280, 344, 287, 345, 346, 347])]
theorem trip1_10_shape : Shape (trip1_10 (F := F)) trip1_10_keys :=
  .cons (keys_unary rfl rfl) (.cons (keys_nullary rfl) (.cons (keys_nullary rfl) (.cons (keys_nullary rfl) (.cons (keys_binaryIndexed rfl rfl (by decide) rfl) (.nil)))))

abbrev trip1_11_keys : List (ℕ × List ℕ) := [(349, [329]), (350, []), (351, []), (352, [281, 349, 287, 350, 351])]
theorem trip1_11_shape : Shape (trip1_11 (F := F)) trip1_11_keys :=
  .cons (keys_unary rfl rfl) (.cons (keys_nullary rfl) (.cons (keys_nullary rfl) (.cons (keys_binaryIndexed rfl rfl (by decide) rfl) (.nil))))

abbrev trip1_12_keys : List (ℕ × List ℕ) := [(353, []), (354, [276, 353])]
theorem trip1_12_shape : Shape (trip1_12 (F := F)) trip1_12_keys :=
  .cons (keys_nullary rfl) (.cons (keys_binary rfl rfl rfl) (.nil))

abbrev trip1_13_keys : List (ℕ × List ℕ) := [(276, [354]), (277, [332]), (278, [338]), (279, [343]), (280, [348]), (281, [352])]
theorem trip1_13_shape : Shape (trip1_13 (F := F)) trip1_13_keys :=
  .cons (keys_unary rfl rfl) (.cons (keys_unary rfl rfl) (.cons (keys_unary rfl rfl) (.cons (keys_unary rfl rfl) (.cons (keys_unary rfl rfl) (.cons (keys_unary rfl rfl) (.nil))))))

/-- The operations before the first loop, without the copies into what it carries. -/
abbrev preLine : List (HloOp τ sig (Elt F)) := pre0 ++ (pre1 ++ (pre2 ++ (pre3 ++ (pre4 ++ (pre5 ++ (pre6 ++ (pre7 ++ (pre8 ++ (pre9)))))))))
abbrev preLine_keys : List (ℕ × List ℕ) := pre0_keys ++ (pre1_keys ++ (pre2_keys ++ (pre3_keys ++ (pre4_keys ++ (pre5_keys ++ (pre6_keys ++ (pre7_keys ++ (pre8_keys ++ (pre9_keys)))))))))
theorem preLine_shape : Shape (preLine (F := F)) preLine_keys :=
  List.rel_append pre0_shape (List.rel_append pre1_shape (List.rel_append pre2_shape (List.rel_append pre3_shape (List.rel_append pre4_shape (List.rel_append pre5_shape (List.rel_append pre6_shape (List.rel_append pre7_shape (List.rel_append pre8_shape (pre9_shape)))))))))

/-- The operations between the loops, without the copies into what the second carries. -/
abbrev midLine : List (HloOp τ sig (Elt F)) := mid0 ++ (mid1 ++ (mid2 ++ (mid3 ++ (mid4 ++ (mid5)))))
abbrev midLine_keys : List (ℕ × List ℕ) := mid0_keys ++ (mid1_keys ++ (mid2_keys ++ (mid3_keys ++ (mid4_keys ++ (mid5_keys)))))
theorem midLine_shape : Shape (midLine (F := F)) midLine_keys :=
  List.rel_append mid0_shape (List.rel_append mid1_shape (List.rel_append mid2_shape (List.rel_append mid3_shape (List.rel_append mid4_shape (mid5_shape)))))

/-- The operations after the second loop. -/
abbrev postLine : List (HloOp τ sig (Elt F)) := post0 ++ (post1 ++ (post2 ++ (post3 ++ (post4 ++ (post5 ++ (post6 ++ (post7)))))))
abbrev postLine_keys : List (ℕ × List ℕ) := post0_keys ++ (post1_keys ++ (post2_keys ++ (post3_keys ++ (post4_keys ++ (post5_keys ++ (post6_keys ++ (post7_keys)))))))
theorem postLine_shape : Shape (postLine (F := F)) postLine_keys :=
  List.rel_append post0_shape (List.rel_append post1_shape (List.rel_append post2_shape (List.rel_append post3_shape (List.rel_append post4_shape (List.rel_append post5_shape (List.rel_append post6_shape (post7_shape)))))))

/-- The first loop's body without its last copies. -/
abbrev tripLine0 : List (HloOp τ sig (Elt F)) := trip0_0 ++ (trip0_1 ++ (trip0_2 ++ (trip0_3 ++ (trip0_4 ++ (trip0_5 ++ (trip0_6 ++ (trip0_7 ++ (trip0_8))))))))
abbrev tripLine0_keys : List (ℕ × List ℕ) := trip0_0_keys ++ (trip0_1_keys ++ (trip0_2_keys ++ (trip0_3_keys ++ (trip0_4_keys ++ (trip0_5_keys ++ (trip0_6_keys ++ (trip0_7_keys ++ (trip0_8_keys))))))))
theorem tripLine0_shape : Shape (tripLine0 (F := F)) tripLine0_keys :=
  List.rel_append trip0_0_shape (List.rel_append trip0_1_shape (List.rel_append trip0_2_shape (List.rel_append trip0_3_shape (List.rel_append trip0_4_shape (List.rel_append trip0_5_shape (List.rel_append trip0_6_shape (List.rel_append trip0_7_shape (trip0_8_shape))))))))

/-- The second loop's body without its last copies. -/
abbrev tripLine1 : List (HloOp τ sig (Elt F)) := trip1_0 ++ (trip1_1 ++ (trip1_2 ++ (trip1_3 ++ (trip1_4 ++ (trip1_5 ++ (trip1_6 ++ (trip1_7 ++ (trip1_8 ++ (trip1_9 ++ (trip1_10 ++ (trip1_11 ++ (trip1_12))))))))))))
abbrev tripLine1_keys : List (ℕ × List ℕ) := trip1_0_keys ++ (trip1_1_keys ++ (trip1_2_keys ++ (trip1_3_keys ++ (trip1_4_keys ++ (trip1_5_keys ++ (trip1_6_keys ++ (trip1_7_keys ++ (trip1_8_keys ++ (trip1_9_keys ++ (trip1_10_keys ++ (trip1_11_keys ++ (trip1_12_keys))))))))))))
theorem tripLine1_shape : Shape (tripLine1 (F := F)) tripLine1_keys :=
  List.rel_append trip1_0_shape (List.rel_append trip1_1_shape (List.rel_append trip1_2_shape (List.rel_append trip1_3_shape (List.rel_append trip1_4_shape (List.rel_append trip1_5_shape (List.rel_append trip1_6_shape (List.rel_append trip1_7_shape (List.rel_append trip1_8_shape (List.rel_append trip1_9_shape (List.rel_append trip1_10_shape (List.rel_append trip1_11_shape (trip1_12_shape))))))))))))

end Cert.ReferenceIdeal.Line

end
-- ==== Proof.RefRun.lean ====
/-
  The run of the reference: every fair execution ends, and every buffer then holds `fin`, the fold of its operations with
  each loop taken 256 times round. Then what the operations' equations hold of: the straight lines at `fin`, a loop body's
  line at the contents it leaves.
-/
module

public import proofs.«01_k».proof.Proof.RefShape
public import Idealize.ShloMosaic.PureOps.Ideal
public import Idealize.ShloMosaic.Lib.Scf.ExitTest
public import Idealize.ShloMosaic.Lib.Scf.Counter
public import Idealize.ShloMosaic.Lib.Quiescent
public import Idealize.ShloMosaic.Lib.StableHlo.RunHlo

@[expose] public section

set_option maxRecDepth 16384

noncomputable section

namespace Cert.ReferenceIdeal.Line

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.Settled Cert.ReferenceIdeal.Gen

/-- The two conditions' operations: the bound, and the counter compared with it. -/
abbrev condOps0 : List (HloOp τ sig (Elt Ideal)) :=
  [ StableHlo.nullary main_while0c_c_37 (constantI S_ 32 256#32),
    StableHlo.binary main_v52_4 main_while0c_c_37 main_while0c_v171 (cmpi .slt) ]
abbrev condOps1 : List (HloOp τ sig (Elt Ideal)) :=
  [ StableHlo.nullary main_while1c_c_40 (constantI S_ 32 256#32),
    StableHlo.binary main_v110_6 main_while1c_c_40 main_while1c_v171 (cmpi .slt) ]

abbrev condOps0_keys : List (ℕ × List ℕ) := [(138, []), (139, [133, 138])]
theorem condOps0_shape : Shape condOps0 condOps0_keys := .cons (keys_nullary rfl) (.cons (keys_binary rfl rfl rfl) .nil)
abbrev condOps1_keys : List (ℕ × List ℕ) := [(282, []), (283, [276, 282])]
theorem condOps1_shape : Shape condOps1 condOps1_keys := .cons (keys_nullary rfl) (.cons (keys_binary rfl rfl rfl) .nil)

/-- The two loops. -/
abbrev loopA : TwoLoops.Counted τ sig Ideal 2 := ⟨0, condOps0, bodyL0, 256⟩
abbrev loopB : TwoLoops.Counted τ sig Ideal 2 := ⟨1, condOps1, bodyL1, 256⟩

variable (m : (ℓ : Loc nD τ sig) → Buf (Elt Ideal) ℓ)

/-- The buffers at the first loop's entry, at the second's, and at the end. -/
def entryA (c : Dev nD) : Valuation τ sig (Elt Ideal) := afterL preL (launchContents m c)
def entryB (c : Dev nD) : Valuation τ sig (Elt Ideal) := afterL midL (loopA.leave (entryA m) c)
def fin (c : Dev nD) : Valuation τ sig (Elt Ideal) := afterL postL (loopB.leave (entryB m) c)

theorem preL_flat : (preL : List (List (HloOp τ sig (Elt Ideal)))).flatten = preLine ++ pre10 := by
  simp only [preL, preLine, List.flatten_cons, List.flatten_nil, List.append_nil, List.append_assoc]
theorem midL_flat : (midL : List (List (HloOp τ sig (Elt Ideal)))).flatten = midLine ++ mid6 := by
  simp only [midL, midLine, List.flatten_cons, List.flatten_nil, List.append_nil, List.append_assoc]
theorem postL_flat : (postL : List (List (HloOp τ sig (Elt Ideal)))).flatten = postLine := by
  simp only [postL, postLine, List.flatten_cons, List.flatten_nil, List.append_nil, List.append_assoc]
theorem bodyL0_flat : (bodyL0 : List (List (HloOp τ sig (Elt Ideal)))).flatten = tripLine0 ++ trip0_9 := by
  simp only [bodyL0, tripLine0, List.flatten_cons, List.flatten_nil, List.append_nil, List.append_assoc]
theorem bodyL1_flat : (bodyL1 : List (List (HloOp τ sig (Elt Ideal)))).flatten = tripLine1 ++ trip1_13 := by
  simp only [bodyL1, tripLine1, List.flatten_cons, List.flatten_nil, List.append_nil, List.append_assoc]

/-- Everything that runs after `preLine`, after the first loop is left, and after `midLine`. -/
abbrev afterMid : List (HloOp τ sig (Elt Ideal)) := mid6 ++ ((condOps1 ++ (tripLine1 ++ trip1_13)) ++ postLine)
abbrev afterA : List (HloOp τ sig (Elt Ideal)) := midLine ++ afterMid
abbrev afterPre : List (HloOp τ sig (Elt Ideal)) := pre10 ++ ((condOps0 ++ (tripLine0 ++ trip0_9)) ++ afterA)
abbrev afterMid_keys : List (ℕ × List ℕ) := mid6_keys ++ ((condOps1_keys ++ (tripLine1_keys ++ trip1_13_keys)) ++ postLine_keys)
abbrev afterA_keys : List (ℕ × List ℕ) := midLine_keys ++ afterMid_keys
abbrev afterPre_keys : List (ℕ × List ℕ) := pre10_keys ++ ((condOps0_keys ++ (tripLine0_keys ++ trip0_9_keys)) ++ afterA_keys)
theorem afterMid_shape : Shape afterMid afterMid_keys :=
  List.rel_append mid6_shape (List.rel_append (List.rel_append condOps1_shape (List.rel_append tripLine1_shape trip1_13_shape)) postLine_shape)
theorem afterA_shape : Shape afterA afterA_keys := List.rel_append midLine_shape afterMid_shape
theorem afterPre_shape : Shape afterPre afterPre_keys :=
  List.rel_append pre10_shape (List.rel_append (List.rel_append condOps0_shape (List.rel_append tripLine0_shape trip0_9_shape)) afterA_shape)

variable {m}

theorem fin_of_mid {c : Dev nD} {b : DevRef τ sig} (h : ∀ o ∈ afterMid, b ∉ o.writes) : fin m c b = after midLine (loopA.leave (entryA m) c) b := by
  rw [fin, afterL_eq_after_flatten, postL_flat, after_keep _ _ _ fun o ho => h o (List.mem_append_right _ (List.mem_append_right _ ho)),
    leave_keep (K := loopB) (fun o ho => h o (List.mem_append_right _ (List.mem_append_left _ (by rw [← bodyL1_flat]; exact ho)))),
    entryB, afterL_eq_after_flatten, midL_flat, after_append, after_keep _ _ _ fun o ho => h o (List.mem_append_left _ ho)]

theorem fin_of_A {c : Dev nD} {b : DevRef τ sig} (h : ∀ o ∈ afterA, b ∉ o.writes) : fin m c b = loopA.leave (entryA m) c b := by
  rw [fin_of_mid fun o ho => h o (List.mem_append_right _ ho), after_keep _ _ _ fun o ho => h o (List.mem_append_left _ ho)]

theorem fin_of_pre {c : Dev nD} {b : DevRef τ sig} (h : ∀ o ∈ afterPre, b ∉ o.writes) : fin m c b = after preLine (launchContents m c) b := by
  rw [fin_of_A fun o ho => h o (List.mem_append_right _ (List.mem_append_right _ ho)),
    leave_keep (K := loopA) (fun o ho => h o (List.mem_append_right _ (List.mem_append_left _ (by rw [← bodyL0_flat]; exact ho)))),
    entryA, afterL_eq_after_flatten, preL_flat, after_append, after_keep _ _ _ fun o ho => h o (List.mem_append_left _ ho)]

variable (m)

theorem settled_pre (c : Dev nD) : Settled (preLine (F := Ideal)) (fin m c) :=
  (settled_after _ (once_of_shape preLine_shape (by decide +kernel)) _).mono fun op ho b hb =>
    fin_of_pre (apart_of_shape preLine_shape afterPre_shape (by decide +kernel) op ho b hb)
theorem settled_mid (c : Dev nD) : Settled (midLine (F := Ideal)) (fin m c) :=
  (settled_after _ (once_of_shape midLine_shape (by decide +kernel)) _).mono fun op ho b hb =>
    fin_of_mid (apart_of_shape midLine_shape afterMid_shape (by decide +kernel) op ho b hb)
theorem settled_post (c : Dev nD) : Settled (postLine (F := Ideal)) (fin m c) := by
  rw [fin, afterL_eq_after_flatten, postL_flat]; exact settled_after _ (once_of_shape postLine_shape (by decide +kernel)) _

/-- The copies into what a loop carries, at its entry. -/
theorem settled_copyA (c : Dev nD) : Settled (pre10 (F := Ideal)) (entryA m c) := by
  rw [entryA, afterL_eq_after_flatten, preL_flat, after_append]
  exact settled_after _ (once_of_shape pre10_shape (by decide +kernel)) _
theorem settled_copyB (c : Dev nD) : Settled (mid6 (F := Ideal)) (entryB m c) := by
  rw [entryB, afterL_eq_after_flatten, midL_flat, after_append]
  exact settled_after _ (once_of_shape mid6_shape (by decide +kernel)) _

/-- What `preLine` touches is the same at the first loop's entry as at the end. -/
theorem entryA_eq (c : Dev nD) (b : DevRef τ sig) (h : (afterPre_keys.map Prod.fst).contains (key b) = false) : entryA m c b = fin m c b := by
  have hu := unwritten_of_shape afterPre_shape h
  rw [fin_of_pre hu, entryA, afterL_eq_after_flatten, preL_flat, after_append, after_keep _ _ _ fun o ho => hu o (List.mem_append_left _ ho)]
theorem entryB_eq (c : Dev nD) (b : DevRef τ sig) (h : (afterMid_keys.map Prod.fst).contains (key b) = false) : entryB m c b = fin m c b := by
  have hu := unwritten_of_shape afterMid_shape h
  rw [fin_of_mid hu, entryB, afterL_eq_after_flatten, midL_flat, after_append, after_keep _ _ _ fun o ho => hu o (List.mem_append_left _ ho)]

/-- The contents before trip `k` of each loop, and inside that trip before the last copies. -/
def atA (c : Dev nD) (k : ℕ) : Valuation τ sig (Elt Ideal) := atTrip condOps0 bodyL0 (entryA m) k c
def atB (c : Dev nD) (k : ℕ) : Valuation τ sig (Elt Ideal) := atTrip condOps1 bodyL1 (entryB m) k c
def inA (c : Dev nD) (k : ℕ) : Valuation τ sig (Elt Ideal) := after tripLine0 (after condOps0 (atA m c k))
def inB (c : Dev nD) (k : ℕ) : Valuation τ sig (Elt Ideal) := after tripLine1 (after condOps1 (atB m c k))

theorem atA_succ (c : Dev nD) (k : ℕ) : atA m c (k + 1) = after trip0_9 (inA m c k) := by
  rw [atA, atTrip_succ, afterL_eq_after_flatten, bodyL0_flat, after_append]; rfl
theorem atB_succ (c : Dev nD) (k : ℕ) : atB m c (k + 1) = after trip1_13 (inB m c k) := by
  rw [atB, atTrip_succ, afterL_eq_after_flatten, bodyL1_flat, after_append]; rfl

theorem settled_inA (c : Dev nD) (k : ℕ) : Settled (tripLine0 (F := Ideal)) (inA m c k) :=
  settled_after _ (once_of_shape tripLine0_shape (by decide +kernel)) _
theorem settled_inB (c : Dev nD) (k : ℕ) : Settled (tripLine1 (F := Ideal)) (inB m c k) :=
  settled_after _ (once_of_shape tripLine1_shape (by decide +kernel)) _
theorem settled_nextA (c : Dev nD) (k : ℕ) : Settled (trip0_9 (F := Ideal)) (atA m c (k + 1)) := by
  rw [atA_succ]; exact settled_after _ (once_of_shape trip0_9_shape (by decide +kernel)) _
theorem settled_nextB (c : Dev nD) (k : ℕ) : Settled (trip1_13 (F := Ideal)) (atB m c (k + 1)) := by
  rw [atB_succ]; exact settled_after _ (once_of_shape trip1_13_shape (by decide +kernel)) _

/-- A buffer the condition and the trip's line leave alone. -/
theorem inA_eq (c : Dev nD) (k : ℕ) (b : DevRef τ sig) (h : ((condOps0_keys ++ tripLine0_keys).map Prod.fst).contains (key b) = false) :
    inA m c k b = atA m c k b := by
  have hu := unwritten_of_shape (List.rel_append condOps0_shape tripLine0_shape) h
  rw [inA, after_keep _ _ _ fun o ho => hu o (List.mem_append_right _ ho), after_keep _ _ _ fun o ho => hu o (List.mem_append_left _ ho)]
theorem inB_eq (c : Dev nD) (k : ℕ) (b : DevRef τ sig) (h : ((condOps1_keys ++ tripLine1_keys).map Prod.fst).contains (key b) = false) :
    inB m c k b = atB m c k b := by
  have hu := unwritten_of_shape (List.rel_append condOps1_shape tripLine1_shape) h
  rw [inB, after_keep _ _ _ fun o ho => hu o (List.mem_append_right _ ho), after_keep _ _ _ fun o ho => hu o (List.mem_append_left _ ho)]
theorem nextA_eq (c : Dev nD) (k : ℕ) (b : DevRef τ sig) (h : (trip0_9_keys.map Prod.fst).contains (key b) = false) :
    atA m c (k + 1) b = inA m c k b := by
  rw [atA_succ, after_keep _ _ _ (unwritten_of_shape trip0_9_shape h)]
theorem nextB_eq (c : Dev nD) (k : ℕ) (b : DevRef τ sig) (h : (trip1_13_keys.map Prod.fst).contains (key b) = false) :
    atB m c (k + 1) b = inB m c k b := by
  rw [atB_succ, after_keep _ _ _ (unwritten_of_shape trip1_13_shape h)]

/-- The counters: trip `k` is entered with `k`. -/
theorem ctrA (c : Dev nD) : ∀ k, atA m c k (Proc.devRef .tc main_v52_4) = fun _ => Scf.iv 0#32 1#32 k
  | 0 => by
    rw [show atA m c 0 = entryA m c from rfl, (settled_copyA m c).unary 4 rfl (by decide), entryA_eq m c _ (by decide +kernel),
      (settled_pre m c).nullary 122 rfl, Scf.iv_zero]
    rfl
  | k + 1 => by
    rw [(settled_nextA m c k).unary 0 rfl (by decide), nextA_eq m c k _ (by decide +kernel),
      (settled_inA m c k).binary 41 rfl (by decide), inA_eq m c k _ (by decide +kernel), ctrA c k,
      (settled_inA m c k).nullary 40 rfl, Scf.iv_succ]
    rfl
theorem ctrB (c : Dev nD) : ∀ k, atB m c k (Proc.devRef .tc main_v110_6) = fun _ => Scf.iv 0#32 1#32 k
  | 0 => by
    rw [show atB m c 0 = entryB m c from rfl, (settled_copyB m c).unary 6 rfl (by decide), entryB_eq m c _ (by decide +kernel),
      (settled_mid m c).nullary 87 rfl, Scf.iv_zero]
    rfl
  | k + 1 => by
    rw [(settled_nextB m c k).unary 0 rfl (by decide), nextB_eq m c k _ (by decide +kernel),
      (settled_inB m c k).binary 70 rfl (by decide), inB_eq m c k _ (by decide +kernel), ctrB c k,
      (settled_inB m c k).nullary 69 rfl, Scf.iv_succ]
    rfl

set_option backward.isDefEq.respectTransparency.types false in
theorem condA_spec : CondSpec (pcfgs (F := Ideal)) defs₀ loops (main_while0_cond (F := Ideal)) condOps0 bodyL0 (entryA m) 256 := by
  intro k hk c bd
  have hctr : atTrip condOps0 bodyL0 (entryA m) k c (Proc.devRef .tc main_v52_4) = _ := ctrA m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 bodyL0 (entryA m) k c) main_v52_4 HostLoop.idx0)
        (HloOp.result _ (atTrip condOps0 bodyL0 (entryA m) k c) main_while0c_c_37 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option backward.isDefEq.respectTransparency.types false in
theorem condB_spec : CondSpec (pcfgs (F := Ideal)) defs₀ loops (main_while1_cond (F := Ideal)) condOps1 bodyL1 (entryB m) 256 := by
  intro k hk c bd
  have hctr : atTrip condOps1 bodyL1 (entryB m) k c (Proc.devRef .tc main_v110_6) = _ := ctrB m c k
  unfold main_while1_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 bodyL1 (entryB m) k c) main_v110_6 HostLoop.idx0)
        (HloOp.result _ (atTrip condOps1 bodyL1 (entryB m) k c) main_while1c_c_40 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

/-- Every fair execution of the reference ends with every tensor buffer at `fin`. -/
theorem run (ρ : Dev nD → PrngReg) : θ_run (defs (F := Ideal)) (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  TwoLoops.run_two (pcfgs (F := Ideal)) defs₀ loops main loopA loopB main_while0_cond main_while1_cond main_while0_body main_while1_body
    rfl rfl preL midL postL preL_plain midL_plain postL_plain bodyL0_plain bodyL1_plain
    (fun c => by rw [main_chain]; rfl) (by rw [body0_chain]; rfl) (by rw [body1_chain]; rfl) m ρ (entryA m) (entryB m) rfl rfl
    (condA_spec m) (condB_spec m)

/-- A buffer the program never writes ends as it began. -/
theorem fin_arg (c : Dev nD) (b : DevRef τ sig) (h : ((preLine_keys ++ afterPre_keys).map Prod.fst).contains (key b) = false) :
    fin m c b = m (c, b) := by
  have hu := unwritten_of_shape (List.rel_append preLine_shape afterPre_shape) h
  rw [fin_of_pre fun o ho => hu o (List.mem_append_right _ ho), after_keep _ _ _ fun o ho => hu o (List.mem_append_left _ ho)]

/-- What is read off the run: a program without semaphores ends with none raised. -/
theorem run_read (ρ : Dev nD → PrngReg) {Q : PUnit × MemSt nD τ sig (Elt Ideal) → Prop}
    (h : ∀ r : PUnit × MemSt nD τ sig (Elt Ideal), (∀ (c : Dev nD) (b : Ref sig .tc), (Proc.devRef .tc b : DevRef τ sig).isScoped = false →
      r.2.mem ((c.tc : Thread nD τ).loc b) = fin m c (Proc.devRef .tc b)) → (r.2.sem = fun _ => 0) → Q r) :
    θ_run (defs (F := Ideal)) (onTc (τ := τ) (main (F := Ideal))) ⟨m, fun _ => 0, ρ⟩ Q :=
  Idealize.ShloMosaic.θ_run_mono (run m ρ) fun r hr => h r hr (sem_eq_zero_of_no_sems rfl r.2)

end Cert.ReferenceIdeal.Line

end
-- ==== Proof.RefVal0.lean ====
/-
  What the reference program computes before its first loop, as arrays of real numbers.
-/
module

public import proofs.«01_k».proof.Proof.RefRun
public import proofs.«01_k».proof.Proof.Shapes
@[expose] public section

set_option maxRecDepth 16384

noncomputable section

namespace Cert.ReferenceIdeal.Line

open Idealize.ShloMosaic Idealize.ShloMosaic.TcCoe Idealize.ShloMosaic.StableHlo Cert.Settled Cert.ReferenceIdeal.Gen Cert.Lift Cert

variable {m : (ℓ : Loc nD τ sig) → Buf (Elt Ideal) ℓ}

/-- The arguments hold the real arrays `x`. -/
structure Of (m : (ℓ : Loc nD τ sig) → Buf (Elt Ideal) ℓ) (c : Dev nD) (x : In) : Prop where
  p0 : m (c, Proc.devRef .tc main_arg0) = up2 x.P
  p1 : m (c, Proc.devRef .tc main_arg1) = up2 x.A
  p2 : m (c, Proc.devRef .tc main_arg2) = up2 x.W
  p3 : m (c, Proc.devRef .tc main_arg3) = up2 (fun (_ : Fin 1) j => x.b j)
  p4 : m (c, Proc.devRef .tc main_arg4) = up2 (fun (_ : Fin 1) j => x.g j)
  p5 : m (c, Proc.devRef .tc main_arg5) = up2 x.D

variable {c : Dev nD} {x : In}

theorem Of.arg0 (hx : Of m c x) : fin m c (Proc.devRef .tc main_arg0) = up2 x.P := by rw [fin_arg m c _ (by decide +kernel), hx.p0]
theorem Of.arg1 (hx : Of m c x) : fin m c (Proc.devRef .tc main_arg1) = up2 x.A := by rw [fin_arg m c _ (by decide +kernel), hx.p1]
theorem Of.arg2 (hx : Of m c x) : fin m c (Proc.devRef .tc main_arg2) = up2 x.W := by rw [fin_arg m c _ (by decide +kernel), hx.p2]
theorem Of.arg3 (hx : Of m c x) : fin m c (Proc.devRef .tc main_arg3) = up2 (fun (_ : Fin 1) j => x.b j) := by rw [fin_arg m c _ (by decide +kernel), hx.p3]
theorem Of.arg4 (hx : Of m c x) : fin m c (Proc.devRef .tc main_arg4) = up2 (fun (_ : Fin 1) j => x.g j) := by rw [fin_arg m c _ (by decide +kernel), hx.p4]
theorem Of.arg5 (hx : Of m c x) : fin m c (Proc.devRef .tc main_arg5) = up2 x.D := by rw [fin_arg m c _ (by decide +kernel), hx.p5]

/-- What no trip of a loop writes is in every trip what it was at the entry. -/
theorem inA_held (m : (ℓ : Loc nD τ sig) → Buf (Elt Ideal) ℓ) (c : Dev nD) (k : ℕ) (b : DevRef τ sig)
    (h : ((condOps0_keys ++ (tripLine0_keys ++ trip0_9_keys)).map Prod.fst).contains (key b) = false) : inA m c k b = entryA m c b := by
  have hu := unwritten_of_shape (List.rel_append condOps0_shape (List.rel_append tripLine0_shape trip0_9_shape)) h
  rw [inA, after_keep _ _ _ fun o ho => hu o (List.mem_append_right _ (List.mem_append_left _ ho)), after_keep _ _ _ fun o ho => hu o (List.mem_append_left _ ho), atA,
    atTrip_keep (by rw [bodyL0_flat]; exact hu)]
theorem inB_held (m : (ℓ : Loc nD τ sig) → Buf (Elt Ideal) ℓ) (c : Dev nD) (k : ℕ) (b : DevRef τ sig)
    (h : ((condOps1_keys ++ (tripLine1_keys ++ trip1_13_keys)).map Prod.fst).contains (key b) = false) : inB m c k b = entryB m c b := by
  have hu := unwritten_of_shape (List.rel_append condOps1_shape (List.rel_append tripLine1_shape trip1_13_shape)) h
  rw [inB, after_keep _ _ _ fun o ho => hu o (List.mem_append_right _ (List.mem_append_left _ ho)), after_keep _ _ _ fun o ho => hu o (List.mem_append_left _ ho), atB,
    atTrip_keep (by rw [bodyL1_flat]; exact hu)]

/-- What is not written after a loop ends as the loop's last trip left it. -/
theorem fin_atA (m : (ℓ : Loc nD τ sig) → Buf (Elt Ideal) ℓ) (c : Dev nD) (b : DevRef τ sig)
    (h : (afterA_keys.map Prod.fst).contains (key b) = false) (h' : (condOps0_keys.map Prod.fst).contains (key b) = false) : fin m c b = atA m c 256 b := by
  rw [fin_of_A (unwritten_of_shape afterA_shape h), TwoLoops.Counted.leave, after_keep _ _ _ (unwritten_of_shape condOps0_shape h')]
  rfl
theorem fin_atB (m : (ℓ : Loc nD τ sig) → Buf (Elt Ideal) ℓ) (c : Dev nD) (b : DevRef τ sig)
    (h : (postLine_keys.map Prod.fst).contains (key b) = false) (h' : (condOps1_keys.map Prod.fst).contains (key b) = false) : fin m c b = atB m c 256 b := by
  rw [fin, afterL_eq_after_flatten, postL_flat, after_keep _ _ _ (unwritten_of_shape postLine_shape h), TwoLoops.Counted.leave, after_keep _ _ _ (unwritten_of_shape condOps1_shape h')]
  rfl

/-- The chunk a trip of the reversed loop takes. -/
def rv (n : Fin 256) : Fin 256 := ⟨255 - n.val, by omega⟩
theorem rv_rv (n : Fin 256) : rv (rv n) = n := Fin.ext (by show 255 - (255 - n.val) = n.val; omega)
theorem rv_val {k : ℕ} (h : k < 256) : (⟨k, h⟩ : Fin 256).val = k := rfl

theorem toInt_iv (n : Fin 256) : (Scf.iv 0#32 1#32 n.val).toInt = ((n.val : ℕ) : ℤ) := by
  revert n
  decide +kernel
theorem toInt_rev (n : Fin 256) : ((256#32 - Scf.iv 0#32 1#32 n.val) - 1#32).toInt = (((rv n).val : ℕ) : ℤ) := by
  revert n
  decide +kernel

theorem settled_dsl3 {ops : List (HloOp τ sig (Elt Ideal))} {E : Valuation τ sig (Elt Ideal)} (h : Settled ops E) (i : ℕ) {da db dc : ℕ}
    (a : TRef sig ⟨⟨3, ![da, db, dc]⟩, .f32⟩) (ix : Fin 3 → TRef sig ⟨S_, .i32⟩) (y : TRef sig ⟨⟨3, ![1, db, dc]⟩, .f32⟩) {hz : 0 < S_.numel} {hf} {f : Fin da → Fin db → Fin dc → ℝ} (n : Fin da)
    (hi : ops[i]? = some (TRef.unaryIndexed a ix y (fun u v => Host.dynamicSlice ⟨3, ![1, db, dc]⟩ u (fun k => (v k (Shape.Idx.first hz)).toInt) hf)))
    (hn : (Proc.devRef .tc a.ref : DevRef τ sig) ≠ Proc.devRef .tc y.ref ∧ ∀ k, (Proc.devRef .tc (ix k).ref : DevRef τ sig) ≠ Proc.devRef .tc y.ref)
    (ha : a.ofBuf (E (Proc.devRef .tc a.ref)) = up3 f) (hs : ∀ k j, (((ix k).ofBuf (E (Proc.devRef .tc (ix k).ref)) : S_.Idx → BitVec 32) j).toInt = ((![n.val, 0, 0] : Fin 3 → ℕ) k : ℤ)) :
    y.ofBuf (E (Proc.devRef .tc y.ref)) = up3 (fun (_ : Fin 1) j k => f n j k) := by
  rw [h.unaryIndexed i hi hn, ha]
  exact (cast_cast _ _ _).trans (dsl3 f n _ (fun k => hs k _) hf)

theorem settled_dus3 {ops : List (HloOp τ sig (Elt Ideal))} {E : Valuation τ sig (Elt Ideal)} (h : Settled ops E) (i : ℕ) {da db dc : ℕ}
    (a : TRef sig ⟨⟨3, ![da, db, dc]⟩, .f32⟩) (b : TRef sig ⟨⟨3, ![1, db, dc]⟩, .f32⟩) (ix : Fin 3 → TRef sig ⟨S_, .i32⟩) (y : TRef sig ⟨⟨3, ![da, db, dc]⟩, .f32⟩) {hz : 0 < S_.numel} {hf} {f : Fin da → Fin db → Fin dc → ℝ} {g : Fin 1 → Fin db → Fin dc → ℝ} (n : Fin da)
    (hi : ops[i]? = some (TRef.binaryIndexed a b ix y (fun u w v => Host.dynamicUpdateSlice u w (fun k => (v k (Shape.Idx.first hz)).toInt) hf)))
    (hn : (Proc.devRef .tc a.ref : DevRef τ sig) ≠ Proc.devRef .tc y.ref ∧ (Proc.devRef .tc b.ref : DevRef τ sig) ≠ Proc.devRef .tc y.ref ∧ ∀ k, (Proc.devRef .tc (ix k).ref : DevRef τ sig) ≠ Proc.devRef .tc y.ref)
    (ha : a.ofBuf (E (Proc.devRef .tc a.ref)) = up3 f) (hb : b.ofBuf (E (Proc.devRef .tc b.ref)) = up3 g) (hs : ∀ k j, (((ix k).ofBuf (E (Proc.devRef .tc (ix k).ref)) : S_.Idx → BitVec 32) j).toInt = ((![n.val, 0, 0] : Fin 3 → ℕ) k : ℤ)) :
    y.ofBuf (E (Proc.devRef .tc y.ref)) = up3 (fun i j k => if i = n then g 0 j k else f i j k) := by
  rw [h.binaryIndexed i hi hn, ha, hb]
  exact (cast_cast _ _ _).trans (dus3 f g n _ (fun k => hs k _) hf)

theorem settled_dsl4 {ops : List (HloOp τ sig (Elt Ideal))} {E : Valuation τ sig (Elt Ideal)} (h : Settled ops E) (i : ℕ) {da db dc dd : ℕ}
    (a : TRef sig ⟨⟨4, ![da, db, dc, dd]⟩, .f32⟩) (ix : Fin 4 → TRef sig ⟨S_, .i32⟩) (y : TRef sig ⟨⟨4, ![1, db, dc, dd]⟩, .f32⟩) {hz : 0 < S_.numel} {hf} {f : Fin da → Fin db → Fin dc → Fin dd → ℝ} (n : Fin da)
    (hi : ops[i]? = some (TRef.unaryIndexed a ix y (fun u v => Host.dynamicSlice ⟨4, ![1, db, dc, dd]⟩ u (fun k => (v k (Shape.Idx.first hz)).toInt) hf)))
    (hn : (Proc.devRef .tc a.ref : DevRef τ sig) ≠ Proc.devRef .tc y.ref ∧ ∀ k, (Proc.devRef .tc (ix k).ref : DevRef τ sig) ≠ Proc.devRef .tc y.ref)
    (ha : a.ofBuf (E (Proc.devRef .tc a.ref)) = up4 f) (hs : ∀ k j, (((ix k).ofBuf (E (Proc.devRef .tc (ix k).ref)) : S_.Idx → BitVec 32) j).toInt = ((![n.val, 0, 0, 0] : Fin 4 → ℕ) k : ℤ)) :
    y.ofBuf (E (Proc.devRef .tc y.ref)) = up4 (fun (_ : Fin 1) j k l => f n j k l) := by
  rw [h.unaryIndexed i hi hn, ha]
  exact (cast_cast _ _ _).trans (dsl4 f n _ (fun k => hs k _) hf)

theorem settled_dus4 {ops : List (HloOp τ sig (Elt Ideal))} {E : Valuation τ sig (Elt Ideal)} (h : Settled ops E) (i : ℕ) {da db dc dd : ℕ}
    (a : TRef sig ⟨⟨4, ![da, db, dc, dd]⟩, .f32⟩) (b : TRef sig ⟨⟨4, ![1, db, dc, dd]⟩, .f32⟩) (ix : Fin 4 → TRef sig ⟨S_, .i32⟩) (y : TRef sig ⟨⟨4, ![da, db, dc, dd]⟩, .f32⟩) {hz : 0 < S_.numel} {hf} {f : Fin da → Fin db → Fin dc → Fin dd → ℝ} {g : Fin 1 → Fin db → Fin dc → Fin dd → ℝ} (n : Fin da)
    (hi : ops[i]? = some (TRef.binaryIndexed a b ix y (fun u w v => Host.dynamicUpdateSlice u w (fun k => (v k (Shape.Idx.first hz)).toInt) hf)))
    (hn : (Proc.devRef .tc a.ref : DevRef τ sig) ≠ Proc.devRef .tc y.ref ∧ (Proc.devRef .tc b.ref : DevRef τ sig) ≠ Proc.devRef .tc y.ref ∧ ∀ k, (Proc.devRef .tc (ix k).ref : DevRef τ sig) ≠ Proc.devRef .tc y.ref)
    (ha : a.ofBuf (E (Proc.devRef .tc a.ref)) = up4 f) (hb : b.ofBuf (E (Proc.devRef .tc b.ref)) = up4 g) (hs : ∀ k j, (((ix k).ofBuf (E (Proc.devRef .tc (ix k).ref)) : S_.Idx → BitVec 32) j).toInt = ((![n.val, 0, 0, 0] : Fin 4 → ℕ) k : ℤ)) :
    y.ofBuf (E (Proc.devRef .tc y.ref)) = up4 (fun i j k l => if i = n then g 0 j k l else f i j k l) := by
  rw [h.binaryIndexed i hi hn, ha, hb]
  exact (cast_cast _ _ _).trans (dus4 f g n _ (fun k => hs k _) hf)

theorem t_v0 {m c x} (hx : Of m c x) : fin m c (Proc.devRef .tc main_v0) = up2 (fun (i : Fin 8192) (j : Fin 7680) => x.P i j) := by
  rw [(settled_pre m c).unary 0 rfl (by decide), Of.arg0 hx]
  rfl
theorem t_v1 {m c x} (hx : Of m c x) : fin m c (Proc.devRef .tc main_v1) = up2 (fun (i : Fin 8192) (j : Fin 512) => x.P i (qcol j)) := by
  rw [(settled_pre m c).unary 1 rfl (by decide), t_v0 hx]
  exact sl_8192x7680_8192x512_0_6144 _ _
theorem t_v2 {m c x} (hx : Of m c x) : fin m c (Proc.devRef .tc main_v2) = up2 (fun (i : Fin 8192) (j : Fin 512) => x.P i (kcol j)) := by
  rw [(settled_pre m c).unary 2 rfl (by decide), t_v0 hx]
  exact sl_8192x7680_8192x512_0_6656 _ _
theorem t_v3 {m c x} (hx : Of m c x) : fin m c (Proc.devRef .tc main_v3) = up2 (fun (i : Fin 8192) (j : Fin 1024) => x.P i (vcol j)) := by
  rw [(settled_pre m c).unary 3 rfl (by decide), t_v0 hx]
  exact sl_8192x7680_8192x1024_0_4096 _ _
theorem t_v4 {m c x} (hx : Of m c x) : fin m c (Proc.devRef .tc main_v4) = up2 (fun (i : Fin 8192) (j : Fin 1024) => x.P i (rcol j)) := by
  rw [(settled_pre m c).unary 4 rfl (by decide), t_v0 hx]
  exact sl_8192x7680_8192x1024_0_5120 _ _
theorem t_v5 {m c x} (hx : Of m c x) : fin m c (Proc.devRef .tc main_v5) = up2 (fun (i : Fin 8192) (j : Fin 128) => x.A i j) := by
  rw [(settled_pre m c).unary 5 rfl (by decide), Of.arg1 hx]
  rfl
theorem t_v6 {m c x} (hx : Of m c x) : fin m c (Proc.devRef .tc main_v6) = up2 (fun (i : Fin 128) (j : Fin 512) => x.W i j) := by
  rw [(settled_pre m c).unary 6 rfl (by decide), Of.arg2 hx]
  rfl
theorem t_v7 {m c x} (hx : Of m c x) : fin m c (Proc.devRef .tc main_v7) = up1 (fun (i : Fin 512) => x.b i) := by
  rw [(settled_pre m c).reshape 7 rfl (by decide), Of.arg3 hx]
  exact resh_1x512_512 _ _
theorem t_v8 {m c x} (hx : Of m c x) : fin m c (Proc.devRef .tc main_v8) = up1 (fun (i : Fin 1024) => x.g i) := by
  rw [(settled_pre m c).reshape 8 rfl (by decide), Of.arg4 hx]
  exact resh_1x1024_1024 _ _
def v9 (x : In) (i : Fin 8192) (j : Fin 512) : ℝ := ∑ s : Fin 128, x.A i s * x.W s j
theorem t_v9 {m c x} (hx : Of m c x) : fin m c (Proc.devRef .tc main_v9) = up2 (v9 x) := by
  rw [(settled_pre m c).binary 9 rfl (by decide), t_v5 hx, t_v6 hx]
  exact hdot_S8192x128_S128x512_S8192x512_1_0_0_1_n_n _ _
theorem t_v10 {m c x} (hx : Of m c x) : fin m c (Proc.devRef .tc main_v10) = up2 (fun (i : Fin 1) (j : Fin 512) => x.b j) := by
  rw [(settled_pre m c).unary 10 rfl (by decide), t_v7 hx]
  exact bc_512_1x512_1 _ _
theorem t_v11 {m c x} (hx : Of m c x) : fin m c (Proc.devRef .tc main_v11) = up2 (fun (i : Fin 8192) (j : Fin 512) => x.b j) := by
  rw [(settled_pre m c).unary 11 rfl (by decide), t_v10 hx]
  exact bc_1x512_8192x512_01 _ _
def v12 (x : In) (i : Fin 8192) (j : Fin 512) : ℝ := v9 x i j + x.b j
theorem t_v12 {m c x} (hx : Of m c x) : fin m c (Proc.devRef .tc main_v12) = up2 (v12 x) := by
  rw [(settled_pre m c).binary 12 rfl (by decide), t_v9 hx, t_v11 hx]
  exact add2 _ _
def call0_v0 (x : In) (i : Fin 8192) (j : Fin 512) : ℝ := -(v12 x i j)
theorem t_call0_v0 {m c x} (hx : Of m c x) : fin m c (Proc.devRef .tc main_call0_v0) = up2 (call0_v0 x) := by
  rw [(settled_pre m c).unary 13 rfl (by decide), t_v12 hx]
  exact hneg2 _
theorem t_call0_call0_cst {m c x} (hx : Of m c x) : fin m c (Proc.devRef .tc main_call0_call0_cst) = up0 0 := by
  rw [(settled_pre m c).nullary 14 rfl]
  exact const0 w_zero
theorem t_call0_call0_v0 {m c x} (hx : Of m c x) : fin m c (Proc.devRef .tc main_call0_call0_v0) = up2 (fun (i : Fin 8192) (j : Fin 512) => 0) := by
  rw [(settled_pre m c).unary 15 rfl (by decide), t_call0_call0_cst hx]
  exact bc_u_8192x512_ _ _
def call0_call0_v1 (x : In) (i : Fin 8192) (j : Fin 512) : ℝ := max (call0_v0 x i j) 0
theorem t_call0_call0_v1 {m c x} (hx : Of m c x) : fin m c (Proc.devRef .tc main_call0_call0_v1) = up2 (call0_call0_v1 x) := by
  rw [(settled_pre m c).binary 16 rfl (by decide), t_call0_v0 hx, t_call0_call0_v0 hx]
  exact max2 _ _
theorem t_call0_call0_v2 {m c x} (hx : Of m c x) : fin m c (Proc.devRef .tc main_call0_call0_v2) = up2 (fun (i : Fin 8192) (j : Fin 512) => 0) := by
  rw [(settled_pre m c).unary 17 rfl (by decide), t_call0_call0_cst hx]
  exact bc_u_8192x512_ _ _
def call0_call0_v3 (x : In) (i : Fin 8192) (j : Fin 512) : ℝ := call0_v0 x i j - 0
theorem t_call0_call0_v3 {m c x} (hx : Of m c x) : fin m c (Proc.devRef .tc main_call0_call0_v3) = up2 (call0_call0_v3 x) := by
  rw [(settled_pre m c).binary 18 rfl (by decide), t_call0_v0 hx, t_call0_call0_v2 hx]
  exact sub2 _ _
theorem t_call0_call0_v4 {m c x} (hx : Of m c x) : fin m c (Proc.devRef .tc main_call0_call0_v4) = fun _ => 0#1 := by
  rw [(settled_pre m c).binary 19 rfl (by decide), t_call0_call0_v3 hx]
  exact une_self2 _
theorem t_call0_call0_v5 {m c x} (hx : Of m c x) : fin m c (Proc.devRef .tc main_call0_call0_v5) = up2 (fun (i : Fin 8192) (j : Fin 512) => 0) := by
  rw [(settled_pre m c).unary 20 rfl (by decide), t_call0_call0_cst hx]
  exact bc_u_8192x512_ _ _
def call0_call0_v6 (x : In) (i : Fin 8192) (j : Fin 512) : ℝ := call0_v0 x i j + 0
theorem t_call0_call0_v6 {m c x} (hx : Of m c x) : fin m c (Proc.devRef .tc main_call0_call0_v6) = up2 (call0_call0_v6 x) := by
  rw [(settled_pre m c).binary 21 rfl (by decide), t_call0_v0 hx, t_call0_call0_v5 hx]
  exact add2 _ _
def call0_call0_v7 (x : In) (i : Fin 8192) (j : Fin 512) : ℝ := |call0_call0_v3 x i j|
theorem t_call0_call0_v7 {m c x} (hx : Of m c x) : fin m c (Proc.devRef .tc main_call0_call0_v7) = up2 (call0_call0_v7 x) := by
  rw [(settled_pre m c).unary 22 rfl (by decide), t_call0_call0_v3 hx]
  exact habs2 _
def call0_call0_v8 (x : In) (i : Fin 8192) (j : Fin 512) : ℝ := -(call0_call0_v7 x i j)
theorem t_call0_call0_v8 {m c x} (hx : Of m c x) : fin m c (Proc.devRef .tc main_call0_call0_v8) = up2 (call0_call0_v8 x) := by
  rw [(settled_pre m c).unary 23 rfl (by decide), t_call0_call0_v7 hx]
  exact hneg2 _
def call0_call0_v9 (x : In) (i : Fin 8192) (j : Fin 512) : ℝ := Real.exp (call0_call0_v8 x i j)
theorem t_call0_call0_v9 {m c x} (hx : Of m c x) : fin m c (Proc.devRef .tc main_call0_call0_v9) = up2 (call0_call0_v9 x) := by
  rw [(settled_pre m c).unary 24 rfl (by decide), t_call0_call0_v8 hx]
  exact hexp2 _
def call0_call0_v10 (x : In) (i : Fin 8192) (j : Fin 512) : ℝ := Real.log (1 + (call0_call0_v9 x i j))
theorem t_call0_call0_v10 {m c x} (hx : Of m c x) : fin m c (Proc.devRef .tc main_call0_call0_v10) = up2 (call0_call0_v10 x) := by
  rw [(settled_pre m c).unary 25 rfl (by decide), t_call0_call0_v9 hx]
  exact hlog1p2 _ (fun i j => add_pos one_pos (Real.exp_pos _))
def call0_call0_v11 (x : In) (i : Fin 8192) (j : Fin 512) : ℝ := call0_call0_v1 x i j + call0_call0_v10 x i j
theorem t_call0_call0_v11 {m c x} (hx : Of m c x) : fin m c (Proc.devRef .tc main_call0_call0_v11) = up2 (call0_call0_v11 x) := by
  rw [(settled_pre m c).binary 26 rfl (by decide), t_call0_call0_v1 hx, t_call0_call0_v10 hx]
  exact add2 _ _
theorem t_call0_v1_0 {m c x} (hx : Of m c x) : fin m c (Proc.devRef .tc main_call0_v1_0) = up2 (fun (i : Fin 8192) (j : Fin 512) => call0_call0_v11 x i j) := by
  rw [(settled_pre m c).ternary 27 rfl (by decide), t_call0_call0_v4 hx, t_call0_call0_v6 hx, t_call0_call0_v11 hx]
  exact sel_none _ _
theorem t_call0_call0_cst_0 {m c x} (hx : Of m c x) : fin m c (Proc.devRef .tc main_call0_call0_cst_0) = fun _ => (⊤ : EReal) := by
  rw [(settled_pre m c).nullary 28 rfl]
  exact funext fun _ => w_inf
theorem t_call0_call0_v13 {m c x} (hx : Of m c x) : fin m c (Proc.devRef .tc main_call0_call0_v13) = fun _ => (⊤ : EReal) := by
  rw [(settled_pre m c).unary 29 rfl (by decide), t_call0_call0_cst_0 hx]
  rfl
theorem t_call0_call0_v14 {m c x} (hx : Of m c x) : fin m c (Proc.devRef .tc main_call0_call0_v14) = fun _ => 0#1 := by
  rw [(settled_pre m c).binary 30 rfl (by decide), t_call0_v0 hx, t_call0_call0_v13 hx]
  exact oeq_inf2 _ _ fun _ => rfl
theorem t_call0_call0_cst_1 {m c x} (hx : Of m c x) : fin m c (Proc.devRef .tc main_call0_call0_cst_1) = up0 0 := by
  rw [(settled_pre m c).nullary 31 rfl]
  exact const0 w_zero
theorem t_call0_call0_v15 {m c x} (hx : Of m c x) : fin m c (Proc.devRef .tc main_call0_call0_v15) = up2 (fun (i : Fin 8192) (j : Fin 512) => 0) := by
  rw [(settled_pre m c).unary 32 rfl (by decide), t_call0_call0_cst_1 hx]
  exact bc_u_8192x512_ _ _
theorem t_call0_call0_v16 {m c x} (hx : Of m c x) : fin m c (Proc.devRef .tc main_call0_call0_v16) = up2 (fun (i : Fin 8192) (j : Fin 512) => call0_v0 x i j) := by
  rw [(settled_pre m c).ternary 33 rfl (by decide), t_call0_call0_v14 hx, t_call0_call0_v15 hx, t_call0_v0 hx]
  exact sel_none _ _
theorem t_call0_call0_cst_2 {m c x} (hx : Of m c x) : fin m c (Proc.devRef .tc main_call0_call0_cst_2) = fun _ => (⊤ : EReal) := by
  rw [(settled_pre m c).nullary 34 rfl]
  exact funext fun _ => w_inf
theorem t_call0_call0_v17 {m c x} (hx : Of m c x) : fin m c (Proc.devRef .tc main_call0_call0_v17) = fun _ => (⊤ : EReal) := by
  rw [(settled_pre m c).unary 35 rfl (by decide), t_call0_call0_cst_2 hx]
  rfl
theorem t_call0_call0_v18 {m c x} (hx : Of m c x) : fin m c (Proc.devRef .tc main_call0_call0_v18) = fun _ => 0#1 := by
  rw [(settled_pre m c).binary 36 rfl (by decide), t_call0_v1_0 hx, t_call0_call0_v17 hx]
  exact oeq_inf2 _ _ fun _ => rfl
theorem t_call0_call0_cst_3 {m c x} (hx : Of m c x) : fin m c (Proc.devRef .tc main_call0_call0_cst_3) = up0 0 := by
  rw [(settled_pre m c).nullary 37 rfl]
  exact const0 w_zero
theorem t_call0_call0_v19 {m c x} (hx : Of m c x) : fin m c (Proc.devRef .tc main_call0_call0_v19) = up2 (fun (i : Fin 8192) (j : Fin 512) => 0) := by
  rw [(settled_pre m c).unary 38 rfl (by decide), t_call0_call0_cst_3 hx]
  exact bc_u_8192x512_ _ _
theorem t_call0_call0_v20 {m c x} (hx : Of m c x) : fin m c (Proc.devRef .tc main_call0_call0_v20) = up2 (fun (i : Fin 8192) (j : Fin 512) => call0_call0_v11 x i j) := by
  rw [(settled_pre m c).ternary 39 rfl (by decide), t_call0_call0_v18 hx, t_call0_call0_v19 hx, t_call0_v1_0 hx]
  exact sel_none _ _
def call0_call0_v21 (x : In) (i : Fin 8192) (j : Fin 512) : ℝ := call0_v0 x i j - call0_call0_v11 x i j
theorem t_call0_call0_v21 {m c x} (hx : Of m c x) : fin m c (Proc.devRef .tc main_call0_call0_v21) = up2 (call0_call0_v21 x) := by
  rw [(settled_pre m c).binary 40 rfl (by decide), t_call0_call0_v16 hx, t_call0_call0_v20 hx]
  exact sub2 _ _
def v13_1 (x : In) (i : Fin 8192) (j : Fin 512) : ℝ := Real.exp (call0_call0_v21 x i j)
theorem t_v13_1 {m c x} (hx : Of m c x) : fin m c (Proc.devRef .tc main_v13_1) = up2 (v13_1 x) := by
  rw [(settled_pre m c).unary 41 rfl (by decide), t_call0_call0_v21 hx]
  exact hexp2 _
def v13_0 (x : In) (i : Fin 8192) (j : Fin 512) : ℝ := -(call0_call0_v11 x i j)
theorem t_v13_0 {m c x} (hx : Of m c x) : fin m c (Proc.devRef .tc main_v13_0) = up2 (v13_0 x) := by
  rw [(settled_pre m c).unary 60 rfl (by decide), t_call0_v1_0 hx]
  exact hneg2 _
theorem t_cst {m c x} (hx : Of m c x) : fin m c (Proc.devRef .tc main_cst) = up0 16 := by
  rw [(settled_pre m c).nullary 61 rfl]
  exact const0 w_16
theorem t_v14 {m c x} (hx : Of m c x) : fin m c (Proc.devRef .tc main_v14) = up2 (fun (i : Fin 8192) (j : Fin 512) => 16) := by
  rw [(settled_pre m c).unary 62 rfl (by decide), t_cst hx]
  exact bc_u_8192x512_ _ _
def v15 (x : In) (i : Fin 8192) (j : Fin 512) : ℝ := v13_0 x i j / 16
theorem t_v15 {m c x} (hx : Of m c x) : fin m c (Proc.devRef .tc main_v15) = up2 (v15 x) := by
  rw [(settled_pre m c).binary 63 rfl (by decide), t_v13_0 hx, t_v14 hx]
  exact hdiv2 _ _ (fun _ _ => by norm_num)
theorem t_v16 {m c x} (hx : Of m c x) : fin m c (Proc.devRef .tc main_v16) = up4 (fun (i : Fin 256) (j : Fin 32) (k : Fin 4) (l : Fin 128) => x.P (row i j) (qcol (colK k l))) := by
  rw [(settled_pre m c).reshape 64 rfl (by decide), t_v1 hx]
  exact resh_8192x512_256x32x4x128 _ _
theorem t_v17 {m c x} (hx : Of m c x) : fin m c (Proc.devRef .tc main_v17) = up4 (fun (i : Fin 4) (j : Fin 256) (k : Fin 32) (l : Fin 128) => x.P (row j k) (qcol (colK i l))) := by
  rw [(settled_pre m c).unary 65 rfl (by decide), t_v16 hx]
  exact tr_256x32x4x128_2013 _ _
theorem t_cst_0 {m c x} (hx : Of m c x) : fin m c (Proc.devRef .tc main_cst_0) = up0 sc := by
  rw [(settled_pre m c).nullary 66 rfl]
  exact const0 w_sc
theorem t_v18 {m c x} (hx : Of m c x) : fin m c (Proc.devRef .tc main_v18) = up4 (fun (i : Fin 4) (j : Fin 256) (k : Fin 32) (l : Fin 128) => sc) := by
  rw [(settled_pre m c).unary 67 rfl (by decide), t_cst_0 hx]
  exact bc_u_4x256x32x128_ _ _
def v19 (x : In) (i : Fin 4) (j : Fin 256) (k : Fin 32) (l : Fin 128) : ℝ := (x.P (row j k) (qcol (colK i l))) * sc
theorem t_v19 {m c x} (hx : Of m c x) : fin m c (Proc.devRef .tc main_v19) = up4 (v19 x) := by
  rw [(settled_pre m c).binary 68 rfl (by decide), t_v17 hx, t_v18 hx]
  exact mul4 _ _
theorem t_v20 {m c x} (hx : Of m c x) : fin m c (Proc.devRef .tc main_v20) = up4 (fun (i : Fin 256) (j : Fin 32) (k : Fin 4) (l : Fin 128) => x.P (row i j) (kcol (colK k l))) := by
  rw [(settled_pre m c).reshape 69 rfl (by decide), t_v2 hx]
  exact resh_8192x512_256x32x4x128 _ _
theorem t_v21 {m c x} (hx : Of m c x) : fin m c (Proc.devRef .tc main_v21) = up4 (fun (i : Fin 4) (j : Fin 256) (k : Fin 32) (l : Fin 128) => x.P (row j k) (kcol (colK i l))) := by
  rw [(settled_pre m c).unary 70 rfl (by decide), t_v20 hx]
  exact tr_256x32x4x128_2013 _ _
theorem t_v22 {m c x} (hx : Of m c x) : fin m c (Proc.devRef .tc main_v22) = up4 (fun (i : Fin 256) (j : Fin 32) (k : Fin 4) (l : Fin 256) => x.P (row i j) (vcol (colV k l))) := by
  rw [(settled_pre m c).reshape 71 rfl (by decide), t_v3 hx]
  exact resh_8192x1024_256x32x4x256 _ _
theorem t_v23 {m c x} (hx : Of m c x) : fin m c (Proc.devRef .tc main_v23) = up4 (fun (i : Fin 4) (j : Fin 256) (k : Fin 32) (l : Fin 256) => x.P (row j k) (vcol (colV i l))) := by
  rw [(settled_pre m c).unary 72 rfl (by decide), t_v22 hx]
  exact tr_256x32x4x256_2013 _ _
theorem t_v24 {m c x} (hx : Of m c x) : fin m c (Proc.devRef .tc main_v24) = up4 (fun (i : Fin 256) (j : Fin 32) (k : Fin 4) (l : Fin 128) => v15 x (row i j) (colK k l)) := by
  rw [(settled_pre m c).reshape 73 rfl (by decide), t_v15 hx]
  exact resh_8192x512_256x32x4x128 _ _
theorem t_v25 {m c x} (hx : Of m c x) : fin m c (Proc.devRef .tc main_v25) = up4 (fun (i : Fin 4) (j : Fin 256) (k : Fin 32) (l : Fin 128) => v15 x (row j k) (colK i l)) := by
  rw [(settled_pre m c).unary 74 rfl (by decide), t_v24 hx]
  exact tr_256x32x4x128_2013 _ _
theorem t_call1_call0_cst {m c x} (hx : Of m c x) : fin m c (Proc.devRef .tc main_call1_call0_cst) = up0 0 := by
  rw [(settled_pre m c).nullary 75 rfl]
  exact const0 w_zero
theorem t_call1_call0_v0 {m c x} (hx : Of m c x) : fin m c (Proc.devRef .tc main_call1_call0_v0) = up0 0 := by
  rw [(settled_pre m c).unary 76 rfl (by decide), t_call1_call0_cst hx]
  exact bc_u_u_ _ _
def v26 (x : In) (i : Fin 4) (j : Fin 256) (k : Fin 32) (l : Fin 128) : ℝ := ∑ s : Fin 32, if s ≤ k then v15 x (row j s) (colK i l) else 0
theorem t_v26 {m c x} (hx : Of m c x) : fin m c (Proc.devRef .tc main_v26) = up4 (v26 x) := by
  rw [(settled_pre m c).binary 77 rfl (by decide), t_v25 hx, t_call1_call0_v0 hx]
  exact cum4 rfl _ _ _
theorem t_v27 {m c x} (hx : Of m c x) : fin m c (Proc.devRef .tc main_v27) = up4 (fun (i : Fin 4) (j : Fin 256) (k : Fin 1) (l : Fin 128) => v26 x i j 31 l) := by
  rw [(settled_pre m c).unary 78 rfl (by decide), t_v26 hx]
  exact sl_4x256x32x128_4x256x1x128_0_0_31_0 _ _
def v28 (x : In) (i : Fin 4) (j : Fin 256) (k : Fin 32) (l : Fin 128) : ℝ := Real.exp (v26 x i j k l)
theorem t_v28 {m c x} (hx : Of m c x) : fin m c (Proc.devRef .tc main_v28) = up4 (v28 x) := by
  rw [(settled_pre m c).unary 79 rfl (by decide), t_v26 hx]
  exact hexp4 _
def v29 (x : In) (i : Fin 4) (j : Fin 256) (k : Fin 32) (l : Fin 128) : ℝ := v19 x i j k l * v28 x i j k l
theorem t_v29 {m c x} (hx : Of m c x) : fin m c (Proc.devRef .tc main_v29) = up4 (v29 x) := by
  rw [(settled_pre m c).binary 80 rfl (by decide), t_v19 hx, t_v28 hx]
  exact mul4 _ _
def v30 (x : In) (i : Fin 4) (j : Fin 256) (k : Fin 32) (l : Fin 128) : ℝ := -(v26 x i j k l)
theorem t_v30 {m c x} (hx : Of m c x) : fin m c (Proc.devRef .tc main_v30) = up4 (v30 x) := by
  rw [(settled_pre m c).unary 81 rfl (by decide), t_v26 hx]
  exact hneg4 _
def v31 (x : In) (i : Fin 4) (j : Fin 256) (k : Fin 32) (l : Fin 128) : ℝ := Real.exp (v30 x i j k l)
theorem t_v31 {m c x} (hx : Of m c x) : fin m c (Proc.devRef .tc main_v31) = up4 (v31 x) := by
  rw [(settled_pre m c).unary 82 rfl (by decide), t_v30 hx]
  exact hexp4 _
def v32 (x : In) (i : Fin 4) (j : Fin 256) (k : Fin 32) (l : Fin 128) : ℝ := (x.P (row j k) (kcol (colK i l))) * v31 x i j k l
theorem t_v32 {m c x} (hx : Of m c x) : fin m c (Proc.devRef .tc main_v32) = up4 (v32 x) := by
  rw [(settled_pre m c).binary 83 rfl (by decide), t_v21 hx, t_v31 hx]
  exact mul4 _ _
theorem t_v33 {m c x} (hx : Of m c x) : fin m c (Proc.devRef .tc main_v33) = up4 (fun (i : Fin 4) (j : Fin 256) (k : Fin 32) (l : Fin 128) => v26 x i j 31 l) := by
  rw [(settled_pre m c).unary 84 rfl (by decide), t_v27 hx]
  exact bc_4x256x1x128_4x256x32x128_0123 _ _
def v34 (x : In) (i : Fin 4) (j : Fin 256) (k : Fin 32) (l : Fin 128) : ℝ := v26 x i j 31 l - v26 x i j k l
theorem t_v34 {m c x} (hx : Of m c x) : fin m c (Proc.devRef .tc main_v34) = up4 (v34 x) := by
  rw [(settled_pre m c).binary 85 rfl (by decide), t_v33 hx, t_v26 hx]
  exact sub4 _ _
def v35 (x : In) (i : Fin 4) (j : Fin 256) (k : Fin 32) (l : Fin 128) : ℝ := Real.exp (v34 x i j k l)
theorem t_v35 {m c x} (hx : Of m c x) : fin m c (Proc.devRef .tc main_v35) = up4 (v35 x) := by
  rw [(settled_pre m c).unary 86 rfl (by decide), t_v34 hx]
  exact hexp4 _
def v36 (x : In) (i : Fin 4) (j : Fin 256) (k : Fin 32) (l : Fin 128) : ℝ := (x.P (row j k) (kcol (colK i l))) * v35 x i j k l
theorem t_v36 {m c x} (hx : Of m c x) : fin m c (Proc.devRef .tc main_v36) = up4 (v36 x) := by
  rw [(settled_pre m c).binary 87 rfl (by decide), t_v21 hx, t_v35 hx]
  exact mul4 _ _
theorem t_v38 {m c x} (hx : Of m c x) : fin m c (Proc.devRef .tc main_v38) = fun x => BitVec.ofBool (decide (x 1 ≤ x 0)) := by
  rw [(settled_pre m c).ternary 98 rfl (by decide), (settled_pre m c).binary 95 rfl (by decide), (settled_pre m c).unary 89 rfl (by decide), (settled_pre m c).unary 97 rfl (by decide), (settled_pre m c).nullary 96 rfl, (settled_pre m c).binary 93 rfl (by decide), (settled_pre m c).nullary 94 rfl, (settled_pre m c).nullary 90 rfl, (settled_pre m c).unary 92 rfl (by decide), (settled_pre m c).nullary 91 rfl, (settled_pre m c).nullary 88 rfl]
  exact tri32
def v39 (x : In) (i : Fin 4) (j : Fin 256) (k : Fin 32) (l : Fin 32) : ℝ := ∑ s : Fin 128, v29 x i j k s * v32 x i j l s
theorem t_v39 {m c x} (hx : Of m c x) : fin m c (Proc.devRef .tc main_v39) = up4 (v39 x) := by
  rw [(settled_pre m c).binary 99 rfl (by decide), t_v29 hx, t_v32 hx]
  exact hdot_S4x256x32x128_S4x256x32x128_S4x256x32x32_3_3_2_2_01_01 _ _
theorem t_cst_1 {m c x} (hx : Of m c x) : fin m c (Proc.devRef .tc main_cst_1) = up0 0 := by
  rw [(settled_pre m c).nullary 100 rfl]
  exact const0 w_zero
theorem t_call3_v0 {m c x} (hx : Of m c x) : fin m c (Proc.devRef .tc main_call3_v0) = up0 0 := by
  rw [(settled_pre m c).unary 101 rfl (by decide), t_cst_1 hx]
  rfl
theorem t_v40_1 {m c x} (hx : Of m c x) : fin m c (Proc.devRef .tc main_v40_1) = fun x => BitVec.ofBool (low4 (x 0) (x 1) (x 2) (x 3)) := by
  rw [(settled_pre m c).unary 102 rfl (by decide), t_v38 hx]
  rfl
theorem t_call3_v2 {m c x} (hx : Of m c x) : fin m c (Proc.devRef .tc main_call3_v2) = up4 (fun (i : Fin 4) (j : Fin 256) (k : Fin 32) (l : Fin 32) => 0) := by
  rw [(settled_pre m c).unary 103 rfl (by decide), t_call3_v0 hx]
  exact bc_u_4x256x32x32_ _ _
def v40_0 (x : In) (i : Fin 4) (j : Fin 256) (k : Fin 32) (l : Fin 32) : ℝ := if low4 i j k l then v39 x i j k l else 0
theorem t_v40_0 {m c x} (hx : Of m c x) : fin m c (Proc.devRef .tc main_v40_0) = up4 (v40_0 x) := by
  rw [(settled_pre m c).ternary 104 rfl (by decide), t_v40_1 hx, t_v39 hx, t_call3_v2 hx]
  exact sel4 low4 _ _
def v41 (x : In) (i : Fin 4) (j : Fin 256) (k : Fin 32) (l : Fin 256) : ℝ := ∑ s : Fin 32, v40_0 x i j k s * (x.P (row j s) (vcol (colV i l)))
theorem t_v41 {m c x} (hx : Of m c x) : fin m c (Proc.devRef .tc main_v41) = up4 (v41 x) := by
  rw [(settled_pre m c).binary 107 rfl (by decide), t_v40_0 hx, t_v23 hx]
  exact hdot_S4x256x32x32_S4x256x32x256_S4x256x32x256_3_2_2_3_01_01 _ _
theorem t_v42 {m c x} (hx : Of m c x) : fin m c (Proc.devRef .tc main_v42) = up4 (fun (i : Fin 256) (j : Fin 4) (k : Fin 32) (l : Fin 128) => v29 x j i k l) := by
  rw [(settled_pre m c).unary 108 rfl (by decide), t_v29 hx]
  exact tr_4x256x32x128_1023 _ _
theorem t_v43 {m c x} (hx : Of m c x) : fin m c (Proc.devRef .tc main_v43) = up4 (fun (i : Fin 256) (j : Fin 4) (k : Fin 32) (l : Fin 128) => v36 x j i k l) := by
  rw [(settled_pre m c).unary 109 rfl (by decide), t_v36 hx]
  exact tr_4x256x32x128_1023 _ _
theorem t_v44 {m c x} (hx : Of m c x) : fin m c (Proc.devRef .tc main_v44) = up4 (fun (i : Fin 256) (j : Fin 4) (k : Fin 32) (l : Fin 256) => x.P (row i k) (vcol (colV j l))) := by
  rw [(settled_pre m c).unary 110 rfl (by decide), t_v23 hx]
  exact tr_4x256x32x256_1023 _ _
theorem t_v45 {m c x} (hx : Of m c x) : fin m c (Proc.devRef .tc main_v45) = up3 (fun (i : Fin 4) (j : Fin 256) (k : Fin 128) => v26 x i j 31 k) := by
  rw [(settled_pre m c).reshape 111 rfl (by decide), t_v27 hx]
  exact resh_4x256x1x128_4x256x128 _ _
def v46 (x : In) (i : Fin 4) (j : Fin 256) (k : Fin 128) : ℝ := Real.exp (v26 x i j 31 k)
theorem t_v46 {m c x} (hx : Of m c x) : fin m c (Proc.devRef .tc main_v46) = up3 (v46 x) := by
  rw [(settled_pre m c).unary 112 rfl (by decide), t_v45 hx]
  exact hexp3 _
theorem t_v47 {m c x} (hx : Of m c x) : fin m c (Proc.devRef .tc main_v47) = up3 (fun (i : Fin 256) (j : Fin 4) (k : Fin 128) => v46 x j i k) := by
  rw [(settled_pre m c).unary 113 rfl (by decide), t_v46 hx]
  exact tr_4x256x128_102 _ _
theorem t_cst_2 {m c x} (hx : Of m c x) : fin m c (Proc.devRef .tc main_cst_2) = up0 0 := by
  rw [(settled_pre m c).nullary 114 rfl]
  exact const0 w_zero
theorem t_v48 {m c x} (hx : Of m c x) : fin m c (Proc.devRef .tc main_v48) = up3 (fun (i : Fin 4) (j : Fin 128) (k : Fin 256) => 0) := by
  rw [(settled_pre m c).unary 115 rfl (by decide), t_cst_2 hx]
  exact bc_u_4x128x256_ _ _
theorem t_cst_3 {m c x} (hx : Of m c x) : fin m c (Proc.devRef .tc main_cst_3) = up0 0 := by
  rw [(settled_pre m c).nullary 116 rfl]
  exact const0 w_zero
theorem t_v49 {m c x} (hx : Of m c x) : fin m c (Proc.devRef .tc main_v49) = up4 (fun (i : Fin 256) (j : Fin 4) (k : Fin 32) (l : Fin 256) => 0) := by
  rw [(settled_pre m c).unary 117 rfl (by decide), t_cst_3 hx]
  exact bc_u_256x4x32x256_ _ _
theorem t_cst_4 {m c x} (hx : Of m c x) : fin m c (Proc.devRef .tc main_cst_4) = up0 0 := by
  rw [(settled_pre m c).nullary 118 rfl]
  exact const0 w_zero
theorem t_v50 {m c x} (hx : Of m c x) : fin m c (Proc.devRef .tc main_v50) = up4 (fun (i : Fin 256) (j : Fin 4) (k : Fin 128) (l : Fin 256) => 0) := by
  rw [(settled_pre m c).unary 119 rfl (by decide), t_cst_4 hx]
  exact bc_u_256x4x128x256_ _ _
theorem t_cst_5 {m c x} (hx : Of m c x) : fin m c (Proc.devRef .tc main_cst_5) = up0 0 := by
  rw [(settled_pre m c).nullary 120 rfl]
  exact const0 w_zero
theorem t_v51 {m c x} (hx : Of m c x) : fin m c (Proc.devRef .tc main_v51) = up4 (fun (i : Fin 256) (j : Fin 4) (k : Fin 128) (l : Fin 1) => 0) := by
  rw [(settled_pre m c).unary 121 rfl (by decide), t_cst_5 hx]
  exact bc_u_256x4x128x1_ _ _

end Cert.ReferenceIdeal.Line

end
-- ==== Proof.RefVal1.lean ====
/-
  The reference program's first loop: the state before each chunk and what is saved of it.
-/
module

public import proofs.«01_k».proof.Proof.RefVal0
@[expose] public section

set_option maxRecDepth 16384

noncomputable section

namespace Cert.ReferenceIdeal.Line

open Idealize.ShloMosaic Idealize.ShloMosaic.TcCoe Idealize.ShloMosaic.StableHlo Cert.Settled Cert.ReferenceIdeal.Gen Cert.Lift Cert

theorem i_v52_0 {m c x} (hx : Of m c x) (k : ℕ) : inA m c k (Proc.devRef .tc main_v52_0) = up4 (fun (i : Fin 256) (j : Fin 4) (k : Fin 32) (l : Fin 128) => v29 x j i k l) := by
  rw [inA_held m c k _ (by decide +kernel), (settled_copyA m c).unary 0 rfl (by decide), entryA_eq m c _ (by decide +kernel), t_v42 hx]
  rfl
theorem i_v52_1 {m c x} (hx : Of m c x) (k : ℕ) : inA m c k (Proc.devRef .tc main_v52_1) = up4 (fun (i : Fin 256) (j : Fin 4) (k : Fin 32) (l : Fin 128) => v36 x j i k l) := by
  rw [inA_held m c k _ (by decide +kernel), (settled_copyA m c).unary 1 rfl (by decide), entryA_eq m c _ (by decide +kernel), t_v43 hx]
  rfl
theorem i_v52_2 {m c x} (hx : Of m c x) (k : ℕ) : inA m c k (Proc.devRef .tc main_v52_2) = up4 (fun (i : Fin 256) (j : Fin 4) (k : Fin 32) (l : Fin 256) => x.P (row i k) (vcol (colV j l))) := by
  rw [inA_held m c k _ (by decide +kernel), (settled_copyA m c).unary 2 rfl (by decide), entryA_eq m c _ (by decide +kernel), t_v44 hx]
  rfl
theorem i_v52_3 {m c x} (hx : Of m c x) (k : ℕ) : inA m c k (Proc.devRef .tc main_v52_3) = up3 (fun (i : Fin 256) (j : Fin 4) (k : Fin 128) => v46 x j i k) := by
  rw [inA_held m c k _ (by decide +kernel), (settled_copyA m c).unary 3 rfl (by decide), entryA_eq m c _ (by decide +kernel), t_v47 hx]
  rfl
theorem i_v52_4 {m c x} (hx : Of m c x) (n : Fin 256) (j : S_.Idx) : (inA m c n.val (Proc.devRef .tc main_v52_4) j).toInt = ((n.val : ℕ) : ℤ) := by
  rw [inA_eq m c _ _ (by decide +kernel), ctrA m c]
  exact toInt_iv n
theorem i_v52_5 {m c x} (hx : Of m c x) (n : Fin 256) {S : Fin 4 → Fin 128 → Fin 256 → ℝ} (hS : atA m c n.val (Proc.devRef .tc main_v52_5) = up3 S) :
    inA m c n.val (Proc.devRef .tc main_v52_5) = up3 S := by
  rw [inA_eq m c _ _ (by decide +kernel), hS]
theorem st_A {m c x} (hx : Of m c x) (n : Fin 256) {j : S_.Idx} : (inA m c n.val (Proc.devRef .tc main_v52_4) j).toInt = ((n.val : ℕ) : ℤ) := i_v52_4 hx n j
theorem t_while0b_call4_v0 {m c x} (hx : Of m c x) (n : Fin 256) {S : Fin 4 → Fin 128 → Fin 256 → ℝ} (hS : atA m c n.val (Proc.devRef .tc main_v52_5) = up3 S) : inA m c n.val (Proc.devRef .tc main_while0b_call4_v0) = up4 (fun (i : Fin 1) (j : Fin 4) (k : Fin 32) (l : Fin 128) => v29 x j n k l) := by
  exact settled_dsl4 (settled_inA m c n.val) 3 (da := 256) (db := 4) (dc := 32) (dd := 128) (.of main_v52_0) ![.of main_v52_4, .of main_while0b_call4_c, .of main_while0b_call4_c_0, .of main_while0b_call4_c_1] (.of main_while0b_call4_v0) n rfl (by decide) (i_v52_0 hx n.val) (fun k j => by
    match k with | ⟨0, _⟩ => exact st_A hx n (j := j) | ⟨1, _⟩ => exact congrArg BitVec.toInt (congrFun ((settled_inA m c n.val).nullary 0 rfl) j) | ⟨2, _⟩ => exact congrArg BitVec.toInt (congrFun ((settled_inA m c n.val).nullary 1 rfl) j) | ⟨3, _⟩ => exact congrArg BitVec.toInt (congrFun ((settled_inA m c n.val).nullary 2 rfl) j))
theorem t_while0b_v171 {m c x} (hx : Of m c x) (n : Fin 256) {S : Fin 4 → Fin 128 → Fin 256 → ℝ} (hS : atA m c n.val (Proc.devRef .tc main_v52_5) = up3 S) : inA m c n.val (Proc.devRef .tc main_while0b_v171) = up3 (fun (i : Fin 4) (j : Fin 32) (k : Fin 128) => v29 x i n j k) := by
  rw [(settled_inA m c n.val).reshape 4 rfl (by decide), t_while0b_call4_v0 hx n hS]
  exact resh_1x4x32x128_4x32x128 _ _
theorem t_while0b_call5_v0 {m c x} (hx : Of m c x) (n : Fin 256) {S : Fin 4 → Fin 128 → Fin 256 → ℝ} (hS : atA m c n.val (Proc.devRef .tc main_v52_5) = up3 S) : inA m c n.val (Proc.devRef .tc main_while0b_call5_v0) = up4 (fun (i : Fin 1) (j : Fin 4) (k : Fin 32) (l : Fin 128) => v36 x j n k l) := by
  exact settled_dsl4 (settled_inA m c n.val) 8 (da := 256) (db := 4) (dc := 32) (dd := 128) (.of main_v52_1) ![.of main_v52_4, .of main_while0b_call5_c, .of main_while0b_call5_c_0, .of main_while0b_call5_c_1] (.of main_while0b_call5_v0) n rfl (by decide) (i_v52_1 hx n.val) (fun k j => by
    match k with | ⟨0, _⟩ => exact st_A hx n (j := j) | ⟨1, _⟩ => exact congrArg BitVec.toInt (congrFun ((settled_inA m c n.val).nullary 5 rfl) j) | ⟨2, _⟩ => exact congrArg BitVec.toInt (congrFun ((settled_inA m c n.val).nullary 6 rfl) j) | ⟨3, _⟩ => exact congrArg BitVec.toInt (congrFun ((settled_inA m c n.val).nullary 7 rfl) j))
theorem t_while0b_v172 {m c x} (hx : Of m c x) (n : Fin 256) {S : Fin 4 → Fin 128 → Fin 256 → ℝ} (hS : atA m c n.val (Proc.devRef .tc main_v52_5) = up3 S) : inA m c n.val (Proc.devRef .tc main_while0b_v172) = up3 (fun (i : Fin 4) (j : Fin 32) (k : Fin 128) => v36 x i n j k) := by
  rw [(settled_inA m c n.val).reshape 9 rfl (by decide), t_while0b_call5_v0 hx n hS]
  exact resh_1x4x32x128_4x32x128 _ _
theorem t_while0b_call6_v0 {m c x} (hx : Of m c x) (n : Fin 256) {S : Fin 4 → Fin 128 → Fin 256 → ℝ} (hS : atA m c n.val (Proc.devRef .tc main_v52_5) = up3 S) : inA m c n.val (Proc.devRef .tc main_while0b_call6_v0) = up4 (fun (i : Fin 1) (j : Fin 4) (k : Fin 32) (l : Fin 256) => x.P (row n k) (vcol (colV j l))) := by
  exact settled_dsl4 (settled_inA m c n.val) 13 (da := 256) (db := 4) (dc := 32) (dd := 256) (.of main_v52_2) ![.of main_v52_4, .of main_while0b_call6_c, .of main_while0b_call6_c_0, .of main_while0b_call6_c_1] (.of main_while0b_call6_v0) n rfl (by decide) (i_v52_2 hx n.val) (fun k j => by
    match k with | ⟨0, _⟩ => exact st_A hx n (j := j) | ⟨1, _⟩ => exact congrArg BitVec.toInt (congrFun ((settled_inA m c n.val).nullary 10 rfl) j) | ⟨2, _⟩ => exact congrArg BitVec.toInt (congrFun ((settled_inA m c n.val).nullary 11 rfl) j) | ⟨3, _⟩ => exact congrArg BitVec.toInt (congrFun ((settled_inA m c n.val).nullary 12 rfl) j))
theorem t_while0b_v173 {m c x} (hx : Of m c x) (n : Fin 256) {S : Fin 4 → Fin 128 → Fin 256 → ℝ} (hS : atA m c n.val (Proc.devRef .tc main_v52_5) = up3 S) : inA m c n.val (Proc.devRef .tc main_while0b_v173) = up3 (fun (i : Fin 4) (j : Fin 32) (k : Fin 256) => x.P (row n j) (vcol (colV i k))) := by
  rw [(settled_inA m c n.val).reshape 14 rfl (by decide), t_while0b_call6_v0 hx n hS]
  exact resh_1x4x32x256_4x32x256 _ _
theorem t_while0b_call7_v0 {m c x} (hx : Of m c x) (n : Fin 256) {S : Fin 4 → Fin 128 → Fin 256 → ℝ} (hS : atA m c n.val (Proc.devRef .tc main_v52_5) = up3 S) : inA m c n.val (Proc.devRef .tc main_while0b_call7_v0) = up3 (fun (i : Fin 1) (j : Fin 4) (k : Fin 128) => v46 x j n k) := by
  exact settled_dsl3 (settled_inA m c n.val) 17 (da := 256) (db := 4) (dc := 128) (.of main_v52_3) ![.of main_v52_4, .of main_while0b_call7_c, .of main_while0b_call7_c_0] (.of main_while0b_call7_v0) n rfl (by decide) (i_v52_3 hx n.val) (fun k j => by
    match k with | ⟨0, _⟩ => exact st_A hx n (j := j) | ⟨1, _⟩ => exact congrArg BitVec.toInt (congrFun ((settled_inA m c n.val).nullary 15 rfl) j) | ⟨2, _⟩ => exact congrArg BitVec.toInt (congrFun ((settled_inA m c n.val).nullary 16 rfl) j))
theorem t_while0b_v174 {m c x} (hx : Of m c x) (n : Fin 256) {S : Fin 4 → Fin 128 → Fin 256 → ℝ} (hS : atA m c n.val (Proc.devRef .tc main_v52_5) = up3 S) : inA m c n.val (Proc.devRef .tc main_while0b_v174) = up2 (fun (i : Fin 4) (j : Fin 128) => v46 x i n j) := by
  rw [(settled_inA m c n.val).reshape 18 rfl (by decide), t_while0b_call7_v0 hx n hS]
  exact resh_1x4x128_4x128 _ _
def while0b_v175 (x : In) (n : Fin 256) (S : Fin 4 → Fin 128 → Fin 256 → ℝ) (i : Fin 4) (j : Fin 32) (k : Fin 256) : ℝ := ∑ s : Fin 128, v29 x i n j s * S i s k
theorem t_while0b_v175 {m c x} (hx : Of m c x) (n : Fin 256) {S : Fin 4 → Fin 128 → Fin 256 → ℝ} (hS : atA m c n.val (Proc.devRef .tc main_v52_5) = up3 S) : inA m c n.val (Proc.devRef .tc main_while0b_v175) = up3 (while0b_v175 x n S) := by
  rw [(settled_inA m c n.val).binary 19 rfl (by decide), t_while0b_v171 hx n hS, i_v52_5 hx n hS]
  exact hdot_S4x32x128_S4x128x256_S4x32x256_2_1_1_2_0_0 _ _
theorem t_while0b_v176 {m c x} (hx : Of m c x) (n : Fin 256) {S : Fin 4 → Fin 128 → Fin 256 → ℝ} (hS : atA m c n.val (Proc.devRef .tc main_v52_5) = up3 S) : inA m c n.val (Proc.devRef .tc main_while0b_v176) = up3 (fun (i : Fin 4) (j : Fin 128) (k : Fin 1) => v46 x i n j) := by
  rw [(settled_inA m c n.val).unary 20 rfl (by decide), t_while0b_v174 hx n hS]
  exact bc_4x128_4x128x1_01 _ _
theorem t_while0b_v177 {m c x} (hx : Of m c x) (n : Fin 256) {S : Fin 4 → Fin 128 → Fin 256 → ℝ} (hS : atA m c n.val (Proc.devRef .tc main_v52_5) = up3 S) : inA m c n.val (Proc.devRef .tc main_while0b_v177) = up3 (fun (i : Fin 4) (j : Fin 128) (k : Fin 256) => v46 x i n j) := by
  rw [(settled_inA m c n.val).unary 21 rfl (by decide), t_while0b_v176 hx n hS]
  exact bc_4x128x1_4x128x256_012 _ _
def while0b_v178 (x : In) (n : Fin 256) (S : Fin 4 → Fin 128 → Fin 256 → ℝ) (i : Fin 4) (j : Fin 128) (k : Fin 256) : ℝ := v46 x i n j * S i j k
theorem t_while0b_v178 {m c x} (hx : Of m c x) (n : Fin 256) {S : Fin 4 → Fin 128 → Fin 256 → ℝ} (hS : atA m c n.val (Proc.devRef .tc main_v52_5) = up3 S) : inA m c n.val (Proc.devRef .tc main_while0b_v178) = up3 (while0b_v178 x n S) := by
  rw [(settled_inA m c n.val).binary 22 rfl (by decide), t_while0b_v177 hx n hS, i_v52_5 hx n hS]
  exact mul3 _ _
def while0b_v179 (x : In) (n : Fin 256) (S : Fin 4 → Fin 128 → Fin 256 → ℝ) (i : Fin 4) (j : Fin 128) (k : Fin 256) : ℝ := ∑ s : Fin 32, v36 x i n s j * (x.P (row n s) (vcol (colV i k)))
theorem t_while0b_v179 {m c x} (hx : Of m c x) (n : Fin 256) {S : Fin 4 → Fin 128 → Fin 256 → ℝ} (hS : atA m c n.val (Proc.devRef .tc main_v52_5) = up3 S) : inA m c n.val (Proc.devRef .tc main_while0b_v179) = up3 (while0b_v179 x n S) := by
  rw [(settled_inA m c n.val).binary 23 rfl (by decide), t_while0b_v172 hx n hS, t_while0b_v173 hx n hS]
  exact hdot_S4x32x128_S4x32x256_S4x128x256_1_1_2_2_0_0 _ _
def while0b_v180 (x : In) (n : Fin 256) (S : Fin 4 → Fin 128 → Fin 256 → ℝ) (i : Fin 4) (j : Fin 128) (k : Fin 256) : ℝ := while0b_v178 x n S i j k + while0b_v179 x n S i j k
theorem t_while0b_v180 {m c x} (hx : Of m c x) (n : Fin 256) {S : Fin 4 → Fin 128 → Fin 256 → ℝ} (hS : atA m c n.val (Proc.devRef .tc main_v52_5) = up3 S) : inA m c n.val (Proc.devRef .tc main_while0b_v180) = up3 (while0b_v180 x n S) := by
  rw [(settled_inA m c n.val).binary 24 rfl (by decide), t_while0b_v178 hx n hS, t_while0b_v179 hx n hS]
  exact add3 _ _
theorem t_while0b_call8_v0 {m c x} (hx : Of m c x) (n : Fin 256) {S : Fin 4 → Fin 128 → Fin 256 → ℝ} (hS : atA m c n.val (Proc.devRef .tc main_v52_5) = up3 S) : inA m c n.val (Proc.devRef .tc main_while0b_call8_v0) = up4 (fun (i : Fin 1) (j : Fin 4) (k : Fin 32) (l : Fin 256) => while0b_v175 x n S j k l) := by
  rw [(settled_inA m c n.val).unary 25 rfl (by decide), t_while0b_v175 hx n hS]
  exact bc_4x32x256_1x4x32x256_123 _ _
theorem t_while0b_v181 {m c x} (hx : Of m c x) (n : Fin 256) {S : Fin 4 → Fin 128 → Fin 256 → ℝ} (hS : atA m c n.val (Proc.devRef .tc main_v52_5) = up3 S) {Q : Fin 256 → Fin 4 → Fin 32 → Fin 256 → ℝ} (hQ : atA m c n.val (Proc.devRef .tc main_v52_6) = up4 Q) : inA m c n.val (Proc.devRef .tc main_while0b_v181) = up4 (fun (i : Fin 256) (j : Fin 4) (k : Fin 32) (l : Fin 256) => if i = n then while0b_v175 x n S j k l else Q i j k l) := by
  exact settled_dus4 (settled_inA m c n.val) 29 (da := 256) (db := 4) (dc := 32) (dd := 256) (.of main_v52_6) (.of main_while0b_call8_v0) ![.of main_v52_4, .of main_while0b_call8_c, .of main_while0b_call8_c_0, .of main_while0b_call8_c_1] (.of main_while0b_v181) n rfl (by decide) ((inA_eq m c n.val _ (by decide +kernel)).trans hQ) (t_while0b_call8_v0 hx n hS) (fun k j => by
    match k with | ⟨0, _⟩ => exact st_A hx n (j := j) | ⟨1, _⟩ => exact congrArg BitVec.toInt (congrFun ((settled_inA m c n.val).nullary 26 rfl) j) | ⟨2, _⟩ => exact congrArg BitVec.toInt (congrFun ((settled_inA m c n.val).nullary 27 rfl) j) | ⟨3, _⟩ => exact congrArg BitVec.toInt (congrFun ((settled_inA m c n.val).nullary 28 rfl) j))
theorem t_while0b_call9_v0 {m c x} (hx : Of m c x) (n : Fin 256) {S : Fin 4 → Fin 128 → Fin 256 → ℝ} (hS : atA m c n.val (Proc.devRef .tc main_v52_5) = up3 S) : inA m c n.val (Proc.devRef .tc main_while0b_call9_v0) = up4 (fun (i : Fin 1) (j : Fin 4) (k : Fin 128) (l : Fin 256) => S j k l) := by
  rw [(settled_inA m c n.val).unary 30 rfl (by decide), i_v52_5 hx n hS]
  exact bc_4x128x256_1x4x128x256_123 _ _
theorem t_while0b_v182 {m c x} (hx : Of m c x) (n : Fin 256) {S : Fin 4 → Fin 128 → Fin 256 → ℝ} (hS : atA m c n.val (Proc.devRef .tc main_v52_5) = up3 S) {Q : Fin 256 → Fin 4 → Fin 128 → Fin 256 → ℝ} (hQ : atA m c n.val (Proc.devRef .tc main_v52_7) = up4 Q) : inA m c n.val (Proc.devRef .tc main_while0b_v182) = up4 (fun (i : Fin 256) (j : Fin 4) (k : Fin 128) (l : Fin 256) => if i = n then S j k l else Q i j k l) := by
  exact settled_dus4 (settled_inA m c n.val) 34 (da := 256) (db := 4) (dc := 128) (dd := 256) (.of main_v52_7) (.of main_while0b_call9_v0) ![.of main_v52_4, .of main_while0b_call9_c, .of main_while0b_call9_c_0, .of main_while0b_call9_c_1] (.of main_while0b_v182) n rfl (by decide) ((inA_eq m c n.val _ (by decide +kernel)).trans hQ) (t_while0b_call9_v0 hx n hS) (fun k j => by
    match k with | ⟨0, _⟩ => exact st_A hx n (j := j) | ⟨1, _⟩ => exact congrArg BitVec.toInt (congrFun ((settled_inA m c n.val).nullary 31 rfl) j) | ⟨2, _⟩ => exact congrArg BitVec.toInt (congrFun ((settled_inA m c n.val).nullary 32 rfl) j) | ⟨3, _⟩ => exact congrArg BitVec.toInt (congrFun ((settled_inA m c n.val).nullary 33 rfl) j))
theorem t_while0b_call10_v0 {m c x} (hx : Of m c x) (n : Fin 256) {S : Fin 4 → Fin 128 → Fin 256 → ℝ} (hS : atA m c n.val (Proc.devRef .tc main_v52_5) = up3 S) : inA m c n.val (Proc.devRef .tc main_while0b_call10_v0) = up4 (fun (i : Fin 1) (j : Fin 4) (k : Fin 128) (l : Fin 1) => v46 x j n k) := by
  rw [(settled_inA m c n.val).unary 35 rfl (by decide), t_while0b_v176 hx n hS]
  exact bc_4x128x1_1x4x128x1_123 _ _
theorem t_while0b_v183 {m c x} (hx : Of m c x) (n : Fin 256) {S : Fin 4 → Fin 128 → Fin 256 → ℝ} (hS : atA m c n.val (Proc.devRef .tc main_v52_5) = up3 S) {Q : Fin 256 → Fin 4 → Fin 128 → Fin 1 → ℝ} (hQ : atA m c n.val (Proc.devRef .tc main_v52_8) = up4 Q) : inA m c n.val (Proc.devRef .tc main_while0b_v183) = up4 (fun (i : Fin 256) (j : Fin 4) (k : Fin 128) (l : Fin 1) => if i = n then v46 x j n k else Q i j k l) := by
  exact settled_dus4 (settled_inA m c n.val) 39 (da := 256) (db := 4) (dc := 128) (dd := 1) (.of main_v52_8) (.of main_while0b_call10_v0) ![.of main_v52_4, .of main_while0b_call10_c, .of main_while0b_call10_c_0, .of main_while0b_call10_c_1] (.of main_while0b_v183) n rfl (by decide) ((inA_eq m c n.val _ (by decide +kernel)).trans hQ) (t_while0b_call10_v0 hx n hS) (fun k j => by
    match k with | ⟨0, _⟩ => exact st_A hx n (j := j) | ⟨1, _⟩ => exact congrArg BitVec.toInt (congrFun ((settled_inA m c n.val).nullary 36 rfl) j) | ⟨2, _⟩ => exact congrArg BitVec.toInt (congrFun ((settled_inA m c n.val).nullary 37 rfl) j) | ⟨3, _⟩ => exact congrArg BitVec.toInt (congrFun ((settled_inA m c n.val).nullary 38 rfl) j))
/-- The running state before chunk `k`. -/
def state (x : In) : ℕ → Fin 4 → Fin 128 → Fin 256 → ℝ
  | 0 => fun _ _ _ => 0
  | k + 1 => fun i j l => if h : k < 256 then while0b_v180 x ⟨k, h⟩ (state x k) i j l else 0

theorem at_state {m c x} (hx : Of m c x) : ∀ k, k ≤ 256 → atA m c k (Proc.devRef .tc main_v52_5) = up3 (state x k)
  | 0, _ => by
    rw [show atA m c 0 = entryA m c from rfl, (settled_copyA m c).unary 5 rfl (by decide), entryA_eq m c _ (by decide +kernel), t_v48 hx]
    rfl
  | k + 1, h => by
    rw [(settled_nextA m c k).unary 1 rfl (by decide), nextA_eq m c k _ (by decide +kernel)]
    refine (t_while0b_v180 hx ⟨k, h⟩ (at_state hx k (Nat.le_of_succ_le h))).trans (congrArg up3 ?_)
    funext i j l
    show _ = dite (k < 256) (fun h => while0b_v180 x ⟨k, h⟩ (state x k) i j l) fun _ => 0
    rw [dif_pos (show k < 256 from h)]
theorem at_v52_6 {m c x} (hx : Of m c x) : ∀ t, t ≤ 256 → atA m c t (Proc.devRef .tc main_v52_6) = up4 (fun (i : Fin 256) (j : Fin 4) (k : Fin 32) (l : Fin 256) => if i.val < t then while0b_v175 x i (state x i.val) j k l else 0)
  | 0, _ => by
    rw [show atA m c 0 = entryA m c from rfl, (settled_copyA m c).unary 6 rfl (by decide), entryA_eq m c _ (by decide +kernel), t_v49 hx]
    refine congrArg up4 ?_
    funext i j k l
    exact (if_neg (Nat.not_lt_zero _)).symm
  | t + 1, h => by
    rw [(settled_nextA m c t).unary 2 rfl (by decide), nextA_eq m c t _ (by decide +kernel)]
    refine (t_while0b_v181 hx ⟨t, h⟩ (at_state hx t (Nat.le_of_succ_le h)) (at_v52_6 hx t (Nat.le_of_succ_le h))).trans (congrArg up4 ?_)
    funext i j k l
    by_cases hi : i = ⟨t, h⟩
    · subst hi
      exact (if_pos rfl).trans (if_pos (Nat.lt_succ_self t)).symm
    · have hne : i.val ≠ t := fun e => hi (Fin.ext e)
      have hlt := i.isLt
      rw [if_neg hi]
      by_cases hk : i.val < t
      · rw [if_pos hk, if_pos (by omega)]
      · rw [if_neg hk, if_neg (by omega)]
theorem t_v52_6 {m c x} (hx : Of m c x) : fin m c (Proc.devRef .tc main_v52_6) = up4 (fun (i : Fin 256) (j : Fin 4) (k : Fin 32) (l : Fin 256) => while0b_v175 x i (state x i.val) j k l) := by
  rw [fin_atA m c _ (by decide +kernel) (by decide +kernel), at_v52_6 hx 256 (Nat.le_refl _)]
  refine congrArg up4 ?_
  funext i j k l
  exact if_pos i.isLt
theorem at_v52_7 {m c x} (hx : Of m c x) : ∀ t, t ≤ 256 → atA m c t (Proc.devRef .tc main_v52_7) = up4 (fun (i : Fin 256) (j : Fin 4) (k : Fin 128) (l : Fin 256) => if i.val < t then state x i.val j k l else 0)
  | 0, _ => by
    rw [show atA m c 0 = entryA m c from rfl, (settled_copyA m c).unary 7 rfl (by decide), entryA_eq m c _ (by decide +kernel), t_v50 hx]
    refine congrArg up4 ?_
    funext i j k l
    exact (if_neg (Nat.not_lt_zero _)).symm
  | t + 1, h => by
    rw [(settled_nextA m c t).unary 3 rfl (by decide), nextA_eq m c t _ (by decide +kernel)]
    refine (t_while0b_v182 hx ⟨t, h⟩ (at_state hx t (Nat.le_of_succ_le h)) (at_v52_7 hx t (Nat.le_of_succ_le h))).trans (congrArg up4 ?_)
    funext i j k l
    by_cases hi : i = ⟨t, h⟩
    · subst hi
      exact (if_pos rfl).trans (if_pos (Nat.lt_succ_self t)).symm
    · have hne : i.val ≠ t := fun e => hi (Fin.ext e)
      have hlt := i.isLt
      rw [if_neg hi]
      by_cases hk : i.val < t
      · rw [if_pos hk, if_pos (by omega)]
      · rw [if_neg hk, if_neg (by omega)]
theorem t_v52_7 {m c x} (hx : Of m c x) : fin m c (Proc.devRef .tc main_v52_7) = up4 (fun (i : Fin 256) (j : Fin 4) (k : Fin 128) (l : Fin 256) => state x i.val j k l) := by
  rw [fin_atA m c _ (by decide +kernel) (by decide +kernel), at_v52_7 hx 256 (Nat.le_refl _)]
  refine congrArg up4 ?_
  funext i j k l
  exact if_pos i.isLt
theorem at_v52_8 {m c x} (hx : Of m c x) : ∀ t, t ≤ 256 → atA m c t (Proc.devRef .tc main_v52_8) = up4 (fun (i : Fin 256) (j : Fin 4) (k : Fin 128) (l : Fin 1) => if i.val < t then v46 x j i k else 0)
  | 0, _ => by
    rw [show atA m c 0 = entryA m c from rfl, (settled_copyA m c).unary 8 rfl (by decide), entryA_eq m c _ (by decide +kernel), t_v51 hx]
    refine congrArg up4 ?_
    funext i j k l
    exact (if_neg (Nat.not_lt_zero _)).symm
  | t + 1, h => by
    rw [(settled_nextA m c t).unary 4 rfl (by decide), nextA_eq m c t _ (by decide +kernel)]
    refine (t_while0b_v183 hx ⟨t, h⟩ (at_state hx t (Nat.le_of_succ_le h)) (at_v52_8 hx t (Nat.le_of_succ_le h))).trans (congrArg up4 ?_)
    funext i j k l
    by_cases hi : i = ⟨t, h⟩
    · subst hi
      exact (if_pos rfl).trans (if_pos (Nat.lt_succ_self t)).symm
    · have hne : i.val ≠ t := fun e => hi (Fin.ext e)
      have hlt := i.isLt
      rw [if_neg hi]
      by_cases hk : i.val < t
      · rw [if_pos hk, if_pos (by omega)]
      · rw [if_neg hk, if_neg (by omega)]
theorem t_v52_8 {m c x} (hx : Of m c x) : fin m c (Proc.devRef .tc main_v52_8) = up4 (fun (i : Fin 256) (j : Fin 4) (k : Fin 128) (l : Fin 1) => v46 x j i k) := by
  rw [fin_atA m c _ (by decide +kernel) (by decide +kernel), at_v52_8 hx 256 (Nat.le_refl _)]
  refine congrArg up4 ?_
  funext i j k l
  exact if_pos i.isLt

end Cert.ReferenceIdeal.Line

end
-- ==== Proof.RefVal2.lean ====
/-
  What the reference program computes between its loops.
-/
module

public import proofs.«01_k».proof.Proof.RefVal1
@[expose] public section

set_option maxRecDepth 16384

noncomputable section

namespace Cert.ReferenceIdeal.Line

open Idealize.ShloMosaic Idealize.ShloMosaic.TcCoe Idealize.ShloMosaic.StableHlo Cert.Settled Cert.ReferenceIdeal.Gen Cert.Lift Cert

theorem t_v53 {m c x} (hx : Of m c x) : fin m c (Proc.devRef .tc main_v53) = up4 (fun (i : Fin 4) (j : Fin 256) (k : Fin 32) (l : Fin 256) => while0b_v175 x j (state x j.val) i k l) := by
  rw [(settled_mid m c).unary 0 rfl (by decide), t_v52_6 hx]
  exact tr_256x4x32x256_1023 _ _
def v54 (x : In) (i : Fin 4) (j : Fin 256) (k : Fin 32) (l : Fin 256) : ℝ := v41 x i j k l + while0b_v175 x j (state x j.val) i k l
theorem t_v54 {m c x} (hx : Of m c x) : fin m c (Proc.devRef .tc main_v54) = up4 (v54 x) := by
  rw [(settled_mid m c).binary 1 rfl (by decide), t_v41 hx, t_v53 hx]
  exact add4 _ _
theorem t_v55 {m c x} (hx : Of m c x) : fin m c (Proc.devRef .tc main_v55) = up4 (fun (i : Fin 256) (j : Fin 32) (k : Fin 4) (l : Fin 256) => v54 x k i j l) := by
  rw [(settled_mid m c).unary 2 rfl (by decide), t_v54 hx]
  exact tr_4x256x32x256_1203 _ _
theorem t_v56 {m c x} (hx : Of m c x) : fin m c (Proc.devRef .tc main_v56) = up3 (fun (i : Fin 8192) (j : Fin 4) (k : Fin 256) => v54 x j (chk i) (pos i) k) := by
  rw [(settled_mid m c).reshape 3 rfl (by decide), t_v55 hx]
  exact resh_256x32x4x256_8192x4x256 _ _
def v57 (x : In) (i : Fin 8192) (j : Fin 4) (k : Fin 256) : ℝ := v54 x j (chk i) (pos i) k * v54 x j (chk i) (pos i) k
theorem t_v57 {m c x} (hx : Of m c x) : fin m c (Proc.devRef .tc main_v57) = up3 (v57 x) := by
  rw [(settled_mid m c).binary 4 rfl (by decide), t_v56 hx]
  exact mul3 _ _
theorem t_cst_7 {m c x} (hx : Of m c x) : fin m c (Proc.devRef .tc main_cst_7) = up0 0 := by
  rw [(settled_mid m c).nullary 5 rfl]
  exact const0 w_zero
def v58 (x : In) (i : Fin 8192) (j : Fin 4) : ℝ := ∑ s : Fin 256, v57 x i j s
theorem t_v58 {m c x} (hx : Of m c x) : fin m c (Proc.devRef .tc main_v58) = up2 (v58 x) := by
  rw [(settled_mid m c).binary 6 rfl (by decide), t_v57 hx, t_cst_7 hx]
  exact red_8192x4x256_2 _ _ _
theorem t_v59 {m c x} (hx : Of m c x) : fin m c (Proc.devRef .tc main_v59) = up3 (fun (i : Fin 8192) (j : Fin 4) (k : Fin 1) => v58 x i j) := by
  rw [(settled_mid m c).unary 7 rfl (by decide), t_v58 hx]
  exact bc_8192x4_8192x4x1_01 _ _
theorem t_cst_8 {m c x} (hx : Of m c x) : fin m c (Proc.devRef .tc main_cst_8) = up0 256 := by
  rw [(settled_mid m c).nullary 8 rfl]
  exact const0 w_256
theorem t_v60 {m c x} (hx : Of m c x) : fin m c (Proc.devRef .tc main_v60) = up3 (fun (i : Fin 8192) (j : Fin 4) (k : Fin 1) => 256) := by
  rw [(settled_mid m c).unary 9 rfl (by decide), t_cst_8 hx]
  exact bc_u_8192x4x1_ _ _
def v61 (x : In) (i : Fin 8192) (j : Fin 4) (k : Fin 1) : ℝ := v58 x i j / 256
theorem t_v61 {m c x} (hx : Of m c x) : fin m c (Proc.devRef .tc main_v61) = up3 (v61 x) := by
  rw [(settled_mid m c).binary 10 rfl (by decide), t_v59 hx, t_v60 hx]
  exact hdiv3 _ _ (fun _ _ _ => by norm_num)
theorem t_cst_9 {m c x} (hx : Of m c x) : fin m c (Proc.devRef .tc main_cst_9) = up0 eps := by
  rw [(settled_mid m c).nullary 11 rfl]
  exact const0 w_eps
theorem t_v62 {m c x} (hx : Of m c x) : fin m c (Proc.devRef .tc main_v62) = up3 (fun (i : Fin 8192) (j : Fin 4) (k : Fin 1) => eps) := by
  rw [(settled_mid m c).unary 12 rfl (by decide), t_cst_9 hx]
  exact bc_u_8192x4x1_ _ _
def v63 (x : In) (i : Fin 8192) (j : Fin 4) (k : Fin 1) : ℝ := v61 x i j k + eps
theorem t_v63 {m c x} (hx : Of m c x) : fin m c (Proc.devRef .tc main_v63) = up3 (v63 x) := by
  rw [(settled_mid m c).binary 13 rfl (by decide), t_v61 hx, t_v62 hx]
  exact add3 _ _
theorem v63_pos (x : In) (i : Fin 8192) (j : Fin 4) (k : Fin 1) : 0 < v63 x i j k :=
  add_pos_of_nonneg_of_pos (div_nonneg (Finset.sum_nonneg fun s _ => mul_self_nonneg _) (by norm_num)) eps_pos
def v64 (x : In) (i : Fin 8192) (j : Fin 4) (k : Fin 1) : ℝ := (√(v63 x i j k))⁻¹
theorem t_v64 {m c x} (hx : Of m c x) : fin m c (Proc.devRef .tc main_v64) = up3 (v64 x) := by
  rw [(settled_mid m c).unary 14 rfl (by decide), t_v63 hx]
  exact hrsqrt3 _ (fun i j k => v63_pos x i j k)
def v65 (x : In) (i : Fin 8192) (j : Fin 4) (k : Fin 1) : ℝ := v64 x i j k / v63 x i j k
theorem t_v65 {m c x} (hx : Of m c x) : fin m c (Proc.devRef .tc main_v65) = up3 (v65 x) := by
  rw [(settled_mid m c).binary 15 rfl (by decide), t_v64 hx, t_v63 hx]
  exact hdiv3 _ _ (fun i j k => (v63_pos x i j k).ne')
theorem t_cst_10 {m c x} (hx : Of m c x) : fin m c (Proc.devRef .tc main_cst_10) = up0 (-1/2) := by
  rw [(settled_mid m c).nullary 16 rfl]
  exact const0 w_mhalf
theorem t_v66 {m c x} (hx : Of m c x) : fin m c (Proc.devRef .tc main_v66) = up3 (fun (i : Fin 8192) (j : Fin 4) (k : Fin 1) => (-1/2)) := by
  rw [(settled_mid m c).unary 17 rfl (by decide), t_cst_10 hx]
  exact bc_u_8192x4x1_ _ _
def v67 (x : In) (i : Fin 8192) (j : Fin 4) (k : Fin 1) : ℝ := ((-1/2)) * v65 x i j k
theorem t_v67 {m c x} (hx : Of m c x) : fin m c (Proc.devRef .tc main_v67) = up3 (v67 x) := by
  rw [(settled_mid m c).binary 18 rfl (by decide), t_v66 hx, t_v65 hx]
  exact mul3 _ _
theorem t_v68 {m c x} (hx : Of m c x) : fin m c (Proc.devRef .tc main_v68) = up3 (fun (i : Fin 8192) (j : Fin 4) (k : Fin 256) => v64 x i j 0) := by
  rw [(settled_mid m c).unary 19 rfl (by decide), t_v64 hx]
  exact bc_8192x4x1_8192x4x256_012 _ _
def v69 (x : In) (i : Fin 8192) (j : Fin 4) (k : Fin 256) : ℝ := v54 x j (chk i) (pos i) k * v64 x i j 0
theorem t_v69 {m c x} (hx : Of m c x) : fin m c (Proc.devRef .tc main_v69) = up3 (v69 x) := by
  rw [(settled_mid m c).binary 20 rfl (by decide), t_v56 hx, t_v68 hx]
  exact mul3 _ _
theorem t_v70 {m c x} (hx : Of m c x) : fin m c (Proc.devRef .tc main_v70) = up2 (fun (i : Fin 8192) (j : Fin 1024) => v69 x i (headV j) (dimV j)) := by
  rw [(settled_mid m c).reshape 21 rfl (by decide), t_v69 hx]
  exact resh_8192x4x256_8192x1024 _ _
theorem t_v71 {m c x} (hx : Of m c x) : fin m c (Proc.devRef .tc main_v71) = up2 (fun (i : Fin 1) (j : Fin 1024) => x.g j) := by
  rw [(settled_mid m c).unary 22 rfl (by decide), t_v8 hx]
  exact bc_1024_1x1024_1 _ _
theorem t_v72 {m c x} (hx : Of m c x) : fin m c (Proc.devRef .tc main_v72) = up2 (fun (i : Fin 8192) (j : Fin 1024) => x.g j) := by
  rw [(settled_mid m c).unary 23 rfl (by decide), t_v71 hx]
  exact bc_1x1024_8192x1024_01 _ _
def v73 (x : In) (i : Fin 8192) (j : Fin 1024) : ℝ := v69 x i (headV j) (dimV j) * x.g j
theorem t_v73 {m c x} (hx : Of m c x) : fin m c (Proc.devRef .tc main_v73) = up2 (v73 x) := by
  rw [(settled_mid m c).binary 24 rfl (by decide), t_v70 hx, t_v72 hx]
  exact mul2 _ _
def call11_v0 (x : In) (i : Fin 8192) (j : Fin 1024) : ℝ := -(x.P i (rcol j))
theorem t_call11_v0 {m c x} (hx : Of m c x) : fin m c (Proc.devRef .tc main_call11_v0) = up2 (call11_v0 x) := by
  rw [(settled_mid m c).unary 25 rfl (by decide), t_v4 hx]
  exact hneg2 _
def call11_v1 (x : In) (i : Fin 8192) (j : Fin 1024) : ℝ := Real.exp (call11_v0 x i j)
theorem t_call11_v1 {m c x} (hx : Of m c x) : fin m c (Proc.devRef .tc main_call11_v1) = up2 (call11_v1 x) := by
  rw [(settled_mid m c).unary 26 rfl (by decide), t_call11_v0 hx]
  exact hexp2 _
theorem t_call11_cst {m c x} (hx : Of m c x) : fin m c (Proc.devRef .tc main_call11_cst) = up0 1 := by
  rw [(settled_mid m c).nullary 27 rfl]
  exact const0 w_one
theorem t_call11_v2 {m c x} (hx : Of m c x) : fin m c (Proc.devRef .tc main_call11_v2) = up2 (fun (i : Fin 8192) (j : Fin 1024) => 1) := by
  rw [(settled_mid m c).unary 28 rfl (by decide), t_call11_cst hx]
  exact bc_u_8192x1024_ _ _
def call11_v3 (x : In) (i : Fin 8192) (j : Fin 1024) : ℝ := 1 + call11_v1 x i j
theorem t_call11_v3 {m c x} (hx : Of m c x) : fin m c (Proc.devRef .tc main_call11_v3) = up2 (call11_v3 x) := by
  rw [(settled_mid m c).binary 29 rfl (by decide), t_call11_v2 hx, t_call11_v1 hx]
  exact add2 _ _
theorem t_call11_cst_0 {m c x} (hx : Of m c x) : fin m c (Proc.devRef .tc main_call11_cst_0) = up0 1 := by
  rw [(settled_mid m c).nullary 30 rfl]
  exact const0 w_one
theorem t_call11_v4 {m c x} (hx : Of m c x) : fin m c (Proc.devRef .tc main_call11_v4) = up2 (fun (i : Fin 8192) (j : Fin 1024) => 1) := by
  rw [(settled_mid m c).unary 31 rfl (by decide), t_call11_cst_0 hx]
  exact bc_u_8192x1024_ _ _
def v74_2 (x : In) (i : Fin 8192) (j : Fin 1024) : ℝ := 1 / call11_v3 x i j
theorem t_v74_2 {m c x} (hx : Of m c x) : fin m c (Proc.devRef .tc main_v74_2) = up2 (v74_2 x) := by
  rw [(settled_mid m c).binary 32 rfl (by decide), t_call11_v4 hx, t_call11_v3 hx]
  exact hdiv2 _ _ (fun i j => (add_pos one_pos (Real.exp_pos _)).ne')
theorem t_call11_cst_1 {m c x} (hx : Of m c x) : fin m c (Proc.devRef .tc main_call11_cst_1) = up0 1 := by
  rw [(settled_mid m c).nullary 33 rfl]
  exact const0 w_one
theorem t_call11_v6 {m c x} (hx : Of m c x) : fin m c (Proc.devRef .tc main_call11_v6) = up2 (fun (i : Fin 8192) (j : Fin 1024) => 1) := by
  rw [(settled_mid m c).unary 34 rfl (by decide), t_call11_cst_1 hx]
  exact bc_u_8192x1024_ _ _
def call11_v7 (x : In) (i : Fin 8192) (j : Fin 1024) : ℝ := 1 - v74_2 x i j
theorem t_call11_v7 {m c x} (hx : Of m c x) : fin m c (Proc.devRef .tc main_call11_v7) = up2 (call11_v7 x) := by
  rw [(settled_mid m c).binary 35 rfl (by decide), t_call11_v6 hx, t_v74_2 hx]
  exact sub2 _ _
def v74_1 (x : In) (i : Fin 8192) (j : Fin 1024) : ℝ := v74_2 x i j * call11_v7 x i j
theorem t_v74_1 {m c x} (hx : Of m c x) : fin m c (Proc.devRef .tc main_v74_1) = up2 (v74_1 x) := by
  rw [(settled_mid m c).binary 36 rfl (by decide), t_v74_2 hx, t_call11_v7 hx]
  exact mul2 _ _
def v74_0 (x : In) (i : Fin 8192) (j : Fin 1024) : ℝ := x.P i (rcol j) * v74_2 x i j
theorem t_v74_0 {m c x} (hx : Of m c x) : fin m c (Proc.devRef .tc main_v74_0) = up2 (v74_0 x) := by
  rw [(settled_mid m c).binary 37 rfl (by decide), t_v4 hx, t_v74_2 hx]
  exact mul2 _ _
theorem t_v76 {m c x} (hx : Of m c x) : fin m c (Proc.devRef .tc main_v76) = up2 (fun (i : Fin 8192) (j : Fin 1024) => x.D i j) := by
  rw [(settled_mid m c).unary 39 rfl (by decide), Of.arg5 hx]
  rfl
def v78 (x : In) (i : Fin 8192) (j : Fin 1024) : ℝ := v74_0 x i j * x.D i j
theorem t_v78 {m c x} (hx : Of m c x) : fin m c (Proc.devRef .tc main_v78) = up2 (v78 x) := by
  rw [(settled_mid m c).binary 42 rfl (by decide), t_v74_0 hx, t_v76 hx]
  exact mul2 _ _
def v79 (x : In) (i : Fin 8192) (j : Fin 1024) : ℝ := x.D i j * v73 x i j
theorem t_v79 {m c x} (hx : Of m c x) : fin m c (Proc.devRef .tc main_v79) = up2 (v79 x) := by
  rw [(settled_mid m c).binary 43 rfl (by decide), t_v76 hx, t_v73 hx]
  exact mul2 _ _
def call12_v0 (x : In) (i : Fin 8192) (j : Fin 1024) : ℝ := x.P i (rcol j) * v79 x i j
theorem t_call12_v0 {m c x} (hx : Of m c x) : fin m c (Proc.devRef .tc main_call12_v0) = up2 (call12_v0 x) := by
  rw [(settled_mid m c).binary 44 rfl (by decide), t_v4 hx, t_v79 hx]
  exact mul2 _ _
def call12_v1 (x : In) (i : Fin 8192) (j : Fin 1024) : ℝ := v79 x i j * v74_2 x i j
theorem t_call12_v1 {m c x} (hx : Of m c x) : fin m c (Proc.devRef .tc main_call12_v1) = up2 (call12_v1 x) := by
  rw [(settled_mid m c).binary 45 rfl (by decide), t_v79 hx, t_v74_2 hx]
  exact mul2 _ _
def call12_v2 (x : In) (i : Fin 8192) (j : Fin 1024) : ℝ := call12_v0 x i j * v74_1 x i j
theorem t_call12_v2 {m c x} (hx : Of m c x) : fin m c (Proc.devRef .tc main_call12_v2) = up2 (call12_v2 x) := by
  rw [(settled_mid m c).binary 46 rfl (by decide), t_call12_v0 hx, t_v74_1 hx]
  exact mul2 _ _
def v80 (x : In) (i : Fin 8192) (j : Fin 1024) : ℝ := call12_v1 x i j + call12_v2 x i j
theorem t_v80 {m c x} (hx : Of m c x) : fin m c (Proc.devRef .tc main_v80) = up2 (v80 x) := by
  rw [(settled_mid m c).binary 47 rfl (by decide), t_call12_v1 hx, t_call12_v2 hx]
  exact add2 _ _
def v81 (x : In) (i : Fin 8192) (j : Fin 1024) : ℝ := v69 x i (headV j) (dimV j) * v78 x i j
theorem t_v81 {m c x} (hx : Of m c x) : fin m c (Proc.devRef .tc main_v81) = up2 (v81 x) := by
  rw [(settled_mid m c).binary 48 rfl (by decide), t_v70 hx, t_v78 hx]
  exact mul2 _ _
theorem t_cst_12 {m c x} (hx : Of m c x) : fin m c (Proc.devRef .tc main_cst_12) = up0 0 := by
  rw [(settled_mid m c).nullary 49 rfl]
  exact const0 w_zero
def v82 (x : In) (i : Fin 1024) : ℝ := ∑ s : Fin 8192, v81 x s i
theorem t_v82 {m c x} (hx : Of m c x) : fin m c (Proc.devRef .tc main_v82) = up1 (v82 x) := by
  rw [(settled_mid m c).binary 50 rfl (by decide), t_v81 hx, t_cst_12 hx]
  exact red_8192x1024_0 _ _ _
theorem t_v83 {m c x} (hx : Of m c x) : fin m c (Proc.devRef .tc main_v83) = up2 (fun (i : Fin 1) (j : Fin 1024) => v82 x j) := by
  rw [(settled_mid m c).reshape 51 rfl (by decide), t_v82 hx]
  exact resh_1024_1x1024 _ _
theorem t_v84 {m c x} (hx : Of m c x) : fin m c (Proc.devRef .tc main_v84) = up2 (fun (i : Fin 8192) (j : Fin 1024) => x.g j) := by
  rw [(settled_mid m c).unary 52 rfl (by decide), t_v71 hx]
  exact bc_1x1024_8192x1024_01 _ _
def v85 (x : In) (i : Fin 8192) (j : Fin 1024) : ℝ := v78 x i j * x.g j
theorem t_v85 {m c x} (hx : Of m c x) : fin m c (Proc.devRef .tc main_v85) = up2 (v85 x) := by
  rw [(settled_mid m c).binary 53 rfl (by decide), t_v78 hx, t_v84 hx]
  exact mul2 _ _
theorem t_cst_13 {m c x} (hx : Of m c x) : fin m c (Proc.devRef .tc main_cst_13) = up0 0 := by
  rw [(settled_mid m c).nullary 54 rfl]
  exact const0 w_zero
theorem t_v86 {m c x} (hx : Of m c x) : fin m c (Proc.devRef .tc main_v86) = up1 (fun (i : Fin 1024) => v82 x i) := by
  rw [(settled_mid m c).binary 55 rfl (by decide), t_v83 hx, t_cst_13 hx]
  exact red_1x1024_0 _ _ _
theorem t_v87 {m c x} (hx : Of m c x) : fin m c (Proc.devRef .tc main_v87) = up3 (fun (i : Fin 8192) (j : Fin 4) (k : Fin 256) => v85 x i (colV j k)) := by
  rw [(settled_mid m c).reshape 56 rfl (by decide), t_v85 hx]
  exact resh_8192x1024_8192x4x256 _ _
def v88 (x : In) (i : Fin 8192) (j : Fin 4) (k : Fin 256) : ℝ := v54 x j (chk i) (pos i) k * v85 x i (colV j k)
theorem t_v88 {m c x} (hx : Of m c x) : fin m c (Proc.devRef .tc main_v88) = up3 (v88 x) := by
  rw [(settled_mid m c).binary 57 rfl (by decide), t_v56 hx, t_v87 hx]
  exact mul3 _ _
theorem t_cst_14 {m c x} (hx : Of m c x) : fin m c (Proc.devRef .tc main_cst_14) = up0 0 := by
  rw [(settled_mid m c).nullary 58 rfl]
  exact const0 w_zero
def v89 (x : In) (i : Fin 8192) (j : Fin 4) : ℝ := ∑ s : Fin 256, v88 x i j s
theorem t_v89 {m c x} (hx : Of m c x) : fin m c (Proc.devRef .tc main_v89) = up2 (v89 x) := by
  rw [(settled_mid m c).binary 59 rfl (by decide), t_v88 hx, t_cst_14 hx]
  exact red_8192x4x256_2 _ _ _
theorem t_v90 {m c x} (hx : Of m c x) : fin m c (Proc.devRef .tc main_v90) = up3 (fun (i : Fin 8192) (j : Fin 4) (k : Fin 1) => v89 x i j) := by
  rw [(settled_mid m c).reshape 60 rfl (by decide), t_v89 hx]
  exact resh_8192x4_8192x4x1 _ _
theorem t_v91 {m c x} (hx : Of m c x) : fin m c (Proc.devRef .tc main_v91) = up3 (fun (i : Fin 8192) (j : Fin 4) (k : Fin 256) => v64 x i j 0) := by
  rw [(settled_mid m c).unary 61 rfl (by decide), t_v64 hx]
  exact bc_8192x4x1_8192x4x256_012 _ _
def v92 (x : In) (i : Fin 8192) (j : Fin 4) (k : Fin 256) : ℝ := v85 x i (colV j k) * v64 x i j 0
theorem t_v92 {m c x} (hx : Of m c x) : fin m c (Proc.devRef .tc main_v92) = up3 (v92 x) := by
  rw [(settled_mid m c).binary 62 rfl (by decide), t_v87 hx, t_v91 hx]
  exact mul3 _ _
def v93 (x : In) (i : Fin 8192) (j : Fin 4) (k : Fin 1) : ℝ := v89 x i j * v67 x i j k
theorem t_v93 {m c x} (hx : Of m c x) : fin m c (Proc.devRef .tc main_v93) = up3 (v93 x) := by
  rw [(settled_mid m c).binary 63 rfl (by decide), t_v90 hx, t_v67 hx]
  exact mul3 _ _
theorem t_cst_15 {m c x} (hx : Of m c x) : fin m c (Proc.devRef .tc main_cst_15) = up0 256 := by
  rw [(settled_mid m c).nullary 64 rfl]
  exact const0 w_256
theorem t_v94 {m c x} (hx : Of m c x) : fin m c (Proc.devRef .tc main_v94) = up3 (fun (i : Fin 8192) (j : Fin 4) (k : Fin 1) => 256) := by
  rw [(settled_mid m c).unary 65 rfl (by decide), t_cst_15 hx]
  exact bc_u_8192x4x1_ _ _
def v95 (x : In) (i : Fin 8192) (j : Fin 4) (k : Fin 1) : ℝ := v93 x i j k / 256
theorem t_v95 {m c x} (hx : Of m c x) : fin m c (Proc.devRef .tc main_v95) = up3 (v95 x) := by
  rw [(settled_mid m c).binary 66 rfl (by decide), t_v93 hx, t_v94 hx]
  exact hdiv3 _ _ (fun _ _ _ => by norm_num)
theorem t_cst_16 {m c x} (hx : Of m c x) : fin m c (Proc.devRef .tc main_cst_16) = up0 0 := by
  rw [(settled_mid m c).nullary 67 rfl]
  exact const0 w_zero
theorem t_v96 {m c x} (hx : Of m c x) : fin m c (Proc.devRef .tc main_v96) = up2 (fun (i : Fin 8192) (j : Fin 4) => v95 x i j 0) := by
  rw [(settled_mid m c).binary 68 rfl (by decide), t_v95 hx, t_cst_16 hx]
  exact red_8192x4x1_2 _ _ _
theorem t_v97 {m c x} (hx : Of m c x) : fin m c (Proc.devRef .tc main_v97) = up3 (fun (i : Fin 8192) (j : Fin 4) (k : Fin 256) => v95 x i j 0) := by
  rw [(settled_mid m c).unary 69 rfl (by decide), t_v96 hx]
  exact bc_8192x4_8192x4x256_01 _ _
def v98 (x : In) (i : Fin 8192) (j : Fin 4) (k : Fin 256) : ℝ := v54 x j (chk i) (pos i) k * v95 x i j 0
theorem t_v98 {m c x} (hx : Of m c x) : fin m c (Proc.devRef .tc main_v98) = up3 (v98 x) := by
  rw [(settled_mid m c).binary 70 rfl (by decide), t_v56 hx, t_v97 hx]
  exact mul3 _ _
def v99 (x : In) (i : Fin 8192) (j : Fin 4) (k : Fin 256) : ℝ := v92 x i j k + v98 x i j k
theorem t_v99 {m c x} (hx : Of m c x) : fin m c (Proc.devRef .tc main_v99) = up3 (v99 x) := by
  rw [(settled_mid m c).binary 71 rfl (by decide), t_v92 hx, t_v98 hx]
  exact add3 _ _
def v100 (x : In) (i : Fin 8192) (j : Fin 4) (k : Fin 256) : ℝ := v95 x i j 0 * v54 x j (chk i) (pos i) k
theorem t_v100 {m c x} (hx : Of m c x) : fin m c (Proc.devRef .tc main_v100) = up3 (v100 x) := by
  rw [(settled_mid m c).binary 72 rfl (by decide), t_v97 hx, t_v56 hx]
  exact mul3 _ _
def v101 (x : In) (i : Fin 8192) (j : Fin 4) (k : Fin 256) : ℝ := v99 x i j k + v100 x i j k
theorem t_v101 {m c x} (hx : Of m c x) : fin m c (Proc.devRef .tc main_v101) = up3 (v101 x) := by
  rw [(settled_mid m c).binary 73 rfl (by decide), t_v99 hx, t_v100 hx]
  exact add3 _ _
theorem t_v102 {m c x} (hx : Of m c x) : fin m c (Proc.devRef .tc main_v102) = up4 (fun (i : Fin 256) (j : Fin 32) (k : Fin 4) (l : Fin 256) => v101 x (row i j) k l) := by
  rw [(settled_mid m c).reshape 74 rfl (by decide), t_v101 hx]
  exact resh_8192x4x256_256x32x4x256 _ _
theorem t_v103 {m c x} (hx : Of m c x) : fin m c (Proc.devRef .tc main_v103) = up4 (fun (i : Fin 4) (j : Fin 256) (k : Fin 32) (l : Fin 256) => v101 x (row j k) i l) := by
  rw [(settled_mid m c).unary 75 rfl (by decide), t_v102 hx]
  exact tr_256x32x4x256_2013 _ _
theorem t_v104 {m c x} (hx : Of m c x) : fin m c (Proc.devRef .tc main_v104) = up4 (fun (i : Fin 256) (j : Fin 4) (k : Fin 32) (l : Fin 256) => v101 x (row i k) j l) := by
  rw [(settled_mid m c).unary 76 rfl (by decide), t_v103 hx]
  exact tr_4x256x32x256_1023 _ _
theorem t_cst_17 {m c x} (hx : Of m c x) : fin m c (Proc.devRef .tc main_cst_17) = up0 0 := by
  rw [(settled_mid m c).nullary 77 rfl]
  exact const0 w_zero
theorem t_v105 {m c x} (hx : Of m c x) : fin m c (Proc.devRef .tc main_v105) = up3 (fun (i : Fin 4) (j : Fin 128) (k : Fin 256) => 0) := by
  rw [(settled_mid m c).unary 78 rfl (by decide), t_cst_17 hx]
  exact bc_u_4x128x256_ _ _
theorem t_cst_18 {m c x} (hx : Of m c x) : fin m c (Proc.devRef .tc main_cst_18) = up0 0 := by
  rw [(settled_mid m c).nullary 79 rfl]
  exact const0 w_zero
theorem t_v106 {m c x} (hx : Of m c x) : fin m c (Proc.devRef .tc main_v106) = up4 (fun (i : Fin 256) (j : Fin 4) (k : Fin 32) (l : Fin 128) => 0) := by
  rw [(settled_mid m c).unary 80 rfl (by decide), t_cst_18 hx]
  exact bc_u_256x4x32x128_ _ _
theorem t_cst_19 {m c x} (hx : Of m c x) : fin m c (Proc.devRef .tc main_cst_19) = up0 0 := by
  rw [(settled_mid m c).nullary 81 rfl]
  exact const0 w_zero
theorem t_v107 {m c x} (hx : Of m c x) : fin m c (Proc.devRef .tc main_v107) = up4 (fun (i : Fin 256) (j : Fin 4) (k : Fin 32) (l : Fin 128) => 0) := by
  rw [(settled_mid m c).unary 82 rfl (by decide), t_cst_19 hx]
  exact bc_u_256x4x32x128_ _ _
theorem t_cst_20 {m c x} (hx : Of m c x) : fin m c (Proc.devRef .tc main_cst_20) = up0 0 := by
  rw [(settled_mid m c).nullary 83 rfl]
  exact const0 w_zero
theorem t_v108 {m c x} (hx : Of m c x) : fin m c (Proc.devRef .tc main_v108) = up4 (fun (i : Fin 256) (j : Fin 4) (k : Fin 32) (l : Fin 256) => 0) := by
  rw [(settled_mid m c).unary 84 rfl (by decide), t_cst_20 hx]
  exact bc_u_256x4x32x256_ _ _
theorem t_cst_21 {m c x} (hx : Of m c x) : fin m c (Proc.devRef .tc main_cst_21) = up0 0 := by
  rw [(settled_mid m c).nullary 85 rfl]
  exact const0 w_zero
theorem t_v109 {m c x} (hx : Of m c x) : fin m c (Proc.devRef .tc main_v109) = up3 (fun (i : Fin 256) (j : Fin 4) (k : Fin 128) => 0) := by
  rw [(settled_mid m c).unary 86 rfl (by decide), t_cst_21 hx]
  exact bc_u_256x4x128_ _ _

end Cert.ReferenceIdeal.Line

end
-- ==== Proof.SameState.lean ====
/-
  The states between the chunks: written out in closed form they are those of the recurrence.
-/
module

public import proofs.«01_k».proof.Proof.HostVal
public import proofs.«01_k».proof.Proof.RefVal2
@[expose] public section

set_option maxRecDepth 16384

noncomputable section

namespace Cert.Same

open Cert Cert.Lift Cert.ReferenceIdeal.Line

/-- A state that decays by `exp (l k)` and gains `a k` at every step is the sum of what was gained, each decayed
    by what came after it. -/
theorem decay (l a : Fin 256 → ℝ) (S : ℕ → ℝ) (h0 : S 0 = 0) (hs : ∀ k (h : k < 256), S (k + 1) = Real.exp (l ⟨k, h⟩) * S k + a ⟨k, h⟩) :
    ∀ k (h : k < 256), (∑ s : Fin 256, a s * (if s < (⟨k, h⟩ : Fin 256) then
      Real.exp (((∑ u : Fin 256, if u ≤ (⟨k, h⟩ : Fin 256) then l u else 0) - l ⟨k, h⟩) - ∑ u : Fin 256, if u ≤ s then l u else 0) else 0)) = S k
  | 0, h => by
    rw [h0]
    refine Finset.sum_eq_zero fun s _ => ?_
    rw [if_neg (by simp only [Fin.lt_def]; omega), mul_zero]
  | k + 1, h => by
    rw [hs k (by omega), ← decay l a S h0 hs k (by omega), Finset.mul_sum]
    have e : a ⟨k, by omega⟩ = ∑ s : Fin 256, if s = ⟨k, by omega⟩ then a s else 0 := by simp
    have L : (∑ u : Fin 256, if u ≤ (⟨k + 1, h⟩ : Fin 256) then l u else 0) - l ⟨k + 1, h⟩ = ∑ u : Fin 256, if u ≤ (⟨k, by omega⟩ : Fin 256) then l u else 0 := by
      rw [sub_eq_iff_eq_add, show l ⟨k + 1, h⟩ = ∑ u : Fin 256, if u = ⟨k + 1, h⟩ then l u else 0 by simp, ← Finset.sum_add_distrib]
      refine Finset.sum_congr rfl fun u _ => ?_
      simp only [Fin.le_def, Fin.ext_iff]
      split_ifs <;> first | (exfalso; omega) | simp
    rw [e, ← Finset.sum_add_distrib, L]
    refine Finset.sum_congr rfl fun s _ => ?_
    rcases lt_trichotomy s.val k with c | c | c
    · rw [if_pos (Fin.lt_def.2 (by show s.val < k + 1; omega)), if_pos (Fin.lt_def.2 (by show s.val < k; omega)),
        if_neg (fun q => by have := congrArg Fin.val q; simp only at this; omega), add_zero, mul_left_comm, ← Real.exp_add]
      congr 2
      ring
    · obtain ⟨s, _⟩ := s
      simp only at c
      subst c
      rw [if_pos (Fin.lt_def.2 (by show s < s + 1; omega)), if_neg (lt_irrefl _), if_pos rfl, sub_self, Real.exp_zero]
      ring
    · rw [if_neg (fun q => by have : s.val < k + 1 := Fin.lt_def.1 q; omega), if_neg (fun q => by have : s.val < k := Fin.lt_def.1 q; omega),
        if_neg (fun q => by have := congrArg Fin.val q; simp only at this; omega)]
      ring

theorem h7 (x : In) : KernelIdeal.Line.v7 x = v15 x := rfl
theorem h24 (x : In) : KernelIdeal.Line.v24 x = v26 x := by
  unfold KernelIdeal.Line.v24 v26
  rw [h7]
theorem h27 (x : In) : KernelIdeal.Line.v27 x = v29 x := by
  unfold KernelIdeal.Line.v27 v29 KernelIdeal.Line.v26 v28
  rw [h24]; rfl
theorem h30 (x : In) : KernelIdeal.Line.v30 x = v32 x := by
  unfold KernelIdeal.Line.v30 v32 KernelIdeal.Line.v29 v31 KernelIdeal.Line.v28 v30
  rw [h24]
theorem h34 (x : In) : KernelIdeal.Line.v34 x = v36 x := by
  unfold KernelIdeal.Line.v34 v36 KernelIdeal.Line.v33 v35 KernelIdeal.Line.v32 v34
  rw [h24]
theorem h39 (x : In) : KernelIdeal.Line.v39 x = v41 x := by
  unfold KernelIdeal.Line.v39 v41 KernelIdeal.Line.v38 v40_0 KernelIdeal.Line.v37 v39
  rw [h27, h30]

/-- The state handed to chunk `n`. -/
theorem h55 (x : In) (h : Fin 4) (d : Fin 128) (v n : Fin 256) : KernelIdeal.Line.v55 x h d v n = state x n.val h d v := by
  have q := decay (fun s => v26 x h s 31 d) (fun s => KernelIdeal.Line.v54 x h s v d) (fun k => state x k h d v) rfl (fun k hk => by
    show (if h' : k < 256 then while0b_v180 x ⟨k, h'⟩ (state x k) h d v else 0) = _
    rw [dif_pos hk]
    unfold while0b_v180 while0b_v178 while0b_v179 v46 KernelIdeal.Line.v54
    rw [h34]
    refine congrArg _ (Finset.sum_congr rfl fun s _ => mul_comm _ _)) n.val n.isLt
  refine Eq.trans ?_ q
  unfold KernelIdeal.Line.v55 KernelIdeal.Line.v53 KernelIdeal.Line.v52 KernelIdeal.Line.v51 KernelIdeal.Line.v43 KernelIdeal.Line.v41 below4
  rw [h24]
  simp only [decide_eq_true_eq]

/-- The output before the norm. -/
theorem h58 (x : In) (h : Fin 4) (n : Fin 256) (c : Fin 32) (v : Fin 256) : KernelIdeal.Line.v58 x h n c v = v54 x h n c v := by
  unfold KernelIdeal.Line.v58 KernelIdeal.Line.v57 v54 while0b_v175
  rw [h39, h27]
  simp only [h55]

end Cert.Same
-- ==== Proof.RefVal3.lean ====
/-
  The reference program's second loop: the gradient with respect to the state, and what is saved of it.
-/
module

public import proofs.«01_k».proof.Proof.RefVal2
@[expose] public section

set_option maxRecDepth 16384

noncomputable section

namespace Cert.ReferenceIdeal.Line

open Idealize.ShloMosaic Idealize.ShloMosaic.TcCoe Idealize.ShloMosaic.StableHlo Cert.Settled Cert.ReferenceIdeal.Gen Cert.Lift Cert

theorem i_v110_0 {m c x} (hx : Of m c x) (k : ℕ) : inB m c k (Proc.devRef .tc main_v110_0) = up4 (fun (i : Fin 256) (j : Fin 4) (k : Fin 32) (l : Fin 256) => v101 x (row i k) j l) := by
  rw [inB_held m c k _ (by decide +kernel), (settled_copyB m c).unary 0 rfl (by decide), entryB_eq m c _ (by decide +kernel), t_v104 hx]
  rfl
theorem i_v110_1 {m c x} (hx : Of m c x) (k : ℕ) : inB m c k (Proc.devRef .tc main_v110_1) = up4 (fun (i : Fin 256) (j : Fin 4) (k : Fin 128) (l : Fin 256) => state x i.val j k l) := by
  rw [inB_held m c k _ (by decide +kernel), (settled_copyB m c).unary 1 rfl (by decide), entryB_eq m c _ (by decide +kernel), t_v52_7 hx]
  rfl
theorem i_v110_2 {m c x} (hx : Of m c x) (k : ℕ) : inB m c k (Proc.devRef .tc main_v110_2) = up4 (fun (i : Fin 256) (j : Fin 4) (k : Fin 32) (l : Fin 128) => v29 x j i k l) := by
  rw [inB_held m c k _ (by decide +kernel), (settled_copyB m c).unary 2 rfl (by decide), entryB_eq m c _ (by decide +kernel), t_v42 hx]
  rfl
theorem i_v110_3 {m c x} (hx : Of m c x) (k : ℕ) : inB m c k (Proc.devRef .tc main_v110_3) = up4 (fun (i : Fin 256) (j : Fin 4) (k : Fin 128) (l : Fin 1) => v46 x j i k) := by
  rw [inB_held m c k _ (by decide +kernel), (settled_copyB m c).unary 3 rfl (by decide), entryB_eq m c _ (by decide +kernel), t_v52_8 hx]
  rfl
theorem i_v110_4 {m c x} (hx : Of m c x) (k : ℕ) : inB m c k (Proc.devRef .tc main_v110_4) = up4 (fun (i : Fin 256) (j : Fin 4) (k : Fin 32) (l : Fin 256) => x.P (row i k) (vcol (colV j l))) := by
  rw [inB_held m c k _ (by decide +kernel), (settled_copyB m c).unary 4 rfl (by decide), entryB_eq m c _ (by decide +kernel), t_v44 hx]
  rfl
theorem i_v110_5 {m c x} (hx : Of m c x) (k : ℕ) : inB m c k (Proc.devRef .tc main_v110_5) = up4 (fun (i : Fin 256) (j : Fin 4) (k : Fin 32) (l : Fin 128) => v36 x j i k l) := by
  rw [inB_held m c k _ (by decide +kernel), (settled_copyB m c).unary 5 rfl (by decide), entryB_eq m c _ (by decide +kernel), t_v43 hx]
  rfl
theorem st_B {m c x} (hx : Of m c x) (n : Fin 256) {j : S_.Idx} : (inB m c n.val (Proc.devRef .tc main_while1b_v172) j).toInt = (((rv n).val : ℕ) : ℤ) := by
  rw [(settled_inB m c n.val).binary 3 rfl (by decide), (settled_inB m c n.val).binary 1 rfl (by decide), (settled_inB m c n.val).nullary 0 rfl, (settled_inB m c n.val).nullary 2 rfl, inB_eq m c _ (Proc.devRef .tc main_v110_6) (by decide +kernel), ctrB m c]
  exact toInt_rev n
theorem i_v110_7 {m c x} (hx : Of m c x) (n : Fin 256) {S : Fin 4 → Fin 128 → Fin 256 → ℝ} (hS : atB m c n.val (Proc.devRef .tc main_v110_7) = up3 S) :
    inB m c n.val (Proc.devRef .tc main_v110_7) = up3 S := by
  rw [inB_eq m c _ _ (by decide +kernel), hS]
theorem t_while1b_call13_v0 {m c x} (hx : Of m c x) (n : Fin 256) {S : Fin 4 → Fin 128 → Fin 256 → ℝ} (hS : atB m c n.val (Proc.devRef .tc main_v110_7) = up3 S) : inB m c n.val (Proc.devRef .tc main_while1b_call13_v0) = up4 (fun (i : Fin 1) (j : Fin 4) (k : Fin 32) (l : Fin 256) => v101 x (row ((rv n)) k) j l) := by
  exact settled_dsl4 (settled_inB m c n.val) 7 (da := 256) (db := 4) (dc := 32) (dd := 256) (.of main_v110_0) ![.of main_while1b_v172, .of main_while1b_call13_c, .of main_while1b_call13_c_0, .of main_while1b_call13_c_1] (.of main_while1b_call13_v0) (rv n) rfl (by decide) (i_v110_0 hx n.val) (fun k j => by
    match k with | ⟨0, _⟩ => exact st_B hx n (j := j) | ⟨1, _⟩ => exact congrArg BitVec.toInt (congrFun ((settled_inB m c n.val).nullary 4 rfl) j) | ⟨2, _⟩ => exact congrArg BitVec.toInt (congrFun ((settled_inB m c n.val).nullary 5 rfl) j) | ⟨3, _⟩ => exact congrArg BitVec.toInt (congrFun ((settled_inB m c n.val).nullary 6 rfl) j))
theorem t_while1b_v173 {m c x} (hx : Of m c x) (n : Fin 256) {S : Fin 4 → Fin 128 → Fin 256 → ℝ} (hS : atB m c n.val (Proc.devRef .tc main_v110_7) = up3 S) : inB m c n.val (Proc.devRef .tc main_while1b_v173) = up3 (fun (i : Fin 4) (j : Fin 32) (k : Fin 256) => v101 x (row ((rv n)) j) i k) := by
  rw [(settled_inB m c n.val).reshape 8 rfl (by decide), t_while1b_call13_v0 hx n hS]
  exact resh_1x4x32x256_4x32x256 _ _
theorem t_while1b_call14_v0 {m c x} (hx : Of m c x) (n : Fin 256) {S : Fin 4 → Fin 128 → Fin 256 → ℝ} (hS : atB m c n.val (Proc.devRef .tc main_v110_7) = up3 S) : inB m c n.val (Proc.devRef .tc main_while1b_call14_v0) = up4 (fun (i : Fin 1) (j : Fin 4) (k : Fin 128) (l : Fin 256) => state x (((rv n)).val) j k l) := by
  exact settled_dsl4 (settled_inB m c n.val) 12 (da := 256) (db := 4) (dc := 128) (dd := 256) (.of main_v110_1) ![.of main_while1b_v172, .of main_while1b_call14_c, .of main_while1b_call14_c_0, .of main_while1b_call14_c_1] (.of main_while1b_call14_v0) (rv n) rfl (by decide) (i_v110_1 hx n.val) (fun k j => by
    match k with | ⟨0, _⟩ => exact st_B hx n (j := j) | ⟨1, _⟩ => exact congrArg BitVec.toInt (congrFun ((settled_inB m c n.val).nullary 9 rfl) j) | ⟨2, _⟩ => exact congrArg BitVec.toInt (congrFun ((settled_inB m c n.val).nullary 10 rfl) j) | ⟨3, _⟩ => exact congrArg BitVec.toInt (congrFun ((settled_inB m c n.val).nullary 11 rfl) j))
theorem t_while1b_v174 {m c x} (hx : Of m c x) (n : Fin 256) {S : Fin 4 → Fin 128 → Fin 256 → ℝ} (hS : atB m c n.val (Proc.devRef .tc main_v110_7) = up3 S) : inB m c n.val (Proc.devRef .tc main_while1b_v174) = up3 (fun (i : Fin 4) (j : Fin 128) (k : Fin 256) => state x (((rv n)).val) i j k) := by
  rw [(settled_inB m c n.val).reshape 13 rfl (by decide), t_while1b_call14_v0 hx n hS]
  exact resh_1x4x128x256_4x128x256 _ _
theorem t_while1b_call15_v0 {m c x} (hx : Of m c x) (n : Fin 256) {S : Fin 4 → Fin 128 → Fin 256 → ℝ} (hS : atB m c n.val (Proc.devRef .tc main_v110_7) = up3 S) : inB m c n.val (Proc.devRef .tc main_while1b_call15_v0) = up4 (fun (i : Fin 1) (j : Fin 4) (k : Fin 32) (l : Fin 128) => v29 x j ((rv n)) k l) := by
  exact settled_dsl4 (settled_inB m c n.val) 17 (da := 256) (db := 4) (dc := 32) (dd := 128) (.of main_v110_2) ![.of main_while1b_v172, .of main_while1b_call15_c, .of main_while1b_call15_c_0, .of main_while1b_call15_c_1] (.of main_while1b_call15_v0) (rv n) rfl (by decide) (i_v110_2 hx n.val) (fun k j => by
    match k with | ⟨0, _⟩ => exact st_B hx n (j := j) | ⟨1, _⟩ => exact congrArg BitVec.toInt (congrFun ((settled_inB m c n.val).nullary 14 rfl) j) | ⟨2, _⟩ => exact congrArg BitVec.toInt (congrFun ((settled_inB m c n.val).nullary 15 rfl) j) | ⟨3, _⟩ => exact congrArg BitVec.toInt (congrFun ((settled_inB m c n.val).nullary 16 rfl) j))
theorem t_while1b_v175 {m c x} (hx : Of m c x) (n : Fin 256) {S : Fin 4 → Fin 128 → Fin 256 → ℝ} (hS : atB m c n.val (Proc.devRef .tc main_v110_7) = up3 S) : inB m c n.val (Proc.devRef .tc main_while1b_v175) = up3 (fun (i : Fin 4) (j : Fin 32) (k : Fin 128) => v29 x i ((rv n)) j k) := by
  rw [(settled_inB m c n.val).reshape 18 rfl (by decide), t_while1b_call15_v0 hx n hS]
  exact resh_1x4x32x128_4x32x128 _ _
theorem t_while1b_call16_v0 {m c x} (hx : Of m c x) (n : Fin 256) {S : Fin 4 → Fin 128 → Fin 256 → ℝ} (hS : atB m c n.val (Proc.devRef .tc main_v110_7) = up3 S) : inB m c n.val (Proc.devRef .tc main_while1b_call16_v0) = up4 (fun (i : Fin 1) (j : Fin 4) (k : Fin 128) (l : Fin 1) => v46 x j ((rv n)) k) := by
  exact settled_dsl4 (settled_inB m c n.val) 22 (da := 256) (db := 4) (dc := 128) (dd := 1) (.of main_v110_3) ![.of main_while1b_v172, .of main_while1b_call16_c, .of main_while1b_call16_c_0, .of main_while1b_call16_c_1] (.of main_while1b_call16_v0) (rv n) rfl (by decide) (i_v110_3 hx n.val) (fun k j => by
    match k with | ⟨0, _⟩ => exact st_B hx n (j := j) | ⟨1, _⟩ => exact congrArg BitVec.toInt (congrFun ((settled_inB m c n.val).nullary 19 rfl) j) | ⟨2, _⟩ => exact congrArg BitVec.toInt (congrFun ((settled_inB m c n.val).nullary 20 rfl) j) | ⟨3, _⟩ => exact congrArg BitVec.toInt (congrFun ((settled_inB m c n.val).nullary 21 rfl) j))
theorem t_while1b_v176 {m c x} (hx : Of m c x) (n : Fin 256) {S : Fin 4 → Fin 128 → Fin 256 → ℝ} (hS : atB m c n.val (Proc.devRef .tc main_v110_7) = up3 S) : inB m c n.val (Proc.devRef .tc main_while1b_v176) = up3 (fun (i : Fin 4) (j : Fin 128) (k : Fin 1) => v46 x i ((rv n)) j) := by
  rw [(settled_inB m c n.val).reshape 23 rfl (by decide), t_while1b_call16_v0 hx n hS]
  exact resh_1x4x128x1_4x128x1 _ _
theorem t_while1b_call17_v0 {m c x} (hx : Of m c x) (n : Fin 256) {S : Fin 4 → Fin 128 → Fin 256 → ℝ} (hS : atB m c n.val (Proc.devRef .tc main_v110_7) = up3 S) : inB m c n.val (Proc.devRef .tc main_while1b_call17_v0) = up4 (fun (i : Fin 1) (j : Fin 4) (k : Fin 32) (l : Fin 256) => x.P (row ((rv n)) k) (vcol (colV j l))) := by
  exact settled_dsl4 (settled_inB m c n.val) 27 (da := 256) (db := 4) (dc := 32) (dd := 256) (.of main_v110_4) ![.of main_while1b_v172, .of main_while1b_call17_c, .of main_while1b_call17_c_0, .of main_while1b_call17_c_1] (.of main_while1b_call17_v0) (rv n) rfl (by decide) (i_v110_4 hx n.val) (fun k j => by
    match k with | ⟨0, _⟩ => exact st_B hx n (j := j) | ⟨1, _⟩ => exact congrArg BitVec.toInt (congrFun ((settled_inB m c n.val).nullary 24 rfl) j) | ⟨2, _⟩ => exact congrArg BitVec.toInt (congrFun ((settled_inB m c n.val).nullary 25 rfl) j) | ⟨3, _⟩ => exact congrArg BitVec.toInt (congrFun ((settled_inB m c n.val).nullary 26 rfl) j))
theorem t_while1b_v177 {m c x} (hx : Of m c x) (n : Fin 256) {S : Fin 4 → Fin 128 → Fin 256 → ℝ} (hS : atB m c n.val (Proc.devRef .tc main_v110_7) = up3 S) : inB m c n.val (Proc.devRef .tc main_while1b_v177) = up3 (fun (i : Fin 4) (j : Fin 32) (k : Fin 256) => x.P (row ((rv n)) j) (vcol (colV i k))) := by
  rw [(settled_inB m c n.val).reshape 28 rfl (by decide), t_while1b_call17_v0 hx n hS]
  exact resh_1x4x32x256_4x32x256 _ _
theorem t_while1b_call18_v0 {m c x} (hx : Of m c x) (n : Fin 256) {S : Fin 4 → Fin 128 → Fin 256 → ℝ} (hS : atB m c n.val (Proc.devRef .tc main_v110_7) = up3 S) : inB m c n.val (Proc.devRef .tc main_while1b_call18_v0) = up4 (fun (i : Fin 1) (j : Fin 4) (k : Fin 32) (l : Fin 128) => v36 x j ((rv n)) k l) := by
  exact settled_dsl4 (settled_inB m c n.val) 32 (da := 256) (db := 4) (dc := 32) (dd := 128) (.of main_v110_5) ![.of main_while1b_v172, .of main_while1b_call18_c, .of main_while1b_call18_c_0, .of main_while1b_call18_c_1] (.of main_while1b_call18_v0) (rv n) rfl (by decide) (i_v110_5 hx n.val) (fun k j => by
    match k with | ⟨0, _⟩ => exact st_B hx n (j := j) | ⟨1, _⟩ => exact congrArg BitVec.toInt (congrFun ((settled_inB m c n.val).nullary 29 rfl) j) | ⟨2, _⟩ => exact congrArg BitVec.toInt (congrFun ((settled_inB m c n.val).nullary 30 rfl) j) | ⟨3, _⟩ => exact congrArg BitVec.toInt (congrFun ((settled_inB m c n.val).nullary 31 rfl) j))
theorem t_while1b_v178 {m c x} (hx : Of m c x) (n : Fin 256) {S : Fin 4 → Fin 128 → Fin 256 → ℝ} (hS : atB m c n.val (Proc.devRef .tc main_v110_7) = up3 S) : inB m c n.val (Proc.devRef .tc main_while1b_v178) = up3 (fun (i : Fin 4) (j : Fin 32) (k : Fin 128) => v36 x i ((rv n)) j k) := by
  rw [(settled_inB m c n.val).reshape 33 rfl (by decide), t_while1b_call18_v0 hx n hS]
  exact resh_1x4x32x128_4x32x128 _ _
def while1b_v179 (x : In) (n : Fin 256) (S : Fin 4 → Fin 128 → Fin 256 → ℝ) (i : Fin 4) (j : Fin 256) (k : Fin 32) : ℝ := ∑ s : Fin 128, S i s j * (v36 x i ((rv n)) k s)
theorem t_while1b_v179 {m c x} (hx : Of m c x) (n : Fin 256) {S : Fin 4 → Fin 128 → Fin 256 → ℝ} (hS : atB m c n.val (Proc.devRef .tc main_v110_7) = up3 S) : inB m c n.val (Proc.devRef .tc main_while1b_v179) = up3 (while1b_v179 x n S) := by
  rw [(settled_inB m c n.val).binary 34 rfl (by decide), i_v110_7 hx n hS, t_while1b_v178 hx n hS]
  exact hdot_S4x128x256_S4x32x128_S4x256x32_1_2_2_1_0_0 _ _
theorem t_while1b_v180 {m c x} (hx : Of m c x) (n : Fin 256) {S : Fin 4 → Fin 128 → Fin 256 → ℝ} (hS : atB m c n.val (Proc.devRef .tc main_v110_7) = up3 S) : inB m c n.val (Proc.devRef .tc main_while1b_v180) = up3 (fun (i : Fin 4) (j : Fin 32) (k : Fin 256) => while1b_v179 x n S i k j) := by
  rw [(settled_inB m c n.val).unary 35 rfl (by decide), t_while1b_v179 hx n hS]
  exact tr_4x256x32_021 _ _
def while1b_v181 (x : In) (n : Fin 256) (S : Fin 4 → Fin 128 → Fin 256 → ℝ) (i : Fin 4) (j : Fin 128) (k : Fin 32) : ℝ := ∑ s : Fin 256, S i j s * (x.P (row ((rv n)) k) (vcol (colV i s)))
theorem t_while1b_v181 {m c x} (hx : Of m c x) (n : Fin 256) {S : Fin 4 → Fin 128 → Fin 256 → ℝ} (hS : atB m c n.val (Proc.devRef .tc main_v110_7) = up3 S) : inB m c n.val (Proc.devRef .tc main_while1b_v181) = up3 (while1b_v181 x n S) := by
  rw [(settled_inB m c n.val).binary 36 rfl (by decide), i_v110_7 hx n hS, t_while1b_v177 hx n hS]
  exact hdot_S4x128x256_S4x32x256_S4x128x32_2_2_1_1_0_0 _ _
theorem t_while1b_v182 {m c x} (hx : Of m c x) (n : Fin 256) {S : Fin 4 → Fin 128 → Fin 256 → ℝ} (hS : atB m c n.val (Proc.devRef .tc main_v110_7) = up3 S) : inB m c n.val (Proc.devRef .tc main_while1b_v182) = up3 (fun (i : Fin 4) (j : Fin 32) (k : Fin 128) => while1b_v181 x n S i k j) := by
  rw [(settled_inB m c n.val).unary 37 rfl (by decide), t_while1b_v181 hx n hS]
  exact tr_4x128x32_021 _ _
theorem t_while1b_v183 {m c x} (hx : Of m c x) (n : Fin 256) {S : Fin 4 → Fin 128 → Fin 256 → ℝ} (hS : atB m c n.val (Proc.devRef .tc main_v110_7) = up3 S) : inB m c n.val (Proc.devRef .tc main_while1b_v183) = up3 (fun (i : Fin 4) (j : Fin 128) (k : Fin 256) => v46 x i ((rv n)) j) := by
  rw [(settled_inB m c n.val).unary 38 rfl (by decide), t_while1b_v176 hx n hS]
  exact bc_4x128x1_4x128x256_012 _ _
def while1b_v184 (x : In) (n : Fin 256) (S : Fin 4 → Fin 128 → Fin 256 → ℝ) (i : Fin 4) (j : Fin 128) (k : Fin 256) : ℝ := (v46 x i ((rv n)) j) * S i j k
theorem t_while1b_v184 {m c x} (hx : Of m c x) (n : Fin 256) {S : Fin 4 → Fin 128 → Fin 256 → ℝ} (hS : atB m c n.val (Proc.devRef .tc main_v110_7) = up3 S) : inB m c n.val (Proc.devRef .tc main_while1b_v184) = up3 (while1b_v184 x n S) := by
  rw [(settled_inB m c n.val).binary 39 rfl (by decide), t_while1b_v183 hx n hS, i_v110_7 hx n hS]
  exact mul3 _ _
def while1b_v185 (x : In) (n : Fin 256) (S : Fin 4 → Fin 128 → Fin 256 → ℝ) (i : Fin 4) (j : Fin 128) (k : Fin 256) : ℝ := S i j k * (state x (((rv n)).val) i j k)
theorem t_while1b_v185 {m c x} (hx : Of m c x) (n : Fin 256) {S : Fin 4 → Fin 128 → Fin 256 → ℝ} (hS : atB m c n.val (Proc.devRef .tc main_v110_7) = up3 S) : inB m c n.val (Proc.devRef .tc main_while1b_v185) = up3 (while1b_v185 x n S) := by
  rw [(settled_inB m c n.val).binary 40 rfl (by decide), i_v110_7 hx n hS, t_while1b_v174 hx n hS]
  exact mul3 _ _
theorem t_while1b_cst_42 {m c x} (hx : Of m c x) (n : Fin 256) {S : Fin 4 → Fin 128 → Fin 256 → ℝ} (hS : atB m c n.val (Proc.devRef .tc main_v110_7) = up3 S) : inB m c n.val (Proc.devRef .tc main_while1b_cst_42) = up0 0 := by
  rw [(settled_inB m c n.val).nullary 41 rfl]
  exact const0 w_zero
def while1b_v186 (x : In) (n : Fin 256) (S : Fin 4 → Fin 128 → Fin 256 → ℝ) (i : Fin 4) (j : Fin 128) : ℝ := ∑ s : Fin 256, while1b_v185 x n S i j s
theorem t_while1b_v186 {m c x} (hx : Of m c x) (n : Fin 256) {S : Fin 4 → Fin 128 → Fin 256 → ℝ} (hS : atB m c n.val (Proc.devRef .tc main_v110_7) = up3 S) : inB m c n.val (Proc.devRef .tc main_while1b_v186) = up2 (while1b_v186 x n S) := by
  rw [(settled_inB m c n.val).binary 42 rfl (by decide), t_while1b_v185 hx n hS, t_while1b_cst_42 hx n hS]
  exact red_4x128x256_2 _ _ _
theorem t_while1b_v187 {m c x} (hx : Of m c x) (n : Fin 256) {S : Fin 4 → Fin 128 → Fin 256 → ℝ} (hS : atB m c n.val (Proc.devRef .tc main_v110_7) = up3 S) : inB m c n.val (Proc.devRef .tc main_while1b_v187) = up3 (fun (i : Fin 4) (j : Fin 128) (k : Fin 1) => while1b_v186 x n S i j) := by
  rw [(settled_inB m c n.val).reshape 43 rfl (by decide), t_while1b_v186 hx n hS]
  exact resh_4x128_4x128x1 _ _
theorem t_while1b_cst_43 {m c x} (hx : Of m c x) (n : Fin 256) {S : Fin 4 → Fin 128 → Fin 256 → ℝ} (hS : atB m c n.val (Proc.devRef .tc main_v110_7) = up3 S) : inB m c n.val (Proc.devRef .tc main_while1b_cst_43) = up0 0 := by
  rw [(settled_inB m c n.val).nullary 44 rfl]
  exact const0 w_zero
theorem t_while1b_v188 {m c x} (hx : Of m c x) (n : Fin 256) {S : Fin 4 → Fin 128 → Fin 256 → ℝ} (hS : atB m c n.val (Proc.devRef .tc main_v110_7) = up3 S) : inB m c n.val (Proc.devRef .tc main_while1b_v188) = up2 (fun (i : Fin 4) (j : Fin 128) => while1b_v186 x n S i j) := by
  rw [(settled_inB m c n.val).binary 45 rfl (by decide), t_while1b_v187 hx n hS, t_while1b_cst_43 hx n hS]
  exact red_4x128x1_2 _ _ _
def while1b_v189 (x : In) (n : Fin 256) (S : Fin 4 → Fin 128 → Fin 256 → ℝ) (i : Fin 4) (j : Fin 256) (k : Fin 128) : ℝ := ∑ s : Fin 32, (v101 x (row ((rv n)) s) i j) * (v29 x i ((rv n)) s k)
theorem t_while1b_v189 {m c x} (hx : Of m c x) (n : Fin 256) {S : Fin 4 → Fin 128 → Fin 256 → ℝ} (hS : atB m c n.val (Proc.devRef .tc main_v110_7) = up3 S) : inB m c n.val (Proc.devRef .tc main_while1b_v189) = up3 (while1b_v189 x n S) := by
  rw [(settled_inB m c n.val).binary 46 rfl (by decide), t_while1b_v173 hx n hS, t_while1b_v175 hx n hS]
  exact hdot_S4x32x256_S4x32x128_S4x256x128_1_1_2_2_0_0 _ _
theorem t_while1b_v190 {m c x} (hx : Of m c x) (n : Fin 256) {S : Fin 4 → Fin 128 → Fin 256 → ℝ} (hS : atB m c n.val (Proc.devRef .tc main_v110_7) = up3 S) : inB m c n.val (Proc.devRef .tc main_while1b_v190) = up3 (fun (i : Fin 4) (j : Fin 128) (k : Fin 256) => while1b_v189 x n S i k j) := by
  rw [(settled_inB m c n.val).unary 47 rfl (by decide), t_while1b_v189 hx n hS]
  exact tr_4x256x128_021 _ _
def while1b_v191 (x : In) (n : Fin 256) (S : Fin 4 → Fin 128 → Fin 256 → ℝ) (i : Fin 4) (j : Fin 128) (k : Fin 256) : ℝ := while1b_v184 x n S i j k + while1b_v189 x n S i k j
theorem t_while1b_v191 {m c x} (hx : Of m c x) (n : Fin 256) {S : Fin 4 → Fin 128 → Fin 256 → ℝ} (hS : atB m c n.val (Proc.devRef .tc main_v110_7) = up3 S) : inB m c n.val (Proc.devRef .tc main_while1b_v191) = up3 (while1b_v191 x n S) := by
  rw [(settled_inB m c n.val).binary 48 rfl (by decide), t_while1b_v184 hx n hS, t_while1b_v190 hx n hS]
  exact add3 _ _
def while1b_v192 (x : In) (n : Fin 256) (S : Fin 4 → Fin 128 → Fin 256 → ℝ) (i : Fin 4) (j : Fin 32) (k : Fin 128) : ℝ := ∑ s : Fin 256, (v101 x (row ((rv n)) j) i s) * (state x (((rv n)).val) i k s)
theorem t_while1b_v192 {m c x} (hx : Of m c x) (n : Fin 256) {S : Fin 4 → Fin 128 → Fin 256 → ℝ} (hS : atB m c n.val (Proc.devRef .tc main_v110_7) = up3 S) : inB m c n.val (Proc.devRef .tc main_while1b_v192) = up3 (while1b_v192 x n S) := by
  rw [(settled_inB m c n.val).binary 49 rfl (by decide), t_while1b_v173 hx n hS, t_while1b_v174 hx n hS]
  exact hdot_S4x32x256_S4x128x256_S4x32x128_2_2_1_1_0_0 _ _
theorem t_while1b_call19_v0 {m c x} (hx : Of m c x) (n : Fin 256) {S : Fin 4 → Fin 128 → Fin 256 → ℝ} (hS : atB m c n.val (Proc.devRef .tc main_v110_7) = up3 S) : inB m c n.val (Proc.devRef .tc main_while1b_call19_v0) = up4 (fun (i : Fin 1) (j : Fin 4) (k : Fin 32) (l : Fin 128) => while1b_v192 x n S j k l) := by
  rw [(settled_inB m c n.val).unary 50 rfl (by decide), t_while1b_v192 hx n hS]
  exact bc_4x32x128_1x4x32x128_123 _ _
theorem t_while1b_v193 {m c x} (hx : Of m c x) (n : Fin 256) {S : Fin 4 → Fin 128 → Fin 256 → ℝ} (hS : atB m c n.val (Proc.devRef .tc main_v110_7) = up3 S) {Q : Fin 256 → Fin 4 → Fin 32 → Fin 128 → ℝ} (hQ : atB m c n.val (Proc.devRef .tc main_v110_8) = up4 Q) : inB m c n.val (Proc.devRef .tc main_while1b_v193) = up4 (fun (i : Fin 256) (j : Fin 4) (k : Fin 32) (l : Fin 128) => if i = (rv n) then while1b_v192 x n S j k l else Q i j k l) := by
  exact settled_dus4 (settled_inB m c n.val) 54 (da := 256) (db := 4) (dc := 32) (dd := 128) (.of main_v110_8) (.of main_while1b_call19_v0) ![.of main_while1b_v172, .of main_while1b_call19_c, .of main_while1b_call19_c_0, .of main_while1b_call19_c_1] (.of main_while1b_v193) (rv n) rfl (by decide) ((inB_eq m c n.val _ (by decide +kernel)).trans hQ) (t_while1b_call19_v0 hx n hS) (fun k j => by
    match k with | ⟨0, _⟩ => exact st_B hx n (j := j) | ⟨1, _⟩ => exact congrArg BitVec.toInt (congrFun ((settled_inB m c n.val).nullary 51 rfl) j) | ⟨2, _⟩ => exact congrArg BitVec.toInt (congrFun ((settled_inB m c n.val).nullary 52 rfl) j) | ⟨3, _⟩ => exact congrArg BitVec.toInt (congrFun ((settled_inB m c n.val).nullary 53 rfl) j))
theorem t_while1b_call20_v0 {m c x} (hx : Of m c x) (n : Fin 256) {S : Fin 4 → Fin 128 → Fin 256 → ℝ} (hS : atB m c n.val (Proc.devRef .tc main_v110_7) = up3 S) : inB m c n.val (Proc.devRef .tc main_while1b_call20_v0) = up4 (fun (i : Fin 1) (j : Fin 4) (k : Fin 32) (l : Fin 128) => while1b_v181 x n S j l k) := by
  rw [(settled_inB m c n.val).unary 55 rfl (by decide), t_while1b_v182 hx n hS]
  exact bc_4x32x128_1x4x32x128_123 _ _
theorem t_while1b_v194 {m c x} (hx : Of m c x) (n : Fin 256) {S : Fin 4 → Fin 128 → Fin 256 → ℝ} (hS : atB m c n.val (Proc.devRef .tc main_v110_7) = up3 S) {Q : Fin 256 → Fin 4 → Fin 32 → Fin 128 → ℝ} (hQ : atB m c n.val (Proc.devRef .tc main_v110_9) = up4 Q) : inB m c n.val (Proc.devRef .tc main_while1b_v194) = up4 (fun (i : Fin 256) (j : Fin 4) (k : Fin 32) (l : Fin 128) => if i = (rv n) then while1b_v181 x n S j l k else Q i j k l) := by
  exact settled_dus4 (settled_inB m c n.val) 59 (da := 256) (db := 4) (dc := 32) (dd := 128) (.of main_v110_9) (.of main_while1b_call20_v0) ![.of main_while1b_v172, .of main_while1b_call20_c, .of main_while1b_call20_c_0, .of main_while1b_call20_c_1] (.of main_while1b_v194) (rv n) rfl (by decide) ((inB_eq m c n.val _ (by decide +kernel)).trans hQ) (t_while1b_call20_v0 hx n hS) (fun k j => by
    match k with | ⟨0, _⟩ => exact st_B hx n (j := j) | ⟨1, _⟩ => exact congrArg BitVec.toInt (congrFun ((settled_inB m c n.val).nullary 56 rfl) j) | ⟨2, _⟩ => exact congrArg BitVec.toInt (congrFun ((settled_inB m c n.val).nullary 57 rfl) j) | ⟨3, _⟩ => exact congrArg BitVec.toInt (congrFun ((settled_inB m c n.val).nullary 58 rfl) j))
theorem t_while1b_call21_v0 {m c x} (hx : Of m c x) (n : Fin 256) {S : Fin 4 → Fin 128 → Fin 256 → ℝ} (hS : atB m c n.val (Proc.devRef .tc main_v110_7) = up3 S) : inB m c n.val (Proc.devRef .tc main_while1b_call21_v0) = up4 (fun (i : Fin 1) (j : Fin 4) (k : Fin 32) (l : Fin 256) => while1b_v179 x n S j l k) := by
  rw [(settled_inB m c n.val).unary 60 rfl (by decide), t_while1b_v180 hx n hS]
  exact bc_4x32x256_1x4x32x256_123 _ _
theorem t_while1b_v195 {m c x} (hx : Of m c x) (n : Fin 256) {S : Fin 4 → Fin 128 → Fin 256 → ℝ} (hS : atB m c n.val (Proc.devRef .tc main_v110_7) = up3 S) {Q : Fin 256 → Fin 4 → Fin 32 → Fin 256 → ℝ} (hQ : atB m c n.val (Proc.devRef .tc main_v110_10) = up4 Q) : inB m c n.val (Proc.devRef .tc main_while1b_v195) = up4 (fun (i : Fin 256) (j : Fin 4) (k : Fin 32) (l : Fin 256) => if i = (rv n) then while1b_v179 x n S j l k else Q i j k l) := by
  exact settled_dus4 (settled_inB m c n.val) 64 (da := 256) (db := 4) (dc := 32) (dd := 256) (.of main_v110_10) (.of main_while1b_call21_v0) ![.of main_while1b_v172, .of main_while1b_call21_c, .of main_while1b_call21_c_0, .of main_while1b_call21_c_1] (.of main_while1b_v195) (rv n) rfl (by decide) ((inB_eq m c n.val _ (by decide +kernel)).trans hQ) (t_while1b_call21_v0 hx n hS) (fun k j => by
    match k with | ⟨0, _⟩ => exact st_B hx n (j := j) | ⟨1, _⟩ => exact congrArg BitVec.toInt (congrFun ((settled_inB m c n.val).nullary 61 rfl) j) | ⟨2, _⟩ => exact congrArg BitVec.toInt (congrFun ((settled_inB m c n.val).nullary 62 rfl) j) | ⟨3, _⟩ => exact congrArg BitVec.toInt (congrFun ((settled_inB m c n.val).nullary 63 rfl) j))
theorem t_while1b_call22_v0 {m c x} (hx : Of m c x) (n : Fin 256) {S : Fin 4 → Fin 128 → Fin 256 → ℝ} (hS : atB m c n.val (Proc.devRef .tc main_v110_7) = up3 S) : inB m c n.val (Proc.devRef .tc main_while1b_call22_v0) = up3 (fun (i : Fin 1) (j : Fin 4) (k : Fin 128) => while1b_v186 x n S j k) := by
  rw [(settled_inB m c n.val).unary 65 rfl (by decide), t_while1b_v188 hx n hS]
  exact bc_4x128_1x4x128_12 _ _
theorem t_while1b_v196 {m c x} (hx : Of m c x) (n : Fin 256) {S : Fin 4 → Fin 128 → Fin 256 → ℝ} (hS : atB m c n.val (Proc.devRef .tc main_v110_7) = up3 S) {Q : Fin 256 → Fin 4 → Fin 128 → ℝ} (hQ : atB m c n.val (Proc.devRef .tc main_v110_11) = up3 Q) : inB m c n.val (Proc.devRef .tc main_while1b_v196) = up3 (fun (i : Fin 256) (j : Fin 4) (k : Fin 128) => if i = (rv n) then while1b_v186 x n S j k else Q i j k) := by
  exact settled_dus3 (settled_inB m c n.val) 68 (da := 256) (db := 4) (dc := 128) (.of main_v110_11) (.of main_while1b_call22_v0) ![.of main_while1b_v172, .of main_while1b_call22_c, .of main_while1b_call22_c_0] (.of main_while1b_v196) (rv n) rfl (by decide) ((inB_eq m c n.val _ (by decide +kernel)).trans hQ) (t_while1b_call22_v0 hx n hS) (fun k j => by
    match k with | ⟨0, _⟩ => exact st_B hx n (j := j) | ⟨1, _⟩ => exact congrArg BitVec.toInt (congrFun ((settled_inB m c n.val).nullary 66 rfl) j) | ⟨2, _⟩ => exact congrArg BitVec.toInt (congrFun ((settled_inB m c n.val).nullary 67 rfl) j))
/-- The gradient with respect to the running state, before trip `k` of the reversed loop: after chunk `255 - k`. -/
def gstate (x : In) : ℕ → Fin 4 → Fin 128 → Fin 256 → ℝ
  | 0 => fun _ _ _ => 0
  | k + 1 => fun i j l => if h : k < 256 then while1b_v191 x ⟨k, h⟩ (gstate x k) i j l else 0

theorem at_gstate {m c x} (hx : Of m c x) : ∀ k, k ≤ 256 → atB m c k (Proc.devRef .tc main_v110_7) = up3 (gstate x k)
  | 0, _ => by
    rw [show atB m c 0 = entryB m c from rfl, (settled_copyB m c).unary 7 rfl (by decide), entryB_eq m c _ (by decide +kernel), t_v105 hx]
    rfl
  | k + 1, h => by
    rw [(settled_nextB m c k).unary 1 rfl (by decide), nextB_eq m c k _ (by decide +kernel)]
    refine (t_while1b_v191 hx ⟨k, h⟩ (at_gstate hx k (Nat.le_of_succ_le h))).trans (congrArg up3 ?_)
    funext i j l
    show _ = dite (k < 256) (fun h => while1b_v191 x ⟨k, h⟩ (gstate x k) i j l) fun _ => 0
    rw [dif_pos (show k < 256 from h)]
theorem at_v110_8 {m c x} (hx : Of m c x) : ∀ t, t ≤ 256 → atB m c t (Proc.devRef .tc main_v110_8) = up4 (fun (i : Fin 256) (j : Fin 4) (k : Fin 32) (l : Fin 128) => if 255 - i.val < t then while1b_v192 x (rv i) (gstate x (rv i).val) j k l else 0)
  | 0, _ => by
    rw [show atB m c 0 = entryB m c from rfl, (settled_copyB m c).unary 8 rfl (by decide), entryB_eq m c _ (by decide +kernel), t_v106 hx]
    refine congrArg up4 ?_
    funext i j k l
    exact (if_neg (Nat.not_lt_zero _)).symm
  | t + 1, h => by
    rw [(settled_nextB m c t).unary 2 rfl (by decide), nextB_eq m c t _ (by decide +kernel)]
    refine (t_while1b_v193 hx ⟨t, h⟩ (at_gstate hx t (Nat.le_of_succ_le h)) (at_v110_8 hx t (Nat.le_of_succ_le h))).trans (congrArg up4 ?_)
    funext i j k l
    by_cases hi : i = rv ⟨t, h⟩
    · subst hi
      rw [if_pos rfl, if_pos (by show 255 - (255 - t) < t + 1; omega)]
      simp only [rv_rv, rv_val h]
    · have hne : i.val ≠ 255 - t := fun e => hi (Fin.ext e)
      have hlt := i.isLt
      rw [if_neg hi]
      by_cases hk : 255 - i.val < t
      · rw [if_pos hk, if_pos (by omega)]
      · rw [if_neg hk, if_neg (by omega)]
theorem t_v110_8 {m c x} (hx : Of m c x) : fin m c (Proc.devRef .tc main_v110_8) = up4 (fun (i : Fin 256) (j : Fin 4) (k : Fin 32) (l : Fin 128) => while1b_v192 x (rv i) (gstate x (rv i).val) j k l) := by
  rw [fin_atB m c _ (by decide +kernel) (by decide +kernel), at_v110_8 hx 256 (Nat.le_refl _)]
  refine congrArg up4 ?_
  funext i j k l
  exact if_pos (by omega)
theorem at_v110_9 {m c x} (hx : Of m c x) : ∀ t, t ≤ 256 → atB m c t (Proc.devRef .tc main_v110_9) = up4 (fun (i : Fin 256) (j : Fin 4) (k : Fin 32) (l : Fin 128) => if 255 - i.val < t then while1b_v181 x (rv i) (gstate x (rv i).val) j l k else 0)
  | 0, _ => by
    rw [show atB m c 0 = entryB m c from rfl, (settled_copyB m c).unary 9 rfl (by decide), entryB_eq m c _ (by decide +kernel), t_v107 hx]
    refine congrArg up4 ?_
    funext i j k l
    exact (if_neg (Nat.not_lt_zero _)).symm
  | t + 1, h => by
    rw [(settled_nextB m c t).unary 3 rfl (by decide), nextB_eq m c t _ (by decide +kernel)]
    refine (t_while1b_v194 hx ⟨t, h⟩ (at_gstate hx t (Nat.le_of_succ_le h)) (at_v110_9 hx t (Nat.le_of_succ_le h))).trans (congrArg up4 ?_)
    funext i j k l
    by_cases hi : i = rv ⟨t, h⟩
    · subst hi
      rw [if_pos rfl, if_pos (by show 255 - (255 - t) < t + 1; omega)]
      simp only [rv_rv, rv_val h]
    · have hne : i.val ≠ 255 - t := fun e => hi (Fin.ext e)
      have hlt := i.isLt
      rw [if_neg hi]
      by_cases hk : 255 - i.val < t
      · rw [if_pos hk, if_pos (by omega)]
      · rw [if_neg hk, if_neg (by omega)]
theorem t_v110_9 {m c x} (hx : Of m c x) : fin m c (Proc.devRef .tc main_v110_9) = up4 (fun (i : Fin 256) (j : Fin 4) (k : Fin 32) (l : Fin 128) => while1b_v181 x (rv i) (gstate x (rv i).val) j l k) := by
  rw [fin_atB m c _ (by decide +kernel) (by decide +kernel), at_v110_9 hx 256 (Nat.le_refl _)]
  refine congrArg up4 ?_
  funext i j k l
  exact if_pos (by omega)
theorem at_v110_10 {m c x} (hx : Of m c x) : ∀ t, t ≤ 256 → atB m c t (Proc.devRef .tc main_v110_10) = up4 (fun (i : Fin 256) (j : Fin 4) (k : Fin 32) (l : Fin 256) => if 255 - i.val < t then while1b_v179 x (rv i) (gstate x (rv i).val) j l k else 0)
  | 0, _ => by
    rw [show atB m c 0 = entryB m c from rfl, (settled_copyB m c).unary 10 rfl (by decide), entryB_eq m c _ (by decide +kernel), t_v108 hx]
    refine congrArg up4 ?_
    funext i j k l
    exact (if_neg (Nat.not_lt_zero _)).symm
  | t + 1, h => by
    rw [(settled_nextB m c t).unary 4 rfl (by decide), nextB_eq m c t _ (by decide +kernel)]
    refine (t_while1b_v195 hx ⟨t, h⟩ (at_gstate hx t (Nat.le_of_succ_le h)) (at_v110_10 hx t (Nat.le_of_succ_le h))).trans (congrArg up4 ?_)
    funext i j k l
    by_cases hi : i = rv ⟨t, h⟩
    · subst hi
      rw [if_pos rfl, if_pos (by show 255 - (255 - t) < t + 1; omega)]
      simp only [rv_rv, rv_val h]
    · have hne : i.val ≠ 255 - t := fun e => hi (Fin.ext e)
      have hlt := i.isLt
      rw [if_neg hi]
      by_cases hk : 255 - i.val < t
      · rw [if_pos hk, if_pos (by omega)]
      · rw [if_neg hk, if_neg (by omega)]
theorem t_v110_10 {m c x} (hx : Of m c x) : fin m c (Proc.devRef .tc main_v110_10) = up4 (fun (i : Fin 256) (j : Fin 4) (k : Fin 32) (l : Fin 256) => while1b_v179 x (rv i) (gstate x (rv i).val) j l k) := by
  rw [fin_atB m c _ (by decide +kernel) (by decide +kernel), at_v110_10 hx 256 (Nat.le_refl _)]
  refine congrArg up4 ?_
  funext i j k l
  exact if_pos (by omega)
theorem at_v110_11 {m c x} (hx : Of m c x) : ∀ t, t ≤ 256 → atB m c t (Proc.devRef .tc main_v110_11) = up3 (fun (i : Fin 256) (j : Fin 4) (k : Fin 128) => if 255 - i.val < t then while1b_v186 x (rv i) (gstate x (rv i).val) j k else 0)
  | 0, _ => by
    rw [show atB m c 0 = entryB m c from rfl, (settled_copyB m c).unary 11 rfl (by decide), entryB_eq m c _ (by decide +kernel), t_v109 hx]
    refine congrArg up3 ?_
    funext i j k
    exact (if_neg (Nat.not_lt_zero _)).symm
  | t + 1, h => by
    rw [(settled_nextB m c t).unary 5 rfl (by decide), nextB_eq m c t _ (by decide +kernel)]
    refine (t_while1b_v196 hx ⟨t, h⟩ (at_gstate hx t (Nat.le_of_succ_le h)) (at_v110_11 hx t (Nat.le_of_succ_le h))).trans (congrArg up3 ?_)
    funext i j k
    by_cases hi : i = rv ⟨t, h⟩
    · subst hi
      rw [if_pos rfl, if_pos (by show 255 - (255 - t) < t + 1; omega)]
      simp only [rv_rv, rv_val h]
    · have hne : i.val ≠ 255 - t := fun e => hi (Fin.ext e)
      have hlt := i.isLt
      rw [if_neg hi]
      by_cases hk : 255 - i.val < t
      · rw [if_pos hk, if_pos (by omega)]
      · rw [if_neg hk, if_neg (by omega)]
theorem t_v110_11 {m c x} (hx : Of m c x) : fin m c (Proc.devRef .tc main_v110_11) = up3 (fun (i : Fin 256) (j : Fin 4) (k : Fin 128) => while1b_v186 x (rv i) (gstate x (rv i).val) j k) := by
  rw [fin_atB m c _ (by decide +kernel) (by decide +kernel), at_v110_11 hx 256 (Nat.le_refl _)]
  refine congrArg up3 ?_
  funext i j k
  exact if_pos (by omega)

end Cert.ReferenceIdeal.Line

end
-- ==== Proof.RefVal4.lean ====
/-
  What the reference program computes after its loops: the results.
-/
module

public import proofs.«01_k».proof.Proof.RefVal3
@[expose] public section

set_option maxRecDepth 16384

noncomputable section

namespace Cert.ReferenceIdeal.Line

open Idealize.ShloMosaic Idealize.ShloMosaic.TcCoe Idealize.ShloMosaic.StableHlo Cert.Settled Cert.ReferenceIdeal.Gen Cert.Lift Cert

theorem t_v111 {m c x} (hx : Of m c x) : fin m c (Proc.devRef .tc main_v111) = up3 (fun (i : Fin 4) (j : Fin 256) (k : Fin 128) => while1b_v186 x (rv j) (gstate x (rv j).val) i k) := by
  rw [(settled_post m c).unary 0 rfl (by decide), t_v110_11 hx]
  exact tr_256x4x128_102 _ _
def v112 (x : In) (i : Fin 4) (j : Fin 256) (k : Fin 128) : ℝ := (while1b_v186 x (rv j) (gstate x (rv j).val) i k) * v46 x i j k
theorem t_v112 {m c x} (hx : Of m c x) : fin m c (Proc.devRef .tc main_v112) = up3 (v112 x) := by
  rw [(settled_post m c).binary 1 rfl (by decide), t_v111 hx, t_v46 hx]
  exact mul3 _ _
theorem t_v113 {m c x} (hx : Of m c x) : fin m c (Proc.devRef .tc main_v113) = up4 (fun (i : Fin 4) (j : Fin 256) (k : Fin 1) (l : Fin 128) => v112 x i j l) := by
  rw [(settled_post m c).unary 2 rfl (by decide), t_v112 hx]
  exact bc_4x256x128_4x256x1x128_013 _ _
theorem t_v114 {m c x} (hx : Of m c x) : fin m c (Proc.devRef .tc main_v114) = up4 (fun (i : Fin 4) (j : Fin 256) (k : Fin 32) (l : Fin 256) => while1b_v179 x (rv j) (gstate x (rv j).val) i l k) := by
  rw [(settled_post m c).unary 3 rfl (by decide), t_v110_10 hx]
  exact tr_256x4x32x256_1023 _ _
theorem t_v115 {m c x} (hx : Of m c x) : fin m c (Proc.devRef .tc main_v115) = up4 (fun (i : Fin 4) (j : Fin 256) (k : Fin 32) (l : Fin 128) => while1b_v181 x (rv j) (gstate x (rv j).val) i l k) := by
  rw [(settled_post m c).unary 4 rfl (by decide), t_v110_9 hx]
  exact tr_256x4x32x128_1023 _ _
theorem t_v116 {m c x} (hx : Of m c x) : fin m c (Proc.devRef .tc main_v116) = up4 (fun (i : Fin 4) (j : Fin 256) (k : Fin 32) (l : Fin 128) => while1b_v192 x (rv j) (gstate x (rv j).val) i k l) := by
  rw [(settled_post m c).unary 5 rfl (by decide), t_v110_8 hx]
  exact tr_256x4x32x128_1023 _ _
def v117 (x : In) (i : Fin 4) (j : Fin 256) (k : Fin 256) (l : Fin 32) : ℝ := ∑ s : Fin 32, v101 x (row j s) i k * v40_0 x i j s l
theorem t_v117 {m c x} (hx : Of m c x) : fin m c (Proc.devRef .tc main_v117) = up4 (v117 x) := by
  rw [(settled_post m c).binary 6 rfl (by decide), t_v103 hx, t_v40_0 hx]
  exact hdot_S4x256x32x256_S4x256x32x32_S4x256x256x32_2_2_3_3_01_01 _ _
theorem t_v118 {m c x} (hx : Of m c x) : fin m c (Proc.devRef .tc main_v118) = up4 (fun (i : Fin 4) (j : Fin 256) (k : Fin 32) (l : Fin 256) => v117 x i j l k) := by
  rw [(settled_post m c).unary 7 rfl (by decide), t_v117 hx]
  exact tr_4x256x256x32_0132 _ _
def v119 (x : In) (i : Fin 4) (j : Fin 256) (k : Fin 32) (l : Fin 256) : ℝ := (while1b_v179 x (rv j) (gstate x (rv j).val) i l k) + v117 x i j l k
theorem t_v119 {m c x} (hx : Of m c x) : fin m c (Proc.devRef .tc main_v119) = up4 (v119 x) := by
  rw [(settled_post m c).binary 8 rfl (by decide), t_v114 hx, t_v118 hx]
  exact add4 _ _
def v120 (x : In) (i : Fin 4) (j : Fin 256) (k : Fin 32) (l : Fin 32) : ℝ := ∑ s : Fin 256, v101 x (row j k) i s * (x.P (row j l) (vcol (colV i s)))
theorem t_v120 {m c x} (hx : Of m c x) : fin m c (Proc.devRef .tc main_v120) = up4 (v120 x) := by
  rw [(settled_post m c).binary 9 rfl (by decide), t_v103 hx, t_v23 hx]
  exact hdot_S4x256x32x256_S4x256x32x256_S4x256x32x32_3_3_2_2_01_01 _ _
theorem t_call23_cst {m c x} (hx : Of m c x) : fin m c (Proc.devRef .tc main_call23_cst) = up0 0 := by
  rw [(settled_post m c).nullary 10 rfl]
  exact const0 w_zero
theorem t_call23_v0 {m c x} (hx : Of m c x) : fin m c (Proc.devRef .tc main_call23_v0) = up4 (fun (i : Fin 4) (j : Fin 256) (k : Fin 32) (l : Fin 32) => 0) := by
  rw [(settled_post m c).unary 11 rfl (by decide), t_call23_cst hx]
  exact bc_u_4x256x32x32_ _ _
def v121 (x : In) (i : Fin 4) (j : Fin 256) (k : Fin 32) (l : Fin 32) : ℝ := if low4 i j k l then v120 x i j k l else 0
theorem t_v121 {m c x} (hx : Of m c x) : fin m c (Proc.devRef .tc main_v121) = up4 (v121 x) := by
  rw [(settled_post m c).ternary 12 rfl (by decide), t_v40_1 hx, t_v120 hx, t_call23_v0 hx]
  exact sel4 low4 _ _
def v122 (x : In) (i : Fin 4) (j : Fin 256) (k : Fin 32) (l : Fin 128) : ℝ := ∑ s : Fin 32, v121 x i j s k * v29 x i j s l
theorem t_v122 {m c x} (hx : Of m c x) : fin m c (Proc.devRef .tc main_v122) = up4 (v122 x) := by
  rw [(settled_post m c).binary 13 rfl (by decide), t_v121 hx, t_v29 hx]
  exact hdot_S4x256x32x32_S4x256x32x128_S4x256x32x128_2_2_3_3_01_01 _ _
def v123 (x : In) (i : Fin 4) (j : Fin 256) (k : Fin 32) (l : Fin 128) : ℝ := ∑ s : Fin 32, v121 x i j k s * v32 x i j s l
theorem t_v123 {m c x} (hx : Of m c x) : fin m c (Proc.devRef .tc main_v123) = up4 (v123 x) := by
  rw [(settled_post m c).binary 14 rfl (by decide), t_v121 hx, t_v32 hx]
  exact hdot_S4x256x32x32_S4x256x32x128_S4x256x32x128_3_2_2_3_01_01 _ _
def v124 (x : In) (i : Fin 4) (j : Fin 256) (k : Fin 32) (l : Fin 128) : ℝ := (while1b_v192 x (rv j) (gstate x (rv j).val) i k l) + v123 x i j k l
theorem t_v124 {m c x} (hx : Of m c x) : fin m c (Proc.devRef .tc main_v124) = up4 (v124 x) := by
  rw [(settled_post m c).binary 15 rfl (by decide), t_v116 hx, t_v123 hx]
  exact add4 _ _
def v125 (x : In) (i : Fin 4) (j : Fin 256) (k : Fin 32) (l : Fin 128) : ℝ := (x.P (row j k) (kcol (colK i l))) * (while1b_v181 x (rv j) (gstate x (rv j).val) i l k)
theorem t_v125 {m c x} (hx : Of m c x) : fin m c (Proc.devRef .tc main_v125) = up4 (v125 x) := by
  rw [(settled_post m c).binary 16 rfl (by decide), t_v21 hx, t_v115 hx]
  exact mul4 _ _
def v126 (x : In) (i : Fin 4) (j : Fin 256) (k : Fin 32) (l : Fin 128) : ℝ := (while1b_v181 x (rv j) (gstate x (rv j).val) i l k) * v35 x i j k l
theorem t_v126 {m c x} (hx : Of m c x) : fin m c (Proc.devRef .tc main_v126) = up4 (v126 x) := by
  rw [(settled_post m c).binary 17 rfl (by decide), t_v115 hx, t_v35 hx]
  exact mul4 _ _
def v127 (x : In) (i : Fin 4) (j : Fin 256) (k : Fin 32) (l : Fin 128) : ℝ := v125 x i j k l * v35 x i j k l
theorem t_v127 {m c x} (hx : Of m c x) : fin m c (Proc.devRef .tc main_v127) = up4 (v127 x) := by
  rw [(settled_post m c).binary 18 rfl (by decide), t_v125 hx, t_v35 hx]
  exact mul4 _ _
theorem t_cst_23 {m c x} (hx : Of m c x) : fin m c (Proc.devRef .tc main_cst_23) = up0 0 := by
  rw [(settled_post m c).nullary 19 rfl]
  exact const0 w_zero
def v128 (x : In) (i : Fin 4) (j : Fin 256) (k : Fin 128) : ℝ := ∑ s : Fin 32, v127 x i j s k
theorem t_v128 {m c x} (hx : Of m c x) : fin m c (Proc.devRef .tc main_v128) = up3 (v128 x) := by
  rw [(settled_post m c).binary 20 rfl (by decide), t_v127 hx, t_cst_23 hx]
  exact red_4x256x32x128_2 _ _ _
theorem t_v129 {m c x} (hx : Of m c x) : fin m c (Proc.devRef .tc main_v129) = up4 (fun (i : Fin 4) (j : Fin 256) (k : Fin 1) (l : Fin 128) => v128 x i j l) := by
  rw [(settled_post m c).reshape 21 rfl (by decide), t_v128 hx]
  exact resh_4x256x128_4x256x1x128 _ _
def v130 (x : In) (i : Fin 4) (j : Fin 256) (k : Fin 32) (l : Fin 128) : ℝ := -(v127 x i j k l)
theorem t_v130 {m c x} (hx : Of m c x) : fin m c (Proc.devRef .tc main_v130) = up4 (v130 x) := by
  rw [(settled_post m c).unary 22 rfl (by decide), t_v127 hx]
  exact hneg4 _
def v131 (x : In) (i : Fin 4) (j : Fin 256) (k : Fin 1) (l : Fin 128) : ℝ := v112 x i j l + v128 x i j l
theorem t_v131 {m c x} (hx : Of m c x) : fin m c (Proc.devRef .tc main_v131) = up4 (v131 x) := by
  rw [(settled_post m c).binary 23 rfl (by decide), t_v113 hx, t_v129 hx]
  exact add4 _ _
def v132 (x : In) (i : Fin 4) (j : Fin 256) (k : Fin 32) (l : Fin 128) : ℝ := (x.P (row j k) (kcol (colK i l))) * v122 x i j k l
theorem t_v132 {m c x} (hx : Of m c x) : fin m c (Proc.devRef .tc main_v132) = up4 (v132 x) := by
  rw [(settled_post m c).binary 24 rfl (by decide), t_v21 hx, t_v122 hx]
  exact mul4 _ _
def v133 (x : In) (i : Fin 4) (j : Fin 256) (k : Fin 32) (l : Fin 128) : ℝ := v122 x i j k l * v31 x i j k l
theorem t_v133 {m c x} (hx : Of m c x) : fin m c (Proc.devRef .tc main_v133) = up4 (v133 x) := by
  rw [(settled_post m c).binary 25 rfl (by decide), t_v122 hx, t_v31 hx]
  exact mul4 _ _
def v134 (x : In) (i : Fin 4) (j : Fin 256) (k : Fin 32) (l : Fin 128) : ℝ := v126 x i j k l + v133 x i j k l
theorem t_v134 {m c x} (hx : Of m c x) : fin m c (Proc.devRef .tc main_v134) = up4 (v134 x) := by
  rw [(settled_post m c).binary 26 rfl (by decide), t_v126 hx, t_v133 hx]
  exact add4 _ _
def v135 (x : In) (i : Fin 4) (j : Fin 256) (k : Fin 32) (l : Fin 128) : ℝ := v132 x i j k l * v31 x i j k l
theorem t_v135 {m c x} (hx : Of m c x) : fin m c (Proc.devRef .tc main_v135) = up4 (v135 x) := by
  rw [(settled_post m c).binary 27 rfl (by decide), t_v132 hx, t_v31 hx]
  exact mul4 _ _
def v136 (x : In) (i : Fin 4) (j : Fin 256) (k : Fin 32) (l : Fin 128) : ℝ := -(v135 x i j k l)
theorem t_v136 {m c x} (hx : Of m c x) : fin m c (Proc.devRef .tc main_v136) = up4 (v136 x) := by
  rw [(settled_post m c).unary 28 rfl (by decide), t_v135 hx]
  exact hneg4 _
def v137 (x : In) (i : Fin 4) (j : Fin 256) (k : Fin 32) (l : Fin 128) : ℝ := v130 x i j k l + v136 x i j k l
theorem t_v137 {m c x} (hx : Of m c x) : fin m c (Proc.devRef .tc main_v137) = up4 (v137 x) := by
  rw [(settled_post m c).binary 29 rfl (by decide), t_v130 hx, t_v136 hx]
  exact add4 _ _
def v138 (x : In) (i : Fin 4) (j : Fin 256) (k : Fin 32) (l : Fin 128) : ℝ := v19 x i j k l * v124 x i j k l
theorem t_v138 {m c x} (hx : Of m c x) : fin m c (Proc.devRef .tc main_v138) = up4 (v138 x) := by
  rw [(settled_post m c).binary 30 rfl (by decide), t_v19 hx, t_v124 hx]
  exact mul4 _ _
def v139 (x : In) (i : Fin 4) (j : Fin 256) (k : Fin 32) (l : Fin 128) : ℝ := v124 x i j k l * v28 x i j k l
theorem t_v139 {m c x} (hx : Of m c x) : fin m c (Proc.devRef .tc main_v139) = up4 (v139 x) := by
  rw [(settled_post m c).binary 31 rfl (by decide), t_v124 hx, t_v28 hx]
  exact mul4 _ _
def v140 (x : In) (i : Fin 4) (j : Fin 256) (k : Fin 32) (l : Fin 128) : ℝ := v138 x i j k l * v28 x i j k l
theorem t_v140 {m c x} (hx : Of m c x) : fin m c (Proc.devRef .tc main_v140) = up4 (v140 x) := by
  rw [(settled_post m c).binary 32 rfl (by decide), t_v138 hx, t_v28 hx]
  exact mul4 _ _
def v141 (x : In) (i : Fin 4) (j : Fin 256) (k : Fin 32) (l : Fin 128) : ℝ := v137 x i j k l + v140 x i j k l
theorem t_v141 {m c x} (hx : Of m c x) : fin m c (Proc.devRef .tc main_v141) = up4 (v141 x) := by
  rw [(settled_post m c).binary 33 rfl (by decide), t_v137 hx, t_v140 hx]
  exact add4 _ _
theorem t_cst_24 {m c x} (hx : Of m c x) : fin m c (Proc.devRef .tc main_cst_24) = up0 0 := by
  rw [(settled_post m c).nullary 34 rfl]
  exact const0 w_zero
def v142 (x : In) (i : Fin 4) (j : Fin 256) (k : Fin 32) (l : Fin 128) : ℝ := if k = 31 then v131 x i j 0 l else 0
theorem t_v142 {m c x} (hx : Of m c x) : fin m c (Proc.devRef .tc main_v142) = up4 (v142 x) := by
  rw [(settled_post m c).binary 35 rfl (by decide), t_v131 hx, t_cst_24 hx]
  exact pad_last _ _ _
def v143 (x : In) (i : Fin 4) (j : Fin 256) (k : Fin 32) (l : Fin 128) : ℝ := v141 x i j k l + v142 x i j k l
theorem t_v143 {m c x} (hx : Of m c x) : fin m c (Proc.devRef .tc main_v143) = up4 (v143 x) := by
  rw [(settled_post m c).binary 36 rfl (by decide), t_v141 hx, t_v142 hx]
  exact add4 _ _
theorem t_call24_call0_cst {m c x} (hx : Of m c x) : fin m c (Proc.devRef .tc main_call24_call0_cst) = up0 0 := by
  rw [(settled_post m c).nullary 37 rfl]
  exact const0 w_zero
theorem t_call24_call0_v0 {m c x} (hx : Of m c x) : fin m c (Proc.devRef .tc main_call24_call0_v0) = up0 0 := by
  rw [(settled_post m c).unary 38 rfl (by decide), t_call24_call0_cst hx]
  exact bc_u_u_ _ _
def v144 (x : In) (i : Fin 4) (j : Fin 256) (k : Fin 32) (l : Fin 128) : ℝ := ∑ s : Fin 32, if k ≤ s then v143 x i j s l else 0
theorem t_v144 {m c x} (hx : Of m c x) : fin m c (Proc.devRef .tc main_v144) = up4 (v144 x) := by
  rw [(settled_post m c).binary 39 rfl (by decide), t_v143 hx, t_call24_call0_v0 hx]
  exact cumRev4 _ _ _
theorem t_v145 {m c x} (hx : Of m c x) : fin m c (Proc.devRef .tc main_v145) = up4 (fun (i : Fin 256) (j : Fin 32) (k : Fin 4) (l : Fin 128) => v144 x k i j l) := by
  rw [(settled_post m c).unary 40 rfl (by decide), t_v144 hx]
  exact tr_4x256x32x128_1203 _ _
theorem t_v146 {m c x} (hx : Of m c x) : fin m c (Proc.devRef .tc main_v146) = up2 (fun (i : Fin 8192) (j : Fin 512) => v144 x (headK j) (chk i) (pos i) (dimK j)) := by
  rw [(settled_post m c).reshape 41 rfl (by decide), t_v145 hx]
  exact resh_256x32x4x128_8192x512 _ _
theorem t_v147 {m c x} (hx : Of m c x) : fin m c (Proc.devRef .tc main_v147) = up4 (fun (i : Fin 256) (j : Fin 32) (k : Fin 4) (l : Fin 256) => v119 x k i j l) := by
  rw [(settled_post m c).unary 42 rfl (by decide), t_v119 hx]
  exact tr_4x256x32x256_1203 _ _
theorem t_v148 {m c x} (hx : Of m c x) : fin m c (Proc.devRef .tc main_v148) = up2 (fun (i : Fin 8192) (j : Fin 1024) => v119 x (headV j) (chk i) (pos i) (dimV j)) := by
  rw [(settled_post m c).reshape 43 rfl (by decide), t_v147 hx]
  exact resh_256x32x4x256_8192x1024 _ _
theorem t_v149 {m c x} (hx : Of m c x) : fin m c (Proc.devRef .tc main_v149) = up4 (fun (i : Fin 256) (j : Fin 32) (k : Fin 4) (l : Fin 128) => v134 x k i j l) := by
  rw [(settled_post m c).unary 44 rfl (by decide), t_v134 hx]
  exact tr_4x256x32x128_1203 _ _
theorem t_v150 {m c x} (hx : Of m c x) : fin m c (Proc.devRef .tc main_v150) = up2 (fun (i : Fin 8192) (j : Fin 512) => v134 x (headK j) (chk i) (pos i) (dimK j)) := by
  rw [(settled_post m c).reshape 45 rfl (by decide), t_v149 hx]
  exact resh_256x32x4x128_8192x512 _ _
theorem t_cst_25 {m c x} (hx : Of m c x) : fin m c (Proc.devRef .tc main_cst_25) = up0 sc := by
  rw [(settled_post m c).nullary 46 rfl]
  exact const0 w_sc
theorem t_v151 {m c x} (hx : Of m c x) : fin m c (Proc.devRef .tc main_v151) = up4 (fun (i : Fin 4) (j : Fin 256) (k : Fin 32) (l : Fin 128) => sc) := by
  rw [(settled_post m c).unary 47 rfl (by decide), t_cst_25 hx]
  exact bc_u_4x256x32x128_ _ _
def v152 (x : In) (i : Fin 4) (j : Fin 256) (k : Fin 32) (l : Fin 128) : ℝ := v139 x i j k l * sc
theorem t_v152 {m c x} (hx : Of m c x) : fin m c (Proc.devRef .tc main_v152) = up4 (v152 x) := by
  rw [(settled_post m c).binary 48 rfl (by decide), t_v139 hx, t_v151 hx]
  exact mul4 _ _
theorem t_v153 {m c x} (hx : Of m c x) : fin m c (Proc.devRef .tc main_v153) = up4 (fun (i : Fin 256) (j : Fin 32) (k : Fin 4) (l : Fin 128) => v152 x k i j l) := by
  rw [(settled_post m c).unary 49 rfl (by decide), t_v152 hx]
  exact tr_4x256x32x128_1203 _ _
theorem t_v154 {m c x} (hx : Of m c x) : fin m c (Proc.devRef .tc main_v154) = up2 (fun (i : Fin 8192) (j : Fin 512) => v152 x (headK j) (chk i) (pos i) (dimK j)) := by
  rw [(settled_post m c).reshape 50 rfl (by decide), t_v153 hx]
  exact resh_256x32x4x128_8192x512 _ _
theorem t_cst_26 {m c x} (hx : Of m c x) : fin m c (Proc.devRef .tc main_cst_26) = up0 16 := by
  rw [(settled_post m c).nullary 51 rfl]
  exact const0 w_16
theorem t_v155 {m c x} (hx : Of m c x) : fin m c (Proc.devRef .tc main_v155) = up2 (fun (i : Fin 8192) (j : Fin 512) => 16) := by
  rw [(settled_post m c).unary 52 rfl (by decide), t_cst_26 hx]
  exact bc_u_8192x512_ _ _
def v156 (x : In) (i : Fin 8192) (j : Fin 512) : ℝ := v144 x (headK j) (chk i) (pos i) (dimK j) / 16
theorem t_v156 {m c x} (hx : Of m c x) : fin m c (Proc.devRef .tc main_v156) = up2 (v156 x) := by
  rw [(settled_post m c).binary 53 rfl (by decide), t_v146 hx, t_v155 hx]
  exact hdiv2 _ _ (fun _ _ => by norm_num)
def call25_v0 (x : In) (i : Fin 8192) (j : Fin 512) : ℝ := -(v156 x i j)
theorem t_call25_v0 {m c x} (hx : Of m c x) : fin m c (Proc.devRef .tc main_call25_v0) = up2 (call25_v0 x) := by
  rw [(settled_post m c).unary 54 rfl (by decide), t_v156 hx]
  exact hneg2 _
def call25_v1 (x : In) (i : Fin 8192) (j : Fin 512) : ℝ := call25_v0 x i j * v13_1 x i j
theorem t_call25_v1 {m c x} (hx : Of m c x) : fin m c (Proc.devRef .tc main_call25_v1) = up2 (call25_v1 x) := by
  rw [(settled_post m c).binary 55 rfl (by decide), t_call25_v0 hx, t_v13_1 hx]
  exact mul2 _ _
def v157 (x : In) (i : Fin 8192) (j : Fin 512) : ℝ := -(call25_v1 x i j)
theorem t_v157 {m c x} (hx : Of m c x) : fin m c (Proc.devRef .tc main_v157) = up2 (v157 x) := by
  rw [(settled_post m c).unary 56 rfl (by decide), t_call25_v1 hx]
  exact hneg2 _
theorem t_cst_27 {m c x} (hx : Of m c x) : fin m c (Proc.devRef .tc main_cst_27) = up0 0 := by
  rw [(settled_post m c).nullary 57 rfl]
  exact const0 w_zero
def v158 (x : In) (i : Fin 512) : ℝ := ∑ s : Fin 8192, v157 x s i
theorem t_v158 {m c x} (hx : Of m c x) : fin m c (Proc.devRef .tc main_v158) = up1 (v158 x) := by
  rw [(settled_post m c).binary 58 rfl (by decide), t_v157 hx, t_cst_27 hx]
  exact red_8192x512_0 _ _ _
theorem t_v159 {m c x} (hx : Of m c x) : fin m c (Proc.devRef .tc main_v159) = up2 (fun (i : Fin 1) (j : Fin 512) => v158 x j) := by
  rw [(settled_post m c).reshape 59 rfl (by decide), t_v158 hx]
  exact resh_512_1x512 _ _
theorem t_cst_28 {m c x} (hx : Of m c x) : fin m c (Proc.devRef .tc main_cst_28) = up0 0 := by
  rw [(settled_post m c).nullary 60 rfl]
  exact const0 w_zero
theorem t_v160 {m c x} (hx : Of m c x) : fin m c (Proc.devRef .tc main_v160) = up1 (fun (i : Fin 512) => v158 x i) := by
  rw [(settled_post m c).binary 61 rfl (by decide), t_v159 hx, t_cst_28 hx]
  exact red_1x512_0 _ _ _
def v161 (x : In) (i : Fin 512) (j : Fin 128) : ℝ := ∑ s : Fin 8192, v157 x s i * x.A s j
theorem t_v161 {m c x} (hx : Of m c x) : fin m c (Proc.devRef .tc main_v161) = up2 (v161 x) := by
  rw [(settled_post m c).binary 62 rfl (by decide), t_v157 hx, t_v5 hx]
  exact hdot_S8192x512_S8192x128_S512x128_0_0_1_1_n_n _ _
theorem t_v162 {m c x} (hx : Of m c x) : fin m c (Proc.devRef .tc main_v162) = up2 (fun (i : Fin 128) (j : Fin 512) => v161 x j i) := by
  rw [(settled_post m c).unary 63 rfl (by decide), t_v161 hx]
  exact tr_512x128_10 _ _
def v163 (x : In) (i : Fin 8192) (j : Fin 128) : ℝ := ∑ s : Fin 512, v157 x i s * x.W j s
theorem t_v163 {m c x} (hx : Of m c x) : fin m c (Proc.devRef .tc main_v163) = up2 (v163 x) := by
  rw [(settled_post m c).binary 64 rfl (by decide), t_v157 hx, t_v6 hx]
  exact hdot_S8192x512_S128x512_S8192x128_1_1_0_0_n_n _ _
theorem t_v164 {m c x} (hx : Of m c x) : fin m c (Proc.devRef .tc main_v164) = up2 (fun (i : Fin 8192) (j : Fin 512) => v152 x (headK j) (chk i) (pos i) (dimK j)) := by
  rw [(settled_post m c).unary 65 rfl (by decide), t_v154 hx]
  rfl
theorem t_v165 {m c x} (hx : Of m c x) : fin m c (Proc.devRef .tc main_v165) = up2 (fun (i : Fin 8192) (j : Fin 512) => v134 x (headK j) (chk i) (pos i) (dimK j)) := by
  rw [(settled_post m c).unary 66 rfl (by decide), t_v150 hx]
  rfl
theorem t_v166 {m c x} (hx : Of m c x) : fin m c (Proc.devRef .tc main_v166) = up2 (fun (i : Fin 8192) (j : Fin 1024) => v119 x (headV j) (chk i) (pos i) (dimV j)) := by
  rw [(settled_post m c).unary 67 rfl (by decide), t_v148 hx]
  rfl
theorem t_v167 {m c x} (hx : Of m c x) : fin m c (Proc.devRef .tc main_v167) = up2 (fun (i : Fin 8192) (j : Fin 1024) => v80 x i j) := by
  rw [(settled_post m c).unary 68 rfl (by decide), t_v80 hx]
  rfl
theorem t_v168 {m c x} (hx : Of m c x) : fin m c (Proc.devRef .tc main_v168) = up2 (fun (i : Fin 8192) (j : Fin 128) => v163 x i j) := by
  rw [(settled_post m c).unary 69 rfl (by decide), t_v163 hx]
  rfl
theorem t_v169 {m c x} (hx : Of m c x) : fin m c (Proc.devRef .tc main_v169) = up2 (fun (i : Fin 1) (j : Fin 512) => v158 x j) := by
  rw [(settled_post m c).unary 70 rfl (by decide), t_v160 hx]
  exact bc_512_1x512_1 _ _
theorem t_v170 {m c x} (hx : Of m c x) : fin m c (Proc.devRef .tc main_v170) = up2 (fun (i : Fin 1) (j : Fin 1024) => v82 x j) := by
  rw [(settled_post m c).unary 71 rfl (by decide), t_v86 hx]
  exact bc_1024_1x1024_1 _ _

end Cert.ReferenceIdeal.Line

end
-- ==== Proof.SameBlock.lean ====
/-
  What the kernel computes of a block of rows is what the reference computes of those rows.
-/
module

public import proofs.«01_k».proof.Proof.KerFinal
public import proofs.«01_k».proof.Proof.SameState
public import proofs.«01_k».proof.Proof.RefVal4
@[expose] public section

set_option maxRecDepth 16384

noncomputable section

namespace Cert.Same

open Cert Cert.ReferenceIdeal.Line Cert.KernelIdeal.Points
open Cert.Lift hiding colK colV
open Cert.KernelIdeal.Body hiding colK colV

/-! ### Rows, columns, chunks -/

/-- The chunk point `t` works on after `k` others. -/
def cn (t : Fin 32) (k : Fin 8) : Fin 256 := bchk t (7 - k.val)

theorem brow_rw (t : Fin 32) (k : Fin 8) (i : Fin 32) : brow t (rw_ k i) = row (cn t k) i :=
  Fin.ext (by simp only [brow, rw_, row, cn, bchk]; omega)
theorem chk_row (n : Fin 256) (i : Fin 32) : chk (row n i) = n := Fin.ext (by simp only [chk, row]; omega)
theorem pos_row (n : Fin 256) (i : Fin 32) : pos (row n i) = i := Fin.ext (by simp only [pos, row]; omega)
theorem cn_rv (t : Fin 32) (k : Fin 8) : (rv (cn t k)).val = 8 * t.val + k.val := by simp only [rv, cn, bchk]; omega
theorem rv_rv (n : Fin 256) : rv (rv n) = n := Fin.ext (by simp only [rv]; omega)
theorem cK_eq (h : Fin 4) (d : Fin 128) : cK h d = Lift.colK h d := Fin.ext (by simp only [cK, Lift.colK]; omega)
theorem cV_eq (h : Fin 4) (d : Fin 256) : cV h d = Lift.colV h d := Fin.ext (by simp only [cV, Lift.colV]; omega)
theorem headK_col (h : Fin 4) (d : Fin 128) : headK (Lift.colK h d) = h := Fin.ext (by simp only [headK, Lift.colK]; omega)
theorem dimK_col (h : Fin 4) (d : Fin 128) : dimK (Lift.colK h d) = d := Fin.ext (by simp only [dimK, Lift.colK]; omega)
theorem headV_col (h : Fin 4) (d : Fin 256) : headV (Lift.colV h d) = h := Fin.ext (by simp only [headV, Lift.colV]; omega)
theorem dimV_col (h : Fin 4) (d : Fin 256) : dimV (Lift.colV h d) = d := Fin.ext (by simp only [dimV, Lift.colV]; omega)
theorem ofNat4 (h : Fin 4) : Fin.ofNat 4 h.val = h := Fin.ext (Nat.mod_eq_of_lt h.isLt)

theorem rw_inj (k : Fin 8) : Function.Injective (rw_ k.val) := fun i j e => Fin.ext (by
  have := congrArg Fin.val e
  simp only [rw_] at this
  omega)

/-- A sum over the rows of the block of what is zero outside a chunk. -/
theorem sum_chunk (k : Fin 8) (f : Fin 256 → ℝ) (hf : ∀ t : Fin 256, t.val / 32 ≠ 7 - k.val → f t = 0) :
    (∑ t, f t) = ∑ s : Fin 32, f (rw_ k s) :=
  (Fintype.sum_of_injective (rw_ k.val) (rw_inj k) (fun s => f (rw_ k s)) f (fun t ht => hf t fun e => ht
    ⟨⟨t.val % 32, by omega⟩, Fin.ext (by simp only [rw_]; omega)⟩) fun _ => rfl).symm

theorem inL_at (k : Fin 8) (i j : Fin 32) : inL (rw_ k i) (rw_ k j) = decide (j ≤ i) := by
  unfold inL rw_
  refine decide_eq_decide.2 ?_
  simp only [Fin.le_def]
  omega
theorem inU_at (k : Fin 8) (i j : Fin 32) : inU (rw_ k i) (rw_ k j) = decide (i ≤ j) := by
  unfold inU rw_
  refine decide_eq_decide.2 ?_
  simp only [Fin.le_def]
  omega
theorem inS_at (k : Fin 8) (i j : Fin 32) : inS (rw_ k i) (rw_ k j) = true := by
  unfold inS rw_
  refine decide_eq_true ?_
  show (32 * (7 - k.val) + i.val) / 32 = (32 * (7 - k.val) + j.val) / 32
  omega
theorem inL_off (k : Fin 8) (i : Fin 32) (t : Fin 256) (h : t.val / 32 ≠ 7 - k.val) : inL (rw_ k i) t = false := by
  unfold inL rw_
  refine decide_eq_false ?_
  show ¬((32 * (7 - k.val) + i.val) / 32 = t.val / 32 ∧ _)
  omega
theorem inL_off' (k : Fin 8) (i : Fin 32) (t : Fin 256) (h : t.val / 32 ≠ 7 - k.val) : inL t (rw_ k i) = false := by
  unfold inL rw_
  refine decide_eq_false ?_
  show ¬(t.val / 32 = (32 * (7 - k.val) + i.val) / 32 ∧ _)
  omega
theorem inU_off (k : Fin 8) (i : Fin 32) (t : Fin 256) (h : t.val / 32 ≠ 7 - k.val) : inU (rw_ k i) t = false := by
  unfold inU rw_
  refine decide_eq_false ?_
  show ¬((32 * (7 - k.val) + i.val) / 32 = t.val / 32 ∧ _)
  omega
theorem inS_off (k : Fin 8) (i : Fin 32) (t : Fin 256) (h : t.val / 32 ≠ 7 - k.val) : inS (rw_ k i) t = false := by
  unfold inS rw_
  refine decide_eq_false ?_
  show ¬(32 * (7 - k.val) + i.val) / 32 = t.val / 32
  omega

/-- The three sums over rows of a chunk: up to a row, from a row on, and over all. -/
theorem sumL (k : Fin 8) (i : Fin 32) (f : Fin 256 → ℝ) :
    (∑ t, (if inL (rw_ k i) t then 1 else 0) * f t) = ∑ s : Fin 32, if s ≤ i then f (rw_ k s) else 0 := by
  rw [sum_chunk k _ fun t h => by rw [inL_off k i t h]; simp]
  refine Finset.sum_congr rfl fun s _ => ?_
  rw [inL_at]
  by_cases h : s ≤ i <;> simp [h]
theorem sumU (k : Fin 8) (i : Fin 32) (f : Fin 256 → ℝ) :
    (∑ t, (if inU (rw_ k i) t then 1 else 0) * f t) = ∑ s : Fin 32, if i ≤ s then f (rw_ k s) else 0 := by
  rw [sum_chunk k _ fun t h => by rw [inU_off k i t h]; simp]
  refine Finset.sum_congr rfl fun s _ => ?_
  rw [inU_at]
  by_cases h : i ≤ s <;> simp [h]
theorem sumS (k : Fin 8) (i : Fin 32) (f : Fin 256 → ℝ) :
    (∑ t, (if inS (rw_ k i) t then 1 else 0) * f t) = ∑ s : Fin 32, f (rw_ k s) := by
  rw [sum_chunk k _ fun t h => by rw [inS_off k i t h]; simp]
  refine Finset.sum_congr rfl fun s _ => ?_
  rw [inS_at]
  simp

/-! ### Gate, decayed queries and keys -/

variable (x : In) (t : Fin 32) (k : Fin 8) (h : Fin 4)

theorem z_eq (i : Fin 256) (s : Fin 512) : z (blk x t) i s = v12 x (brow t i) s := rfl
theorem la_eq (i : Fin 256) (s : Fin 512) : la (blk x t) i s = v15 x (brow t i) s := by
  unfold la v15 v13_0 call0_call0_v11 call0_call0_v1 call0_call0_v10 call0_call0_v9 call0_call0_v8 call0_call0_v7 call0_call0_v3 call0_v0
  rw [z_eq, sub_zero, abs_neg, zero_sub]
  have e : max (-(v12 x (brow t i) s)) 0 = -min (v12 x (brow t i) s) 0 := by
    rw [← max_neg_neg, neg_zero]
  rw [e]
  ring
theorem bc_eq (i : Fin 32) (d : Fin 128) : bc (blk x t) (rw_ k i) (cK h d) = v26 x h (cn t k) i d := by
  unfold bc v26
  rw [sumL]
  simp only [la_eq, brow_rw, cK_eq]
theorem bl_eq (i : Fin 32) (d : Fin 128) : bl (blk x t) (rw_ k i) (cK h d) = v26 x h (cn t k) 31 d := by
  unfold bl v26
  rw [sumS]
  refine Finset.sum_congr rfl fun s _ => ?_
  rw [if_pos (Fin.le_def.2 (by show s.val ≤ 31; omega)), la_eq, brow_rw, cK_eq]
theorem eb_eq (i : Fin 32) (d : Fin 128) : eb (blk x t) (rw_ k i) (cK h d) = v28 x h (cn t k) i d := by
  unfold eb v28; rw [bc_eq]
theorem en_eq (i : Fin 32) (d : Fin 128) : en (blk x t) (rw_ k i) (cK h d) = v31 x h (cn t k) i d := by
  unfold en v31 v30; rw [bc_eq, zero_sub]
theorem es_eq (i : Fin 32) (d : Fin 128) : es (blk x t) (rw_ k i) (cK h d) = v35 x h (cn t k) i d := by
  unfold es v35 v34; rw [bc_eq, bl_eq]
theorem dl_eq (i : Fin 32) (d : Fin 128) : dl (blk x t) (rw_ k i) (cK h d) = v46 x h (cn t k) d := by
  unfold dl v46; rw [bl_eq]
theorem q_eq (i : Fin 32) (s : Fin 512) : (blk x t).q (rw_ k i) s = x.P (row (cn t k) i) (qcol s) := by
  rw [← brow_rw]; rfl
theorem k_eq (i : Fin 32) (s : Fin 512) : (blk x t).k (rw_ k i) s = x.P (row (cn t k) i) (kcol s) := by
  rw [← brow_rw]; rfl
theorem v_eq (i : Fin 32) (s : Fin 1024) : (blk x t).v (rw_ k i) s = x.P (row (cn t k) i) (vcol s) := by
  rw [← brow_rw]; rfl
theorem qd_eq (i : Fin 32) (d : Fin 128) : qd (blk x t) (rw_ k i) (cK h d) = v29 x h (cn t k) i d := by
  unfold qd v29 v19; rw [eb_eq, q_eq, cK_eq]
theorem ki_eq (i : Fin 32) (d : Fin 128) : ki (blk x t) (rw_ k i) (cK h d) = v32 x h (cn t k) i d := by
  unfold ki v32; rw [en_eq, k_eq, cK_eq]
theorem ks_eq (i : Fin 32) (d : Fin 128) : ks (blk x t) (rw_ k i) (cK h d) = v36 x h (cn t k) i d := by
  unfold ks v36; rw [es_eq, k_eq, cK_eq]

/-! ### Norm and output gate -/

theorem op_eq (i v : Fin 256) : (blk x t).op i (cV h v) = v54 x h (chk (brow t i)) (pos (brow t i)) v := by
  show KernelIdeal.Line.v58 x (headV (cV h v)) (chk (brow t i)) (pos (brow t i)) (dimV (cV h v)) = _
  rw [cV_eq, headV_col, dimV_col, h58]
theorem rs_eq (i : Fin 256) : rs (blk x t) h i = v64 x (brow t i) h 0 := by
  unfold rs v64 v63 v61 v58 v57
  simp only [op_eq]
theorem oh_eq (i v : Fin 256) : oh (blk x t) h i v = v69 x (brow t i) h v := by
  unfold oh v69; rw [rs_eq, op_eq]
theorem sg_eq (i v : Fin 256) : sg (blk x t) h i v = v74_2 x (brow t i) (Lift.colV h v) := by
  unfold sg v74_2 call11_v3 call11_v1 call11_v0
  rw [zero_sub, cV_eq]; rfl
theorem don_eq (i v : Fin 256) : don (blk x t) h i v = v78 x (brow t i) (Lift.colV h v) := by
  unfold don v78 v74_0
  rw [sg_eq, cV_eq, mul_comm]; rfl
theorem drw_eq (i v : Fin 256) : drw (blk x t) h i v = v80 x (brow t i) (Lift.colV h v) := by
  unfold drw v80 call12_v1 call12_v2 call12_v0 v79 v73 v74_1 call11_v7
  rw [sg_eq, oh_eq, cV_eq, headV_col, dimV_col]
  show x.D (brow t i) (Lift.colV h v) * (v69 x (brow t i) h v * x.g (Lift.colV h v)) * (v74_2 x (brow t i) (Lift.colV h v) * (1 + x.P (brow t i) (rcol (Lift.colV h v)) * _)) = _
  ring
theorem dow_eq (i v : Fin 256) : dow (blk x t) h i v = v101 x (brow t i) h v := by
  unfold dow v101 v99 v100 v98 v95 v93 v92 v89 v88 v67 v65 v85
  simp only [rs_eq, oh_eq, don_eq, cV_eq]
  show v64 x (brow t i) h 0 * (v78 x (brow t i) (Lift.colV h v) * x.g (Lift.colV h v) - v69 x (brow t i) h v * ((∑ s, v78 x (brow t i) (Lift.colV h s) * x.g (Lift.colV h s) * v69 x (brow t i) h s) / 256)) = _
  have e : (∑ s : Fin 256, v78 x (brow t i) (Lift.colV h s) * x.g (Lift.colV h s) * v69 x (brow t i) h s)
      = v64 x (brow t i) h 0 * ∑ s : Fin 256, v54 x h (chk (brow t i)) (pos (brow t i)) s * (v78 x (brow t i) (Lift.colV h s) * x.g (Lift.colV h s)) := by
    rw [Finset.mul_sum]
    refine Finset.sum_congr rfl fun s _ => ?_
    unfold v69
    ring
  have p : 0 < v63 x (brow t i) h 0 := by
    unfold v63 v61 v58 v57
    have : 0 ≤ ∑ s : Fin 256, v54 x h (chk (brow t i)) (pos (brow t i)) s * v54 x h (chk (brow t i)) (pos (brow t i)) s :=
      Finset.sum_nonneg fun s _ => mul_self_nonneg _
    have := eps_pos
    positivity
  have r : v64 x (brow t i) h 0 * v64 x (brow t i) h 0 = 1 / v63 x (brow t i) h 0 := by
    unfold v64
    rw [← mul_inv, Real.mul_self_sqrt p.le, one_div]
  rw [e]
  unfold v69
  generalize (∑ s : Fin 256, v54 x h (chk (brow t i)) (pos (brow t i)) s * (v78 x (brow t i) (Lift.colV h s) * x.g (Lift.colV h s))) = T
  generalize v54 x h (chk (brow t i)) (pos (brow t i)) v = o
  generalize v78 x (brow t i) (Lift.colV h v) * x.g (Lift.colV h v) = a
  generalize v64 x (brow t i) h 0 = w at r ⊢
  rw [div_eq_mul_one_div w (v63 x (brow t i) h 0), ← r]
  ring

end Cert.Same
-- ==== Proof.SameGrad.lean ====
/-
  The gradients the kernel computes are those of the reference.
-/
module

public import proofs.«01_k».proof.Proof.SameBlock
@[expose] public section

set_option maxRecDepth 16384

noncomputable section

namespace Cert.Same

open Cert Cert.ReferenceIdeal.Line Cert.KernelIdeal.Points
open Cert.Lift hiding colK colV
open Cert.KernelIdeal.Body hiding colK colV

variable (x : In) (t : Fin 32) (k : Fin 8) (h : Fin 4)

/-! ### Inside a chunk -/

theorem pm_eq (i j : Fin 32) : pm (blk x t) h (rw_ k i) (rw_ k j) = v121 x h (cn t k) i j := by
  unfold pm v121 v120 low4
  simp only [inL_at, dow_eq, brow_rw, v_eq, cV_eq]
theorem sm_eq (i j : Fin 32) : sm (blk x t) h (rw_ k i) (rw_ k j) = v40_0 x h (cn t k) i j := by
  unfold sm v40_0 v39 low4
  simp only [inL_at, qd_eq, ki_eq]
theorem dq0_eq (i : Fin 32) (d : Fin 128) : dq0 (blk x t) h (rw_ k i) d = v123 x h (cn t k) i d := by
  unfold dq0 v123
  rw [sum_chunk k _ fun s q => by unfold pm; rw [inL_off k i s q]; simp]
  simp only [pm_eq, ki_eq]
theorem dk0_eq (i : Fin 32) (d : Fin 128) : dk0 (blk x t) h (rw_ k i) d = v122 x h (cn t k) i d := by
  unfold dk0 v122
  rw [sum_chunk k _ fun s q => by unfold pm; rw [inL_off' k i s q]; simp]
  simp only [pm_eq, qd_eq]
theorem dv0_eq (i : Fin 32) (v : Fin 256) : dv0 (blk x t) h (rw_ k i) v = v117 x h (cn t k) v i := by
  unfold dv0 v117
  rw [sum_chunk k _ fun s q => by unfold sm; rw [inL_off' k i s q]; simp]
  refine Finset.sum_congr rfl fun s _ => ?_
  rw [sm_eq, dow_eq, brow_rw, mul_comm]

/-! ### From chunk to chunk -/

theorem st_at (d : Fin 128) (v : Fin 256) : (blk x t).st (7 - k.val) h v d = state x (cn t k).val h d v := by
  show KernelIdeal.Line.v55 x (Fin.ofNat 4 h.val) d v (cn t k) = _
  rw [ofNat4, h55]

theorem gr_succ (v : Fin 256) (d : Fin 128) : gr (blk x t) h (k.val + 1) v d = v46 x h (cn t k) d * gr (blk x t) h k.val v d
    + ∑ c : Fin 32, v101 x (row (cn t k) c) h v * v29 x h (cn t k) c d := by
  show dl (blk x t) (rw_ k 0) (cK h d) * gr (blk x t) h k.val v d + ∑ c, dow (blk x t) h (rw_ k c) v * qd (blk x t) (rw_ k c) (cK h d) = _
  simp only [dl_eq, dow_eq, qd_eq, brow_rw]

/-- If what the point is handed is the gradient with respect to the state after its block, so it is inside. -/
theorem gr_of (h0 : ∀ (h : Fin 4) (v : Fin 256) (d : Fin 128), (blk x t).G h v d = gstate x (8 * t.val) h d v) :
    ∀ (k : ℕ), k ≤ 8 → ∀ (v : Fin 256) (d : Fin 128), gr (blk x t) h k v d = gstate x (8 * t.val + k) h d v
  | 0, _, v, d => h0 h v d
  | k + 1, hk, v, d => by
    have e : rv ⟨8 * t.val + k, by omega⟩ = cn t ⟨k, by omega⟩ := Fin.ext (by simp only [rv, cn, bchk]; omega)
    refine (gr_succ x t ⟨k, by omega⟩ h v d).trans ?_
    show _ = if q : 8 * t.val + k < 256 then while1b_v191 x ⟨8 * t.val + k, q⟩ (gstate x (8 * t.val + k)) h d v else 0
    rw [dif_pos (by omega), gr_of h0 k (by omega) v d]
    unfold while1b_v191 while1b_v184 while1b_v189
    rw [e]

theorem blk_succ (n : ℕ) (hn : n < 32) : blkOf x (Fin.ofNat 32 n) (carry x n) = blk x ⟨n, hn⟩ := by
  have e : Fin.ofNat 32 n = ⟨n, hn⟩ := Fin.ext (Nat.mod_eq_of_lt hn)
  rw [e]; rfl

/-- What every point is handed. -/
theorem G_at : ∀ (n : ℕ) (hn : n < 32) (h : Fin 4) (v : Fin 256) (d : Fin 128), (blk x ⟨n, hn⟩).G h v d = gstate x (8 * n) h d v
  | 0, _, _, _, _ => rfl
  | n + 1, hn, h, v, d => by
    show gr (blkOf x (Fin.ofNat 32 n) (carry x n)) (Fin.ofNat 4 h.val) 8 v d = _
    rw [blk_succ x n (by omega), ofNat4]
    exact gr_of x ⟨n, by omega⟩ h (G_at n (by omega)) 8 le_rfl v d
theorem gr_eq (v : Fin 256) (d : Fin 128) : gr (blk x t) h k v d = gstate x (rv (cn t k)).val h d v := by
  rw [gr_of x t h (G_at x t.val t.isLt) k.val k.isLt.le, cn_rv]

theorem tdq_eq (i : Fin 32) (d : Fin 128) : tdq (blk x t) h k i d = v124 x h (cn t k) i d := by
  unfold tdq v124 while1b_v192
  rw [dq0_eq, rv_rv, add_comm]
  simp only [dow_eq, brow_rw, st_at]
theorem tdv_eq (i : Fin 32) (v : Fin 256) : tdv (blk x t) h k i v = v119 x h (cn t k) i v := by
  unfold tdv v119 while1b_v179
  rw [dv0_eq, rv_rv, add_comm]
  simp only [ks_eq, gr_eq]
  exact congrArg (· + _) (Finset.sum_congr rfl fun s _ => mul_comm _ _)
theorem tdk_eq (i : Fin 32) (d : Fin 128) : tdk (blk x t) h k i d = while1b_v181 x (rv (cn t k)) (gstate x (rv (cn t k)).val) h d i := by
  unfold tdk while1b_v181
  rw [rv_rv]
  simp only [v_eq, cV_eq, gr_eq]
  exact Finset.sum_congr rfl fun s _ => mul_comm _ _
theorem tdd_eq (i : Fin 32) (d : Fin 128) : tdd (blk x t) h k i d = v112 x h (cn t k) d := by
  unfold tdd v112 while1b_v186 while1b_v185
  rw [rv_rv, dl_eq]
  simp only [gr_eq, st_at]

/-! ### The block's results -/

theorem odq_eq (i : Fin 32) (d : Fin 128) : odq (blk x t) (rw_ k i) (cK h d) = v152 x h (cn t k) i d := by
  unfold odq dqd v152 v139
  rw [asmK_at, tdq_eq, eb_eq]
  ring
theorem dks_eq (i : Fin 32) (d : Fin 128) : dks (blk x t) (rw_ k i) (cK h d) = while1b_v181 x (rv (cn t k)) (gstate x (rv (cn t k)).val) h d i := by
  unfold dks
  rw [asmK_at, tdk_eq]
theorem dkd_eq (i : Fin 32) (d : Fin 128) : dkd (blk x t) (rw_ k i) (cK h d) = v122 x h (cn t k) i d := by
  unfold dkd
  rw [colK_at, dk0_eq]
theorem odk_eq (i : Fin 32) (d : Fin 128) : odk (blk x t) (rw_ k i) (cK h d) = v134 x h (cn t k) i d := by
  unfold odk v134 v126 v133
  rw [dks_eq, dkd_eq, en_eq, es_eq, add_comm]
theorem odv_eq (i : Fin 32) (v : Fin 256) : odv (blk x t) (rw_ k i) (cV h v) = v119 x h (cn t k) i v := by
  unfold odv
  rw [asmV_at, tdv_eq]
theorem odr_eq (i v : Fin 256) : odr (blk x t) i (cV h v) = v80 x (brow t i) (Lift.colV h v) := by
  unfold odr
  rw [colV_at, drw_eq]

theorem dbc_eq (i : Fin 32) (d : Fin 128) : dbc (blk x t) (rw_ k i) (cK h d) = v141 x h (cn t k) i d := by
  unfold dbc dqd v141 v137 v140 v138 v136 v135 v132 v130 v127 v125
  rw [asmK_at, tdq_eq, dks_eq, dkd_eq, qd_eq, ki_eq, ks_eq]
  unfold v29 v32 v36
  ring
theorem dla0_eq (i : Fin 32) (d : Fin 128) : dla0 (blk x t) (rw_ k i) (cK h d) + ddl (blk x t) (rw_ k i) (cK h d) = v144 x h (cn t k) i d := by
  unfold dla0 ddl v144 v143 v142 v131 v128 v127 v125
  rw [asmK_at, tdd_eq, sumU, sumS]
  simp only [dbc_eq, dks_eq, ks_eq]
  have e : ∀ s : Fin 32, (if i ≤ s then v141 x h (cn t k) s d + (if s = 31 then v112 x h (cn t k) d + ∑ u : Fin 32,
        x.P (row (cn t k) u) (kcol (Lift.colK h d)) * while1b_v181 x (rv (cn t k)) (gstate x (rv (cn t k)).val) h d u * v35 x h (cn t k) u d else 0) else 0)
      = (if i ≤ s then v141 x h (cn t k) s d else 0) + (if s = 31 then v112 x h (cn t k) d + ∑ u : Fin 32,
        x.P (row (cn t k) u) (kcol (Lift.colK h d)) * while1b_v181 x (rv (cn t k)) (gstate x (rv (cn t k)).val) h d u * v35 x h (cn t k) u d else 0) := by
    intro s
    by_cases q : i ≤ s
    · rw [if_pos q, if_pos q]
    · have r : s ≠ 31 := fun r => q (by rw [r]; exact Fin.le_def.2 (by show i.val ≤ 31; omega))
      rw [if_neg q, if_neg q, if_neg r, add_zero]
  rw [Finset.sum_congr rfl fun s _ => e s, Finset.sum_add_distrib, Finset.sum_ite_eq' Finset.univ (31 : Fin 32), if_pos (Finset.mem_univ _), add_assoc]
  refine congrArg (_ + ·) ((add_comm _ _).trans (congrArg (_ + ·) (Finset.sum_congr rfl fun s _ => ?_)))
  unfold v36
  ring

/-- A row of the block and a column of the keys, by chunk and head. -/
theorem at_row (i : Fin 256) : ∃ (k : Fin 8) (j : Fin 32), i = rw_ k j :=
  ⟨⟨7 - i.val / 32, by omega⟩, ⟨i.val % 32, by omega⟩, Fin.ext (by simp only [rw_]; omega)⟩
theorem at_colK (s : Fin 512) : ∃ (h : Fin 4) (d : Fin 128), s = cK h d :=
  ⟨⟨s.val / 128, by omega⟩, ⟨s.val % 128, by omega⟩, Fin.ext (by simp only [cK]; omega)⟩
theorem at_colV (s : Fin 1024) : ∃ (h : Fin 4) (d : Fin 256), s = cV h d :=
  ⟨⟨s.val / 256, by omega⟩, ⟨s.val % 256, by omega⟩, Fin.ext (by simp only [cV]; omega)⟩

theorem v13_1_eq (i : Fin 8192) (s : Fin 512) : v13_1 x i s = 1 - 1 / (1 + Real.exp (0 - v12 x i s)) := by
  unfold v13_1 call0_call0_v21 call0_call0_v11 call0_call0_v1 call0_call0_v10 call0_call0_v9 call0_call0_v8 call0_call0_v7 call0_call0_v3 call0_v0
  generalize v12 x i s = z
  rw [sub_zero, abs_neg, zero_sub]
  have p : 0 < 1 + Real.exp (-|z|) := by positivity
  have q : 0 < 1 + Real.exp (-z) := by positivity
  rw [← sub_sub, Real.exp_sub, Real.exp_log p]
  rcases le_total 0 z with c | c
  · rw [max_eq_right (by linarith), abs_of_nonneg c, sub_zero]
    field_simp
    ring
  · have r : Real.exp (-z) * Real.exp z = 1 := by rw [← Real.exp_add, neg_add_cancel, Real.exp_zero]
    have p' : 0 < 1 + Real.exp z := by positivity
    rw [max_eq_left (by linarith), abs_of_nonpos c, sub_self, Real.exp_zero, neg_neg]
    rw [div_eq_iff p'.ne', sub_mul, one_mul, div_mul_eq_mul_div, one_mul, eq_sub_iff_add_eq, ← eq_sub_iff_add_eq', div_eq_iff q.ne']
    linarith [r]

theorem dz_eq (i : Fin 256) (s : Fin 512) : dz (blk x t) i s = v157 x (brow t i) s := by
  obtain ⟨k, j, rfl⟩ := at_row i
  obtain ⟨h, d, rfl⟩ := at_colK s
  unfold dz dla v157 call25_v1 call25_v0 v156
  rw [dla0_eq, z_eq, v13_1_eq, brow_rw, cK_eq, headK_col, dimK_col, chk_row, pos_row]
  ring

theorem oal_eq (i : Fin 256) (s : Fin 128) : oal (blk x t) i s = v163 x (brow t i) s := by
  unfold oal v163
  simp only [dz_eq]
  rfl

/-! ### Over the points -/

/-- A sum over all rows, block by block. -/
theorem sum_rows (f : Fin 8192 → ℝ) : (∑ i, f i) = ∑ n ∈ Finset.range 32, ∑ i : Fin 256, f (brow (Fin.ofNat 32 n) i) := by
  rw [← Fin.sum_univ_eq_sum_range (fun n => ∑ i : Fin 256, f (brow (Fin.ofNat 32 n) i)) 32, ← Fintype.sum_prod_type']
  refine (Fintype.sum_equiv (⟨fun p => brow p.1 p.2, fun i => (pt i, rr i), fun p => Prod.ext (pt_brow p.1 p.2) (rr_brow p.1 p.2), fun i => Fin.ext (by
    simp only [brow, pt, rr]; omega)⟩ : Fin 32 × Fin 256 ≃ Fin 8192) _ _ fun p => ?_).symm
  have e : Fin.ofNat 32 p.1.val = p.1 := Fin.ext (Nat.mod_eq_of_lt p.1.isLt)
  show f (brow (Fin.ofNat 32 p.1.val) p.2) = f (brow p.1 p.2)
  rw [e]

/-- What the point after `n` is handed is the sum over the rows so far. -/
theorem wacc_at (a : Fin 128) (s : Fin 512) : ∀ n, n ≤ 32 → (carry x n).wacc a s
    = ∑ u ∈ Finset.range n, ∑ i : Fin 256, v157 x (brow (Fin.ofNat 32 u) i) s * x.A (brow (Fin.ofNat 32 u) i) a
  | 0, _ => rfl
  | n + 1, h => by
    rw [Finset.sum_range_succ, ← wacc_at a s n (by omega)]
    show owa (blkOf x (Fin.ofNat 32 n) (carry x n)) a s = _
    refine congrArg (_ + ·) (Finset.sum_congr rfl fun i _ => ?_)
    have e : Fin.ofNat 32 n = ⟨n, by omega⟩ := Fin.ext (Nat.mod_eq_of_lt (by omega))
    rw [blk_succ x n (by omega), dz_eq, mul_comm, e]
    rfl
theorem bacc_at (s : Fin 512) : ∀ n, n ≤ 32 → (carry x n).bacc s = ∑ u ∈ Finset.range n, ∑ i : Fin 256, v157 x (brow (Fin.ofNat 32 u) i) s
  | 0, _ => rfl
  | n + 1, h => by
    rw [Finset.sum_range_succ, ← bacc_at s n (by omega)]
    show oba (blkOf x (Fin.ofNat 32 n) (carry x n)) s = _
    refine congrArg (_ + ·) (Finset.sum_congr rfl fun i _ => ?_)
    have e : Fin.ofNat 32 n = ⟨n, by omega⟩ := Fin.ext (Nat.mod_eq_of_lt (by omega))
    rw [blk_succ x n (by omega), dz_eq, e]
theorem n_at (h : Fin 4) (v : Fin 256) : ∀ n, n ≤ 32 → (carry x n).n h v = ∑ u ∈ Finset.range n, ∑ i : Fin 256, v81 x (brow (Fin.ofNat 32 u) i) (Lift.colV h v)
  | 0, _ => rfl
  | n + 1, hn => by
    rw [Finset.sum_range_succ, ← n_at h v n (by omega)]
    show ogh (blkOf x (Fin.ofNat 32 n) (carry x n)) (cV (Fin.ofNat 4 h.val) v) = _
    unfold ogh
    rw [ofNat4, colV_at]
    refine congrArg (_ + ·) (Finset.sum_congr rfl fun i _ => ?_)
    have e : Fin.ofNat 32 n = ⟨n, by omega⟩ := Fin.ext (Nat.mod_eq_of_lt (by omega))
    rw [blk_succ x n (by omega), don_eq, oh_eq, e, mul_comm]
    unfold v81
    rw [headV_col, dimV_col]

/-! ### The eight results -/

theorem at_blk (i : Fin 8192) : brow (pt i) (rr i) = i := Fin.ext (by simp only [brow, pt, rr]; omega)

theorem r_dq (i : Fin 8192) (j : Fin 512) : odq (blk x (pt i)) (rr i) j = v152 x (headK j) (chk i) (pos i) (dimK j) := by
  obtain ⟨k, u, q⟩ := at_row (rr i)
  obtain ⟨h, d, rfl⟩ := at_colK j
  have e : i = row (cn (pt i) k) u := by rw [← brow_rw, ← q, at_blk]
  rw [q, odq_eq, cK_eq, headK_col, dimK_col]
  conv_rhs => rw [e, chk_row, pos_row]
theorem r_dk (i : Fin 8192) (j : Fin 512) : odk (blk x (pt i)) (rr i) j = v134 x (headK j) (chk i) (pos i) (dimK j) := by
  obtain ⟨k, u, q⟩ := at_row (rr i)
  obtain ⟨h, d, rfl⟩ := at_colK j
  have e : i = row (cn (pt i) k) u := by rw [← brow_rw, ← q, at_blk]
  rw [q, odk_eq, cK_eq, headK_col, dimK_col]
  conv_rhs => rw [e, chk_row, pos_row]
theorem r_dv (i : Fin 8192) (j : Fin 1024) : odv (blk x (pt i)) (rr i) j = v119 x (headV j) (chk i) (pos i) (dimV j) := by
  obtain ⟨k, u, q⟩ := at_row (rr i)
  obtain ⟨h, d, rfl⟩ := at_colV j
  have e : i = row (cn (pt i) k) u := by rw [← brow_rw, ← q, at_blk]
  rw [q, odv_eq, cV_eq, headV_col, dimV_col]
  conv_rhs => rw [e, chk_row, pos_row]
theorem r_dr (i : Fin 8192) (j : Fin 1024) : odr (blk x (pt i)) (rr i) j = v80 x i j := by
  obtain ⟨h, d, rfl⟩ := at_colV j
  rw [odr_eq, at_blk, cV_eq]
theorem r_dal (i : Fin 8192) (j : Fin 128) : oal (blk x (pt i)) (rr i) j = v163 x i j := by
  rw [oal_eq, at_blk]
theorem r_dwa (i : Fin 128) (j : Fin 512) : owa (blk x 31) i j = v161 x j i := by
  refine (wacc_at x i j 32 le_rfl).trans ?_
  unfold v161
  rw [sum_rows]
theorem r_dba (j : Fin 512) : oba (blk x 31) j = v158 x j := by
  refine (bacc_at x j 32 le_rfl).trans ?_
  unfold v158
  rw [sum_rows]
theorem r_dgh (j : Fin 1024) : ogh (blk x 31) j = v82 x j := by
  obtain ⟨h, d, rfl⟩ := at_colV j
  have q := n_at x h d 32 le_rfl
  unfold v82
  rw [sum_rows, cV_eq, ← q, ← cV_eq]
  show _ = ogh (blk x 31) (cV (Fin.ofNat 4 h.val) d)
  rw [ofNat4]

end Cert.Same
-- ==== Proof.ProdJ.lean ====
/-
  The product of `in_proj`: the kernel's array and the reference's array are the same sums over the 2048 columns.
-/
module

public import proofs.«01_k».proof.Proof.Gen.KernelJIdeal.Value
public import proofs.«01_k».proof.Proof.Gen.ReferenceJIdeal.Run
public import Idealize.ShloMosaic.PureOps.Ideal.Laws
public import Idealize.ShloMosaic.Lib.Pointwise
public import Idealize.ShloMosaic.Lib.Pipeline.ValueKit

@[expose] public section

set_option maxRecDepth 16384

noncomputable section

namespace Cert.ProdJ

open Idealize.ShloMosaic Idealize.ShloMosaic.TcCoe Idealize.SL.Sem

/-- Row `i 0` of `a` times row `i 1` of `b`; the last 128 rows of `b` are not used. -/
def prod (a : (⟨2, ![8192, 2048]⟩ : Shape).Idx → EReal) (b : (⟨2, ![7808, 2048]⟩ : Shape).Idx → EReal) : (⟨2, ![8192, 7680]⟩ : Shape).Idx → EReal :=
  fun i => ∑ k : Fin 2048, a (ix2 (i 0) k) * b (ix2 (Fin.castLE (show 7680 ≤ 7808 by decide) (i 1 : Fin 7680)) k)

section Kernel
open Cert.KernelJIdeal Cert.KernelJIdeal.Gen

/-- One block's product at an entry. -/
theorem pay (a : Vec Ideal S1024x2048 .bf16) (b : Vec Ideal S1280x2048 .bf16) (y : S1024x1280.Idx) :
    k0_pay1 (F := Ideal) a b y = ∑ k : Fin 2048, a (ix2 (y 0) k) * b (ix2 (y 1) k) := by
  unfold k0_pay1
  pointwise

variable (m : (ℓ : Loc nD τ sig) → Buf (Elt Ideal) ℓ) (c : Dev nD)

theorem idx0 : ∀ t : Fin cfg0.N, win0_0.index t = ![t.val / 6, 0] := (by decide +kernel : ∀ t : Fin grid0.N, win0_0.index t = ![t.val / 6, 0])
theorem idx1 : ∀ t : Fin cfg0.N, win0_1.index t = ![t.val % 6, 0] := (by decide +kernel : ∀ t : Fin grid0.N, win0_1.index t = ![t.val % 6, 0])
theorem idx2 : ∀ t : Fin cfg0.N, win0_2.index t = ![t.val / 6, t.val % 6] := (by decide +kernel : ∀ t : Fin grid0.N, win0_2.index t = ![t.val / 6, t.val % 6])

/-- What a point leaves in the result's block. -/
theorem out (t : Fin cfg0.N) (y : S1024x1280.Idx) : outsAt0 m c t y = k0_pay1 (F := Ideal) (iblk m c 0 t) (X0_1 m c t) y := by
  unfold outsAt0
  frame_out

/-- The first factor's block at a point. -/
theorem in0 (t : Fin cfg0.N) (y : S1024x1280.Idx) (k : Fin 2048) : (iblk m c 0 t : S1024x2048.Idx → EReal) (ix2 (y 0) k)
    = (m ((c.tc : Thread nD τ).loc main_arg0) : S8192x2048.Idx → EReal) (ix2 ((((cfg0.win 2).blk t).view.emb y : S8192x7680.Idx) 0) k) := by
  refine (show _ = (m ((c.tc : Thread nD τ).loc main_arg0) : S8192x2048.Idx → EReal) (((cfg0.win 0).blk t).view.emb (ix2 (y 0) k : S1024x2048.Idx)) from rfl).trans ?_
  refine congrArg (m ((c.tc : Thread nD τ).loc main_arg0) : S8192x2048.Idx → EReal) (funext fun a => Fin.ext ?_)
  match a with
  | ⟨0, _⟩ =>
    refine (show _ = win0_0.index t 0 * 1024 + 1 * (y 0).val from rfl).trans (Eq.trans ?_ (show win0_2.index t 0 * 1024 + 1 * (y 0).val = _ from rfl))
    rw [idx0, idx2]
    rfl
  | ⟨1, _⟩ =>
    refine (show _ = win0_0.index t 1 * 2048 + 1 * k.val from rfl).trans ?_
    rw [idx0]
    show 0 * 2048 + 1 * k.val = k.val
    omega
/-- The second factor's block at a point: it is never cut. -/
theorem in1 (t : Fin cfg0.N) (y : S1024x1280.Idx) (k : Fin 2048) (h : ∀ q : Fin 7680, q.val < 7808) : (X0_1 m c t : S1280x2048.Idx → EReal) (ix2 (y 1) k)
    = (m ((c.tc : Thread nD τ).loc main_arg1) : S7808x2048.Idx → EReal) (ix2 ⟨((((cfg0.win 2).blk t).view.emb y : S8192x7680.Idx) 1).val, h _⟩ k) := by
  unfold X0_1 Pipeline.Window.fill
  refine (dif_pos (moved0_1 t (ix2 (y 1) k : S1280x2048.Idx))).trans ?_
  refine congrArg (m ((c.tc : Thread nD τ).loc main_arg1) : S7808x2048.Idx → EReal) (funext fun a => Fin.ext ?_)
  match a with
  | ⟨0, _⟩ =>
    refine (show _ = win0_1.index t 0 * 1280 + 1 * (y 1).val from rfl).trans (Eq.trans ?_ (show win0_2.index t 1 * 1280 + 1 * (y 1).val = _ from rfl))
    rw [idx1, idx2]
    rfl
  | ⟨1, _⟩ =>
    refine (show _ = win0_1.index t 1 * 2048 + 1 * k.val from rfl).trans ?_
    rw [idx1]
    show 0 * 2048 + 1 * k.val = k.val
    omega

theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  rw [after0_2]
  refine (cast_eq _ _).trans ((out m c t y).trans ((pay _ _ y).trans ?_))
  exact Finset.sum_congr rfl fun k _ => congrArg₂ (fun u v : EReal => u * v) (in0 m c t y k) (in1 m c t y k fun q => by omega)

end Kernel

section Reference
open Cert.ReferenceJIdeal Cert.ReferenceJIdeal.Gen

/-- The first 7680 rows, at an entry. -/
theorem rows (b : FVec Ideal S7808x2048 .bf16) (q : Fin 7680) (k : Fin 2048) (h : 7680 ≤ 7808) :
    extractStridedSlice S7680x2048 ![0, 0] b slices_S7808x2048_S7680x2048_0_0 (ix2 q k) = b (ix2 (Fin.castLE h q) k) := by
  refine congrArg b (funext fun a => Fin.ext ?_)
  match a with
  | ⟨0, _⟩ => exact Nat.zero_add _
  | ⟨1, _⟩ => exact Nat.zero_add _
/-- The product with the rows as given. -/
theorem dot (a : FVec Ideal S8192x2048 .bf16) (b : FVec Ideal S7680x2048 .bf16) (i : S8192x7680.Idx) :
    truncf .bf16 (Host.dotGeneral dot_S8192x2048_S2048x7680_S8192x7680_1_0_0_1_n_n none (extf .f32 a bitsLt_bf16_f32) (transpose S2048x7680 [1, 0] (extf .f32 b bitsLt_bf16_f32) transposes_S7680x2048_S2048x7680_1_0)) bitsLt_bf16_f32 i
      = ∑ k : Fin 2048, (a (ix2 (i 0) k) : EReal) * b (ix2 (i 1) k) := by
  pointwise

theorem ref (a : FVec Ideal S8192x2048 .bf16) (b : FVec Ideal S7808x2048 .bf16) :
    truncf .bf16 (Host.dotGeneral dot_S8192x2048_S2048x7680_S8192x7680_1_0_0_1_n_n none (extf .f32 a bitsLt_bf16_f32) (transpose S2048x7680 [1, 0] (extf .f32 (extractStridedSlice S7680x2048 ![0, 0] b slices_S7808x2048_S7680x2048_0_0) bitsLt_bf16_f32) transposes_S7680x2048_S2048x7680_1_0)) bitsLt_bf16_f32 = prod a b := by
  funext i
  refine (dot a _ i).trans (Finset.sum_congr rfl fun k _ => ?_)
  exact congrArg (fun u : EReal => a (ix2 (i 0) k) * u) (rows b (i 1) k (by decide))

end Reference
end Cert.ProdJ
-- ==== Proof.ProdD.lean ====
/-
  The product of `d_h1`: the kernel's array and the reference's array are the same sums over the 7808 columns of the projection.
-/
module

public import proofs.«01_k».proof.Proof.Gen.KernelDIdeal.Value
public import proofs.«01_k».proof.Proof.Gen.ReferenceDIdeal.Run
public import Idealize.ShloMosaic.PureOps.Ideal.Laws
public import Idealize.ShloMosaic.Lib.Pointwise
public import Idealize.ShloMosaic.Lib.Pipeline.ValueKit.Geometry
@[expose] public section

set_option maxRecDepth 16384

noncomputable section

namespace Cert.ProdD

open Idealize.ShloMosaic Idealize.ShloMosaic.TcCoe Idealize.SL.Sem

/-- Row `i 0` of `a` times column `i 1` of `b`. -/
def prod (a : (⟨2, ![8192, 7808]⟩ : Shape).Idx → EReal) (b : (⟨2, ![7808, 2048]⟩ : Shape).Idx → EReal) : (⟨2, ![8192, 2048]⟩ : Shape).Idx → EReal :=
  fun i => ∑ k : Fin 7808, a (ix2 (i 0) k) * b (ix2 k (i 1))

section Kernel
open Cert.KernelDIdeal Cert.KernelDIdeal.Gen

/-- One block's product at an entry. -/
theorem pay (a : Vec Ideal S512x7808 .bf16) (b : Vec Ideal S7808x512 .bf16) (y : S512x512.Idx) :
    k0_pay1 (F := Ideal) a b y = ∑ k : Fin 7808, a (ix2 (y 0) k) * b (ix2 k (y 1)) := by
  unfold k0_pay1
  pointwise

variable (m : (ℓ : Loc nD τ sig) → Buf (Elt Ideal) ℓ) (c : Dev nD)

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem out (x0 : Vec Ideal S512x7808 .bf16) (x1 : Vec Ideal S7808x512 .bf16) : out0_2 (F := Ideal) x0 x1 = k0_pay1 x0 x1 := by
  have hz : (![0, 0] : Fin 2 → ℕ) = fun _ => 0 := by decide
  unfold out0_2 r0_0 r0_1 r0_2
  rw [View.canon_unit_zero hz, View.ld_unit_zero (S := S512x7808) hz, View.ld_unit_zero (S := S7808x512) hz]

/-- Where a block's entries lie in the arrays. -/
theorem emb0 (t : Fin cfg0.N) (y : S512x512.Idx) (k : Fin 7808) : (((cfg0.win 0).blk t).view.emb (ix2 (y 0) k : S512x7808.Idx) : S8192x7808.Idx)
    = ix2 ((((cfg0.win 2).blk t).view.emb y : S8192x2048.Idx) 0) k := by
  funext a
  apply Fin.ext
  match a with
  | ⟨0, _⟩ =>
    refine (show _ = win0_0.index t 0 * 512 + 1 * (y 0).val from rfl).trans (Eq.trans ?_ (show win0_2.index t 0 * 512 + 1 * (y 0).val = _ from rfl))
    rw [idx0, idx2]
    rfl
  | ⟨1, _⟩ =>
    refine (show _ = win0_0.index t 1 * 7808 + 1 * k.val from rfl).trans ?_
    rw [idx0]
    show 0 * 7808 + 1 * k.val = k.val
    omega
theorem emb1 (t : Fin cfg0.N) (y : S512x512.Idx) (k : Fin 7808) : (((cfg0.win 1).blk t).view.emb (ix2 k (y 1) : S7808x512.Idx) : S7808x2048.Idx)
    = ix2 k ((((cfg0.win 2).blk t).view.emb y : S8192x2048.Idx) 1) := by
  funext a
  apply Fin.ext
  match a with
  | ⟨0, _⟩ =>
    refine (show _ = win0_1.index t 0 * 7808 + 1 * k.val from rfl).trans ?_
    rw [idx1]
    show 0 * 7808 + 1 * k.val = k.val
    omega
  | ⟨1, _⟩ =>
    refine (show _ = win0_1.index t 1 * 512 + 1 * (y 1).val from rfl).trans (Eq.trans ?_ (show win0_2.index t 1 * 512 + 1 * (y 1).val = _ from rfl))
    rw [idx1, idx2]
    rfl

theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  rw [after0_2, out]
  refine (cast_eq _ _).trans ((pay _ _ y).trans ?_)
  refine Finset.sum_congr rfl fun k _ => ?_
  exact congrArg₂ (fun u v : EReal => u * v)
    (congrArg (m ((c.tc : Thread nD τ).loc main_arg0) : S8192x7808.Idx → EReal) (emb0 t y k))
    (congrArg (m ((c.tc : Thread nD τ).loc main_arg1) : S7808x2048.Idx → EReal) (emb1 t y k))

end Kernel

section Reference
open Cert.ReferenceDIdeal Cert.ReferenceDIdeal.Gen

theorem ref (a : FVec Ideal S8192x7808 .bf16) (b : FVec Ideal S7808x2048 .bf16) :
    truncf .bf16 (Host.dotGeneral dot_S8192x7808_S2048x7808_S8192x2048_1_1_0_0_n_n none (extf .f32 a bitsLt_bf16_f32) (transpose S2048x7808 [1, 0] (extf .f32 b bitsLt_bf16_f32) transposes_S7808x2048_S2048x7808_1_0)) bitsLt_bf16_f32 = prod a b := by
  funext i
  pointwise
  rfl

end Reference
end Cert.ProdD
-- ==== Proof.ProdG.lean ====
/-
  The product of `g_w_in_main`: the kernel's array and the reference's array are the same sums over the 8192 rows.
-/
module

public import proofs.«01_k».proof.Proof.Gen.KernelGIdeal.Value
public import proofs.«01_k».proof.Proof.Gen.ReferenceGIdeal.Run
public import Idealize.ShloMosaic.PureOps.Ideal.Laws
public import Idealize.ShloMosaic.Lib.Pointwise
public import Idealize.ShloMosaic.Lib.Pipeline.ValueKit

@[expose] public section

set_option maxRecDepth 16384

noncomputable section

namespace Cert.ProdG

open Idealize.ShloMosaic Idealize.ShloMosaic.TcCoe Idealize.SL.Sem

/-- Column `i 0` of `a` times column `i 1` of `b`; the last 128 columns of `a` are not used. -/
def prod (a : (⟨2, ![8192, 7808]⟩ : Shape).Idx → EReal) (b : (⟨2, ![8192, 2048]⟩ : Shape).Idx → EReal) : (⟨2, ![7680, 2048]⟩ : Shape).Idx → EReal :=
  fun i => ∑ k : Fin 8192, a (ix2 k (Fin.castLE (show 7680 ≤ 7808 by decide) (i 0 : Fin 7680))) * b (ix2 k (i 1))

section Kernel
open Cert.KernelGIdeal Cert.KernelGIdeal.Gen

/-- One block's product at an entry. -/
theorem pay (a b : Vec Ideal S8192x512 .bf16) (y : S512x512.Idx) :
    k0_pay1 (F := Ideal) a b y = ∑ k : Fin 8192, a (ix2 k (y 0)) * b (ix2 k (y 1)) := by
  unfold k0_pay1
  pointwise

variable (m : (ℓ : Loc nD τ sig) → Buf (Elt Ideal) ℓ) (c : Dev nD)

theorem idx0 : ∀ t : Fin cfg0.N, win0_0.index t = ![0, t.val / 4] := (by decide +kernel : ∀ t : Fin grid0.N, win0_0.index t = ![0, t.val / 4])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

/-- What a point leaves in the result's block. -/
theorem out (t : Fin cfg0.N) (y : S512x512.Idx) : outsAt0 m c t y = k0_pay1 (F := Ideal) (X0_0 m c t) (iblk m c 1 t) y := by
  unfold outsAt0
  frame_out

/-- The first factor's block at a point: it is never cut. -/
theorem in0 (t : Fin cfg0.N) (y : S512x512.Idx) (k : Fin 8192) (h : ∀ q : Fin 7680, q.val < 7808) : (X0_0 m c t : S8192x512.Idx → EReal) (ix2 k (y 0))
    = (m ((c.tc : Thread nD τ).loc main_arg0) : S8192x7808.Idx → EReal) (ix2 k ⟨((((cfg0.win 2).blk t).view.emb y : S7680x2048.Idx) 0).val, h _⟩) := by
  unfold X0_0 Pipeline.Window.fill
  refine (dif_pos (moved0_0 t (ix2 k (y 0) : S8192x512.Idx))).trans ?_
  refine congrArg (m ((c.tc : Thread nD τ).loc main_arg0) : S8192x7808.Idx → EReal) (funext fun a => Fin.ext ?_)
  match a with
  | ⟨0, _⟩ =>
    refine (show _ = win0_0.index t 0 * 8192 + 1 * k.val from rfl).trans ?_
    rw [idx0]
    show 0 * 8192 + 1 * k.val = k.val
    omega
  | ⟨1, _⟩ =>
    refine (show _ = win0_0.index t 1 * 512 + 1 * (y 0).val from rfl).trans (Eq.trans ?_ (show win0_2.index t 0 * 512 + 1 * (y 0).val = _ from rfl))
    rw [idx0, idx2]
    rfl
/-- The second factor's block at a point. -/
theorem in1 (t : Fin cfg0.N) (y : S512x512.Idx) (k : Fin 8192) : (iblk m c 1 t : S8192x512.Idx → EReal) (ix2 k (y 1))
    = (m ((c.tc : Thread nD τ).loc main_arg1) : S8192x2048.Idx → EReal) (ix2 k ((((cfg0.win 2).blk t).view.emb y : S7680x2048.Idx) 1)) := by
  refine (show _ = (m ((c.tc : Thread nD τ).loc main_arg1) : S8192x2048.Idx → EReal) (((cfg0.win 1).blk t).view.emb (ix2 k (y 1) : S8192x512.Idx)) from rfl).trans ?_
  refine congrArg (m ((c.tc : Thread nD τ).loc main_arg1) : S8192x2048.Idx → EReal) (funext fun a => Fin.ext ?_)
  match a with
  | ⟨0, _⟩ =>
    refine (show _ = win0_1.index t 0 * 8192 + 1 * k.val from rfl).trans ?_
    rw [idx1]
    show 0 * 8192 + 1 * k.val = k.val
    omega
  | ⟨1, _⟩ =>
    refine (show _ = win0_1.index t 1 * 512 + 1 * (y 1).val from rfl).trans (Eq.trans ?_ (show win0_2.index t 1 * 512 + 1 * (y 1).val = _ from rfl))
    rw [idx1, idx2]
    rfl

theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  rw [after0_2]
  refine (cast_eq _ _).trans ((out m c t y).trans ((pay _ _ y).trans ?_))
  exact Finset.sum_congr rfl fun k _ => congrArg₂ (fun u v : EReal => u * v) (in0 m c t y k fun q => by omega) (in1 m c t y k)

end Kernel

section Reference
open Cert.ReferenceGIdeal Cert.ReferenceGIdeal.Gen

/-- The first 7680 columns, at an entry. -/
theorem cols (a : FVec Ideal S8192x7808 .bf16) (k : Fin 8192) (q : Fin 7680) (h : 7680 ≤ 7808) :
    extractStridedSlice S8192x7680 ![0, 0] a slices_S8192x7808_S8192x7680_0_0 (ix2 k q) = a (ix2 k (Fin.castLE h q)) := by
  refine congrArg a (funext fun x => Fin.ext ?_)
  match x with
  | ⟨0, _⟩ => exact Nat.zero_add _
  | ⟨1, _⟩ => exact Nat.zero_add _
/-- The product with the columns as given. -/
theorem dot (a : FVec Ideal S8192x7680 .bf16) (b : FVec Ideal S8192x2048 .bf16) (i : S7680x2048.Idx) :
    truncf .bf16 (transpose S7680x2048 [1, 0] (transpose S2048x7680 [1, 0] (Host.dotGeneral dot_S8192x7680_S8192x2048_S7680x2048_0_0_1_1_n_n none (extf .f32 a bitsLt_bf16_f32) (extf .f32 b bitsLt_bf16_f32)) transposes_S7680x2048_S2048x7680_1_0) transposes_S2048x7680_S7680x2048_1_0) bitsLt_bf16_f32 i
      = ∑ k : Fin 8192, (a (ix2 k (i 0)) : EReal) * b (ix2 k (i 1)) := by
  pointwise

theorem ref (a : FVec Ideal S8192x7808 .bf16) (b : FVec Ideal S8192x2048 .bf16) :
    truncf .bf16 (transpose S7680x2048 [1, 0] (transpose S2048x7680 [1, 0] (Host.dotGeneral dot_S8192x7680_S8192x2048_S7680x2048_0_0_1_1_n_n none (extf .f32 (extractStridedSlice S8192x7680 ![0, 0] a slices_S8192x7808_S8192x7680_0_0) bitsLt_bf16_f32) (extf .f32 b bitsLt_bf16_f32)) transposes_S7680x2048_S2048x7680_1_0) transposes_S2048x7680_S7680x2048_1_0) bitsLt_bf16_f32 = prod a b := by
  funext i
  refine (dot _ b i).trans (Finset.sum_congr rfl fun k _ => ?_)
  exact congrArg (fun u : EReal => u * b (ix2 k (i 1))) (cols a k (i 0) (by decide))

end Reference
end Cert.ProdG
-- ==== Proof.ProdY.lean ====
/-
  The product of `ffn_out`: the kernel's array and the reference's array are the same sums over the network's 5632 columns, added to the residual.
-/
module

public import proofs.«01_k».proof.Proof.Gen.KernelYIdeal.Value
public import proofs.«01_k».proof.Proof.Gen.ReferenceYIdeal.Run
public import Idealize.ShloMosaic.PureOps.Ideal.Laws
public import Idealize.ShloMosaic.Lib.Pointwise
public import Idealize.ShloMosaic.Lib.Pipeline.ValueKit.Geometry
@[expose] public section

set_option maxRecDepth 16384

noncomputable section

namespace Cert.ProdY

open Idealize.ShloMosaic Idealize.ShloMosaic.TcCoe Idealize.SL.Sem

/-- Row `i 0` of `a` times column `i 1` of `b`, added to `x`. -/
def prod (a : (⟨2, ![8192, 5632]⟩ : Shape).Idx → EReal) (b : (⟨2, ![5632, 2048]⟩ : Shape).Idx → EReal) (x : (⟨2, ![8192, 2048]⟩ : Shape).Idx → EReal) : (⟨2, ![8192, 2048]⟩ : Shape).Idx → EReal :=
  fun i => (∑ k : Fin 5632, a (ix2 (i 0) k) * b (ix2 k (i 1))) + x i

section Kernel
open Cert.KernelYIdeal Cert.KernelYIdeal.Gen

/-- One block's product at an entry, with the residual's. -/
theorem pay (a : Vec Ideal S512x5632 .bf16) (b : Vec Ideal S5632x512 .bf16) (x : Vec Ideal S512x512 .f32) (y : S512x512.Idx) :
    k0_pay1 (F := Ideal) a b x y = (∑ k : Fin 5632, a (ix2 (y 0) k) * b (ix2 k (y 1))) + x y := by
  unfold k0_pay1
  pointwise

variable (m : (ℓ : Loc nD τ sig) → Buf (Elt Ideal) ℓ) (c : Dev nD)

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])
theorem idx3 : ∀ t : Fin cfg0.N, win0_3.index t = ![t.val / 4, t.val % 4] := (by decide +kernel : ∀ t : Fin grid0.N, win0_3.index t = ![t.val / 4, t.val % 4])

theorem out (x0 : Vec Ideal S512x5632 .bf16) (x1 : Vec Ideal S5632x512 .bf16) (x2 : Vec Ideal S512x512 .f32) : out0_3 (F := Ideal) x0 x1 x2 = k0_pay1 x0 x1 x2 := by
  have hz : (![0, 0] : Fin 2 → ℕ) = fun _ => 0 := by decide
  unfold out0_3 r0_0 r0_1 r0_2
  rw [View.canon_unit_zero hz, View.ld_unit_zero (S := S512x5632) hz, View.ld_unit_zero (S := S5632x512) hz, View.ld_unit_zero (S := S512x512) hz]

/-- Where a block's entries lie in the arrays. -/
theorem emb0 (t : Fin cfg0.N) (y : S512x512.Idx) (k : Fin 5632) : (((cfg0.win 0).blk t).view.emb (ix2 (y 0) k : S512x5632.Idx) : S8192x5632.Idx)
    = ix2 ((((cfg0.win 3).blk t).view.emb y : S8192x2048.Idx) 0) k := by
  funext a
  apply Fin.ext
  match a with
  | ⟨0, _⟩ =>
    refine (show _ = win0_0.index t 0 * 512 + 1 * (y 0).val from rfl).trans (Eq.trans ?_ (show win0_3.index t 0 * 512 + 1 * (y 0).val = _ from rfl))
    rw [idx0, idx3]
    rfl
  | ⟨1, _⟩ =>
    refine (show _ = win0_0.index t 1 * 5632 + 1 * k.val from rfl).trans ?_
    rw [idx0]
    show 0 * 5632 + 1 * k.val = k.val
    omega
theorem emb1 (t : Fin cfg0.N) (y : S512x512.Idx) (k : Fin 5632) : (((cfg0.win 1).blk t).view.emb (ix2 k (y 1) : S5632x512.Idx) : S5632x2048.Idx)
    = ix2 k ((((cfg0.win 3).blk t).view.emb y : S8192x2048.Idx) 1) := by
  funext a
  apply Fin.ext
  match a with
  | ⟨0, _⟩ =>
    refine (show _ = win0_1.index t 0 * 5632 + 1 * k.val from rfl).trans ?_
    rw [idx1]
    show 0 * 5632 + 1 * k.val = k.val
    omega
  | ⟨1, _⟩ =>
    refine (show _ = win0_1.index t 1 * 512 + 1 * (y 1).val from rfl).trans (Eq.trans ?_ (show win0_3.index t 1 * 512 + 1 * (y 1).val = _ from rfl))
    rw [idx1, idx3]
    rfl

theorem emb2 (t : Fin cfg0.N) (y : S512x512.Idx) : (((cfg0.win 2).blk t).view.emb y : S8192x2048.Idx) = (((cfg0.win 3).blk t).view.emb y : S8192x2048.Idx) := by
  funext a
  apply Fin.ext
  match a with
  | ⟨0, _⟩ =>
    refine (show _ = win0_2.index t 0 * 512 + 1 * (y 0).val from rfl).trans (Eq.trans ?_ (show win0_3.index t 0 * 512 + 1 * (y 0).val = _ from rfl))
    rw [idx2, idx3]
  | ⟨1, _⟩ =>
    refine (show _ = win0_2.index t 1 * 512 + 1 * (y 1).val from rfl).trans (Eq.trans ?_ (show win0_3.index t 1 * 512 + 1 * (y 1).val = _ from rfl))
    rw [idx2, idx3]

theorem arr : (dats m 0 c).arrAt 3 cfg0.N = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  rw [after0_3, out]
  refine (cast_eq _ _).trans ((pay _ _ _ y).trans ?_)
  refine congrArg₂ (fun u v : EReal => u + v) (Finset.sum_congr rfl fun k _ => ?_) (congrArg (m ((c.tc : Thread nD τ).loc main_arg2) : S8192x2048.Idx → EReal) (emb2 t y))
  exact congrArg₂ (fun u v : EReal => u * v)
    (congrArg (m ((c.tc : Thread nD τ).loc main_arg0) : S8192x5632.Idx → EReal) (emb0 t y k))
    (congrArg (m ((c.tc : Thread nD τ).loc main_arg1) : S5632x2048.Idx → EReal) (emb1 t y k))

end Kernel

section Reference
open Cert.ReferenceYIdeal Cert.ReferenceYIdeal.Gen

theorem ref (a : FVec Ideal S8192x5632 .bf16) (b : FVec Ideal S5632x2048 .bf16) (x : FVec Ideal S8192x2048 .f32) :
    addf x (Host.dotGeneral dot_S8192x5632_S5632x2048_S8192x2048_1_0_0_1_n_n none (extf .f32 a bitsLt_bf16_f32) (extf .f32 b bitsLt_bf16_f32)) = prod a b x := by
  funext i
  pointwise
  exact add_comm (G := EReal) _ _

end Reference
end Cert.ProdY
-- ==== Proof.ProdA.lean ====
/-
  The product of `d_act` with its gates' derivatives: the kernel's array and the reference's array are the same sums over the 2048 columns.
-/
module

public import proofs.«01_k».proof.Proof.Gen.KernelAIdeal.Value
public import proofs.«01_k».proof.Proof.Gen.ReferenceAIdeal.Run
public import Idealize.ShloMosaic.PureOps.Ideal.Laws
public import Idealize.ShloMosaic.Lib.Pointwise
public import Idealize.ShloMosaic.Lib.Pipeline.ValueKit
@[expose] public section

set_option maxRecDepth 16384

noncomputable section

namespace Cert.ProdA

open Idealize.ShloMosaic Idealize.ShloMosaic.TcCoe Idealize.SL.Sem

/-- Row `i 1` of `a` times row `i 2` of `b`, times the derivative `s i`. -/
def prod (a : (⟨2, ![8192, 2048]⟩ : Shape).Idx → EReal) (b : (⟨2, ![5632, 2048]⟩ : Shape).Idx → EReal) (s : (⟨3, ![2, 8192, 5632]⟩ : Shape).Idx → EReal) : (⟨3, ![2, 8192, 5632]⟩ : Shape).Idx → EReal :=
  fun i => (∑ k : Fin 2048, a (ix2 (i 1) k) * b (ix2 (i 2) k)) * s i

section Kernel
open Cert.KernelAIdeal Cert.KernelAIdeal.Gen

/-- The product of two blocks over 1024 columns. -/
def part (a : Vec Ideal S1024x1024 .bf16) (b : Vec Ideal S1408x1024 .bf16) (r : Fin 1024) (q : Fin 1408) : EReal :=
  ∑ k : Fin 1024, (a (ix2 r k) : EReal) * b (ix2 q k)
theorem pay (a : Vec Ideal S1024x1024 .bf16) (b : Vec Ideal S1408x1024 .bf16) (y : S1024x1408.Idx) : k0_pay1 (F := Ideal) a b y = part a b (y 0) (y 1) := by
  unfold k0_pay1
  pointwise
  rfl
theorem pay5 (a : Vec Ideal S1024x1024 .bf16) (b : Vec Ideal S1408x1024 .bf16) (x : Vec Ideal S1024x1408 .f32) (s : Vec Ideal S2x1024x1408 .bf16) (r : Fin 1024) (q : Fin 1408) :
    k0_pay5 (F := Ideal) a b x s (ix3 0 r q) = ((x (ix2 r q) : EReal) + part a b r q) * s (ix3 0 r q) := by
  unfold k0_pay5 k0_pay4 k0_pay1
  pointwise
  rfl
theorem pay6 (a : Vec Ideal S1024x1024 .bf16) (b : Vec Ideal S1408x1024 .bf16) (x : Vec Ideal S1024x1408 .f32) (s : Vec Ideal S2x1024x1408 .bf16) (r : Fin 1024) (q : Fin 1408) :
    k0_pay6 (F := Ideal) a b x s (ix3 0 r q) = ((x (ix2 r q) : EReal) + part a b r q) * s (ix3 1 r q) := by
  unfold k0_pay6 k0_pay4 k0_pay1
  pointwise
  rfl

/-- An entry of slab `g`, by the rectangle of the slab. -/
theorem slab (o : ℕ) (inb : ∀ a, (![o, 0, 0] : Fin 3 → ℕ) a + (![1, 1024, 1408] : Fin 3 → ℕ) a ≤ S2x1024x1408.size a) (g : Fin 2) (hg : g.val = o) (r : Fin 1024) (q : Fin 1408) :
    (ix3 g r q : S2x1024x1408.Idx) = (Rect.unit (s := S2x1024x1408) ![o, 0, 0] ![1, 1024, 1408] inb).emb (ix3 0 r q : S1x1024x1408.Idx) := by
  funext a
  apply Fin.ext
  match a with
  | ⟨0, _⟩ => show g.val = o + 1 * 0; omega
  | ⟨1, _⟩ => show r.val = 0 + 1 * r.val; omega
  | ⟨2, _⟩ => show q.val = 0 + 1 * q.val; omega
/-- The piece of slab 1, written last. -/
abbrev top (A : Vec Ideal S1x1024x1408 .bf16) : View.Piece (Elt Ideal) S2x1024x1408 .bf16 := ⟨Rect.unit (s := S2x1024x1408) ![1, 0, 0] ![1, 1024, 1408] inb_S2x1024x1408_S1x1024x1408_1_0_0, A⟩
/-- The piece of slab 0. -/
abbrev low (B : Vec Ideal S1x1024x1408 .bf16) : View.Piece (Elt Ideal) S2x1024x1408 .bf16 := ⟨Rect.unit (s := S2x1024x1408) ![0, 0, 0] ![1, 1024, 1408] inb_S2x1024x1408_S1x1024x1408_0_0_0, B⟩
theorem slab1 (A B : Vec Ideal S1x1024x1408 .bf16) (r : Fin 1024) (q : Fin 1408) : View.canon [top A, low B] (ix3 1 r q : S2x1024x1408.Idx) = A (ix3 0 r q) := by
  rw [slab 1 inb_S2x1024x1408_S1x1024x1408_1_0_0 1 rfl r q]
  exact View.canon_cons_emb _ _ _ _
theorem slab0 (A B : Vec Ideal S1x1024x1408 .bf16) (r : Fin 1024) (q : Fin 1408) : View.canon [top A, low B] (ix3 0 r q : S2x1024x1408.Idx) = B (ix3 0 r q) := by
  rw [View.canon_cons_of_not_mem]
  · rw [slab 0 inb_S2x1024x1408_S1x1024x1408_0_0_0 0 rfl r q]
    exact View.canon_cons_emb _ _ _ _
  · intro hm
    rw [Rect.mem_set_unit] at hm
    have hc : 1 ≤ 0 := (hm 0).1
    exact absurd hc (by decide)

variable (m : (ℓ : Loc nD τ sig) → Buf (Elt Ideal) ℓ) (c : Dev nD)

theorem idx0 : ∀ t : Fin cfg0.N, win0_0.index t = ![t.val / 8, t.val % 2] := (by decide +kernel : ∀ t : Fin grid0.N, win0_0.index t = ![t.val / 8, t.val % 2])
theorem idx1 : ∀ t : Fin cfg0.N, win0_1.index t = ![t.val / 2 % 4, t.val % 2] := (by decide +kernel : ∀ t : Fin grid0.N, win0_1.index t = ![t.val / 2 % 4, t.val % 2])
theorem idx2 : ∀ t : Fin cfg0.N, win0_2.index t = ![0, t.val / 8, t.val / 2 % 4] := (by decide +kernel : ∀ t : Fin grid0.N, win0_2.index t = ![0, t.val / 8, t.val / 2 % 4])
theorem idx3 : ∀ t : Fin cfg0.N, win0_3.index t = ![0, t.val / 8, t.val / 2 % 4] := (by decide +kernel : ∀ t : Fin grid0.N, win0_3.index t = ![0, t.val / 8, t.val / 2 % 4])

/-- What an even point leaves in the carried block. -/
theorem even (t : Fin cfg0.N) (h : t.val % 2 = 0) (y : S1024x1408.Idx) : (outsAt0 m c t.val t.isLt).2 y = part (iblk m c 0 t) (iblk m c 1 t) (y 0) (y 1) := by
  rw [outsAt0_A m c t h (by omega)]
  frame_out
  unfold k0_pay2
  rw [shapeCast_self]
  exact pay _ _ y
/-- What an odd point leaves in the result's block. -/
theorem odd (t : Fin cfg0.N) (h : t.val % 2 = 1) (g : Fin 2) (r : Fin 1024) (q : Fin 1408) : (outsAt0 m c t.val t.isLt).1 (ix3 g r q)
    = (((outsAt0 m c (t.val - 1) (Nat.lt_of_le_of_lt (Nat.sub_le _ _) t.isLt)).2 (ix2 r q) : EReal) + part (iblk m c 0 t) (iblk m c 1 t) r q) * (iblk m c 2 t : S2x1024x1408.Idx → EReal) (ix3 g r q) := by
  rw [outsAt0_B m c t (by omega) h]
  match g with
  | 0 =>
    frame_out
    refine (slab0 _ _ r q).trans ((pay5 _ _ _ _ r q).trans ?_)
    exact congrArg (fun u : EReal => (u + part (iblk m c 0 t) (iblk m c 1 t) r q) * (iblk m c 2 t : S2x1024x1408.Idx → EReal) (ix3 0 r q)) (congrFun (Memref.IsWhole.read_unread _ _) _)
  | 1 =>
    frame_out
    refine (slab1 _ _ r q).trans ((pay6 _ _ _ _ r q).trans ?_)
    exact congrArg (fun u : EReal => (u + part (iblk m c 0 t) (iblk m c 1 t) r q) * (iblk m c 2 t : S2x1024x1408.Idx → EReal) (ix3 1 r q)) (congrFun (Memref.IsWhole.read_unread _ _) _)

/-- The first factor's block at a point. -/
theorem in0 (t : Fin cfg0.N) (r : Fin 1024) (k : Fin 1024) (R : Fin 8192) (K : Fin 2048) (hR : R.val = t.val / 8 * 1024 + r.val) (hK : K.val = t.val % 2 * 1024 + k.val) :
    (iblk m c 0 t : S1024x1024.Idx → EReal) (ix2 r k) = (m ((c.tc : Thread nD τ).loc main_arg0) : S8192x2048.Idx → EReal) (ix2 R K) := by
  refine (show _ = (m ((c.tc : Thread nD τ).loc main_arg0) : S8192x2048.Idx → EReal) (((cfg0.win 0).blk t).view.emb (ix2 r k : S1024x1024.Idx)) from rfl).trans ?_
  refine congrArg (m ((c.tc : Thread nD τ).loc main_arg0) : S8192x2048.Idx → EReal) (funext fun a => Fin.ext ?_)
  match a with
  | ⟨0, _⟩ =>
    refine (show _ = win0_0.index t 0 * 1024 + 1 * r.val from rfl).trans ?_
    rw [idx0]
    refine Eq.trans ?_ hR.symm
    show t.val / 8 * 1024 + 1 * r.val = _
    omega
  | ⟨1, _⟩ =>
    refine (show _ = win0_0.index t 1 * 1024 + 1 * k.val from rfl).trans ?_
    rw [idx0]
    refine Eq.trans ?_ hK.symm
    show t.val % 2 * 1024 + 1 * k.val = _
    omega
/-- The second factor's block at a point. -/
theorem in1 (t : Fin cfg0.N) (q : Fin 1408) (k : Fin 1024) (Q : Fin 5632) (K : Fin 2048) (hQ : Q.val = t.val / 2 % 4 * 1408 + q.val) (hK : K.val = t.val % 2 * 1024 + k.val) :
    (iblk m c 1 t : S1408x1024.Idx → EReal) (ix2 q k) = (m ((c.tc : Thread nD τ).loc main_arg1) : S5632x2048.Idx → EReal) (ix2 Q K) := by
  refine (show _ = (m ((c.tc : Thread nD τ).loc main_arg1) : S5632x2048.Idx → EReal) (((cfg0.win 1).blk t).view.emb (ix2 q k : S1408x1024.Idx)) from rfl).trans ?_
  refine congrArg (m ((c.tc : Thread nD τ).loc main_arg1) : S5632x2048.Idx → EReal) (funext fun a => Fin.ext ?_)
  match a with
  | ⟨0, _⟩ =>
    refine (show _ = win0_1.index t 0 * 1408 + 1 * q.val from rfl).trans ?_
    rw [idx1]
    refine Eq.trans ?_ hQ.symm
    show t.val / 2 % 4 * 1408 + 1 * q.val = _
    omega
  | ⟨1, _⟩ =>
    refine (show _ = win0_1.index t 1 * 1024 + 1 * k.val from rfl).trans ?_
    rw [idx1]
    refine Eq.trans ?_ hK.symm
    show t.val % 2 * 1024 + 1 * k.val = _
    omega
/-- The derivatives' block lies where the result's does. -/
theorem in2 (t : Fin cfg0.N) (y : S2x1024x1408.Idx) : (iblk m c 2 t : S2x1024x1408.Idx → EReal) y
    = (m ((c.tc : Thread nD τ).loc main_arg2) : S2x8192x5632.Idx → EReal) (((cfg0.win 3).blk t).view.emb y) := by
  refine (show _ = (m ((c.tc : Thread nD τ).loc main_arg2) : S2x8192x5632.Idx → EReal) (((cfg0.win 2).blk t).view.emb y) from rfl).trans ?_
  refine congrArg (m ((c.tc : Thread nD τ).loc main_arg2) : S2x8192x5632.Idx → EReal) (funext fun a => Fin.ext ?_)
  match a with
  | ⟨0, _⟩ =>
    refine (show _ = win0_2.index t 0 * 2 + 1 * (y 0).val from rfl).trans (Eq.trans ?_ (show win0_3.index t 0 * 2 + 1 * (y 0).val = _ from rfl))
    rw [idx2, idx3]
  | ⟨1, _⟩ =>
    refine (show _ = win0_2.index t 1 * 1024 + 1 * (y 1).val from rfl).trans (Eq.trans ?_ (show win0_3.index t 1 * 1024 + 1 * (y 1).val = _ from rfl))
    rw [idx2, idx3]
  | ⟨2, _⟩ =>
    refine (show _ = win0_2.index t 2 * 1408 + 1 * (y 2).val from rfl).trans (Eq.trans ?_ (show win0_3.index t 2 * 1408 + 1 * (y 2).val = _ from rfl))
    rw [idx2, idx3]

theorem emb3 (t : Fin cfg0.N) (y : S2x1024x1408.Idx) : ((((cfg0.win 3).blk t).view.emb y : S2x8192x5632.Idx) 1).val = t.val / 8 * 1024 + (y 1).val
    ∧ ((((cfg0.win 3).blk t).view.emb y : S2x8192x5632.Idx) 2).val = t.val / 2 % 4 * 1408 + (y 2).val := by
  refine ⟨(show _ = win0_3.index t 1 * 1024 + 1 * (y 1).val from rfl).trans ?_, (show _ = win0_3.index t 2 * 1408 + 1 * (y 2).val from rfl).trans ?_⟩
  · rw [idx3]
    show t.val / 8 * 1024 + 1 * (y 1).val = _
    omega
  · rw [idx3]
    show t.val / 2 % 4 * 1408 + 1 * (y 2).val = _
    omega

/-- A sum over 2048 columns is the sum over the first 1024 and the sum over the rest. -/
theorem split (f : Fin 2048 → EReal) : ∑ k : Fin 2048, f k = ∑ k : Fin 1024, f ⟨k.val, by omega⟩ + ∑ k : Fin 1024, f ⟨1024 + k.val, by omega⟩ :=
  Fin.sum_univ_add (a := 1024) (b := 1024) f

theorem arr : (dats m 0 c).arrAt 3 cfg0.N = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val % 2 = 1 := (flush0_3 t).mp hf
  have hp : t.val - 1 < cfg0.N := Nat.lt_of_le_of_lt (Nat.sub_le _ _) t.isLt
  have hy : (y : S2x1024x1408.Idx) = ix3 (y 0) (y 1) (y 2) := by
    funext a
    match a with
    | ⟨0, _⟩ => rfl
    | ⟨1, _⟩ => rfl
    | ⟨2, _⟩ => rfl
  rw [after0_3]
  refine (cast_eq _ _).trans (((congrArg (outsAt0 m c t.val t.isLt).1 hy).trans (odd m c t ht (y 0) (y 1) (y 2))).trans ?_)
  rw [even m c ⟨t.val - 1, hp⟩ (by dsimp only; omega)]
  refine congrArg₂ (fun u v : EReal => u * v) ?_ ((congrArg (iblk m c 2 t : S2x1024x1408.Idx → EReal) hy.symm).trans (in2 m c t y))
  obtain ⟨e1, e2⟩ := emb3 t y
  generalize (((cfg0.win 3).blk t).view.emb y : S2x8192x5632.Idx) = z at e1 e2 ⊢
  refine Eq.trans ?_ (split _).symm
  refine congrArg₂ (fun u v : EReal => u + v) (Finset.sum_congr rfl fun k _ => ?_) (Finset.sum_congr rfl fun k _ => ?_)
  · refine congrArg₂ (fun u v : EReal => u * v) (in0 m c _ _ k _ _ ?_ ?_) (in1 m c _ _ k _ _ ?_ ?_)
    · show (z 1).val = (t.val - 1) / 8 * 1024 + (y 1).val
      omega
    · show k.val = (t.val - 1) % 2 * 1024 + k.val
      omega
    · show (z 2).val = (t.val - 1) / 2 % 4 * 1408 + (y 2).val
      omega
    · show k.val = (t.val - 1) % 2 * 1024 + k.val
      omega
  · refine congrArg₂ (fun u v : EReal => u * v) (in0 m c _ _ k _ _ ?_ ?_) (in1 m c _ _ k _ _ ?_ ?_)
    · show (z 1).val = t.val / 8 * 1024 + (y 1).val
      omega
    · show 1024 + k.val = t.val % 2 * 1024 + k.val
      omega
    · show (z 2).val = t.val / 2 % 4 * 1408 + (y 2).val
      omega
    · show 1024 + k.val = t.val % 2 * 1024 + k.val
      omega

end Kernel

section Reference
open Cert.ReferenceAIdeal Cert.ReferenceAIdeal.Gen

theorem ref (a : FVec Ideal S8192x2048 .bf16) (b : FVec Ideal S5632x2048 .bf16) (s : FVec Ideal S2x8192x5632 .bf16) :
    truncf .bf16 (mulf (broadcastInDim S2x8192x5632 ![0, 1, 2] bcast_S1x8192x5632_S2x8192x5632_0_1_2 (broadcastInDim S1x8192x5632 ![1, 2] bcast_S8192x5632_S1x8192x5632_1_2 (Host.dotGeneral dot_S8192x2048_S5632x2048_S8192x5632_1_1_0_0_n_n none (extf .f32 a bitsLt_bf16_f32) (extf .f32 b bitsLt_bf16_f32)))) (extf .f32 s bitsLt_bf16_f32)) bitsLt_bf16_f32 = prod a b s := by
  funext i
  pointwise
  rfl

end Reference
end Cert.ProdA
-- ==== Proof.KerRun.lean ====
/-
  The run of the backward kernel ends with the eight tables.
-/
module

public import proofs.«01_k».proof.Proof.KerFinal
public import proofs.«01_k».proof.Proof.Gen.KernelIdeal.Value
@[expose] public section

set_option maxRecDepth 16384

noncomputable section

namespace Cert.KernelIdeal.Points

open Idealize.ShloMosaic Idealize.ShloMosaic.TcCoe Idealize.SL.Sem Cert.Lift Cert.KernelIdeal.Gen Cert.KernelIdeal.Body

set_option maxHeartbeats 2000000 in
/-- The run of the backward kernel. -/
theorem run (m : (ℓ : Loc nD τ sig) → Buf (Elt Ideal) ℓ) (ρ : Dev nD → PrngReg) (x : Dev nD → In) (hx : ∀ c, Line.Of m c (x c)) :
    θ_run defs (onTc (τ := τ) (main (F := Ideal))) ⟨m, fun _ => 0, ρ⟩ fun r => ∀ c : Dev nD,
      r.2.mem ((c.tc : Thread nD τ).loc main_v62_0) = (up2 fun (i : Fin 8192) (j : Fin 512) => odq (blk (x c) (pt i)) (rr i) j)
      ∧ r.2.mem ((c.tc : Thread nD τ).loc main_v62_1) = (up2 fun (i : Fin 8192) (j : Fin 512) => odk (blk (x c) (pt i)) (rr i) j)
      ∧ r.2.mem ((c.tc : Thread nD τ).loc main_v62_2) = (up2 fun (i : Fin 8192) (j : Fin 1024) => odv (blk (x c) (pt i)) (rr i) j)
      ∧ r.2.mem ((c.tc : Thread nD τ).loc main_v62_3) = (up2 fun (i : Fin 8192) (j : Fin 1024) => odr (blk (x c) (pt i)) (rr i) j)
      ∧ r.2.mem ((c.tc : Thread nD τ).loc main_v62_4) = (up2 fun (i : Fin 8192) (j : Fin 128) => oal (blk (x c) (pt i)) (rr i) j)
      ∧ r.2.mem ((c.tc : Thread nD τ).loc main_v62_5) = up2 (owa (blk (x c) 31))
      ∧ r.2.mem ((c.tc : Thread nD τ).loc main_v62_6) = (up2 fun (_ : Fin 1) => oba (blk (x c) 31))
      ∧ r.2.mem ((c.tc : Thread nD τ).loc main_v62_7) = (up2 fun (_ : Fin 1) => ogh (blk (x c) 31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run_blocks m ρ)
  exact ⟨((h c).1).trans (arr11 (hx c)), ((h c).2.1).trans (arr12 (hx c)), ((h c).2.2.1).trans (arr13 (hx c)), ((h c).2.2.2.1).trans (arr14 (hx c)), ((h c).2.2.2.2.1).trans (arr15 (hx c)), ((h c).2.2.2.2.2.1).trans (arr16 (hx c)), ((h c).2.2.2.2.2.2.1).trans (arr17 (hx c)), ((h c).2.2.2.2.2.2.2.1).trans (arr18 (hx c)),
    (h c).2.2.2.2.2.2.2.2⟩

end Cert.KernelIdeal.Points
-- ==== Proof.ProdW.lean ====
/-
  The product of `g_w_ffn_in`: the kernel's array and the reference's array are the same sums over the 8192 rows.
-/
module

public import proofs.«01_k».proof.Proof.Gen.KernelWIdeal.Value
public import proofs.«01_k».proof.Proof.Gen.ReferenceWIdeal.Run
public import Idealize.ShloMosaic.PureOps.Ideal.Laws
public import Idealize.ShloMosaic.Lib.Pointwise
public import Idealize.ShloMosaic.Lib.Pipeline.ValueKit
@[expose] public section

set_option maxRecDepth 16384

noncomputable section

namespace Cert.ProdW

open Idealize.ShloMosaic Idealize.ShloMosaic.TcCoe Idealize.SL.Sem

/-- Where entry `j` of slot `s` stands in a half of the 11264 columns. -/
def at2 (s : Fin 8) (j : Fin 1408) : Fin 5632 := ⟨s.val % 4 * 1408 + j.val, by omega⟩
/-- Which half slot `s` stands in. -/
def half (s : Fin 8) : Fin 2 := ⟨s.val / 4, by omega⟩

/-- Column `i 1` of `h` times the column of `d` that slot `i 0` has at `i 2`. -/
def prod (h : (⟨2, ![8192, 2048]⟩ : Shape).Idx → EReal) (d : (⟨3, ![2, 8192, 5632]⟩ : Shape).Idx → EReal) : (⟨3, ![8, 2048, 1408]⟩ : Shape).Idx → EReal :=
  fun i => ∑ k : Fin 8192, h (ix2 k (i 1)) * d (ix3 (half (i 0)) k (at2 (i 0) (i 2)))

section Kernel
open Cert.KernelWIdeal Cert.KernelWIdeal.Gen

/-- One block's product. -/
def part (a : Vec Ideal S4096x512 .bf16) (b : Vec Ideal S1x4096x1408 .bf16) (r : Fin 512) (j : Fin 1408) : EReal :=
  ∑ k : Fin 4096, a (ix2 k r) * b (ix3 0 k j)

theorem pay2 (a : Vec Ideal S4096x512 .bf16) (b : Vec Ideal S1x4096x1408 .bf16) (y : S512x1408.Idx) :
    k0_pay2 (F := Ideal) a b y = part a b (y 0) (y 1) := by
  unfold k0_pay2 k0_pay1
  pointwise
  rfl
theorem pay4 (a : Vec Ideal S4096x512 .bf16) (b : Vec Ideal S1x4096x1408 .bf16) (s : Vec Ideal S512x1408 .f32) (y : S1x512x1408.Idx) :
    k0_pay4 (F := Ideal) a b s y = s (ix2 (y 1) (y 2)) + part a b (y 1) (y 2) := by
  unfold k0_pay4 k0_pay1
  pointwise
  rfl

variable (m : (ℓ : Loc nD τ sig) → Buf (Elt Ideal) ℓ) (c : Dev nD)

theorem idx0 : ∀ t : Fin cfg0.N, win0_0.index t = ![t.val % 2, t.val / 16] := (by decide +kernel : ∀ t : Fin grid0.N, win0_0.index t = ![t.val % 2, t.val / 16])
theorem idx1 : ∀ t : Fin cfg0.N, win0_1.index t = ![t.val / 8 % 2, t.val % 2, t.val / 2 % 4] := (by decide +kernel : ∀ t : Fin grid0.N, win0_1.index t = ![t.val / 8 % 2, t.val % 2, t.val / 2 % 4])
theorem idx2 : ∀ t : Fin cfg0.N, win0_2.index t = ![t.val / 2 % 8, t.val / 16, 0] := (by decide +kernel : ∀ t : Fin grid0.N, win0_2.index t = ![t.val / 2 % 8, t.val / 16, 0])

/-- What an even point leaves in the carried block. -/
theorem even (t : Fin cfg0.N) (h : t.val % 2 = 0) : (outsAt0 m c t.val t.isLt).2 = k0_pay2 (F := Ideal) (iblk m c 0 t) (iblk m c 1 t) := by
  rw [outsAt0_A m c t h (by omega)]
  frame_out
/-- What an odd point leaves in the result's block. -/
theorem odd (t : Fin cfg0.N) (h : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h]
  frame_out
  exact congrArg (k0_pay4 (F := Ideal) (iblk m c 0 t) (iblk m c 1 t)) (Memref.IsWhole.read_unread _ _)

/-- The first factor's block at a point. -/
theorem in0 (t : Fin cfg0.N) (k : Fin 4096) (r : Fin 512) (K : Fin 8192) (R : Fin 2048) (hK : K.val = t.val % 2 * 4096 + k.val) (hR : R.val = t.val / 16 * 512 + r.val) :
    (iblk m c 0 t : S4096x512.Idx → EReal) (ix2 k r) = (m ((c.tc : Thread nD τ).loc main_arg0) : S8192x2048.Idx → EReal) (ix2 K R) := by
  refine (show _ = (m ((c.tc : Thread nD τ).loc main_arg0) : S8192x2048.Idx → EReal) (((cfg0.win 0).blk t).view.emb (ix2 k r : S4096x512.Idx)) from rfl).trans ?_
  refine congrArg (m ((c.tc : Thread nD τ).loc main_arg0) : S8192x2048.Idx → EReal) (funext fun a => Fin.ext ?_)
  match a with
  | ⟨0, _⟩ =>
    refine (show _ = win0_0.index t 0 * 4096 + 1 * k.val from rfl).trans ?_
    rw [idx0]
    refine Eq.trans ?_ hK.symm
    show t.val % 2 * 4096 + 1 * k.val = _
    omega
  | ⟨1, _⟩ =>
    refine (show _ = win0_0.index t 1 * 512 + 1 * r.val from rfl).trans ?_
    rw [idx0]
    refine Eq.trans ?_ hR.symm
    show t.val / 16 * 512 + 1 * r.val = _
    omega
/-- The second factor's block at a point. -/
theorem in1 (t : Fin cfg0.N) (k : Fin 4096) (j : Fin 1408) (H : Fin 2) (K : Fin 8192) (J : Fin 5632) (hH : H.val = t.val / 8 % 2)
    (hK : K.val = t.val % 2 * 4096 + k.val) (hJ : J.val = t.val / 2 % 4 * 1408 + j.val) :
    (iblk m c 1 t : S1x4096x1408.Idx → EReal) (ix3 0 k j) = (m ((c.tc : Thread nD τ).loc main_arg1) : S2x8192x5632.Idx → EReal) (ix3 H K J) := by
  refine (show _ = (m ((c.tc : Thread nD τ).loc main_arg1) : S2x8192x5632.Idx → EReal) (((cfg0.win 1).blk t).view.emb (ix3 0 k j : S1x4096x1408.Idx)) from rfl).trans ?_
  refine congrArg (m ((c.tc : Thread nD τ).loc main_arg1) : S2x8192x5632.Idx → EReal) (funext fun a => Fin.ext ?_)
  match a with
  | ⟨0, _⟩ =>
    refine (show _ = win0_1.index t 0 * 1 + 1 * 0 from rfl).trans ?_
    rw [idx1]
    refine Eq.trans ?_ hH.symm
    show t.val / 8 % 2 * 1 + 1 * 0 = _
    omega
  | ⟨1, _⟩ =>
    refine (show _ = win0_1.index t 1 * 4096 + 1 * k.val from rfl).trans ?_
    rw [idx1]
    refine Eq.trans ?_ hK.symm
    show t.val % 2 * 4096 + 1 * k.val = _
    omega
  | ⟨2, _⟩ =>
    refine (show _ = win0_1.index t 2 * 1408 + 1 * j.val from rfl).trans ?_
    rw [idx1]
    refine Eq.trans ?_ hJ.symm
    show t.val / 2 % 4 * 1408 + 1 * j.val = _
    omega

/-- A sum over the 8192 rows is the sum over the first 4096 and the sum over the rest. -/
theorem split (f : Fin 8192 → EReal) : ∑ k : Fin 8192, f k = ∑ k : Fin 4096, f ⟨k.val, by omega⟩ + ∑ k : Fin 4096, f ⟨4096 + k.val, by omega⟩ :=
  Fin.sum_univ_add (a := 4096) (b := 4096) f

theorem emb2 (t : Fin cfg0.N) (y : S1x512x1408.Idx) : ((((cfg0.win 2).blk t).view.emb y : S8x2048x1408.Idx) 0).val = t.val / 2 % 8
    ∧ ((((cfg0.win 2).blk t).view.emb y : S8x2048x1408.Idx) 1).val = t.val / 16 * 512 + (y 1).val
    ∧ ((((cfg0.win 2).blk t).view.emb y : S8x2048x1408.Idx) 2).val = (y 2).val := by
  refine ⟨(show _ = win0_2.index t 0 * 1 + 1 * (y 0).val from rfl).trans ?_, (show _ = win0_2.index t 1 * 512 + 1 * (y 1).val from rfl).trans ?_,
    (show _ = win0_2.index t 2 * 1408 + 1 * (y 2).val from rfl).trans ?_⟩
  · rw [idx2]
    have h : (y 0).val < 1 := (y 0).isLt
    show t.val / 2 % 8 * 1 + 1 * (y 0).val = _
    omega
  · rw [idx2]
    show t.val / 16 * 512 + 1 * (y 1).val = _
    omega
  · rw [idx2]
    show 0 * 1408 + 1 * (y 2).val = _
    omega

theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have ht : t.val % 2 = 1 := (flush0_2 t).mp hf
  have hp : t.val - 1 < cfg0.N := Nat.lt_of_le_of_lt (Nat.sub_le _ _) t.isLt
  rw [after0_2, odd m c t ht, even m c ⟨t.val - 1, hp⟩ (by dsimp only; omega)]
  refine (cast_eq _ _).trans ((pay4 _ _ _ y).trans ?_)
  rw [pay2]
  obtain ⟨e0, e1, e2⟩ := emb2 t y
  have hy : (y 2).val < 1408 := (y 2).isLt
  generalize (((cfg0.win 2).blk t).view.emb y : S8x2048x1408.Idx) = z at e0 e1 e2 ⊢
  unfold prod
  rw [split]
  refine congrArg₂ (fun u v : EReal => u + v) (Finset.sum_congr rfl fun k _ => ?_) (Finset.sum_congr rfl fun k _ => ?_)
  · refine congrArg₂ (fun u v : EReal => u * v) (in0 m c _ k _ _ _ ?_ ?_) (in1 m c _ k _ _ _ _ ?_ ?_ ?_)
    · show k.val = (t.val - 1) % 2 * 4096 + k.val
      omega
    · show (z 1).val = (t.val - 1) / 16 * 512 + (y 1).val
      omega
    · show (z 0).val / 4 = (t.val - 1) / 8 % 2
      omega
    · show k.val = (t.val - 1) % 2 * 4096 + k.val
      omega
    · show (z 0).val % 4 * 1408 + (z 2).val = (t.val - 1) / 2 % 4 * 1408 + (y 2).val
      omega
  · refine congrArg₂ (fun u v : EReal => u * v) (in0 m c t k _ _ _ ?_ ?_) (in1 m c t k _ _ _ _ ?_ ?_ ?_)
    · show 4096 + k.val = t.val % 2 * 4096 + k.val
      omega
    · show (z 1).val = t.val / 16 * 512 + (y 1).val
      omega
    · show (z 0).val / 4 = t.val / 8 % 2
      omega
    · show 4096 + k.val = t.val % 2 * 4096 + k.val
      omega
    · show (z 0).val % 4 * 1408 + (z 2).val = t.val / 2 % 4 * 1408 + (y 2).val
      omega

end Kernel

section Reference
open Cert.ReferenceWIdeal Cert.ReferenceWIdeal.Gen

/-- The two halves side by side, at a column of slot `s`. -/
theorem cat (d : FVec Ideal S2x8192x5632 .bf16) (s : Fin 8) (j : Fin 1408) (k : Fin 8192) (q : Fin 11264) (hq : q.val = s.val * 1408 + j.val) :
    concatenate S8192x11264 1 [⟨S8192x5632, (shapeCast S8192x5632 (extractStridedSlice S1x8192x5632 ![0, 0, 0] (extf .f32 d bitsLt_bf16_f32) slices_S2x8192x5632_S1x8192x5632_0_0_0) shapeCasts_S1x8192x5632_S8192x5632)⟩, ⟨S8192x5632, (shapeCast S8192x5632 (extractStridedSlice S1x8192x5632 ![1, 0, 0] (extf .f32 d bitsLt_bf16_f32) slices_S2x8192x5632_S1x8192x5632_1_0_0) shapeCasts_S1x8192x5632_S8192x5632)⟩] concatenates_S8192x5632_S8192x5632_S8192x11264_d1 (ix2 k q)
      = d (ix3 (half s) k (at2 s j)) := by
  pointwise
  split
  · refine congrArg₂ (fun u v => d (ix3 u k v)) (Fin.ext ?_) (Fin.ext ?_)
    · show 0 = s.val / 4
      omega
    · show q.val = s.val % 4 * 1408 + j.val
      omega
  · refine congrArg₂ (fun u v => d (ix3 u k v)) (Fin.ext ?_) (Fin.ext ?_)
    · show 1 = s.val / 4
      omega
    · show q.val - 5632 = s.val % 4 * 1408 + j.val
      omega
theorem dot (x : FVec Ideal S8192x11264 .f32) (h : FVec Ideal S8192x2048 .f32) (i : S8x2048x1408.Idx) :
    truncf .bf16 (transpose S8x2048x1408 [1, 0, 2] (shapeCast S2048x8x1408 (transpose S2048x11264 [1, 0] (Host.dotGeneral dot_S8192x11264_S8192x2048_S11264x2048_0_0_1_1_n_n none x h) transposes_S11264x2048_S2048x11264_1_0) shapeCasts_S2048x11264_S2048x8x1408) transposes_S2048x8x1408_S8x2048x1408_1_0_2) bitsLt_bf16_f32 i
      = ∑ k : Fin 8192, x (ix2 k (⟨(i 0).val * 1408 + (i 2).val, by have h0 : (i 0).val < 8 := (i 0).isLt; have h2 : (i 2).val < 1408 := (i 2).isLt; omega⟩ : Fin 11264)) * h (ix2 k (i 1)) := by
  pointwise
theorem ref (h : FVec Ideal S8192x2048 .bf16) (d : FVec Ideal S2x8192x5632 .bf16) :
    truncf .bf16 (transpose S8x2048x1408 [1, 0, 2] (shapeCast S2048x8x1408 (transpose S2048x11264 [1, 0] (Host.dotGeneral dot_S8192x11264_S8192x2048_S11264x2048_0_0_1_1_n_n none (concatenate S8192x11264 1 [⟨S8192x5632, (shapeCast S8192x5632 (extractStridedSlice S1x8192x5632 ![0, 0, 0] (extf .f32 d bitsLt_bf16_f32) slices_S2x8192x5632_S1x8192x5632_0_0_0) shapeCasts_S1x8192x5632_S8192x5632)⟩, ⟨S8192x5632, (shapeCast S8192x5632 (extractStridedSlice S1x8192x5632 ![1, 0, 0] (extf .f32 d bitsLt_bf16_f32) slices_S2x8192x5632_S1x8192x5632_1_0_0) shapeCasts_S1x8192x5632_S8192x5632)⟩] concatenates_S8192x5632_S8192x5632_S8192x11264_d1) (extf .f32 h bitsLt_bf16_f32)) transposes_S11264x2048_S2048x11264_1_0) shapeCasts_S2048x11264_S2048x8x1408) transposes_S2048x8x1408_S8x2048x1408_1_0_2) bitsLt_bf16_f32 = prod h d := by
  funext i
  rw [dot]
  refine Finset.sum_congr rfl fun k _ => (mul_comm (G := EReal) _ _).trans ?_
  exact congrArg (h (ix2 k (i 1)) * · : EReal → EReal) (cat d (i 0) (i 2) k _ rfl)

end Reference
end Cert.ProdW
-- ==== Proof.ProdH.lean ====
/-
  The product of `d_h2`: the kernel's array and the reference's array are the same sums over the eight slots' 1408 entries.
-/
module

public import proofs.«01_k».proof.Proof.Gen.KernelHIdeal.Value
public import proofs.«01_k».proof.Proof.Gen.ReferenceHIdeal.Run
public import Idealize.ShloMosaic.PureOps.Ideal.Laws
public import Idealize.ShloMosaic.Lib.Pointwise
public import Idealize.ShloMosaic.Lib.Pipeline.ValueKit
@[expose] public section

set_option maxRecDepth 16384

noncomputable section

namespace Cert.ProdH

open Idealize.ShloMosaic Idealize.ShloMosaic.TcCoe Idealize.SL.Sem

/-- Where entry `j` of slot `s` stands in a half of the 11264 columns. -/
def at2 (s : Fin 8) (j : Fin 1408) : Fin 5632 := ⟨s.val % 4 * 1408 + j.val, by omega⟩
/-- Which half slot `s` stands in. -/
def half (s : Fin 8) : Fin 2 := ⟨s.val / 4, by omega⟩

/-- Row `i 0` of `d` times row `i 1` of `w`, slot by slot. -/
def prod (d : (⟨3, ![2, 8192, 5632]⟩ : Shape).Idx → EReal) (w : (⟨3, ![8, 2048, 1408]⟩ : Shape).Idx → EReal) : (⟨2, ![8192, 2048]⟩ : Shape).Idx → EReal :=
  fun i => ∑ s : Fin 8, ∑ j : Fin 1408, d (ix3 (half s) (i 0) (at2 s j)) * w (ix3 s (i 1) j)

section Kernel
open Cert.KernelHIdeal Cert.KernelHIdeal.Gen

/-- One slot's product in a block. -/
def term (a : Vec Ideal S1x512x5632 .bf16) (b : Vec Ideal S4x1024x1408 .bf16) (r : Fin 512) (q : Fin 1024) (s : Fin 4) : EReal :=
  ∑ j : Fin 1408, a (ix3 0 r (⟨s.val * 1408 + j.val, by omega⟩ : Fin 5632)) * b (ix3 s q j)
/-- One block's product. -/
def part (a : Vec Ideal S1x512x5632 .bf16) (b : Vec Ideal S4x1024x1408 .bf16) (r : Fin 512) (q : Fin 1024) : EReal :=
  ∑ s : Fin 4, term a b r q s

variable (m : (ℓ : Loc nD τ sig) → Buf (Elt Ideal) ℓ) (c : Dev nD)

theorem idx0 : ∀ t : Fin cfg0.N, win0_0.index t = ![t.val % 2, t.val / 4, 0] := (by decide +kernel : ∀ t : Fin grid0.N, win0_0.index t = ![t.val % 2, t.val / 4, 0])
theorem idx1 : ∀ t : Fin cfg0.N, win0_1.index t = ![t.val % 2, t.val / 2 % 2, 0] := (by decide +kernel : ∀ t : Fin grid0.N, win0_1.index t = ![t.val % 2, t.val / 2 % 2, 0])
theorem idx2 : ∀ t : Fin cfg0.N, win0_2.index t = ![t.val / 4, t.val / 2 % 2] := (by decide +kernel : ∀ t : Fin grid0.N, win0_2.index t = ![t.val / 4, t.val / 2 % 2])

/-- A block's product at an entry. -/
theorem pay (a : Vec Ideal S1x512x5632 .bf16) (b : Vec Ideal S4x1024x1408 .bf16) (y : S512x1024.Idx) :
    k0_pay4 (F := Ideal) (View.ld a (Rect.unit ![0, 0, 0] ![1, 512, 1408] inb_S1x512x5632_S1x512x1408_0_0_0)) (View.ld b (Rect.unit ![0, 0, 0] ![1, 1024, 1408] inb_S4x1024x1408_S1x1024x1408_0_0_0)) (View.ld a (Rect.unit ![0, 0, 1408] ![1, 512, 1408] inb_S1x512x5632_S1x512x1408_0_0_1408)) (View.ld b (Rect.unit ![1, 0, 0] ![1, 1024, 1408] inb_S4x1024x1408_S1x1024x1408_1_0_0)) (View.ld a (Rect.unit ![0, 0, 2816] ![1, 512, 1408] inb_S1x512x5632_S1x512x1408_0_0_2816)) (View.ld b (Rect.unit ![2, 0, 0] ![1, 1024, 1408] inb_S4x1024x1408_S1x1024x1408_2_0_0)) (View.ld a (Rect.unit ![0, 0, 4224] ![1, 512, 1408] inb_S1x512x5632_S1x512x1408_0_0_4224)) (View.ld b (Rect.unit ![3, 0, 0] ![1, 1024, 1408] inb_S4x1024x1408_S1x1024x1408_3_0_0)) y
      = part a b (y 0) (y 1) := by
  unfold k0_pay4
  pointwise
  unfold part
  rw [Fin.sum_univ_four]
  exact congrArg₂ (fun u v : EReal => u + v) (congrArg₂ (fun u v : EReal => u + v) (congrArg₂ (fun u v : EReal => u + v)
    (Finset.sum_congr rfl fun j _ => congrArg (fun q => a (ix3 0 (y 0) q) * b (ix3 0 (y 1) j)) (Fin.ext (show j.val = 0 * 1408 + j.val by omega)))
    (Finset.sum_congr rfl fun j _ => congrArg (fun q => a (ix3 0 (y 0) q) * b (ix3 1 (y 1) j)) (Fin.ext (show 1408 + j.val = 1 * 1408 + j.val by omega))))
    (Finset.sum_congr rfl fun j _ => congrArg (fun q => a (ix3 0 (y 0) q) * b (ix3 2 (y 1) j)) (Fin.ext (show 2816 + j.val = 2 * 1408 + j.val by omega))))
    (Finset.sum_congr rfl fun j _ => congrArg (fun q => a (ix3 0 (y 0) q) * b (ix3 3 (y 1) j)) (Fin.ext (show 4224 + j.val = 3 * 1408 + j.val by omega)))

/-- What an even point leaves in the carried block. -/
theorem even (t : Fin cfg0.N) (h : t.val % 2 = 0) (y : S512x1024.Idx) : (outsAt0 m c t.val t.isLt).2 y = part (iblk m c 0 t) (iblk m c 1 t) (y 0) (y 1) := by
  rw [outsAt0_A m c t h (by omega)]
  frame_out
  unfold k0_pay1
  rw [shapeCast_self]
  exact pay _ _ y
/-- What an odd point leaves in the result's block. -/
theorem odd (t : Fin cfg0.N) (h : t.val % 2 = 1) (y : S512x1024.Idx) : (outsAt0 m c t.val t.isLt).1 y
    = (outsAt0 m c (t.val - 1) (Nat.lt_of_le_of_lt (Nat.sub_le _ _) t.isLt)).2 y + part (iblk m c 0 t) (iblk m c 1 t) (y 0) (y 1) := by
  rw [outsAt0_B m c t (by omega) h]
  frame_out
  exact congrArg₂ (fun u v : EReal => u + v) (congrFun (Memref.IsWhole.read_unread _ _) y) (pay _ _ y)

/-- The first factor's block at a point. -/
theorem in0 (t : Fin cfg0.N) (r : Fin 512) (q : Fin 5632) (H : Fin 2) (R : Fin 8192) (hH : H.val = t.val % 2) (hR : R.val = t.val / 4 * 512 + r.val) :
    (iblk m c 0 t : S1x512x5632.Idx → EReal) (ix3 0 r q) = (m ((c.tc : Thread nD τ).loc main_arg0) : S2x8192x5632.Idx → EReal) (ix3 H R q) := by
  refine (show _ = (m ((c.tc : Thread nD τ).loc main_arg0) : S2x8192x5632.Idx → EReal) (((cfg0.win 0).blk t).view.emb (ix3 0 r q : S1x512x5632.Idx)) from rfl).trans ?_
  refine congrArg (m ((c.tc : Thread nD τ).loc main_arg0) : S2x8192x5632.Idx → EReal) (funext fun a => Fin.ext ?_)
  match a with
  | ⟨0, _⟩ =>
    refine (show _ = win0_0.index t 0 * 1 + 1 * 0 from rfl).trans ?_
    rw [idx0]
    refine Eq.trans ?_ hH.symm
    show t.val % 2 * 1 + 1 * 0 = _
    omega
  | ⟨1, _⟩ =>
    refine (show _ = win0_0.index t 1 * 512 + 1 * r.val from rfl).trans ?_
    rw [idx0]
    refine Eq.trans ?_ hR.symm
    show t.val / 4 * 512 + 1 * r.val = _
    omega
  | ⟨2, _⟩ =>
    refine (show _ = win0_0.index t 2 * 5632 + 1 * q.val from rfl).trans ?_
    rw [idx0]
    show 0 * 5632 + 1 * q.val = q.val
    omega
/-- The second factor's block at a point. -/
theorem in1 (t : Fin cfg0.N) (s : Fin 4) (q : Fin 1024) (j : Fin 1408) (S : Fin 8) (Q : Fin 2048) (hS : S.val = t.val % 2 * 4 + s.val) (hQ : Q.val = t.val / 2 % 2 * 1024 + q.val) :
    (iblk m c 1 t : S4x1024x1408.Idx → EReal) (ix3 s q j) = (m ((c.tc : Thread nD τ).loc main_arg1) : S8x2048x1408.Idx → EReal) (ix3 S Q j) := by
  refine (show _ = (m ((c.tc : Thread nD τ).loc main_arg1) : S8x2048x1408.Idx → EReal) (((cfg0.win 1).blk t).view.emb (ix3 s q j : S4x1024x1408.Idx)) from rfl).trans ?_
  refine congrArg (m ((c.tc : Thread nD τ).loc main_arg1) : S8x2048x1408.Idx → EReal) (funext fun a => Fin.ext ?_)
  match a with
  | ⟨0, _⟩ =>
    refine (show _ = win0_1.index t 0 * 4 + 1 * s.val from rfl).trans ?_
    rw [idx1]
    refine Eq.trans ?_ hS.symm
    show t.val % 2 * 4 + 1 * s.val = _
    omega
  | ⟨1, _⟩ =>
    refine (show _ = win0_1.index t 1 * 1024 + 1 * q.val from rfl).trans ?_
    rw [idx1]
    refine Eq.trans ?_ hQ.symm
    show t.val / 2 % 2 * 1024 + 1 * q.val = _
    omega
  | ⟨2, _⟩ =>
    refine (show _ = win0_1.index t 2 * 1408 + 1 * j.val from rfl).trans ?_
    rw [idx1]
    show 0 * 1408 + 1 * j.val = j.val
    omega

theorem emb2 (t : Fin cfg0.N) (y : S512x1024.Idx) : ((((cfg0.win 2).blk t).view.emb y : S8192x2048.Idx) 0).val = t.val / 4 * 512 + (y 0).val
    ∧ ((((cfg0.win 2).blk t).view.emb y : S8192x2048.Idx) 1).val = t.val / 2 % 2 * 1024 + (y 1).val := by
  refine ⟨(show _ = win0_2.index t 0 * 512 + 1 * (y 0).val from rfl).trans ?_, (show _ = win0_2.index t 1 * 1024 + 1 * (y 1).val from rfl).trans ?_⟩
  · rw [idx2]
    show t.val / 4 * 512 + 1 * (y 0).val = _
    omega
  · rw [idx2]
    show t.val / 2 % 2 * 1024 + 1 * (y 1).val = _
    omega

/-- A sum over the eight slots is the sum over the first four and the sum over the rest. -/
theorem split (f : Fin 8 → EReal) : ∑ s : Fin 8, f s = ∑ s : Fin 4, f ⟨s.val, by omega⟩ + ∑ s : Fin 4, f ⟨4 + s.val, by omega⟩ :=
  Fin.sum_univ_add (a := 4) (b := 4) f

theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have ht : t.val % 2 = 1 := (flush0_2 t).mp hf
  have hp : t.val - 1 < cfg0.N := Nat.lt_of_le_of_lt (Nat.sub_le _ _) t.isLt
  rw [after0_2]
  refine (cast_eq _ _).trans ((odd m c t ht y).trans ?_)
  rw [even m c ⟨t.val - 1, hp⟩ (by dsimp only; omega)]
  obtain ⟨e0, e1⟩ := emb2 t y
  generalize (((cfg0.win 2).blk t).view.emb y : S8192x2048.Idx) = z at e0 e1 ⊢
  unfold prod
  rw [split]
  refine congrArg₂ (fun u v : EReal => u + v) (Finset.sum_congr rfl fun s _ => Finset.sum_congr rfl fun j _ => ?_) (Finset.sum_congr rfl fun s _ => Finset.sum_congr rfl fun j _ => ?_)
  · refine congrArg₂ (fun u v : EReal => u * v) ((in0 m c _ _ _ (half ⟨s.val, by omega⟩) (z 0) ?_ ?_).trans (congrArg (fun q => (m ((c.tc : Thread nD τ).loc main_arg0) : S2x8192x5632.Idx → EReal) (ix3 _ (z 0) q)) (Fin.ext ?_))) (in1 m c _ s _ j _ _ ?_ ?_)
    · show s.val / 4 = (t.val - 1) % 2
      omega
    · show (z 0).val = (t.val - 1) / 4 * 512 + (y 0).val
      omega
    · show s.val * 1408 + j.val = s.val % 4 * 1408 + j.val
      omega
    · show s.val = (t.val - 1) % 2 * 4 + s.val
      omega
    · show (z 1).val = (t.val - 1) / 2 % 2 * 1024 + (y 1).val
      omega
  · refine congrArg₂ (fun u v : EReal => u * v) ((in0 m c _ _ _ (half ⟨4 + s.val, by omega⟩) (z 0) ?_ ?_).trans (congrArg (fun q => (m ((c.tc : Thread nD τ).loc main_arg0) : S2x8192x5632.Idx → EReal) (ix3 _ (z 0) q)) (Fin.ext ?_))) (in1 m c _ s _ j _ _ ?_ ?_)
    · show (4 + s.val) / 4 = t.val % 2
      omega
    · show (z 0).val = t.val / 4 * 512 + (y 0).val
      omega
    · show s.val * 1408 + j.val = (4 + s.val) % 4 * 1408 + j.val
      omega
    · show 4 + s.val = t.val % 2 * 4 + s.val
      omega
    · show (z 1).val = t.val / 2 % 2 * 1024 + (y 1).val
      omega

end Kernel

section Reference
open Cert.ReferenceHIdeal Cert.ReferenceHIdeal.Gen

/-- The two halves side by side, at a column of slot `s`. -/
theorem cat (d : FVec Ideal S2x8192x5632 .bf16) (s : Fin 8) (j : Fin 1408) (k : Fin 8192) (q : Fin 11264) (hq : q.val = s.val * 1408 + j.val) :
    concatenate S8192x11264 1 [⟨S8192x5632, (shapeCast S8192x5632 (extractStridedSlice S1x8192x5632 ![0, 0, 0] (extf .f32 d bitsLt_bf16_f32) slices_S2x8192x5632_S1x8192x5632_0_0_0) shapeCasts_S1x8192x5632_S8192x5632)⟩, ⟨S8192x5632, (shapeCast S8192x5632 (extractStridedSlice S1x8192x5632 ![1, 0, 0] (extf .f32 d bitsLt_bf16_f32) slices_S2x8192x5632_S1x8192x5632_1_0_0) shapeCasts_S1x8192x5632_S8192x5632)⟩] concatenates_S8192x5632_S8192x5632_S8192x11264_d1 (ix2 k q)
      = d (ix3 (half s) k (at2 s j)) := by
  pointwise
  split
  · refine congrArg₂ (fun u v => d (ix3 u k v)) (Fin.ext ?_) (Fin.ext ?_)
    · show 0 = s.val / 4
      omega
    · show q.val = s.val % 4 * 1408 + j.val
      omega
  · refine congrArg₂ (fun u v => d (ix3 u k v)) (Fin.ext ?_) (Fin.ext ?_)
    · show 1 = s.val / 4
      omega
    · show q.val - 5632 = s.val % 4 * 1408 + j.val
      omega

/-- The slots side by side, at a column of slot `s`. -/
theorem wide (w : FVec Ideal S8x2048x1408 .bf16) (s : Fin 8) (j : Fin 1408) (r : Fin 2048) (q : Fin 11264) (hq : q.val = s.val * 1408 + j.val) :
    shapeCast S2048x11264 (transpose S2048x8x1408 [1, 0, 2] (extf .f32 w bitsLt_bf16_f32) transposes_S8x2048x1408_S2048x8x1408_1_0_2) shapeCasts_S2048x8x1408_S2048x11264 (ix2 r q)
      = w (ix3 s r j) := by
  pointwise
  refine congrArg₂ (fun u v => w (ix3 u r v)) (Fin.ext ?_) (Fin.ext ?_)
  · show q.val / 1408 = s.val
    omega
  · show q.val % 1408 = j.val
    omega
theorem dot (x : FVec Ideal S8192x11264 .f32) (w : FVec Ideal S2048x11264 .f32) (i : S8192x2048.Idx) :
    truncf .bf16 (Host.dotGeneral dot_S8192x11264_S2048x11264_S8192x2048_1_1_0_0_n_n none x w) bitsLt_bf16_f32 i
      = ∑ q : Fin 11264, x (ix2 (i 0) q) * w (ix2 (i 1) q) := by
  pointwise
/-- A sum over the 11264 columns, slot by slot. -/
theorem slots (f : Fin 11264 → EReal) : ∑ q : Fin 11264, f q = ∑ s : Fin 8, ∑ j : Fin 1408, f ⟨s.val * 1408 + j.val, by omega⟩ := by
  rw [← Fintype.sum_prod_type']
  refine (Fintype.sum_equiv (finProdFinEquiv (m := 8) (n := 1408)) _ f fun p => congrArg f (Fin.ext ?_)).symm
  show p.1.val * 1408 + p.2.val = p.2.val + 1408 * p.1.val
  omega
theorem ref (d : FVec Ideal S2x8192x5632 .bf16) (w : FVec Ideal S8x2048x1408 .bf16) :
    truncf .bf16 (Host.dotGeneral dot_S8192x11264_S2048x11264_S8192x2048_1_1_0_0_n_n none (concatenate S8192x11264 1 [⟨S8192x5632, (shapeCast S8192x5632 (extractStridedSlice S1x8192x5632 ![0, 0, 0] (extf .f32 d bitsLt_bf16_f32) slices_S2x8192x5632_S1x8192x5632_0_0_0) shapeCasts_S1x8192x5632_S8192x5632)⟩, ⟨S8192x5632, (shapeCast S8192x5632 (extractStridedSlice S1x8192x5632 ![1, 0, 0] (extf .f32 d bitsLt_bf16_f32) slices_S2x8192x5632_S1x8192x5632_1_0_0) shapeCasts_S1x8192x5632_S8192x5632)⟩] concatenates_S8192x5632_S8192x5632_S8192x11264_d1) (shapeCast S2048x11264 (transpose S2048x8x1408 [1, 0, 2] (extf .f32 w bitsLt_bf16_f32) transposes_S8x2048x1408_S2048x8x1408_1_0_2) shapeCasts_S2048x8x1408_S2048x11264)) bitsLt_bf16_f32 = prod d w := by
  funext i
  rw [dot, slots]
  exact Finset.sum_congr rfl fun s _ => Finset.sum_congr rfl fun j _ => congrArg₂ (fun u v : EReal => u * v) (cat d s j (i 0) _ rfl) (wide w s j (i 1) _ rfl)

end Reference
end Cert.ProdH
-- ==== Proof.ProdO.lean ====
/-
  The product of `g_w_ffn_out`: the kernel's array and the reference's array are the same sums over the 8192 rows.
-/
module

public import proofs.«01_k».proof.Proof.Gen.KernelOIdeal.Value
public import proofs.«01_k».proof.Proof.Gen.ReferenceOIdeal.Run
public import Idealize.ShloMosaic.PureOps.Ideal.Laws
public import Idealize.ShloMosaic.Lib.Pointwise
public import Idealize.ShloMosaic.Lib.Pipeline.ValueKit.Geometry
@[expose] public section

set_option maxRecDepth 16384

noncomputable section

namespace Cert.ProdO

open Idealize.ShloMosaic Idealize.ShloMosaic.TcCoe Idealize.SL.Sem

/-- Column `i 0` of `a` times column `i 1` of `b`. -/
def prod (a : (⟨2, ![8192, 5632]⟩ : Shape).Idx → EReal) (b : (⟨2, ![8192, 2048]⟩ : Shape).Idx → EReal) : (⟨2, ![5632, 2048]⟩ : Shape).Idx → EReal :=
  fun i => ∑ k : Fin 8192, a (ix2 k (i 0)) * b (ix2 k (i 1))

section Kernel
open Cert.KernelOIdeal Cert.KernelOIdeal.Gen

/-- One block's product at an entry. -/
theorem pay (a b : Vec Ideal S8192x512 .bf16) (y : S512x512.Idx) :
    k0_pay1 (F := Ideal) a b y = ∑ k : Fin 8192, a (ix2 k (y 0)) * b (ix2 k (y 1)) := by
  unfold k0_pay1
  pointwise

variable (m : (ℓ : Loc nD τ sig) → Buf (Elt Ideal) ℓ) (c : Dev nD)

theorem idx0 : ∀ t : Fin cfg0.N, win0_0.index t = ![0, t.val / 4] := (by decide +kernel : ∀ t : Fin grid0.N, win0_0.index t = ![0, t.val / 4])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem out (x0 x1 : Vec Ideal S8192x512 .bf16) : out0_2 (F := Ideal) x0 x1 = k0_pay1 x0 x1 := by
  have hz : (![0, 0] : Fin 2 → ℕ) = fun _ => 0 := by decide
  unfold out0_2 r0_0 r0_1
  rw [View.canon_unit_zero hz, View.ld_unit_zero (S := S8192x512) hz, View.ld_unit_zero (S := S8192x512) hz]

theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  rw [after0_2, out]
  refine (cast_eq _ _).trans ((pay _ _ y).trans ?_)
  have e0 : ∀ k : Fin 8192, (((cfg0.win 0).blk t).view.emb (ix2 k (y 0) : S8192x512.Idx) : S8192x5632.Idx)
      = ix2 k ((((cfg0.win 2).blk t).view.emb y : S5632x2048.Idx) 0) := fun k => by
    funext a
    apply Fin.ext
    match a with
    | ⟨0, _⟩ =>
      refine (show _ = win0_0.index t 0 * 8192 + 1 * k.val from rfl).trans ?_
      rw [idx0]
      show 0 * 8192 + 1 * k.val = k.val
      omega
    | ⟨1, _⟩ =>
      refine (show _ = win0_0.index t 1 * 512 + 1 * (y 0).val from rfl).trans (Eq.trans ?_ (show win0_2.index t 0 * 512 + 1 * (y 0).val = _ from rfl))
      rw [idx0, idx2]
      rfl
  have e1 : ∀ k : Fin 8192, (((cfg0.win 1).blk t).view.emb (ix2 k (y 1) : S8192x512.Idx) : S8192x2048.Idx)
      = ix2 k ((((cfg0.win 2).blk t).view.emb y : S5632x2048.Idx) 1) := fun k => by
    funext a
    apply Fin.ext
    match a with
    | ⟨0, _⟩ =>
      refine (show _ = win0_1.index t 0 * 8192 + 1 * k.val from rfl).trans ?_
      rw [idx1]
      show 0 * 8192 + 1 * k.val = k.val
      omega
    | ⟨1, _⟩ =>
      refine (show _ = win0_1.index t 1 * 512 + 1 * (y 1).val from rfl).trans (Eq.trans ?_ (show win0_2.index t 1 * 512 + 1 * (y 1).val = _ from rfl))
      rw [idx1, idx2]
      rfl
  refine Finset.sum_congr rfl fun k _ => ?_
  exact congrArg₂ (fun u v : EReal => u * v)
    (congrArg (m ((c.tc : Thread nD τ).loc main_arg0) : S8192x5632.Idx → EReal) (e0 k))
    (congrArg (m ((c.tc : Thread nD τ).loc main_arg1) : S8192x2048.Idx → EReal) (e1 k))

end Kernel

section Reference
open Cert.ReferenceOIdeal Cert.ReferenceOIdeal.Gen

theorem ref (a : FVec Ideal S8192x5632 .bf16) (b : FVec Ideal S8192x2048 .bf16) :
    truncf .bf16 (transpose S5632x2048 [1, 0] (Host.dotGeneral dot_S8192x2048_S8192x5632_S2048x5632_0_0_1_1_n_n none (extf .f32 b bitsLt_bf16_f32) (extf .f32 a bitsLt_bf16_f32)) transposes_S2048x5632_S5632x2048_1_0) bitsLt_bf16_f32 = prod a b := by
  funext i
  pointwise
  exact Finset.sum_congr rfl fun k _ => mul_comm (G := EReal) _ _

end Reference
end Cert.ProdO
-- ==== Proof.lean ====
/-
  The certificate: the programs' frames, the equality of the eight gradients, and the equality of the eight products.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.KernelW
public import proofs.«01_k».proof.Proof.Gen.KernelW.Frame
public import proofs.«01_k».proof.Proof.Gen.KernelWIdeal
public import proofs.«01_k».proof.Proof.Gen.KernelWIdeal.Frame
public import proofs.«01_k».proof.Proof.Gen.ReferenceWIdeal
public import proofs.«01_k».proof.Proof.Gen.ReferenceWIdeal.Run
public import proofs.«01_k».proof.Proof.Gen.KernelH
public import proofs.«01_k».proof.Proof.Gen.KernelH.Frame
public import proofs.«01_k».proof.Proof.Gen.KernelHIdeal
public import proofs.«01_k».proof.Proof.Gen.KernelHIdeal.Frame
public import proofs.«01_k».proof.Proof.Gen.ReferenceHIdeal
public import proofs.«01_k».proof.Proof.Gen.ReferenceHIdeal.Run
public import proofs.«01_k».proof.Proof.Gen.KernelO
public import proofs.«01_k».proof.Proof.Gen.KernelO.Frame
public import proofs.«01_k».proof.Proof.Gen.KernelOIdeal
public import proofs.«01_k».proof.Proof.Gen.KernelOIdeal.Frame
public import proofs.«01_k».proof.Proof.Gen.ReferenceOIdeal
public import proofs.«01_k».proof.Proof.Gen.ReferenceOIdeal.Run
public import proofs.«01_k».proof.Proof.Gen.KernelWIdeal.Value
public import proofs.«01_k».proof.Proof.Gen.KernelHIdeal.Value
public import proofs.«01_k».proof.Proof.Gen.KernelOIdeal.Value
public import proofs.«01_k».proof.Proof.Gen.ReferenceIdeal
public import proofs.«01_k».proof.Proof.Finite
public import proofs.«01_k».proof.Proof.SameGrad
public import proofs.«01_k».proof.Proof.Gen.KernelJ
public import proofs.«01_k».proof.Proof.Gen.KernelJ.Frame
public import proofs.«01_k».proof.Proof.Gen.KernelJIdeal
public import proofs.«01_k».proof.Proof.Gen.KernelJIdeal.Frame
public import proofs.«01_k».proof.Proof.Gen.KernelJIdeal.Value
public import proofs.«01_k».proof.Proof.Gen.ReferenceJIdeal
public import proofs.«01_k».proof.Proof.Gen.ReferenceJIdeal.Run
public import proofs.«01_k».proof.Proof.Gen.KernelD
public import proofs.«01_k».proof.Proof.Gen.KernelD.Frame
public import proofs.«01_k».proof.Proof.Gen.KernelDIdeal
public import proofs.«01_k».proof.Proof.Gen.KernelDIdeal.Frame
public import proofs.«01_k».proof.Proof.Gen.KernelDIdeal.Value
public import proofs.«01_k».proof.Proof.Gen.ReferenceDIdeal
public import proofs.«01_k».proof.Proof.Gen.ReferenceDIdeal.Run
public import proofs.«01_k».proof.Proof.Gen.KernelG
public import proofs.«01_k».proof.Proof.Gen.KernelG.Frame
public import proofs.«01_k».proof.Proof.Gen.KernelGIdeal
public import proofs.«01_k».proof.Proof.Gen.KernelGIdeal.Frame
public import proofs.«01_k».proof.Proof.Gen.KernelGIdeal.Value
public import proofs.«01_k».proof.Proof.Gen.ReferenceGIdeal
public import proofs.«01_k».proof.Proof.Gen.ReferenceGIdeal.Run
public import proofs.«01_k».proof.Proof.Gen.KernelY
public import proofs.«01_k».proof.Proof.Gen.KernelY.Frame
public import proofs.«01_k».proof.Proof.Gen.KernelYIdeal
public import proofs.«01_k».proof.Proof.Gen.KernelYIdeal.Frame
public import proofs.«01_k».proof.Proof.Gen.KernelYIdeal.Value
public import proofs.«01_k».proof.Proof.Gen.ReferenceYIdeal
public import proofs.«01_k».proof.Proof.Gen.ReferenceYIdeal.Run
public import proofs.«01_k».proof.Proof.Gen.KernelA
public import proofs.«01_k».proof.Proof.Gen.KernelA.Frame
public import proofs.«01_k».proof.Proof.Gen.KernelAIdeal
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.ProdJ
public import proofs.«01_k».proof.Proof.ProdD
public import proofs.«01_k».proof.Proof.ProdG
public import proofs.«01_k».proof.Proof.ProdY
public import proofs.«01_k».proof.Proof.ProdA
public import proofs.«01_k».proof.Proof.KerRun
public import proofs.«01_k».proof.Proof.ProdW
public import proofs.«01_k».proof.Proof.ProdH
public import proofs.«01_k».proof.Proof.ProdO
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments as they were and no semaphore raised. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  Cert.ReferenceIdeal.Line.run_read m g fun r hr hs => ⟨fun c =>
    ⟨(hr c _ rfl).trans (Cert.ReferenceIdeal.Line.fin_arg m c _ (by decide +kernel)),
      (hr c _ rfl).trans (Cert.ReferenceIdeal.Line.fin_arg m c _ (by decide +kernel)),
      (hr c _ rfl).trans (Cert.ReferenceIdeal.Line.fin_arg m c _ (by decide +kernel)),
      (hr c _ rfl).trans (Cert.ReferenceIdeal.Line.fin_arg m c _ (by decide +kernel)),
      (hr c _ rfl).trans (Cert.ReferenceIdeal.Line.fin_arg m c _ (by decide +kernel)),
      (hr c _ rfl).trans (Cert.ReferenceIdeal.Line.fin_arg m c _ (by decide +kernel))⟩, hs⟩

/-- Finite arguments are arrays of real numbers, in both programs. -/
theorem args (hP : Cert.Pre_finite.Facts) (m : (ℓ : Loc Cert.KernelIdeal.nD Cert.KernelIdeal.τ Cert.KernelIdeal.sig) → Buf (Elt Ideal) ℓ)
    (h : Cert.Pre_KernelIdeal_finite m) (c : Dev Cert.KernelIdeal.nD) : ∃ x : Cert.In, Cert.KernelIdeal.Line.Of m c x := by
  obtain ⟨h0, h1, h2, h3, h4, h5⟩ := Cert.Finite.read_eq hP _ _ _ _ _ _ (h c)
  exact ⟨_, h0, h1, h2, h3, h4, h5⟩

open Cert.Lift Cert.Same Cert.ReferenceIdeal.Line in
set_option maxHeartbeats 2000000 in
/-- Both programs end with the same eight arrays. -/
theorem same (hP : Cert.Pre_finite.Facts) : Cert.algebraic_KernelIdeal_ReferenceIdeal_pre_finite (hKernelIdeal := Cert.KernelIdeal.Gen.facts)
    (hReferenceIdeal := Cert.ReferenceIdeal.Gen.facts) (hPre_finite := hP) := by
  intro m g m' g' hp hm
  choose x hx using args hP m hp
  have hy : ∀ c : Dev Cert.KernelIdeal.nD, Cert.ReferenceIdeal.Line.Of m' c (x c) := fun c =>
    ⟨(hm c).1.trans (hx c).p0, (hm c).2.1.trans (hx c).p1, (hm c).2.2.1.trans (hx c).p2, (hm c).2.2.2.1.trans (hx c).p3,
      (hm c).2.2.2.2.1.trans (hx c).p4, (hm c).2.2.2.2.2.trans (hx c).p5⟩
  refine ⟨fun c => up2 fun (i : Fin 8192) (j : Fin 512) => v152 (x c) (headK j) (chk i) (pos i) (dimK j),
    fun c => up2 fun (i : Fin 8192) (j : Fin 512) => v134 (x c) (headK j) (chk i) (pos i) (dimK j),
    fun c => up2 fun (i : Fin 8192) (j : Fin 1024) => v119 (x c) (headV j) (chk i) (pos i) (dimV j),
    fun c => up2 fun (i : Fin 8192) (j : Fin 1024) => v80 (x c) i j, fun c => up2 fun (i : Fin 8192) (j : Fin 128) => v163 (x c) i j,
    fun c => up2 fun (i : Fin 128) (j : Fin 512) => v161 (x c) j i, fun c => up2 fun (_ : Fin 1) (j : Fin 512) => v158 (x c) j,
    fun c => up2 fun (_ : Fin 1) (j : Fin 1024) => v82 (x c) j, ?_, ?_⟩
  · refine Idealize.ShloMosaic.θ_run_mono (Cert.KernelIdeal.Points.run m g x hx) fun r h c => ?_
    obtain ⟨h0, h1, h2, h3, h4, h5, h6, h7, k⟩ := h c
    exact ⟨h0.trans (congrArg up2 (funext₂ (r_dq (x c)))), h1.trans (congrArg up2 (funext₂ (r_dk (x c)))), h2.trans (congrArg up2 (funext₂ (r_dv (x c)))),
      h3.trans (congrArg up2 (funext₂ (r_dr (x c)))), h4.trans (congrArg up2 (funext₂ (r_dal (x c)))), h5.trans (congrArg up2 (funext₂ (r_dwa (x c)))),
      h6.trans (congrArg up2 (funext₂ fun _ => r_dba (x c))), h7.trans (congrArg up2 (funext₂ fun _ => r_dgh (x c))), k⟩
  · refine run_read m' g' fun r hr _ c => ?_
    exact ⟨(hr c _ rfl).trans (t_v164 (hy c)), (hr c _ rfl).trans (t_v165 (hy c)), (hr c _ rfl).trans (t_v166 (hy c)), (hr c _ rfl).trans (t_v167 (hy c)),
      (hr c _ rfl).trans (t_v168 (hy c)), (hr c _ rfl).trans (t_v162 (hy c)), (hr c _ rfl).trans (t_v169 (hy c)), (hr c _ rfl).trans (t_v170 (hy c)),
      (hr c _ rfl).trans (fin_arg m' c _ (by decide +kernel)), (hr c _ rfl).trans (fin_arg m' c _ (by decide +kernel)),
      (hr c _ rfl).trans (fin_arg m' c _ (by decide +kernel)), (hr c _ rfl).trans (fin_arg m' c _ (by decide +kernel)),
      (hr c _ rfl).trans (fin_arg m' c _ (by decide +kernel)), (hr c _ rfl).trans (fin_arg m' c _ (by decide +kernel))⟩

/-- The reference of `g_w_ffn_in` ends with its arguments as they were and no semaphore raised. -/
theorem refW : Cert.quiescent_ReferenceWIdeal (hReferenceWIdeal := Cert.ReferenceWIdeal.Gen.facts) := fun m g _ =>
  Idealize.ShloMosaic.θ_run_mono (Cert.ReferenceWIdeal.Value.run (F := Ideal) m g) fun r h =>
    ⟨fun c => (h c).2, Idealize.ShloMosaic.sem_eq_zero_of_no_sems (by decide) r.2⟩
/-- Both programs of `g_w_ffn_in` end with the same array. -/
theorem sameW : Cert.algebraic_KernelWIdeal_ReferenceWIdeal (hKernelWIdeal := Cert.KernelWIdeal.Gen.facts) (hReferenceWIdeal := Cert.ReferenceWIdeal.Gen.facts) := by
  intro m g m' g' _ hm
  refine ⟨fun c => Cert.ProdW.prod (m ((c.tc : Thread Cert.KernelWIdeal.nD Cert.KernelWIdeal.τ).loc Cert.KernelWIdeal.main_arg0)) (m ((c.tc : Thread Cert.KernelWIdeal.nD Cert.KernelWIdeal.τ).loc Cert.KernelWIdeal.main_arg1)), ?_, ?_⟩
  · exact Idealize.ShloMosaic.θ_run_mono (Cert.KernelWIdeal.Value.run_blocks (F := Ideal) m g) fun r h c => ⟨(h c).1.trans (Cert.ProdW.arr m c), (h c).2⟩
  · exact Idealize.ShloMosaic.θ_run_mono (Cert.ReferenceWIdeal.Value.run (F := Ideal) m' g') fun r h c =>
      ⟨((h c).1.trans (Cert.ProdW.ref _ _)).trans (congrArg₂ Cert.ProdW.prod (hm c).1 (hm c).2), (h c).2⟩

/-- The reference of `d_h2` ends with its arguments as they were and no semaphore raised. -/
theorem refH : Cert.quiescent_ReferenceHIdeal (hReferenceHIdeal := Cert.ReferenceHIdeal.Gen.facts) := fun m g _ =>
  Idealize.ShloMosaic.θ_run_mono (Cert.ReferenceHIdeal.Value.run (F := Ideal) m g) fun r h =>
    ⟨fun c => (h c).2, Idealize.ShloMosaic.sem_eq_zero_of_no_sems (by decide) r.2⟩
/-- Both programs of `d_h2` end with the same array. -/
theorem sameH : Cert.algebraic_KernelHIdeal_ReferenceHIdeal (hKernelHIdeal := Cert.KernelHIdeal.Gen.facts) (hReferenceHIdeal := Cert.ReferenceHIdeal.Gen.facts) := by
  intro m g m' g' _ hm
  refine ⟨fun c => Cert.ProdH.prod (m ((c.tc : Thread Cert.KernelHIdeal.nD Cert.KernelHIdeal.τ).loc Cert.KernelHIdeal.main_arg0)) (m ((c.tc : Thread Cert.KernelHIdeal.nD Cert.KernelHIdeal.τ).loc Cert.KernelHIdeal.main_arg1)), ?_, ?_⟩
  · exact Idealize.ShloMosaic.θ_run_mono (Cert.KernelHIdeal.Value.run_blocks (F := Ideal) m g) fun r h c => ⟨(h c).1.trans (Cert.ProdH.arr m c), (h c).2⟩
  · exact Idealize.ShloMosaic.θ_run_mono (Cert.ReferenceHIdeal.Value.run (F := Ideal) m' g') fun r h c =>
      ⟨((h c).1.trans (Cert.ProdH.ref _ _)).trans (congrArg₂ Cert.ProdH.prod (hm c).1 (hm c).2), (h c).2⟩

/-- The reference of `g_w_ffn_out` ends with its arguments as they were and no semaphore raised. -/
theorem refO : Cert.quiescent_ReferenceOIdeal (hReferenceOIdeal := Cert.ReferenceOIdeal.Gen.facts) := fun m g _ =>
  Idealize.ShloMosaic.θ_run_mono (Cert.ReferenceOIdeal.Value.run (F := Ideal) m g) fun r h =>
    ⟨fun c => (h c).2, Idealize.ShloMosaic.sem_eq_zero_of_no_sems (by decide) r.2⟩
/-- Both programs of `g_w_ffn_out` end with the same array. -/
theorem sameO : Cert.algebraic_KernelOIdeal_ReferenceOIdeal (hKernelOIdeal := Cert.KernelOIdeal.Gen.facts) (hReferenceOIdeal := Cert.ReferenceOIdeal.Gen.facts) := by
  intro m g m' g' _ hm
  refine ⟨fun c => Cert.ProdO.prod (m ((c.tc : Thread Cert.KernelOIdeal.nD Cert.KernelOIdeal.τ).loc Cert.KernelOIdeal.main_arg0)) (m ((c.tc : Thread Cert.KernelOIdeal.nD Cert.KernelOIdeal.τ).loc Cert.KernelOIdeal.main_arg1)), ?_, ?_⟩
  · exact Idealize.ShloMosaic.θ_run_mono (Cert.KernelOIdeal.Value.run_blocks (F := Ideal) m g) fun r h c => ⟨(h c).1.trans (Cert.ProdO.arr m c), (h c).2⟩
  · exact Idealize.ShloMosaic.θ_run_mono (Cert.ReferenceOIdeal.Value.run (F := Ideal) m' g') fun r h c =>
      ⟨((h c).1.trans (Cert.ProdO.ref _ _)).trans (congrArg₂ Cert.ProdO.prod (hm c).1 (hm c).2), (h c).2⟩

/-- The reference of `in_proj` ends with its arguments as they were and no semaphore raised. -/
theorem refJ : Cert.quiescent_ReferenceJIdeal (hReferenceJIdeal := Cert.ReferenceJIdeal.Gen.facts) := fun m g _ =>
  Idealize.ShloMosaic.θ_run_mono (Cert.ReferenceJIdeal.Value.run (F := Ideal) m g) fun r h =>
    ⟨fun c => (h c).2, Idealize.ShloMosaic.sem_eq_zero_of_no_sems (by decide) r.2⟩
/-- Both programs of `in_proj` end with the same array. -/
theorem sameJ : Cert.algebraic_KernelJIdeal_ReferenceJIdeal (hKernelJIdeal := Cert.KernelJIdeal.Gen.facts) (hReferenceJIdeal := Cert.ReferenceJIdeal.Gen.facts) := by
  intro m g m' g' _ hm
  refine ⟨fun c => Cert.ProdJ.prod (m ((c.tc : Thread Cert.KernelJIdeal.nD Cert.KernelJIdeal.τ).loc Cert.KernelJIdeal.main_arg0)) (m ((c.tc : Thread Cert.KernelJIdeal.nD Cert.KernelJIdeal.τ).loc Cert.KernelJIdeal.main_arg1)), ?_, ?_⟩
  · exact Idealize.ShloMosaic.θ_run_mono (Cert.KernelJIdeal.Value.run_blocks (F := Ideal) m g) fun r h c => ⟨(h c).1.trans (Cert.ProdJ.arr m c), (h c).2⟩
  · exact Idealize.ShloMosaic.θ_run_mono (Cert.ReferenceJIdeal.Value.run (F := Ideal) m' g') fun r h c =>
      ⟨((h c).1.trans (Cert.ProdJ.ref _ _)).trans (congrArg₂ Cert.ProdJ.prod (hm c).1 (hm c).2), (h c).2⟩

/-- The reference of `d_h1` ends with its arguments as they were and no semaphore raised. -/
theorem refD : Cert.quiescent_ReferenceDIdeal (hReferenceDIdeal := Cert.ReferenceDIdeal.Gen.facts) := fun m g _ =>
  Idealize.ShloMosaic.θ_run_mono (Cert.ReferenceDIdeal.Value.run (F := Ideal) m g) fun r h =>
    ⟨fun c => (h c).2, Idealize.ShloMosaic.sem_eq_zero_of_no_sems (by decide) r.2⟩
/-- Both programs of `d_h1` end with the same array. -/
theorem sameD : Cert.algebraic_KernelDIdeal_ReferenceDIdeal (hKernelDIdeal := Cert.KernelDIdeal.Gen.facts) (hReferenceDIdeal := Cert.ReferenceDIdeal.Gen.facts) := by
  intro m g m' g' _ hm
  refine ⟨fun c => Cert.ProdD.prod (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)), ?_, ?_⟩
  · exact Idealize.ShloMosaic.θ_run_mono (Cert.KernelDIdeal.Value.run_blocks (F := Ideal) m g) fun r h c => ⟨(h c).1.trans (Cert.ProdD.arr m c), (h c).2⟩
  · exact Idealize.ShloMosaic.θ_run_mono (Cert.ReferenceDIdeal.Value.run (F := Ideal) m' g') fun r h c =>
      ⟨((h c).1.trans (Cert.ProdD.ref _ _)).trans (congrArg₂ Cert.ProdD.prod (hm c).1 (hm c).2), (h c).2⟩

/-- The reference of `g_w_in_main` ends with its arguments as they were and no semaphore raised. -/
theorem refG : Cert.quiescent_ReferenceGIdeal (hReferenceGIdeal := Cert.ReferenceGIdeal.Gen.facts) := fun m g _ =>
  Idealize.ShloMosaic.θ_run_mono (Cert.ReferenceGIdeal.Value.run (F := Ideal) m g) fun r h =>
    ⟨fun c => (h c).2, Idealize.ShloMosaic.sem_eq_zero_of_no_sems (by decide) r.2⟩
/-- Both programs of `g_w_in_main` end with the same array. -/
theorem sameG : Cert.algebraic_KernelGIdeal_ReferenceGIdeal (hKernelGIdeal := Cert.KernelGIdeal.Gen.facts) (hReferenceGIdeal := Cert.ReferenceGIdeal.Gen.facts) := by
  intro m g m' g' _ hm
  refine ⟨fun c => Cert.ProdG.prod (m ((c.tc : Thread Cert.KernelGIdeal.nD Cert.KernelGIdeal.τ).loc Cert.KernelGIdeal.main_arg0)) (m ((c.tc : Thread Cert.KernelGIdeal.nD Cert.KernelGIdeal.τ).loc Cert.KernelGIdeal.main_arg1)), ?_, ?_⟩
  · exact Idealize.ShloMosaic.θ_run_mono (Cert.KernelGIdeal.Value.run_blocks (F := Ideal) m g) fun r h c => ⟨(h c).1.trans (Cert.ProdG.arr m c), (h c).2⟩
  · exact Idealize.ShloMosaic.θ_run_mono (Cert.ReferenceGIdeal.Value.run (F := Ideal) m' g') fun r h c =>
      ⟨((h c).1.trans (Cert.ProdG.ref _ _)).trans (congrArg₂ Cert.ProdG.prod (hm c).1 (hm c).2), (h c).2⟩

/-- The reference of `ffn_out` ends with its arguments as they were and no semaphore raised. -/
theorem refY : Cert.quiescent_ReferenceYIdeal (hReferenceYIdeal := Cert.ReferenceYIdeal.Gen.facts) := fun m g _ =>
  Idealize.ShloMosaic.θ_run_mono (Cert.ReferenceYIdeal.Value.run (F := Ideal) m g) fun r h =>
    ⟨fun c => (h c).2, Idealize.ShloMosaic.sem_eq_zero_of_no_sems (by decide) r.2⟩
/-- Both programs of `ffn_out` end with the same array. -/
theorem sameY : Cert.algebraic_KernelYIdeal_ReferenceYIdeal (hKernelYIdeal := Cert.KernelYIdeal.Gen.facts) (hReferenceYIdeal := Cert.ReferenceYIdeal.Gen.facts) := by
  intro m g m' g' _ hm
  refine ⟨fun c => Cert.ProdY.prod (m ((c.tc : Thread Cert.KernelYIdeal.nD Cert.KernelYIdeal.τ).loc Cert.KernelYIdeal.main_arg0)) (m ((c.tc : Thread Cert.KernelYIdeal.nD Cert.KernelYIdeal.τ).loc Cert.KernelYIdeal.main_arg1)) (m ((c.tc : Thread Cert.KernelYIdeal.nD Cert.KernelYIdeal.τ).loc Cert.KernelYIdeal.main_arg2)), ?_, ?_⟩
  · exact Idealize.ShloMosaic.θ_run_mono (Cert.KernelYIdeal.Value.run_blocks (F := Ideal) m g) fun r h c => ⟨(h c).1.trans (Cert.ProdY.arr m c), (h c).2⟩
  · exact Idealize.ShloMosaic.θ_run_mono (Cert.ReferenceYIdeal.Value.run (F := Ideal) m' g') fun r h c =>
      ⟨((h c).1.trans (Cert.ProdY.ref _ _ _)).trans ((congrArg₂ (fun u v => Cert.ProdY.prod u v _) (hm c).1 (hm c).2.1).trans (congrArg (Cert.ProdY.prod _ _) (hm c).2.2)), (h c).2⟩

/-- The reference of `d_act` ends with its arguments as they were and no semaphore raised. -/
theorem refA : Cert.quiescent_ReferenceAIdeal (hReferenceAIdeal := Cert.ReferenceAIdeal.Gen.facts) := fun m g _ =>
  Idealize.ShloMosaic.θ_run_mono (Cert.ReferenceAIdeal.Value.run (F := Ideal) m g) fun r h =>
    ⟨fun c => (h c).2, Idealize.ShloMosaic.sem_eq_zero_of_no_sems (by decide) r.2⟩
/-- Both programs of `d_act` end with the same array. -/
theorem sameA : Cert.algebraic_KernelAIdeal_ReferenceAIdeal (hKernelAIdeal := Cert.KernelAIdeal.Gen.facts) (hReferenceAIdeal := Cert.ReferenceAIdeal.Gen.facts) := by
  intro m g m' g' _ hm
  refine ⟨fun c => Cert.ProdA.prod (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)), ?_, ?_⟩
  · exact Idealize.ShloMosaic.θ_run_mono (Cert.KernelAIdeal.Value.run_blocks (F := Ideal) m g) fun r h c => ⟨(h c).1.trans (Cert.ProdA.arr m c), (h c).2⟩
  · exact Idealize.ShloMosaic.θ_run_mono (Cert.ReferenceAIdeal.Value.run (F := Ideal) m' g') fun r h c =>
      ⟨((h c).1.trans (Cert.ProdA.ref _ _ _)).trans ((congrArg₂ (fun u v => Cert.ProdA.prod u v _) (hm c).1 (hm c).2.1).trans (congrArg (Cert.ProdA.prod _ _) (hm c).2.2)), (h c).2⟩

theorem claim : Cert.Claim := ⟨Cert.Kernel.Gen.facts, Cert.KernelIdeal.Gen.facts, Cert.ReferenceIdeal.Gen.facts,
  Cert.KernelW.Gen.facts, Cert.KernelWIdeal.Gen.facts, Cert.ReferenceWIdeal.Gen.facts, Cert.KernelH.Gen.facts, Cert.KernelHIdeal.Gen.facts, Cert.ReferenceHIdeal.Gen.facts, Cert.KernelO.Gen.facts, Cert.KernelOIdeal.Gen.facts, Cert.ReferenceOIdeal.Gen.facts, Cert.KernelJ.Gen.facts, Cert.KernelJIdeal.Gen.facts, Cert.ReferenceJIdeal.Gen.facts, Cert.KernelD.Gen.facts, Cert.KernelDIdeal.Gen.facts, Cert.ReferenceDIdeal.Gen.facts, Cert.KernelG.Gen.facts, Cert.KernelGIdeal.Gen.facts, Cert.ReferenceGIdeal.Gen.facts, Cert.KernelY.Gen.facts, Cert.KernelYIdeal.Gen.facts, Cert.ReferenceYIdeal.Gen.facts, Cert.KernelA.Gen.facts, Cert.KernelAIdeal.Gen.facts, Cert.ReferenceAIdeal.Gen.facts, Cert.Finite.facts,
  fun m ρ _ => Cert.Kernel.Gen.frame m ρ, fun m ρ _ => Cert.KernelIdeal.Gen.frame m ρ, fun m ρ _ => Cert.KernelIdeal.Gen.frame m ρ,
  fun m ρ _ => ref_frame m ρ, fun m ρ _ => ref_frame m ρ,
  fun m ρ _ => Cert.KernelW.Gen.frame m ρ, fun m ρ _ => Cert.KernelWIdeal.Gen.frame m ρ, refW,
  fun m ρ _ => Cert.KernelH.Gen.frame m ρ, fun m ρ _ => Cert.KernelHIdeal.Gen.frame m ρ, refH,
  fun m ρ _ => Cert.KernelO.Gen.frame m ρ, fun m ρ _ => Cert.KernelOIdeal.Gen.frame m ρ, refO,
  fun m ρ _ => Cert.KernelJ.Gen.frame m ρ, fun m ρ _ => Cert.KernelJIdeal.Gen.frame m ρ, refJ,
  fun m ρ _ => Cert.KernelD.Gen.frame m ρ, fun m ρ _ => Cert.KernelDIdeal.Gen.frame m ρ, refD,
  fun m ρ _ => Cert.KernelG.Gen.frame m ρ, fun m ρ _ => Cert.KernelGIdeal.Gen.frame m ρ, refG,
  fun m ρ _ => Cert.KernelY.Gen.frame m ρ, fun m ρ _ => Cert.KernelYIdeal.Gen.frame m ρ, refY,
  fun m ρ _ => Cert.KernelA.Gen.frame m ρ, fun m ρ _ => Cert.KernelAIdeal.Gen.frame m ρ, refA,
  trivial, same Cert.Finite.facts, trivial, sameW, trivial, sameH, trivial, sameO, trivial, sameJ, trivial, sameD, trivial, sameG, trivial, sameY, trivial, sameA⟩

end Cert.Proof

end
